-- ==== Defs.lean ====
def Pre_Kernel (m : (ℓ : Loc Cert.Kernel.nD Cert.Kernel.τ Cert.Kernel.sig) → Buf (Elt Bits) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_router_inputs_finite [hPre_router_inputs_finite : Cert.Pre_router_inputs_finite.Facts] (m : (ℓ : Loc Cert.MoeIdeal.nD Cert.MoeIdeal.τ Cert.MoeIdeal.sig) → Buf (Elt Ideal) ℓ) : Prop :=
  ∀ c : Dev Cert.MoeIdeal.nD,
    (Cert.Pre_router_inputs_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9)) (m ((c.tc : Thread Cert.MoeIdeal.nD Cert.MoeIdeal.τ).loc Cert.MoeIdeal.main_arg10)) (m ((c.tc : Thread Cert.MoeIdeal.nD Cert.MoeIdeal.τ).loc Cert.MoeIdeal.main_arg11))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_router_inputs_finite [hPre_router_inputs_finite : Cert.Pre_router_inputs_finite.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_router_inputs_finite.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6)) (m ((c.tc : Thread Cert.MoeReferenceIdeal.nD Cert.MoeReferenceIdeal.τ).loc Cert.MoeReferenceIdeal.main_arg7)) (m ((c.tc : Thread Cert.MoeReferenceIdeal.nD Cert.MoeReferenceIdeal.τ).loc Cert.MoeReferenceIdeal.main_arg8)) (m ((c.tc : Thread Cert.MoeReferenceIdeal.nD Cert.MoeReferenceIdeal.τ).loc Cert.MoeReferenceIdeal.main_arg9)) (m ((c.tc : Thread Cert.MoeReferenceIdeal.nD Cert.MoeReferenceIdeal.τ).loc Cert.MoeReferenceIdeal.main_arg10)) (m ((c.tc : Thread Cert.MoeReferenceIdeal.nD Cert.MoeReferenceIdeal.τ).loc Cert.MoeReferenceIdeal.main_arg11))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_rotary_tables [hPre_rotary_tables : Cert.Pre_rotary_tables.Facts] (m : (ℓ : Loc Cert.ProjIdeal.nD Cert.ProjIdeal.τ Cert.ProjIdeal.sig) → Buf (Elt Ideal) ℓ) : Prop :=
  ∀ c : Dev Cert.ProjIdeal.nD,
    (Cert.Pre_rotary_tables.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_rotary_tables [hPre_rotary_tables : Cert.Pre_rotary_tables.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_rotary_tables.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))) = (fun _ => 1#1)

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnIdeal_factors_finite [hPre_factors_finite : Cert.Pre_factors_finite.Facts] (m : (ℓ : Loc Cert.AdalnIdeal.nD Cert.AdalnIdeal.τ Cert.AdalnIdeal.sig) → Buf (Elt Ideal) ℓ) : Prop :=
  ∀ c : Dev Cert.AdalnIdeal.nD,
    (Cert.Pre_factors_finite.fn (F := Ideal) (m ((c.tc : Thread Cert.AdalnIdeal.nD Cert.AdalnIdeal.τ).loc Cert.AdalnIdeal.main_arg0)) (m ((c.tc : Thread Cert.AdalnIdeal.nD Cert.AdalnIdeal.τ).loc Cert.AdalnIdeal.main_arg1)) (m ((c.tc : Thread Cert.AdalnIdeal.nD Cert.AdalnIdeal.τ).loc Cert.AdalnIdeal.main_arg2))) = (fun _ => 1#1)

def Pre_AdalnReferenceIdeal (m : (ℓ : Loc Cert.AdalnReferenceIdeal.nD Cert.AdalnReferenceIdeal.τ Cert.AdalnReferenceIdeal.sig) → Buf (Elt Ideal) ℓ) : Prop :=
  True

def Pre_AdalnReferenceIdeal_factors_finite [hPre_factors_finite : Cert.Pre_factors_finite.Facts] (m : (ℓ : Loc Cert.AdalnReferenceIdeal.nD Cert.AdalnReferenceIdeal.τ Cert.AdalnReferenceIdeal.sig) → Buf (Elt Ideal) ℓ) : Prop :=
  ∀ c : Dev Cert.AdalnReferenceIdeal.nD,
    (Cert.Pre_factors_finite.fn (F := Ideal) (m ((c.tc : Thread Cert.AdalnReferenceIdeal.nD Cert.AdalnReferenceIdeal.τ).loc Cert.AdalnReferenceIdeal.main_arg0)) (m ((c.tc : Thread Cert.AdalnReferenceIdeal.nD Cert.AdalnReferenceIdeal.τ).loc Cert.AdalnReferenceIdeal.main_arg1)) (m ((c.tc : Thread Cert.AdalnReferenceIdeal.nD Cert.AdalnReferenceIdeal.τ).loc Cert.AdalnReferenceIdeal.main_arg2))) = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9)
      ∧ r.2.mem ((c.tc : Thread Cert.Moe.nD Cert.Moe.τ).loc Cert.Moe.main_arg10) = m ((c.tc : Thread Cert.Moe.nD Cert.Moe.τ).loc Cert.Moe.main_arg10)
      ∧ r.2.mem ((c.tc : Thread Cert.Moe.nD Cert.Moe.τ).loc Cert.Moe.main_arg11) = m ((c.tc : Thread Cert.Moe.nD Cert.Moe.τ).loc Cert.Moe.main_arg11))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
      ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10)
      ∧ r.2.mem ((c.tc : Thread Cert.MoeIdeal.nD Cert.MoeIdeal.τ).loc Cert.MoeIdeal.main_arg11) = m ((c.tc : Thread Cert.MoeIdeal.nD Cert.MoeIdeal.τ).loc Cert.MoeIdeal.main_arg11))
      ∧ r.2.sem = fun _ => 0)

def quiescent_MoeIdeal_pre_router_inputs_finite [hMoeIdeal : Cert.MoeIdeal.Facts] [hPre_router_inputs_finite : Cert.Pre_router_inputs_finite.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_router_inputs_finite m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
      ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10)
      ∧ r.2.mem ((c.tc : Thread Cert.MoeIdeal.nD Cert.MoeIdeal.τ).loc Cert.MoeIdeal.main_arg11) = m ((c.tc : Thread Cert.MoeIdeal.nD Cert.MoeIdeal.τ).loc Cert.MoeIdeal.main_arg11))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7)
      ∧ r.2.mem ((c.tc : Thread Cert.MoeReferenceIdeal.nD Cert.MoeReferenceIdeal.τ).loc Cert.MoeReferenceIdeal.main_arg8) = m ((c.tc : Thread Cert.MoeReferenceIdeal.nD Cert.MoeReferenceIdeal.τ).loc Cert.MoeReferenceIdeal.main_arg8)
      ∧ r.2.mem ((c.tc : Thread Cert.MoeReferenceIdeal.nD Cert.MoeReferenceIdeal.τ).loc Cert.MoeReferenceIdeal.main_arg9) = m ((c.tc : Thread Cert.MoeReferenceIdeal.nD Cert.MoeReferenceIdeal.τ).loc Cert.MoeReferenceIdeal.main_arg9)
      ∧ r.2.mem ((c.tc : Thread Cert.MoeReferenceIdeal.nD Cert.MoeReferenceIdeal.τ).loc Cert.MoeReferenceIdeal.main_arg10) = m ((c.tc : Thread Cert.MoeReferenceIdeal.nD Cert.MoeReferenceIdeal.τ).loc Cert.MoeReferenceIdeal.main_arg10)
      ∧ r.2.mem ((c.tc : Thread Cert.MoeReferenceIdeal.nD Cert.MoeReferenceIdeal.τ).loc Cert.MoeReferenceIdeal.main_arg11) = m ((c.tc : Thread Cert.MoeReferenceIdeal.nD Cert.MoeReferenceIdeal.τ).loc Cert.MoeReferenceIdeal.main_arg11))
      ∧ r.2.sem = fun _ => 0)

def quiescent_MoeReferenceIdeal_pre_router_inputs_finite [hMoeReferenceIdeal : Cert.MoeReferenceIdeal.Facts] [hPre_router_inputs_finite : Cert.Pre_router_inputs_finite.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_router_inputs_finite m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7)
      ∧ r.2.mem ((c.tc : Thread Cert.MoeReferenceIdeal.nD Cert.MoeReferenceIdeal.τ).loc Cert.MoeReferenceIdeal.main_arg8) = m ((c.tc : Thread Cert.MoeReferenceIdeal.nD Cert.MoeReferenceIdeal.τ).loc Cert.MoeReferenceIdeal.main_arg8)
      ∧ r.2.mem ((c.tc : Thread Cert.MoeReferenceIdeal.nD Cert.MoeReferenceIdeal.τ).loc Cert.MoeReferenceIdeal.main_arg9) = m ((c.tc : Thread Cert.MoeReferenceIdeal.nD Cert.MoeReferenceIdeal.τ).loc Cert.MoeReferenceIdeal.main_arg9)
      ∧ r.2.mem ((c.tc : Thread Cert.MoeReferenceIdeal.nD Cert.MoeReferenceIdeal.τ).loc Cert.MoeReferenceIdeal.main_arg10) = m ((c.tc : Thread Cert.MoeReferenceIdeal.nD Cert.MoeReferenceIdeal.τ).loc Cert.MoeReferenceIdeal.main_arg10)
      ∧ r.2.mem ((c.tc : Thread Cert.MoeReferenceIdeal.nD Cert.MoeReferenceIdeal.τ).loc Cert.MoeReferenceIdeal.main_arg11) = m ((c.tc : Thread Cert.MoeReferenceIdeal.nD Cert.MoeReferenceIdeal.τ).loc Cert.MoeReferenceIdeal.main_arg11))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_rotary_tables [hProjIdeal : Cert.ProjIdeal.Facts] [hPre_rotary_tables : Cert.Pre_rotary_tables.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_rotary_tables m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_ProjReferenceIdeal_pre_rotary_tables [hProjReferenceIdeal : Cert.ProjReferenceIdeal.Facts] [hPre_rotary_tables : Cert.Pre_rotary_tables.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_rotary_tables m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnIdeal_pre_factors_finite [hAdalnIdeal : Cert.AdalnIdeal.Facts] [hPre_factors_finite : Cert.Pre_factors_finite.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal_factors_finite m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnReferenceIdeal [hAdalnReferenceIdeal : Cert.AdalnReferenceIdeal.Facts] : Prop :=
  ∀ (m : (ℓ : Loc Cert.AdalnReferenceIdeal.nD Cert.AdalnReferenceIdeal.τ Cert.AdalnReferenceIdeal.sig) → Buf (Elt Ideal) ℓ) (g : Dev Cert.AdalnReferenceIdeal.nD → PrngReg), Pre_AdalnReferenceIdeal m →
    θ_run (Cert.AdalnReferenceIdeal.defs (F := Ideal)) (onTc (τ := Cert.AdalnReferenceIdeal.τ) (Cert.AdalnReferenceIdeal.main (F := Ideal))) ⟨m, fun _ => 0, g⟩ (fun r => (∀ c : Dev Cert.AdalnReferenceIdeal.nD,
      r.2.mem ((c.tc : Thread Cert.AdalnReferenceIdeal.nD Cert.AdalnReferenceIdeal.τ).loc Cert.AdalnReferenceIdeal.main_arg0) = m ((c.tc : Thread Cert.AdalnReferenceIdeal.nD Cert.AdalnReferenceIdeal.τ).loc Cert.AdalnReferenceIdeal.main_arg0)
      ∧ r.2.mem ((c.tc : Thread Cert.AdalnReferenceIdeal.nD Cert.AdalnReferenceIdeal.τ).loc Cert.AdalnReferenceIdeal.main_arg1) = m ((c.tc : Thread Cert.AdalnReferenceIdeal.nD Cert.AdalnReferenceIdeal.τ).loc Cert.AdalnReferenceIdeal.main_arg1)
      ∧ r.2.mem ((c.tc : Thread Cert.AdalnReferenceIdeal.nD Cert.AdalnReferenceIdeal.τ).loc Cert.AdalnReferenceIdeal.main_arg2) = m ((c.tc : Thread Cert.AdalnReferenceIdeal.nD Cert.AdalnReferenceIdeal.τ).loc Cert.AdalnReferenceIdeal.main_arg2))
      ∧ r.2.sem = fun _ => 0)

def quiescent_AdalnReferenceIdeal_pre_factors_finite [hAdalnReferenceIdeal : Cert.AdalnReferenceIdeal.Facts] [hPre_factors_finite : Cert.Pre_factors_finite.Facts] : Prop :=
  ∀ (m : (ℓ : Loc Cert.AdalnReferenceIdeal.nD Cert.AdalnReferenceIdeal.τ Cert.AdalnReferenceIdeal.sig) → Buf (Elt Ideal) ℓ) (g : Dev Cert.AdalnReferenceIdeal.nD → PrngReg), Pre_AdalnReferenceIdeal_factors_finite m →
    θ_run (Cert.AdalnReferenceIdeal.defs (F := Ideal)) (onTc (τ := Cert.AdalnReferenceIdeal.τ) (Cert.AdalnReferenceIdeal.main (F := Ideal))) ⟨m, fun _ => 0, g⟩ (fun r => (∀ c : Dev Cert.AdalnReferenceIdeal.nD,
      r.2.mem ((c.tc : Thread Cert.AdalnReferenceIdeal.nD Cert.AdalnReferenceIdeal.τ).loc Cert.AdalnReferenceIdeal.main_arg0) = m ((c.tc : Thread Cert.AdalnReferenceIdeal.nD Cert.AdalnReferenceIdeal.τ).loc Cert.AdalnReferenceIdeal.main_arg0)
      ∧ r.2.mem ((c.tc : Thread Cert.AdalnReferenceIdeal.nD Cert.AdalnReferenceIdeal.τ).loc Cert.AdalnReferenceIdeal.main_arg1) = m ((c.tc : Thread Cert.AdalnReferenceIdeal.nD Cert.AdalnReferenceIdeal.τ).loc Cert.AdalnReferenceIdeal.main_arg1)
      ∧ r.2.mem ((c.tc : Thread Cert.AdalnReferenceIdeal.nD Cert.AdalnReferenceIdeal.τ).loc Cert.AdalnReferenceIdeal.main_arg2) = m ((c.tc : Thread Cert.AdalnReferenceIdeal.nD Cert.AdalnReferenceIdeal.τ).loc Cert.AdalnReferenceIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0))
      ∧ r.2.sem = fun _ => 0)

def preserves_Moe_MoeIdeal : Prop :=
  True

def algebraic_MoeIdeal_MoeReferenceIdeal_pre_router_inputs_finite [hMoeIdeal : Cert.MoeIdeal.Facts] [hMoeReferenceIdeal : Cert.MoeReferenceIdeal.Facts] [hPre_router_inputs_finite : Cert.Pre_router_inputs_finite.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal_router_inputs_finite m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)
      ∧ m' ((c.tc : Thread Cert.MoeReferenceIdeal.nD Cert.MoeReferenceIdeal.τ).loc Cert.MoeReferenceIdeal.main_arg7) = m ((c.tc : Thread Cert.MoeIdeal.nD Cert.MoeIdeal.τ).loc Cert.MoeIdeal.main_arg7)
      ∧ m' ((c.tc : Thread Cert.MoeReferenceIdeal.nD Cert.MoeReferenceIdeal.τ).loc Cert.MoeReferenceIdeal.main_arg8) = m ((c.tc : Thread Cert.MoeIdeal.nD Cert.MoeIdeal.τ).loc Cert.MoeIdeal.main_arg8)
      ∧ m' ((c.tc : Thread Cert.MoeReferenceIdeal.nD Cert.MoeReferenceIdeal.τ).loc Cert.MoeReferenceIdeal.main_arg9) = m ((c.tc : Thread Cert.MoeIdeal.nD Cert.MoeIdeal.τ).loc Cert.MoeIdeal.main_arg9)
      ∧ m' ((c.tc : Thread Cert.MoeReferenceIdeal.nD Cert.MoeReferenceIdeal.τ).loc Cert.MoeReferenceIdeal.main_arg10) = m ((c.tc : Thread Cert.MoeIdeal.nD Cert.MoeIdeal.τ).loc Cert.MoeIdeal.main_arg10)
      ∧ m' ((c.tc : Thread Cert.MoeReferenceIdeal.nD Cert.MoeReferenceIdeal.τ).loc Cert.MoeReferenceIdeal.main_arg11) = m ((c.tc : Thread Cert.MoeIdeal.nD Cert.MoeIdeal.τ).loc Cert.MoeIdeal.main_arg11)) →
    ∃ (v0 : (c : Dev Cert.MoeIdeal.nD) → Buf (Elt Ideal) ((c.tc : Thread Cert.MoeIdeal.nD Cert.MoeIdeal.τ).loc Cert.MoeIdeal.main_v24)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v24) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
          ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10)
          ∧ r.2.mem ((c.tc : Thread Cert.MoeIdeal.nD Cert.MoeIdeal.τ).loc Cert.MoeIdeal.main_arg11) = m ((c.tc : Thread Cert.MoeIdeal.nD Cert.MoeIdeal.τ).loc Cert.MoeIdeal.main_arg11))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v87) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6)
          ∧ r.2.mem ((c.tc : Thread Cert.MoeReferenceIdeal.nD Cert.MoeReferenceIdeal.τ).loc Cert.MoeReferenceIdeal.main_arg7) = m' ((c.tc : Thread Cert.MoeReferenceIdeal.nD Cert.MoeReferenceIdeal.τ).loc Cert.MoeReferenceIdeal.main_arg7)
          ∧ r.2.mem ((c.tc : Thread Cert.MoeReferenceIdeal.nD Cert.MoeReferenceIdeal.τ).loc Cert.MoeReferenceIdeal.main_arg8) = m' ((c.tc : Thread Cert.MoeReferenceIdeal.nD Cert.MoeReferenceIdeal.τ).loc Cert.MoeReferenceIdeal.main_arg8)
          ∧ r.2.mem ((c.tc : Thread Cert.MoeReferenceIdeal.nD Cert.MoeReferenceIdeal.τ).loc Cert.MoeReferenceIdeal.main_arg9) = m' ((c.tc : Thread Cert.MoeReferenceIdeal.nD Cert.MoeReferenceIdeal.τ).loc Cert.MoeReferenceIdeal.main_arg9)
          ∧ r.2.mem ((c.tc : Thread Cert.MoeReferenceIdeal.nD Cert.MoeReferenceIdeal.τ).loc Cert.MoeReferenceIdeal.main_arg10) = m' ((c.tc : Thread Cert.MoeReferenceIdeal.nD Cert.MoeReferenceIdeal.τ).loc Cert.MoeReferenceIdeal.main_arg10)
          ∧ r.2.mem ((c.tc : Thread Cert.MoeReferenceIdeal.nD Cert.MoeReferenceIdeal.τ).loc Cert.MoeReferenceIdeal.main_arg11) = m' ((c.tc : Thread Cert.MoeReferenceIdeal.nD Cert.MoeReferenceIdeal.τ).loc Cert.MoeReferenceIdeal.main_arg11))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v132) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14))

def preserves_Proj_ProjIdeal : Prop :=
  True

def algebraic_ProjIdeal_ProjReferenceIdeal_pre_rotary_tables [hProjIdeal : Cert.ProjIdeal.Facts] [hProjReferenceIdeal : Cert.ProjReferenceIdeal.Facts] [hPre_rotary_tables : Cert.Pre_rotary_tables.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_rotary_tables m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)) (v2 : (c : Dev Cert.ProjIdeal.nD) → Buf (Elt Ideal) ((c.tc : Thread Cert.ProjIdeal.nD Cert.ProjIdeal.τ).loc Cert.ProjIdeal.main_v9_2)) (v3 : (c : Dev Cert.ProjIdeal.nD) → Buf (Elt Ideal) ((c.tc : Thread Cert.ProjIdeal.nD Cert.ProjIdeal.τ).loc Cert.ProjIdeal.main_v9_3)) (v4 : (c : Dev Cert.ProjIdeal.nD) → Buf (Elt Ideal) ((c.tc : Thread Cert.ProjIdeal.nD Cert.ProjIdeal.τ).loc Cert.ProjIdeal.main_v9_4)) (v5 : (c : Dev Cert.ProjIdeal.nD) → Buf (Elt Ideal) ((c.tc : Thread Cert.ProjIdeal.nD Cert.ProjIdeal.τ).loc Cert.ProjIdeal.main_v9_5)) (v6 : (c : Dev Cert.ProjIdeal.nD) → Buf (Elt Ideal) ((c.tc : Thread Cert.ProjIdeal.nD Cert.ProjIdeal.τ).loc Cert.ProjIdeal.main_v9_6)) (v7 : (c : Dev Cert.ProjIdeal.nD) → Buf (Elt Ideal) ((c.tc : Thread Cert.ProjIdeal.nD Cert.ProjIdeal.τ).loc Cert.ProjIdeal.main_v9_7)) (v8 : (c : Dev Cert.ProjIdeal.nD) → Buf (Elt Ideal) ((c.tc : Thread Cert.ProjIdeal.nD Cert.ProjIdeal.τ).loc Cert.ProjIdeal.main_v9_8)) (v9 : (c : Dev Cert.ProjIdeal.nD) → Buf (Elt Ideal) ((c.tc : Thread Cert.ProjIdeal.nD Cert.ProjIdeal.τ).loc Cert.ProjIdeal.main_v9_9)) (v10 : (c : Dev Cert.ProjIdeal.nD) → Buf (Elt Ideal) ((c.tc : Thread Cert.ProjIdeal.nD Cert.ProjIdeal.τ).loc Cert.ProjIdeal.main_v9_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_v9_2) = v2 c
          ∧ r.2.mem ((c.tc : Thread Cert.ProjIdeal.nD Cert.ProjIdeal.τ).loc Cert.ProjIdeal.main_v9_3) = v3 c
          ∧ r.2.mem ((c.tc : Thread Cert.ProjIdeal.nD Cert.ProjIdeal.τ).loc Cert.ProjIdeal.main_v9_4) = v4 c
          ∧ r.2.mem ((c.tc : Thread Cert.ProjIdeal.nD Cert.ProjIdeal.τ).loc Cert.ProjIdeal.main_v9_5) = v5 c
          ∧ r.2.mem ((c.tc : Thread Cert.ProjIdeal.nD Cert.ProjIdeal.τ).loc Cert.ProjIdeal.main_v9_6) = v6 c
          ∧ r.2.mem ((c.tc : Thread Cert.ProjIdeal.nD Cert.ProjIdeal.τ).loc Cert.ProjIdeal.main_v9_7) = v7 c
          ∧ r.2.mem ((c.tc : Thread Cert.ProjIdeal.nD Cert.ProjIdeal.τ).loc Cert.ProjIdeal.main_v9_8) = v8 c
          ∧ r.2.mem ((c.tc : Thread Cert.ProjIdeal.nD Cert.ProjIdeal.τ).loc Cert.ProjIdeal.main_v9_9) = v9 c
          ∧ r.2.mem ((c.tc : Thread Cert.ProjIdeal.nD Cert.ProjIdeal.τ).loc Cert.ProjIdeal.main_v9_10) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v82) = v0 c
          ∧ r.2.mem ((c.tc : Thread Cert.ProjReferenceIdeal.nD Cert.ProjReferenceIdeal.τ).loc Cert.ProjReferenceIdeal.main_v87) = v1 c
          ∧ r.2.mem ((c.tc : Thread Cert.ProjReferenceIdeal.nD Cert.ProjReferenceIdeal.τ).loc Cert.ProjReferenceIdeal.main_v90) = v2 c
          ∧ r.2.mem ((c.tc : Thread Cert.ProjReferenceIdeal.nD Cert.ProjReferenceIdeal.τ).loc Cert.ProjReferenceIdeal.main_v91) = v3 c
          ∧ r.2.mem ((c.tc : Thread Cert.ProjReferenceIdeal.nD Cert.ProjReferenceIdeal.τ).loc Cert.ProjReferenceIdeal.main_v92) = v4 c
          ∧ r.2.mem ((c.tc : Thread Cert.ProjReferenceIdeal.nD Cert.ProjReferenceIdeal.τ).loc Cert.ProjReferenceIdeal.main_v94) = v5 c
          ∧ r.2.mem ((c.tc : Thread Cert.ProjReferenceIdeal.nD Cert.ProjReferenceIdeal.τ).loc Cert.ProjReferenceIdeal.main_v96) = v6 c
          ∧ r.2.mem ((c.tc : Thread Cert.ProjReferenceIdeal.nD Cert.ProjReferenceIdeal.τ).loc Cert.ProjReferenceIdeal.main_v84) = v7 c
          ∧ r.2.mem ((c.tc : Thread Cert.ProjReferenceIdeal.nD Cert.ProjReferenceIdeal.τ).loc Cert.ProjReferenceIdeal.main_v22) = v8 c
          ∧ r.2.mem ((c.tc : Thread Cert.ProjReferenceIdeal.nD Cert.ProjReferenceIdeal.τ).loc Cert.ProjReferenceIdeal.main_v23) = v9 c
          ∧ r.2.mem ((c.tc : Thread Cert.ProjReferenceIdeal.nD Cert.ProjReferenceIdeal.τ).loc Cert.ProjReferenceIdeal.main_v24) = v10 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_Adaln_AdalnIdeal : Prop :=
  True

def algebraic_AdalnIdeal_AdalnReferenceIdeal_pre_factors_finite [hAdalnIdeal : Cert.AdalnIdeal.Facts] [hAdalnReferenceIdeal : Cert.AdalnReferenceIdeal.Facts] [hPre_factors_finite : Cert.Pre_factors_finite.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnReferenceIdeal.nD Cert.AdalnReferenceIdeal.τ Cert.AdalnReferenceIdeal.sig) → Buf (Elt Ideal) ℓ) (g' : Dev Cert.AdalnReferenceIdeal.nD → PrngReg), Pre_AdalnIdeal_factors_finite m →
    (∀ c : Dev Cert.AdalnIdeal.nD,
      m' ((c.tc : Thread Cert.AdalnReferenceIdeal.nD Cert.AdalnReferenceIdeal.τ).loc Cert.AdalnReferenceIdeal.main_arg0) = m ((c.tc : Thread Cert.AdalnIdeal.nD Cert.AdalnIdeal.τ).loc Cert.AdalnIdeal.main_arg0)
      ∧ m' ((c.tc : Thread Cert.AdalnReferenceIdeal.nD Cert.AdalnReferenceIdeal.τ).loc Cert.AdalnReferenceIdeal.main_arg1) = m ((c.tc : Thread Cert.AdalnIdeal.nD Cert.AdalnIdeal.τ).loc Cert.AdalnIdeal.main_arg1)
      ∧ m' ((c.tc : Thread Cert.AdalnReferenceIdeal.nD Cert.AdalnReferenceIdeal.τ).loc Cert.AdalnReferenceIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnReferenceIdeal.defs (F := Ideal)) (onTc (τ := Cert.AdalnReferenceIdeal.τ) (Cert.AdalnReferenceIdeal.main (F := Ideal))) ⟨m', fun _ => 0, g'⟩ (fun r => ∀ c : Dev Cert.AdalnReferenceIdeal.nD,
          r.2.mem ((c.tc : Thread Cert.AdalnReferenceIdeal.nD Cert.AdalnReferenceIdeal.τ).loc Cert.AdalnReferenceIdeal.main_v18) = v0 c
          ∧ r.2.mem ((c.tc : Thread Cert.AdalnReferenceIdeal.nD Cert.AdalnReferenceIdeal.τ).loc Cert.AdalnReferenceIdeal.main_arg0) = m' ((c.tc : Thread Cert.AdalnReferenceIdeal.nD Cert.AdalnReferenceIdeal.τ).loc Cert.AdalnReferenceIdeal.main_arg0)
          ∧ r.2.mem ((c.tc : Thread Cert.AdalnReferenceIdeal.nD Cert.AdalnReferenceIdeal.τ).loc Cert.AdalnReferenceIdeal.main_arg1) = m' ((c.tc : Thread Cert.AdalnReferenceIdeal.nD Cert.AdalnReferenceIdeal.τ).loc Cert.AdalnReferenceIdeal.main_arg1)
          ∧ r.2.mem ((c.tc : Thread Cert.AdalnReferenceIdeal.nD Cert.AdalnReferenceIdeal.τ).loc Cert.AdalnReferenceIdeal.main_arg2) = m' ((c.tc : Thread Cert.AdalnReferenceIdeal.nD Cert.AdalnReferenceIdeal.τ).loc Cert.AdalnReferenceIdeal.main_arg2))

def preserves_Rope_RopeIdeal : Prop :=
  IdealRules.named_const.Statement Cert.RopeIdeal.κ "rate" .f32 0xBFD1F533#32 (((-(Real.log 500000)) * (1 / 8) : ℝ) : EReal)

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v2_0)) (v1 : (c : Dev Cert.RopeIdeal.nD) → Buf (Elt Ideal) ((c.tc : Thread Cert.RopeIdeal.nD Cert.RopeIdeal.τ).loc Cert.RopeIdeal.main_v2_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v2_0) = v0 c
          ∧ r.2.mem ((c.tc : Thread Cert.RopeIdeal.nD Cert.RopeIdeal.τ).loc Cert.RopeIdeal.main_v2_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v23) = v0 c
          ∧ r.2.mem ((c.tc : Thread Cert.RopeReferenceIdeal.nD Cert.RopeReferenceIdeal.τ).loc Cert.RopeReferenceIdeal.main_v24) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0))

def Claim : Prop :=
  ∃ (hKernel : Cert.Kernel.Facts) (hMoe : Cert.Moe.Facts) (hMoeIdeal : Cert.MoeIdeal.Facts) (hMoeReferenceIdeal : Cert.MoeReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hAdaln : Cert.Adaln.Facts) (hAdalnIdeal : Cert.AdalnIdeal.Facts) (hAdalnReferenceIdeal : Cert.AdalnReferenceIdeal.Facts) (hRope : Cert.Rope.Facts) (hRopeIdeal : Cert.RopeIdeal.Facts) (hRopeReferenceIdeal : Cert.RopeReferenceIdeal.Facts) (hPre_router_inputs_finite : Cert.Pre_router_inputs_finite.Facts) (hPre_rotary_tables : Cert.Pre_rotary_tables.Facts) (hPre_factors_finite : Cert.Pre_factors_finite.Facts),
    quiescent_Kernel (hKernel := hKernel)
    ∧ quiescent_Moe (hMoe := hMoe)
    ∧ quiescent_MoeIdeal (hMoeIdeal := hMoeIdeal)
    ∧ quiescent_MoeIdeal_pre_router_inputs_finite (hMoeIdeal := hMoeIdeal) (hPre_router_inputs_finite := hPre_router_inputs_finite)
    ∧ quiescent_MoeReferenceIdeal (hMoeReferenceIdeal := hMoeReferenceIdeal)
    ∧ quiescent_MoeReferenceIdeal_pre_router_inputs_finite (hMoeReferenceIdeal := hMoeReferenceIdeal) (hPre_router_inputs_finite := hPre_router_inputs_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjIdeal_pre_rotary_tables (hProjIdeal := hProjIdeal) (hPre_rotary_tables := hPre_rotary_tables)
    ∧ quiescent_ProjReferenceIdeal (hProjReferenceIdeal := hProjReferenceIdeal)
    ∧ quiescent_ProjReferenceIdeal_pre_rotary_tables (hProjReferenceIdeal := hProjReferenceIdeal) (hPre_rotary_tables := hPre_rotary_tables)
    ∧ quiescent_Adaln (hAdaln := hAdaln)
    ∧ quiescent_AdalnIdeal (hAdalnIdeal := hAdalnIdeal)
    ∧ quiescent_AdalnIdeal_pre_factors_finite (hAdalnIdeal := hAdalnIdeal) (hPre_factors_finite := hPre_factors_finite)
    ∧ quiescent_AdalnReferenceIdeal (hAdalnReferenceIdeal := hAdalnReferenceIdeal)
    ∧ quiescent_AdalnReferenceIdeal_pre_factors_finite (hAdalnReferenceIdeal := hAdalnReferenceIdeal) (hPre_factors_finite := hPre_factors_finite)
    ∧ quiescent_Rope (hRope := hRope)
    ∧ quiescent_RopeIdeal (hRopeIdeal := hRopeIdeal)
    ∧ quiescent_RopeReferenceIdeal (hRopeReferenceIdeal := hRopeReferenceIdeal)
    ∧ preserves_Moe_MoeIdeal
    ∧ algebraic_MoeIdeal_MoeReferenceIdeal_pre_router_inputs_finite (hMoeIdeal := hMoeIdeal) (hMoeReferenceIdeal := hMoeReferenceIdeal) (hPre_router_inputs_finite := hPre_router_inputs_finite)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal_pre_rotary_tables (hProjIdeal := hProjIdeal) (hProjReferenceIdeal := hProjReferenceIdeal) (hPre_rotary_tables := hPre_rotary_tables)
    ∧ preserves_Adaln_AdalnIdeal
    ∧ algebraic_AdalnIdeal_AdalnReferenceIdeal_pre_factors_finite (hAdalnIdeal := hAdalnIdeal) (hAdalnReferenceIdeal := hAdalnReferenceIdeal) (hPre_factors_finite := hPre_factors_finite)
    ∧ preserves_Rope_RopeIdeal
    ∧ algebraic_RopeIdeal_RopeReferenceIdeal (hRopeIdeal := hRopeIdeal) (hRopeReferenceIdeal := hRopeReferenceIdeal)
-- ==== Pre_factors_finite.lean ====
abbrev S4x1024 : Shape := ⟨2, ![4, 1024]⟩
abbrev S2x1024x3072 : Shape := ⟨3, ![2, 1024, 3072]⟩
abbrev S2x3072 : Shape := ⟨2, ![2, 3072]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S2x1024x3072 : S_.BroadcastsInDim S2x1024x3072 (![] : Fin 0 → Fin S2x1024x3072.rank)
  reducesTo_S2x1024x3072_S_d0_1_2 : S2x1024x3072.ReducesTo [0, 1, 2] S_

variable [Facts]

def fn {F : FTy → Type} [FloatOps F] (main_arg0 : FVec F S4x1024 .f32) (main_arg1 : FVec F S2x1024x3072 .f32) (main_arg2 : FVec F S2x3072 .f32) : IVec S_ 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_c : IVec S_ 1 := constantI S_ 1 1#1
  let main_v3 : IVec S_ 1 := (fun x v => Host.reduce IntOp.andi x v reducesTo_S4x1024_S_d0_1 h_S_) main_v2 main_c
  let main_v4 : FVec F S2x1024x3072 .f32 := Host.absf main_arg1
  let main_cst_0 : FVec F S_ .f32 := constant S_ .f32 0x7F800000#32
  let main_v5 : FVec F S2x1024x3072 .f32 := broadcastInDim S2x1024x3072 ![] bcast_S_S2x1024x3072 main_cst_0
  let main_v6 : IVec S2x1024x3072 1 := cmpf .olt main_v4 main_v5
  let main_c_1 : IVec S_ 1 := constantI S_ 1 1#1
  let main_v7 : IVec S_ 1 := (fun x v => Host.reduce IntOp.andi x v reducesTo_S2x1024x3072_S_d0_1_2 h_S_) main_v6 main_c_1
  let main_v8 : IVec S_ 1 := andi main_v3 main_v7
  main_v8
-- ==== Pre_rotary_tables.lean ====
abbrev S4x8192x1024 : Shape := ⟨3, ![4, 8192, 1024]⟩
abbrev S4x3072 : Shape := ⟨2, ![4, 3072]⟩
abbrev S4x8192x128 : Shape := ⟨3, ![4, 8192, 128]⟩
abbrev S1024x2248 : Shape := ⟨2, ![1024, 2248]⟩
abbrev S4x8192x8 : Shape := ⟨3, ![4, 8192, 8]⟩
abbrev S_ : Shape := ⟨0, ![]⟩
abbrev S4x8192x48 : Shape := ⟨3, ![4, 8192, 48]⟩
abbrev S4x8192x64 : Shape := ⟨3, ![4, 8192, 64]⟩

class Facts : Prop where
  slices_S4x8192x128_S4x8192x8_0_0_8 : S4x8192x128.Slices ![0, 0, 8] S4x8192x8
  slices_S4x8192x128_S4x8192x8_0_0_0 : S4x8192x128.Slices ![0, 0, 0] S4x8192x8
  reducesTo_S4x8192x8_S_d0_1_2 : S4x8192x8.ReducesTo [0, 1, 2] S_
  h_S_ : 0 < S_.numel
  slices_S4x8192x128_S4x8192x48_0_0_16 : S4x8192x128.Slices ![0, 0, 16] S4x8192x48
  bcast_S_S4x8192x48 : S_.BroadcastsInDim S4x8192x48 (![] : Fin 0 → Fin S4x8192x48.rank)
  reducesTo_S4x8192x48_S_d0_1_2 : S4x8192x48.ReducesTo [0, 1, 2] S_
  slices_S4x8192x128_S4x8192x64_0_0_64 : S4x8192x128.Slices ![0, 0, 64] S4x8192x64
  slices_S4x8192x128_S4x8192x64_0_0_0 : S4x8192x128.Slices ![0, 0, 0] S4x8192x64
  reducesTo_S4x8192x64_S_d0_1_2 : S4x8192x64.ReducesTo [0, 1, 2] S_

variable [Facts]

def fn_part1 {F : FTy → Type} [FloatOps F] (main_arg2 : FVec F S4x8192x128 .f32) (main_arg3 : FVec F S4x8192x128 .f32) (main_v14 : IVec S_ 1) (main_v17 : IVec S4x8192x48 1) (main_c_3 : IVec S_ 1) : IVec S_ 1 :=
  let main_v18 : IVec S_ 1 := (fun x v => Host.reduce IntOp.andi x v reducesTo_S4x8192x48_S_d0_1_2 h_S_) main_v17 main_c_3
  let main_v19 : IVec S_ 1 := andi main_v14 main_v18
  let main_v20 : FVec F S4x8192x64 .f32 := (extractStridedSlice S4x8192x64 ![0, 0, 64] · slices_S4x8192x128_S4x8192x64_0_0_64) main_arg2
  let main_v21 : FVec F S4x8192x64 .f32 := (extractStridedSlice S4x8192x64 ![0, 0, 0] · slices_S4x8192x128_S4x8192x64_0_0_0) main_arg2
  let main_v22 : IVec S4x8192x64 1 := cmpf .oeq main_v20 main_v21
  let main_c_4 : IVec S_ 1 := constantI S_ 1 1#1
  let main_v23 : IVec S_ 1 := (fun x v => Host.reduce IntOp.andi x v reducesTo_S4x8192x64_S_d0_1_2 h_S_) main_v22 main_c_4
  let main_v24 : IVec S_ 1 := andi main_v19 main_v23
  let main_v25 : FVec F S4x8192x64 .f32 := (extractStridedSlice S4x8192x64 ![0, 0, 64] · slices_S4x8192x128_S4x8192x64_0_0_64) main_arg3
  let main_v26 : FVec F S4x8192x64 .f32 := (extractStridedSlice S4x8192x64 ![0, 0, 0] · slices_S4x8192x128_S4x8192x64_0_0_0) main_arg3
  let main_v27 : IVec S4x8192x64 1 := cmpf .oeq main_v25 main_v26
  let main_c_5 : IVec S_ 1 := constantI S_ 1 1#1
  let main_v28 : IVec S_ 1 := (fun x v => Host.reduce IntOp.andi x v reducesTo_S4x8192x64_S_d0_1_2 h_S_) main_v27 main_c_5
  let main_v29 : IVec S_ 1 := andi main_v24 main_v28
  main_v29

def fn {F : FTy → Type} [FloatOps F] (main_arg0 : FVec F S4x8192x1024 .f32) (main_arg1 : FVec F S4x3072 .f32) (main_arg2 : FVec F S4x8192x128 .f32) (main_arg3 : FVec F S4x8192x128 .f32) (main_arg4 : FVec F S1024x2248 .f32) : IVec S_ 1 :=
  let main_v0 : FVec F S4x8192x8 .f32 := (extractStridedSlice S4x8192x8 ![0, 0, 8] · slices_S4x8192x128_S4x8192x8_0_0_8) main_arg2
  let main_v1 : FVec F S4x8192x8 .f32 := (extractStridedSlice S4x8192x8 ![0, 0, 0] · slices_S4x8192x128_S4x8192x8_0_0_0) main_arg2
  let main_v2 : IVec S4x8192x8 1 := cmpf .oeq main_v0 main_v1
  let main_c : IVec S_ 1 := constantI S_ 1 1#1
  let main_v3 : IVec S_ 1 := (fun x v => Host.reduce IntOp.andi x v reducesTo_S4x8192x8_S_d0_1_2 h_S_) main_v2 main_c
  let main_v4 : FVec F S4x8192x48 .f32 := (extractStridedSlice S4x8192x48 ![0, 0, 16] · slices_S4x8192x128_S4x8192x48_0_0_16) main_arg2
  let main_cst : FVec F S_ .f32 := constant S_ .f32 0x3F800000#32
  let main_v5 : FVec F S4x8192x48 .f32 := broadcastInDim S4x8192x48 ![] bcast_S_S4x8192x48 main_cst
  let main_v6 : IVec S4x8192x48 1 := cmpf .oeq main_v4 main_v5
  let main_c_0 : IVec S_ 1 := constantI S_ 1 1#1
  let main_v7 : IVec S_ 1 := (fun x v => Host.reduce IntOp.andi x v reducesTo_S4x8192x48_S_d0_1_2 h_S_) main_v6 main_c_0
  let main_v8 : IVec S_ 1 := andi main_v3 main_v7
  let main_v9 : FVec F S4x8192x8 .f32 := (extractStridedSlice S4x8192x8 ![0, 0, 0] · slices_S4x8192x128_S4x8192x8_0_0_0) main_arg3
  let main_v10 : FVec F S4x8192x8 .f32 := (extractStridedSlice S4x8192x8 ![0, 0, 8] · slices_S4x8192x128_S4x8192x8_0_0_8) main_arg3
  let main_v11 : FVec F S4x8192x8 .f32 := Host.negf main_v10
  let main_v12 : IVec S4x8192x8 1 := cmpf .oeq main_v9 main_v11
  let main_c_1 : IVec S_ 1 := constantI S_ 1 1#1
  let main_v13 : IVec S_ 1 := (fun x v => Host.reduce IntOp.andi x v reducesTo_S4x8192x8_S_d0_1_2 h_S_) main_v12 main_c_1
  let main_v14 : IVec S_ 1 := andi main_v8 main_v13
  let main_v15 : FVec F S4x8192x48 .f32 := (extractStridedSlice S4x8192x48 ![0, 0, 16] · slices_S4x8192x128_S4x8192x48_0_0_16) main_arg3
  let main_cst_2 : FVec F S_ .f32 := constant S_ .f32 0x00000000#32
  let main_v16 : FVec F S4x8192x48 .f32 := broadcastInDim S4x8192x48 ![] bcast_S_S4x8192x48 main_cst_2
  let main_v17 : IVec S4x8192x48 1 := cmpf .oeq main_v15 main_v16
  let main_c_3 : IVec S_ 1 := constantI S_ 1 1#1
  fn_part1 (F := F) main_arg2 main_arg3 main_v14 main_v17 main_c_3
-- ==== Pre_router_inputs_finite.lean ====
abbrev S4x8192x1024 : Shape := ⟨3, ![4, 8192, 1024]⟩
abbrev S4x3072 : Shape := ⟨2, ![4, 3072]⟩
abbrev S1024x32 : Shape := ⟨2, ![1024, 32]⟩
abbrev S32 : Shape := ⟨1, ![32]⟩
abbrev S32x1024x256 : Shape := ⟨3, ![32, 1024, 256]⟩
abbrev S32x256x1024 : Shape := ⟨3, ![32, 256, 1024]⟩
abbrev S1024x256 : Shape := ⟨2, ![1024, 256]⟩
abbrev S256x1024 : Shape := ⟨2, ![256, 1024]⟩
abbrev S1024 : Shape := ⟨1, ![1024]⟩
abbrev S_ : Shape := ⟨0, ![]⟩
abbrev S4x2048 : Shape := ⟨2, ![4, 2048]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  slices_S4x3072_S4x2048_0_0 : S4x3072.Slices ![0, 0] S4x2048
  bcast_S_S4x2048 : S_.BroadcastsInDim S4x2048 (![] : Fin 0 → Fin S4x2048.rank)
  reducesTo_S4x2048_S_d0_1 : S4x2048.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S4x8192x1024 .f32) (main_arg1 : FVec F S4x3072 .f32) (main_arg2 : FVec F S1024x32 .f32) (main_arg3 : FVec F S32 .f32) (main_arg4 : FVec F S32x1024x256 .f32) (main_arg5 : FVec F S32x1024x256 .f32) (main_arg6 : FVec F S32x256x1024 .f32) (main_arg7 : FVec F S1024x256 .f32) (main_arg8 : FVec F S1024x256 .f32) (main_arg9 : FVec F S256x1024 .f32) (main_arg10 : FVec F S1024 .f32) (main_arg11 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x2048 .f32 := (extractStridedSlice S4x2048 ![0, 0] · slices_S4x3072_S4x2048_0_0) main_arg1
  let main_v5 : FVec F S4x2048 .f32 := Host.absf main_v4
  let main_cst_0 : FVec F S_ .f32 := constant S_ .f32 0x7F800000#32
  let main_v6 : FVec F S4x2048 .f32 := broadcastInDim S4x2048 ![] bcast_S_S4x2048 main_cst_0
  let main_v7 : IVec S4x2048 1 := cmpf .olt main_v5 main_v6
  let main_c_1 : IVec S_ 1 := constantI S_ 1 1#1
  let main_v8 : IVec S_ 1 := (fun x v => Host.reduce IntOp.andi x v reducesTo_S4x2048_S_d0_1 h_S_) main_v7 main_c_1
  let main_v9 : IVec S_ 1 := andi main_v3 main_v8
  let main_v10 : FVec F S1024x32 .f32 := Host.absf main_arg2
  let main_cst_2 : FVec F S_ .f32 := constant S_ .f32 0x7F800000#32
  let main_v11 : FVec F S1024x32 .f32 := broadcastInDim S1024x32 ![] bcast_S_S1024x32 main_cst_2
  let main_v12 : IVec S1024x32 1 := cmpf .olt main_v10 main_v11
  let main_c_3 : IVec S_ 1 := constantI S_ 1 1#1
  let main_v13 : IVec S_ 1 := (fun x v => Host.reduce IntOp.andi x v reducesTo_S1024x32_S_d0_1 h_S_) main_v12 main_c_3
  let main_v14 : IVec S_ 1 := andi main_v9 main_v13
  main_v14
-- ==== Kernel.lean ====
abbrev S4x256x8192 : Shape := ⟨3, ![4, 256, 8192]⟩
abbrev S4x8x8192 : Shape := ⟨3, ![4, 8, 8192]⟩
abbrev S4x8192x64 : Shape := ⟨3, ![4, 8192, 64]⟩
abbrev S4x64x8192 : Shape := ⟨3, ![4, 64, 8192]⟩
abbrev S1x256x128 : Shape := ⟨3, ![1, 256, 128]⟩
abbrev S1x8x128 : Shape := ⟨3, ![1, 8, 128]⟩
abbrev S1x8192x64 : Shape := ⟨3, ![1, 8192, 64]⟩
abbrev S1x64x8192 : Shape := ⟨3, ![1, 64, 8192]⟩
abbrev S16x512x128 : Shape := ⟨3, ![16, 512, 128]⟩
abbrev S32x32x8x128 : Shape := ⟨4, ![32, 32, 8, 128]⟩
abbrev S32x8x128 : Shape := ⟨3, ![32, 8, 128]⟩
abbrev S8x128 : Shape := ⟨2, ![8, 128]⟩
abbrev S72x512 : Shape := ⟨2, ![72, 512]⟩
abbrev S512x512 : Shape := ⟨2, ![512, 512]⟩
abbrev S4x128 : Shape := ⟨2, ![4, 128]⟩
abbrev S512x128 : Shape := ⟨2, ![512, 128]⟩
abbrev S1x64x128 : Shape := ⟨3, ![1, 64, 128]⟩
abbrev S64x128 : Shape := ⟨2, ![64, 128]⟩
abbrev S64x512 : Shape := ⟨2, ![64, 512]⟩
abbrev S1x512x64 : Shape := ⟨3, ![1, 512, 64]⟩
abbrev S512x64 : Shape := ⟨2, ![512, 64]⟩
abbrev S1x128 : Shape := ⟨2, ![1, 128]⟩
abbrev S1x512x128 : Shape := ⟨3, ![1, 512, 128]⟩
abbrev S1x1x8x128 : Shape := ⟨4, ![1, 1, 8, 128]⟩
abbrev S8x8x128 : Shape := ⟨3, ![8, 8, 128]⟩
abbrev S1x8x8x128 : Shape := ⟨4, ![1, 8, 8, 128]⟩
abbrev S128 : Shape := ⟨1, ![128]⟩
abbrev S1x1x128 : Shape := ⟨3, ![1, 1, 128]⟩
abbrev S16x8x128 : Shape := ⟨3, ![16, 8, 128]⟩
abbrev S1x16x8x128 : Shape := ⟨4, ![1, 16, 8, 128]⟩
abbrev S1x32x8x128 : Shape := ⟨4, ![1, 32, 8, 128]⟩
abbrev S128x128 : Shape := ⟨2, ![128, 128]⟩
abbrev S128x512 : Shape := ⟨2, ![128, 512]⟩
abbrev S192x512 : Shape := ⟨2, ![192, 512]⟩
abbrev S8x512 : Shape := ⟨2, ![8, 512]⟩
abbrev S1x512 : Shape := ⟨2, ![1, 512]⟩
abbrev S512x192 : Shape := ⟨2, ![512, 192]⟩
abbrev S512 : Shape := ⟨1, ![512]⟩
abbrev S1x64x512 : Shape := ⟨3, ![1, 64, 512]⟩

abbrev nBuf : Space → Nat
  | .hbm => 7
  | .vmem => 22
  | .smem => 0
  | _ => 0

abbrev bufTy : (tb : Table) → Fin (tcTables nBuf tb) → BufTy
  | .hbm, ⟨0, _⟩ => ⟨S4x256x8192, .bf16⟩
  | .hbm, ⟨1, _⟩ => ⟨S4x256x8192, .bf16⟩
  | .hbm, ⟨2, _⟩ => ⟨S4x8x8192, .f32⟩
  | .hbm, ⟨3, _⟩ => ⟨S4x8192x64, .bf16⟩
  | .hbm, ⟨4, _⟩ => ⟨S4x8192x64, .bf16⟩
  | .hbm, ⟨5, _⟩ => ⟨S4x64x8192, .bf16⟩
  | .hbm, ⟨6, _⟩ => ⟨S4x256x8192, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x8x128, .f32⟩
  | .local _ .vmem, ⟨5, _⟩ => ⟨S1x8x128, .f32⟩
  | .local _ .vmem, ⟨6, _⟩ => ⟨S1x8192x64, .bf16⟩
  | .local _ .vmem, ⟨7, _⟩ => ⟨S1x8192x64, .bf16⟩
  | .local _ .vmem, ⟨8, _⟩ => ⟨S1x8192x64, .bf16⟩
  | .local _ .vmem, ⟨9, _⟩ => ⟨S1x8192x64, .bf16⟩
  | .local _ .vmem, ⟨10, _⟩ => ⟨S1x64x8192, .bf16⟩
  | .local _ .vmem, ⟨11, _⟩ => ⟨S1x64x8192, .bf16⟩
  | .local _ .vmem, ⟨12, _⟩ => ⟨S1x256x128, .bf16⟩
  | .local _ .vmem, ⟨13, _⟩ => ⟨S1x256x128, .bf16⟩
  | .local _ .vmem, ⟨14, _⟩ => ⟨S16x512x128, .i32⟩
  | .local _ .vmem, ⟨15, _⟩ => ⟨S32x32x8x128, .i32⟩
  | .local _ .vmem, ⟨16, _⟩ => ⟨S32x8x128, .i32⟩
  | .local _ .vmem, ⟨17, _⟩ => ⟨S8x128, .i32⟩
  | .local _ .vmem, ⟨18, _⟩ => ⟨S72x512, .f32⟩
  | .local _ .vmem, ⟨19, _⟩ => ⟨S512x512, .bf16⟩
  | .local _ .vmem, ⟨20, _⟩ => ⟨S512x512, .f32⟩
  | .local _ .vmem, ⟨21, _⟩ => ⟨S512x512, .f32⟩
  | _, _ => ⟨S4x256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![4, 64], ![false, false]⟩

def k0_mult1 : BitVec 32 :=
  let c0_i32_25 : BitVec 32 := 0#32
  c0_i32_25
@[reducible] def k0_t1_loop (i : grid0.Coords) : Scf.Loop 32 :=
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_35 : BitVec 32 := 1#32
  ⟨c0_i32_33, v70, c1_i32_35⟩
def k0_mult2 (i : grid0.Coords) (k0_t1 : Fin (k0_t1_loop i).trips) : BitVec 32 :=
  let c2_i32_156 : BitVec 32 := 2#32
  let c0_i32_33 : BitVec 32 := 0#32
  let c1_i32_35 : BitVec 32 := 1#32
  let arg17 : BitVec 32 := Scf.iv c0_i32_33 c1_i32_35 k0_t1
  let v301 : BitVec 32 := Scalar.muli c2_i32_156 arg17
  let c1_i32_157 : BitVec 32 := 1#32
  let v302 : BitVec 32 := Scalar.addi v301 c1_i32_157
  let c512_i32_158 : BitVec 32 := 512#32
  let v303 : BitVec 32 := Scalar.muli v302 c512_i32_158
  v303
def k0_off1 (i : grid0.Coords) (k0_t1 : Fin (k0_t1_loop i).trips) : Fin 3 → Nat :=
  let c0_159 : Index := 0#32
  let c2_i32_156 : BitVec 32 := 2#32
  let c0_i32_33 : BitVec 32 := 0#32
  let c1_i32_35 : BitVec 32 := 1#32
  let arg17 : BitVec 32 := Scf.iv c0_i32_33 c1_i32_35 k0_t1
  let v301 : BitVec 32 := Scalar.muli c2_i32_156 arg17
  let c1_i32_157 : BitVec 32 := 1#32
  let v302 : BitVec 32 := Scalar.addi v301 c1_i32_157
  let c512_i32_158 : BitVec 32 := 512#32
  let v303 : BitVec 32 := Scalar.muli v302 c512_i32_158
  let v304 : BitVec 32 := v303
  let v305 : Index := Scalar.indexCast v304
  let c0_160 : Index := 0#32
  ![0, v305.toNat, 0]
def k0_off2 (i : grid0.Coords) (k0_t1 : Fin (k0_t1_loop i).trips) : Fin 3 → Nat :=
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let v356 : Index := Scalar.indexCast v312
  let c0_181 : Index := 0#32
  let c0_182 : Index := 0#32
  ![v356.toNat, 0, 0]
def k0_off3 (i : grid0.Coords) (k0_t1 : Fin (k0_t1_loop i).trips) (c0_i32_419 : BitVec 32) : Fin 4 → Nat :=
  let c0_420 : Index := 0#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_418 : BitVec 32 := 2#32
  let v1114 : BitVec 32 := Scalar.muli v312 c2_i32_418
  let v1115 : BitVec 32 := Scalar.addi v1114 c0_i32_419
  let v1116 : Index := Scalar.indexCast v1115
  let c0_421 : Index := 0#32
  let c0_422 : Index := 0#32
  ![0, v1116.toNat, 0, 0]
def k0_off4 (i : grid0.Coords) (k0_t1 : Fin (k0_t1_loop i).trips) (c0_i32_424 : BitVec 32) : Fin 4 → Nat :=
  let c1_425 : Index := 1#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_423 : BitVec 32 := 2#32
  let v1120 : BitVec 32 := Scalar.muli v312 c2_i32_423
  let v1121 : BitVec 32 := Scalar.addi v1120 c0_i32_424
  let v1122 : Index := Scalar.indexCast v1121
  let c0_426 : Index := 0#32
  let c0_427 : Index := 0#32
  ![1, v1122.toNat, 0, 0]
def k0_off5 (i : grid0.Coords) (k0_t1 : Fin (k0_t1_loop i).trips) (c0_i32_429 : BitVec 32) : Fin 4 → Nat :=
  let c2 : Index := 2#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_428 : BitVec 32 := 2#32
  let v1126 : BitVec 32 := Scalar.muli v312 c2_i32_428
  let v1127 : BitVec 32 := Scalar.addi v1126 c0_i32_429
  let v1128 : Index := Scalar.indexCast v1127
  let c0_430 : Index := 0#32
  let c0_431 : Index := 0#32
  ![2, v1128.toNat, 0, 0]
def k0_off6 (i : grid0.Coords) (k0_t1 : Fin (k0_t1_loop i).trips) (c0_i32_433 : BitVec 32) : Fin 4 → Nat :=
  let c3 : Index := 3#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_432 : BitVec 32 := 2#32
  let v1132 : BitVec 32 := Scalar.muli v312 c2_i32_432
  let v1133 : BitVec 32 := Scalar.addi v1132 c0_i32_433
  let v1134 : Index := Scalar.indexCast v1133
  let c0_434 : Index := 0#32
  let c0_435 : Index := 0#32
  ![3, v1134.toNat, 0, 0]
def k0_off7 (i : grid0.Coords) (k0_t1 : Fin (k0_t1_loop i).trips) (c0_i32_437 : BitVec 32) : Fin 4 → Nat :=
  let c4 : Index := 4#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_436 : BitVec 32 := 2#32
  let v1138 : BitVec 32 := Scalar.muli v312 c2_i32_436
  let v1139 : BitVec 32 := Scalar.addi v1138 c0_i32_437
  let v1140 : Index := Scalar.indexCast v1139
  let c0_438 : Index := 0#32
  let c0_439 : Index := 0#32
  ![4, v1140.toNat, 0, 0]
def k0_off8 (i : grid0.Coords) (k0_t1 : Fin (k0_t1_loop i).trips) (c0_i32_441 : BitVec 32) : Fin 4 → Nat :=
  let c5 : Index := 5#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_440 : BitVec 32 := 2#32
  let v1144 : BitVec 32 := Scalar.muli v312 c2_i32_440
  let v1145 : BitVec 32 := Scalar.addi v1144 c0_i32_441
  let v1146 : Index := Scalar.indexCast v1145
  let c0_442 : Index := 0#32
  let c0_443 : Index := 0#32
  ![5, v1146.toNat, 0, 0]
def k0_off9 (i : grid0.Coords) (k0_t1 : Fin (k0_t1_loop i).trips) (c0_i32_445 : BitVec 32) : Fin 4 → Nat :=
  let c6 : Index := 6#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_444 : BitVec 32 := 2#32
  let v1150 : BitVec 32 := Scalar.muli v312 c2_i32_444
  let v1151 : BitVec 32 := Scalar.addi v1150 c0_i32_445
  let v1152 : Index := Scalar.indexCast v1151
  let c0_446 : Index := 0#32
  let c0_447 : Index := 0#32
  ![6, v1152.toNat, 0, 0]
def k0_off10 (i : grid0.Coords) (k0_t1 : Fin (k0_t1_loop i).trips) (c0_i32_449 : BitVec 32) : Fin 4 → Nat :=
  let c7 : Index := 7#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_448 : BitVec 32 := 2#32
  let v1156 : BitVec 32 := Scalar.muli v312 c2_i32_448
  let v1157 : BitVec 32 := Scalar.addi v1156 c0_i32_449
  let v1158 : Index := Scalar.indexCast v1157
  let c0_450 : Index := 0#32
  let c0_451 : Index := 0#32
  ![7, v1158.toNat, 0, 0]
def k0_off11 (i : grid0.Coords) (k0_t1 : Fin (k0_t1_loop i).trips) (c0_i32_453 : BitVec 32) : Fin 4 → Nat :=
  let c8 : Index := 8#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_452 : BitVec 32 := 2#32
  let v1162 : BitVec 32 := Scalar.muli v312 c2_i32_452
  let v1163 : BitVec 32 := Scalar.addi v1162 c0_i32_453
  let v1164 : Index := Scalar.indexCast v1163
  let c0_454 : Index := 0#32
  let c0_455 : Index := 0#32
  ![8, v1164.toNat, 0, 0]
def k0_off12 (i : grid0.Coords) (k0_t1 : Fin (k0_t1_loop i).trips) (c0_i32_457 : BitVec 32) : Fin 4 → Nat :=
  let c9 : Index := 9#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_456 : BitVec 32 := 2#32
  let v1168 : BitVec 32 := Scalar.muli v312 c2_i32_456
  let v1169 : BitVec 32 := Scalar.addi v1168 c0_i32_457
  let v1170 : Index := Scalar.indexCast v1169
  let c0_458 : Index := 0#32
  let c0_459 : Index := 0#32
  ![9, v1170.toNat, 0, 0]
def k0_off13 (i : grid0.Coords) (k0_t1 : Fin (k0_t1_loop i).trips) (c0_i32_461 : BitVec 32) : Fin 4 → Nat :=
  let c10 : Index := 10#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_460 : BitVec 32 := 2#32
  let v1174 : BitVec 32 := Scalar.muli v312 c2_i32_460
  let v1175 : BitVec 32 := Scalar.addi v1174 c0_i32_461
  let v1176 : Index := Scalar.indexCast v1175
  let c0_462 : Index := 0#32
  let c0_463 : Index := 0#32
  ![10, v1176.toNat, 0, 0]
def k0_off14 (i : grid0.Coords) (k0_t1 : Fin (k0_t1_loop i).trips) (c0_i32_465 : BitVec 32) : Fin 4 → Nat :=
  let c11 : Index := 11#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_464 : BitVec 32 := 2#32
  let v1180 : BitVec 32 := Scalar.muli v312 c2_i32_464
  let v1181 : BitVec 32 := Scalar.addi v1180 c0_i32_465
  let v1182 : Index := Scalar.indexCast v1181
  let c0_466 : Index := 0#32
  let c0_467 : Index := 0#32
  ![11, v1182.toNat, 0, 0]
def k0_off15 (i : grid0.Coords) (k0_t1 : Fin (k0_t1_loop i).trips) (c0_i32_469 : BitVec 32) : Fin 4 → Nat :=
  let c12 : Index := 12#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_468 : BitVec 32 := 2#32
  let v1186 : BitVec 32 := Scalar.muli v312 c2_i32_468
  let v1187 : BitVec 32 := Scalar.addi v1186 c0_i32_469
  let v1188 : Index := Scalar.indexCast v1187
  let c0_470 : Index := 0#32
  let c0_471 : Index := 0#32
  ![12, v1188.toNat, 0, 0]
def k0_off16 (i : grid0.Coords) (k0_t1 : Fin (k0_t1_loop i).trips) (c0_i32_473 : BitVec 32) : Fin 4 → Nat :=
  let c13 : Index := 13#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_472 : BitVec 32 := 2#32
  let v1192 : BitVec 32 := Scalar.muli v312 c2_i32_472
  let v1193 : BitVec 32 := Scalar.addi v1192 c0_i32_473
  let v1194 : Index := Scalar.indexCast v1193
  let c0_474 : Index := 0#32
  let c0_475 : Index := 0#32
  ![13, v1194.toNat, 0, 0]
def k0_off17 (i : grid0.Coords) (k0_t1 : Fin (k0_t1_loop i).trips) (c0_i32_477 : BitVec 32) : Fin 4 → Nat :=
  let c14 : Index := 14#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_476 : BitVec 32 := 2#32
  let v1198 : BitVec 32 := Scalar.muli v312 c2_i32_476
  let v1199 : BitVec 32 := Scalar.addi v1198 c0_i32_477
  let v1200 : Index := Scalar.indexCast v1199
  let c0_478 : Index := 0#32
  let c0_479 : Index := 0#32
  ![14, v1200.toNat, 0, 0]
def k0_off18 (i : grid0.Coords) (k0_t1 : Fin (k0_t1_loop i).trips) (c0_i32_481 : BitVec 32) : Fin 4 → Nat :=
  let c15 : Index := 15#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_480 : BitVec 32 := 2#32
  let v1204 : BitVec 32 := Scalar.muli v312 c2_i32_480
  let v1205 : BitVec 32 := Scalar.addi v1204 c0_i32_481
  let v1206 : Index := Scalar.indexCast v1205
  let c0_482 : Index := 0#32
  let c0_483 : Index := 0#32
  ![15, v1206.toNat, 0, 0]
def k0_off19 (i : grid0.Coords) (k0_t1 : Fin (k0_t1_loop i).trips) (c0_i32_485 : BitVec 32) : Fin 4 → Nat :=
  let c16 : Index := 16#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_484 : BitVec 32 := 2#32
  let v1210 : BitVec 32 := Scalar.muli v312 c2_i32_484
  let v1211 : BitVec 32 := Scalar.addi v1210 c0_i32_485
  let v1212 : Index := Scalar.indexCast v1211
  let c0_486 : Index := 0#32
  let c0_487 : Index := 0#32
  ![16, v1212.toNat, 0, 0]
def k0_off20 (i : grid0.Coords) (k0_t1 : Fin (k0_t1_loop i).trips) (c0_i32_489 : BitVec 32) : Fin 4 → Nat :=
  let c17 : Index := 17#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_488 : BitVec 32 := 2#32
  let v1216 : BitVec 32 := Scalar.muli v312 c2_i32_488
  let v1217 : BitVec 32 := Scalar.addi v1216 c0_i32_489
  let v1218 : Index := Scalar.indexCast v1217
  let c0_490 : Index := 0#32
  let c0_491 : Index := 0#32
  ![17, v1218.toNat, 0, 0]
def k0_off21 (i : grid0.Coords) (k0_t1 : Fin (k0_t1_loop i).trips) (c0_i32_493 : BitVec 32) : Fin 4 → Nat :=
  let c18 : Index := 18#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_492 : BitVec 32 := 2#32
  let v1222 : BitVec 32 := Scalar.muli v312 c2_i32_492
  let v1223 : BitVec 32 := Scalar.addi v1222 c0_i32_493
  let v1224 : Index := Scalar.indexCast v1223
  let c0_494 : Index := 0#32
  let c0_495 : Index := 0#32
  ![18, v1224.toNat, 0, 0]
def k0_off22 (i : grid0.Coords) (k0_t1 : Fin (k0_t1_loop i).trips) (c0_i32_497 : BitVec 32) : Fin 4 → Nat :=
  let c19 : Index := 19#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_496 : BitVec 32 := 2#32
  let v1228 : BitVec 32 := Scalar.muli v312 c2_i32_496
  let v1229 : BitVec 32 := Scalar.addi v1228 c0_i32_497
  let v1230 : Index := Scalar.indexCast v1229
  let c0_498 : Index := 0#32
  let c0_499 : Index := 0#32
  ![19, v1230.toNat, 0, 0]
def k0_off23 (i : grid0.Coords) (k0_t1 : Fin (k0_t1_loop i).trips) (c0_i32_501 : BitVec 32) : Fin 4 → Nat :=
  let c20 : Index := 20#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_500 : BitVec 32 := 2#32
  let v1234 : BitVec 32 := Scalar.muli v312 c2_i32_500
  let v1235 : BitVec 32 := Scalar.addi v1234 c0_i32_501
  let v1236 : Index := Scalar.indexCast v1235
  let c0_502 : Index := 0#32
  let c0_503 : Index := 0#32
  ![20, v1236.toNat, 0, 0]
def k0_off24 (i : grid0.Coords) (k0_t1 : Fin (k0_t1_loop i).trips) (c0_i32_505 : BitVec 32) : Fin 4 → Nat :=
  let c21 : Index := 21#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_504 : BitVec 32 := 2#32
  let v1240 : BitVec 32 := Scalar.muli v312 c2_i32_504
  let v1241 : BitVec 32 := Scalar.addi v1240 c0_i32_505
  let v1242 : Index := Scalar.indexCast v1241
  let c0_506 : Index := 0#32
  let c0_507 : Index := 0#32
  ![21, v1242.toNat, 0, 0]
def k0_off25 (i : grid0.Coords) (k0_t1 : Fin (k0_t1_loop i).trips) (c0_i32_509 : BitVec 32) : Fin 4 → Nat :=
  let c22 : Index := 22#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_508 : BitVec 32 := 2#32
  let v1246 : BitVec 32 := Scalar.muli v312 c2_i32_508
  let v1247 : BitVec 32 := Scalar.addi v1246 c0_i32_509
  let v1248 : Index := Scalar.indexCast v1247
  let c0_510 : Index := 0#32
  let c0_511 : Index := 0#32
  ![22, v1248.toNat, 0, 0]
def k0_off26 (i : grid0.Coords) (k0_t1 : Fin (k0_t1_loop i).trips) (c0_i32_513 : BitVec 32) : Fin 4 → Nat :=
  let c23 : Index := 23#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_512 : BitVec 32 := 2#32
  let v1252 : BitVec 32 := Scalar.muli v312 c2_i32_512
  let v1253 : BitVec 32 := Scalar.addi v1252 c0_i32_513
  let v1254 : Index := Scalar.indexCast v1253
  let c0_514 : Index := 0#32
  let c0_515 : Index := 0#32
  ![23, v1254.toNat, 0, 0]
def k0_off27 (i : grid0.Coords) (k0_t1 : Fin (k0_t1_loop i).trips) (c0_i32_517 : BitVec 32) : Fin 4 → Nat :=
  let c24 : Index := 24#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_516 : BitVec 32 := 2#32
  let v1258 : BitVec 32 := Scalar.muli v312 c2_i32_516
  let v1259 : BitVec 32 := Scalar.addi v1258 c0_i32_517
  let v1260 : Index := Scalar.indexCast v1259
  let c0_518 : Index := 0#32
  let c0_519 : Index := 0#32
  ![24, v1260.toNat, 0, 0]
def k0_off28 (i : grid0.Coords) (k0_t1 : Fin (k0_t1_loop i).trips) (c0_i32_521 : BitVec 32) : Fin 4 → Nat :=
  let c25 : Index := 25#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_520 : BitVec 32 := 2#32
  let v1264 : BitVec 32 := Scalar.muli v312 c2_i32_520
  let v1265 : BitVec 32 := Scalar.addi v1264 c0_i32_521
  let v1266 : Index := Scalar.indexCast v1265
  let c0_522 : Index := 0#32
  let c0_523 : Index := 0#32
  ![25, v1266.toNat, 0, 0]
def k0_off29 (i : grid0.Coords) (k0_t1 : Fin (k0_t1_loop i).trips) (c0_i32_525 : BitVec 32) : Fin 4 → Nat :=
  let c26 : Index := 26#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_524 : BitVec 32 := 2#32
  let v1270 : BitVec 32 := Scalar.muli v312 c2_i32_524
  let v1271 : BitVec 32 := Scalar.addi v1270 c0_i32_525
  let v1272 : Index := Scalar.indexCast v1271
  let c0_526 : Index := 0#32
  let c0_527 : Index := 0#32
  ![26, v1272.toNat, 0, 0]
def k0_off30 (i : grid0.Coords) (k0_t1 : Fin (k0_t1_loop i).trips) (c0_i32_529 : BitVec 32) : Fin 4 → Nat :=
  let c27 : Index := 27#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_528 : BitVec 32 := 2#32
  let v1276 : BitVec 32 := Scalar.muli v312 c2_i32_528
  let v1277 : BitVec 32 := Scalar.addi v1276 c0_i32_529
  let v1278 : Index := Scalar.indexCast v1277
  let c0_530 : Index := 0#32
  let c0_531 : Index := 0#32
  ![27, v1278.toNat, 0, 0]
def k0_off31 (i : grid0.Coords) (k0_t1 : Fin (k0_t1_loop i).trips) (c0_i32_533 : BitVec 32) : Fin 4 → Nat :=
  let c28 : Index := 28#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_532 : BitVec 32 := 2#32
  let v1282 : BitVec 32 := Scalar.muli v312 c2_i32_532
  let v1283 : BitVec 32 := Scalar.addi v1282 c0_i32_533
  let v1284 : Index := Scalar.indexCast v1283
  let c0_534 : Index := 0#32
  let c0_535 : Index := 0#32
  ![28, v1284.toNat, 0, 0]
def k0_off32 (i : grid0.Coords) (k0_t1 : Fin (k0_t1_loop i).trips) (c0_i32_537 : BitVec 32) : Fin 4 → Nat :=
  let c29 : Index := 29#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_536 : BitVec 32 := 2#32
  let v1288 : BitVec 32 := Scalar.muli v312 c2_i32_536
  let v1289 : BitVec 32 := Scalar.addi v1288 c0_i32_537
  let v1290 : Index := Scalar.indexCast v1289
  let c0_538 : Index := 0#32
  let c0_539 : Index := 0#32
  ![29, v1290.toNat, 0, 0]
def k0_off33 (i : grid0.Coords) (k0_t1 : Fin (k0_t1_loop i).trips) (c0_i32_541 : BitVec 32) : Fin 4 → Nat :=
  let c30 : Index := 30#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_540 : BitVec 32 := 2#32
  let v1294 : BitVec 32 := Scalar.muli v312 c2_i32_540
  let v1295 : BitVec 32 := Scalar.addi v1294 c0_i32_541
  let v1296 : Index := Scalar.indexCast v1295
  let c0_542 : Index := 0#32
  let c0_543 : Index := 0#32
  ![30, v1296.toNat, 0, 0]
def k0_off34 (i : grid0.Coords) (k0_t1 : Fin (k0_t1_loop i).trips) (c0_i32_545 : BitVec 32) : Fin 4 → Nat :=
  let c31 : Index := 31#32
  let c2_i32_164 : BitVec 32 := 2#32
  let c0_i32_33 : BitVec 32 := 0#32
  let c1_i32_35 : BitVec 32 := 1#32
  let arg17 : BitVec 32 := Scf.iv c0_i32_33 c1_i32_35 k0_t1
  let v312 : BitVec 32 := Scalar.muli c2_i32_164 arg17
  let c2_i32_544 : BitVec 32 := 2#32
  let v1300 : BitVec 32 := Scalar.muli v312 c2_i32_544
  let v1301 : BitVec 32 := Scalar.addi v1300 c0_i32_545
  let v1302 : Index := Scalar.indexCast v1301
  let c0_546 : Index := 0#32
  let c0_547 : Index := 0#32
  ![31, v1302.toNat, 0, 0]
def k0_mult3 (i : grid0.Coords) (k0_t1 : Fin (k0_t1_loop i).trips) : BitVec 32 :=
  let c2_i32_948 : BitVec 32 := 2#32
  let c0_i32_33 : BitVec 32 := 0#32
  let c1_i32_35 : BitVec 32 := 1#32
  let arg17 : BitVec 32 := Scf.iv c0_i32_33 c1_i32_35 k0_t1
  let v2250 : BitVec 32 := Scalar.muli c2_i32_948 arg17
  let c2_i32_949 : BitVec 32 := 2#32
  let v2251 : BitVec 32 := Scalar.addi v2250 c2_i32_949
  let c15_i32 : BitVec 32 := 15#32
  let v2252 : BitVec 32 := Scalar.minsi v2251 c15_i32
  let c512_i32_950 : BitVec 32 := 512#32
  let v2253 : BitVec 32 := Scalar.muli v2252 c512_i32_950
  v2253
def k0_off35 (i : grid0.Coords) (k0_t1 : Fin (k0_t1_loop i).trips) : Fin 3 → Nat :=
  let c0_951 : Index := 0#32
  let c2_i32_948 : BitVec 32 := 2#32
  let c0_i32_33 : BitVec 32 := 0#32
  let c1_i32_35 : BitVec 32 := 1#32
  let arg17 : BitVec 32 := Scf.iv c0_i32_33 c1_i32_35 k0_t1
  let v2250 : BitVec 32 := Scalar.muli c2_i32_948 arg17
  let c2_i32_949 : BitVec 32 := 2#32
  let v2251 : BitVec 32 := Scalar.addi v2250 c2_i32_949
  let c15_i32 : BitVec 32 := 15#32
  let v2252 : BitVec 32 := Scalar.minsi v2251 c15_i32
  let c512_i32_950 : BitVec 32 := 512#32
  let v2253 : BitVec 32 := Scalar.muli v2252 c512_i32_950
  let v2254 : BitVec 32 := v2253
  let v2255 : Index := Scalar.indexCast v2254
  let c0_952 : Index := 0#32
  ![0, v2255.toNat, 0]
def k0_off36 (i : grid0.Coords) (k0_t1 : Fin (k0_t1_loop i).trips) : Fin 3 → Nat :=
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let v2307 : Index := Scalar.indexCast v2263
  let c0_976 : Index := 0#32
  let c0_977 : Index := 0#32
  ![v2307.toNat, 0, 0]
def k0_off37 (i : grid0.Coords) (k0_t1 : Fin (k0_t1_loop i).trips) (c0_i32_1220 : BitVec 32) : Fin 4 → Nat :=
  let c0_1221 : Index := 0#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1219 : BitVec 32 := 2#32
  let v3065 : BitVec 32 := Scalar.muli v2263 c2_i32_1219
  let v3066 : BitVec 32 := Scalar.addi v3065 c0_i32_1220
  let v3067 : Index := Scalar.indexCast v3066
  let c0_1222 : Index := 0#32
  let c0_1223 : Index := 0#32
  ![0, v3067.toNat, 0, 0]
def k0_off38 (i : grid0.Coords) (k0_t1 : Fin (k0_t1_loop i).trips) (c0_i32_1225 : BitVec 32) : Fin 4 → Nat :=
  let c1_1226 : Index := 1#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1224 : BitVec 32 := 2#32
  let v3071 : BitVec 32 := Scalar.muli v2263 c2_i32_1224
  let v3072 : BitVec 32 := Scalar.addi v3071 c0_i32_1225
  let v3073 : Index := Scalar.indexCast v3072
  let c0_1227 : Index := 0#32
  let c0_1228 : Index := 0#32
  ![1, v3073.toNat, 0, 0]
def k0_off39 (i : grid0.Coords) (k0_t1 : Fin (k0_t1_loop i).trips) (c0_i32_1230 : BitVec 32) : Fin 4 → Nat :=
  let c2_1231 : Index := 2#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1229 : BitVec 32 := 2#32
  let v3077 : BitVec 32 := Scalar.muli v2263 c2_i32_1229
  let v3078 : BitVec 32 := Scalar.addi v3077 c0_i32_1230
  let v3079 : Index := Scalar.indexCast v3078
  let c0_1232 : Index := 0#32
  let c0_1233 : Index := 0#32
  ![2, v3079.toNat, 0, 0]
def k0_off40 (i : grid0.Coords) (k0_t1 : Fin (k0_t1_loop i).trips) (c0_i32_1235 : BitVec 32) : Fin 4 → Nat :=
  let c3_1236 : Index := 3#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1234 : BitVec 32 := 2#32
  let v3083 : BitVec 32 := Scalar.muli v2263 c2_i32_1234
  let v3084 : BitVec 32 := Scalar.addi v3083 c0_i32_1235
  let v3085 : Index := Scalar.indexCast v3084
  let c0_1237 : Index := 0#32
  let c0_1238 : Index := 0#32
  ![3, v3085.toNat, 0, 0]
def k0_off41 (i : grid0.Coords) (k0_t1 : Fin (k0_t1_loop i).trips) (c0_i32_1240 : BitVec 32) : Fin 4 → Nat :=
  let c4_1241 : Index := 4#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1239 : BitVec 32 := 2#32
  let v3089 : BitVec 32 := Scalar.muli v2263 c2_i32_1239
  let v3090 : BitVec 32 := Scalar.addi v3089 c0_i32_1240
  let v3091 : Index := Scalar.indexCast v3090
  let c0_1242 : Index := 0#32
  let c0_1243 : Index := 0#32
  ![4, v3091.toNat, 0, 0]
def k0_off42 (i : grid0.Coords) (k0_t1 : Fin (k0_t1_loop i).trips) (c0_i32_1245 : BitVec 32) : Fin 4 → Nat :=
  let c5_1246 : Index := 5#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1244 : BitVec 32 := 2#32
  let v3095 : BitVec 32 := Scalar.muli v2263 c2_i32_1244
  let v3096 : BitVec 32 := Scalar.addi v3095 c0_i32_1245
  let v3097 : Index := Scalar.indexCast v3096
  let c0_1247 : Index := 0#32
  let c0_1248 : Index := 0#32
  ![5, v3097.toNat, 0, 0]
def k0_off43 (i : grid0.Coords) (k0_t1 : Fin (k0_t1_loop i).trips) (c0_i32_1250 : BitVec 32) : Fin 4 → Nat :=
  let c6_1251 : Index := 6#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1249 : BitVec 32 := 2#32
  let v3101 : BitVec 32 := Scalar.muli v2263 c2_i32_1249
  let v3102 : BitVec 32 := Scalar.addi v3101 c0_i32_1250
  let v3103 : Index := Scalar.indexCast v3102
  let c0_1252 : Index := 0#32
  let c0_1253 : Index := 0#32
  ![6, v3103.toNat, 0, 0]
def k0_off44 (i : grid0.Coords) (k0_t1 : Fin (k0_t1_loop i).trips) (c0_i32_1255 : BitVec 32) : Fin 4 → Nat :=
  let c7_1256 : Index := 7#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1254 : BitVec 32 := 2#32
  let v3107 : BitVec 32 := Scalar.muli v2263 c2_i32_1254
  let v3108 : BitVec 32 := Scalar.addi v3107 c0_i32_1255
  let v3109 : Index := Scalar.indexCast v3108
  let c0_1257 : Index := 0#32
  let c0_1258 : Index := 0#32
  ![7, v3109.toNat, 0, 0]
def k0_off45 (i : grid0.Coords) (k0_t1 : Fin (k0_t1_loop i).trips) (c0_i32_1260 : BitVec 32) : Fin 4 → Nat :=
  let c8_1261 : Index := 8#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1259 : BitVec 32 := 2#32
  let v3113 : BitVec 32 := Scalar.muli v2263 c2_i32_1259
  let v3114 : BitVec 32 := Scalar.addi v3113 c0_i32_1260
  let v3115 : Index := Scalar.indexCast v3114
  let c0_1262 : Index := 0#32
  let c0_1263 : Index := 0#32
  ![8, v3115.toNat, 0, 0]
def k0_off46 (i : grid0.Coords) (k0_t1 : Fin (k0_t1_loop i).trips) (c0_i32_1265 : BitVec 32) : Fin 4 → Nat :=
  let c9_1266 : Index := 9#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1264 : BitVec 32 := 2#32
  let v3119 : BitVec 32 := Scalar.muli v2263 c2_i32_1264
  let v3120 : BitVec 32 := Scalar.addi v3119 c0_i32_1265
  let v3121 : Index := Scalar.indexCast v3120
  let c0_1267 : Index := 0#32
  let c0_1268 : Index := 0#32
  ![9, v3121.toNat, 0, 0]
def k0_off47 (i : grid0.Coords) (k0_t1 : Fin (k0_t1_loop i).trips) (c0_i32_1270 : BitVec 32) : Fin 4 → Nat :=
  let c10_1271 : Index := 10#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1269 : BitVec 32 := 2#32
  let v3125 : BitVec 32 := Scalar.muli v2263 c2_i32_1269
  let v3126 : BitVec 32 := Scalar.addi v3125 c0_i32_1270
  let v3127 : Index := Scalar.indexCast v3126
  let c0_1272 : Index := 0#32
  let c0_1273 : Index := 0#32
  ![10, v3127.toNat, 0, 0]
def k0_off48 (i : grid0.Coords) (k0_t1 : Fin (k0_t1_loop i).trips) (c0_i32_1275 : BitVec 32) : Fin 4 → Nat :=
  let c11_1276 : Index := 11#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1274 : BitVec 32 := 2#32
  let v3131 : BitVec 32 := Scalar.muli v2263 c2_i32_1274
  let v3132 : BitVec 32 := Scalar.addi v3131 c0_i32_1275
  let v3133 : Index := Scalar.indexCast v3132
  let c0_1277 : Index := 0#32
  let c0_1278 : Index := 0#32
  ![11, v3133.toNat, 0, 0]
def k0_off49 (i : grid0.Coords) (k0_t1 : Fin (k0_t1_loop i).trips) (c0_i32_1280 : BitVec 32) : Fin 4 → Nat :=
  let c12_1281 : Index := 12#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1279 : BitVec 32 := 2#32
  let v3137 : BitVec 32 := Scalar.muli v2263 c2_i32_1279
  let v3138 : BitVec 32 := Scalar.addi v3137 c0_i32_1280
  let v3139 : Index := Scalar.indexCast v3138
  let c0_1282 : Index := 0#32
  let c0_1283 : Index := 0#32
  ![12, v3139.toNat, 0, 0]
def k0_off50 (i : grid0.Coords) (k0_t1 : Fin (k0_t1_loop i).trips) (c0_i32_1285 : BitVec 32) : Fin 4 → Nat :=
  let c13_1286 : Index := 13#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1284 : BitVec 32 := 2#32
  let v3143 : BitVec 32 := Scalar.muli v2263 c2_i32_1284
  let v3144 : BitVec 32 := Scalar.addi v3143 c0_i32_1285
  let v3145 : Index := Scalar.indexCast v3144
  let c0_1287 : Index := 0#32
  let c0_1288 : Index := 0#32
  ![13, v3145.toNat, 0, 0]
def k0_off51 (i : grid0.Coords) (k0_t1 : Fin (k0_t1_loop i).trips) (c0_i32_1290 : BitVec 32) : Fin 4 → Nat :=
  let c14_1291 : Index := 14#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1289 : BitVec 32 := 2#32
  let v3149 : BitVec 32 := Scalar.muli v2263 c2_i32_1289
  let v3150 : BitVec 32 := Scalar.addi v3149 c0_i32_1290
  let v3151 : Index := Scalar.indexCast v3150
  let c0_1292 : Index := 0#32
  let c0_1293 : Index := 0#32
  ![14, v3151.toNat, 0, 0]
def k0_off52 (i : grid0.Coords) (k0_t1 : Fin (k0_t1_loop i).trips) (c0_i32_1295 : BitVec 32) : Fin 4 → Nat :=
  let c15_1296 : Index := 15#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1294 : BitVec 32 := 2#32
  let v3155 : BitVec 32 := Scalar.muli v2263 c2_i32_1294
  let v3156 : BitVec 32 := Scalar.addi v3155 c0_i32_1295
  let v3157 : Index := Scalar.indexCast v3156
  let c0_1297 : Index := 0#32
  let c0_1298 : Index := 0#32
  ![15, v3157.toNat, 0, 0]
def k0_off53 (i : grid0.Coords) (k0_t1 : Fin (k0_t1_loop i).trips) (c0_i32_1300 : BitVec 32) : Fin 4 → Nat :=
  let c16_1301 : Index := 16#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1299 : BitVec 32 := 2#32
  let v3161 : BitVec 32 := Scalar.muli v2263 c2_i32_1299
  let v3162 : BitVec 32 := Scalar.addi v3161 c0_i32_1300
  let v3163 : Index := Scalar.indexCast v3162
  let c0_1302 : Index := 0#32
  let c0_1303 : Index := 0#32
  ![16, v3163.toNat, 0, 0]
def k0_off54 (i : grid0.Coords) (k0_t1 : Fin (k0_t1_loop i).trips) (c0_i32_1305 : BitVec 32) : Fin 4 → Nat :=
  let c17_1306 : Index := 17#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1304 : BitVec 32 := 2#32
  let v3167 : BitVec 32 := Scalar.muli v2263 c2_i32_1304
  let v3168 : BitVec 32 := Scalar.addi v3167 c0_i32_1305
  let v3169 : Index := Scalar.indexCast v3168
  let c0_1307 : Index := 0#32
  let c0_1308 : Index := 0#32
  ![17, v3169.toNat, 0, 0]
def k0_off55 (i : grid0.Coords) (k0_t1 : Fin (k0_t1_loop i).trips) (c0_i32_1310 : BitVec 32) : Fin 4 → Nat :=
  let c18_1311 : Index := 18#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1309 : BitVec 32 := 2#32
  let v3173 : BitVec 32 := Scalar.muli v2263 c2_i32_1309
  let v3174 : BitVec 32 := Scalar.addi v3173 c0_i32_1310
  let v3175 : Index := Scalar.indexCast v3174
  let c0_1312 : Index := 0#32
  let c0_1313 : Index := 0#32
  ![18, v3175.toNat, 0, 0]
def k0_off56 (i : grid0.Coords) (k0_t1 : Fin (k0_t1_loop i).trips) (c0_i32_1315 : BitVec 32) : Fin 4 → Nat :=
  let c19_1316 : Index := 19#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1314 : BitVec 32 := 2#32
  let v3179 : BitVec 32 := Scalar.muli v2263 c2_i32_1314
  let v3180 : BitVec 32 := Scalar.addi v3179 c0_i32_1315
  let v3181 : Index := Scalar.indexCast v3180
  let c0_1317 : Index := 0#32
  let c0_1318 : Index := 0#32
  ![19, v3181.toNat, 0, 0]
def k0_off57 (i : grid0.Coords) (k0_t1 : Fin (k0_t1_loop i).trips) (c0_i32_1320 : BitVec 32) : Fin 4 → Nat :=
  let c20_1321 : Index := 20#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1319 : BitVec 32 := 2#32
  let v3185 : BitVec 32 := Scalar.muli v2263 c2_i32_1319
  let v3186 : BitVec 32 := Scalar.addi v3185 c0_i32_1320
  let v3187 : Index := Scalar.indexCast v3186
  let c0_1322 : Index := 0#32
  let c0_1323 : Index := 0#32
  ![20, v3187.toNat, 0, 0]
def k0_off58 (i : grid0.Coords) (k0_t1 : Fin (k0_t1_loop i).trips) (c0_i32_1325 : BitVec 32) : Fin 4 → Nat :=
  let c21_1326 : Index := 21#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1324 : BitVec 32 := 2#32
  let v3191 : BitVec 32 := Scalar.muli v2263 c2_i32_1324
  let v3192 : BitVec 32 := Scalar.addi v3191 c0_i32_1325
  let v3193 : Index := Scalar.indexCast v3192
  let c0_1327 : Index := 0#32
  let c0_1328 : Index := 0#32
  ![21, v3193.toNat, 0, 0]
def k0_off59 (i : grid0.Coords) (k0_t1 : Fin (k0_t1_loop i).trips) (c0_i32_1330 : BitVec 32) : Fin 4 → Nat :=
  let c22_1331 : Index := 22#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1329 : BitVec 32 := 2#32
  let v3197 : BitVec 32 := Scalar.muli v2263 c2_i32_1329
  let v3198 : BitVec 32 := Scalar.addi v3197 c0_i32_1330
  let v3199 : Index := Scalar.indexCast v3198
  let c0_1332 : Index := 0#32
  let c0_1333 : Index := 0#32
  ![22, v3199.toNat, 0, 0]
def k0_off60 (i : grid0.Coords) (k0_t1 : Fin (k0_t1_loop i).trips) (c0_i32_1335 : BitVec 32) : Fin 4 → Nat :=
  let c23_1336 : Index := 23#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1334 : BitVec 32 := 2#32
  let v3203 : BitVec 32 := Scalar.muli v2263 c2_i32_1334
  let v3204 : BitVec 32 := Scalar.addi v3203 c0_i32_1335
  let v3205 : Index := Scalar.indexCast v3204
  let c0_1337 : Index := 0#32
  let c0_1338 : Index := 0#32
  ![23, v3205.toNat, 0, 0]
def k0_off61 (i : grid0.Coords) (k0_t1 : Fin (k0_t1_loop i).trips) (c0_i32_1340 : BitVec 32) : Fin 4 → Nat :=
  let c24_1341 : Index := 24#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1339 : BitVec 32 := 2#32
  let v3209 : BitVec 32 := Scalar.muli v2263 c2_i32_1339
  let v3210 : BitVec 32 := Scalar.addi v3209 c0_i32_1340
  let v3211 : Index := Scalar.indexCast v3210
  let c0_1342 : Index := 0#32
  let c0_1343 : Index := 0#32
  ![24, v3211.toNat, 0, 0]
def k0_off62 (i : grid0.Coords) (k0_t1 : Fin (k0_t1_loop i).trips) (c0_i32_1345 : BitVec 32) : Fin 4 → Nat :=
  let c25_1346 : Index := 25#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1344 : BitVec 32 := 2#32
  let v3215 : BitVec 32 := Scalar.muli v2263 c2_i32_1344
  let v3216 : BitVec 32 := Scalar.addi v3215 c0_i32_1345
  let v3217 : Index := Scalar.indexCast v3216
  let c0_1347 : Index := 0#32
  let c0_1348 : Index := 0#32
  ![25, v3217.toNat, 0, 0]
def k0_off63 (i : grid0.Coords) (k0_t1 : Fin (k0_t1_loop i).trips) (c0_i32_1350 : BitVec 32) : Fin 4 → Nat :=
  let c26_1351 : Index := 26#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1349 : BitVec 32 := 2#32
  let v3221 : BitVec 32 := Scalar.muli v2263 c2_i32_1349
  let v3222 : BitVec 32 := Scalar.addi v3221 c0_i32_1350
  let v3223 : Index := Scalar.indexCast v3222
  let c0_1352 : Index := 0#32
  let c0_1353 : Index := 0#32
  ![26, v3223.toNat, 0, 0]
def k0_off64 (i : grid0.Coords) (k0_t1 : Fin (k0_t1_loop i).trips) (c0_i32_1355 : BitVec 32) : Fin 4 → Nat :=
  let c27_1356 : Index := 27#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1354 : BitVec 32 := 2#32
  let v3227 : BitVec 32 := Scalar.muli v2263 c2_i32_1354
  let v3228 : BitVec 32 := Scalar.addi v3227 c0_i32_1355
  let v3229 : Index := Scalar.indexCast v3228
  let c0_1357 : Index := 0#32
  let c0_1358 : Index := 0#32
  ![27, v3229.toNat, 0, 0]
def k0_off65 (i : grid0.Coords) (k0_t1 : Fin (k0_t1_loop i).trips) (c0_i32_1360 : BitVec 32) : Fin 4 → Nat :=
  let c28_1361 : Index := 28#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1359 : BitVec 32 := 2#32
  let v3233 : BitVec 32 := Scalar.muli v2263 c2_i32_1359
  let v3234 : BitVec 32 := Scalar.addi v3233 c0_i32_1360
  let v3235 : Index := Scalar.indexCast v3234
  let c0_1362 : Index := 0#32
  let c0_1363 : Index := 0#32
  ![28, v3235.toNat, 0, 0]
def k0_off66 (i : grid0.Coords) (k0_t1 : Fin (k0_t1_loop i).trips) (c0_i32_1365 : BitVec 32) : Fin 4 → Nat :=
  let c29_1366 : Index := 29#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1364 : BitVec 32 := 2#32
  let v3239 : BitVec 32 := Scalar.muli v2263 c2_i32_1364
  let v3240 : BitVec 32 := Scalar.addi v3239 c0_i32_1365
  let v3241 : Index := Scalar.indexCast v3240
  let c0_1367 : Index := 0#32
  let c0_1368 : Index := 0#32
  ![29, v3241.toNat, 0, 0]
def k0_off67 (i : grid0.Coords) (k0_t1 : Fin (k0_t1_loop i).trips) (c0_i32_1370 : BitVec 32) : Fin 4 → Nat :=
  let c30_1371 : Index := 30#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1369 : BitVec 32 := 2#32
  let v3245 : BitVec 32 := Scalar.muli v2263 c2_i32_1369
  let v3246 : BitVec 32 := Scalar.addi v3245 c0_i32_1370
  let v3247 : Index := Scalar.indexCast v3246
  let c0_1372 : Index := 0#32
  let c0_1373 : Index := 0#32
  ![30, v3247.toNat, 0, 0]
def k0_off68 (i : grid0.Coords) (k0_t1 : Fin (k0_t1_loop i).trips) (c0_i32_1375 : BitVec 32) : Fin 4 → Nat :=
  let c31_1376 : Index := 31#32
  let c2_i32_956 : BitVec 32 := 2#32
  let c0_i32_33 : BitVec 32 := 0#32
  let c1_i32_35 : BitVec 32 := 1#32
  let arg17 : BitVec 32 := Scf.iv c0_i32_33 c1_i32_35 k0_t1
  let v2262 : BitVec 32 := Scalar.muli c2_i32_956 arg17
  let c1_i32_957 : BitVec 32 := 1#32
  let v2263 : BitVec 32 := Scalar.addi v2262 c1_i32_957
  let c2_i32_1374 : BitVec 32 := 2#32
  let v3251 : BitVec 32 := Scalar.muli v2263 c2_i32_1374
  let v3252 : BitVec 32 := Scalar.addi v3251 c0_i32_1375
  let v3253 : Index := Scalar.indexCast v3252
  let c0_1377 : Index := 0#32
  let c0_1378 : Index := 0#32
  ![31, v3253.toNat, 0, 0]
@[reducible] def k0_t2_loop (i : grid0.Coords) : Scf.Loop 32 :=
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let v67 : BitVec 32 := Scalar.addi c0_i32_33 v66
  let c1_i32_36 : BitVec 32 := 1#32
  ⟨v70, v67, c1_i32_36⟩
def k0_mult4 (i : grid0.Coords) (k0_t2 : Fin (k0_t2_loop i).trips) : BitVec 32 :=
  let c2_i32_156 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v301 : BitVec 32 := Scalar.muli c2_i32_156 arg17
  let c1_i32_157 : BitVec 32 := 1#32
  let v302 : BitVec 32 := Scalar.addi v301 c1_i32_157
  let c512_i32_158 : BitVec 32 := 512#32
  let v303 : BitVec 32 := Scalar.muli v302 c512_i32_158
  v303
def k0_off69 (i : grid0.Coords) (k0_t2 : Fin (k0_t2_loop i).trips) : Fin 3 → Nat :=
  let c0_159 : Index := 0#32
  let c2_i32_156 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v301 : BitVec 32 := Scalar.muli c2_i32_156 arg17
  let c1_i32_157 : BitVec 32 := 1#32
  let v302 : BitVec 32 := Scalar.addi v301 c1_i32_157
  let c512_i32_158 : BitVec 32 := 512#32
  let v303 : BitVec 32 := Scalar.muli v302 c512_i32_158
  let v304 : BitVec 32 := v303
  let v305 : Index := Scalar.indexCast v304
  let c0_160 : Index := 0#32
  ![0, v305.toNat, 0]
def k0_off70 (i : grid0.Coords) (k0_t2 : Fin (k0_t2_loop i).trips) : Fin 3 → Nat :=
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let v356 : Index := Scalar.indexCast v312
  let c0_181 : Index := 0#32
  let c0_182 : Index := 0#32
  ![v356.toNat, 0, 0]
def k0_off71 (i : grid0.Coords) (k0_t2 : Fin (k0_t2_loop i).trips) (c0_i32_419 : BitVec 32) : Fin 4 → Nat :=
  let c0_420 : Index := 0#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_418 : BitVec 32 := 2#32
  let v1114 : BitVec 32 := Scalar.muli v312 c2_i32_418
  let v1115 : BitVec 32 := Scalar.addi v1114 c0_i32_419
  let v1116 : Index := Scalar.indexCast v1115
  let c0_421 : Index := 0#32
  let c0_422 : Index := 0#32
  ![0, v1116.toNat, 0, 0]
def k0_off72 (i : grid0.Coords) (k0_t2 : Fin (k0_t2_loop i).trips) (c0_i32_424 : BitVec 32) : Fin 4 → Nat :=
  let c1_425 : Index := 1#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_423 : BitVec 32 := 2#32
  let v1120 : BitVec 32 := Scalar.muli v312 c2_i32_423
  let v1121 : BitVec 32 := Scalar.addi v1120 c0_i32_424
  let v1122 : Index := Scalar.indexCast v1121
  let c0_426 : Index := 0#32
  let c0_427 : Index := 0#32
  ![1, v1122.toNat, 0, 0]
def k0_off73 (i : grid0.Coords) (k0_t2 : Fin (k0_t2_loop i).trips) (c0_i32_429 : BitVec 32) : Fin 4 → Nat :=
  let c2 : Index := 2#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_428 : BitVec 32 := 2#32
  let v1126 : BitVec 32 := Scalar.muli v312 c2_i32_428
  let v1127 : BitVec 32 := Scalar.addi v1126 c0_i32_429
  let v1128 : Index := Scalar.indexCast v1127
  let c0_430 : Index := 0#32
  let c0_431 : Index := 0#32
  ![2, v1128.toNat, 0, 0]
def k0_off74 (i : grid0.Coords) (k0_t2 : Fin (k0_t2_loop i).trips) (c0_i32_433 : BitVec 32) : Fin 4 → Nat :=
  let c3 : Index := 3#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_432 : BitVec 32 := 2#32
  let v1132 : BitVec 32 := Scalar.muli v312 c2_i32_432
  let v1133 : BitVec 32 := Scalar.addi v1132 c0_i32_433
  let v1134 : Index := Scalar.indexCast v1133
  let c0_434 : Index := 0#32
  let c0_435 : Index := 0#32
  ![3, v1134.toNat, 0, 0]
def k0_off75 (i : grid0.Coords) (k0_t2 : Fin (k0_t2_loop i).trips) (c0_i32_437 : BitVec 32) : Fin 4 → Nat :=
  let c4 : Index := 4#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_436 : BitVec 32 := 2#32
  let v1138 : BitVec 32 := Scalar.muli v312 c2_i32_436
  let v1139 : BitVec 32 := Scalar.addi v1138 c0_i32_437
  let v1140 : Index := Scalar.indexCast v1139
  let c0_438 : Index := 0#32
  let c0_439 : Index := 0#32
  ![4, v1140.toNat, 0, 0]
def k0_off76 (i : grid0.Coords) (k0_t2 : Fin (k0_t2_loop i).trips) (c0_i32_441 : BitVec 32) : Fin 4 → Nat :=
  let c5 : Index := 5#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_440 : BitVec 32 := 2#32
  let v1144 : BitVec 32 := Scalar.muli v312 c2_i32_440
  let v1145 : BitVec 32 := Scalar.addi v1144 c0_i32_441
  let v1146 : Index := Scalar.indexCast v1145
  let c0_442 : Index := 0#32
  let c0_443 : Index := 0#32
  ![5, v1146.toNat, 0, 0]
def k0_off77 (i : grid0.Coords) (k0_t2 : Fin (k0_t2_loop i).trips) (c0_i32_445 : BitVec 32) : Fin 4 → Nat :=
  let c6 : Index := 6#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_444 : BitVec 32 := 2#32
  let v1150 : BitVec 32 := Scalar.muli v312 c2_i32_444
  let v1151 : BitVec 32 := Scalar.addi v1150 c0_i32_445
  let v1152 : Index := Scalar.indexCast v1151
  let c0_446 : Index := 0#32
  let c0_447 : Index := 0#32
  ![6, v1152.toNat, 0, 0]
def k0_off78 (i : grid0.Coords) (k0_t2 : Fin (k0_t2_loop i).trips) (c0_i32_449 : BitVec 32) : Fin 4 → Nat :=
  let c7 : Index := 7#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_448 : BitVec 32 := 2#32
  let v1156 : BitVec 32 := Scalar.muli v312 c2_i32_448
  let v1157 : BitVec 32 := Scalar.addi v1156 c0_i32_449
  let v1158 : Index := Scalar.indexCast v1157
  let c0_450 : Index := 0#32
  let c0_451 : Index := 0#32
  ![7, v1158.toNat, 0, 0]
def k0_off79 (i : grid0.Coords) (k0_t2 : Fin (k0_t2_loop i).trips) (c0_i32_453 : BitVec 32) : Fin 4 → Nat :=
  let c8 : Index := 8#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_452 : BitVec 32 := 2#32
  let v1162 : BitVec 32 := Scalar.muli v312 c2_i32_452
  let v1163 : BitVec 32 := Scalar.addi v1162 c0_i32_453
  let v1164 : Index := Scalar.indexCast v1163
  let c0_454 : Index := 0#32
  let c0_455 : Index := 0#32
  ![8, v1164.toNat, 0, 0]
def k0_off80 (i : grid0.Coords) (k0_t2 : Fin (k0_t2_loop i).trips) (c0_i32_457 : BitVec 32) : Fin 4 → Nat :=
  let c9 : Index := 9#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_456 : BitVec 32 := 2#32
  let v1168 : BitVec 32 := Scalar.muli v312 c2_i32_456
  let v1169 : BitVec 32 := Scalar.addi v1168 c0_i32_457
  let v1170 : Index := Scalar.indexCast v1169
  let c0_458 : Index := 0#32
  let c0_459 : Index := 0#32
  ![9, v1170.toNat, 0, 0]
def k0_off81 (i : grid0.Coords) (k0_t2 : Fin (k0_t2_loop i).trips) (c0_i32_461 : BitVec 32) : Fin 4 → Nat :=
  let c10 : Index := 10#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_460 : BitVec 32 := 2#32
  let v1174 : BitVec 32 := Scalar.muli v312 c2_i32_460
  let v1175 : BitVec 32 := Scalar.addi v1174 c0_i32_461
  let v1176 : Index := Scalar.indexCast v1175
  let c0_462 : Index := 0#32
  let c0_463 : Index := 0#32
  ![10, v1176.toNat, 0, 0]
def k0_off82 (i : grid0.Coords) (k0_t2 : Fin (k0_t2_loop i).trips) (c0_i32_465 : BitVec 32) : Fin 4 → Nat :=
  let c11 : Index := 11#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_464 : BitVec 32 := 2#32
  let v1180 : BitVec 32 := Scalar.muli v312 c2_i32_464
  let v1181 : BitVec 32 := Scalar.addi v1180 c0_i32_465
  let v1182 : Index := Scalar.indexCast v1181
  let c0_466 : Index := 0#32
  let c0_467 : Index := 0#32
  ![11, v1182.toNat, 0, 0]
def k0_off83 (i : grid0.Coords) (k0_t2 : Fin (k0_t2_loop i).trips) (c0_i32_469 : BitVec 32) : Fin 4 → Nat :=
  let c12 : Index := 12#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_468 : BitVec 32 := 2#32
  let v1186 : BitVec 32 := Scalar.muli v312 c2_i32_468
  let v1187 : BitVec 32 := Scalar.addi v1186 c0_i32_469
  let v1188 : Index := Scalar.indexCast v1187
  let c0_470 : Index := 0#32
  let c0_471 : Index := 0#32
  ![12, v1188.toNat, 0, 0]
def k0_off84 (i : grid0.Coords) (k0_t2 : Fin (k0_t2_loop i).trips) (c0_i32_473 : BitVec 32) : Fin 4 → Nat :=
  let c13 : Index := 13#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_472 : BitVec 32 := 2#32
  let v1192 : BitVec 32 := Scalar.muli v312 c2_i32_472
  let v1193 : BitVec 32 := Scalar.addi v1192 c0_i32_473
  let v1194 : Index := Scalar.indexCast v1193
  let c0_474 : Index := 0#32
  let c0_475 : Index := 0#32
  ![13, v1194.toNat, 0, 0]
def k0_off85 (i : grid0.Coords) (k0_t2 : Fin (k0_t2_loop i).trips) (c0_i32_477 : BitVec 32) : Fin 4 → Nat :=
  let c14 : Index := 14#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_476 : BitVec 32 := 2#32
  let v1198 : BitVec 32 := Scalar.muli v312 c2_i32_476
  let v1199 : BitVec 32 := Scalar.addi v1198 c0_i32_477
  let v1200 : Index := Scalar.indexCast v1199
  let c0_478 : Index := 0#32
  let c0_479 : Index := 0#32
  ![14, v1200.toNat, 0, 0]
def k0_off86 (i : grid0.Coords) (k0_t2 : Fin (k0_t2_loop i).trips) (c0_i32_481 : BitVec 32) : Fin 4 → Nat :=
  let c15 : Index := 15#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_480 : BitVec 32 := 2#32
  let v1204 : BitVec 32 := Scalar.muli v312 c2_i32_480
  let v1205 : BitVec 32 := Scalar.addi v1204 c0_i32_481
  let v1206 : Index := Scalar.indexCast v1205
  let c0_482 : Index := 0#32
  let c0_483 : Index := 0#32
  ![15, v1206.toNat, 0, 0]
def k0_off87 (i : grid0.Coords) (k0_t2 : Fin (k0_t2_loop i).trips) (c0_i32_485 : BitVec 32) : Fin 4 → Nat :=
  let c16 : Index := 16#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_484 : BitVec 32 := 2#32
  let v1210 : BitVec 32 := Scalar.muli v312 c2_i32_484
  let v1211 : BitVec 32 := Scalar.addi v1210 c0_i32_485
  let v1212 : Index := Scalar.indexCast v1211
  let c0_486 : Index := 0#32
  let c0_487 : Index := 0#32
  ![16, v1212.toNat, 0, 0]
def k0_off88 (i : grid0.Coords) (k0_t2 : Fin (k0_t2_loop i).trips) (c0_i32_489 : BitVec 32) : Fin 4 → Nat :=
  let c17 : Index := 17#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_488 : BitVec 32 := 2#32
  let v1216 : BitVec 32 := Scalar.muli v312 c2_i32_488
  let v1217 : BitVec 32 := Scalar.addi v1216 c0_i32_489
  let v1218 : Index := Scalar.indexCast v1217
  let c0_490 : Index := 0#32
  let c0_491 : Index := 0#32
  ![17, v1218.toNat, 0, 0]
def k0_off89 (i : grid0.Coords) (k0_t2 : Fin (k0_t2_loop i).trips) (c0_i32_493 : BitVec 32) : Fin 4 → Nat :=
  let c18 : Index := 18#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_492 : BitVec 32 := 2#32
  let v1222 : BitVec 32 := Scalar.muli v312 c2_i32_492
  let v1223 : BitVec 32 := Scalar.addi v1222 c0_i32_493
  let v1224 : Index := Scalar.indexCast v1223
  let c0_494 : Index := 0#32
  let c0_495 : Index := 0#32
  ![18, v1224.toNat, 0, 0]
def k0_off90 (i : grid0.Coords) (k0_t2 : Fin (k0_t2_loop i).trips) (c0_i32_497 : BitVec 32) : Fin 4 → Nat :=
  let c19 : Index := 19#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_496 : BitVec 32 := 2#32
  let v1228 : BitVec 32 := Scalar.muli v312 c2_i32_496
  let v1229 : BitVec 32 := Scalar.addi v1228 c0_i32_497
  let v1230 : Index := Scalar.indexCast v1229
  let c0_498 : Index := 0#32
  let c0_499 : Index := 0#32
  ![19, v1230.toNat, 0, 0]
def k0_off91 (i : grid0.Coords) (k0_t2 : Fin (k0_t2_loop i).trips) (c0_i32_501 : BitVec 32) : Fin 4 → Nat :=
  let c20 : Index := 20#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_500 : BitVec 32 := 2#32
  let v1234 : BitVec 32 := Scalar.muli v312 c2_i32_500
  let v1235 : BitVec 32 := Scalar.addi v1234 c0_i32_501
  let v1236 : Index := Scalar.indexCast v1235
  let c0_502 : Index := 0#32
  let c0_503 : Index := 0#32
  ![20, v1236.toNat, 0, 0]
def k0_off92 (i : grid0.Coords) (k0_t2 : Fin (k0_t2_loop i).trips) (c0_i32_505 : BitVec 32) : Fin 4 → Nat :=
  let c21 : Index := 21#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_504 : BitVec 32 := 2#32
  let v1240 : BitVec 32 := Scalar.muli v312 c2_i32_504
  let v1241 : BitVec 32 := Scalar.addi v1240 c0_i32_505
  let v1242 : Index := Scalar.indexCast v1241
  let c0_506 : Index := 0#32
  let c0_507 : Index := 0#32
  ![21, v1242.toNat, 0, 0]
def k0_off93 (i : grid0.Coords) (k0_t2 : Fin (k0_t2_loop i).trips) (c0_i32_509 : BitVec 32) : Fin 4 → Nat :=
  let c22 : Index := 22#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_508 : BitVec 32 := 2#32
  let v1246 : BitVec 32 := Scalar.muli v312 c2_i32_508
  let v1247 : BitVec 32 := Scalar.addi v1246 c0_i32_509
  let v1248 : Index := Scalar.indexCast v1247
  let c0_510 : Index := 0#32
  let c0_511 : Index := 0#32
  ![22, v1248.toNat, 0, 0]
def k0_off94 (i : grid0.Coords) (k0_t2 : Fin (k0_t2_loop i).trips) (c0_i32_513 : BitVec 32) : Fin 4 → Nat :=
  let c23 : Index := 23#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_512 : BitVec 32 := 2#32
  let v1252 : BitVec 32 := Scalar.muli v312 c2_i32_512
  let v1253 : BitVec 32 := Scalar.addi v1252 c0_i32_513
  let v1254 : Index := Scalar.indexCast v1253
  let c0_514 : Index := 0#32
  let c0_515 : Index := 0#32
  ![23, v1254.toNat, 0, 0]
def k0_off95 (i : grid0.Coords) (k0_t2 : Fin (k0_t2_loop i).trips) (c0_i32_517 : BitVec 32) : Fin 4 → Nat :=
  let c24 : Index := 24#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_516 : BitVec 32 := 2#32
  let v1258 : BitVec 32 := Scalar.muli v312 c2_i32_516
  let v1259 : BitVec 32 := Scalar.addi v1258 c0_i32_517
  let v1260 : Index := Scalar.indexCast v1259
  let c0_518 : Index := 0#32
  let c0_519 : Index := 0#32
  ![24, v1260.toNat, 0, 0]
def k0_off96 (i : grid0.Coords) (k0_t2 : Fin (k0_t2_loop i).trips) (c0_i32_521 : BitVec 32) : Fin 4 → Nat :=
  let c25 : Index := 25#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_520 : BitVec 32 := 2#32
  let v1264 : BitVec 32 := Scalar.muli v312 c2_i32_520
  let v1265 : BitVec 32 := Scalar.addi v1264 c0_i32_521
  let v1266 : Index := Scalar.indexCast v1265
  let c0_522 : Index := 0#32
  let c0_523 : Index := 0#32
  ![25, v1266.toNat, 0, 0]
def k0_off97 (i : grid0.Coords) (k0_t2 : Fin (k0_t2_loop i).trips) (c0_i32_525 : BitVec 32) : Fin 4 → Nat :=
  let c26 : Index := 26#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_524 : BitVec 32 := 2#32
  let v1270 : BitVec 32 := Scalar.muli v312 c2_i32_524
  let v1271 : BitVec 32 := Scalar.addi v1270 c0_i32_525
  let v1272 : Index := Scalar.indexCast v1271
  let c0_526 : Index := 0#32
  let c0_527 : Index := 0#32
  ![26, v1272.toNat, 0, 0]
def k0_off98 (i : grid0.Coords) (k0_t2 : Fin (k0_t2_loop i).trips) (c0_i32_529 : BitVec 32) : Fin 4 → Nat :=
  let c27 : Index := 27#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_528 : BitVec 32 := 2#32
  let v1276 : BitVec 32 := Scalar.muli v312 c2_i32_528
  let v1277 : BitVec 32 := Scalar.addi v1276 c0_i32_529
  let v1278 : Index := Scalar.indexCast v1277
  let c0_530 : Index := 0#32
  let c0_531 : Index := 0#32
  ![27, v1278.toNat, 0, 0]
def k0_off99 (i : grid0.Coords) (k0_t2 : Fin (k0_t2_loop i).trips) (c0_i32_533 : BitVec 32) : Fin 4 → Nat :=
  let c28 : Index := 28#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_532 : BitVec 32 := 2#32
  let v1282 : BitVec 32 := Scalar.muli v312 c2_i32_532
  let v1283 : BitVec 32 := Scalar.addi v1282 c0_i32_533
  let v1284 : Index := Scalar.indexCast v1283
  let c0_534 : Index := 0#32
  let c0_535 : Index := 0#32
  ![28, v1284.toNat, 0, 0]
def k0_off100 (i : grid0.Coords) (k0_t2 : Fin (k0_t2_loop i).trips) (c0_i32_537 : BitVec 32) : Fin 4 → Nat :=
  let c29 : Index := 29#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_536 : BitVec 32 := 2#32
  let v1288 : BitVec 32 := Scalar.muli v312 c2_i32_536
  let v1289 : BitVec 32 := Scalar.addi v1288 c0_i32_537
  let v1290 : Index := Scalar.indexCast v1289
  let c0_538 : Index := 0#32
  let c0_539 : Index := 0#32
  ![29, v1290.toNat, 0, 0]
def k0_off101 (i : grid0.Coords) (k0_t2 : Fin (k0_t2_loop i).trips) (c0_i32_541 : BitVec 32) : Fin 4 → Nat :=
  let c30 : Index := 30#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_540 : BitVec 32 := 2#32
  let v1294 : BitVec 32 := Scalar.muli v312 c2_i32_540
  let v1295 : BitVec 32 := Scalar.addi v1294 c0_i32_541
  let v1296 : Index := Scalar.indexCast v1295
  let c0_542 : Index := 0#32
  let c0_543 : Index := 0#32
  ![30, v1296.toNat, 0, 0]
def k0_off102 (i : grid0.Coords) (k0_t2 : Fin (k0_t2_loop i).trips) (c0_i32_545 : BitVec 32) : Fin 4 → Nat :=
  let c31 : Index := 31#32
  let c2_i32_164 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v312 : BitVec 32 := Scalar.muli c2_i32_164 arg17
  let c2_i32_544 : BitVec 32 := 2#32
  let v1300 : BitVec 32 := Scalar.muli v312 c2_i32_544
  let v1301 : BitVec 32 := Scalar.addi v1300 c0_i32_545
  let v1302 : Index := Scalar.indexCast v1301
  let c0_546 : Index := 0#32
  let c0_547 : Index := 0#32
  ![31, v1302.toNat, 0, 0]
def k0_mult5 (i : grid0.Coords) (k0_t2 : Fin (k0_t2_loop i).trips) : BitVec 32 :=
  let c2_i32_948 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2250 : BitVec 32 := Scalar.muli c2_i32_948 arg17
  let c2_i32_949 : BitVec 32 := 2#32
  let v2251 : BitVec 32 := Scalar.addi v2250 c2_i32_949
  let c15_i32 : BitVec 32 := 15#32
  let v2252 : BitVec 32 := Scalar.minsi v2251 c15_i32
  let c512_i32_950 : BitVec 32 := 512#32
  let v2253 : BitVec 32 := Scalar.muli v2252 c512_i32_950
  v2253
def k0_off103 (i : grid0.Coords) (k0_t2 : Fin (k0_t2_loop i).trips) : Fin 3 → Nat :=
  let c0_951 : Index := 0#32
  let c2_i32_948 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2250 : BitVec 32 := Scalar.muli c2_i32_948 arg17
  let c2_i32_949 : BitVec 32 := 2#32
  let v2251 : BitVec 32 := Scalar.addi v2250 c2_i32_949
  let c15_i32 : BitVec 32 := 15#32
  let v2252 : BitVec 32 := Scalar.minsi v2251 c15_i32
  let c512_i32_950 : BitVec 32 := 512#32
  let v2253 : BitVec 32 := Scalar.muli v2252 c512_i32_950
  let v2254 : BitVec 32 := v2253
  let v2255 : Index := Scalar.indexCast v2254
  let c0_952 : Index := 0#32
  ![0, v2255.toNat, 0]
def k0_off104 (i : grid0.Coords) (k0_t2 : Fin (k0_t2_loop i).trips) : Fin 3 → Nat :=
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let v2307 : Index := Scalar.indexCast v2263
  let c0_976 : Index := 0#32
  let c0_977 : Index := 0#32
  ![v2307.toNat, 0, 0]
def k0_off105 (i : grid0.Coords) (k0_t2 : Fin (k0_t2_loop i).trips) (c0_i32_1220 : BitVec 32) : Fin 4 → Nat :=
  let c0_1221 : Index := 0#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1219 : BitVec 32 := 2#32
  let v3065 : BitVec 32 := Scalar.muli v2263 c2_i32_1219
  let v3066 : BitVec 32 := Scalar.addi v3065 c0_i32_1220
  let v3067 : Index := Scalar.indexCast v3066
  let c0_1222 : Index := 0#32
  let c0_1223 : Index := 0#32
  ![0, v3067.toNat, 0, 0]
def k0_off106 (i : grid0.Coords) (k0_t2 : Fin (k0_t2_loop i).trips) (c0_i32_1225 : BitVec 32) : Fin 4 → Nat :=
  let c1_1226 : Index := 1#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1224 : BitVec 32 := 2#32
  let v3071 : BitVec 32 := Scalar.muli v2263 c2_i32_1224
  let v3072 : BitVec 32 := Scalar.addi v3071 c0_i32_1225
  let v3073 : Index := Scalar.indexCast v3072
  let c0_1227 : Index := 0#32
  let c0_1228 : Index := 0#32
  ![1, v3073.toNat, 0, 0]
def k0_off107 (i : grid0.Coords) (k0_t2 : Fin (k0_t2_loop i).trips) (c0_i32_1230 : BitVec 32) : Fin 4 → Nat :=
  let c2_1231 : Index := 2#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1229 : BitVec 32 := 2#32
  let v3077 : BitVec 32 := Scalar.muli v2263 c2_i32_1229
  let v3078 : BitVec 32 := Scalar.addi v3077 c0_i32_1230
  let v3079 : Index := Scalar.indexCast v3078
  let c0_1232 : Index := 0#32
  let c0_1233 : Index := 0#32
  ![2, v3079.toNat, 0, 0]
def k0_off108 (i : grid0.Coords) (k0_t2 : Fin (k0_t2_loop i).trips) (c0_i32_1235 : BitVec 32) : Fin 4 → Nat :=
  let c3_1236 : Index := 3#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1234 : BitVec 32 := 2#32
  let v3083 : BitVec 32 := Scalar.muli v2263 c2_i32_1234
  let v3084 : BitVec 32 := Scalar.addi v3083 c0_i32_1235
  let v3085 : Index := Scalar.indexCast v3084
  let c0_1237 : Index := 0#32
  let c0_1238 : Index := 0#32
  ![3, v3085.toNat, 0, 0]
def k0_off109 (i : grid0.Coords) (k0_t2 : Fin (k0_t2_loop i).trips) (c0_i32_1240 : BitVec 32) : Fin 4 → Nat :=
  let c4_1241 : Index := 4#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1239 : BitVec 32 := 2#32
  let v3089 : BitVec 32 := Scalar.muli v2263 c2_i32_1239
  let v3090 : BitVec 32 := Scalar.addi v3089 c0_i32_1240
  let v3091 : Index := Scalar.indexCast v3090
  let c0_1242 : Index := 0#32
  let c0_1243 : Index := 0#32
  ![4, v3091.toNat, 0, 0]
def k0_off110 (i : grid0.Coords) (k0_t2 : Fin (k0_t2_loop i).trips) (c0_i32_1245 : BitVec 32) : Fin 4 → Nat :=
  let c5_1246 : Index := 5#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1244 : BitVec 32 := 2#32
  let v3095 : BitVec 32 := Scalar.muli v2263 c2_i32_1244
  let v3096 : BitVec 32 := Scalar.addi v3095 c0_i32_1245
  let v3097 : Index := Scalar.indexCast v3096
  let c0_1247 : Index := 0#32
  let c0_1248 : Index := 0#32
  ![5, v3097.toNat, 0, 0]
def k0_off111 (i : grid0.Coords) (k0_t2 : Fin (k0_t2_loop i).trips) (c0_i32_1250 : BitVec 32) : Fin 4 → Nat :=
  let c6_1251 : Index := 6#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1249 : BitVec 32 := 2#32
  let v3101 : BitVec 32 := Scalar.muli v2263 c2_i32_1249
  let v3102 : BitVec 32 := Scalar.addi v3101 c0_i32_1250
  let v3103 : Index := Scalar.indexCast v3102
  let c0_1252 : Index := 0#32
  let c0_1253 : Index := 0#32
  ![6, v3103.toNat, 0, 0]
def k0_off112 (i : grid0.Coords) (k0_t2 : Fin (k0_t2_loop i).trips) (c0_i32_1255 : BitVec 32) : Fin 4 → Nat :=
  let c7_1256 : Index := 7#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1254 : BitVec 32 := 2#32
  let v3107 : BitVec 32 := Scalar.muli v2263 c2_i32_1254
  let v3108 : BitVec 32 := Scalar.addi v3107 c0_i32_1255
  let v3109 : Index := Scalar.indexCast v3108
  let c0_1257 : Index := 0#32
  let c0_1258 : Index := 0#32
  ![7, v3109.toNat, 0, 0]
def k0_off113 (i : grid0.Coords) (k0_t2 : Fin (k0_t2_loop i).trips) (c0_i32_1260 : BitVec 32) : Fin 4 → Nat :=
  let c8_1261 : Index := 8#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1259 : BitVec 32 := 2#32
  let v3113 : BitVec 32 := Scalar.muli v2263 c2_i32_1259
  let v3114 : BitVec 32 := Scalar.addi v3113 c0_i32_1260
  let v3115 : Index := Scalar.indexCast v3114
  let c0_1262 : Index := 0#32
  let c0_1263 : Index := 0#32
  ![8, v3115.toNat, 0, 0]
def k0_off114 (i : grid0.Coords) (k0_t2 : Fin (k0_t2_loop i).trips) (c0_i32_1265 : BitVec 32) : Fin 4 → Nat :=
  let c9_1266 : Index := 9#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1264 : BitVec 32 := 2#32
  let v3119 : BitVec 32 := Scalar.muli v2263 c2_i32_1264
  let v3120 : BitVec 32 := Scalar.addi v3119 c0_i32_1265
  let v3121 : Index := Scalar.indexCast v3120
  let c0_1267 : Index := 0#32
  let c0_1268 : Index := 0#32
  ![9, v3121.toNat, 0, 0]
def k0_off115 (i : grid0.Coords) (k0_t2 : Fin (k0_t2_loop i).trips) (c0_i32_1270 : BitVec 32) : Fin 4 → Nat :=
  let c10_1271 : Index := 10#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1269 : BitVec 32 := 2#32
  let v3125 : BitVec 32 := Scalar.muli v2263 c2_i32_1269
  let v3126 : BitVec 32 := Scalar.addi v3125 c0_i32_1270
  let v3127 : Index := Scalar.indexCast v3126
  let c0_1272 : Index := 0#32
  let c0_1273 : Index := 0#32
  ![10, v3127.toNat, 0, 0]
def k0_off116 (i : grid0.Coords) (k0_t2 : Fin (k0_t2_loop i).trips) (c0_i32_1275 : BitVec 32) : Fin 4 → Nat :=
  let c11_1276 : Index := 11#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1274 : BitVec 32 := 2#32
  let v3131 : BitVec 32 := Scalar.muli v2263 c2_i32_1274
  let v3132 : BitVec 32 := Scalar.addi v3131 c0_i32_1275
  let v3133 : Index := Scalar.indexCast v3132
  let c0_1277 : Index := 0#32
  let c0_1278 : Index := 0#32
  ![11, v3133.toNat, 0, 0]
def k0_off117 (i : grid0.Coords) (k0_t2 : Fin (k0_t2_loop i).trips) (c0_i32_1280 : BitVec 32) : Fin 4 → Nat :=
  let c12_1281 : Index := 12#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1279 : BitVec 32 := 2#32
  let v3137 : BitVec 32 := Scalar.muli v2263 c2_i32_1279
  let v3138 : BitVec 32 := Scalar.addi v3137 c0_i32_1280
  let v3139 : Index := Scalar.indexCast v3138
  let c0_1282 : Index := 0#32
  let c0_1283 : Index := 0#32
  ![12, v3139.toNat, 0, 0]
def k0_off118 (i : grid0.Coords) (k0_t2 : Fin (k0_t2_loop i).trips) (c0_i32_1285 : BitVec 32) : Fin 4 → Nat :=
  let c13_1286 : Index := 13#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1284 : BitVec 32 := 2#32
  let v3143 : BitVec 32 := Scalar.muli v2263 c2_i32_1284
  let v3144 : BitVec 32 := Scalar.addi v3143 c0_i32_1285
  let v3145 : Index := Scalar.indexCast v3144
  let c0_1287 : Index := 0#32
  let c0_1288 : Index := 0#32
  ![13, v3145.toNat, 0, 0]
def k0_off119 (i : grid0.Coords) (k0_t2 : Fin (k0_t2_loop i).trips) (c0_i32_1290 : BitVec 32) : Fin 4 → Nat :=
  let c14_1291 : Index := 14#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1289 : BitVec 32 := 2#32
  let v3149 : BitVec 32 := Scalar.muli v2263 c2_i32_1289
  let v3150 : BitVec 32 := Scalar.addi v3149 c0_i32_1290
  let v3151 : Index := Scalar.indexCast v3150
  let c0_1292 : Index := 0#32
  let c0_1293 : Index := 0#32
  ![14, v3151.toNat, 0, 0]
def k0_off120 (i : grid0.Coords) (k0_t2 : Fin (k0_t2_loop i).trips) (c0_i32_1295 : BitVec 32) : Fin 4 → Nat :=
  let c15_1296 : Index := 15#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1294 : BitVec 32 := 2#32
  let v3155 : BitVec 32 := Scalar.muli v2263 c2_i32_1294
  let v3156 : BitVec 32 := Scalar.addi v3155 c0_i32_1295
  let v3157 : Index := Scalar.indexCast v3156
  let c0_1297 : Index := 0#32
  let c0_1298 : Index := 0#32
  ![15, v3157.toNat, 0, 0]
def k0_off121 (i : grid0.Coords) (k0_t2 : Fin (k0_t2_loop i).trips) (c0_i32_1300 : BitVec 32) : Fin 4 → Nat :=
  let c16_1301 : Index := 16#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1299 : BitVec 32 := 2#32
  let v3161 : BitVec 32 := Scalar.muli v2263 c2_i32_1299
  let v3162 : BitVec 32 := Scalar.addi v3161 c0_i32_1300
  let v3163 : Index := Scalar.indexCast v3162
  let c0_1302 : Index := 0#32
  let c0_1303 : Index := 0#32
  ![16, v3163.toNat, 0, 0]
def k0_off122 (i : grid0.Coords) (k0_t2 : Fin (k0_t2_loop i).trips) (c0_i32_1305 : BitVec 32) : Fin 4 → Nat :=
  let c17_1306 : Index := 17#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1304 : BitVec 32 := 2#32
  let v3167 : BitVec 32 := Scalar.muli v2263 c2_i32_1304
  let v3168 : BitVec 32 := Scalar.addi v3167 c0_i32_1305
  let v3169 : Index := Scalar.indexCast v3168
  let c0_1307 : Index := 0#32
  let c0_1308 : Index := 0#32
  ![17, v3169.toNat, 0, 0]
def k0_off123 (i : grid0.Coords) (k0_t2 : Fin (k0_t2_loop i).trips) (c0_i32_1310 : BitVec 32) : Fin 4 → Nat :=
  let c18_1311 : Index := 18#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1309 : BitVec 32 := 2#32
  let v3173 : BitVec 32 := Scalar.muli v2263 c2_i32_1309
  let v3174 : BitVec 32 := Scalar.addi v3173 c0_i32_1310
  let v3175 : Index := Scalar.indexCast v3174
  let c0_1312 : Index := 0#32
  let c0_1313 : Index := 0#32
  ![18, v3175.toNat, 0, 0]
def k0_off124 (i : grid0.Coords) (k0_t2 : Fin (k0_t2_loop i).trips) (c0_i32_1315 : BitVec 32) : Fin 4 → Nat :=
  let c19_1316 : Index := 19#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1314 : BitVec 32 := 2#32
  let v3179 : BitVec 32 := Scalar.muli v2263 c2_i32_1314
  let v3180 : BitVec 32 := Scalar.addi v3179 c0_i32_1315
  let v3181 : Index := Scalar.indexCast v3180
  let c0_1317 : Index := 0#32
  let c0_1318 : Index := 0#32
  ![19, v3181.toNat, 0, 0]
def k0_off125 (i : grid0.Coords) (k0_t2 : Fin (k0_t2_loop i).trips) (c0_i32_1320 : BitVec 32) : Fin 4 → Nat :=
  let c20_1321 : Index := 20#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1319 : BitVec 32 := 2#32
  let v3185 : BitVec 32 := Scalar.muli v2263 c2_i32_1319
  let v3186 : BitVec 32 := Scalar.addi v3185 c0_i32_1320
  let v3187 : Index := Scalar.indexCast v3186
  let c0_1322 : Index := 0#32
  let c0_1323 : Index := 0#32
  ![20, v3187.toNat, 0, 0]
def k0_off126 (i : grid0.Coords) (k0_t2 : Fin (k0_t2_loop i).trips) (c0_i32_1325 : BitVec 32) : Fin 4 → Nat :=
  let c21_1326 : Index := 21#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1324 : BitVec 32 := 2#32
  let v3191 : BitVec 32 := Scalar.muli v2263 c2_i32_1324
  let v3192 : BitVec 32 := Scalar.addi v3191 c0_i32_1325
  let v3193 : Index := Scalar.indexCast v3192
  let c0_1327 : Index := 0#32
  let c0_1328 : Index := 0#32
  ![21, v3193.toNat, 0, 0]
def k0_off127 (i : grid0.Coords) (k0_t2 : Fin (k0_t2_loop i).trips) (c0_i32_1330 : BitVec 32) : Fin 4 → Nat :=
  let c22_1331 : Index := 22#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1329 : BitVec 32 := 2#32
  let v3197 : BitVec 32 := Scalar.muli v2263 c2_i32_1329
  let v3198 : BitVec 32 := Scalar.addi v3197 c0_i32_1330
  let v3199 : Index := Scalar.indexCast v3198
  let c0_1332 : Index := 0#32
  let c0_1333 : Index := 0#32
  ![22, v3199.toNat, 0, 0]
def k0_off128 (i : grid0.Coords) (k0_t2 : Fin (k0_t2_loop i).trips) (c0_i32_1335 : BitVec 32) : Fin 4 → Nat :=
  let c23_1336 : Index := 23#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1334 : BitVec 32 := 2#32
  let v3203 : BitVec 32 := Scalar.muli v2263 c2_i32_1334
  let v3204 : BitVec 32 := Scalar.addi v3203 c0_i32_1335
  let v3205 : Index := Scalar.indexCast v3204
  let c0_1337 : Index := 0#32
  let c0_1338 : Index := 0#32
  ![23, v3205.toNat, 0, 0]
def k0_off129 (i : grid0.Coords) (k0_t2 : Fin (k0_t2_loop i).trips) (c0_i32_1340 : BitVec 32) : Fin 4 → Nat :=
  let c24_1341 : Index := 24#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1339 : BitVec 32 := 2#32
  let v3209 : BitVec 32 := Scalar.muli v2263 c2_i32_1339
  let v3210 : BitVec 32 := Scalar.addi v3209 c0_i32_1340
  let v3211 : Index := Scalar.indexCast v3210
  let c0_1342 : Index := 0#32
  let c0_1343 : Index := 0#32
  ![24, v3211.toNat, 0, 0]
def k0_off130 (i : grid0.Coords) (k0_t2 : Fin (k0_t2_loop i).trips) (c0_i32_1345 : BitVec 32) : Fin 4 → Nat :=
  let c25_1346 : Index := 25#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1344 : BitVec 32 := 2#32
  let v3215 : BitVec 32 := Scalar.muli v2263 c2_i32_1344
  let v3216 : BitVec 32 := Scalar.addi v3215 c0_i32_1345
  let v3217 : Index := Scalar.indexCast v3216
  let c0_1347 : Index := 0#32
  let c0_1348 : Index := 0#32
  ![25, v3217.toNat, 0, 0]
def k0_off131 (i : grid0.Coords) (k0_t2 : Fin (k0_t2_loop i).trips) (c0_i32_1350 : BitVec 32) : Fin 4 → Nat :=
  let c26_1351 : Index := 26#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1349 : BitVec 32 := 2#32
  let v3221 : BitVec 32 := Scalar.muli v2263 c2_i32_1349
  let v3222 : BitVec 32 := Scalar.addi v3221 c0_i32_1350
  let v3223 : Index := Scalar.indexCast v3222
  let c0_1352 : Index := 0#32
  let c0_1353 : Index := 0#32
  ![26, v3223.toNat, 0, 0]
def k0_off132 (i : grid0.Coords) (k0_t2 : Fin (k0_t2_loop i).trips) (c0_i32_1355 : BitVec 32) : Fin 4 → Nat :=
  let c27_1356 : Index := 27#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1354 : BitVec 32 := 2#32
  let v3227 : BitVec 32 := Scalar.muli v2263 c2_i32_1354
  let v3228 : BitVec 32 := Scalar.addi v3227 c0_i32_1355
  let v3229 : Index := Scalar.indexCast v3228
  let c0_1357 : Index := 0#32
  let c0_1358 : Index := 0#32
  ![27, v3229.toNat, 0, 0]
def k0_off133 (i : grid0.Coords) (k0_t2 : Fin (k0_t2_loop i).trips) (c0_i32_1360 : BitVec 32) : Fin 4 → Nat :=
  let c28_1361 : Index := 28#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1359 : BitVec 32 := 2#32
  let v3233 : BitVec 32 := Scalar.muli v2263 c2_i32_1359
  let v3234 : BitVec 32 := Scalar.addi v3233 c0_i32_1360
  let v3235 : Index := Scalar.indexCast v3234
  let c0_1362 : Index := 0#32
  let c0_1363 : Index := 0#32
  ![28, v3235.toNat, 0, 0]
def k0_off134 (i : grid0.Coords) (k0_t2 : Fin (k0_t2_loop i).trips) (c0_i32_1365 : BitVec 32) : Fin 4 → Nat :=
  let c29_1366 : Index := 29#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1364 : BitVec 32 := 2#32
  let v3239 : BitVec 32 := Scalar.muli v2263 c2_i32_1364
  let v3240 : BitVec 32 := Scalar.addi v3239 c0_i32_1365
  let v3241 : Index := Scalar.indexCast v3240
  let c0_1367 : Index := 0#32
  let c0_1368 : Index := 0#32
  ![29, v3241.toNat, 0, 0]
def k0_off135 (i : grid0.Coords) (k0_t2 : Fin (k0_t2_loop i).trips) (c0_i32_1370 : BitVec 32) : Fin 4 → Nat :=
  let c30_1371 : Index := 30#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1369 : BitVec 32 := 2#32
  let v3245 : BitVec 32 := Scalar.muli v2263 c2_i32_1369
  let v3246 : BitVec 32 := Scalar.addi v3245 c0_i32_1370
  let v3247 : Index := Scalar.indexCast v3246
  let c0_1372 : Index := 0#32
  let c0_1373 : Index := 0#32
  ![30, v3247.toNat, 0, 0]
def k0_off136 (i : grid0.Coords) (k0_t2 : Fin (k0_t2_loop i).trips) (c0_i32_1375 : BitVec 32) : Fin 4 → Nat :=
  let c31_1376 : Index := 31#32
  let c2_i32_956 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v66 : BitVec 32 := Scalar.subi v45 c0_i32_33
  let c1_i32_34 : BitVec 32 := 1#32
  let v68 : BitVec 32 := Scalar.divsi v66 c1_i32_34
  let v69 : BitVec 32 := Scalar.muli v68 c1_i32_34
  let v70 : BitVec 32 := Scalar.addi c0_i32_33 v69
  let c1_i32_36 : BitVec 32 := 1#32
  let arg17 : BitVec 32 := Scf.iv v70 c1_i32_36 k0_t2
  let v2262 : BitVec 32 := Scalar.muli c2_i32_956 arg17
  let c1_i32_957 : BitVec 32 := 1#32
  let v2263 : BitVec 32 := Scalar.addi v2262 c1_i32_957
  let c2_i32_1374 : BitVec 32 := 2#32
  let v3251 : BitVec 32 := Scalar.muli v2263 c2_i32_1374
  let v3252 : BitVec 32 := Scalar.addi v3251 c0_i32_1375
  let v3253 : Index := Scalar.indexCast v3252
  let c0_1377 : Index := 0#32
  let c0_1378 : Index := 0#32
  ![31, v3253.toNat, 0, 0]
def k0_cond2 (i : grid0.Coords) : BitVec 1 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v18 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let c1_i32_43 : BitVec 32 := 1#32
  let v81 : BitVec 1 := Scalar.cmpi .eq v80 c1_i32_43
  let v82 : BitVec 32 := Scalar.extui v81
  let c0_i32_44 : BitVec 32 := 0#32
  let v83 : BitVec 1 := Scalar.cmpi .ne v82 c0_i32_44
  v83

def k0_off137 (i : grid0.Coords) : Fin 3 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let v345 : Index := Scalar.indexCast v301
  let c0_173 : Index := 0#32
  let c0_174 : Index := 0#32
  ![v345.toNat, 0, 0]
def k0_off138 (i : grid0.Coords) (c0_i32_411 : BitVec 32) : Fin 4 → Nat :=
  let c0_412 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_410 : BitVec 32 := 2#32
  let v1103 : BitVec 32 := Scalar.muli v301 c2_i32_410
  let v1104 : BitVec 32 := Scalar.addi v1103 c0_i32_411
  let v1105 : Index := Scalar.indexCast v1104
  let c0_413 : Index := 0#32
  let c0_414 : Index := 0#32
  ![0, v1105.toNat, 0, 0]
def k0_off139 (i : grid0.Coords) (c0_i32_416 : BitVec 32) : Fin 4 → Nat :=
  let c1_417 : Index := 1#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_415 : BitVec 32 := 2#32
  let v1109 : BitVec 32 := Scalar.muli v301 c2_i32_415
  let v1110 : BitVec 32 := Scalar.addi v1109 c0_i32_416
  let v1111 : Index := Scalar.indexCast v1110
  let c0_418 : Index := 0#32
  let c0_419 : Index := 0#32
  ![1, v1111.toNat, 0, 0]
def k0_off140 (i : grid0.Coords) (c0_i32_421 : BitVec 32) : Fin 4 → Nat :=
  let c2 : Index := 2#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_420 : BitVec 32 := 2#32
  let v1115 : BitVec 32 := Scalar.muli v301 c2_i32_420
  let v1116 : BitVec 32 := Scalar.addi v1115 c0_i32_421
  let v1117 : Index := Scalar.indexCast v1116
  let c0_422 : Index := 0#32
  let c0_423 : Index := 0#32
  ![2, v1117.toNat, 0, 0]
def k0_off141 (i : grid0.Coords) (c0_i32_425 : BitVec 32) : Fin 4 → Nat :=
  let c3 : Index := 3#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_424 : BitVec 32 := 2#32
  let v1121 : BitVec 32 := Scalar.muli v301 c2_i32_424
  let v1122 : BitVec 32 := Scalar.addi v1121 c0_i32_425
  let v1123 : Index := Scalar.indexCast v1122
  let c0_426 : Index := 0#32
  let c0_427 : Index := 0#32
  ![3, v1123.toNat, 0, 0]
def k0_off142 (i : grid0.Coords) (c0_i32_429 : BitVec 32) : Fin 4 → Nat :=
  let c4 : Index := 4#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_428 : BitVec 32 := 2#32
  let v1127 : BitVec 32 := Scalar.muli v301 c2_i32_428
  let v1128 : BitVec 32 := Scalar.addi v1127 c0_i32_429
  let v1129 : Index := Scalar.indexCast v1128
  let c0_430 : Index := 0#32
  let c0_431 : Index := 0#32
  ![4, v1129.toNat, 0, 0]
def k0_off143 (i : grid0.Coords) (c0_i32_433 : BitVec 32) : Fin 4 → Nat :=
  let c5 : Index := 5#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_432 : BitVec 32 := 2#32
  let v1133 : BitVec 32 := Scalar.muli v301 c2_i32_432
  let v1134 : BitVec 32 := Scalar.addi v1133 c0_i32_433
  let v1135 : Index := Scalar.indexCast v1134
  let c0_434 : Index := 0#32
  let c0_435 : Index := 0#32
  ![5, v1135.toNat, 0, 0]
def k0_off144 (i : grid0.Coords) (c0_i32_437 : BitVec 32) : Fin 4 → Nat :=
  let c6 : Index := 6#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_436 : BitVec 32 := 2#32
  let v1139 : BitVec 32 := Scalar.muli v301 c2_i32_436
  let v1140 : BitVec 32 := Scalar.addi v1139 c0_i32_437
  let v1141 : Index := Scalar.indexCast v1140
  let c0_438 : Index := 0#32
  let c0_439 : Index := 0#32
  ![6, v1141.toNat, 0, 0]
def k0_off145 (i : grid0.Coords) (c0_i32_441 : BitVec 32) : Fin 4 → Nat :=
  let c7 : Index := 7#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_440 : BitVec 32 := 2#32
  let v1145 : BitVec 32 := Scalar.muli v301 c2_i32_440
  let v1146 : BitVec 32 := Scalar.addi v1145 c0_i32_441
  let v1147 : Index := Scalar.indexCast v1146
  let c0_442 : Index := 0#32
  let c0_443 : Index := 0#32
  ![7, v1147.toNat, 0, 0]
def k0_off146 (i : grid0.Coords) (c0_i32_445 : BitVec 32) : Fin 4 → Nat :=
  let c8 : Index := 8#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_444 : BitVec 32 := 2#32
  let v1151 : BitVec 32 := Scalar.muli v301 c2_i32_444
  let v1152 : BitVec 32 := Scalar.addi v1151 c0_i32_445
  let v1153 : Index := Scalar.indexCast v1152
  let c0_446 : Index := 0#32
  let c0_447 : Index := 0#32
  ![8, v1153.toNat, 0, 0]
def k0_off147 (i : grid0.Coords) (c0_i32_449 : BitVec 32) : Fin 4 → Nat :=
  let c9 : Index := 9#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_448 : BitVec 32 := 2#32
  let v1157 : BitVec 32 := Scalar.muli v301 c2_i32_448
  let v1158 : BitVec 32 := Scalar.addi v1157 c0_i32_449
  let v1159 : Index := Scalar.indexCast v1158
  let c0_450 : Index := 0#32
  let c0_451 : Index := 0#32
  ![9, v1159.toNat, 0, 0]
def k0_off148 (i : grid0.Coords) (c0_i32_453 : BitVec 32) : Fin 4 → Nat :=
  let c10 : Index := 10#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_452 : BitVec 32 := 2#32
  let v1163 : BitVec 32 := Scalar.muli v301 c2_i32_452
  let v1164 : BitVec 32 := Scalar.addi v1163 c0_i32_453
  let v1165 : Index := Scalar.indexCast v1164
  let c0_454 : Index := 0#32
  let c0_455 : Index := 0#32
  ![10, v1165.toNat, 0, 0]
def k0_off149 (i : grid0.Coords) (c0_i32_457 : BitVec 32) : Fin 4 → Nat :=
  let c11 : Index := 11#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_456 : BitVec 32 := 2#32
  let v1169 : BitVec 32 := Scalar.muli v301 c2_i32_456
  let v1170 : BitVec 32 := Scalar.addi v1169 c0_i32_457
  let v1171 : Index := Scalar.indexCast v1170
  let c0_458 : Index := 0#32
  let c0_459 : Index := 0#32
  ![11, v1171.toNat, 0, 0]
def k0_off150 (i : grid0.Coords) (c0_i32_461 : BitVec 32) : Fin 4 → Nat :=
  let c12 : Index := 12#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_460 : BitVec 32 := 2#32
  let v1175 : BitVec 32 := Scalar.muli v301 c2_i32_460
  let v1176 : BitVec 32 := Scalar.addi v1175 c0_i32_461
  let v1177 : Index := Scalar.indexCast v1176
  let c0_462 : Index := 0#32
  let c0_463 : Index := 0#32
  ![12, v1177.toNat, 0, 0]
def k0_off151 (i : grid0.Coords) (c0_i32_465 : BitVec 32) : Fin 4 → Nat :=
  let c13 : Index := 13#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_464 : BitVec 32 := 2#32
  let v1181 : BitVec 32 := Scalar.muli v301 c2_i32_464
  let v1182 : BitVec 32 := Scalar.addi v1181 c0_i32_465
  let v1183 : Index := Scalar.indexCast v1182
  let c0_466 : Index := 0#32
  let c0_467 : Index := 0#32
  ![13, v1183.toNat, 0, 0]
def k0_off152 (i : grid0.Coords) (c0_i32_469 : BitVec 32) : Fin 4 → Nat :=
  let c14 : Index := 14#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_468 : BitVec 32 := 2#32
  let v1187 : BitVec 32 := Scalar.muli v301 c2_i32_468
  let v1188 : BitVec 32 := Scalar.addi v1187 c0_i32_469
  let v1189 : Index := Scalar.indexCast v1188
  let c0_470 : Index := 0#32
  let c0_471 : Index := 0#32
  ![14, v1189.toNat, 0, 0]
def k0_off153 (i : grid0.Coords) (c0_i32_473 : BitVec 32) : Fin 4 → Nat :=
  let c15 : Index := 15#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_472 : BitVec 32 := 2#32
  let v1193 : BitVec 32 := Scalar.muli v301 c2_i32_472
  let v1194 : BitVec 32 := Scalar.addi v1193 c0_i32_473
  let v1195 : Index := Scalar.indexCast v1194
  let c0_474 : Index := 0#32
  let c0_475 : Index := 0#32
  ![15, v1195.toNat, 0, 0]
def k0_off154 (i : grid0.Coords) (c0_i32_477 : BitVec 32) : Fin 4 → Nat :=
  let c16 : Index := 16#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_476 : BitVec 32 := 2#32
  let v1199 : BitVec 32 := Scalar.muli v301 c2_i32_476
  let v1200 : BitVec 32 := Scalar.addi v1199 c0_i32_477
  let v1201 : Index := Scalar.indexCast v1200
  let c0_478 : Index := 0#32
  let c0_479 : Index := 0#32
  ![16, v1201.toNat, 0, 0]
def k0_off155 (i : grid0.Coords) (c0_i32_481 : BitVec 32) : Fin 4 → Nat :=
  let c17 : Index := 17#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_480 : BitVec 32 := 2#32
  let v1205 : BitVec 32 := Scalar.muli v301 c2_i32_480
  let v1206 : BitVec 32 := Scalar.addi v1205 c0_i32_481
  let v1207 : Index := Scalar.indexCast v1206
  let c0_482 : Index := 0#32
  let c0_483 : Index := 0#32
  ![17, v1207.toNat, 0, 0]
def k0_off156 (i : grid0.Coords) (c0_i32_485 : BitVec 32) : Fin 4 → Nat :=
  let c18 : Index := 18#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_484 : BitVec 32 := 2#32
  let v1211 : BitVec 32 := Scalar.muli v301 c2_i32_484
  let v1212 : BitVec 32 := Scalar.addi v1211 c0_i32_485
  let v1213 : Index := Scalar.indexCast v1212
  let c0_486 : Index := 0#32
  let c0_487 : Index := 0#32
  ![18, v1213.toNat, 0, 0]
def k0_off157 (i : grid0.Coords) (c0_i32_489 : BitVec 32) : Fin 4 → Nat :=
  let c19 : Index := 19#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_488 : BitVec 32 := 2#32
  let v1217 : BitVec 32 := Scalar.muli v301 c2_i32_488
  let v1218 : BitVec 32 := Scalar.addi v1217 c0_i32_489
  let v1219 : Index := Scalar.indexCast v1218
  let c0_490 : Index := 0#32
  let c0_491 : Index := 0#32
  ![19, v1219.toNat, 0, 0]
def k0_off158 (i : grid0.Coords) (c0_i32_493 : BitVec 32) : Fin 4 → Nat :=
  let c20 : Index := 20#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_492 : BitVec 32 := 2#32
  let v1223 : BitVec 32 := Scalar.muli v301 c2_i32_492
  let v1224 : BitVec 32 := Scalar.addi v1223 c0_i32_493
  let v1225 : Index := Scalar.indexCast v1224
  let c0_494 : Index := 0#32
  let c0_495 : Index := 0#32
  ![20, v1225.toNat, 0, 0]
def k0_off159 (i : grid0.Coords) (c0_i32_497 : BitVec 32) : Fin 4 → Nat :=
  let c21 : Index := 21#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_496 : BitVec 32 := 2#32
  let v1229 : BitVec 32 := Scalar.muli v301 c2_i32_496
  let v1230 : BitVec 32 := Scalar.addi v1229 c0_i32_497
  let v1231 : Index := Scalar.indexCast v1230
  let c0_498 : Index := 0#32
  let c0_499 : Index := 0#32
  ![21, v1231.toNat, 0, 0]
def k0_off160 (i : grid0.Coords) (c0_i32_501 : BitVec 32) : Fin 4 → Nat :=
  let c22 : Index := 22#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_500 : BitVec 32 := 2#32
  let v1235 : BitVec 32 := Scalar.muli v301 c2_i32_500
  let v1236 : BitVec 32 := Scalar.addi v1235 c0_i32_501
  let v1237 : Index := Scalar.indexCast v1236
  let c0_502 : Index := 0#32
  let c0_503 : Index := 0#32
  ![22, v1237.toNat, 0, 0]
def k0_off161 (i : grid0.Coords) (c0_i32_505 : BitVec 32) : Fin 4 → Nat :=
  let c23 : Index := 23#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_504 : BitVec 32 := 2#32
  let v1241 : BitVec 32 := Scalar.muli v301 c2_i32_504
  let v1242 : BitVec 32 := Scalar.addi v1241 c0_i32_505
  let v1243 : Index := Scalar.indexCast v1242
  let c0_506 : Index := 0#32
  let c0_507 : Index := 0#32
  ![23, v1243.toNat, 0, 0]
def k0_off162 (i : grid0.Coords) (c0_i32_509 : BitVec 32) : Fin 4 → Nat :=
  let c24 : Index := 24#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_508 : BitVec 32 := 2#32
  let v1247 : BitVec 32 := Scalar.muli v301 c2_i32_508
  let v1248 : BitVec 32 := Scalar.addi v1247 c0_i32_509
  let v1249 : Index := Scalar.indexCast v1248
  let c0_510 : Index := 0#32
  let c0_511 : Index := 0#32
  ![24, v1249.toNat, 0, 0]
def k0_off163 (i : grid0.Coords) (c0_i32_513 : BitVec 32) : Fin 4 → Nat :=
  let c25 : Index := 25#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_512 : BitVec 32 := 2#32
  let v1253 : BitVec 32 := Scalar.muli v301 c2_i32_512
  let v1254 : BitVec 32 := Scalar.addi v1253 c0_i32_513
  let v1255 : Index := Scalar.indexCast v1254
  let c0_514 : Index := 0#32
  let c0_515 : Index := 0#32
  ![25, v1255.toNat, 0, 0]
def k0_off164 (i : grid0.Coords) (c0_i32_517 : BitVec 32) : Fin 4 → Nat :=
  let c26 : Index := 26#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_516 : BitVec 32 := 2#32
  let v1259 : BitVec 32 := Scalar.muli v301 c2_i32_516
  let v1260 : BitVec 32 := Scalar.addi v1259 c0_i32_517
  let v1261 : Index := Scalar.indexCast v1260
  let c0_518 : Index := 0#32
  let c0_519 : Index := 0#32
  ![26, v1261.toNat, 0, 0]
def k0_off165 (i : grid0.Coords) (c0_i32_521 : BitVec 32) : Fin 4 → Nat :=
  let c27 : Index := 27#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_520 : BitVec 32 := 2#32
  let v1265 : BitVec 32 := Scalar.muli v301 c2_i32_520
  let v1266 : BitVec 32 := Scalar.addi v1265 c0_i32_521
  let v1267 : Index := Scalar.indexCast v1266
  let c0_522 : Index := 0#32
  let c0_523 : Index := 0#32
  ![27, v1267.toNat, 0, 0]
def k0_off166 (i : grid0.Coords) (c0_i32_525 : BitVec 32) : Fin 4 → Nat :=
  let c28 : Index := 28#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_524 : BitVec 32 := 2#32
  let v1271 : BitVec 32 := Scalar.muli v301 c2_i32_524
  let v1272 : BitVec 32 := Scalar.addi v1271 c0_i32_525
  let v1273 : Index := Scalar.indexCast v1272
  let c0_526 : Index := 0#32
  let c0_527 : Index := 0#32
  ![28, v1273.toNat, 0, 0]
def k0_off167 (i : grid0.Coords) (c0_i32_529 : BitVec 32) : Fin 4 → Nat :=
  let c29 : Index := 29#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_528 : BitVec 32 := 2#32
  let v1277 : BitVec 32 := Scalar.muli v301 c2_i32_528
  let v1278 : BitVec 32 := Scalar.addi v1277 c0_i32_529
  let v1279 : Index := Scalar.indexCast v1278
  let c0_530 : Index := 0#32
  let c0_531 : Index := 0#32
  ![29, v1279.toNat, 0, 0]
def k0_off168 (i : grid0.Coords) (c0_i32_533 : BitVec 32) : Fin 4 → Nat :=
  let c30 : Index := 30#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_532 : BitVec 32 := 2#32
  let v1283 : BitVec 32 := Scalar.muli v301 c2_i32_532
  let v1284 : BitVec 32 := Scalar.addi v1283 c0_i32_533
  let v1285 : Index := Scalar.indexCast v1284
  let c0_534 : Index := 0#32
  let c0_535 : Index := 0#32
  ![30, v1285.toNat, 0, 0]
def k0_off169 (i : grid0.Coords) (c0_i32_537 : BitVec 32) : Fin 4 → Nat :=
  let c31 : Index := 31#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c2_i32_536 : BitVec 32 := 2#32
  let v1289 : BitVec 32 := Scalar.muli v301 c2_i32_536
  let v1290 : BitVec 32 := Scalar.addi v1289 c0_i32_537
  let v1291 : Index := Scalar.indexCast v1290
  let c0_538 : Index := 0#32
  let c0_539 : Index := 0#32
  ![31, v1291.toNat, 0, 0]
def k0_cond3 (i : grid0.Coords) : BitVec 1 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c2_i32_45 : BitVec 32 := 2#32
  let v84 : BitVec 32 := Scalar.muli v18 c2_i32_45
  let c0_i32_46 : BitVec 32 := 0#32
  let v85 : BitVec 1 := Scalar.cmpi .sgt v84 c0_i32_46
  let c8_i32 : BitVec 32 := 8#32
  let v86 : BitVec 1 := Scalar.cmpi .sle v84 c8_i32
  let v87 : BitVec 1 := Scalar.andi v85 v86
  let v88 : BitVec 32 := Scalar.extui v87
  let c0_i32_47 : BitVec 32 := 0#32
  let v89 : BitVec 1 := Scalar.cmpi .ne v88 c0_i32_47
  v89

@[reducible] def k0_t3_loop : Scf.Loop 32 :=
  let c0_i32_160 : BitVec 32 := 0#32
  let c32_i32 : BitVec 32 := 32#32
  let v307 : BitVec 32 := Scalar.addi c0_i32_160 c32_i32
  let c1_i32_161 : BitVec 32 := 1#32
  ⟨c0_i32_160, v307, c1_i32_161⟩
def k0_off170 (k0_t3 : Fin k0_t3_loop.trips) : Fin 4 → Nat :=
  let c0_i32_160 : BitVec 32 := 0#32
  let c1_i32_161 : BitVec 32 := 1#32
  let arg17 : BitVec 32 := Scf.iv c0_i32_160 c1_i32_161 k0_t3
  let v316 : Index := Scalar.indexCast arg17
  let c0_170 : Index := 0#32
  let c0_171 : Index := 0#32
  let c0_172 : Index := 0#32
  ![v316.toNat, 0, 0, 0]
def k0_cond4 (i : grid0.Coords) : BitVec 1 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c2_i32_45 : BitVec 32 := 2#32
  let v84 : BitVec 32 := Scalar.muli v18 c2_i32_45
  let c8_i32_48 : BitVec 32 := 8#32
  let v90 : BitVec 1 := Scalar.cmpi .sgt v84 c8_i32_48
  let c16_i32 : BitVec 32 := 16#32
  let v91 : BitVec 1 := Scalar.cmpi .sle v84 c16_i32
  let v92 : BitVec 1 := Scalar.andi v90 v91
  let v93 : BitVec 32 := Scalar.extui v92
  let c0_i32_49 : BitVec 32 := 0#32
  let v94 : BitVec 1 := Scalar.cmpi .ne v93 c0_i32_49
  v94

@[reducible] def k0_t4_loop : Scf.Loop 32 :=
  let c0_i32_160 : BitVec 32 := 0#32
  let c32_i32 : BitVec 32 := 32#32
  let v307 : BitVec 32 := Scalar.addi c0_i32_160 c32_i32
  let c1_i32_161 : BitVec 32 := 1#32
  ⟨c0_i32_160, v307, c1_i32_161⟩
def k0_off171 (k0_t4 : Fin k0_t4_loop.trips) : Fin 4 → Nat :=
  let c0_i32_160 : BitVec 32 := 0#32
  let c1_i32_161 : BitVec 32 := 1#32
  let arg17 : BitVec 32 := Scf.iv c0_i32_160 c1_i32_161 k0_t4
  let v316 : Index := Scalar.indexCast arg17
  let c0_170 : Index := 0#32
  let c0_171 : Index := 0#32
  let c0_172 : Index := 0#32
  ![v316.toNat, 0, 0, 0]
def k0_cond5 (i : grid0.Coords) : BitVec 1 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c2_i32_45 : BitVec 32 := 2#32
  let v84 : BitVec 32 := Scalar.muli v18 c2_i32_45
  let c16_i32_50 : BitVec 32 := 16#32
  let v95 : BitVec 1 := Scalar.cmpi .sgt v84 c16_i32_50
  let v96 : BitVec 32 := Scalar.extui v95
  let c0_i32_51 : BitVec 32 := 0#32
  let v97 : BitVec 1 := Scalar.cmpi .ne v96 c0_i32_51
  v97

@[reducible] def k0_t5_loop : Scf.Loop 32 :=
  let c0_i32_160 : BitVec 32 := 0#32
  let c32_i32 : BitVec 32 := 32#32
  let v307 : BitVec 32 := Scalar.addi c0_i32_160 c32_i32
  let c1_i32_161 : BitVec 32 := 1#32
  ⟨c0_i32_160, v307, c1_i32_161⟩
def k0_off172 (k0_t5 : Fin k0_t5_loop.trips) : Fin 4 → Nat :=
  let c0_i32_160 : BitVec 32 := 0#32
  let c1_i32_161 : BitVec 32 := 1#32
  let arg17 : BitVec 32 := Scf.iv c0_i32_160 c1_i32_161 k0_t5
  let v316 : Index := Scalar.indexCast arg17
  let c0_170 : Index := 0#32
  let c0_171 : Index := 0#32
  let c0_172 : Index := 0#32
  ![v316.toNat, 0, 0, 0]
def k0_mult6 : BitVec 32 :=
  let c0_i32_112 : BitVec 32 := 0#32
  c0_i32_112
@[reducible] def k0_t6_loop (i : grid0.Coords) : Scf.Loop 32 :=
  let c0_i32_118 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v249 : BitVec 32 := Scalar.subi v45 c0_i32_118
  let c1_i32_119 : BitVec 32 := 1#32
  let v251 : BitVec 32 := Scalar.divsi v249 c1_i32_119
  let v252 : BitVec 32 := Scalar.muli v251 c1_i32_119
  let v253 : BitVec 32 := Scalar.addi c0_i32_118 v252
  let c1_i32_120 : BitVec 32 := 1#32
  ⟨c0_i32_118, v253, c1_i32_120⟩
def k0_off173 (i : grid0.Coords) (k0_t6 : Fin (k0_t6_loop i).trips) : Fin 3 → Nat :=
  let c2_i32_156 : BitVec 32 := 2#32
  let c0_i32_118 : BitVec 32 := 0#32
  let c1_i32_120 : BitVec 32 := 1#32
  let arg17 : BitVec 32 := Scf.iv c0_i32_118 c1_i32_120 k0_t6
  let v301 : BitVec 32 := Scalar.muli c2_i32_156 arg17
  let c1_i32_157 : BitVec 32 := 1#32
  let v302 : BitVec 32 := Scalar.addi v301 c1_i32_157
  let v303 : Index := Scalar.indexCast v302
  let c0_158 : Index := 0#32
  let c0_159 : Index := 0#32
  ![v303.toNat, 0, 0]
def k0_mult7 (i : grid0.Coords) (k0_t6 : Fin (k0_t6_loop i).trips) : BitVec 32 :=
  let c2_i32_156 : BitVec 32 := 2#32
  let c0_i32_118 : BitVec 32 := 0#32
  let c1_i32_120 : BitVec 32 := 1#32
  let arg17 : BitVec 32 := Scf.iv c0_i32_118 c1_i32_120 k0_t6
  let v301 : BitVec 32 := Scalar.muli c2_i32_156 arg17
  let c1_i32_157 : BitVec 32 := 1#32
  let v302 : BitVec 32 := Scalar.addi v301 c1_i32_157
  let c512_i32_188 : BitVec 32 := 512#32
  let v399 : BitVec 32 := Scalar.muli v302 c512_i32_188
  v399
def k0_off174 (i : grid0.Coords) (k0_t6 : Fin (k0_t6_loop i).trips) : Fin 3 → Nat :=
  let c0_189 : Index := 0#32
  let c2_i32_156 : BitVec 32 := 2#32
  let c0_i32_118 : BitVec 32 := 0#32
  let c1_i32_120 : BitVec 32 := 1#32
  let arg17 : BitVec 32 := Scf.iv c0_i32_118 c1_i32_120 k0_t6
  let v301 : BitVec 32 := Scalar.muli c2_i32_156 arg17
  let c1_i32_157 : BitVec 32 := 1#32
  let v302 : BitVec 32 := Scalar.addi v301 c1_i32_157
  let c512_i32_188 : BitVec 32 := 512#32
  let v399 : BitVec 32 := Scalar.muli v302 c512_i32_188
  let v400 : BitVec 32 := v399
  let v401 : Index := Scalar.indexCast v400
  let c0_190 : Index := 0#32
  ![0, v401.toNat, 0]
def k0_mult8 (i : grid0.Coords) (k0_t6 : Fin (k0_t6_loop i).trips) : BitVec 32 :=
  let c2_i32_194 : BitVec 32 := 2#32
  let c0_i32_118 : BitVec 32 := 0#32
  let c1_i32_120 : BitVec 32 := 1#32
  let arg17 : BitVec 32 := Scf.iv c0_i32_118 c1_i32_120 k0_t6
  let v409 : BitVec 32 := Scalar.muli c2_i32_194 arg17
  let c512_i32_200 : BitVec 32 := 512#32
  let v423 : BitVec 32 := Scalar.muli v409 c512_i32_200
  v423
def k0_off175 (i : grid0.Coords) (k0_t6 : Fin (k0_t6_loop i).trips) : Fin 3 → Nat :=
  let c0_201 : Index := 0#32
  let c0_202 : Index := 0#32
  let c2_i32_194 : BitVec 32 := 2#32
  let c0_i32_118 : BitVec 32 := 0#32
  let c1_i32_120 : BitVec 32 := 1#32
  let arg17 : BitVec 32 := Scf.iv c0_i32_118 c1_i32_120 k0_t6
  let v409 : BitVec 32 := Scalar.muli c2_i32_194 arg17
  let c512_i32_200 : BitVec 32 := 512#32
  let v423 : BitVec 32 := Scalar.muli v409 c512_i32_200
  let v424 : BitVec 32 := v423
  let v425 : Index := Scalar.indexCast v424
  ![0, 0, v425.toNat]
def k0_off176 (i : grid0.Coords) (k0_t6 : Fin (k0_t6_loop i).trips) : Fin 3 → Nat :=
  let c2_i32_210 : BitVec 32 := 2#32
  let c0_i32_118 : BitVec 32 := 0#32
  let c1_i32_120 : BitVec 32 := 1#32
  let arg17 : BitVec 32 := Scf.iv c0_i32_118 c1_i32_120 k0_t6
  let v438 : BitVec 32 := Scalar.muli c2_i32_210 arg17
  let c2_i32_211 : BitVec 32 := 2#32
  let v439 : BitVec 32 := Scalar.addi v438 c2_i32_211
  let c15_i32 : BitVec 32 := 15#32
  let v440 : BitVec 32 := Scalar.minsi v439 c15_i32
  let v441 : Index := Scalar.indexCast v440
  let c0_212 : Index := 0#32
  let c0_213 : Index := 0#32
  ![v441.toNat, 0, 0]
def k0_mult9 (i : grid0.Coords) (k0_t6 : Fin (k0_t6_loop i).trips) : BitVec 32 :=
  let c2_i32_210 : BitVec 32 := 2#32
  let c0_i32_118 : BitVec 32 := 0#32
  let c1_i32_120 : BitVec 32 := 1#32
  let arg17 : BitVec 32 := Scf.iv c0_i32_118 c1_i32_120 k0_t6
  let v438 : BitVec 32 := Scalar.muli c2_i32_210 arg17
  let c2_i32_211 : BitVec 32 := 2#32
  let v439 : BitVec 32 := Scalar.addi v438 c2_i32_211
  let c15_i32 : BitVec 32 := 15#32
  let v440 : BitVec 32 := Scalar.minsi v439 c15_i32
  let c512_i32_242 : BitVec 32 := 512#32
  let v537 : BitVec 32 := Scalar.muli v440 c512_i32_242
  v537
def k0_off177 (i : grid0.Coords) (k0_t6 : Fin (k0_t6_loop i).trips) : Fin 3 → Nat :=
  let c0_243 : Index := 0#32
  let c2_i32_210 : BitVec 32 := 2#32
  let c0_i32_118 : BitVec 32 := 0#32
  let c1_i32_120 : BitVec 32 := 1#32
  let arg17 : BitVec 32 := Scf.iv c0_i32_118 c1_i32_120 k0_t6
  let v438 : BitVec 32 := Scalar.muli c2_i32_210 arg17
  let c2_i32_211 : BitVec 32 := 2#32
  let v439 : BitVec 32 := Scalar.addi v438 c2_i32_211
  let c15_i32 : BitVec 32 := 15#32
  let v440 : BitVec 32 := Scalar.minsi v439 c15_i32
  let c512_i32_242 : BitVec 32 := 512#32
  let v537 : BitVec 32 := Scalar.muli v440 c512_i32_242
  let v538 : BitVec 32 := v537
  let v539 : Index := Scalar.indexCast v538
  let c0_244 : Index := 0#32
  ![0, v539.toNat, 0]
def k0_mult10 (i : grid0.Coords) (k0_t6 : Fin (k0_t6_loop i).trips) : BitVec 32 :=
  let c2_i32_248 : BitVec 32 := 2#32
  let c0_i32_118 : BitVec 32 := 0#32
  let c1_i32_120 : BitVec 32 := 1#32
  let arg17 : BitVec 32 := Scf.iv c0_i32_118 c1_i32_120 k0_t6
  let v547 : BitVec 32 := Scalar.muli c2_i32_248 arg17
  let c1_i32_249 : BitVec 32 := 1#32
  let v548 : BitVec 32 := Scalar.addi v547 c1_i32_249
  let c512_i32_255 : BitVec 32 := 512#32
  let v562 : BitVec 32 := Scalar.muli v548 c512_i32_255
  v562
def k0_off178 (i : grid0.Coords) (k0_t6 : Fin (k0_t6_loop i).trips) : Fin 3 → Nat :=
  let c0_256 : Index := 0#32
  let c0_257 : Index := 0#32
  let c2_i32_248 : BitVec 32 := 2#32
  let c0_i32_118 : BitVec 32 := 0#32
  let c1_i32_120 : BitVec 32 := 1#32
  let arg17 : BitVec 32 := Scf.iv c0_i32_118 c1_i32_120 k0_t6
  let v547 : BitVec 32 := Scalar.muli c2_i32_248 arg17
  let c1_i32_249 : BitVec 32 := 1#32
  let v548 : BitVec 32 := Scalar.addi v547 c1_i32_249
  let c512_i32_255 : BitVec 32 := 512#32
  let v562 : BitVec 32 := Scalar.muli v548 c512_i32_255
  let v563 : BitVec 32 := v562
  let v564 : Index := Scalar.indexCast v563
  ![0, 0, v564.toNat]
@[reducible] def k0_t7_loop (i : grid0.Coords) : Scf.Loop 32 :=
  let c0_i32_118 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v249 : BitVec 32 := Scalar.subi v45 c0_i32_118
  let c1_i32_119 : BitVec 32 := 1#32
  let v251 : BitVec 32 := Scalar.divsi v249 c1_i32_119
  let v252 : BitVec 32 := Scalar.muli v251 c1_i32_119
  let v253 : BitVec 32 := Scalar.addi c0_i32_118 v252
  let v250 : BitVec 32 := Scalar.addi c0_i32_118 v249
  let c1_i32_121 : BitVec 32 := 1#32
  ⟨v253, v250, c1_i32_121⟩
def k0_off179 (i : grid0.Coords) (k0_t7 : Fin (k0_t7_loop i).trips) : Fin 3 → Nat :=
  let c2_i32_156 : BitVec 32 := 2#32
  let c0_i32_118 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v249 : BitVec 32 := Scalar.subi v45 c0_i32_118
  let c1_i32_119 : BitVec 32 := 1#32
  let v251 : BitVec 32 := Scalar.divsi v249 c1_i32_119
  let v252 : BitVec 32 := Scalar.muli v251 c1_i32_119
  let v253 : BitVec 32 := Scalar.addi c0_i32_118 v252
  let c1_i32_121 : BitVec 32 := 1#32
  let arg17 : BitVec 32 := Scf.iv v253 c1_i32_121 k0_t7
  let v301 : BitVec 32 := Scalar.muli c2_i32_156 arg17
  let c1_i32_157 : BitVec 32 := 1#32
  let v302 : BitVec 32 := Scalar.addi v301 c1_i32_157
  let v303 : Index := Scalar.indexCast v302
  let c0_158 : Index := 0#32
  let c0_159 : Index := 0#32
  ![v303.toNat, 0, 0]
def k0_mult11 (i : grid0.Coords) (k0_t7 : Fin (k0_t7_loop i).trips) : BitVec 32 :=
  let c2_i32_156 : BitVec 32 := 2#32
  let c0_i32_118 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v249 : BitVec 32 := Scalar.subi v45 c0_i32_118
  let c1_i32_119 : BitVec 32 := 1#32
  let v251 : BitVec 32 := Scalar.divsi v249 c1_i32_119
  let v252 : BitVec 32 := Scalar.muli v251 c1_i32_119
  let v253 : BitVec 32 := Scalar.addi c0_i32_118 v252
  let c1_i32_121 : BitVec 32 := 1#32
  let arg17 : BitVec 32 := Scf.iv v253 c1_i32_121 k0_t7
  let v301 : BitVec 32 := Scalar.muli c2_i32_156 arg17
  let c1_i32_157 : BitVec 32 := 1#32
  let v302 : BitVec 32 := Scalar.addi v301 c1_i32_157
  let c512_i32_188 : BitVec 32 := 512#32
  let v399 : BitVec 32 := Scalar.muli v302 c512_i32_188
  v399
def k0_off180 (i : grid0.Coords) (k0_t7 : Fin (k0_t7_loop i).trips) : Fin 3 → Nat :=
  let c0_189 : Index := 0#32
  let c2_i32_156 : BitVec 32 := 2#32
  let c0_i32_118 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v249 : BitVec 32 := Scalar.subi v45 c0_i32_118
  let c1_i32_119 : BitVec 32 := 1#32
  let v251 : BitVec 32 := Scalar.divsi v249 c1_i32_119
  let v252 : BitVec 32 := Scalar.muli v251 c1_i32_119
  let v253 : BitVec 32 := Scalar.addi c0_i32_118 v252
  let c1_i32_121 : BitVec 32 := 1#32
  let arg17 : BitVec 32 := Scf.iv v253 c1_i32_121 k0_t7
  let v301 : BitVec 32 := Scalar.muli c2_i32_156 arg17
  let c1_i32_157 : BitVec 32 := 1#32
  let v302 : BitVec 32 := Scalar.addi v301 c1_i32_157
  let c512_i32_188 : BitVec 32 := 512#32
  let v399 : BitVec 32 := Scalar.muli v302 c512_i32_188
  let v400 : BitVec 32 := v399
  let v401 : Index := Scalar.indexCast v400
  let c0_190 : Index := 0#32
  ![0, v401.toNat, 0]
def k0_mult12 (i : grid0.Coords) (k0_t7 : Fin (k0_t7_loop i).trips) : BitVec 32 :=
  let c2_i32_194 : BitVec 32 := 2#32
  let c0_i32_118 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v249 : BitVec 32 := Scalar.subi v45 c0_i32_118
  let c1_i32_119 : BitVec 32 := 1#32
  let v251 : BitVec 32 := Scalar.divsi v249 c1_i32_119
  let v252 : BitVec 32 := Scalar.muli v251 c1_i32_119
  let v253 : BitVec 32 := Scalar.addi c0_i32_118 v252
  let c1_i32_121 : BitVec 32 := 1#32
  let arg17 : BitVec 32 := Scf.iv v253 c1_i32_121 k0_t7
  let v409 : BitVec 32 := Scalar.muli c2_i32_194 arg17
  let c512_i32_200 : BitVec 32 := 512#32
  let v423 : BitVec 32 := Scalar.muli v409 c512_i32_200
  v423
def k0_off181 (i : grid0.Coords) (k0_t7 : Fin (k0_t7_loop i).trips) : Fin 3 → Nat :=
  let c0_201 : Index := 0#32
  let c0_202 : Index := 0#32
  let c2_i32_194 : BitVec 32 := 2#32
  let c0_i32_118 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v249 : BitVec 32 := Scalar.subi v45 c0_i32_118
  let c1_i32_119 : BitVec 32 := 1#32
  let v251 : BitVec 32 := Scalar.divsi v249 c1_i32_119
  let v252 : BitVec 32 := Scalar.muli v251 c1_i32_119
  let v253 : BitVec 32 := Scalar.addi c0_i32_118 v252
  let c1_i32_121 : BitVec 32 := 1#32
  let arg17 : BitVec 32 := Scf.iv v253 c1_i32_121 k0_t7
  let v409 : BitVec 32 := Scalar.muli c2_i32_194 arg17
  let c512_i32_200 : BitVec 32 := 512#32
  let v423 : BitVec 32 := Scalar.muli v409 c512_i32_200
  let v424 : BitVec 32 := v423
  let v425 : Index := Scalar.indexCast v424
  ![0, 0, v425.toNat]
def k0_off182 (i : grid0.Coords) (k0_t7 : Fin (k0_t7_loop i).trips) : Fin 3 → Nat :=
  let c2_i32_210 : BitVec 32 := 2#32
  let c0_i32_118 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v249 : BitVec 32 := Scalar.subi v45 c0_i32_118
  let c1_i32_119 : BitVec 32 := 1#32
  let v251 : BitVec 32 := Scalar.divsi v249 c1_i32_119
  let v252 : BitVec 32 := Scalar.muli v251 c1_i32_119
  let v253 : BitVec 32 := Scalar.addi c0_i32_118 v252
  let c1_i32_121 : BitVec 32 := 1#32
  let arg17 : BitVec 32 := Scf.iv v253 c1_i32_121 k0_t7
  let v438 : BitVec 32 := Scalar.muli c2_i32_210 arg17
  let c2_i32_211 : BitVec 32 := 2#32
  let v439 : BitVec 32 := Scalar.addi v438 c2_i32_211
  let c15_i32 : BitVec 32 := 15#32
  let v440 : BitVec 32 := Scalar.minsi v439 c15_i32
  let v441 : Index := Scalar.indexCast v440
  let c0_212 : Index := 0#32
  let c0_213 : Index := 0#32
  ![v441.toNat, 0, 0]
def k0_mult13 (i : grid0.Coords) (k0_t7 : Fin (k0_t7_loop i).trips) : BitVec 32 :=
  let c2_i32_210 : BitVec 32 := 2#32
  let c0_i32_118 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v249 : BitVec 32 := Scalar.subi v45 c0_i32_118
  let c1_i32_119 : BitVec 32 := 1#32
  let v251 : BitVec 32 := Scalar.divsi v249 c1_i32_119
  let v252 : BitVec 32 := Scalar.muli v251 c1_i32_119
  let v253 : BitVec 32 := Scalar.addi c0_i32_118 v252
  let c1_i32_121 : BitVec 32 := 1#32
  let arg17 : BitVec 32 := Scf.iv v253 c1_i32_121 k0_t7
  let v438 : BitVec 32 := Scalar.muli c2_i32_210 arg17
  let c2_i32_211 : BitVec 32 := 2#32
  let v439 : BitVec 32 := Scalar.addi v438 c2_i32_211
  let c15_i32 : BitVec 32 := 15#32
  let v440 : BitVec 32 := Scalar.minsi v439 c15_i32
  let c512_i32_242 : BitVec 32 := 512#32
  let v537 : BitVec 32 := Scalar.muli v440 c512_i32_242
  v537
def k0_off183 (i : grid0.Coords) (k0_t7 : Fin (k0_t7_loop i).trips) : Fin 3 → Nat :=
  let c0_243 : Index := 0#32
  let c2_i32_210 : BitVec 32 := 2#32
  let c0_i32_118 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v249 : BitVec 32 := Scalar.subi v45 c0_i32_118
  let c1_i32_119 : BitVec 32 := 1#32
  let v251 : BitVec 32 := Scalar.divsi v249 c1_i32_119
  let v252 : BitVec 32 := Scalar.muli v251 c1_i32_119
  let v253 : BitVec 32 := Scalar.addi c0_i32_118 v252
  let c1_i32_121 : BitVec 32 := 1#32
  let arg17 : BitVec 32 := Scf.iv v253 c1_i32_121 k0_t7
  let v438 : BitVec 32 := Scalar.muli c2_i32_210 arg17
  let c2_i32_211 : BitVec 32 := 2#32
  let v439 : BitVec 32 := Scalar.addi v438 c2_i32_211
  let c15_i32 : BitVec 32 := 15#32
  let v440 : BitVec 32 := Scalar.minsi v439 c15_i32
  let c512_i32_242 : BitVec 32 := 512#32
  let v537 : BitVec 32 := Scalar.muli v440 c512_i32_242
  let v538 : BitVec 32 := v537
  let v539 : Index := Scalar.indexCast v538
  let c0_244 : Index := 0#32
  ![0, v539.toNat, 0]
def k0_mult14 (i : grid0.Coords) (k0_t7 : Fin (k0_t7_loop i).trips) : BitVec 32 :=
  let c2_i32_248 : BitVec 32 := 2#32
  let c0_i32_118 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v249 : BitVec 32 := Scalar.subi v45 c0_i32_118
  let c1_i32_119 : BitVec 32 := 1#32
  let v251 : BitVec 32 := Scalar.divsi v249 c1_i32_119
  let v252 : BitVec 32 := Scalar.muli v251 c1_i32_119
  let v253 : BitVec 32 := Scalar.addi c0_i32_118 v252
  let c1_i32_121 : BitVec 32 := 1#32
  let arg17 : BitVec 32 := Scf.iv v253 c1_i32_121 k0_t7
  let v547 : BitVec 32 := Scalar.muli c2_i32_248 arg17
  let c1_i32_249 : BitVec 32 := 1#32
  let v548 : BitVec 32 := Scalar.addi v547 c1_i32_249
  let c512_i32_255 : BitVec 32 := 512#32
  let v562 : BitVec 32 := Scalar.muli v548 c512_i32_255
  v562
def k0_off184 (i : grid0.Coords) (k0_t7 : Fin (k0_t7_loop i).trips) : Fin 3 → Nat :=
  let c0_256 : Index := 0#32
  let c0_257 : Index := 0#32
  let c2_i32_248 : BitVec 32 := 2#32
  let c0_i32_118 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_8 : BitVec 32 := 0#32
  let v30 : BitVec 1 := Scalar.cmpi .sgt v18 c0_i32_8
  let v31 : BitVec 32 := Scalar.extui v30
  let c0_i32_9 : BitVec 32 := 0#32
  let v32 : BitVec 1 := Scalar.cmpi .slt v18 c0_i32_9
  let v33 : BitVec 32 := Scalar.extui v32
  let v34 : BitVec 32 := Scalar.subi v31 v33
  let c2_i32 : BitVec 32 := 2#32
  let c0_i32_10 : BitVec 32 := 0#32
  let v35 : BitVec 1 := Scalar.cmpi .sgt c2_i32 c0_i32_10
  let v36 : BitVec 32 := Scalar.extui v35
  let c0_i32_11 : BitVec 32 := 0#32
  let v37 : BitVec 1 := Scalar.cmpi .slt c2_i32 c0_i32_11
  let v38 : BitVec 32 := Scalar.extui v37
  let v39 : BitVec 32 := Scalar.subi v36 v38
  let v40 : BitVec 1 := Scalar.cmpi .ne v34 v39
  let v41 : BitVec 32 := Scalar.remsi v18 c2_i32
  let c0_i32_12 : BitVec 32 := 0#32
  let v42 : BitVec 1 := Scalar.cmpi .ne v41 c0_i32_12
  let v43 : BitVec 1 := Scalar.andi v40 v42
  let v29 : BitVec 32 := Scalar.divsi v18 c2_i32
  let c1_i32_13 : BitVec 32 := 1#32
  let v44 : BitVec 32 := Scalar.subi v29 c1_i32_13
  let v45 : BitVec 32 := Scalar.select v43 v44 v29
  let v249 : BitVec 32 := Scalar.subi v45 c0_i32_118
  let c1_i32_119 : BitVec 32 := 1#32
  let v251 : BitVec 32 := Scalar.divsi v249 c1_i32_119
  let v252 : BitVec 32 := Scalar.muli v251 c1_i32_119
  let v253 : BitVec 32 := Scalar.addi c0_i32_118 v252
  let c1_i32_121 : BitVec 32 := 1#32
  let arg17 : BitVec 32 := Scf.iv v253 c1_i32_121 k0_t7
  let v547 : BitVec 32 := Scalar.muli c2_i32_248 arg17
  let c1_i32_249 : BitVec 32 := 1#32
  let v548 : BitVec 32 := Scalar.addi v547 c1_i32_249
  let c512_i32_255 : BitVec 32 := 512#32
  let v562 : BitVec 32 := Scalar.muli v548 c512_i32_255
  let v563 : BitVec 32 := v562
  let v564 : Index := Scalar.indexCast v563
  ![0, 0, v564.toNat]
def k0_cond6 (i : grid0.Coords) : BitVec 1 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c2_i32_122 : BitVec 32 := 2#32
  let c0_i32_123 : BitVec 32 := 0#32
  let v256 : BitVec 1 := Scalar.cmpi .eq c2_i32_122 c0_i32_123
  let c1_i32_124 : BitVec 32 := 1#32
  let v257 : BitVec 32 := Scalar.select v256 c1_i32_124 c2_i32_122
  let v258 : BitVec 32 := Scalar.remsi v18 v257
  let c0_i32_126 : BitVec 32 := 0#32
  let v260 : BitVec 1 := Scalar.cmpi .slt v258 c0_i32_126
  let c0_i32_127 : BitVec 32 := 0#32
  let v261 : BitVec 1 := Scalar.cmpi .slt v257 c0_i32_127
  let v262 : BitVec 1 := Scalar.xori v260 v261
  let c0_i32_125 : BitVec 32 := 0#32
  let v259 : BitVec 1 := Scalar.cmpi .ne v258 c0_i32_125
  let v263 : BitVec 1 := Scalar.andi v262 v259
  let v264 : BitVec 32 := Scalar.addi v258 v257
  let v265 : BitVec 32 := Scalar.select v263 v264 v258
  let c1_i32_128 : BitVec 32 := 1#32
  let v266 : BitVec 1 := Scalar.cmpi .eq v265 c1_i32_128
  let v267 : BitVec 32 := Scalar.extui v266
  let c0_i32_129 : BitVec 32 := 0#32
  let v268 : BitVec 1 := Scalar.cmpi .ne v267 c0_i32_129
  v268

def k0_mult15 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c512_i32_162 : BitVec 32 := 512#32
  let v315 : BitVec 32 := Scalar.muli v301 c512_i32_162
  v315
def k0_off185 (i : grid0.Coords) : Fin 3 → Nat :=
  let c0_163 : Index := 0#32
  let c0_164 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_156 : BitVec 32 := 1#32
  let v301 : BitVec 32 := Scalar.subi v18 c1_i32_156
  let c512_i32_162 : BitVec 32 := 512#32
  let v315 : BitVec 32 := Scalar.muli v301 c512_i32_162
  let v316 : BitVec 32 := v315
  let v317 : Index := Scalar.indexCast v316
  ![0, 0, v317.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Moe.lean ====
abbrev S4x8192x1024 : Shape := ⟨3, ![4, 8192, 1024]⟩
abbrev S4x3072 : Shape := ⟨2, ![4, 3072]⟩
abbrev S1024x32 : Shape := ⟨2, ![1024, 32]⟩
abbrev S32 : Shape := ⟨1, ![32]⟩
abbrev S32x1024x256 : Shape := ⟨3, ![32, 1024, 256]⟩
abbrev S32x256x1024 : Shape := ⟨3, ![32, 256, 1024]⟩
abbrev S1024x256 : Shape := ⟨2, ![1024, 256]⟩
abbrev S256x1024 : Shape := ⟨2, ![256, 1024]⟩
abbrev S1024 : Shape := ⟨1, ![1024]⟩
abbrev S1x32x1024x256 : Shape := ⟨4, ![1, 32, 1024, 256]⟩
abbrev S1x32x256x1024 : Shape := ⟨4, ![1, 32, 256, 1024]⟩
abbrev S4x1x3072 : Shape := ⟨3, ![4, 1, 3072]⟩
abbrev S_ : Shape := ⟨0, ![]⟩
abbrev S32x1 : Shape := ⟨2, ![32, 1]⟩
abbrev S1024x128 : Shape := ⟨2, ![1024, 128]⟩
abbrev S1x1024 : Shape := ⟨2, ![1, 1024]⟩
abbrev S1x1024x1024 : Shape := ⟨3, ![1, 1024, 1024]⟩
abbrev S1x1x3072 : Shape := ⟨3, ![1, 1, 3072]⟩
abbrev S1x4x1024x256 : Shape := ⟨4, ![1, 4, 1024, 256]⟩
abbrev S1x4x256x1024 : Shape := ⟨4, ![1, 4, 256, 1024]⟩
abbrev S1024x1024 : Shape := ⟨2, ![1024, 1024]⟩
abbrev S1x1x1024 : Shape := ⟨3, ![1, 1, 1024]⟩
abbrev S1024x384 : Shape := ⟨2, ![1024, 384]⟩
abbrev S128x1024 : Shape := ⟨2, ![128, 1024]⟩
abbrev S32x1024 : Shape := ⟨2, ![32, 1024]⟩
abbrev S8x1024 : Shape := ⟨2, ![8, 1024]⟩
abbrev S96x1024 : Shape := ⟨2, ![96, 1024]⟩
abbrev S1024x1 : Shape := ⟨2, ![1024, 1]⟩
abbrev S1x1x1024x256 : Shape := ⟨4, ![1, 1, 1024, 256]⟩
abbrev S4x256x1024 : Shape := ⟨3, ![4, 256, 1024]⟩

abbrev nBuf : Space → Nat
  | .hbm => 44
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S4x3072, .f32⟩
  | .hbm, ⟨2, _⟩ => ⟨S1024x32, .f32⟩
  | .hbm, ⟨3, _⟩ => ⟨S32, .f32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S1024x256, .f32⟩
  | .hbm, ⟨8, _⟩ => ⟨S1024x256, .f32⟩
  | .hbm, ⟨9, _⟩ => ⟨S256x1024, .f32⟩
  | .hbm, ⟨10, _⟩ => ⟨S1024, .f32⟩
  | .hbm, ⟨11, _⟩ => ⟨S1024, .f32⟩
  | .hbm, ⟨12, _⟩ => ⟨S32, .i32⟩
  | .hbm, ⟨13, _⟩ => ⟨S32, .i1⟩
  | .hbm, ⟨14, _⟩ => ⟨S32, .i1⟩
  | .hbm, ⟨15, _⟩ => ⟨S1x32x1024x256, .f32⟩
  | .hbm, ⟨16, _⟩ => ⟨S1x32x1024x256, .bf16⟩
  | .hbm, ⟨17, _⟩ => ⟨S1x32x1024x256, .f32⟩
  | .hbm, ⟨18, _⟩ => ⟨S1x32x1024x256, .bf16⟩
  | .hbm, ⟨19, _⟩ => ⟨S1x32x256x1024, .f32⟩
  | .hbm, ⟨20, _⟩ => ⟨S1x32x256x1024, .bf16⟩
  | .hbm, ⟨21, _⟩ => ⟨S4x1x3072, .f32⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S32x1, .i32⟩
  | .hbm, ⟨27, _⟩ => ⟨S1024x32, .f32⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S32x1, .i32⟩
  | .hbm, ⟨36, _⟩ => ⟨S32, .f32⟩
  | .hbm, ⟨37, _⟩ => ⟨S32x1, .f32⟩
  | .hbm, ⟨38, _⟩ => ⟨S1024x256, .bf16⟩
  | .hbm, ⟨39, _⟩ => ⟨S1024x256, .bf16⟩
  | .hbm, ⟨40, _⟩ => ⟨S256x1024, .bf16⟩
  | .hbm, ⟨41, _⟩ => ⟨S1x1024, .f32⟩
  | .hbm, ⟨42, _⟩ => ⟨S1x1024, .f32⟩
  | .hbm, ⟨43, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x3072, .f32⟩
  | .local _ .vmem, ⟨3, _⟩ => ⟨S1x1x3072, .f32⟩
  | .local _ .vmem, ⟨4, _⟩ => ⟨S1024x128, .f32⟩
  | .local _ .vmem, ⟨5, _⟩ => ⟨S32x1, .f32⟩
  | .local _ .vmem, ⟨6, _⟩ => ⟨S1x4x1024x256, .bf16⟩
  | .local _ .vmem, ⟨7, _⟩ => ⟨S1x4x1024x256, .bf16⟩
  | .local _ .vmem, ⟨8, _⟩ => ⟨S1x4x1024x256, .bf16⟩
  | .local _ .vmem, ⟨9, _⟩ => ⟨S1x4x1024x256, .bf16⟩
  | .local _ .vmem, ⟨10, _⟩ => ⟨S1x4x256x1024, .bf16⟩
  | .local _ .vmem, ⟨11, _⟩ => ⟨S1x4x256x1024, .bf16⟩
  | .local _ .vmem, ⟨12, _⟩ => ⟨S1024x256, .bf16⟩
  | .local _ .vmem, ⟨13, _⟩ => ⟨S1024x256, .bf16⟩
  | .local _ .vmem, ⟨14, _⟩ => ⟨S256x1024, .bf16⟩
  | .local _ .vmem, ⟨15, _⟩ => ⟨S1x1024, .f32⟩
  | .local _ .vmem, ⟨16, _⟩ => ⟨S1x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S1024x1024, .bf16⟩
  | .local _ .vmem, ⟨20, _⟩ => ⟨S1024x128, .f32⟩
  | .local _ .vmem, ⟨21, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_call0_v0 : Ref sig .tc := ⟨.hbm, 29, rfl⟩
abbrev main_v12 : Ref sig .tc := ⟨.hbm, 30, rfl⟩
abbrev main_c_4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v116 : BitVec 1 := Scalar.cmpi .eq arg2 c7_i32
  let v117 : BitVec 32 := Scalar.extui v116
  let c0_i32_70 : BitVec 32 := 0#32
  let v118 : BitVec 1 := Scalar.cmpi .ne v117 c0_i32_70
  v118

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== MoeReferenceIdeal.lean ====
abbrev S4x8192x1024 : Shape := ⟨3, ![4, 8192, 1024]⟩
abbrev S4x3072 : Shape := ⟨2, ![4, 3072]⟩
abbrev S1024x32 : Shape := ⟨2, ![1024, 32]⟩
abbrev S32 : Shape := ⟨1, ![32]⟩
abbrev S32x1024x256 : Shape := ⟨3, ![32, 1024, 256]⟩
abbrev S32x256x1024 : Shape := ⟨3, ![32, 256, 1024]⟩
abbrev S1024x256 : Shape := ⟨2, ![1024, 256]⟩
abbrev S256x1024 : Shape := ⟨2, ![256, 1024]⟩
abbrev S1024 : Shape := ⟨1, ![1024]⟩
abbrev S4x1024 : Shape := ⟨2, ![4, 1024]⟩
abbrev S4x1x1024 : Shape := ⟨3, ![4, 1, 1024]⟩
abbrev S_ : Shape := ⟨0, ![]⟩
abbrev S4x8192x32 : Shape := ⟨3, ![4, 8192, 32]⟩
abbrev S1x1x32 : Shape := ⟨3, ![1, 1, 32]⟩
abbrev S4x8192x8x4 : Shape := ⟨4, ![4, 8192, 8, 4]⟩
abbrev S4x8192x8x2 : Shape := ⟨4, ![4, 8192, 8, 2]⟩
abbrev S4x8192x8 : Shape := ⟨3, ![4, 8192, 8]⟩
abbrev S4x8192x4 : Shape := ⟨3, ![4, 8192, 4]⟩
abbrev S4x8192x4x1 : Shape := ⟨4, ![4, 8192, 4, 1]⟩
abbrev S1x1x1x8 : Shape := ⟨4, ![1, 1, 1, 8]⟩
abbrev S4x8192x4x8 : Shape := ⟨4, ![4, 8192, 4, 8]⟩
abbrev S4x8192x8x1 : Shape := ⟨4, ![4, 8192, 8, 1]⟩
abbrev S1 : Shape := ⟨1, ![1]⟩
abbrev S1x1x1x1 : Shape := ⟨4, ![1, 1, 1, 1]⟩
abbrev S4x8192 : Shape := ⟨2, ![4, 8192]⟩
abbrev S4x8192x1 : Shape := ⟨3, ![4, 8192, 1]⟩
abbrev S1x1x1x32 : Shape := ⟨4, ![1, 1, 1, 32]⟩
abbrev S4x8192x8x32 : Shape := ⟨4, ![4, 8192, 8, 32]⟩
abbrev S4x8192x32x256 : Shape := ⟨4, ![4, 8192, 32, 256]⟩
abbrev S4x8192x32x1 : Shape := ⟨4, ![4, 8192, 32, 1]⟩
abbrev S4x8192x256 : Shape := ⟨3, ![4, 8192, 256]⟩
abbrev S1x1x1024 : Shape := ⟨3, ![1, 1, 1024]⟩

abbrev nBuf : Space → Nat
  | .hbm => 172
  | .vmem => 0
  | .smem => 0
  | _ => 0

abbrev hbmTy0_0 (i : Nat) : BufTy := match i % 128 with
  | 0 => ⟨S4x8192x1024, .f32⟩
  | 1 => ⟨S4x3072, .f32⟩
  | 2 => ⟨S1024x32, .f32⟩
  | 3 => ⟨S32, .f32⟩
  | 4 => ⟨S32x1024x256, .f32⟩
  | 5 => ⟨S32x1024x256, .f32⟩
  | 6 => ⟨S32x256x1024, .f32⟩
  | 7 => ⟨S1024x256, .f32⟩
  | 8 => ⟨S1024x256, .f32⟩
  | 9 => ⟨S256x1024, .f32⟩
  | 10 => ⟨S1024, .f32⟩
  | 11 => ⟨S1024, .f32⟩
  | 12 => ⟨S4x1024, .f32⟩
  | 13 => ⟨S4x1024, .f32⟩
  | 14 => ⟨S4x1024, .f32⟩
  | 15 => ⟨S4x1x1024, .f32⟩
  | 16 => ⟨S4x1x1024, .f32⟩
  | 17 => ⟨S4x1x1024, .f32⟩
  | 18 => ⟨S_, .f32⟩
  | 19 => ⟨S4x1x1024, .f32⟩
  | 20 => ⟨S4x1x1024, .f32⟩
  | 21 => ⟨S4x8192x1024, .f32⟩
  | 22 => ⟨S4x8192x1024, .f32⟩
  | 23 => ⟨S4x8192x1024, .f32⟩
  | 24 => ⟨S4x8192x1024, .f32⟩
  | 25 => ⟨S4x8192x32, .f32⟩
  | 26 => ⟨S4x8192x32, .f32⟩
  | 27 => ⟨S4x8192x32, .f32⟩
  | 28 => ⟨S_, .f32⟩
  | 29 => ⟨S4x8192x32, .f32⟩
  | 30 => ⟨S4x8192x32, .f32⟩
  | 31 => ⟨S_, .f32⟩
  | 32 => ⟨S4x8192x32, .f32⟩
  | 33 => ⟨S4x8192x32, .f32⟩
  | 34 => ⟨S1x1x32, .f32⟩
  | 35 => ⟨S4x8192x32, .f32⟩
  | 36 => ⟨S4x8192x32, .f32⟩
  | 37 => ⟨S4x8192x8x4, .f32⟩
  | 38 => ⟨S4x8192x8x2, .f32⟩
  | 39 => ⟨S4x8192x8x2, .i32⟩
  | 40 => ⟨S_, .f32⟩
  | 41 => ⟨S4x8192x8, .f32⟩
  | 42 => ⟨S4x8192x4, .f32⟩
  | 43 => ⟨S4x8192x4, .i32⟩
  | 44 => ⟨S4x8192x4x1, .i32⟩
  | 45 => ⟨S1x1x1x8, .i32⟩
  | 46 => ⟨S4x8192x4x8, .i32⟩
  | 47 => ⟨S4x8192x4x8, .i32⟩
  | 48 => ⟨S4x8192x4x8, .i1⟩
  | 49 => ⟨S4x8192x4x8, .f32⟩
  | 50 => ⟨S_, .f32⟩
  | 51 => ⟨S4x8192x8, .f32⟩
  | 52 => ⟨S_, .f32⟩
  | 53 => ⟨S4x8192x8, .f32⟩
  | 54 => ⟨S4x8192x8, .i1⟩
  | 55 => ⟨S4x8192x8x4, .i1⟩
  | 56 => ⟨S4x8192x32, .i1⟩
  | 57 => ⟨S_, .f32⟩
  | 58 => ⟨S_, .f32⟩
  | 59 => ⟨S4x8192x32, .f32⟩
  | 60 => ⟨S4x8192x32, .f32⟩
  | 61 => ⟨S4x8192x8, .f32⟩
  | 62 => ⟨S4x8192x8, .i32⟩
  | 63 => ⟨S_, .i32⟩
  | 64 => ⟨S4x8192x8, .i32⟩
  | 65 => ⟨S4x8192x8, .i1⟩
  | 66 => ⟨S_, .i32⟩
  | 67 => ⟨S4x8192x8, .i32⟩
  | 68 => ⟨S4x8192x8, .i32⟩
  | 69 => ⟨S4x8192x8, .i32⟩
  | 70 => ⟨S4x8192x8x1, .i32⟩
  | 71 => ⟨S1, .i32⟩
  | 72 => ⟨S_, .i32⟩
  | 73 => ⟨S4x8192x8x1, .i32⟩
  | 74 => ⟨S4x8192x8x1, .i1⟩
  | 75 => ⟨S1x1x1x1, .i32⟩
  | 76 => ⟨S4x8192x8x1, .i32⟩
  | 77 => ⟨S4x8192x8x1, .i1⟩
  | 78 => ⟨S4x8192x8x1, .i1⟩
  | 79 => ⟨S_, .i1⟩
  | 80 => ⟨S4x8192x8, .i1⟩
  | 81 => ⟨S4x8192x8, .f32⟩
  | 82 => ⟨S_, .f32⟩
  | 83 => ⟨S4x8192x8, .f32⟩
  | 84 => ⟨S4x8192x8, .f32⟩
  | 85 => ⟨S_, .f32⟩
  | 86 => ⟨S4x8192, .f32⟩
  | 87 => ⟨S4x8192x1, .f32⟩
  | 88 => ⟨S4x8192x8, .f32⟩
  | 89 => ⟨S4x8192x8, .f32⟩
  | 90 => ⟨S_, .f32⟩
  | 91 => ⟨S4x8192x8, .f32⟩
  | 92 => ⟨S4x8192x8, .f32⟩
  | 93 => ⟨S4x8192x8x1, .i32⟩
  | 94 => ⟨S1x1x1x32, .i32⟩
  | 95 => ⟨S4x8192x8x32, .i32⟩
  | 96 => ⟨S4x8192x8x32, .i32⟩
  | 97 => ⟨S4x8192x8x32, .i1⟩
  | 98 => ⟨S4x8192x8x32, .f32⟩
  | 99 => ⟨S4x8192x8x1, .f32⟩
  | 100 => ⟨S4x8192x8x32, .f32⟩
  | 101 => ⟨S4x8192x8x32, .f32⟩
  | 102 => ⟨S_, .f32⟩
  | 103 => ⟨S4x8192x32, .f32⟩
  | 104 => ⟨S4x8192x32x256, .f32⟩
  | 105 => ⟨S4x8192x32x256, .f32⟩
  | 106 => ⟨S4x8192x32x256, .f32⟩
  | 107 => ⟨S4x8192x32x256, .f32⟩
  | 108 => ⟨S_, .f32⟩
  | 109 => ⟨S4x8192x32x256, .f32⟩
  | 110 => ⟨S4x8192x32x256, .f32⟩
  | 111 => ⟨S_, .f32⟩
  | 112 => ⟨S4x8192x32x256, .f32⟩
  | 113 => ⟨S4x8192x32x256, .f32⟩
  | 114 => ⟨S4x8192x32x256, .f32⟩
  | 115 => ⟨S4x8192x32x256, .f32⟩
  | 116 => ⟨S4x8192x32x1, .f32⟩
  | 117 => ⟨S4x8192x32x256, .f32⟩
  | 118 => ⟨S4x8192x32x256, .f32⟩
  | 119 => ⟨S4x8192x1024, .f32⟩
  | 120 => ⟨S4x8192x256, .f32⟩
  | 121 => ⟨S4x8192x256, .f32⟩
  | 122 => ⟨S4x8192x256, .f32⟩
  | 123 => ⟨S_, .f32⟩
  | 124 => ⟨S4x8192x256, .f32⟩
  | 125 => ⟨S4x8192x256, .f32⟩
  | 126 => ⟨S_, .f32⟩
  | 127 => ⟨S4x8192x256, .f32⟩
  | _ => ⟨S4x8192x1024, .f32⟩

abbrev hbmTy0_1 (i : Nat) : BufTy := match i % 128 with
  | 0 => ⟨S4x8192x256, .f32⟩
  | 1 => ⟨S4x8192x256, .f32⟩
  | 2 => ⟨S4x8192x256, .f32⟩
  | 3 => ⟨S4x8192x256, .f32⟩
  | 4 => ⟨S4x8192x1024, .f32⟩
  | 5 => ⟨S4x8192x1024, .f32⟩
  | 6 => ⟨S_, .f32⟩
  | 7 => ⟨S4x8192x1024, .f32⟩
  | 8 => ⟨S4x8192x1024, .f32⟩
  | 9 => ⟨S_, .f32⟩
  | 10 => ⟨S4x1x1024, .f32⟩
  | 11 => ⟨S4x1x1024, .f32⟩
  | 12 => ⟨S4x8192x1024, .f32⟩
  | 13 => ⟨S4x8192x1024, .f32⟩
  | 14 => ⟨S4x8192x1024, .f32⟩
  | 15 => ⟨S_, .f32⟩
  | 16 => ⟨S4x8192, .f32⟩
  | 17 => ⟨S4x8192x1, .f32⟩
  | 18 => ⟨S_, .f32⟩
  | 19 => ⟨S4x8192x1, .f32⟩
  | 20 => ⟨S4x8192x1, .f32⟩
  | 21 => ⟨S4x8192x1024, .f32⟩
  | 22 => ⟨S4x8192x1024, .f32⟩
  | 23 => ⟨S4x8192x1024, .f32⟩
  | 24 => ⟨S_, .f32⟩
  | 25 => ⟨S4x8192, .f32⟩
  | 26 => ⟨S4x8192x1, .f32⟩
  | 27 => ⟨S_, .f32⟩
  | 28 => ⟨S4x8192x1, .f32⟩
  | 29 => ⟨S4x8192x1, .f32⟩
  | 30 => ⟨S4x8192x1024, .f32⟩
  | 31 => ⟨S4x8192x1024, .f32⟩
  | 32 => ⟨S_, .f32⟩
  | 33 => ⟨S4x8192x1, .f32⟩
  | 34 => ⟨S4x8192x1, .f32⟩
  | 35 => ⟨S4x8192x1, .f32⟩
  | 36 => ⟨S4x8192x1024, .f32⟩
  | 37 => ⟨S4x8192x1024, .f32⟩
  | 38 => ⟨S1x1x1024, .f32⟩
  | 39 => ⟨S4x8192x1024, .f32⟩
  | 40 => ⟨S4x8192x1024, .f32⟩
  | 41 => ⟨S1x1x1024, .f32⟩
  | 42 => ⟨S4x8192x1024, .f32⟩
  | 43 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_values : Ref sig .tc := ⟨.hbm, 38, rfl⟩
abbrev main_indices : Ref sig .tc := ⟨.hbm, 39, rfl⟩
abbrev main_cst_2 : Ref sig .tc := ⟨.hbm, 40, rfl⟩
abbrev main_v23 : Ref sig .tc := ⟨.hbm, 41, rfl⟩
abbrev main_values_3 : Ref sig .tc := ⟨.hbm, 42, rfl⟩
abbrev main_indices_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_cst_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_7 : Ref sig .tc := ⟨.hbm, 57, rfl⟩
abbrev main_call1_v0 : Ref sig .tc := ⟨.hbm, 58, rfl⟩
abbrev main_call1_v1 : Ref sig .tc := ⟨.hbm, 59, rfl⟩
abbrev main_v30 : Ref sig .tc := ⟨.hbm, 60, rfl⟩
abbrev main_values_8 : Ref sig .tc := ⟨.hbm, 61, rfl⟩
abbrev main_indices_9 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_cst : Ref sig .tc := ⟨.hbm, 82, rfl⟩
abbrev main_call2_v14 : Ref sig .tc := ⟨.hbm, 83, rfl⟩
abbrev main_v31 : Ref sig .tc := ⟨.hbm, 84, rfl⟩
abbrev main_cst_10 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_cst_11 : Ref sig .tc := ⟨.hbm, 90, rfl⟩
abbrev main_v36 : Ref sig .tc := ⟨.hbm, 91, rfl⟩
abbrev main_v37 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_cst_12 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_call4_v0 : Ref sig .tc := ⟨.hbm, 106, rfl⟩
abbrev main_call4_v1 : Ref sig .tc := ⟨.hbm, 107, rfl⟩
abbrev main_call4_cst : Ref sig .tc := ⟨.hbm, 108, rfl⟩
abbrev main_call4_v2 : Ref sig .tc := ⟨.hbm, 109, rfl⟩
abbrev main_call4_v3 : Ref sig .tc := ⟨.hbm, 110, rfl⟩
abbrev main_call4_cst_0 : Ref sig .tc := ⟨.hbm, 111, rfl⟩
abbrev main_call4_v4 : Ref sig .tc := ⟨.hbm, 112, rfl⟩
abbrev main_call4_v5 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_call5_v0 : Ref sig .tc := ⟨.hbm, 121, rfl⟩
abbrev main_call5_v1 : Ref sig .tc := ⟨.hbm, 122, rfl⟩
abbrev main_call5_cst : Ref sig .tc := ⟨.hbm, 123, rfl⟩
abbrev main_call5_v2 : Ref sig .tc := ⟨.hbm, 124, rfl⟩
abbrev main_call5_v3 : Ref sig .tc := ⟨.hbm, 125, rfl⟩
abbrev main_call5_cst_0 : Ref sig .tc := ⟨.hbm, 126, rfl⟩
abbrev main_call5_v4 : Ref sig .tc := ⟨.hbm, 127, rfl⟩
abbrev main_call5_v5 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_cst_13 : Ref sig .tc := ⟨.hbm, 134, rfl⟩
abbrev main_v57 : Ref sig .tc := ⟨.hbm, 135, rfl⟩
abbrev main_v58 : Ref sig .tc := ⟨.hbm, 136, rfl⟩
abbrev main_cst_14 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_cst_15 : Ref sig .tc := ⟨.hbm, 143, rfl⟩
abbrev main_v64 : Ref sig .tc := ⟨.hbm, 144, rfl⟩
abbrev main_v65 : Ref sig .tc := ⟨.hbm, 145, rfl⟩
abbrev main_cst_16 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_cst_17 : Ref sig .tc := ⟨.hbm, 152, rfl⟩
abbrev main_v71 : Ref sig .tc := ⟨.hbm, 153, rfl⟩
abbrev main_v72 : Ref sig .tc := ⟨.hbm, 154, rfl⟩
abbrev main_cst_18 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_cst_19 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩

abbrev nD : Nat := 1
abbrev τ : Topo := Topo.v7x

variable {F : FTy → Type} [FloatOps F]
-- ==== Merge.lean ====
abbrev S4x8192x1024 : Shape := ⟨3, ![4, 8192, 1024]⟩
abbrev S4x3072 : Shape := ⟨2, ![4, 3072]⟩
abbrev S4x8192x256 : Shape := ⟨3, ![4, 8192, 256]⟩
abbrev S4x256x8192 : Shape := ⟨3, ![4, 256, 8192]⟩
abbrev S256x256x128 : Shape := ⟨3, ![256, 256, 128]⟩
abbrev S256 : Shape := ⟨1, ![256]⟩
abbrev S256x256 : Shape := ⟨2, ![256, 256]⟩
abbrev S4x1024x1024 : Shape := ⟨3, ![4, 1024, 1024]⟩
abbrev S4x256x1024 : Shape := ⟨3, ![4, 256, 1024]⟩
abbrev S1024x1024 : Shape := ⟨2, ![1024, 1024]⟩
abbrev S1024 : Shape := ⟨1, ![1024]⟩
abbrev S4x1x3072 : Shape := ⟨3, ![4, 1, 3072]⟩
abbrev S1x256 : Shape := ⟨2, ![1, 256]⟩
abbrev S1x1024 : Shape := ⟨2, ![1, 1024]⟩
abbrev S1x512x1024 : Shape := ⟨3, ![1, 512, 1024]⟩
abbrev S1x1x3072 : Shape := ⟨3, ![1, 1, 3072]⟩
abbrev S1x512x256 : Shape := ⟨3, ![1, 512, 256]⟩
abbrev S1x256x512 : Shape := ⟨3, ![1, 256, 512]⟩
abbrev S256x8x128 : Shape := ⟨3, ![256, 8, 128]⟩
abbrev S512x1024 : Shape := ⟨2, ![512, 1024]⟩
abbrev S1x1x1024 : Shape := ⟨3, ![1, 1, 1024]⟩
abbrev S256x1x128 : Shape := ⟨3, ![256, 1, 128]⟩
abbrev S256x128 : Shape := ⟨2, ![256, 128]⟩
abbrev S128x256 : Shape := ⟨2, ![128, 256]⟩
abbrev S512x256 : Shape := ⟨2, ![512, 256]⟩
abbrev S256x512 : Shape := ⟨2, ![256, 512]⟩
abbrev S1x1024x1024 : Shape := ⟨3, ![1, 1024, 1024]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 25
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S4x3072, .f32⟩
  | .hbm, ⟨2, _⟩ => ⟨S4x8192x256, .bf16⟩
  | .hbm, ⟨3, _⟩ => ⟨S4x256x8192, .bf16⟩
  | .hbm, ⟨4, _⟩ => ⟨S256x256x128, .f32⟩
  | .hbm, ⟨5, _⟩ => ⟨S4x8192x256, .f32⟩
  | .hbm, ⟨6, _⟩ => ⟨S4x8192x256, .bf16⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S4x1024x1024, .f32⟩
  | .hbm, ⟨11, _⟩ => ⟨S4x256x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S4x1x3072, .f32⟩
  | .hbm, ⟨16, _⟩ => ⟨S1x256, .f32⟩
  | .hbm, ⟨17, _⟩ => ⟨S256x256, .bf16⟩
  | .hbm, ⟨18, _⟩ => ⟨S1x256, .f32⟩
  | .hbm, ⟨19, _⟩ => ⟨S4x1024x1024, .bf16⟩
  | .hbm, ⟨20, _⟩ => ⟨S4x256x1024, .bf16⟩
  | .hbm, ⟨21, _⟩ => ⟨S1024x1024, .bf16⟩
  | .hbm, ⟨22, _⟩ => ⟨S1x1024, .f32⟩
  | .hbm, ⟨23, _⟩ => ⟨S1x1024, .f32⟩
  | .hbm, ⟨24, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x512x256, .bf16⟩
  | .local _ .vmem, ⟨5, _⟩ => ⟨S1x512x256, .bf16⟩
  | .local _ .vmem, ⟨6, _⟩ => ⟨S1x256x512, .bf16⟩
  | .local _ .vmem, ⟨7, _⟩ => ⟨S1x256x512, .bf16⟩
  | .local _ .vmem, ⟨8, _⟩ => ⟨S256x8x128, .f32⟩
  | .local _ .vmem, ⟨9, _⟩ => ⟨S256x8x128, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .bf16⟩
  | .local _ .vmem, ⟨13, _⟩ => ⟨S1x512x256, .bf16⟩
  | .local _ .vmem, ⟨14, _⟩ => ⟨S1x256, .f32⟩
  | .local _ .vmem, ⟨15, _⟩ => ⟨S256x256, .bf16⟩
  | .local _ .vmem, ⟨16, _⟩ => ⟨S1x256, .f32⟩
  | .local _ .vmem, ⟨17, _⟩ => ⟨S4x1024x1024, .bf16⟩
  | .local _ .vmem, ⟨18, _⟩ => ⟨S4x256x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c4_i32 : BitVec 32 := 4#32
  let v1 : BitVec 32 := Scalar.muli arg1 c4_i32
  let c8_i32_0 : BitVec 32 := 8#32
  let v2 : BitVec 32 := Scalar.divsi v1 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32_0 c0_i32_2
  let v9 : BitVec 32 := Scalar.extui v8
  let c0_i32_3 : BitVec 32 := 0#32
  let v10 : BitVec 1 := Scalar.cmpi .slt c8_i32_0 c0_i32_3
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v0 v18
  let c0_i32_5 : BitVec 32 := 0#32
  let c0_i32_6 : BitVec 32 := 0#32
  let c0_i32_7 : BitVec 32 := 0#32
  ![c0_i32_5.toNat, v19.toNat, c0_i32_6.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeReferenceIdeal.lean ====
abbrev S4x8192x1024 : Shape := ⟨3, ![4, 8192, 1024]⟩
abbrev S4x3072 : Shape := ⟨2, ![4, 3072]⟩
abbrev S4x8192x256 : Shape := ⟨3, ![4, 8192, 256]⟩
abbrev S4x256x8192 : Shape := ⟨3, ![4, 256, 8192]⟩
abbrev S256x256x128 : Shape := ⟨3, ![256, 256, 128]⟩
abbrev S256 : Shape := ⟨1, ![256]⟩
abbrev S256x256 : Shape := ⟨2, ![256, 256]⟩
abbrev S4x1024x1024 : Shape := ⟨3, ![4, 1024, 1024]⟩
abbrev S4x256x1024 : Shape := ⟨3, ![4, 256, 1024]⟩
abbrev S1024x1024 : Shape := ⟨2, ![1024, 1024]⟩
abbrev S1024 : Shape := ⟨1, ![1024]⟩
abbrev S4x1024 : Shape := ⟨2, ![4, 1024]⟩
abbrev S4x1x1024 : Shape := ⟨3, ![4, 1, 1024]⟩
abbrev S_ : Shape := ⟨0, ![]⟩
abbrev S256x4x8192 : Shape := ⟨3, ![256, 4, 8192]⟩
abbrev S1x1x256 : Shape := ⟨3, ![1, 1, 256]⟩
abbrev S1x1024x1024 : Shape := ⟨3, ![1, 1024, 1024]⟩
abbrev S1x256x1024 : Shape := ⟨3, ![1, 256, 1024]⟩
abbrev S256x1024 : Shape := ⟨2, ![256, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 170
  | .vmem => 0
  | .smem => 0
  | _ => 0

abbrev hbmTy0_0 (i : Nat) : BufTy := match i % 128 with
  | 0 => ⟨S4x8192x1024, .f32⟩
  | 1 => ⟨S4x3072, .f32⟩
  | 2 => ⟨S4x8192x256, .bf16⟩
  | 3 => ⟨S4x256x8192, .bf16⟩
  | 4 => ⟨S256x256x128, .f32⟩
  | 5 => ⟨S4x8192x256, .f32⟩
  | 6 => ⟨S4x8192x256, .bf16⟩
  | 7 => ⟨S256, .f32⟩
  | 8 => ⟨S256x256, .f32⟩
  | 9 => ⟨S256, .f32⟩
  | 10 => ⟨S4x1024x1024, .f32⟩
  | 11 => ⟨S4x256x1024, .f32⟩
  | 12 => ⟨S1024x1024, .f32⟩
  | 13 => ⟨S1024, .f32⟩
  | 14 => ⟨S1024, .f32⟩
  | 15 => ⟨S4x1024, .f32⟩
  | 16 => ⟨S4x1024, .f32⟩
  | 17 => ⟨S4x1024, .f32⟩
  | 18 => ⟨S4x1x1024, .f32⟩
  | 19 => ⟨S4x1x1024, .f32⟩
  | 20 => ⟨S4x1x1024, .f32⟩
  | 21 => ⟨S_, .f32⟩
  | 22 => ⟨S4x1x1024, .f32⟩
  | 23 => ⟨S4x1x1024, .f32⟩
  | 24 => ⟨S4x8192x1024, .f32⟩
  | 25 => ⟨S4x8192x1024, .f32⟩
  | 26 => ⟨S4x8192x1024, .f32⟩
  | 27 => ⟨S4x8192x1024, .f32⟩
  | 28 => ⟨S4x8192x256, .bf16⟩
  | 29 => ⟨S256x4x8192, .f32⟩
  | 30 => ⟨S4x8192x256, .f32⟩
  | 31 => ⟨S1x1x256, .f32⟩
  | 32 => ⟨S4x8192x256, .f32⟩
  | 33 => ⟨S4x8192x256, .f32⟩
  | 34 => ⟨S4x8192x256, .f32⟩
  | 35 => ⟨S4x8192x256, .f32⟩
  | 36 => ⟨S4x8192x256, .f32⟩
  | 37 => ⟨S_, .f32⟩
  | 38 => ⟨S4x8192x256, .f32⟩
  | 39 => ⟨S4x8192x256, .f32⟩
  | 40 => ⟨S4x8192x256, .f32⟩
  | 41 => ⟨S_, .f32⟩
  | 42 => ⟨S4x8192x256, .f32⟩
  | 43 => ⟨S4x8192x256, .f32⟩
  | 44 => ⟨S4x8192x256, .f32⟩
  | 45 => ⟨S_, .f32⟩
  | 46 => ⟨S4x8192x256, .f32⟩
  | 47 => ⟨S4x8192x256, .f32⟩
  | 48 => ⟨S_, .f32⟩
  | 49 => ⟨S4x8192x256, .f32⟩
  | 50 => ⟨S4x8192x256, .f32⟩
  | 51 => ⟨S4x8192x256, .f32⟩
  | 52 => ⟨S4x8192x256, .f32⟩
  | 53 => ⟨S1x1x256, .f32⟩
  | 54 => ⟨S4x8192x256, .f32⟩
  | 55 => ⟨S4x8192x256, .f32⟩
  | 56 => ⟨S4x8192x256, .f32⟩
  | 57 => ⟨S4x8192x256, .f32⟩
  | 58 => ⟨S_, .f32⟩
  | 59 => ⟨S4x8192x256, .f32⟩
  | 60 => ⟨S4x8192x256, .f32⟩
  | 61 => ⟨S_, .f32⟩
  | 62 => ⟨S4x8192x256, .f32⟩
  | 63 => ⟨S4x8192x256, .f32⟩
  | 64 => ⟨S4x8192x256, .f32⟩
  | 65 => ⟨S1x1024x1024, .f32⟩
  | 66 => ⟨S1024x1024, .f32⟩
  | 67 => ⟨S4x8192x1024, .f32⟩
  | 68 => ⟨S4x8192x1024, .f32⟩
  | 69 => ⟨S4x8192x1024, .f32⟩
  | 70 => ⟨S_, .f32⟩
  | 71 => ⟨S4x8192x1024, .f32⟩
  | 72 => ⟨S4x8192x1024, .f32⟩
  | 73 => ⟨S_, .f32⟩
  | 74 => ⟨S4x8192x1024, .f32⟩
  | 75 => ⟨S4x8192x1024, .f32⟩
  | 76 => ⟨S4x8192x256, .f32⟩
  | 77 => ⟨S1x256x1024, .f32⟩
  | 78 => ⟨S256x1024, .f32⟩
  | 79 => ⟨S4x8192x1024, .f32⟩
  | 80 => ⟨S4x8192x1024, .f32⟩
  | 81 => ⟨S1x1024x1024, .f32⟩
  | 82 => ⟨S1024x1024, .f32⟩
  | 83 => ⟨S4x8192x1024, .f32⟩
  | 84 => ⟨S4x8192x1024, .f32⟩
  | 85 => ⟨S4x8192x1024, .f32⟩
  | 86 => ⟨S_, .f32⟩
  | 87 => ⟨S4x8192x1024, .f32⟩
  | 88 => ⟨S4x8192x1024, .f32⟩
  | 89 => ⟨S_, .f32⟩
  | 90 => ⟨S4x8192x1024, .f32⟩
  | 91 => ⟨S4x8192x1024, .f32⟩
  | 92 => ⟨S4x8192x256, .f32⟩
  | 93 => ⟨S1x256x1024, .f32⟩
  | 94 => ⟨S256x1024, .f32⟩
  | 95 => ⟨S4x8192x1024, .f32⟩
  | 96 => ⟨S4x8192x1024, .f32⟩
  | 97 => ⟨S4x8192x1024, .f32⟩
  | 98 => ⟨S1x1024x1024, .f32⟩
  | 99 => ⟨S1024x1024, .f32⟩
  | 100 => ⟨S4x8192x1024, .f32⟩
  | 101 => ⟨S4x8192x1024, .f32⟩
  | 102 => ⟨S4x8192x1024, .f32⟩
  | 103 => ⟨S_, .f32⟩
  | 104 => ⟨S4x8192x1024, .f32⟩
  | 105 => ⟨S4x8192x1024, .f32⟩
  | 106 => ⟨S_, .f32⟩
  | 107 => ⟨S4x8192x1024, .f32⟩
  | 108 => ⟨S4x8192x1024, .f32⟩
  | 109 => ⟨S1x256x1024, .f32⟩
  | 110 => ⟨S256x1024, .f32⟩
  | 111 => ⟨S4x8192x1024, .f32⟩
  | 112 => ⟨S4x8192x1024, .f32⟩
  | 113 => ⟨S4x8192x1024, .f32⟩
  | 114 => ⟨S1x1024x1024, .f32⟩
  | 115 => ⟨S1024x1024, .f32⟩
  | 116 => ⟨S4x8192x1024, .f32⟩
  | 117 => ⟨S4x8192x1024, .f32⟩
  | 118 => ⟨S4x8192x1024, .f32⟩
  | 119 => ⟨S_, .f32⟩
  | 120 => ⟨S4x8192x1024, .f32⟩
  | 121 => ⟨S4x8192x1024, .f32⟩
  | 122 => ⟨S_, .f32⟩
  | 123 => ⟨S4x8192x1024, .f32⟩
  | 124 => ⟨S4x8192x1024, .f32⟩
  | 125 => ⟨S4x8192x256, .f32⟩
  | 126 => ⟨S1x256x1024, .f32⟩
  | 127 => ⟨S256x1024, .f32⟩
  | _ => ⟨S4x8192x1024, .f32⟩

abbrev hbmTy0_1 (i : Nat) : BufTy := match i % 128 with
  | 0 => ⟨S4x8192x1024, .f32⟩
  | 1 => ⟨S4x8192x1024, .f32⟩
  | 2 => ⟨S4x8192x1024, .f32⟩
  | 3 => ⟨S4x8192x1024, .f32⟩
  | 4 => ⟨S_, .f32⟩
  | 5 => ⟨S4x8192x1024, .f32⟩
  | 6 => ⟨S4x8192x1024, .f32⟩
  | 7 => ⟨S_, .f32⟩
  | 8 => ⟨S4x1x1024, .f32⟩
  | 9 => ⟨S4x1x1024, .f32⟩
  | 10 => ⟨S4x8192x1024, .f32⟩
  | 11 => ⟨S4x8192x1024, .f32⟩
  | 12 => ⟨S4x8192x1024, .f32⟩
  | 13 => ⟨S_, .f32⟩
  | 14 => ⟨S4x8192, .f32⟩
  | 15 => ⟨S4x8192x1, .f32⟩
  | 16 => ⟨S_, .f32⟩
  | 17 => ⟨S4x8192x1, .f32⟩
  | 18 => ⟨S4x8192x1, .f32⟩
  | 19 => ⟨S4x8192x1024, .f32⟩
  | 20 => ⟨S4x8192x1024, .f32⟩
  | 21 => ⟨S4x8192x1024, .f32⟩
  | 22 => ⟨S_, .f32⟩
  | 23 => ⟨S4x8192, .f32⟩
  | 24 => ⟨S4x8192x1, .f32⟩
  | 25 => ⟨S_, .f32⟩
  | 26 => ⟨S4x8192x1, .f32⟩
  | 27 => ⟨S4x8192x1, .f32⟩
  | 28 => ⟨S4x8192x1024, .f32⟩
  | 29 => ⟨S4x8192x1024, .f32⟩
  | 30 => ⟨S_, .f32⟩
  | 31 => ⟨S4x8192x1, .f32⟩
  | 32 => ⟨S4x8192x1, .f32⟩
  | 33 => ⟨S4x8192x1, .f32⟩
  | 34 => ⟨S4x8192x1024, .f32⟩
  | 35 => ⟨S4x8192x1024, .f32⟩
  | 36 => ⟨S1x1x1024, .f32⟩
  | 37 => ⟨S4x8192x1024, .f32⟩
  | 38 => ⟨S4x8192x1024, .f32⟩
  | 39 => ⟨S1x1x1024, .f32⟩
  | 40 => ⟨S4x8192x1024, .f32⟩
  | 41 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_10 : Ref sig .tc := ⟨.hbm, 103, rfl⟩
abbrev main_v77 : Ref sig .tc := ⟨.hbm, 104, rfl⟩
abbrev main_v78 : Ref sig .tc := ⟨.hbm, 105, rfl⟩
abbrev main_cst_11 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_12 : Ref sig .tc := ⟨.hbm, 119, rfl⟩
abbrev main_v91 : Ref sig .tc := ⟨.hbm, 120, rfl⟩
abbrev main_v92 : Ref sig .tc := ⟨.hbm, 121, rfl⟩
abbrev main_cst_13 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_14 : Ref sig .tc := ⟨.hbm, 132, rfl⟩
abbrev main_v102 : Ref sig .tc := ⟨.hbm, 133, rfl⟩
abbrev main_v103 : Ref sig .tc := ⟨.hbm, 134, rfl⟩
abbrev main_cst_15 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_16 : Ref sig .tc := ⟨.hbm, 141, rfl⟩
abbrev main_v109 : Ref sig .tc := ⟨.hbm, 142, rfl⟩
abbrev main_v110 : Ref sig .tc := ⟨.hbm, 143, rfl⟩
abbrev main_cst_17 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_18 : Ref sig .tc := ⟨.hbm, 150, rfl⟩
abbrev main_v116 : Ref sig .tc := ⟨.hbm, 151, rfl⟩
abbrev main_v117 : Ref sig .tc := ⟨.hbm, 152, rfl⟩
abbrev main_cst_19 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_20 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩

abbrev nD : Nat := 1
abbrev τ : Topo := Topo.v7x

variable {F : FTy → Type} [FloatOps F]
-- ==== Proj.lean ====
abbrev S4x8192x1024 : Shape := ⟨3, ![4, 8192, 1024]⟩
abbrev S4x3072 : Shape := ⟨2, ![4, 3072]⟩
abbrev S4x8192x128 : Shape := ⟨3, ![4, 8192, 128]⟩
abbrev S1024x2248 : Shape := ⟨2, ![1024, 2248]⟩
abbrev S2304 : Shape := ⟨1, ![2304]⟩
abbrev S_ : Shape := ⟨0, ![]⟩
abbrev S1024x1 : Shape := ⟨2, ![1024, 1]⟩
abbrev S1024x2249 : Shape := ⟨2, ![1024, 2249]⟩
abbrev S2304x1 : Shape := ⟨2, ![2304, 1]⟩
abbrev S1024x2304 : Shape := ⟨2, ![1024, 2304]⟩
abbrev S4x1x3072 : Shape := ⟨3, ![4, 1, 3072]⟩
abbrev S4x8192x512 : Shape := ⟨3, ![4, 8192, 512]⟩
abbrev S4x256x8192 : Shape := ⟨3, ![4, 256, 8192]⟩
abbrev S4x8192x64 : Shape := ⟨3, ![4, 8192, 64]⟩
abbrev S4x64x8192 : Shape := ⟨3, ![4, 64, 8192]⟩
abbrev S4x8x8192 : Shape := ⟨3, ![4, 8, 8192]⟩
abbrev S4x8192x256 : Shape := ⟨3, ![4, 8192, 256]⟩
abbrev S1x512x1024 : Shape := ⟨3, ![1, 512, 1024]⟩
abbrev S1x1x3072 : Shape := ⟨3, ![1, 1, 3072]⟩
abbrev S1x512x128 : Shape := ⟨3, ![1, 512, 128]⟩
abbrev S1x512x512 : Shape := ⟨3, ![1, 512, 512]⟩
abbrev S1x256x512 : Shape := ⟨3, ![1, 256, 512]⟩
abbrev S1x512x64 : Shape := ⟨3, ![1, 512, 64]⟩
abbrev S1x64x512 : Shape := ⟨3, ![1, 64, 512]⟩
abbrev S1x8x512 : Shape := ⟨3, ![1, 8, 512]⟩
abbrev S1x512x256 : Shape := ⟨3, ![1, 512, 256]⟩
abbrev S1x1x1024 : Shape := ⟨3, ![1, 1, 1024]⟩
abbrev S1x1024 : Shape := ⟨2, ![1, 1024]⟩
abbrev S512x1024 : Shape := ⟨2, ![512, 1024]⟩
abbrev S512x128 : Shape := ⟨2, ![512, 128]⟩
abbrev S1024x512 : Shape := ⟨2, ![1024, 512]⟩
abbrev S512x512 : Shape := ⟨2, ![512, 512]⟩
abbrev S1024x128 : Shape := ⟨2, ![1024, 128]⟩
abbrev S128x512 : Shape := ⟨2, ![128, 512]⟩
abbrev S1x128x512 : Shape := ⟨3, ![1, 128, 512]⟩
abbrev S512x64 : Shape := ⟨2, ![512, 64]⟩
abbrev S64x512 : Shape := ⟨2, ![64, 512]⟩
abbrev S8x512 : Shape := ⟨2, ![8, 512]⟩
abbrev S1024x256 : Shape := ⟨2, ![1024, 256]⟩
abbrev S512x256 : Shape := ⟨2, ![512, 256]⟩

abbrev nBuf : Space → Nat
  | .hbm => 29
  | .vmem => 31
  | .smem => 0
  | _ => 0

abbrev bufTy : (tb : Table) → Fin (tcTables nBuf tb) → BufTy
  | .hbm, ⟨0, _⟩ => ⟨S4x8192x1024, .f32⟩
  | .hbm, ⟨1, _⟩ => ⟨S4x3072, .f32⟩
  | .hbm, ⟨2, _⟩ => ⟨S4x8192x128, .f32⟩
  | .hbm, ⟨3, _⟩ => ⟨S4x8192x128, .f32⟩
  | .hbm, ⟨4, _⟩ => ⟨S1024x2248, .f32⟩
  | .hbm, ⟨5, _⟩ => ⟨S2304, .i32⟩
  | .hbm, ⟨6, _⟩ => ⟨S2304, .i1⟩
  | .hbm, ⟨7, _⟩ => ⟨S_, .f32⟩
  | .hbm, ⟨8, _⟩ => ⟨S1024x1, .f32⟩
  | .hbm, ⟨9, _⟩ => ⟨S1024x2249, .f32⟩
  | .hbm, ⟨10, _⟩ => ⟨S_, .i32⟩
  | .hbm, ⟨11, _⟩ => ⟨S2304, .i32⟩
  | .hbm, ⟨12, _⟩ => ⟨S2304, .i32⟩
  | .hbm, ⟨13, _⟩ => ⟨S2304, .i32⟩
  | .hbm, ⟨14, _⟩ => ⟨S2304x1, .i32⟩
  | .hbm, ⟨15, _⟩ => ⟨S1024x2304, .f32⟩
  | .hbm, ⟨16, _⟩ => ⟨S1024x2304, .bf16⟩
  | .hbm, ⟨17, _⟩ => ⟨S4x1x3072, .f32⟩
  | .hbm, ⟨18, _⟩ => ⟨S4x8192x512, .f32⟩
  | .hbm, ⟨19, _⟩ => ⟨S4x256x8192, .bf16⟩
  | .hbm, ⟨20, _⟩ => ⟨S4x256x8192, .bf16⟩
  | .hbm, ⟨21, _⟩ => ⟨S4x8192x64, .bf16⟩
  | .hbm, ⟨22, _⟩ => ⟨S4x8192x64, .bf16⟩
  | .hbm, ⟨23, _⟩ => ⟨S4x64x8192, .bf16⟩
  | .hbm, ⟨24, _⟩ => ⟨S4x8x8192, .f32⟩
  | .hbm, ⟨25, _⟩ => ⟨S4x8192x128, .f32⟩
  | .hbm, ⟨26, _⟩ => ⟨S4x8192x256, .f32⟩
  | .hbm, ⟨27, _⟩ => ⟨S4x8192x256, .f32⟩
  | .hbm, ⟨28, _⟩ => ⟨S4x8192x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1024x2304, .bf16⟩
  | .local _ .vmem, ⟨9, _⟩ => ⟨S1x512x512, .f32⟩
  | .local _ .vmem, ⟨10, _⟩ => ⟨S1x512x512, .f32⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x512x64, .bf16⟩
  | .local _ .vmem, ⟨16, _⟩ => ⟨S1x512x64, .bf16⟩
  | .local _ .vmem, ⟨17, _⟩ => ⟨S1x512x64, .bf16⟩
  | .local _ .vmem, ⟨18, _⟩ => ⟨S1x512x64, .bf16⟩
  | .local _ .vmem, ⟨19, _⟩ => ⟨S1x64x512, .bf16⟩
  | .local _ .vmem, ⟨20, _⟩ => ⟨S1x64x512, .bf16⟩
  | .local _ .vmem, ⟨21, _⟩ => ⟨S1x8x512, .f32⟩
  | .local _ .vmem, ⟨22, _⟩ => ⟨S1x8x512, .f32⟩
  | .local _ .vmem, ⟨23, _⟩ => ⟨S1x512x128, .f32⟩
  | .local _ .vmem, ⟨24, _⟩ => ⟨S1x512x128, .f32⟩
  | .local _ .vmem, ⟨25, _⟩ => ⟨S1x512x256, .f32⟩
  | .local _ .vmem, ⟨26, _⟩ => ⟨S1x512x256, .f32⟩
  | .local _ .vmem, ⟨27, _⟩ => ⟨S1x512x256, .f32⟩
  | .local _ .vmem, ⟨28, _⟩ => ⟨S1x512x256, .f32⟩
  | .local _ .vmem, ⟨29, _⟩ => ⟨S1x512x512, .f32⟩
  | .local _ .vmem, ⟨30, _⟩ => ⟨S1x512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev main_v9_6 : Ref sig .tc := ⟨.hbm, 24, rfl⟩
abbrev main_v9_7 : Ref sig .tc := ⟨.hbm, 25, rfl⟩
abbrev main_v9_8 : Ref sig .tc := ⟨.hbm, 26, rfl⟩
abbrev main_v9_9 : Ref sig .tc := ⟨.hbm, 27, rfl⟩
abbrev main_v9_10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ProjReferenceIdeal.lean ====
abbrev S4x8192x1024 : Shape := ⟨3, ![4, 8192, 1024]⟩
abbrev S4x3072 : Shape := ⟨2, ![4, 3072]⟩
abbrev S4x8192x128 : Shape := ⟨3, ![4, 8192, 128]⟩
abbrev S1024x2248 : Shape := ⟨2, ![1024, 2248]⟩
abbrev S4x1024 : Shape := ⟨2, ![4, 1024]⟩
abbrev S4x1x1024 : Shape := ⟨3, ![4, 1, 1024]⟩
abbrev S_ : Shape := ⟨0, ![]⟩
abbrev S4x8192x8 : Shape := ⟨3, ![4, 8192, 8]⟩
abbrev S4x8192x2248 : Shape := ⟨3, ![4, 8192, 2248]⟩
abbrev S4x8192x256 : Shape := ⟨3, ![4, 8192, 256]⟩
abbrev S4x8192x64 : Shape := ⟨3, ![4, 8192, 64]⟩
abbrev S4x8192x4 : Shape := ⟨3, ![4, 8192, 4]⟩
abbrev S4x8192x512 : Shape := ⟨3, ![4, 8192, 512]⟩
abbrev S4x8192x4x64 : Shape := ⟨4, ![4, 8192, 4, 64]⟩
abbrev S4x8192x1x8 : Shape := ⟨4, ![4, 8192, 1, 8]⟩
abbrev S4x8192x4x8 : Shape := ⟨4, ![4, 8192, 4, 8]⟩
abbrev S4x8192x4x48 : Shape := ⟨4, ![4, 8192, 4, 48]⟩
abbrev S4x8192x48 : Shape := ⟨3, ![4, 8192, 48]⟩
abbrev S4x8192x56 : Shape := ⟨3, ![4, 8192, 56]⟩
abbrev S4x256x8192 : Shape := ⟨3, ![4, 256, 8192]⟩
abbrev S4x64x8192 : Shape := ⟨3, ![4, 64, 8192]⟩
abbrev S4x8x8192 : Shape := ⟨3, ![4, 8, 8192]⟩

abbrev nBuf : Space → Nat
  | .hbm => 105
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x3072, .f32⟩
  | .hbm, ⟨2, _⟩ => ⟨S4x8192x128, .f32⟩
  | .hbm, ⟨3, _⟩ => ⟨S4x8192x128, .f32⟩
  | .hbm, ⟨4, _⟩ => ⟨S1024x2248, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1x1024, .f32⟩
  | .hbm, ⟨9, _⟩ => ⟨S4x1x1024, .f32⟩
  | .hbm, ⟨10, _⟩ => ⟨S_, .f32⟩
  | .hbm, ⟨11, _⟩ => ⟨S4x1x1024, .f32⟩
  | .hbm, ⟨12, _⟩ => ⟨S4x1x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x8, .f32⟩
  | .hbm, ⟨18, _⟩ => ⟨S4x8192x8, .f32⟩
  | .hbm, ⟨19, _⟩ => ⟨S4x8192x2248, .f32⟩
  | .hbm, ⟨20, _⟩ => ⟨S4x8192x256, .f32⟩
  | .hbm, ⟨21, _⟩ => ⟨S4x8192x256, .f32⟩
  | .hbm, ⟨22, _⟩ => ⟨S4x8192x256, .f32⟩
  | .hbm, ⟨23, _⟩ => ⟨S4x8192x64, .f32⟩
  | .hbm, ⟨24, _⟩ => ⟨S4x8192x64, .f32⟩
  | .hbm, ⟨25, _⟩ => ⟨S4x8192x256, .f32⟩
  | .hbm, ⟨26, _⟩ => ⟨S4x8192x64, .f32⟩
  | .hbm, ⟨27, _⟩ => ⟨S4x8192x4, .f32⟩
  | .hbm, ⟨28, _⟩ => ⟨S4x8192x256, .f32⟩
  | .hbm, ⟨29, _⟩ => ⟨S4x8192x256, .f32⟩
  | .hbm, ⟨30, _⟩ => ⟨S4x8192x512, .f32⟩
  | .hbm, ⟨31, _⟩ => ⟨S4x8192x4, .f32⟩
  | .hbm, ⟨32, _⟩ => ⟨S4x8192x4x64, .f32⟩
  | .hbm, ⟨33, _⟩ => ⟨S4x8192x1x8, .f32⟩
  | .hbm, ⟨34, _⟩ => ⟨S4x8192x1x8, .f32⟩
  | .hbm, ⟨35, _⟩ => ⟨S4x8192x4x8, .f32⟩
  | .hbm, ⟨36, _⟩ => ⟨S4x8192x4x8, .f32⟩
  | .hbm, ⟨37, _⟩ => ⟨S4x8192x4x8, .f32⟩
  | .hbm, ⟨38, _⟩ => ⟨S4x8192x4x8, .f32⟩
  | .hbm, ⟨39, _⟩ => ⟨S4x8192x4x8, .f32⟩
  | .hbm, ⟨40, _⟩ => ⟨S4x8192x4x8, .f32⟩
  | .hbm, ⟨41, _⟩ => ⟨S4x8192x4x8, .f32⟩
  | .hbm, ⟨42, _⟩ => ⟨S4x8192x4x8, .f32⟩
  | .hbm, ⟨43, _⟩ => ⟨S4x8192x4x8, .f32⟩
  | .hbm, ⟨44, _⟩ => ⟨S4x8192x4x8, .f32⟩
  | .hbm, ⟨45, _⟩ => ⟨S4x8192x4x8, .f32⟩
  | .hbm, ⟨46, _⟩ => ⟨S4x8192x4x8, .f32⟩
  | .hbm, ⟨47, _⟩ => ⟨S4x8192x4x48, .f32⟩
  | .hbm, ⟨48, _⟩ => ⟨S4x8192x4x64, .f32⟩
  | .hbm, ⟨49, _⟩ => ⟨S4x8192x8, .f32⟩
  | .hbm, ⟨50, _⟩ => ⟨S4x8192x8, .f32⟩
  | .hbm, ⟨51, _⟩ => ⟨S4x8192x8, .f32⟩
  | .hbm, ⟨52, _⟩ => ⟨S4x8192x8, .f32⟩
  | .hbm, ⟨53, _⟩ => ⟨S4x8192x8, .f32⟩
  | .hbm, ⟨54, _⟩ => ⟨S4x8192x8, .f32⟩
  | .hbm, ⟨55, _⟩ => ⟨S4x8192x8, .f32⟩
  | .hbm, ⟨56, _⟩ => ⟨S4x8192x8, .f32⟩
  | .hbm, ⟨57, _⟩ => ⟨S4x8192x48, .f32⟩
  | .hbm, ⟨58, _⟩ => ⟨S4x8192x64, .f32⟩
  | .hbm, ⟨59, _⟩ => ⟨S4x8192x4x64, .f32⟩
  | .hbm, ⟨60, _⟩ => ⟨S4x8192x1x8, .f32⟩
  | .hbm, ⟨61, _⟩ => ⟨S4x8192x1x8, .f32⟩
  | .hbm, ⟨62, _⟩ => ⟨S4x8192x4x8, .f32⟩
  | .hbm, ⟨63, _⟩ => ⟨S4x8192x4x8, .f32⟩
  | .hbm, ⟨64, _⟩ => ⟨S4x8192x4x8, .f32⟩
  | .hbm, ⟨65, _⟩ => ⟨S4x8192x4x8, .f32⟩
  | .hbm, ⟨66, _⟩ => ⟨S4x8192x4x8, .f32⟩
  | .hbm, ⟨67, _⟩ => ⟨S4x8192x4x8, .f32⟩
  | .hbm, ⟨68, _⟩ => ⟨S4x8192x4x8, .f32⟩
  | .hbm, ⟨69, _⟩ => ⟨S4x8192x4x8, .f32⟩
  | .hbm, ⟨70, _⟩ => ⟨S4x8192x4x8, .f32⟩
  | .hbm, ⟨71, _⟩ => ⟨S4x8192x4x8, .f32⟩
  | .hbm, ⟨72, _⟩ => ⟨S4x8192x4x8, .f32⟩
  | .hbm, ⟨73, _⟩ => ⟨S4x8192x4x8, .f32⟩
  | .hbm, ⟨74, _⟩ => ⟨S4x8192x4x48, .f32⟩
  | .hbm, ⟨75, _⟩ => ⟨S4x8192x4x64, .f32⟩
  | .hbm, ⟨76, _⟩ => ⟨S4x8192x8, .f32⟩
  | .hbm, ⟨77, _⟩ => ⟨S4x8192x8, .f32⟩
  | .hbm, ⟨78, _⟩ => ⟨S4x8192x8, .f32⟩
  | .hbm, ⟨79, _⟩ => ⟨S4x8192x8, .f32⟩
  | .hbm, ⟨80, _⟩ => ⟨S4x8192x8, .f32⟩
  | .hbm, ⟨81, _⟩ => ⟨S4x8192x8, .f32⟩
  | .hbm, ⟨82, _⟩ => ⟨S4x8192x8, .f32⟩
  | .hbm, ⟨83, _⟩ => ⟨S4x8192x8, .f32⟩
  | .hbm, ⟨84, _⟩ => ⟨S4x8192x48, .f32⟩
  | .hbm, ⟨85, _⟩ => ⟨S4x8192x64, .f32⟩
  | .hbm, ⟨86, _⟩ => ⟨S_, .f32⟩
  | .hbm, ⟨87, _⟩ => ⟨S4x8192x4x64, .f32⟩
  | .hbm, ⟨88, _⟩ => ⟨S4x8192x4x64, .f32⟩
  | .hbm, ⟨89, _⟩ => ⟨S4x8192x512, .f32⟩
  | .hbm, ⟨90, _⟩ => ⟨S_, .f32⟩
  | .hbm, ⟨91, _⟩ => ⟨S4x8192x56, .f32⟩
  | .hbm, ⟨92, _⟩ => ⟨S4x8192x128, .f32⟩
  | .hbm, ⟨93, _⟩ => ⟨S4x8192x256, .f32⟩
  | .hbm, ⟨94, _⟩ => ⟨S4x256x8192, .f32⟩
  | .hbm, ⟨95, _⟩ => ⟨S4x256x8192, .bf16⟩
  | .hbm, ⟨96, _⟩ => ⟨S4x8192x256, .f32⟩
  | .hbm, ⟨97, _⟩ => ⟨S4x256x8192, .f32⟩
  | .hbm, ⟨98, _⟩ => ⟨S4x256x8192, .bf16⟩
  | .hbm, ⟨99, _⟩ => ⟨S4x8192x64, .bf16⟩
  | .hbm, ⟨100, _⟩ => ⟨S4x8192x64, .bf16⟩
  | .hbm, ⟨101, _⟩ => ⟨S4x64x8192, .f32⟩
  | .hbm, ⟨102, _⟩ => ⟨S4x64x8192, .bf16⟩
  | .hbm, ⟨103, _⟩ => ⟨S4x8192x8, .f32⟩
  | .hbm, ⟨104, _⟩ => ⟨S4x8x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_cst_0 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_cst_1 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩

abbrev nD : Nat := 1
abbrev τ : Topo := Topo.v7x

variable {F : FTy → Type} [FloatOps F]
-- ==== Adaln.lean ====
abbrev S4x1024 : Shape := ⟨2, ![4, 1024]⟩
abbrev S2x1024x3072 : Shape := ⟨3, ![2, 1024, 3072]⟩
abbrev S2x3072 : Shape := ⟨2, ![2, 3072]⟩
abbrev S2x1x3072 : Shape := ⟨3, ![2, 1, 3072]⟩
abbrev S2x4x3072 : Shape := ⟨3, ![2, 4, 3072]⟩
abbrev S1x1024x1024 : Shape := ⟨3, ![1, 1024, 1024]⟩
abbrev S1x1x1024 : Shape := ⟨3, ![1, 1, 1024]⟩
abbrev S1x4x1024 : Shape := ⟨3, ![1, 4, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S2x1024x3072, .f32⟩
  | .hbm, ⟨2, _⟩ => ⟨S2x3072, .f32⟩
  | .hbm, ⟨3, _⟩ => ⟨S2x1x3072, .f32⟩
  | .hbm, ⟨4, _⟩ => ⟨S2x4x3072, .f32⟩
  | .local _ .vmem, ⟨0, _⟩ => ⟨S4x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x4x1024, .f32⟩
  | .local _ .vmem, ⟨6, _⟩ => ⟨S1x4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnReferenceIdeal.lean ====
abbrev S4x1024 : Shape := ⟨2, ![4, 1024]⟩
abbrev S2x1024x3072 : Shape := ⟨3, ![2, 1024, 3072]⟩
abbrev S2x3072 : Shape := ⟨2, ![2, 3072]⟩
abbrev S1x1024x3072 : Shape := ⟨3, ![1, 1024, 3072]⟩
abbrev S1024x3072 : Shape := ⟨2, ![1024, 3072]⟩
abbrev S4x3072 : Shape := ⟨2, ![4, 3072]⟩
abbrev S1x3072 : Shape := ⟨2, ![1, 3072]⟩
abbrev S3072 : Shape := ⟨1, ![3072]⟩
abbrev S1x4x3072 : Shape := ⟨3, ![1, 4, 3072]⟩
abbrev S2x4x3072 : Shape := ⟨3, ![2, 4, 3072]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S2x1024x3072, .f32⟩
  | .hbm, ⟨2, _⟩ => ⟨S2x3072, .f32⟩
  | .hbm, ⟨3, _⟩ => ⟨S1x1024x3072, .f32⟩
  | .hbm, ⟨4, _⟩ => ⟨S1024x3072, .f32⟩
  | .hbm, ⟨5, _⟩ => ⟨S4x3072, .f32⟩
  | .hbm, ⟨6, _⟩ => ⟨S1x3072, .f32⟩
  | .hbm, ⟨7, _⟩ => ⟨S3072, .f32⟩
  | .hbm, ⟨8, _⟩ => ⟨S1x3072, .f32⟩
  | .hbm, ⟨9, _⟩ => ⟨S4x3072, .f32⟩
  | .hbm, ⟨10, _⟩ => ⟨S4x3072, .f32⟩
  | .hbm, ⟨11, _⟩ => ⟨S1x1024x3072, .f32⟩
  | .hbm, ⟨12, _⟩ => ⟨S1024x3072, .f32⟩
  | .hbm, ⟨13, _⟩ => ⟨S4x3072, .f32⟩
  | .hbm, ⟨14, _⟩ => ⟨S1x3072, .f32⟩
  | .hbm, ⟨15, _⟩ => ⟨S3072, .f32⟩
  | .hbm, ⟨16, _⟩ => ⟨S1x3072, .f32⟩
  | .hbm, ⟨17, _⟩ => ⟨S4x3072, .f32⟩
  | .hbm, ⟨18, _⟩ => ⟨S4x3072, .f32⟩
  | .hbm, ⟨19, _⟩ => ⟨S1x4x3072, .f32⟩
  | .hbm, ⟨20, _⟩ => ⟨S1x4x3072, .f32⟩
  | .hbm, ⟨21, _⟩ => ⟨S2x4x3072, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Rope.lean ====
abbrev S4x8192 : Shape := ⟨2, ![4, 8192]⟩
abbrev S4x8192x1 : Shape := ⟨3, ![4, 8192, 1]⟩
abbrev S4x8192x128 : Shape := ⟨3, ![4, 8192, 128]⟩
abbrev S1x512x1 : Shape := ⟨3, ![1, 512, 1]⟩
abbrev S1x512x128 : Shape := ⟨3, ![1, 512, 128]⟩
abbrev S512x1 : Shape := ⟨2, ![512, 1]⟩
abbrev S1x128 : Shape := ⟨2, ![1, 128]⟩
abbrev S512x128 : Shape := ⟨2, ![512, 128]⟩

abbrev nBuf : Space → Nat
  | .hbm => 5
  | .vmem => 6
  | .smem => 0
  | _ => 0

abbrev bufTy : (tb : Table) → Fin (tcTables nBuf tb) → BufTy
  | .hbm, ⟨0, _⟩ => ⟨S4x8192, .i32⟩
  | .hbm, ⟨1, _⟩ => ⟨S4x8192, .f32⟩
  | .hbm, ⟨2, _⟩ => ⟨S4x8192x1, .f32⟩
  | .hbm, ⟨3, _⟩ => ⟨S4x8192x128, .f32⟩
  | .hbm, ⟨4, _⟩ => ⟨S4x8192x128, .f32⟩
  | .local _ .vmem, ⟨0, _⟩ => ⟨S1x512x1, .f32⟩
  | .local _ .vmem, ⟨1, _⟩ => ⟨S1x512x1, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RopeIdeal.lean ====
variable {F : FTy → Type} [FloatOps F] [Named F]
def κ : String → Option EReal := fun
  | "rate" => some (((-(Real.log 500000)) * (1 / 8) : ℝ) : EReal)
  | _ => none
-- ==== RopeReferenceIdeal.lean ====
abbrev S4x8192 : Shape := ⟨2, ![4, 8192]⟩
abbrev S8 : Shape := ⟨1, ![8]⟩
abbrev S_ : Shape := ⟨0, ![]⟩
abbrev S4x8192x1 : Shape := ⟨3, ![4, 8192, 1]⟩
abbrev S1x1x8 : Shape := ⟨3, ![1, 1, 8]⟩
abbrev S4x8192x8 : Shape := ⟨3, ![4, 8192, 8]⟩
abbrev S4x8192x48 : Shape := ⟨3, ![4, 8192, 48]⟩
abbrev S4x8192x64 : Shape := ⟨3, ![4, 8192, 64]⟩
abbrev S4x8192x128 : Shape := ⟨3, ![4, 8192, 128]⟩

abbrev nBuf : Space → Nat
  | .hbm => 32
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S4x8192, .f32⟩
  | .hbm, ⟨16, _⟩ => ⟨S4x8192x1, .f32⟩
  | .hbm, ⟨17, _⟩ => ⟨S1x1x8, .f32⟩
  | .hbm, ⟨18, _⟩ => ⟨S4x8192x8, .f32⟩
  | .hbm, ⟨19, _⟩ => ⟨S4x8192x8, .f32⟩
  | .hbm, ⟨20, _⟩ => ⟨S4x8192x8, .f32⟩
  | .hbm, ⟨21, _⟩ => ⟨S4x8192x8, .f32⟩
  | .hbm, ⟨22, _⟩ => ⟨S4x8192x8, .f32⟩
  | .hbm, ⟨23, _⟩ => ⟨S_, .f32⟩
  | .hbm, ⟨24, _⟩ => ⟨S4x8192x48, .f32⟩
  | .hbm, ⟨25, _⟩ => ⟨S4x8192x64, .f32⟩
  | .hbm, ⟨26, _⟩ => ⟨S4x8192x8, .f32⟩
  | .hbm, ⟨27, _⟩ => ⟨S_, .f32⟩
  | .hbm, ⟨28, _⟩ => ⟨S4x8192x48, .f32⟩
  | .hbm, ⟨29, _⟩ => ⟨S4x8192x64, .f32⟩
  | .hbm, ⟨30, _⟩ => ⟨S4x8192x128, .f32⟩
  | .hbm, ⟨31, _⟩ => ⟨S4x8192x128, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.DsaSafe.lean ====
/-
  Running the sparse attention body without naming what it leaves in memory. `Safe c R p` says that the program `p`
  runs from the resources `R` and hands them back, whatever it returns; `Has c R M` says that `R` holds the buffer
  behind `M` at some contents. Loads, stores, branches, counted loops and sequences are safe one by one, so the body
  is followed statement by statement, in any order of its counted loops and at any trip.
-/
module

public import proofs.«01_k».proof.Proof.Gen.Kernel.Skeleton
public import Idealize.ShloMosaic.Lib.Pipeline.Frame
public import Idealize.ShloMosaic.Lib.Tactic

@[expose] public section

set_option maxRecDepth 65536

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The assertions the run is stated in. -/
abbrev Res (F : FTy → Type) [BitOps F] : Type _ := sProp (MT nD τ sig Unit (Elt F) ℕ (UR sig nD τ) ℕ)

/-- The program runs from `R` to its return and hands `R` back. -/
def Safe (c : Dev nD) (R : sProp 𝕄) {α : Type} (p : Prog (TpuEff nD τ sig (Elt F) Λ₀ .tc) α) : Prop :=
  ∀ K : α → sProp 𝕄, iprop(R ∗ (∀ a, R -∗ K a))
    ⊢ wp frame (wpE (defs₀ (F := F)) Variants.none (c : Thread nD τ) none) Set.univ p K

/-- `R` holds the buffer of `M`, whole, at some contents. -/
def Has (c : Dev nD) (R : sProp 𝕄) {s : Shape} {e : EltTy} (M : Memref sig .tc .vmem s e) : Prop :=
  ∃ R' : sProp 𝕄, (R ⊢ iprop((∃ d, owns (c : Thread nD τ) M fullShare d) ∗ R'))
    ∧ (iprop((∃ d, owns (c : Thread nD τ) M fullShare d) ∗ R') ⊢ R)

section
variable {c : Dev nD} {R : Res F} {α β : Type}

theorem Safe.pure (a : α) : Safe c R (Pure.pure a : Prog (TpuEff nD τ sig (Elt F) Λ₀ .tc) α) := by
  intro K
  show _ ⊢ wp _ _ _ (Prog.ret a) K
  rw [wp_ret]
  iintro ⟨HR, HK⟩
  imodintro
  iapply HK; iexact HR

theorem Safe.bind {p : Prog (TpuEff nD τ sig (Elt F) Λ₀ .tc) α} {k : α → Prog (TpuEff nD τ sig (Elt F) Λ₀ .tc) β}
    (hp : Safe c R p) (hk : ∀ a, Safe c R (k a)) : Safe c R (p >>= k) := by
  intro K
  rw [wp_bind]
  iintro ⟨HR, HK⟩
  iapply (hp _)
  isplitl [HR]; · iexact HR
  iintro %a HR
  iapply (hk a K)
  isplitl [HR] <;> iassumption

theorem Safe.dite {P : Prop} {inst : Decidable P} {p : P → Prog (TpuEff nD τ sig (Elt F) Λ₀ .tc) α}
    {q : ¬ P → Prog (TpuEff nD τ sig (Elt F) Λ₀ .tc) α}
    (hp : ∀ h, Safe c R (p h)) (hq : ∀ h, Safe c R (q h)) : Safe c R (if h : P then p h else q h) := by
  by_cases h : P
  · rw [dif_pos h]; exact hp h
  · rw [dif_neg h]; exact hq h

theorem Safe.loop {w : Nat} {l : Scf.Loop w} {hok : l.OK} {init : α}
    {body : Fin l.trips → α → Prog (TpuEff nD τ sig (Elt F) Λ₀ .tc) α}
    (h : ∀ k a, Safe c R (body k a)) : Safe c R (Scf.Loop.for l hok init body) := by
  intro K
  have e := Scf.wp_for frame (wpE (defs₀ (F := F)) Variants.none (c : Thread nD τ) none) Set.univ l.lb l.ub l.st hok init
    body (fun _ _ => R) (fun k a => by
      iintro HR
      iapply (h k a _)
      isplitl [HR]; · iexact HR
      iintro %a HR
      iexact HR) (Q := K)
  exact e

theorem Has.load {s : Shape} {e : EltTy} {M : Memref sig .tc .vmem s e} (h : Has c R M) {r : LoadRect s} {hv : M.view.LoadsAt r} :
    Safe c R (Prog.lift (TpuEff.load M r hv) : Prog (TpuEff nD τ sig (Elt F) Λ₀ .tc) _) := by
  obtain ⟨R', h1, h2⟩ := h
  intro K
  refine (sep_mono_left h1).trans ?_
  unfold owns
  iintro ⟨⟨⟨%d, %f, -, H⟩, HR⟩, HK⟩
  iapply (wp_load Variants.none (c : Thread nD τ) none Set.univ (View.setOn_subset_set M.view r.set)) $$ H
  iintro H
  sl_step
  iapply HK
  iapply h2
  isplitl [H]
  · unfold owns; iexists _, _; isplitr; swap; · iexact H
    ipureintro; rfl
  iexact HR

theorem Has.store {s : Shape} {e : EltTy} {M : Memref sig .tc .vmem s e} (h : Has c R M) {r : Rect s} {w : r.shape.Idx → Elt F e}
    {Mk : Finset r.shape.Idx} {hx : (M.access r).Stores Mk} {hm : Mk = Finset.univ ∨ ∀ a, r.stride a = 1} :
    Safe c R (Prog.lift (TpuEff.store M r w Mk hx hm) : Prog (TpuEff nD τ sig (Elt F) Λ₀ .tc) _) := by
  obtain ⟨R', h1, h2⟩ := h
  intro K
  refine (sep_mono_left h1).trans ?_
  unfold owns
  iintro ⟨⟨⟨%d, %f, -, H⟩, HR⟩, HK⟩
  iapply (wp_store Variants.none (c : Thread nD τ) none Set.univ (hx := hx) (((M.access r).setOn_subset_set _).trans (View.set_slice_subset M.view r))) $$ H
  iintro H
  sl_step
  iapply HK
  iapply h2
  isplitl [H]
  · unfold owns; iexists _, _; isplitr; swap; · iexact H
    ipureintro; rfl
  iexact HR

end

/-- `R` holds all fifteen operands of the body. -/
structure Held (c : Dev nD) (R : sProp 𝕄) (arg2 : Memref sig .tc .vmem S1x256x128 .bf16) (arg3 : Memref sig .tc .vmem S1x256x128 .bf16) (arg4 : Memref sig .tc .vmem S1x8x128 .f32) (arg5 : Memref sig .tc .vmem S1x8192x64 .bf16) (arg6 : Memref sig .tc .vmem S1x8192x64 .bf16) (arg7 : Memref sig .tc .vmem S1x64x8192 .bf16) (arg8 : Memref sig .tc .vmem S1x256x128 .bf16) (arg9 : Memref sig .tc .vmem S16x512x128 .i32) (arg10 : Memref sig .tc .vmem S32x32x8x128 .i32) (arg11 : Memref sig .tc .vmem S32x8x128 .i32) (arg12 : Memref sig .tc .vmem S8x128 .i32) (arg13 : Memref sig .tc .vmem S72x512 .f32) (arg14 : Memref sig .tc .vmem S512x512 .bf16) (arg15 : Memref sig .tc .vmem S512x512 .f32) (arg16 : Memref sig .tc .vmem S512x512 .f32) : Prop where
  a2 : Has c R arg2
  a3 : Has c R arg3
  a4 : Has c R arg4
  a5 : Has c R arg5
  a6 : Has c R arg6
  a7 : Has c R arg7
  a8 : Has c R arg8
  a9 : Has c R arg9
  a10 : Has c R arg10
  a11 : Has c R arg11
  a12 : Has c R arg12
  a13 : Has c R arg13
  a14 : Has c R arg14
  a15 : Has c R arg15
  a16 : Has c R arg16

end Cert.Kernel.Dsa

end
-- ==== Proof.DsaTrip1a.lean ====
/-
  The first half of a trip of the first score loop, statement by statement.
-/
module

public import proofs.«01_k».proof.Proof.DsaSafe
public import proofs.«01_k».proof.Proof.Gen.Kernel.Skeleton
public import Idealize.ShloMosaic.Lib.Pipeline.Frame
public import Idealize.ShloMosaic.Lib.Tactic

@[expose] public section

set_option maxRecDepth 65536

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable {c : Dev nD} {R : Res F} {i : grid0.Coords} {arg2 : Memref sig .tc .vmem S1x256x128 .bf16} {arg3 : Memref sig .tc .vmem S1x256x128 .bf16} {arg4 : Memref sig .tc .vmem S1x8x128 .f32} {arg5 : Memref sig .tc .vmem S1x8192x64 .bf16} {arg6 : Memref sig .tc .vmem S1x8192x64 .bf16} {arg7 : Memref sig .tc .vmem S1x64x8192 .bf16} {arg8 : Memref sig .tc .vmem S1x256x128 .bf16} {arg9 : Memref sig .tc .vmem S16x512x128 .i32} {arg10 : Memref sig .tc .vmem S32x32x8x128 .i32} {arg11 : Memref sig .tc .vmem S32x8x128 .i32} {arg12 : Memref sig .tc .vmem S8x128 .i32} {arg13 : Memref sig .tc .vmem S72x512 .f32} {arg14 : Memref sig .tc .vmem S512x512 .bf16} {arg15 : Memref sig .tc .vmem S512x512 .f32} {arg16 : Memref sig .tc .vmem S512x512 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole}

set_option maxHeartbeats 4000000

theorem p1 (H : Held c R arg2 arg3 arg4 arg5 arg6 arg7 arg8 arg9 arg10 arg11 arg12 arg13 arg14 arg15 arg16) {x0 x1 x2 x3 x4} : Safe c R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4) := by
  rw [k0_part1_eq_skeleton]; unfold k0_part1_skel
  exact .bind H.a5.load fun _ => .bind H.a16.load fun _ => .bind H.a16.store fun _ => .bind H.a15.load fun _ => .bind H.a15.load fun _ => .bind H.a15.load fun _ => .bind H.a15.load fun _ => .pure _

theorem p2 (H : Held c R arg2 arg3 arg4 arg5 arg6 arg7 arg8 arg9 arg10 arg11 arg12 arg13 arg14 arg15 arg16) {x0 x1 x2 x3 x4 x5 x6} : Safe c R (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part2_eq_skeleton]; unfold k0_part2_skel
  exact .bind H.a9.load fun _ => .bind H.a9.store fun _ => .pure _

theorem p3 (H : Held c R arg2 arg3 arg4 arg5 arg6 arg7 arg8 arg9 arg10 arg11 arg12 arg13 arg14 arg15 arg16) {x0 x1 x2 x3 x4 x5 x6 x7 x8 x9 x10} : Safe c R (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part3_eq_skeleton]; unfold k0_part3_skel
  exact .pure _

theorem p4 (H : Held c R arg2 arg3 arg4 arg5 arg6 arg7 arg8 arg9 arg10 arg11 arg12 arg13 arg14 arg15 arg16) {x0 x1 x2 x3 x4 x5 x6 x7 x8 x9 x10 x11 x12 x13} : Safe c R (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part4_eq_skeleton]; unfold k0_part4_skel
  exact .pure _

theorem p5 (H : Held c R arg2 arg3 arg4 arg5 arg6 arg7 arg8 arg9 arg10 arg11 arg12 arg13 arg14 arg15 arg16) {x0 x1 x2 x3 x4 x5 x6 x7 x8 x9 x10 x11 x12 x13} : Safe c R (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part5_eq_skeleton]; unfold k0_part5_skel
  exact .pure _

theorem p6 (H : Held c R arg2 arg3 arg4 arg5 arg6 arg7 arg8 arg9 arg10 arg11 arg12 arg13 arg14 arg15 arg16) {x0 x1 x2 x3 x4 x5 x6 x7 x8 x9 x10 x11 x12 x13} : Safe c R (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part6_eq_skeleton]; unfold k0_part6_skel
  exact .pure _

theorem p7 (H : Held c R arg2 arg3 arg4 arg5 arg6 arg7 arg8 arg9 arg10 arg11 arg12 arg13 arg14 arg15 arg16) {x0 x1 x2 x3 x4 x5 x6 x7 x8 x9 x10 x11 x12 x13} : Safe c R (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part7_eq_skeleton]; unfold k0_part7_skel
  exact .pure _

theorem p8 (H : Held c R arg2 arg3 arg4 arg5 arg6 arg7 arg8 arg9 arg10 arg11 arg12 arg13 arg14 arg15 arg16) {x0 x1 x2 x3 x4 x5 x6 x7 x8 x9 x10 x11 x12 x13} : Safe c R (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part8_eq_skeleton]; unfold k0_part8_skel
  exact .pure _

theorem p9 (H : Held c R arg2 arg3 arg4 arg5 arg6 arg7 arg8 arg9 arg10 arg11 arg12 arg13 arg14 arg15 arg16) {x0 x1 x2 x3 x4 x5 x6 x7 x8 x9 x10 x11 x12 x13} : Safe c R (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part9_eq_skeleton]; unfold k0_part9_skel
  exact .pure _

theorem p10 (H : Held c R arg2 arg3 arg4 arg5 arg6 arg7 arg8 arg9 arg10 arg11 arg12 arg13 arg14 arg15 arg16) {x0 x1 x2 x3 x4 x5 x6 x7 x8 x9 x10 x11 x12 x13} : Safe c R (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part10_eq_skeleton]; unfold k0_part10_skel
  exact .pure _

theorem p11 (H : Held c R arg2 arg3 arg4 arg5 arg6 arg7 arg8 arg9 arg10 arg11 arg12 arg13 arg14 arg15 arg16) {x0 x1 x2 x3 x4 x5 x6 x7 x8 x9 x10 x11 x12 x13} : Safe c R (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part11_eq_skeleton]; unfold k0_part11_skel
  exact .pure _

theorem p12 (H : Held c R arg2 arg3 arg4 arg5 arg6 arg7 arg8 arg9 arg10 arg11 arg12 arg13 arg14 arg15 arg16) {x0 x1 x2 x3 x4 x5 x6 x7 x8 x9 x10 x11 x12 x13} : Safe c R (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part12_eq_skeleton]; unfold k0_part12_skel
  exact .pure _

theorem p13 (H : Held c R arg2 arg3 arg4 arg5 arg6 arg7 arg8 arg9 arg10 arg11 arg12 arg13 arg14 arg15 arg16) {x0 x1 x2 x3 x4 x5 x6 x7 x8 x9 x10 x11 x12 x13} : Safe c R (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part13_eq_skeleton]; unfold k0_part13_skel
  exact .pure _

theorem p14 (H : Held c R arg2 arg3 arg4 arg5 arg6 arg7 arg8 arg9 arg10 arg11 arg12 arg13 arg14 arg15 arg16) {x0 x1 x2 x3 x4 x5 x6 x7 x8 x9 x10 x11 x12 x13} : Safe c R (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part14_eq_skeleton]; unfold k0_part14_skel
  exact .pure _

theorem p15 (H : Held c R arg2 arg3 arg4 arg5 arg6 arg7 arg8 arg9 arg10 arg11 arg12 arg13 arg14 arg15 arg16) {x0 x1 x2 x3 x4 x5 x6 x7 x8 x9 x10 x11 x12 x13} : Safe c R (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part15_eq_skeleton]; unfold k0_part15_skel
  exact .pure _

theorem p16 (H : Held c R arg2 arg3 arg4 arg5 arg6 arg7 arg8 arg9 arg10 arg11 arg12 arg13 arg14 arg15 arg16) {x0 x1 x2 x3 x4 x5 x6 x7 x8 x9 x10 x11 x12 x13} : Safe c R (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part16_eq_skeleton]; unfold k0_part16_skel
  exact .pure _

theorem p17 (H : Held c R arg2 arg3 arg4 arg5 arg6 arg7 arg8 arg9 arg10 arg11 arg12 arg13 arg14 arg15 arg16) {x0 x1 x2 x3 x4 x5 x6 x7 x8 x9 x10 x11 x12 x13} : Safe c R (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part17_eq_skeleton]; unfold k0_part17_skel
  exact .pure _

theorem p18 (H : Held c R arg2 arg3 arg4 arg5 arg6 arg7 arg8 arg9 arg10 arg11 arg12 arg13 arg14 arg15 arg16) {x0 x1 x2 x3 x4 x5 x6 x7 x8 x9 x10 x11 x12 x13} : Safe c R (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part18_eq_skeleton]; unfold k0_part18_skel
  exact .pure _

theorem p19 (H : Held c R arg2 arg3 arg4 arg5 arg6 arg7 arg8 arg9 arg10 arg11 arg12 arg13 arg14 arg15 arg16) {x0 x1 x2 x3 x4 x5 x6 x7 x8 x9} : Safe c R (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) := by
  rw [k0_part19_eq_skeleton]; unfold k0_part19_skel
  exact .bind H.a10.load fun _ => .bind H.a10.store fun _ => .bind H.a10.load fun _ => .bind H.a10.store fun _ => .bind H.a10.load fun _ => .bind H.a10.store fun _ => .bind H.a10.load fun _ => .bind H.a10.store fun _ => .pure _

theorem p20 (H : Held c R arg2 arg3 arg4 arg5 arg6 arg7 arg8 arg9 arg10 arg11 arg12 arg13 arg14 arg15 arg16) {x0 x1 x2 x3 x4 x5 x6} : Safe c R (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part20_eq_skeleton]; unfold k0_part20_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p21 (H : Held c R arg2 arg3 arg4 arg5 arg6 arg7 arg8 arg9 arg10 arg11 arg12 arg13 arg14 arg15 arg16) {x0 x1 x2 x3 x4 x5 x6} : Safe c R (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part21_eq_skeleton]; unfold k0_part21_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p22 (H : Held c R arg2 arg3 arg4 arg5 arg6 arg7 arg8 arg9 arg10 arg11 arg12 arg13 arg14 arg15 arg16) {x0 x1 x2 x3 x4 x5 x6} : Safe c R (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part22_eq_skeleton]; unfold k0_part22_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p23 (H : Held c R arg2 arg3 arg4 arg5 arg6 arg7 arg8 arg9 arg10 arg11 arg12 arg13 arg14 arg15 arg16) {x0 x1 x2 x3 x4 x5 x6} : Safe c R (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part23_eq_skeleton]; unfold k0_part23_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p24 (H : Held c R arg2 arg3 arg4 arg5 arg6 arg7 arg8 arg9 arg10 arg11 arg12 arg13 arg14 arg15 arg16) {x0 x1 x2 x3 x4 x5 x6} : Safe c R (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part24_eq_skeleton]; unfold k0_part24_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p25 (H : Held c R arg2 arg3 arg4 arg5 arg6 arg7 arg8 arg9 arg10 arg11 arg12 arg13 arg14 arg15 arg16) {x0 x1 x2 x3 x4 x5} : Safe c R (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  rw [k0_part25_eq_skeleton]; unfold k0_part25_skel
  exact .bind H.a10.load fun _ => .bind H.a10.store fun _ => .bind H.a10.load fun _ => .bind H.a10.store fun _ => .bind H.a10.load fun _ => .bind H.a10.store fun _ => .pure _

theorem p26 (H : Held c R arg2 arg3 arg4 arg5 arg6 arg7 arg8 arg9 arg10 arg11 arg12 arg13 arg14 arg15 arg16) {x0 x1 x2 x3 x4 x5 x6 x7 x8 x9 x10} : Safe c R (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part26_eq_skeleton]; unfold k0_part26_skel
  exact .pure _

theorem p27 (H : Held c R arg2 arg3 arg4 arg5 arg6 arg7 arg8 arg9 arg10 arg11 arg12 arg13 arg14 arg15 arg16) {x0 x1 x2 x3 x4 x5 x6 x7 x8 x9 x10 x11 x12} : Safe c R (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part27_eq_skeleton]; unfold k0_part27_skel
  exact .pure _

theorem p28 (H : Held c R arg2 arg3 arg4 arg5 arg6 arg7 arg8 arg9 arg10 arg11 arg12 arg13 arg14 arg15 arg16) {x0 x1 x2 x3 x4 x5 x6 x7 x8 x9 x10 x11 x12} : Safe c R (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part28_eq_skeleton]; unfold k0_part28_skel
  exact .pure _

theorem p29 (H : Held c R arg2 arg3 arg4 arg5 arg6 arg7 arg8 arg9 arg10 arg11 arg12 arg13 arg14 arg15 arg16) {x0 x1 x2 x3 x4 x5 x6 x7 x8 x9 x10 x11 x12} : Safe c R (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part29_eq_skeleton]; unfold k0_part29_skel
  exact .pure _

theorem p30 (H : Held c R arg2 arg3 arg4 arg5 arg6 arg7 arg8 arg9 arg10 arg11 arg12 arg13 arg14 arg15 arg16) {x0 x1 x2 x3 x4 x5 x6 x7 x8 x9 x10 x11 x12} : Safe c R (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part30_eq_skeleton]; unfold k0_part30_skel
  exact .pure _

theorem p31 (H : Held c R arg2 arg3 arg4 arg5 arg6 arg7 arg8 arg9 arg10 arg11 arg12 arg13 arg14 arg15 arg16) {x0 x1 x2 x3 x4 x5 x6 x7 x8 x9 x10 x11 x12} : Safe c R (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part31_eq_skeleton]; unfold k0_part31_skel
  exact .pure _

theorem p32 (H : Held c R arg2 arg3 arg4 arg5 arg6 arg7 arg8 arg9 arg10 arg11 arg12 arg13 arg14 arg15 arg16) {x0 x1 x2 x3 x4 x5 x6 x7 x8 x9 x10 x11 x12} : Safe c R (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part32_eq_skeleton]; unfold k0_part32_skel
  exact .pure _

theorem p33 (H : Held c R arg2 arg3 arg4 arg5 arg6 arg7 arg8 arg9 arg10 arg11 arg12 arg13 arg14 arg15 arg16) {x0 x1 x2 x3 x4 x5 x6 x7 x8 x9 x10 x11 x12} : Safe c R (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part33_eq_skeleton]; unfold k0_part33_skel
  exact .pure _

theorem p34 (H : Held c R arg2 arg3 arg4 arg5 arg6 arg7 arg8 arg9 arg10 arg11 arg12 arg13 arg14 arg15 arg16) {x0 x1 x2 x3 x4 x5 x6 x7 x8 x9 x10 x11 x12} : Safe c R (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part34_eq_skeleton]; unfold k0_part34_skel
  exact .pure _

theorem p35 (H : Held c R arg2 arg3 arg4 arg5 arg6 arg7 arg8 arg9 arg10 arg11 arg12 arg13 arg14 arg15 arg16) {x0 x1 x2 x3 x4 x5 x6 x7 x8 x9 x10 x11 x12} : Safe c R (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part35_eq_skeleton]; unfold k0_part35_skel
  exact .pure _

theorem p36 (H : Held c R arg2 arg3 arg4 arg5 arg6 arg7 arg8 arg9 arg10 arg11 arg12 arg13 arg14 arg15 arg16) {x0 x1 x2 x3 x4 x5 x6 x7 x8 x9 x10 x11 x12} : Safe c R (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part36_eq_skeleton]; unfold k0_part36_skel
  exact .pure _

theorem p37 (H : Held c R arg2 arg3 arg4 arg5 arg6 arg7 arg8 arg9 arg10 arg11 arg12 arg13 arg14 arg15 arg16) {x0 x1 x2 x3 x4 x5 x6 x7 x8 x9 x10 x11 x12} : Safe c R (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part37_eq_skeleton]; unfold k0_part37_skel
  exact .pure _

theorem p38 (H : Held c R arg2 arg3 arg4 arg5 arg6 arg7 arg8 arg9 arg10 arg11 arg12 arg13 arg14 arg15 arg16) {x0 x1 x2 x3 x4 x5 x6 x7 x8 x9 x10 x11 x12} : Safe c R (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part38_eq_skeleton]; unfold k0_part38_skel
  exact .pure _

theorem p39 (H : Held c R arg2 arg3 arg4 arg5 arg6 arg7 arg8 arg9 arg10 arg11 arg12 arg13 arg14 arg15 arg16) {x0 x1 x2 x3 x4 x5 x6 x7 x8 x9 x10 x11 x12} : Safe c R (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part39_eq_skeleton]; unfold k0_part39_skel
  exact .pure _

theorem p40 (H : Held c R arg2 arg3 arg4 arg5 arg6 arg7 arg8 arg9 arg10 arg11 arg12 arg13 arg14 arg15 arg16) {x0 x1 x2 x3 x4 x5 x6 x7 x8 x9 x10 x11 x12} : Safe c R (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part40_eq_skeleton]; unfold k0_part40_skel
  exact .pure _

theorem p41 (H : Held c R arg2 arg3 arg4 arg5 arg6 arg7 arg8 arg9 arg10 arg11 arg12 arg13 arg14 arg15 arg16) {x0 x1 x2 x3 x4 x5 x6 x7 x8 x9 x10 x11 x12} : Safe c R (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part41_eq_skeleton]; unfold k0_part41_skel
  exact .pure _

theorem p42 (H : Held c R arg2 arg3 arg4 arg5 arg6 arg7 arg8 arg9 arg10 arg11 arg12 arg13 arg14 arg15 arg16) {x0 x1 x2 x3 x4 x5 x6 x7 x8} : Safe c R (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  rw [k0_part42_eq_skeleton]; unfold k0_part42_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .pure _

theorem p43 (H : Held c R arg2 arg3 arg4 arg5 arg6 arg7 arg8 arg9 arg10 arg11 arg12 arg13 arg14 arg15 arg16) {x0 x1 x2 x3 x4 x5 x6} : Safe c R (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part43_eq_skeleton]; unfold k0_part43_skel
  exact .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .pure _

theorem p44 (H : Held c R arg2 arg3 arg4 arg5 arg6 arg7 arg8 arg9 arg10 arg11 arg12 arg13 arg14 arg15 arg16) {x0 x1 x2 x3 x4 x5 x6} : Safe c R (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part44_eq_skeleton]; unfold k0_part44_skel
  exact .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .pure _

theorem p45 (H : Held c R arg2 arg3 arg4 arg5 arg6 arg7 arg8 arg9 arg10 arg11 arg12 arg13 arg14 arg15 arg16) {x0 x1 x2 x3 x4 x5 x6} : Safe c R (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part45_eq_skeleton]; unfold k0_part45_skel
  exact .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .pure _

theorem p46 (H : Held c R arg2 arg3 arg4 arg5 arg6 arg7 arg8 arg9 arg10 arg11 arg12 arg13 arg14 arg15 arg16) {x0 x1 x2 x3 x4 x5 x6} : Safe c R (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part46_eq_skeleton]; unfold k0_part46_skel
  exact .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .pure _

theorem p47 (H : Held c R arg2 arg3 arg4 arg5 arg6 arg7 arg8 arg9 arg10 arg11 arg12 arg13 arg14 arg15 arg16) {x0 x1 x2 x3 x4 x5 x6} : Safe c R (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part47_eq_skeleton]; unfold k0_part47_skel
  exact .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .pure _

theorem p48 (H : Held c R arg2 arg3 arg4 arg5 arg6 arg7 arg8 arg9 arg10 arg11 arg12 arg13 arg14 arg15 arg16) {x0 x1 x2 x3 x4 x5 x6 x7} : Safe c R (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part48_eq_skeleton]; unfold k0_part48_skel
  exact .bind H.a10.store fun _ => .bind H.a10.load fun _ => .bind H.a10.store fun _ => .bind H.a10.load fun _ => .bind H.a10.store fun _ => .bind H.a5.load fun _ => .bind H.a15.load fun _ => .bind H.a15.store fun _ => .bind H.a16.load fun _ => .pure _

end Cert.Kernel.Dsa

end
-- ==== Proof.DsaTrip1b.lean ====
/-
  The second half of a trip of the first score loop.
-/
module

public import proofs.«01_k».proof.Proof.DsaTrip1a
public import proofs.«01_k».proof.Proof.Gen.Kernel.Skeleton
public import Idealize.ShloMosaic.Lib.Pipeline.Frame
public import Idealize.ShloMosaic.Lib.Tactic

@[expose] public section

set_option maxRecDepth 65536

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable {c : Dev nD} {R : Res F} {i : grid0.Coords} {arg2 : Memref sig .tc .vmem S1x256x128 .bf16} {arg3 : Memref sig .tc .vmem S1x256x128 .bf16} {arg4 : Memref sig .tc .vmem S1x8x128 .f32} {arg5 : Memref sig .tc .vmem S1x8192x64 .bf16} {arg6 : Memref sig .tc .vmem S1x8192x64 .bf16} {arg7 : Memref sig .tc .vmem S1x64x8192 .bf16} {arg8 : Memref sig .tc .vmem S1x256x128 .bf16} {arg9 : Memref sig .tc .vmem S16x512x128 .i32} {arg10 : Memref sig .tc .vmem S32x32x8x128 .i32} {arg11 : Memref sig .tc .vmem S32x8x128 .i32} {arg12 : Memref sig .tc .vmem S8x128 .i32} {arg13 : Memref sig .tc .vmem S72x512 .f32} {arg14 : Memref sig .tc .vmem S512x512 .bf16} {arg15 : Memref sig .tc .vmem S512x512 .f32} {arg16 : Memref sig .tc .vmem S512x512 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole}

set_option maxHeartbeats 4000000

theorem p49 (H : Held c R arg2 arg3 arg4 arg5 arg6 arg7 arg8 arg9 arg10 arg11 arg12 arg13 arg14 arg15 arg16) {x0 x1 x2 x3 x4 x5 x6} : Safe c R (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part49_eq_skeleton]; unfold k0_part49_skel
  exact .bind H.a16.load fun _ => .bind H.a16.load fun _ => .bind H.a16.load fun _ => .bind H.a9.load fun _ => .bind H.a9.store fun _ => .pure _

theorem p50 (H : Held c R arg2 arg3 arg4 arg5 arg6 arg7 arg8 arg9 arg10 arg11 arg12 arg13 arg14 arg15 arg16) {x0} : Safe c R (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0) := by
  rw [k0_part50_eq_skeleton]; unfold k0_part50_skel
  exact .pure _

theorem p51 (H : Held c R arg2 arg3 arg4 arg5 arg6 arg7 arg8 arg9 arg10 arg11 arg12 arg13 arg14 arg15 arg16) {x0 x1 x2 x3 x4 x5 x6 x7 x8 x9 x10} : Safe c R (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part51_eq_skeleton]; unfold k0_part51_skel
  exact .pure _

theorem p52 (H : Held c R arg2 arg3 arg4 arg5 arg6 arg7 arg8 arg9 arg10 arg11 arg12 arg13 arg14 arg15 arg16) {x0 x1 x2 x3 x4 x5 x6 x7 x8 x9 x10} : Safe c R (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part52_eq_skeleton]; unfold k0_part52_skel
  exact .pure _

theorem p53 (H : Held c R arg2 arg3 arg4 arg5 arg6 arg7 arg8 arg9 arg10 arg11 arg12 arg13 arg14 arg15 arg16) {x0 x1 x2 x3 x4 x5 x6 x7 x8 x9 x10} : Safe c R (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part53_eq_skeleton]; unfold k0_part53_skel
  exact .pure _

theorem p54 (H : Held c R arg2 arg3 arg4 arg5 arg6 arg7 arg8 arg9 arg10 arg11 arg12 arg13 arg14 arg15 arg16) {x0 x1 x2 x3 x4 x5 x6 x7 x8 x9 x10} : Safe c R (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part54_eq_skeleton]; unfold k0_part54_skel
  exact .pure _

theorem p55 (H : Held c R arg2 arg3 arg4 arg5 arg6 arg7 arg8 arg9 arg10 arg11 arg12 arg13 arg14 arg15 arg16) {x0 x1 x2 x3 x4 x5 x6 x7 x8 x9 x10} : Safe c R (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part55_eq_skeleton]; unfold k0_part55_skel
  exact .pure _

theorem p56 (H : Held c R arg2 arg3 arg4 arg5 arg6 arg7 arg8 arg9 arg10 arg11 arg12 arg13 arg14 arg15 arg16) {x0 x1 x2 x3 x4 x5 x6 x7 x8 x9 x10} : Safe c R (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part56_eq_skeleton]; unfold k0_part56_skel
  exact .pure _

theorem p57 (H : Held c R arg2 arg3 arg4 arg5 arg6 arg7 arg8 arg9 arg10 arg11 arg12 arg13 arg14 arg15 arg16) {x0 x1 x2 x3 x4 x5 x6 x7 x8 x9 x10} : Safe c R (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part57_eq_skeleton]; unfold k0_part57_skel
  exact .pure _

theorem p58 (H : Held c R arg2 arg3 arg4 arg5 arg6 arg7 arg8 arg9 arg10 arg11 arg12 arg13 arg14 arg15 arg16) {x0 x1 x2 x3 x4 x5 x6 x7 x8 x9 x10} : Safe c R (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part58_eq_skeleton]; unfold k0_part58_skel
  exact .pure _

theorem p59 (H : Held c R arg2 arg3 arg4 arg5 arg6 arg7 arg8 arg9 arg10 arg11 arg12 arg13 arg14 arg15 arg16) {x0 x1 x2 x3 x4 x5 x6 x7 x8 x9 x10} : Safe c R (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part59_eq_skeleton]; unfold k0_part59_skel
  exact .pure _

theorem p60 (H : Held c R arg2 arg3 arg4 arg5 arg6 arg7 arg8 arg9 arg10 arg11 arg12 arg13 arg14 arg15 arg16) {x0 x1 x2 x3 x4 x5 x6 x7 x8 x9 x10} : Safe c R (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part60_eq_skeleton]; unfold k0_part60_skel
  exact .pure _

theorem p61 (H : Held c R arg2 arg3 arg4 arg5 arg6 arg7 arg8 arg9 arg10 arg11 arg12 arg13 arg14 arg15 arg16) {x0 x1 x2 x3 x4 x5 x6 x7 x8 x9 x10} : Safe c R (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part61_eq_skeleton]; unfold k0_part61_skel
  exact .pure _

theorem p62 (H : Held c R arg2 arg3 arg4 arg5 arg6 arg7 arg8 arg9 arg10 arg11 arg12 arg13 arg14 arg15 arg16) {x0 x1 x2 x3 x4 x5 x6 x7 x8 x9 x10} : Safe c R (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part62_eq_skeleton]; unfold k0_part62_skel
  exact .pure _

theorem p63 (H : Held c R arg2 arg3 arg4 arg5 arg6 arg7 arg8 arg9 arg10 arg11 arg12 arg13 arg14 arg15 arg16) {x0 x1 x2 x3 x4 x5 x6 x7 x8 x9 x10} : Safe c R (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part63_eq_skeleton]; unfold k0_part63_skel
  exact .pure _

theorem p64 (H : Held c R arg2 arg3 arg4 arg5 arg6 arg7 arg8 arg9 arg10 arg11 arg12 arg13 arg14 arg15 arg16) {x0 x1 x2 x3 x4 x5 x6 x7 x8 x9 x10} : Safe c R (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part64_eq_skeleton]; unfold k0_part64_skel
  exact .pure _

theorem p65 (H : Held c R arg2 arg3 arg4 arg5 arg6 arg7 arg8 arg9 arg10 arg11 arg12 arg13 arg14 arg15 arg16) {x0 x1 x2 x3 x4 x5 x6 x7 x8 x9 x10} : Safe c R (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part65_eq_skeleton]; unfold k0_part65_skel
  exact .pure _

theorem p66 (H : Held c R arg2 arg3 arg4 arg5 arg6 arg7 arg8 arg9 arg10 arg11 arg12 arg13 arg14 arg15 arg16) {x0 x1 x2 x3 x4 x5 x6 x7 x8 x9 x10} : Safe c R (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part66_eq_skeleton]; unfold k0_part66_skel
  exact .bind H.a10.load fun _ => .bind H.a10.store fun _ => .bind H.a10.load fun _ => .bind H.a10.store fun _ => .pure _

theorem p67 (H : Held c R arg2 arg3 arg4 arg5 arg6 arg7 arg8 arg9 arg10 arg11 arg12 arg13 arg14 arg15 arg16) {x0 x1 x2 x3 x4 x5 x6 x7} : Safe c R (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part67_eq_skeleton]; unfold k0_part67_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p68 (H : Held c R arg2 arg3 arg4 arg5 arg6 arg7 arg8 arg9 arg10 arg11 arg12 arg13 arg14 arg15 arg16) {x0 x1 x2 x3 x4 x5 x6 x7} : Safe c R (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part68_eq_skeleton]; unfold k0_part68_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p69 (H : Held c R arg2 arg3 arg4 arg5 arg6 arg7 arg8 arg9 arg10 arg11 arg12 arg13 arg14 arg15 arg16) {x0 x1 x2 x3 x4 x5 x6 x7} : Safe c R (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part69_eq_skeleton]; unfold k0_part69_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p70 (H : Held c R arg2 arg3 arg4 arg5 arg6 arg7 arg8 arg9 arg10 arg11 arg12 arg13 arg14 arg15 arg16) {x0 x1 x2 x3 x4 x5 x6 x7} : Safe c R (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part70_eq_skeleton]; unfold k0_part70_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p71 (H : Held c R arg2 arg3 arg4 arg5 arg6 arg7 arg8 arg9 arg10 arg11 arg12 arg13 arg14 arg15 arg16) {x0 x1 x2 x3 x4 x5 x6 x7} : Safe c R (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part71_eq_skeleton]; unfold k0_part71_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p72 (H : Held c R arg2 arg3 arg4 arg5 arg6 arg7 arg8 arg9 arg10 arg11 arg12 arg13 arg14 arg15 arg16) {x0 x1 x2 x3 x4 x5 x6 x7 x8} : Safe c R (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  rw [k0_part72_eq_skeleton]; unfold k0_part72_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p73 (H : Held c R arg2 arg3 arg4 arg5 arg6 arg7 arg8 arg9 arg10 arg11 arg12 arg13 arg14 arg15 arg16) {x0 x1} : Safe c R (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1) := by
  rw [k0_part73_eq_skeleton]; unfold k0_part73_skel
  exact .pure _

theorem p74 (H : Held c R arg2 arg3 arg4 arg5 arg6 arg7 arg8 arg9 arg10 arg11 arg12 arg13 arg14 arg15 arg16) {x0 x1 x2 x3 x4 x5 x6 x7 x8 x9 x10 x11 x12 x13} : Safe c R (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part74_eq_skeleton]; unfold k0_part74_skel
  exact .pure _

theorem p75 (H : Held c R arg2 arg3 arg4 arg5 arg6 arg7 arg8 arg9 arg10 arg11 arg12 arg13 arg14 arg15 arg16) {x0 x1 x2 x3 x4 x5 x6 x7 x8 x9 x10 x11 x12 x13} : Safe c R (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part75_eq_skeleton]; unfold k0_part75_skel
  exact .pure _

theorem p76 (H : Held c R arg2 arg3 arg4 arg5 arg6 arg7 arg8 arg9 arg10 arg11 arg12 arg13 arg14 arg15 arg16) {x0 x1 x2 x3 x4 x5 x6 x7 x8 x9 x10 x11 x12 x13} : Safe c R (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part76_eq_skeleton]; unfold k0_part76_skel
  exact .pure _

theorem p77 (H : Held c R arg2 arg3 arg4 arg5 arg6 arg7 arg8 arg9 arg10 arg11 arg12 arg13 arg14 arg15 arg16) {x0 x1 x2 x3 x4 x5 x6 x7 x8 x9 x10 x11 x12 x13} : Safe c R (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part77_eq_skeleton]; unfold k0_part77_skel
  exact .pure _

theorem p78 (H : Held c R arg2 arg3 arg4 arg5 arg6 arg7 arg8 arg9 arg10 arg11 arg12 arg13 arg14 arg15 arg16) {x0 x1 x2 x3 x4 x5 x6 x7 x8 x9 x10 x11 x12 x13} : Safe c R (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part78_eq_skeleton]; unfold k0_part78_skel
  exact .pure _

theorem p79 (H : Held c R arg2 arg3 arg4 arg5 arg6 arg7 arg8 arg9 arg10 arg11 arg12 arg13 arg14 arg15 arg16) {x0 x1 x2 x3 x4 x5 x6 x7 x8 x9 x10 x11 x12 x13} : Safe c R (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part79_eq_skeleton]; unfold k0_part79_skel
  exact .pure _

theorem p80 (H : Held c R arg2 arg3 arg4 arg5 arg6 arg7 arg8 arg9 arg10 arg11 arg12 arg13 arg14 arg15 arg16) {x0 x1 x2 x3 x4 x5 x6 x7 x8 x9 x10 x11 x12 x13} : Safe c R (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part80_eq_skeleton]; unfold k0_part80_skel
  exact .pure _

theorem p81 (H : Held c R arg2 arg3 arg4 arg5 arg6 arg7 arg8 arg9 arg10 arg11 arg12 arg13 arg14 arg15 arg16) {x0 x1 x2 x3 x4 x5 x6 x7 x8 x9 x10 x11 x12 x13} : Safe c R (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part81_eq_skeleton]; unfold k0_part81_skel
  exact .pure _

theorem p82 (H : Held c R arg2 arg3 arg4 arg5 arg6 arg7 arg8 arg9 arg10 arg11 arg12 arg13 arg14 arg15 arg16) {x0 x1 x2 x3 x4 x5 x6 x7 x8 x9 x10 x11 x12 x13} : Safe c R (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part82_eq_skeleton]; unfold k0_part82_skel
  exact .pure _

theorem p83 (H : Held c R arg2 arg3 arg4 arg5 arg6 arg7 arg8 arg9 arg10 arg11 arg12 arg13 arg14 arg15 arg16) {x0 x1 x2 x3 x4 x5 x6 x7 x8 x9 x10 x11 x12 x13} : Safe c R (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part83_eq_skeleton]; unfold k0_part83_skel
  exact .pure _

theorem p84 (H : Held c R arg2 arg3 arg4 arg5 arg6 arg7 arg8 arg9 arg10 arg11 arg12 arg13 arg14 arg15 arg16) {x0 x1 x2 x3 x4 x5 x6 x7 x8 x9 x10 x11 x12 x13} : Safe c R (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part84_eq_skeleton]; unfold k0_part84_skel
  exact .pure _

theorem p85 (H : Held c R arg2 arg3 arg4 arg5 arg6 arg7 arg8 arg9 arg10 arg11 arg12 arg13 arg14 arg15 arg16) {x0 x1 x2 x3 x4 x5 x6 x7 x8 x9 x10 x11 x12 x13} : Safe c R (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part85_eq_skeleton]; unfold k0_part85_skel
  exact .pure _

theorem p86 (H : Held c R arg2 arg3 arg4 arg5 arg6 arg7 arg8 arg9 arg10 arg11 arg12 arg13 arg14 arg15 arg16) {x0 x1 x2 x3 x4 x5 x6 x7 x8 x9 x10 x11 x12 x13} : Safe c R (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part86_eq_skeleton]; unfold k0_part86_skel
  exact .pure _

theorem p87 (H : Held c R arg2 arg3 arg4 arg5 arg6 arg7 arg8 arg9 arg10 arg11 arg12 arg13 arg14 arg15 arg16) {x0 x1 x2 x3 x4 x5 x6 x7 x8 x9 x10 x11 x12 x13} : Safe c R (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part87_eq_skeleton]; unfold k0_part87_skel
  exact .pure _

theorem p88 (H : Held c R arg2 arg3 arg4 arg5 arg6 arg7 arg8 arg9 arg10 arg11 arg12 arg13 arg14 arg15 arg16) {x0 x1 x2 x3 x4 x5 x6 x7 x8 x9 x10 x11 x12 x13} : Safe c R (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part88_eq_skeleton]; unfold k0_part88_skel
  exact .pure _

theorem p89 (H : Held c R arg2 arg3 arg4 arg5 arg6 arg7 arg8 arg9 arg10 arg11 arg12 arg13 arg14 arg15 arg16) {x0 x1 x2 x3 x4 x5 x6 x7 x8 x9 x10 x11} : Safe c R (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part89_eq_skeleton]; unfold k0_part89_skel
  exact .bind H.a10.load fun _ => .bind H.a10.store fun _ => .bind H.a10.load fun _ => .bind H.a10.store fun _ => .pure _

theorem p90 (H : Held c R arg2 arg3 arg4 arg5 arg6 arg7 arg8 arg9 arg10 arg11 arg12 arg13 arg14 arg15 arg16) {x0 x1 x2 x3 x4 x5 x6 x7} : Safe c R (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part90_eq_skeleton]; unfold k0_part90_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p91 (H : Held c R arg2 arg3 arg4 arg5 arg6 arg7 arg8 arg9 arg10 arg11 arg12 arg13 arg14 arg15 arg16) {x0 x1 x2 x3 x4 x5 x6 x7} : Safe c R (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part91_eq_skeleton]; unfold k0_part91_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p92 (H : Held c R arg2 arg3 arg4 arg5 arg6 arg7 arg8 arg9 arg10 arg11 arg12 arg13 arg14 arg15 arg16) {x0 x1 x2 x3 x4 x5 x6 x7} : Safe c R (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part92_eq_skeleton]; unfold k0_part92_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p93 (H : Held c R arg2 arg3 arg4 arg5 arg6 arg7 arg8 arg9 arg10 arg11 arg12 arg13 arg14 arg15 arg16) {x0 x1 x2 x3 x4 x5 x6 x7} : Safe c R (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part93_eq_skeleton]; unfold k0_part93_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p94 (H : Held c R arg2 arg3 arg4 arg5 arg6 arg7 arg8 arg9 arg10 arg11 arg12 arg13 arg14 arg15 arg16) {x0 x1 x2 x3 x4 x5 x6 x7} : Safe c R (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part94_eq_skeleton]; unfold k0_part94_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p95 (H : Held c R arg2 arg3 arg4 arg5 arg6 arg7 arg8 arg9 arg10 arg11 arg12 arg13 arg14 arg15 arg16) {x0 x1 x2 x3 x4 x5 x6} : Safe c R (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part95_eq_skeleton]; unfold k0_part95_skel
  exact .bind (p1 H) fun ⟨_, _, _, _, _⟩ => .bind (p2 H) fun ⟨_, _, _, _, _, _, _, _, _, _, _, _, _, _, _, _, _, _, _, _, _, _, _, _, _, _, _⟩ => .bind (p3 H) fun ⟨_, _, _, _, _, _, _, _, _, _, _, _, _, _, _, _⟩ => .bind (p4 H) fun ⟨_, _, _, _, _, _, _, _, _, _, _, _⟩ => .bind (p5 H) fun ⟨_, _, _, _, _, _, _, _, _, _, _, _⟩ => .bind (p6 H) fun ⟨_, _, _, _, _, _, _, _, _, _, _, _⟩ => .bind (p7 H) fun ⟨_, _, _, _, _, _, _, _, _, _, _, _⟩ => .bind (p8 H) fun ⟨_, _, _, _, _, _, _, _, _, _, _, _⟩ => .bind (p9 H) fun ⟨_, _, _, _, _, _, _, _, _, _, _, _⟩ => .bind (p10 H) fun ⟨_, _, _, _, _, _, _, _, _, _, _, _⟩ => .bind (p11 H) fun ⟨_, _, _, _, _, _, _, _, _, _, _, _⟩ => .bind (p12 H) fun ⟨_, _, _, _, _, _, _, _, _, _, _, _⟩ => .bind (p13 H) fun ⟨_, _, _, _, _, _, _, _, _, _, _, _⟩ => .bind (p14 H) fun ⟨_, _, _, _, _, _, _, _, _, _, _, _⟩ => .bind (p15 H) fun ⟨_, _, _, _, _, _, _, _, _, _, _, _⟩ => .bind (p16 H) fun ⟨_, _, _, _, _, _, _, _, _, _, _, _⟩ => .bind (p17 H) fun ⟨_, _, _, _, _, _, _, _, _, _, _, _⟩ => .bind (p18 H) fun ⟨_, _, _, _, _, _, _, _, _, _, _, _⟩ => .bind (p19 H) fun ⟨_, _⟩ => .bind (p20 H) fun _ => .bind (p21 H) fun _ => .bind (p22 H) fun _ => .bind (p23 H) fun _ => .bind (p24 H) fun _ => .bind (p25 H) fun ⟨_, _, _, _, _, _, _, _, _, _, _, _, _, _, _, _, _, _, _, _, _, _, _, _, _, _, _, _, _, _⟩ => .bind (p26 H) fun ⟨_, _, _, _, _, _, _, _, _, _, _, _, _⟩ => .bind (p27 H) fun ⟨_, _, _, _, _, _, _, _, _, _, _, _⟩ => .bind (p28 H) fun ⟨_, _, _, _, _, _, _, _, _, _, _, _⟩ => .bind (p29 H) fun ⟨_, _, _, _, _, _, _, _, _, _, _, _⟩ => .bind (p30 H) fun ⟨_, _, _, _, _, _, _, _, _, _, _, _⟩ => .bind (p31 H) fun ⟨_, _, _, _, _, _, _, _, _, _, _, _⟩ => .bind (p32 H) fun ⟨_, _, _, _, _, _, _, _, _, _, _, _⟩ => .bind (p33 H) fun ⟨_, _, _, _, _, _, _, _, _, _, _, _⟩ => .bind (p34 H) fun ⟨_, _, _, _, _, _, _, _, _, _, _, _⟩ => .bind (p35 H) fun ⟨_, _, _, _, _, _, _, _, _, _, _, _⟩ => .bind (p36 H) fun ⟨_, _, _, _, _, _, _, _, _, _, _, _⟩ => .bind (p37 H) fun ⟨_, _, _, _, _, _, _, _, _, _, _, _⟩ => .bind (p38 H) fun ⟨_, _, _, _, _, _, _, _, _, _, _, _⟩ => .bind (p39 H) fun ⟨_, _, _, _, _, _, _, _, _, _, _, _⟩ => .bind (p40 H) fun ⟨_, _, _, _, _, _, _, _, _, _, _, _⟩ => .bind (p41 H) fun ⟨_, _, _, _, _, _, _, _, _, _, _, _⟩ => .bind (p42 H) fun _ => .bind (p43 H) fun _ => .bind (p44 H) fun _ => .bind (p45 H) fun _ => .bind (p46 H) fun _ => .bind (p47 H) fun _ => .bind (p48 H) fun ⟨_, _, _⟩ => .bind (p49 H) fun _ => .bind (p50 H) fun ⟨_, _, _, _, _, _, _, _, _, _, _, _, _, _, _, _, _, _, _, _, _, _, _, _, _, _, _, _, _, _, _, _, _, _⟩ => .bind (p51 H) fun ⟨_, _, _, _, _, _, _, _, _, _, _⟩ => .bind (p52 H) fun ⟨_, _, _, _, _, _, _, _, _, _, _⟩ => .bind (p53 H) fun ⟨_, _, _, _, _, _, _, _, _, _, _⟩ => .bind (p54 H) fun ⟨_, _, _, _, _, _, _, _, _, _, _⟩ => .bind (p55 H) fun ⟨_, _, _, _, _, _, _, _, _, _, _⟩ => .bind (p56 H) fun ⟨_, _, _, _, _, _, _, _, _, _, _⟩ => .bind (p57 H) fun ⟨_, _, _, _, _, _, _, _, _, _, _⟩ => .bind (p58 H) fun ⟨_, _, _, _, _, _, _, _, _, _, _⟩ => .bind (p59 H) fun ⟨_, _, _, _, _, _, _, _, _, _, _⟩ => .bind (p60 H) fun ⟨_, _, _, _, _, _, _, _, _, _, _⟩ => .pure _

theorem p96 (H : Held c R arg2 arg3 arg4 arg5 arg6 arg7 arg8 arg9 arg10 arg11 arg12 arg13 arg14 arg15 arg16) {x0 x1 x2 x3 x4 x5 x6 x7 x8 x9 x10 x11 x12 x13 x14 x15 x16 x17 x18 x19 x20 x21 x22 x23 x24 x25 x26 x27 x28 x29 x30 x31 x32 x33 x34 x35} : Safe c R (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34 x35) := by
  rw [k0_part96_eq_skeleton]; unfold k0_part96_skel
  exact .bind (p61 H) fun ⟨_, _, _, _, _, _, _, _, _, _, _⟩ => .bind (p62 H) fun ⟨_, _, _, _, _, _, _, _, _, _, _⟩ => .bind (p63 H) fun ⟨_, _, _, _, _, _, _, _, _, _, _⟩ => .bind (p64 H) fun ⟨_, _, _, _, _, _, _, _, _, _, _⟩ => .bind (p65 H) fun ⟨_, _, _, _, _, _, _, _, _, _, _⟩ => .bind (p66 H) fun ⟨_, _, _, _, _, _, _⟩ => .bind (p67 H) fun _ => .bind (p68 H) fun _ => .bind (p69 H) fun _ => .bind (p70 H) fun _ => .bind (p71 H) fun _ => .bind (p72 H) fun _ => .bind (p73 H) fun ⟨_, _, _, _, _, _, _, _, _, _, _, _, _, _, _, _, _, _, _, _, _, _, _, _, _, _, _, _, _, _, _, _, _, _⟩ => .bind (p74 H) fun ⟨_, _, _, _, _, _, _, _, _, _, _, _⟩ => .bind (p75 H) fun ⟨_, _, _, _, _, _, _, _, _, _, _, _⟩ => .bind (p76 H) fun ⟨_, _, _, _, _, _, _, _, _, _, _, _⟩ => .bind (p77 H) fun ⟨_, _, _, _, _, _, _, _, _, _, _, _⟩ => .bind (p78 H) fun ⟨_, _, _, _, _, _, _, _, _, _, _, _⟩ => .bind (p79 H) fun ⟨_, _, _, _, _, _, _, _, _, _, _, _⟩ => .bind (p80 H) fun ⟨_, _, _, _, _, _, _, _, _, _, _, _⟩ => .bind (p81 H) fun ⟨_, _, _, _, _, _, _, _, _, _, _, _⟩ => .bind (p82 H) fun ⟨_, _, _, _, _, _, _, _, _, _, _, _⟩ => .bind (p83 H) fun ⟨_, _, _, _, _, _, _, _, _, _, _, _⟩ => .bind (p84 H) fun ⟨_, _, _, _, _, _, _, _, _, _, _, _⟩ => .bind (p85 H) fun ⟨_, _, _, _, _, _, _, _, _, _, _, _⟩ => .bind (p86 H) fun ⟨_, _, _, _, _, _, _, _, _, _, _, _⟩ => .bind (p87 H) fun ⟨_, _, _, _, _, _, _, _, _, _, _, _⟩ => .bind (p88 H) fun ⟨_, _, _, _, _, _, _, _, _, _, _, _⟩ => .bind (p89 H) fun ⟨_, _, _, _, _, _, _⟩ => .bind (p90 H) fun _ => .bind (p91 H) fun _ => .bind (p92 H) fun _ => .bind (p93 H) fun _ => .bind (p94 H) fun _ => .bind H.a10.load fun _ => .bind H.a10.store fun _ => .bind H.a10.load fun _ => .bind H.a10.store fun _ => .pure _

end Cert.Kernel.Dsa

end
-- ==== Proof.DsaTrip2a.lean ====
/-
  The first half of a trip of the second score loop.
-/
module

public import proofs.«01_k».proof.Proof.DsaSafe
public import proofs.«01_k».proof.Proof.Gen.Kernel.Skeleton
public import Idealize.ShloMosaic.Lib.Pipeline.Frame
public import Idealize.ShloMosaic.Lib.Tactic

@[expose] public section

set_option maxRecDepth 65536

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable {c : Dev nD} {R : Res F} {i : grid0.Coords} {arg2 : Memref sig .tc .vmem S1x256x128 .bf16} {arg3 : Memref sig .tc .vmem S1x256x128 .bf16} {arg4 : Memref sig .tc .vmem S1x8x128 .f32} {arg5 : Memref sig .tc .vmem S1x8192x64 .bf16} {arg6 : Memref sig .tc .vmem S1x8192x64 .bf16} {arg7 : Memref sig .tc .vmem S1x64x8192 .bf16} {arg8 : Memref sig .tc .vmem S1x256x128 .bf16} {arg9 : Memref sig .tc .vmem S16x512x128 .i32} {arg10 : Memref sig .tc .vmem S32x32x8x128 .i32} {arg11 : Memref sig .tc .vmem S32x8x128 .i32} {arg12 : Memref sig .tc .vmem S8x128 .i32} {arg13 : Memref sig .tc .vmem S72x512 .f32} {arg14 : Memref sig .tc .vmem S512x512 .bf16} {arg15 : Memref sig .tc .vmem S512x512 .f32} {arg16 : Memref sig .tc .vmem S512x512 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole}

set_option maxHeartbeats 4000000

theorem p97 (H : Held c R arg2 arg3 arg4 arg5 arg6 arg7 arg8 arg9 arg10 arg11 arg12 arg13 arg14 arg15 arg16) {x0 x1 x2 x3 x4} : Safe c R (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4) := by
  rw [k0_part97_eq_skeleton]; unfold k0_part97_skel
  exact .bind H.a5.load fun _ => .bind H.a16.load fun _ => .bind H.a16.store fun _ => .bind H.a15.load fun _ => .bind H.a15.load fun _ => .bind H.a15.load fun _ => .bind H.a15.load fun _ => .pure _

theorem p98 (H : Held c R arg2 arg3 arg4 arg5 arg6 arg7 arg8 arg9 arg10 arg11 arg12 arg13 arg14 arg15 arg16) {x0 x1 x2 x3 x4 x5 x6} : Safe c R (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part98_eq_skeleton]; unfold k0_part98_skel
  exact .bind H.a9.load fun _ => .bind H.a9.store fun _ => .pure _

theorem p99 (H : Held c R arg2 arg3 arg4 arg5 arg6 arg7 arg8 arg9 arg10 arg11 arg12 arg13 arg14 arg15 arg16) {x0 x1 x2 x3 x4 x5 x6 x7 x8 x9 x10} : Safe c R (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part99_eq_skeleton]; unfold k0_part99_skel
  exact .pure _

theorem p100 (H : Held c R arg2 arg3 arg4 arg5 arg6 arg7 arg8 arg9 arg10 arg11 arg12 arg13 arg14 arg15 arg16) {x0 x1 x2 x3 x4 x5 x6 x7 x8 x9 x10 x11 x12 x13} : Safe c R (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part100_eq_skeleton]; unfold k0_part100_skel
  exact .pure _

theorem p101 (H : Held c R arg2 arg3 arg4 arg5 arg6 arg7 arg8 arg9 arg10 arg11 arg12 arg13 arg14 arg15 arg16) {x0 x1 x2 x3 x4 x5 x6 x7 x8 x9 x10 x11 x12 x13} : Safe c R (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part101_eq_skeleton]; unfold k0_part101_skel
  exact .pure _

theorem p102 (H : Held c R arg2 arg3 arg4 arg5 arg6 arg7 arg8 arg9 arg10 arg11 arg12 arg13 arg14 arg15 arg16) {x0 x1 x2 x3 x4 x5 x6 x7 x8 x9 x10 x11 x12 x13} : Safe c R (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part102_eq_skeleton]; unfold k0_part102_skel
  exact .pure _

theorem p103 (H : Held c R arg2 arg3 arg4 arg5 arg6 arg7 arg8 arg9 arg10 arg11 arg12 arg13 arg14 arg15 arg16) {x0 x1 x2 x3 x4 x5 x6 x7 x8 x9 x10 x11 x12 x13} : Safe c R (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part103_eq_skeleton]; unfold k0_part103_skel
  exact .pure _

theorem p104 (H : Held c R arg2 arg3 arg4 arg5 arg6 arg7 arg8 arg9 arg10 arg11 arg12 arg13 arg14 arg15 arg16) {x0 x1 x2 x3 x4 x5 x6 x7 x8 x9 x10 x11 x12 x13} : Safe c R (k0_part104 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part104_eq_skeleton]; unfold k0_part104_skel
  exact .pure _

theorem p105 (H : Held c R arg2 arg3 arg4 arg5 arg6 arg7 arg8 arg9 arg10 arg11 arg12 arg13 arg14 arg15 arg16) {x0 x1 x2 x3 x4 x5 x6 x7 x8 x9 x10 x11 x12 x13} : Safe c R (k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part105_eq_skeleton]; unfold k0_part105_skel
  exact .pure _

theorem p106 (H : Held c R arg2 arg3 arg4 arg5 arg6 arg7 arg8 arg9 arg10 arg11 arg12 arg13 arg14 arg15 arg16) {x0 x1 x2 x3 x4 x5 x6 x7 x8 x9 x10 x11 x12 x13} : Safe c R (k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part106_eq_skeleton]; unfold k0_part106_skel
  exact .pure _

theorem p107 (H : Held c R arg2 arg3 arg4 arg5 arg6 arg7 arg8 arg9 arg10 arg11 arg12 arg13 arg14 arg15 arg16) {x0 x1 x2 x3 x4 x5 x6 x7 x8 x9 x10 x11 x12 x13} : Safe c R (k0_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part107_eq_skeleton]; unfold k0_part107_skel
  exact .pure _

theorem p108 (H : Held c R arg2 arg3 arg4 arg5 arg6 arg7 arg8 arg9 arg10 arg11 arg12 arg13 arg14 arg15 arg16) {x0 x1 x2 x3 x4 x5 x6 x7 x8 x9 x10 x11 x12 x13} : Safe c R (k0_part108 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part108_eq_skeleton]; unfold k0_part108_skel
  exact .pure _

theorem p109 (H : Held c R arg2 arg3 arg4 arg5 arg6 arg7 arg8 arg9 arg10 arg11 arg12 arg13 arg14 arg15 arg16) {x0 x1 x2 x3 x4 x5 x6 x7 x8 x9 x10 x11 x12 x13} : Safe c R (k0_part109 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part109_eq_skeleton]; unfold k0_part109_skel
  exact .pure _

theorem p110 (H : Held c R arg2 arg3 arg4 arg5 arg6 arg7 arg8 arg9 arg10 arg11 arg12 arg13 arg14 arg15 arg16) {x0 x1 x2 x3 x4 x5 x6 x7 x8 x9 x10 x11 x12 x13} : Safe c R (k0_part110 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part110_eq_skeleton]; unfold k0_part110_skel
  exact .pure _

theorem p111 (H : Held c R arg2 arg3 arg4 arg5 arg6 arg7 arg8 arg9 arg10 arg11 arg12 arg13 arg14 arg15 arg16) {x0 x1 x2 x3 x4 x5 x6 x7 x8 x9 x10 x11 x12 x13} : Safe c R (k0_part111 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part111_eq_skeleton]; unfold k0_part111_skel
  exact .pure _

theorem p112 (H : Held c R arg2 arg3 arg4 arg5 arg6 arg7 arg8 arg9 arg10 arg11 arg12 arg13 arg14 arg15 arg16) {x0 x1 x2 x3 x4 x5 x6 x7 x8 x9 x10 x11 x12 x13} : Safe c R (k0_part112 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part112_eq_skeleton]; unfold k0_part112_skel
  exact .pure _

theorem p113 (H : Held c R arg2 arg3 arg4 arg5 arg6 arg7 arg8 arg9 arg10 arg11 arg12 arg13 arg14 arg15 arg16) {x0 x1 x2 x3 x4 x5 x6 x7 x8 x9 x10 x11 x12 x13} : Safe c R (k0_part113 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part113_eq_skeleton]; unfold k0_part113_skel
  exact .pure _

theorem p114 (H : Held c R arg2 arg3 arg4 arg5 arg6 arg7 arg8 arg9 arg10 arg11 arg12 arg13 arg14 arg15 arg16) {x0 x1 x2 x3 x4 x5 x6 x7 x8 x9 x10 x11 x12 x13} : Safe c R (k0_part114 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part114_eq_skeleton]; unfold k0_part114_skel
  exact .pure _

theorem p115 (H : Held c R arg2 arg3 arg4 arg5 arg6 arg7 arg8 arg9 arg10 arg11 arg12 arg13 arg14 arg15 arg16) {x0 x1 x2 x3 x4 x5 x6 x7 x8 x9} : Safe c R (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) := by
  rw [k0_part115_eq_skeleton]; unfold k0_part115_skel
  exact .bind H.a10.load fun _ => .bind H.a10.store fun _ => .bind H.a10.load fun _ => .bind H.a10.store fun _ => .bind H.a10.load fun _ => .bind H.a10.store fun _ => .bind H.a10.load fun _ => .bind H.a10.store fun _ => .pure _

theorem p116 (H : Held c R arg2 arg3 arg4 arg5 arg6 arg7 arg8 arg9 arg10 arg11 arg12 arg13 arg14 arg15 arg16) {x0 x1 x2 x3 x4 x5 x6} : Safe c R (k0_part116 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part116_eq_skeleton]; unfold k0_part116_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p117 (H : Held c R arg2 arg3 arg4 arg5 arg6 arg7 arg8 arg9 arg10 arg11 arg12 arg13 arg14 arg15 arg16) {x0 x1 x2 x3 x4 x5 x6} : Safe c R (k0_part117 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part117_eq_skeleton]; unfold k0_part117_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p118 (H : Held c R arg2 arg3 arg4 arg5 arg6 arg7 arg8 arg9 arg10 arg11 arg12 arg13 arg14 arg15 arg16) {x0 x1 x2 x3 x4 x5 x6} : Safe c R (k0_part118 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part118_eq_skeleton]; unfold k0_part118_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p119 (H : Held c R arg2 arg3 arg4 arg5 arg6 arg7 arg8 arg9 arg10 arg11 arg12 arg13 arg14 arg15 arg16) {x0 x1 x2 x3 x4 x5 x6} : Safe c R (k0_part119 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part119_eq_skeleton]; unfold k0_part119_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p120 (H : Held c R arg2 arg3 arg4 arg5 arg6 arg7 arg8 arg9 arg10 arg11 arg12 arg13 arg14 arg15 arg16) {x0 x1 x2 x3 x4 x5 x6} : Safe c R (k0_part120 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part120_eq_skeleton]; unfold k0_part120_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p121 (H : Held c R arg2 arg3 arg4 arg5 arg6 arg7 arg8 arg9 arg10 arg11 arg12 arg13 arg14 arg15 arg16) {x0 x1 x2 x3 x4 x5} : Safe c R (k0_part121 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  rw [k0_part121_eq_skeleton]; unfold k0_part121_skel
  exact .bind H.a10.load fun _ => .bind H.a10.store fun _ => .bind H.a10.load fun _ => .bind H.a10.store fun _ => .bind H.a10.load fun _ => .bind H.a10.store fun _ => .pure _

theorem p122 (H : Held c R arg2 arg3 arg4 arg5 arg6 arg7 arg8 arg9 arg10 arg11 arg12 arg13 arg14 arg15 arg16) {x0 x1 x2 x3 x4 x5 x6 x7 x8 x9 x10} : Safe c R (k0_part122 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part122_eq_skeleton]; unfold k0_part122_skel
  exact .pure _

theorem p123 (H : Held c R arg2 arg3 arg4 arg5 arg6 arg7 arg8 arg9 arg10 arg11 arg12 arg13 arg14 arg15 arg16) {x0 x1 x2 x3 x4 x5 x6 x7 x8 x9 x10 x11 x12} : Safe c R (k0_part123 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part123_eq_skeleton]; unfold k0_part123_skel
  exact .pure _

theorem p124 (H : Held c R arg2 arg3 arg4 arg5 arg6 arg7 arg8 arg9 arg10 arg11 arg12 arg13 arg14 arg15 arg16) {x0 x1 x2 x3 x4 x5 x6 x7 x8 x9 x10 x11 x12} : Safe c R (k0_part124 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part124_eq_skeleton]; unfold k0_part124_skel
  exact .pure _

theorem p125 (H : Held c R arg2 arg3 arg4 arg5 arg6 arg7 arg8 arg9 arg10 arg11 arg12 arg13 arg14 arg15 arg16) {x0 x1 x2 x3 x4 x5 x6 x7 x8 x9 x10 x11 x12} : Safe c R (k0_part125 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part125_eq_skeleton]; unfold k0_part125_skel
  exact .pure _

theorem p126 (H : Held c R arg2 arg3 arg4 arg5 arg6 arg7 arg8 arg9 arg10 arg11 arg12 arg13 arg14 arg15 arg16) {x0 x1 x2 x3 x4 x5 x6 x7 x8 x9 x10 x11 x12} : Safe c R (k0_part126 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part126_eq_skeleton]; unfold k0_part126_skel
  exact .pure _

theorem p127 (H : Held c R arg2 arg3 arg4 arg5 arg6 arg7 arg8 arg9 arg10 arg11 arg12 arg13 arg14 arg15 arg16) {x0 x1 x2 x3 x4 x5 x6 x7 x8 x9 x10 x11 x12} : Safe c R (k0_part127 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part127_eq_skeleton]; unfold k0_part127_skel
  exact .pure _

theorem p128 (H : Held c R arg2 arg3 arg4 arg5 arg6 arg7 arg8 arg9 arg10 arg11 arg12 arg13 arg14 arg15 arg16) {x0 x1 x2 x3 x4 x5 x6 x7 x8 x9 x10 x11 x12} : Safe c R (k0_part128 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part128_eq_skeleton]; unfold k0_part128_skel
  exact .pure _

theorem p129 (H : Held c R arg2 arg3 arg4 arg5 arg6 arg7 arg8 arg9 arg10 arg11 arg12 arg13 arg14 arg15 arg16) {x0 x1 x2 x3 x4 x5 x6 x7 x8 x9 x10 x11 x12} : Safe c R (k0_part129 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part129_eq_skeleton]; unfold k0_part129_skel
  exact .pure _

theorem p130 (H : Held c R arg2 arg3 arg4 arg5 arg6 arg7 arg8 arg9 arg10 arg11 arg12 arg13 arg14 arg15 arg16) {x0 x1 x2 x3 x4 x5 x6 x7 x8 x9 x10 x11 x12} : Safe c R (k0_part130 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part130_eq_skeleton]; unfold k0_part130_skel
  exact .pure _

theorem p131 (H : Held c R arg2 arg3 arg4 arg5 arg6 arg7 arg8 arg9 arg10 arg11 arg12 arg13 arg14 arg15 arg16) {x0 x1 x2 x3 x4 x5 x6 x7 x8 x9 x10 x11 x12} : Safe c R (k0_part131 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part131_eq_skeleton]; unfold k0_part131_skel
  exact .pure _

theorem p132 (H : Held c R arg2 arg3 arg4 arg5 arg6 arg7 arg8 arg9 arg10 arg11 arg12 arg13 arg14 arg15 arg16) {x0 x1 x2 x3 x4 x5 x6 x7 x8 x9 x10 x11 x12} : Safe c R (k0_part132 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part132_eq_skeleton]; unfold k0_part132_skel
  exact .pure _

theorem p133 (H : Held c R arg2 arg3 arg4 arg5 arg6 arg7 arg8 arg9 arg10 arg11 arg12 arg13 arg14 arg15 arg16) {x0 x1 x2 x3 x4 x5 x6 x7 x8 x9 x10 x11 x12} : Safe c R (k0_part133 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part133_eq_skeleton]; unfold k0_part133_skel
  exact .pure _

theorem p134 (H : Held c R arg2 arg3 arg4 arg5 arg6 arg7 arg8 arg9 arg10 arg11 arg12 arg13 arg14 arg15 arg16) {x0 x1 x2 x3 x4 x5 x6 x7 x8 x9 x10 x11 x12} : Safe c R (k0_part134 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part134_eq_skeleton]; unfold k0_part134_skel
  exact .pure _

theorem p135 (H : Held c R arg2 arg3 arg4 arg5 arg6 arg7 arg8 arg9 arg10 arg11 arg12 arg13 arg14 arg15 arg16) {x0 x1 x2 x3 x4 x5 x6 x7 x8 x9 x10 x11 x12} : Safe c R (k0_part135 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part135_eq_skeleton]; unfold k0_part135_skel
  exact .pure _

theorem p136 (H : Held c R arg2 arg3 arg4 arg5 arg6 arg7 arg8 arg9 arg10 arg11 arg12 arg13 arg14 arg15 arg16) {x0 x1 x2 x3 x4 x5 x6 x7 x8 x9 x10 x11 x12} : Safe c R (k0_part136 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part136_eq_skeleton]; unfold k0_part136_skel
  exact .pure _

theorem p137 (H : Held c R arg2 arg3 arg4 arg5 arg6 arg7 arg8 arg9 arg10 arg11 arg12 arg13 arg14 arg15 arg16) {x0 x1 x2 x3 x4 x5 x6 x7 x8 x9 x10 x11 x12} : Safe c R (k0_part137 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part137_eq_skeleton]; unfold k0_part137_skel
  exact .pure _

theorem p138 (H : Held c R arg2 arg3 arg4 arg5 arg6 arg7 arg8 arg9 arg10 arg11 arg12 arg13 arg14 arg15 arg16) {x0 x1 x2 x3 x4 x5 x6 x7 x8} : Safe c R (k0_part138 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  rw [k0_part138_eq_skeleton]; unfold k0_part138_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .pure _

theorem p139 (H : Held c R arg2 arg3 arg4 arg5 arg6 arg7 arg8 arg9 arg10 arg11 arg12 arg13 arg14 arg15 arg16) {x0 x1 x2 x3 x4 x5 x6} : Safe c R (k0_part139 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part139_eq_skeleton]; unfold k0_part139_skel
  exact .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .pure _

theorem p140 (H : Held c R arg2 arg3 arg4 arg5 arg6 arg7 arg8 arg9 arg10 arg11 arg12 arg13 arg14 arg15 arg16) {x0 x1 x2 x3 x4 x5 x6} : Safe c R (k0_part140 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part140_eq_skeleton]; unfold k0_part140_skel
  exact .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .pure _

theorem p141 (H : Held c R arg2 arg3 arg4 arg5 arg6 arg7 arg8 arg9 arg10 arg11 arg12 arg13 arg14 arg15 arg16) {x0 x1 x2 x3 x4 x5 x6} : Safe c R (k0_part141 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part141_eq_skeleton]; unfold k0_part141_skel
  exact .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .pure _

theorem p142 (H : Held c R arg2 arg3 arg4 arg5 arg6 arg7 arg8 arg9 arg10 arg11 arg12 arg13 arg14 arg15 arg16) {x0 x1 x2 x3 x4 x5 x6} : Safe c R (k0_part142 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part142_eq_skeleton]; unfold k0_part142_skel
  exact .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .pure _

theorem p143 (H : Held c R arg2 arg3 arg4 arg5 arg6 arg7 arg8 arg9 arg10 arg11 arg12 arg13 arg14 arg15 arg16) {x0 x1 x2 x3 x4 x5 x6} : Safe c R (k0_part143 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part143_eq_skeleton]; unfold k0_part143_skel
  exact .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .pure _

theorem p144 (H : Held c R arg2 arg3 arg4 arg5 arg6 arg7 arg8 arg9 arg10 arg11 arg12 arg13 arg14 arg15 arg16) {x0 x1 x2 x3 x4 x5 x6 x7} : Safe c R (k0_part144 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part144_eq_skeleton]; unfold k0_part144_skel
  exact .bind H.a10.store fun _ => .bind H.a10.load fun _ => .bind H.a10.store fun _ => .bind H.a10.load fun _ => .bind H.a10.store fun _ => .bind H.a5.load fun _ => .bind H.a15.load fun _ => .bind H.a15.store fun _ => .bind H.a16.load fun _ => .pure _

end Cert.Kernel.Dsa

end
-- ==== Proof.DsaTrip2b.lean ====
/-
  The second half of a trip of the second score loop.
-/
module

public import proofs.«01_k».proof.Proof.DsaTrip2a
public import proofs.«01_k».proof.Proof.Gen.Kernel.Skeleton
public import Idealize.ShloMosaic.Lib.Pipeline.Frame
public import Idealize.ShloMosaic.Lib.Tactic

@[expose] public section

set_option maxRecDepth 65536

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable {c : Dev nD} {R : Res F} {i : grid0.Coords} {arg2 : Memref sig .tc .vmem S1x256x128 .bf16} {arg3 : Memref sig .tc .vmem S1x256x128 .bf16} {arg4 : Memref sig .tc .vmem S1x8x128 .f32} {arg5 : Memref sig .tc .vmem S1x8192x64 .bf16} {arg6 : Memref sig .tc .vmem S1x8192x64 .bf16} {arg7 : Memref sig .tc .vmem S1x64x8192 .bf16} {arg8 : Memref sig .tc .vmem S1x256x128 .bf16} {arg9 : Memref sig .tc .vmem S16x512x128 .i32} {arg10 : Memref sig .tc .vmem S32x32x8x128 .i32} {arg11 : Memref sig .tc .vmem S32x8x128 .i32} {arg12 : Memref sig .tc .vmem S8x128 .i32} {arg13 : Memref sig .tc .vmem S72x512 .f32} {arg14 : Memref sig .tc .vmem S512x512 .bf16} {arg15 : Memref sig .tc .vmem S512x512 .f32} {arg16 : Memref sig .tc .vmem S512x512 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole}

set_option maxHeartbeats 4000000

theorem p145 (H : Held c R arg2 arg3 arg4 arg5 arg6 arg7 arg8 arg9 arg10 arg11 arg12 arg13 arg14 arg15 arg16) {x0 x1 x2 x3 x4 x5 x6} : Safe c R (k0_part145 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part145_eq_skeleton]; unfold k0_part145_skel
  exact .bind H.a16.load fun _ => .bind H.a16.load fun _ => .bind H.a16.load fun _ => .bind H.a9.load fun _ => .bind H.a9.store fun _ => .pure _

theorem p146 (H : Held c R arg2 arg3 arg4 arg5 arg6 arg7 arg8 arg9 arg10 arg11 arg12 arg13 arg14 arg15 arg16) {x0} : Safe c R (k0_part146 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0) := by
  rw [k0_part146_eq_skeleton]; unfold k0_part146_skel
  exact .pure _

theorem p147 (H : Held c R arg2 arg3 arg4 arg5 arg6 arg7 arg8 arg9 arg10 arg11 arg12 arg13 arg14 arg15 arg16) {x0 x1 x2 x3 x4 x5 x6 x7 x8 x9 x10} : Safe c R (k0_part147 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part147_eq_skeleton]; unfold k0_part147_skel
  exact .pure _

theorem p148 (H : Held c R arg2 arg3 arg4 arg5 arg6 arg7 arg8 arg9 arg10 arg11 arg12 arg13 arg14 arg15 arg16) {x0 x1 x2 x3 x4 x5 x6 x7 x8 x9 x10} : Safe c R (k0_part148 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part148_eq_skeleton]; unfold k0_part148_skel
  exact .pure _

theorem p149 (H : Held c R arg2 arg3 arg4 arg5 arg6 arg7 arg8 arg9 arg10 arg11 arg12 arg13 arg14 arg15 arg16) {x0 x1 x2 x3 x4 x5 x6 x7 x8 x9 x10} : Safe c R (k0_part149 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part149_eq_skeleton]; unfold k0_part149_skel
  exact .pure _

theorem p150 (H : Held c R arg2 arg3 arg4 arg5 arg6 arg7 arg8 arg9 arg10 arg11 arg12 arg13 arg14 arg15 arg16) {x0 x1 x2 x3 x4 x5 x6 x7 x8 x9 x10} : Safe c R (k0_part150 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part150_eq_skeleton]; unfold k0_part150_skel
  exact .pure _

theorem p151 (H : Held c R arg2 arg3 arg4 arg5 arg6 arg7 arg8 arg9 arg10 arg11 arg12 arg13 arg14 arg15 arg16) {x0 x1 x2 x3 x4 x5 x6 x7 x8 x9 x10} : Safe c R (k0_part151 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part151_eq_skeleton]; unfold k0_part151_skel
  exact .pure _

theorem p152 (H : Held c R arg2 arg3 arg4 arg5 arg6 arg7 arg8 arg9 arg10 arg11 arg12 arg13 arg14 arg15 arg16) {x0 x1 x2 x3 x4 x5 x6 x7 x8 x9 x10} : Safe c R (k0_part152 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part152_eq_skeleton]; unfold k0_part152_skel
  exact .pure _

theorem p153 (H : Held c R arg2 arg3 arg4 arg5 arg6 arg7 arg8 arg9 arg10 arg11 arg12 arg13 arg14 arg15 arg16) {x0 x1 x2 x3 x4 x5 x6 x7 x8 x9 x10} : Safe c R (k0_part153 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part153_eq_skeleton]; unfold k0_part153_skel
  exact .pure _

theorem p154 (H : Held c R arg2 arg3 arg4 arg5 arg6 arg7 arg8 arg9 arg10 arg11 arg12 arg13 arg14 arg15 arg16) {x0 x1 x2 x3 x4 x5 x6 x7 x8 x9 x10} : Safe c R (k0_part154 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part154_eq_skeleton]; unfold k0_part154_skel
  exact .pure _

theorem p155 (H : Held c R arg2 arg3 arg4 arg5 arg6 arg7 arg8 arg9 arg10 arg11 arg12 arg13 arg14 arg15 arg16) {x0 x1 x2 x3 x4 x5 x6 x7 x8 x9 x10} : Safe c R (k0_part155 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part155_eq_skeleton]; unfold k0_part155_skel
  exact .pure _

theorem p156 (H : Held c R arg2 arg3 arg4 arg5 arg6 arg7 arg8 arg9 arg10 arg11 arg12 arg13 arg14 arg15 arg16) {x0 x1 x2 x3 x4 x5 x6 x7 x8 x9 x10} : Safe c R (k0_part156 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part156_eq_skeleton]; unfold k0_part156_skel
  exact .pure _

theorem p157 (H : Held c R arg2 arg3 arg4 arg5 arg6 arg7 arg8 arg9 arg10 arg11 arg12 arg13 arg14 arg15 arg16) {x0 x1 x2 x3 x4 x5 x6 x7 x8 x9 x10} : Safe c R (k0_part157 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part157_eq_skeleton]; unfold k0_part157_skel
  exact .pure _

theorem p158 (H : Held c R arg2 arg3 arg4 arg5 arg6 arg7 arg8 arg9 arg10 arg11 arg12 arg13 arg14 arg15 arg16) {x0 x1 x2 x3 x4 x5 x6 x7 x8 x9 x10} : Safe c R (k0_part158 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part158_eq_skeleton]; unfold k0_part158_skel
  exact .pure _

theorem p159 (H : Held c R arg2 arg3 arg4 arg5 arg6 arg7 arg8 arg9 arg10 arg11 arg12 arg13 arg14 arg15 arg16) {x0 x1 x2 x3 x4 x5 x6 x7 x8 x9 x10} : Safe c R (k0_part159 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part159_eq_skeleton]; unfold k0_part159_skel
  exact .pure _

theorem p160 (H : Held c R arg2 arg3 arg4 arg5 arg6 arg7 arg8 arg9 arg10 arg11 arg12 arg13 arg14 arg15 arg16) {x0 x1 x2 x3 x4 x5 x6 x7 x8 x9 x10} : Safe c R (k0_part160 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part160_eq_skeleton]; unfold k0_part160_skel
  exact .pure _

theorem p161 (H : Held c R arg2 arg3 arg4 arg5 arg6 arg7 arg8 arg9 arg10 arg11 arg12 arg13 arg14 arg15 arg16) {x0 x1 x2 x3 x4 x5 x6 x7 x8 x9 x10} : Safe c R (k0_part161 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part161_eq_skeleton]; unfold k0_part161_skel
  exact .pure _

theorem p162 (H : Held c R arg2 arg3 arg4 arg5 arg6 arg7 arg8 arg9 arg10 arg11 arg12 arg13 arg14 arg15 arg16) {x0 x1 x2 x3 x4 x5 x6 x7 x8 x9 x10} : Safe c R (k0_part162 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10) := by
  rw [k0_part162_eq_skeleton]; unfold k0_part162_skel
  exact .bind H.a10.load fun _ => .bind H.a10.store fun _ => .bind H.a10.load fun _ => .bind H.a10.store fun _ => .pure _

theorem p163 (H : Held c R arg2 arg3 arg4 arg5 arg6 arg7 arg8 arg9 arg10 arg11 arg12 arg13 arg14 arg15 arg16) {x0 x1 x2 x3 x4 x5 x6 x7} : Safe c R (k0_part163 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part163_eq_skeleton]; unfold k0_part163_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p164 (H : Held c R arg2 arg3 arg4 arg5 arg6 arg7 arg8 arg9 arg10 arg11 arg12 arg13 arg14 arg15 arg16) {x0 x1 x2 x3 x4 x5 x6 x7} : Safe c R (k0_part164 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part164_eq_skeleton]; unfold k0_part164_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p165 (H : Held c R arg2 arg3 arg4 arg5 arg6 arg7 arg8 arg9 arg10 arg11 arg12 arg13 arg14 arg15 arg16) {x0 x1 x2 x3 x4 x5 x6 x7} : Safe c R (k0_part165 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part165_eq_skeleton]; unfold k0_part165_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p166 (H : Held c R arg2 arg3 arg4 arg5 arg6 arg7 arg8 arg9 arg10 arg11 arg12 arg13 arg14 arg15 arg16) {x0 x1 x2 x3 x4 x5 x6 x7} : Safe c R (k0_part166 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part166_eq_skeleton]; unfold k0_part166_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p167 (H : Held c R arg2 arg3 arg4 arg5 arg6 arg7 arg8 arg9 arg10 arg11 arg12 arg13 arg14 arg15 arg16) {x0 x1 x2 x3 x4 x5 x6 x7} : Safe c R (k0_part167 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part167_eq_skeleton]; unfold k0_part167_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p168 (H : Held c R arg2 arg3 arg4 arg5 arg6 arg7 arg8 arg9 arg10 arg11 arg12 arg13 arg14 arg15 arg16) {x0 x1 x2 x3 x4 x5 x6 x7 x8} : Safe c R (k0_part168 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  rw [k0_part168_eq_skeleton]; unfold k0_part168_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p169 (H : Held c R arg2 arg3 arg4 arg5 arg6 arg7 arg8 arg9 arg10 arg11 arg12 arg13 arg14 arg15 arg16) {x0 x1} : Safe c R (k0_part169 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1) := by
  rw [k0_part169_eq_skeleton]; unfold k0_part169_skel
  exact .pure _

theorem p170 (H : Held c R arg2 arg3 arg4 arg5 arg6 arg7 arg8 arg9 arg10 arg11 arg12 arg13 arg14 arg15 arg16) {x0 x1 x2 x3 x4 x5 x6 x7 x8 x9 x10 x11 x12 x13} : Safe c R (k0_part170 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part170_eq_skeleton]; unfold k0_part170_skel
  exact .pure _

theorem p171 (H : Held c R arg2 arg3 arg4 arg5 arg6 arg7 arg8 arg9 arg10 arg11 arg12 arg13 arg14 arg15 arg16) {x0 x1 x2 x3 x4 x5 x6 x7 x8 x9 x10 x11 x12 x13} : Safe c R (k0_part171 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part171_eq_skeleton]; unfold k0_part171_skel
  exact .pure _

theorem p172 (H : Held c R arg2 arg3 arg4 arg5 arg6 arg7 arg8 arg9 arg10 arg11 arg12 arg13 arg14 arg15 arg16) {x0 x1 x2 x3 x4 x5 x6 x7 x8 x9 x10 x11 x12 x13} : Safe c R (k0_part172 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part172_eq_skeleton]; unfold k0_part172_skel
  exact .pure _

theorem p173 (H : Held c R arg2 arg3 arg4 arg5 arg6 arg7 arg8 arg9 arg10 arg11 arg12 arg13 arg14 arg15 arg16) {x0 x1 x2 x3 x4 x5 x6 x7 x8 x9 x10 x11 x12 x13} : Safe c R (k0_part173 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part173_eq_skeleton]; unfold k0_part173_skel
  exact .pure _

theorem p174 (H : Held c R arg2 arg3 arg4 arg5 arg6 arg7 arg8 arg9 arg10 arg11 arg12 arg13 arg14 arg15 arg16) {x0 x1 x2 x3 x4 x5 x6 x7 x8 x9 x10 x11 x12 x13} : Safe c R (k0_part174 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part174_eq_skeleton]; unfold k0_part174_skel
  exact .pure _

theorem p175 (H : Held c R arg2 arg3 arg4 arg5 arg6 arg7 arg8 arg9 arg10 arg11 arg12 arg13 arg14 arg15 arg16) {x0 x1 x2 x3 x4 x5 x6 x7 x8 x9 x10 x11 x12 x13} : Safe c R (k0_part175 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part175_eq_skeleton]; unfold k0_part175_skel
  exact .pure _

theorem p176 (H : Held c R arg2 arg3 arg4 arg5 arg6 arg7 arg8 arg9 arg10 arg11 arg12 arg13 arg14 arg15 arg16) {x0 x1 x2 x3 x4 x5 x6 x7 x8 x9 x10 x11 x12 x13} : Safe c R (k0_part176 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part176_eq_skeleton]; unfold k0_part176_skel
  exact .pure _

theorem p177 (H : Held c R arg2 arg3 arg4 arg5 arg6 arg7 arg8 arg9 arg10 arg11 arg12 arg13 arg14 arg15 arg16) {x0 x1 x2 x3 x4 x5 x6 x7 x8 x9 x10 x11 x12 x13} : Safe c R (k0_part177 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part177_eq_skeleton]; unfold k0_part177_skel
  exact .pure _

theorem p178 (H : Held c R arg2 arg3 arg4 arg5 arg6 arg7 arg8 arg9 arg10 arg11 arg12 arg13 arg14 arg15 arg16) {x0 x1 x2 x3 x4 x5 x6 x7 x8 x9 x10 x11 x12 x13} : Safe c R (k0_part178 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part178_eq_skeleton]; unfold k0_part178_skel
  exact .pure _

theorem p179 (H : Held c R arg2 arg3 arg4 arg5 arg6 arg7 arg8 arg9 arg10 arg11 arg12 arg13 arg14 arg15 arg16) {x0 x1 x2 x3 x4 x5 x6 x7 x8 x9 x10 x11 x12 x13} : Safe c R (k0_part179 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part179_eq_skeleton]; unfold k0_part179_skel
  exact .pure _

theorem p180 (H : Held c R arg2 arg3 arg4 arg5 arg6 arg7 arg8 arg9 arg10 arg11 arg12 arg13 arg14 arg15 arg16) {x0 x1 x2 x3 x4 x5 x6 x7 x8 x9 x10 x11 x12 x13} : Safe c R (k0_part180 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part180_eq_skeleton]; unfold k0_part180_skel
  exact .pure _

theorem p181 (H : Held c R arg2 arg3 arg4 arg5 arg6 arg7 arg8 arg9 arg10 arg11 arg12 arg13 arg14 arg15 arg16) {x0 x1 x2 x3 x4 x5 x6 x7 x8 x9 x10 x11 x12 x13} : Safe c R (k0_part181 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part181_eq_skeleton]; unfold k0_part181_skel
  exact .pure _

theorem p182 (H : Held c R arg2 arg3 arg4 arg5 arg6 arg7 arg8 arg9 arg10 arg11 arg12 arg13 arg14 arg15 arg16) {x0 x1 x2 x3 x4 x5 x6 x7 x8 x9 x10 x11 x12 x13} : Safe c R (k0_part182 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part182_eq_skeleton]; unfold k0_part182_skel
  exact .pure _

theorem p183 (H : Held c R arg2 arg3 arg4 arg5 arg6 arg7 arg8 arg9 arg10 arg11 arg12 arg13 arg14 arg15 arg16) {x0 x1 x2 x3 x4 x5 x6 x7 x8 x9 x10 x11 x12 x13} : Safe c R (k0_part183 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part183_eq_skeleton]; unfold k0_part183_skel
  exact .pure _

theorem p184 (H : Held c R arg2 arg3 arg4 arg5 arg6 arg7 arg8 arg9 arg10 arg11 arg12 arg13 arg14 arg15 arg16) {x0 x1 x2 x3 x4 x5 x6 x7 x8 x9 x10 x11 x12 x13} : Safe c R (k0_part184 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  rw [k0_part184_eq_skeleton]; unfold k0_part184_skel
  exact .pure _

theorem p185 (H : Held c R arg2 arg3 arg4 arg5 arg6 arg7 arg8 arg9 arg10 arg11 arg12 arg13 arg14 arg15 arg16) {x0 x1 x2 x3 x4 x5 x6 x7 x8 x9 x10 x11} : Safe c R (k0_part185 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part185_eq_skeleton]; unfold k0_part185_skel
  exact .bind H.a10.load fun _ => .bind H.a10.store fun _ => .bind H.a10.load fun _ => .bind H.a10.store fun _ => .pure _

theorem p186 (H : Held c R arg2 arg3 arg4 arg5 arg6 arg7 arg8 arg9 arg10 arg11 arg12 arg13 arg14 arg15 arg16) {x0 x1 x2 x3 x4 x5 x6 x7} : Safe c R (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part186_eq_skeleton]; unfold k0_part186_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p187 (H : Held c R arg2 arg3 arg4 arg5 arg6 arg7 arg8 arg9 arg10 arg11 arg12 arg13 arg14 arg15 arg16) {x0 x1 x2 x3 x4 x5 x6 x7} : Safe c R (k0_part187 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part187_eq_skeleton]; unfold k0_part187_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p188 (H : Held c R arg2 arg3 arg4 arg5 arg6 arg7 arg8 arg9 arg10 arg11 arg12 arg13 arg14 arg15 arg16) {x0 x1 x2 x3 x4 x5 x6 x7} : Safe c R (k0_part188 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part188_eq_skeleton]; unfold k0_part188_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p189 (H : Held c R arg2 arg3 arg4 arg5 arg6 arg7 arg8 arg9 arg10 arg11 arg12 arg13 arg14 arg15 arg16) {x0 x1 x2 x3 x4 x5 x6 x7} : Safe c R (k0_part189 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part189_eq_skeleton]; unfold k0_part189_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p190 (H : Held c R arg2 arg3 arg4 arg5 arg6 arg7 arg8 arg9 arg10 arg11 arg12 arg13 arg14 arg15 arg16) {x0 x1 x2 x3 x4 x5 x6 x7} : Safe c R (k0_part190 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part190_eq_skeleton]; unfold k0_part190_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p191 (H : Held c R arg2 arg3 arg4 arg5 arg6 arg7 arg8 arg9 arg10 arg11 arg12 arg13 arg14 arg15 arg16) {x0 x1 x2 x3 x4 x5 x6} : Safe c R (k0_part191 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part191_eq_skeleton]; unfold k0_part191_skel
  exact .bind (p97 H) fun ⟨_, _, _, _, _⟩ => .bind (p98 H) fun ⟨_, _, _, _, _, _, _, _, _, _, _, _, _, _, _, _, _, _, _, _, _, _, _, _, _, _, _⟩ => .bind (p99 H) fun ⟨_, _, _, _, _, _, _, _, _, _, _, _, _, _, _, _⟩ => .bind (p100 H) fun ⟨_, _, _, _, _, _, _, _, _, _, _, _⟩ => .bind (p101 H) fun ⟨_, _, _, _, _, _, _, _, _, _, _, _⟩ => .bind (p102 H) fun ⟨_, _, _, _, _, _, _, _, _, _, _, _⟩ => .bind (p103 H) fun ⟨_, _, _, _, _, _, _, _, _, _, _, _⟩ => .bind (p104 H) fun ⟨_, _, _, _, _, _, _, _, _, _, _, _⟩ => .bind (p105 H) fun ⟨_, _, _, _, _, _, _, _, _, _, _, _⟩ => .bind (p106 H) fun ⟨_, _, _, _, _, _, _, _, _, _, _, _⟩ => .bind (p107 H) fun ⟨_, _, _, _, _, _, _, _, _, _, _, _⟩ => .bind (p108 H) fun ⟨_, _, _, _, _, _, _, _, _, _, _, _⟩ => .bind (p109 H) fun ⟨_, _, _, _, _, _, _, _, _, _, _, _⟩ => .bind (p110 H) fun ⟨_, _, _, _, _, _, _, _, _, _, _, _⟩ => .bind (p111 H) fun ⟨_, _, _, _, _, _, _, _, _, _, _, _⟩ => .bind (p112 H) fun ⟨_, _, _, _, _, _, _, _, _, _, _, _⟩ => .bind (p113 H) fun ⟨_, _, _, _, _, _, _, _, _, _, _, _⟩ => .bind (p114 H) fun ⟨_, _, _, _, _, _, _, _, _, _, _, _⟩ => .bind (p115 H) fun ⟨_, _⟩ => .bind (p116 H) fun _ => .bind (p117 H) fun _ => .bind (p118 H) fun _ => .bind (p119 H) fun _ => .bind (p120 H) fun _ => .bind (p121 H) fun ⟨_, _, _, _, _, _, _, _, _, _, _, _, _, _, _, _, _, _, _, _, _, _, _, _, _, _, _, _, _, _⟩ => .bind (p122 H) fun ⟨_, _, _, _, _, _, _, _, _, _, _, _, _⟩ => .bind (p123 H) fun ⟨_, _, _, _, _, _, _, _, _, _, _, _⟩ => .bind (p124 H) fun ⟨_, _, _, _, _, _, _, _, _, _, _, _⟩ => .bind (p125 H) fun ⟨_, _, _, _, _, _, _, _, _, _, _, _⟩ => .bind (p126 H) fun ⟨_, _, _, _, _, _, _, _, _, _, _, _⟩ => .bind (p127 H) fun ⟨_, _, _, _, _, _, _, _, _, _, _, _⟩ => .bind (p128 H) fun ⟨_, _, _, _, _, _, _, _, _, _, _, _⟩ => .bind (p129 H) fun ⟨_, _, _, _, _, _, _, _, _, _, _, _⟩ => .bind (p130 H) fun ⟨_, _, _, _, _, _, _, _, _, _, _, _⟩ => .bind (p131 H) fun ⟨_, _, _, _, _, _, _, _, _, _, _, _⟩ => .bind (p132 H) fun ⟨_, _, _, _, _, _, _, _, _, _, _, _⟩ => .bind (p133 H) fun ⟨_, _, _, _, _, _, _, _, _, _, _, _⟩ => .bind (p134 H) fun ⟨_, _, _, _, _, _, _, _, _, _, _, _⟩ => .bind (p135 H) fun ⟨_, _, _, _, _, _, _, _, _, _, _, _⟩ => .bind (p136 H) fun ⟨_, _, _, _, _, _, _, _, _, _, _, _⟩ => .bind (p137 H) fun ⟨_, _, _, _, _, _, _, _, _, _, _, _⟩ => .bind (p138 H) fun _ => .bind (p139 H) fun _ => .bind (p140 H) fun _ => .bind (p141 H) fun _ => .bind (p142 H) fun _ => .bind (p143 H) fun _ => .bind (p144 H) fun ⟨_, _, _⟩ => .bind (p145 H) fun _ => .bind (p146 H) fun ⟨_, _, _, _, _, _, _, _, _, _, _, _, _, _, _, _, _, _, _, _, _, _, _, _, _, _, _, _, _, _, _, _, _, _⟩ => .bind (p147 H) fun ⟨_, _, _, _, _, _, _, _, _, _, _⟩ => .bind (p148 H) fun ⟨_, _, _, _, _, _, _, _, _, _, _⟩ => .bind (p149 H) fun ⟨_, _, _, _, _, _, _, _, _, _, _⟩ => .bind (p150 H) fun ⟨_, _, _, _, _, _, _, _, _, _, _⟩ => .bind (p151 H) fun ⟨_, _, _, _, _, _, _, _, _, _, _⟩ => .bind (p152 H) fun ⟨_, _, _, _, _, _, _, _, _, _, _⟩ => .bind (p153 H) fun ⟨_, _, _, _, _, _, _, _, _, _, _⟩ => .bind (p154 H) fun ⟨_, _, _, _, _, _, _, _, _, _, _⟩ => .bind (p155 H) fun ⟨_, _, _, _, _, _, _, _, _, _, _⟩ => .bind (p156 H) fun ⟨_, _, _, _, _, _, _, _, _, _, _⟩ => .pure _

theorem p192 (H : Held c R arg2 arg3 arg4 arg5 arg6 arg7 arg8 arg9 arg10 arg11 arg12 arg13 arg14 arg15 arg16) {x0 x1 x2 x3 x4 x5 x6 x7 x8 x9 x10 x11 x12 x13 x14 x15 x16 x17 x18 x19 x20 x21 x22 x23 x24 x25 x26 x27 x28 x29 x30 x31 x32 x33 x34 x35} : Safe c R (k0_part192 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34 x35) := by
  rw [k0_part192_eq_skeleton]; unfold k0_part192_skel
  exact .bind (p157 H) fun ⟨_, _, _, _, _, _, _, _, _, _, _⟩ => .bind (p158 H) fun ⟨_, _, _, _, _, _, _, _, _, _, _⟩ => .bind (p159 H) fun ⟨_, _, _, _, _, _, _, _, _, _, _⟩ => .bind (p160 H) fun ⟨_, _, _, _, _, _, _, _, _, _, _⟩ => .bind (p161 H) fun ⟨_, _, _, _, _, _, _, _, _, _, _⟩ => .bind (p162 H) fun ⟨_, _, _, _, _, _, _⟩ => .bind (p163 H) fun _ => .bind (p164 H) fun _ => .bind (p165 H) fun _ => .bind (p166 H) fun _ => .bind (p167 H) fun _ => .bind (p168 H) fun _ => .bind (p169 H) fun ⟨_, _, _, _, _, _, _, _, _, _, _, _, _, _, _, _, _, _, _, _, _, _, _, _, _, _, _, _, _, _, _, _, _, _⟩ => .bind (p170 H) fun ⟨_, _, _, _, _, _, _, _, _, _, _, _⟩ => .bind (p171 H) fun ⟨_, _, _, _, _, _, _, _, _, _, _, _⟩ => .bind (p172 H) fun ⟨_, _, _, _, _, _, _, _, _, _, _, _⟩ => .bind (p173 H) fun ⟨_, _, _, _, _, _, _, _, _, _, _, _⟩ => .bind (p174 H) fun ⟨_, _, _, _, _, _, _, _, _, _, _, _⟩ => .bind (p175 H) fun ⟨_, _, _, _, _, _, _, _, _, _, _, _⟩ => .bind (p176 H) fun ⟨_, _, _, _, _, _, _, _, _, _, _, _⟩ => .bind (p177 H) fun ⟨_, _, _, _, _, _, _, _, _, _, _, _⟩ => .bind (p178 H) fun ⟨_, _, _, _, _, _, _, _, _, _, _, _⟩ => .bind (p179 H) fun ⟨_, _, _, _, _, _, _, _, _, _, _, _⟩ => .bind (p180 H) fun ⟨_, _, _, _, _, _, _, _, _, _, _, _⟩ => .bind (p181 H) fun ⟨_, _, _, _, _, _, _, _, _, _, _, _⟩ => .bind (p182 H) fun ⟨_, _, _, _, _, _, _, _, _, _, _, _⟩ => .bind (p183 H) fun ⟨_, _, _, _, _, _, _, _, _, _, _, _⟩ => .bind (p184 H) fun ⟨_, _, _, _, _, _, _, _, _, _, _, _⟩ => .bind (p185 H) fun ⟨_, _, _, _, _, _, _⟩ => .bind (p186 H) fun _ => .bind (p187 H) fun _ => .bind (p188 H) fun _ => .bind (p189 H) fun _ => .bind (p190 H) fun _ => .bind H.a10.load fun _ => .bind H.a10.store fun _ => .bind H.a10.load fun _ => .bind H.a10.store fun _ => .pure _

end Cert.Kernel.Dsa

end
-- ==== Proof.DsaRest.lean ====
/-
  The flushed tile, and the trips of the two attention loops, statement by statement.
-/
module

public import proofs.«01_k».proof.Proof.DsaSafe
public import proofs.«01_k».proof.Proof.Gen.Kernel.Skeleton
public import Idealize.ShloMosaic.Lib.Pipeline.Frame
public import Idealize.ShloMosaic.Lib.Tactic

@[expose] public section

set_option maxRecDepth 65536

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable {c : Dev nD} {R : Res F} {i : grid0.Coords} {arg2 : Memref sig .tc .vmem S1x256x128 .bf16} {arg3 : Memref sig .tc .vmem S1x256x128 .bf16} {arg4 : Memref sig .tc .vmem S1x8x128 .f32} {arg5 : Memref sig .tc .vmem S1x8192x64 .bf16} {arg6 : Memref sig .tc .vmem S1x8192x64 .bf16} {arg7 : Memref sig .tc .vmem S1x64x8192 .bf16} {arg8 : Memref sig .tc .vmem S1x256x128 .bf16} {arg9 : Memref sig .tc .vmem S16x512x128 .i32} {arg10 : Memref sig .tc .vmem S32x32x8x128 .i32} {arg11 : Memref sig .tc .vmem S32x8x128 .i32} {arg12 : Memref sig .tc .vmem S8x128 .i32} {arg13 : Memref sig .tc .vmem S72x512 .f32} {arg14 : Memref sig .tc .vmem S512x512 .bf16} {arg15 : Memref sig .tc .vmem S512x512 .f32} {arg16 : Memref sig .tc .vmem S512x512 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole}

set_option maxHeartbeats 4000000

theorem p193 (H : Held c R arg2 arg3 arg4 arg5 arg6 arg7 arg8 arg9 arg10 arg11 arg12 arg13 arg14 arg15 arg16) {x0 x1 x2 x3} : Safe c R (k0_part193 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3) := by
  rw [k0_part193_eq_skeleton]; unfold k0_part193_skel
  exact .bind H.a15.load fun _ => .bind H.a15.load fun _ => .bind H.a15.load fun _ => .bind H.a15.load fun _ => .pure _

theorem p194 (H : Held c R arg2 arg3 arg4 arg5 arg6 arg7 arg8 arg9 arg10 arg11 arg12 arg13 arg14 arg15 arg16) {x0 x1 x2 x3} : Safe c R (k0_part194 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3) := by
  rw [k0_part194_eq_skeleton]; unfold k0_part194_skel
  exact .bind H.a9.load fun _ => .bind H.a9.store fun _ => .pure _

theorem p195 (H : Held c R arg2 arg3 arg4 arg5 arg6 arg7 arg8 arg9 arg10 arg11 arg12 arg13 arg14 arg15 arg16) {x0 x1 x2 x3 x4 x5 x6 x7 x8 x9 x10 x11} : Safe c R (k0_part195 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part195_eq_skeleton]; unfold k0_part195_skel
  exact .pure _

theorem p196 (H : Held c R arg2 arg3 arg4 arg5 arg6 arg7 arg8 arg9 arg10 arg11 arg12 arg13 arg14 arg15 arg16) {x0 x1 x2 x3 x4 x5 x6 x7 x8 x9 x10 x11} : Safe c R (k0_part196 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part196_eq_skeleton]; unfold k0_part196_skel
  exact .pure _

theorem p197 (H : Held c R arg2 arg3 arg4 arg5 arg6 arg7 arg8 arg9 arg10 arg11 arg12 arg13 arg14 arg15 arg16) {x0 x1 x2 x3 x4 x5 x6 x7 x8 x9 x10 x11} : Safe c R (k0_part197 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part197_eq_skeleton]; unfold k0_part197_skel
  exact .pure _

theorem p198 (H : Held c R arg2 arg3 arg4 arg5 arg6 arg7 arg8 arg9 arg10 arg11 arg12 arg13 arg14 arg15 arg16) {x0 x1 x2 x3 x4 x5 x6 x7 x8 x9 x10 x11} : Safe c R (k0_part198 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part198_eq_skeleton]; unfold k0_part198_skel
  exact .pure _

theorem p199 (H : Held c R arg2 arg3 arg4 arg5 arg6 arg7 arg8 arg9 arg10 arg11 arg12 arg13 arg14 arg15 arg16) {x0 x1 x2 x3 x4 x5 x6 x7 x8 x9 x10 x11} : Safe c R (k0_part199 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part199_eq_skeleton]; unfold k0_part199_skel
  exact .pure _

theorem p200 (H : Held c R arg2 arg3 arg4 arg5 arg6 arg7 arg8 arg9 arg10 arg11 arg12 arg13 arg14 arg15 arg16) {x0 x1 x2 x3 x4 x5 x6 x7 x8 x9 x10 x11} : Safe c R (k0_part200 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part200_eq_skeleton]; unfold k0_part200_skel
  exact .pure _

theorem p201 (H : Held c R arg2 arg3 arg4 arg5 arg6 arg7 arg8 arg9 arg10 arg11 arg12 arg13 arg14 arg15 arg16) {x0 x1 x2 x3 x4 x5 x6 x7 x8 x9 x10 x11} : Safe c R (k0_part201 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part201_eq_skeleton]; unfold k0_part201_skel
  exact .pure _

theorem p202 (H : Held c R arg2 arg3 arg4 arg5 arg6 arg7 arg8 arg9 arg10 arg11 arg12 arg13 arg14 arg15 arg16) {x0 x1 x2 x3 x4 x5 x6 x7 x8 x9 x10 x11} : Safe c R (k0_part202 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part202_eq_skeleton]; unfold k0_part202_skel
  exact .pure _

theorem p203 (H : Held c R arg2 arg3 arg4 arg5 arg6 arg7 arg8 arg9 arg10 arg11 arg12 arg13 arg14 arg15 arg16) {x0 x1 x2 x3 x4 x5 x6 x7 x8 x9 x10 x11} : Safe c R (k0_part203 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part203_eq_skeleton]; unfold k0_part203_skel
  exact .pure _

theorem p204 (H : Held c R arg2 arg3 arg4 arg5 arg6 arg7 arg8 arg9 arg10 arg11 arg12 arg13 arg14 arg15 arg16) {x0 x1 x2 x3 x4 x5 x6 x7 x8 x9 x10 x11} : Safe c R (k0_part204 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part204_eq_skeleton]; unfold k0_part204_skel
  exact .pure _

theorem p205 (H : Held c R arg2 arg3 arg4 arg5 arg6 arg7 arg8 arg9 arg10 arg11 arg12 arg13 arg14 arg15 arg16) {x0 x1 x2 x3 x4 x5 x6 x7 x8 x9 x10 x11} : Safe c R (k0_part205 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part205_eq_skeleton]; unfold k0_part205_skel
  exact .pure _

theorem p206 (H : Held c R arg2 arg3 arg4 arg5 arg6 arg7 arg8 arg9 arg10 arg11 arg12 arg13 arg14 arg15 arg16) {x0 x1 x2 x3 x4 x5 x6 x7 x8 x9 x10 x11} : Safe c R (k0_part206 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part206_eq_skeleton]; unfold k0_part206_skel
  exact .pure _

theorem p207 (H : Held c R arg2 arg3 arg4 arg5 arg6 arg7 arg8 arg9 arg10 arg11 arg12 arg13 arg14 arg15 arg16) {x0 x1 x2 x3 x4 x5 x6 x7 x8 x9 x10 x11} : Safe c R (k0_part207 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part207_eq_skeleton]; unfold k0_part207_skel
  exact .pure _

theorem p208 (H : Held c R arg2 arg3 arg4 arg5 arg6 arg7 arg8 arg9 arg10 arg11 arg12 arg13 arg14 arg15 arg16) {x0 x1 x2 x3 x4 x5 x6 x7 x8 x9 x10 x11} : Safe c R (k0_part208 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part208_eq_skeleton]; unfold k0_part208_skel
  exact .pure _

theorem p209 (H : Held c R arg2 arg3 arg4 arg5 arg6 arg7 arg8 arg9 arg10 arg11 arg12 arg13 arg14 arg15 arg16) {x0 x1 x2 x3 x4 x5 x6 x7 x8 x9 x10 x11} : Safe c R (k0_part209 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part209_eq_skeleton]; unfold k0_part209_skel
  exact .pure _

theorem p210 (H : Held c R arg2 arg3 arg4 arg5 arg6 arg7 arg8 arg9 arg10 arg11 arg12 arg13 arg14 arg15 arg16) {x0 x1 x2 x3 x4 x5 x6 x7 x8 x9 x10 x11} : Safe c R (k0_part210 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part210_eq_skeleton]; unfold k0_part210_skel
  exact .bind H.a10.load fun _ => .bind H.a10.store fun _ => .pure _

theorem p211 (H : Held c R arg2 arg3 arg4 arg5 arg6 arg7 arg8 arg9 arg10 arg11 arg12 arg13 arg14 arg15 arg16) {x0 x1 x2 x3 x4 x5 x6 x7 x8} : Safe c R (k0_part211 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  rw [k0_part211_eq_skeleton]; unfold k0_part211_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p212 (H : Held c R arg2 arg3 arg4 arg5 arg6 arg7 arg8 arg9 arg10 arg11 arg12 arg13 arg14 arg15 arg16) {x0 x1 x2 x3 x4 x5 x6 x7 x8} : Safe c R (k0_part212 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  rw [k0_part212_eq_skeleton]; unfold k0_part212_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p213 (H : Held c R arg2 arg3 arg4 arg5 arg6 arg7 arg8 arg9 arg10 arg11 arg12 arg13 arg14 arg15 arg16) {x0 x1 x2 x3 x4 x5 x6 x7 x8} : Safe c R (k0_part213 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  rw [k0_part213_eq_skeleton]; unfold k0_part213_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p214 (H : Held c R arg2 arg3 arg4 arg5 arg6 arg7 arg8 arg9 arg10 arg11 arg12 arg13 arg14 arg15 arg16) {x0 x1 x2 x3 x4 x5 x6 x7 x8} : Safe c R (k0_part214 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  rw [k0_part214_eq_skeleton]; unfold k0_part214_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p215 (H : Held c R arg2 arg3 arg4 arg5 arg6 arg7 arg8 arg9 arg10 arg11 arg12 arg13 arg14 arg15 arg16) {x0 x1 x2 x3 x4 x5 x6 x7 x8} : Safe c R (k0_part215 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  rw [k0_part215_eq_skeleton]; unfold k0_part215_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p216 (H : Held c R arg2 arg3 arg4 arg5 arg6 arg7 arg8 arg9 arg10 arg11 arg12 arg13 arg14 arg15 arg16) {x0 x1 x2 x3 x4 x5 x6 x7 x8} : Safe c R (k0_part216 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  rw [k0_part216_eq_skeleton]; unfold k0_part216_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p217 (H : Held c R arg2 arg3 arg4 arg5 arg6 arg7 arg8 arg9 arg10 arg11 arg12 arg13 arg14 arg15 arg16) {x0 x1 x2 x3 x4} : Safe c R (k0_part217 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4) := by
  rw [k0_part217_eq_skeleton]; unfold k0_part217_skel
  exact .bind H.a10.load fun _ => .bind H.a10.store fun _ => .pure _

theorem p218 (H : Held c R arg2 arg3 arg4 arg5 arg6 arg7 arg8 arg9 arg10 arg11 arg12 arg13 arg14 arg15 arg16) {x0 x1 x2 x3 x4 x5 x6 x7 x8 x9 x10 x11 x12} : Safe c R (k0_part218 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part218_eq_skeleton]; unfold k0_part218_skel
  exact .pure _

theorem p219 (H : Held c R arg2 arg3 arg4 arg5 arg6 arg7 arg8 arg9 arg10 arg11 arg12 arg13 arg14 arg15 arg16) {x0 x1 x2 x3 x4 x5 x6 x7 x8 x9 x10 x11 x12} : Safe c R (k0_part219 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part219_eq_skeleton]; unfold k0_part219_skel
  exact .pure _

theorem p220 (H : Held c R arg2 arg3 arg4 arg5 arg6 arg7 arg8 arg9 arg10 arg11 arg12 arg13 arg14 arg15 arg16) {x0 x1 x2 x3 x4 x5 x6 x7 x8 x9 x10 x11 x12} : Safe c R (k0_part220 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part220_eq_skeleton]; unfold k0_part220_skel
  exact .pure _

theorem p221 (H : Held c R arg2 arg3 arg4 arg5 arg6 arg7 arg8 arg9 arg10 arg11 arg12 arg13 arg14 arg15 arg16) {x0 x1 x2 x3 x4 x5 x6 x7 x8 x9 x10 x11 x12} : Safe c R (k0_part221 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part221_eq_skeleton]; unfold k0_part221_skel
  exact .pure _

theorem p222 (H : Held c R arg2 arg3 arg4 arg5 arg6 arg7 arg8 arg9 arg10 arg11 arg12 arg13 arg14 arg15 arg16) {x0 x1 x2 x3 x4 x5 x6 x7 x8 x9 x10 x11 x12} : Safe c R (k0_part222 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part222_eq_skeleton]; unfold k0_part222_skel
  exact .pure _

theorem p223 (H : Held c R arg2 arg3 arg4 arg5 arg6 arg7 arg8 arg9 arg10 arg11 arg12 arg13 arg14 arg15 arg16) {x0 x1 x2 x3 x4 x5 x6 x7 x8 x9 x10 x11 x12} : Safe c R (k0_part223 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part223_eq_skeleton]; unfold k0_part223_skel
  exact .pure _

theorem p224 (H : Held c R arg2 arg3 arg4 arg5 arg6 arg7 arg8 arg9 arg10 arg11 arg12 arg13 arg14 arg15 arg16) {x0 x1 x2 x3 x4 x5 x6 x7 x8 x9 x10 x11 x12} : Safe c R (k0_part224 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part224_eq_skeleton]; unfold k0_part224_skel
  exact .pure _

theorem p225 (H : Held c R arg2 arg3 arg4 arg5 arg6 arg7 arg8 arg9 arg10 arg11 arg12 arg13 arg14 arg15 arg16) {x0 x1 x2 x3 x4 x5 x6 x7 x8 x9 x10 x11 x12} : Safe c R (k0_part225 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part225_eq_skeleton]; unfold k0_part225_skel
  exact .pure _

theorem p226 (H : Held c R arg2 arg3 arg4 arg5 arg6 arg7 arg8 arg9 arg10 arg11 arg12 arg13 arg14 arg15 arg16) {x0 x1 x2 x3 x4 x5 x6 x7 x8 x9 x10 x11 x12} : Safe c R (k0_part226 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part226_eq_skeleton]; unfold k0_part226_skel
  exact .pure _

theorem p227 (H : Held c R arg2 arg3 arg4 arg5 arg6 arg7 arg8 arg9 arg10 arg11 arg12 arg13 arg14 arg15 arg16) {x0 x1 x2 x3 x4 x5 x6 x7 x8 x9 x10 x11 x12} : Safe c R (k0_part227 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part227_eq_skeleton]; unfold k0_part227_skel
  exact .pure _

theorem p228 (H : Held c R arg2 arg3 arg4 arg5 arg6 arg7 arg8 arg9 arg10 arg11 arg12 arg13 arg14 arg15 arg16) {x0 x1 x2 x3 x4 x5 x6 x7 x8 x9 x10 x11 x12} : Safe c R (k0_part228 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part228_eq_skeleton]; unfold k0_part228_skel
  exact .pure _

theorem p229 (H : Held c R arg2 arg3 arg4 arg5 arg6 arg7 arg8 arg9 arg10 arg11 arg12 arg13 arg14 arg15 arg16) {x0 x1 x2 x3 x4 x5 x6 x7 x8 x9 x10 x11 x12} : Safe c R (k0_part229 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part229_eq_skeleton]; unfold k0_part229_skel
  exact .pure _

theorem p230 (H : Held c R arg2 arg3 arg4 arg5 arg6 arg7 arg8 arg9 arg10 arg11 arg12 arg13 arg14 arg15 arg16) {x0 x1 x2 x3 x4 x5 x6 x7 x8 x9 x10 x11 x12} : Safe c R (k0_part230 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part230_eq_skeleton]; unfold k0_part230_skel
  exact .pure _

theorem p231 (H : Held c R arg2 arg3 arg4 arg5 arg6 arg7 arg8 arg9 arg10 arg11 arg12 arg13 arg14 arg15 arg16) {x0 x1 x2 x3 x4 x5 x6 x7 x8 x9 x10 x11 x12} : Safe c R (k0_part231 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part231_eq_skeleton]; unfold k0_part231_skel
  exact .pure _

theorem p232 (H : Held c R arg2 arg3 arg4 arg5 arg6 arg7 arg8 arg9 arg10 arg11 arg12 arg13 arg14 arg15 arg16) {x0 x1 x2 x3 x4 x5 x6 x7 x8 x9 x10 x11 x12} : Safe c R (k0_part232 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  rw [k0_part232_eq_skeleton]; unfold k0_part232_skel
  exact .pure _

theorem p233 (H : Held c R arg2 arg3 arg4 arg5 arg6 arg7 arg8 arg9 arg10 arg11 arg12 arg13 arg14 arg15 arg16) {x0 x1 x2 x3 x4 x5 x6 x7 x8 x9 x10 x11} : Safe c R (k0_part233 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  rw [k0_part233_eq_skeleton]; unfold k0_part233_skel
  exact .bind H.a10.load fun _ => .bind H.a10.store fun _ => .pure _

theorem p234 (H : Held c R arg2 arg3 arg4 arg5 arg6 arg7 arg8 arg9 arg10 arg11 arg12 arg13 arg14 arg15 arg16) {x0 x1 x2 x3 x4 x5 x6} : Safe c R (k0_part234 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part234_eq_skeleton]; unfold k0_part234_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p235 (H : Held c R arg2 arg3 arg4 arg5 arg6 arg7 arg8 arg9 arg10 arg11 arg12 arg13 arg14 arg15 arg16) {x0 x1 x2 x3 x4 x5 x6} : Safe c R (k0_part235 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part235_eq_skeleton]; unfold k0_part235_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p236 (H : Held c R arg2 arg3 arg4 arg5 arg6 arg7 arg8 arg9 arg10 arg11 arg12 arg13 arg14 arg15 arg16) {x0 x1 x2 x3 x4 x5 x6} : Safe c R (k0_part236 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part236_eq_skeleton]; unfold k0_part236_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p237 (H : Held c R arg2 arg3 arg4 arg5 arg6 arg7 arg8 arg9 arg10 arg11 arg12 arg13 arg14 arg15 arg16) {x0 x1 x2 x3 x4 x5 x6} : Safe c R (k0_part237 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part237_eq_skeleton]; unfold k0_part237_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p238 (H : Held c R arg2 arg3 arg4 arg5 arg6 arg7 arg8 arg9 arg10 arg11 arg12 arg13 arg14 arg15 arg16) {x0 x1 x2 x3 x4 x5 x6} : Safe c R (k0_part238 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part238_eq_skeleton]; unfold k0_part238_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p239 (H : Held c R arg2 arg3 arg4 arg5 arg6 arg7 arg8 arg9 arg10 arg11 arg12 arg13 arg14 arg15 arg16) {x0 x1 x2 x3 x4 x5 x6} : Safe c R (k0_part239 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part239_eq_skeleton]; unfold k0_part239_skel
  exact .bind H.a10.load fun _ => .bind H.a10.store fun _ => .bind H.a10.load fun _ => .bind H.a10.store fun _ => .bind H.a10.load fun _ => .bind H.a10.store fun _ => .bind H.a10.load fun _ => .bind H.a10.store fun _ => .bind H.a10.load fun _ => .bind H.a10.store fun _ => .pure _

theorem p240 (H : Held c R arg2 arg3 arg4 arg5 arg6 arg7 arg8 arg9 arg10 arg11 arg12 arg13 arg14 arg15 arg16) {x0 x1 x2 x3 x4 x5 x6} : Safe c R (k0_part240 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part240_eq_skeleton]; unfold k0_part240_skel
  exact .bind H.a9.load fun _ => .pure _

theorem p241 (H : Held c R arg2 arg3 arg4 arg5 arg6 arg7 arg8 arg9 arg10 arg11 arg12 arg13 arg14 arg15 arg16) {x0 x1 x2 x3 x4 x5 x6 x7 x8 x9} : Safe c R (k0_part241 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) := by
  rw [k0_part241_eq_skeleton]; unfold k0_part241_skel
  exact .pure _

theorem p242 (H : Held c R arg2 arg3 arg4 arg5 arg6 arg7 arg8 arg9 arg10 arg11 arg12 arg13 arg14 arg15 arg16) {x0 x1 x2 x3 x4 x5 x6 x7 x8 x9 x10 x11 x12 x13 x14} : Safe c R (k0_part242 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14) := by
  rw [k0_part242_eq_skeleton]; unfold k0_part242_skel
  exact .bind H.a6.load fun _ => .bind H.a16.load fun _ => .bind H.a16.store fun _ => .bind H.a15.load fun _ => .bind H.a14.load fun _ => .bind H.a14.store fun _ => .bind H.a7.load fun _ => .pure _

theorem p243 (H : Held c R arg2 arg3 arg4 arg5 arg6 arg7 arg8 arg9 arg10 arg11 arg12 arg13 arg14 arg15 arg16) {x0 x1 x2 x3 x4 x5 x6 x7} : Safe c R (k0_part243 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part243_eq_skeleton]; unfold k0_part243_skel
  exact .bind H.a13.load fun _ => .bind H.a14.load fun _ => .bind H.a13.load fun _ => .bind H.a13.store fun _ => .bind H.a9.load fun _ => .pure _

theorem p244 (H : Held c R arg2 arg3 arg4 arg5 arg6 arg7 arg8 arg9 arg10 arg11 arg12 arg13 arg14 arg15 arg16) {x0 x1 x2 x3 x4 x5 x6 x7} : Safe c R (k0_part244 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part244_eq_skeleton]; unfold k0_part244_skel
  exact .pure _

theorem p245 (H : Held c R arg2 arg3 arg4 arg5 arg6 arg7 arg8 arg9 arg10 arg11 arg12 arg13 arg14 arg15 arg16) {x0 x1 x2 x3 x4 x5 x6 x7 x8 x9 x10 x11 x12 x13 x14} : Safe c R (k0_part245 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14) := by
  rw [k0_part245_eq_skeleton]; unfold k0_part245_skel
  exact .bind H.a6.load fun _ => .bind H.a15.load fun _ => .bind H.a15.store fun _ => .bind H.a16.load fun _ => .pure _

theorem p246 (H : Held c R arg2 arg3 arg4 arg5 arg6 arg7 arg8 arg9 arg10 arg11 arg12 arg13 arg14 arg15 arg16) {x0 x1 x2 x3 x4 x5 x6} : Safe c R (k0_part246 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part246_eq_skeleton]; unfold k0_part246_skel
  exact .bind H.a9.load fun _ => .pure _

theorem p247 (H : Held c R arg2 arg3 arg4 arg5 arg6 arg7 arg8 arg9 arg10 arg11 arg12 arg13 arg14 arg15 arg16) {x0 x1 x2 x3 x4 x5 x6 x7 x8 x9} : Safe c R (k0_part247 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) := by
  rw [k0_part247_eq_skeleton]; unfold k0_part247_skel
  exact .pure _

theorem p248 (H : Held c R arg2 arg3 arg4 arg5 arg6 arg7 arg8 arg9 arg10 arg11 arg12 arg13 arg14 arg15 arg16) {x0 x1 x2 x3 x4 x5 x6 x7 x8 x9 x10 x11 x12 x13 x14} : Safe c R (k0_part248 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14) := by
  rw [k0_part248_eq_skeleton]; unfold k0_part248_skel
  exact .bind H.a6.load fun _ => .bind H.a16.load fun _ => .bind H.a16.store fun _ => .bind H.a15.load fun _ => .bind H.a14.load fun _ => .bind H.a14.store fun _ => .bind H.a7.load fun _ => .pure _

theorem p249 (H : Held c R arg2 arg3 arg4 arg5 arg6 arg7 arg8 arg9 arg10 arg11 arg12 arg13 arg14 arg15 arg16) {x0 x1 x2 x3 x4 x5 x6 x7} : Safe c R (k0_part249 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part249_eq_skeleton]; unfold k0_part249_skel
  exact .bind H.a13.load fun _ => .bind H.a14.load fun _ => .bind H.a13.load fun _ => .bind H.a13.store fun _ => .bind H.a9.load fun _ => .pure _

theorem p250 (H : Held c R arg2 arg3 arg4 arg5 arg6 arg7 arg8 arg9 arg10 arg11 arg12 arg13 arg14 arg15 arg16) {x0 x1 x2 x3 x4 x5 x6 x7} : Safe c R (k0_part250 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part250_eq_skeleton]; unfold k0_part250_skel
  exact .pure _

theorem p251 (H : Held c R arg2 arg3 arg4 arg5 arg6 arg7 arg8 arg9 arg10 arg11 arg12 arg13 arg14 arg15 arg16) {x0 x1 x2 x3 x4 x5 x6 x7 x8 x9 x10 x11 x12 x13 x14} : Safe c R (k0_part251 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14) := by
  rw [k0_part251_eq_skeleton]; unfold k0_part251_skel
  exact .bind H.a6.load fun _ => .bind H.a15.load fun _ => .bind H.a15.store fun _ => .bind H.a16.load fun _ => .pure _

end Cert.Kernel.Dsa

end
-- ==== Proof.DsaLoops.lean ====
/-
  The trips of the seven counted loops, from their parts.
-/
module

public import proofs.«01_k».proof.Proof.DsaTrip1b
public import proofs.«01_k».proof.Proof.DsaTrip2b
public import proofs.«01_k».proof.Proof.DsaRest
public import proofs.«01_k».proof.Proof.Gen.Kernel.Skeleton
public import Idealize.ShloMosaic.Lib.Pipeline.Frame
public import Idealize.ShloMosaic.Lib.Tactic

@[expose] public section

set_option maxRecDepth 65536

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable {c : Dev nD} {R : Res F} {i : grid0.Coords} {arg2 : Memref sig .tc .vmem S1x256x128 .bf16} {arg3 : Memref sig .tc .vmem S1x256x128 .bf16} {arg4 : Memref sig .tc .vmem S1x8x128 .f32} {arg5 : Memref sig .tc .vmem S1x8192x64 .bf16} {arg6 : Memref sig .tc .vmem S1x8192x64 .bf16} {arg7 : Memref sig .tc .vmem S1x64x8192 .bf16} {arg8 : Memref sig .tc .vmem S1x256x128 .bf16} {arg9 : Memref sig .tc .vmem S16x512x128 .i32} {arg10 : Memref sig .tc .vmem S32x32x8x128 .i32} {arg11 : Memref sig .tc .vmem S32x8x128 .i32} {arg12 : Memref sig .tc .vmem S8x128 .i32} {arg13 : Memref sig .tc .vmem S72x512 .f32} {arg14 : Memref sig .tc .vmem S512x512 .bf16} {arg15 : Memref sig .tc .vmem S512x512 .f32} {arg16 : Memref sig .tc .vmem S512x512 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole}

set_option maxHeartbeats 4000000

theorem t1 (H : Held c R arg2 arg3 arg4 arg5 arg6 arg7 arg8 arg9 arg10 arg11 arg12 arg13 arg14 arg15 arg16) {x0 x1 x2 x3 x4 x5 x6} {k a} : Safe c R (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 k a) := by
  unfold k0_t1_body
  exact .bind (p95 H) fun ⟨_, _, _, _, _, _, _, _, _, _, _, _, _, _, _, _, _, _, _, _, _, _, _, _, _, _, _, _, _, _, _, _, _, _, _⟩ => .bind (p96 H) fun ⟨_, _, _⟩ => .bind H.a10.load fun _ => .bind H.a10.store fun _ => .bind H.a10.load fun _ => .bind H.a10.store fun _ => .bind H.a10.load fun _ => .bind H.a10.store fun _ => .pure _

theorem t2 (H : Held c R arg2 arg3 arg4 arg5 arg6 arg7 arg8 arg9 arg10 arg11 arg12 arg13 arg14 arg15 arg16) {x0 x1 x2 x3 x4 x5 x6} {k a} : Safe c R (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 k a) := by
  unfold k0_t2_body
  exact .bind (p191 H) fun ⟨_, _, _, _, _, _, _, _, _, _, _, _, _, _, _, _, _, _, _, _, _, _, _, _, _, _, _, _, _, _, _, _, _, _, _⟩ => .bind (p192 H) fun ⟨_, _, _⟩ => .bind H.a10.load fun _ => .bind H.a10.store fun _ => .bind H.a10.load fun _ => .bind H.a10.store fun _ => .bind H.a10.load fun _ => .bind H.a10.store fun _ => .pure _

theorem t3 (H : Held c R arg2 arg3 arg4 arg5 arg6 arg7 arg8 arg9 arg10 arg11 arg12 arg13 arg14 arg15 arg16) {x0 x1 x2 x3 x4 x5 x6 x7} {k a} : Safe c R (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 k a) := by
  unfold k0_t3_body
  exact .bind H.a11.load fun _ => .bind H.a10.load fun _ => .bind H.a11.load fun _ => .bind H.a11.store fun _ => .pure _

theorem t4 (H : Held c R arg2 arg3 arg4 arg5 arg6 arg7 arg8 arg9 arg10 arg11 arg12 arg13 arg14 arg15 arg16) {x0 x1 x2 x3 x4 x5 x6 x7} {k a} : Safe c R (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 k a) := by
  unfold k0_t4_body
  exact .bind H.a11.load fun _ => .bind H.a10.load fun _ => .bind H.a11.load fun _ => .bind H.a11.store fun _ => .pure _

theorem t5 (H : Held c R arg2 arg3 arg4 arg5 arg6 arg7 arg8 arg9 arg10 arg11 arg12 arg13 arg14 arg15 arg16) {x0 x1 x2 x3 x4 x5 x6 x7} {k a} : Safe c R (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 k a) := by
  unfold k0_t5_body
  exact .bind H.a11.load fun _ => .bind H.a10.load fun _ => .bind H.a11.load fun _ => .bind H.a11.store fun _ => .pure _

theorem t6 (H : Held c R arg2 arg3 arg4 arg5 arg6 arg7 arg8 arg9 arg10 arg11 arg12 arg13 arg14 arg15 arg16) {x0 x1 x2 x3 x4 x5 x6 x7 x8 x9 x10 x11 x12 x13 x14} {k a} : Safe c R (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 k a) := by
  unfold k0_t6_body
  exact .bind (p240 H) fun ⟨_, _, _, _, _, _, _, _, _, _⟩ => .bind (p241 H) fun ⟨_, _, _, _, _, _, _, _⟩ => .bind (p242 H) fun ⟨_, _, _⟩ => .bind (p243 H) fun ⟨_, _, _, _, _, _, _⟩ => .bind (p244 H) fun ⟨_, _, _, _, _, _⟩ => .bind (p245 H) fun ⟨_, _, _, _, _⟩ => .bind H.a14.load fun _ => .bind H.a14.store fun _ => .bind H.a7.load fun _ => .bind H.a13.load fun _ => .bind H.a14.load fun _ => .bind H.a13.load fun _ => .bind H.a13.store fun _ => .pure _

theorem t7 (H : Held c R arg2 arg3 arg4 arg5 arg6 arg7 arg8 arg9 arg10 arg11 arg12 arg13 arg14 arg15 arg16) {x0 x1 x2 x3 x4 x5 x6 x7 x8 x9 x10 x11 x12 x13 x14 x15} {k a} : Safe c R (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 k a) := by
  unfold k0_t7_body
  exact .bind (p246 H) fun ⟨_, _, _, _, _, _, _, _, _, _⟩ => .bind (p247 H) fun ⟨_, _, _, _, _, _, _, _⟩ => .bind (p248 H) fun ⟨_, _, _⟩ => .bind (p249 H) fun ⟨_, _, _, _, _, _, _⟩ => .bind (p250 H) fun ⟨_, _, _, _, _, _⟩ => .bind (p251 H) fun ⟨_, _, _, _, _⟩ => .bind H.a14.load fun _ => .bind H.a14.store fun _ => .bind H.a7.load fun _ => .bind H.a13.load fun _ => .bind H.a14.load fun _ => .bind H.a13.load fun _ => .bind H.a13.store fun _ => .pure _

end Cert.Kernel.Dsa

end
-- ==== Proof.DsaBody.lean ====
/-
  The whole body, from its parts and the trips of its loops.
-/
module

public import proofs.«01_k».proof.Proof.DsaLoops
public import proofs.«01_k».proof.Proof.Gen.Kernel.Skeleton
public import Idealize.ShloMosaic.Lib.Pipeline.Frame
public import Idealize.ShloMosaic.Lib.Tactic

@[expose] public section

set_option maxRecDepth 65536

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable {c : Dev nD} {R : Res F} {i : grid0.Coords} {arg2 : Memref sig .tc .vmem S1x256x128 .bf16} {arg3 : Memref sig .tc .vmem S1x256x128 .bf16} {arg4 : Memref sig .tc .vmem S1x8x128 .f32} {arg5 : Memref sig .tc .vmem S1x8192x64 .bf16} {arg6 : Memref sig .tc .vmem S1x8192x64 .bf16} {arg7 : Memref sig .tc .vmem S1x64x8192 .bf16} {arg8 : Memref sig .tc .vmem S1x256x128 .bf16} {arg9 : Memref sig .tc .vmem S16x512x128 .i32} {arg10 : Memref sig .tc .vmem S32x32x8x128 .i32} {arg11 : Memref sig .tc .vmem S32x8x128 .i32} {arg12 : Memref sig .tc .vmem S8x128 .i32} {arg13 : Memref sig .tc .vmem S72x512 .f32} {arg14 : Memref sig .tc .vmem S512x512 .bf16} {arg15 : Memref sig .tc .vmem S512x512 .f32} {arg16 : Memref sig .tc .vmem S512x512 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole}

set_option maxHeartbeats 4000000

theorem p252 (H : Held c R arg2 arg3 arg4 arg5 arg6 arg7 arg8 arg9 arg10 arg11 arg12 arg13 arg14 arg15 arg16) : Safe c R (k0_part252 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) := by
  rw [k0_part252_eq_skeleton]; unfold k0_part252_skel
  exact .bind H.a4.load fun _ => .pure _

theorem p253 (H : Held c R arg2 arg3 arg4 arg5 arg6 arg7 arg8 arg9 arg10 arg11 arg12 arg13 arg14 arg15 arg16) {x0 x1 x2 x3 x4 x5 x6} : Safe c R (k0_part253 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part253_eq_skeleton]; unfold k0_part253_skel
  exact .bind H.a2.load fun _ => .bind H.a2.load fun _ => .bind H.a2.load fun _ => .bind H.a2.load fun _ => .dite (fun _ => .bind H.a10.load fun _ => .bind H.a10.store fun _ => .bind H.a5.load fun _ => .bind H.a15.load fun _ => .bind H.a15.store fun _ => .pure _) (fun _ => .bind H.a5.load fun _ => .bind H.a15.load fun _ => .bind H.a15.store fun _ => .pure _)

theorem p254 (H : Held c R arg2 arg3 arg4 arg5 arg6 arg7 arg8 arg9 arg10 arg11 arg12 arg13 arg14 arg15 arg16) {x0 x1 x2 x3 x4 x5 x6} : Safe c R (k0_part254 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  rw [k0_part254_eq_skeleton]; unfold k0_part254_skel
  exact .bind (.loop fun _ _ => t1 H) fun _ => .bind (.loop fun _ _ => t2 H) fun _ => .dite (fun _ => .bind (p193 H) fun ⟨_, _, _⟩ => .bind (p194 H) fun ⟨_, _, _, _, _, _, _, _, _, _, _, _, _, _, _, _, _, _, _, _, _, _, _, _, _, _, _, _, _, _, _, _, _, _⟩ => .bind (p195 H) fun ⟨_, _, _, _, _, _, _, _, _, _, _⟩ => .bind (p196 H) fun ⟨_, _, _, _, _, _, _, _, _, _, _⟩ => .bind (p197 H) fun ⟨_, _, _, _, _, _, _, _, _, _, _⟩ => .bind (p198 H) fun ⟨_, _, _, _, _, _, _, _, _, _, _⟩ => .bind (p199 H) fun ⟨_, _, _, _, _, _, _, _, _, _, _⟩ => .bind (p200 H) fun ⟨_, _, _, _, _, _, _, _, _, _, _⟩ => .bind (p201 H) fun ⟨_, _, _, _, _, _, _, _, _, _, _⟩ => .bind (p202 H) fun ⟨_, _, _, _, _, _, _, _, _, _, _⟩ => .bind (p203 H) fun ⟨_, _, _, _, _, _, _, _, _, _, _⟩ => .bind (p204 H) fun ⟨_, _, _, _, _, _, _, _, _, _, _⟩ => .bind (p205 H) fun ⟨_, _, _, _, _, _, _, _, _, _, _⟩ => .bind (p206 H) fun ⟨_, _, _, _, _, _, _, _, _, _, _⟩ => .bind (p207 H) fun ⟨_, _, _, _, _, _, _, _, _, _, _⟩ => .bind (p208 H) fun ⟨_, _, _, _, _, _, _, _, _, _, _⟩ => .bind (p209 H) fun ⟨_, _, _, _, _, _, _, _, _, _, _⟩ => .bind (p210 H) fun ⟨_, _, _, _, _, _, _, _, _, _⟩ => .bind (p211 H) fun ⟨_, _⟩ => .bind (p212 H) fun ⟨_, _⟩ => .bind (p213 H) fun ⟨_, _⟩ => .bind (p214 H) fun ⟨_, _⟩ => .bind (p215 H) fun ⟨_, _⟩ => .bind (p216 H) fun ⟨_, _⟩ => .bind (p217 H) fun ⟨_, _, _, _, _, _, _, _, _, _, _, _, _, _, _, _, _, _, _, _, _, _, _, _, _, _, _, _, _, _, _, _, _⟩ => .bind (p218 H) fun ⟨_, _, _, _, _, _, _, _, _, _, _⟩ => .bind (p219 H) fun ⟨_, _, _, _, _, _, _, _, _, _, _⟩ => .bind (p220 H) fun ⟨_, _, _, _, _, _, _, _, _, _, _⟩ => .bind (p221 H) fun ⟨_, _, _, _, _, _, _, _, _, _, _⟩ => .bind (p222 H) fun ⟨_, _, _, _, _, _, _, _, _, _, _⟩ => .bind (p223 H) fun ⟨_, _, _, _, _, _, _, _, _, _, _⟩ => .bind (p224 H) fun ⟨_, _, _, _, _, _, _, _, _, _, _⟩ => .bind (p225 H) fun ⟨_, _, _, _, _, _, _, _, _, _, _⟩ => .bind (p226 H) fun ⟨_, _, _, _, _, _, _, _, _, _, _⟩ => .bind (p227 H) fun ⟨_, _, _, _, _, _, _, _, _, _, _⟩ => .bind (p228 H) fun ⟨_, _, _, _, _, _, _, _, _, _, _⟩ => .bind (p229 H) fun ⟨_, _, _, _, _, _, _, _, _, _, _⟩ => .bind (p230 H) fun ⟨_, _, _, _, _, _, _, _, _, _, _⟩ => .bind (p231 H) fun ⟨_, _, _, _, _, _, _, _, _, _, _⟩ => .bind (p232 H) fun ⟨_, _, _, _, _, _, _, _, _, _, _⟩ => .bind (p233 H) fun ⟨_, _, _, _, _, _, _, _⟩ => .bind (p234 H) fun _ => .bind (p235 H) fun _ => .bind (p236 H) fun _ => .bind (p237 H) fun _ => .bind (p238 H) fun _ => .bind (p239 H) fun _ => .bind H.a10.load fun _ => .bind H.a10.store fun _ => .dite (fun _ => .bind H.a11.load fun _ => .bind H.a11.store fun _ => .bind (.loop fun _ _ => t3 H) fun x => (by obtain ⟨_, _⟩ := x; exact .bind H.a12.load fun _ => .bind H.a12.store fun _ => .bind H.a12.load fun _ => .bind H.a12.store fun _ => .dite (fun _ => .bind H.a11.load fun _ => .bind H.a11.store fun _ => .bind (.loop fun _ _ => t4 H) fun x => (by obtain ⟨_, _⟩ := x; exact .bind H.a12.load fun _ => .bind H.a12.store fun _ => .bind H.a12.load fun _ => .bind H.a12.store fun _ => .dite (fun _ => .bind H.a11.load fun _ => .bind H.a11.store fun _ => .bind (.loop fun _ _ => t5 H) fun x => (by obtain ⟨_, _⟩ := x; exact .bind H.a12.load fun _ => .bind H.a12.store fun _ => .bind H.a12.load fun _ => .bind H.a12.store fun _ => .bind H.a12.load fun _ => .bind H.a12.load fun _ => .pure _)) (fun _ => .bind H.a12.load fun _ => .bind H.a12.load fun _ => .pure _))) (fun _ => .dite (fun _ => .bind H.a11.load fun _ => .bind H.a11.store fun _ => .bind (.loop fun _ _ => t5 H) fun x => (by obtain ⟨_, _⟩ := x; exact .bind H.a12.load fun _ => .bind H.a12.store fun _ => .bind H.a12.load fun _ => .bind H.a12.store fun _ => .bind H.a12.load fun _ => .bind H.a12.load fun _ => .pure _)) (fun _ => .bind H.a12.load fun _ => .bind H.a12.load fun _ => .pure _)))) (fun _ => .dite (fun _ => .bind H.a11.load fun _ => .bind H.a11.store fun _ => .bind (.loop fun _ _ => t4 H) fun x => (by obtain ⟨_, _⟩ := x; exact .bind H.a12.load fun _ => .bind H.a12.store fun _ => .bind H.a12.load fun _ => .bind H.a12.store fun _ => .dite (fun _ => .bind H.a11.load fun _ => .bind H.a11.store fun _ => .bind (.loop fun _ _ => t5 H) fun x => (by obtain ⟨_, _⟩ := x; exact .bind H.a12.load fun _ => .bind H.a12.store fun _ => .bind H.a12.load fun _ => .bind H.a12.store fun _ => .bind H.a12.load fun _ => .bind H.a12.load fun _ => .pure _)) (fun _ => .bind H.a12.load fun _ => .bind H.a12.load fun _ => .pure _))) (fun _ => .dite (fun _ => .bind H.a11.load fun _ => .bind H.a11.store fun _ => .bind (.loop fun _ _ => t5 H) fun x => (by obtain ⟨_, _⟩ := x; exact .bind H.a12.load fun _ => .bind H.a12.store fun _ => .bind H.a12.load fun _ => .bind H.a12.store fun _ => .bind H.a12.load fun _ => .bind H.a12.load fun _ => .pure _)) (fun _ => .bind H.a12.load fun _ => .bind H.a12.load fun _ => .pure _)))) (fun _ => .dite (fun _ => .bind H.a11.load fun _ => .bind H.a11.store fun _ => .bind (.loop fun _ _ => t3 H) fun x => (by obtain ⟨_, _⟩ := x; exact .bind H.a12.load fun _ => .bind H.a12.store fun _ => .bind H.a12.load fun _ => .bind H.a12.store fun _ => .dite (fun _ => .bind H.a11.load fun _ => .bind H.a11.store fun _ => .bind (.loop fun _ _ => t4 H) fun x => (by obtain ⟨_, _⟩ := x; exact .bind H.a12.load fun _ => .bind H.a12.store fun _ => .bind H.a12.load fun _ => .bind H.a12.store fun _ => .dite (fun _ => .bind H.a11.load fun _ => .bind H.a11.store fun _ => .bind (.loop fun _ _ => t5 H) fun x => (by obtain ⟨_, _⟩ := x; exact .bind H.a12.load fun _ => .bind H.a12.store fun _ => .bind H.a12.load fun _ => .bind H.a12.store fun _ => .bind H.a12.load fun _ => .bind H.a12.load fun _ => .pure _)) (fun _ => .bind H.a12.load fun _ => .bind H.a12.load fun _ => .pure _))) (fun _ => .dite (fun _ => .bind H.a11.load fun _ => .bind H.a11.store fun _ => .bind (.loop fun _ _ => t5 H) fun x => (by obtain ⟨_, _⟩ := x; exact .bind H.a12.load fun _ => .bind H.a12.store fun _ => .bind H.a12.load fun _ => .bind H.a12.store fun _ => .bind H.a12.load fun _ => .bind H.a12.load fun _ => .pure _)) (fun _ => .bind H.a12.load fun _ => .bind H.a12.load fun _ => .pure _)))) (fun _ => .dite (fun _ => .bind H.a11.load fun _ => .bind H.a11.store fun _ => .bind (.loop fun _ _ => t4 H) fun x => (by obtain ⟨_, _⟩ := x; exact .bind H.a12.load fun _ => .bind H.a12.store fun _ => .bind H.a12.load fun _ => .bind H.a12.store fun _ => .dite (fun _ => .bind H.a11.load fun _ => .bind H.a11.store fun _ => .bind (.loop fun _ _ => t5 H) fun x => (by obtain ⟨_, _⟩ := x; exact .bind H.a12.load fun _ => .bind H.a12.store fun _ => .bind H.a12.load fun _ => .bind H.a12.store fun _ => .bind H.a12.load fun _ => .bind H.a12.load fun _ => .pure _)) (fun _ => .bind H.a12.load fun _ => .bind H.a12.load fun _ => .pure _))) (fun _ => .dite (fun _ => .bind H.a11.load fun _ => .bind H.a11.store fun _ => .bind (.loop fun _ _ => t5 H) fun x => (by obtain ⟨_, _⟩ := x; exact .bind H.a12.load fun _ => .bind H.a12.store fun _ => .bind H.a12.load fun _ => .bind H.a12.store fun _ => .bind H.a12.load fun _ => .bind H.a12.load fun _ => .pure _)) (fun _ => .bind H.a12.load fun _ => .bind H.a12.load fun _ => .pure _))))

theorem p255 (H : Held c R arg2 arg3 arg4 arg5 arg6 arg7 arg8 arg9 arg10 arg11 arg12 arg13 arg14 arg15 arg16) {x0 x1 x2} : Safe c R (k0_part255 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2) := by
  rw [k0_part255_eq_skeleton]; unfold k0_part255_skel
  exact .bind H.a3.load fun _ => .bind H.a3.load fun _ => .bind H.a3.load fun _ => .bind H.a3.load fun _ => .pure _

theorem p256 (H : Held c R arg2 arg3 arg4 arg5 arg6 arg7 arg8 arg9 arg10 arg11 arg12 arg13 arg14 arg15 arg16) {x0 x1 x2 x3} : Safe c R (k0_part256 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3) := by
  rw [k0_part256_eq_skeleton]; unfold k0_part256_skel
  exact .bind H.a13.load fun _ => .bind H.a13.store fun _ => .bind H.a9.load fun _ => .pure _

theorem p257 (H : Held c R arg2 arg3 arg4 arg5 arg6 arg7 arg8 arg9 arg10 arg11 arg12 arg13 arg14 arg15 arg16) {x0 x1 x2 x3 x4 x5 x6 x7} : Safe c R (k0_part257 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  rw [k0_part257_eq_skeleton]; unfold k0_part257_skel
  exact .pure _

theorem p258 (H : Held c R arg2 arg3 arg4 arg5 arg6 arg7 arg8 arg9 arg10 arg11 arg12 arg13 arg14 arg15 arg16) {x0 x1 x2 x3 x4 x5 x6 x7 x8 x9 x10 x11 x12 x13 x14} : Safe c R (k0_part258 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14) := by
  rw [k0_part258_eq_skeleton]; unfold k0_part258_skel
  exact .bind H.a6.load fun _ => .bind H.a15.load fun _ => .bind H.a15.store fun _ => .bind (.loop fun _ _ => t6 H) fun x => (by obtain ⟨_, _⟩ := x; exact .bind (.loop fun _ _ => t7 H) fun x => (by obtain ⟨_, _⟩ := x; exact .pure _))

theorem p259 (H : Held c R arg2 arg3 arg4 arg5 arg6 arg7 arg8 arg9 arg10 arg11 arg12 arg13 arg14 arg15 arg16) {x0 x1 x2 x3} : Safe c R (k0_part259 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3) := by
  rw [k0_part259_eq_skeleton]; unfold k0_part259_skel
  exact .dite (fun _ => .bind H.a15.load fun _ => .bind H.a14.load fun _ => .bind H.a14.store fun _ => .bind H.a7.load fun _ => .bind H.a13.load fun _ => .bind H.a14.load fun _ => .bind H.a13.load fun _ => .bind H.a13.store fun _ => .bind H.a13.load fun _ => .bind H.a13.load fun _ => .bind H.a8.load fun _ => .bind H.a8.store fun _ => .bind H.a13.load fun _ => .bind H.a13.load fun _ => .bind H.a8.load fun _ => .bind H.a8.store fun _ => .bind H.a13.load fun _ => .bind H.a13.load fun _ => .bind H.a8.load fun _ => .bind H.a8.store fun _ => .bind H.a13.load fun _ => .bind H.a13.load fun _ => .pure _) (fun _ => .bind H.a13.load fun _ => .bind H.a13.load fun _ => .bind H.a8.load fun _ => .bind H.a8.store fun _ => .bind H.a13.load fun _ => .bind H.a13.load fun _ => .bind H.a8.load fun _ => .bind H.a8.store fun _ => .bind H.a13.load fun _ => .bind H.a13.load fun _ => .bind H.a8.load fun _ => .bind H.a8.store fun _ => .bind H.a13.load fun _ => .bind H.a13.load fun _ => .pure _)

theorem body (H : Held c R arg2 arg3 arg4 arg5 arg6 arg7 arg8 arg9 arg10 arg11 arg12 arg13 arg14 arg15 arg16) : Safe c R (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) := by
  rw [cc0_dsa_eq_skeleton]; unfold cc0_dsa_skel
  exact .bind (p252 H) fun ⟨_, _, _, _, _, _, _, _, _, _⟩ => .bind (p253 H) fun ⟨_, _, _, _⟩ => .bind (p254 H) fun ⟨_, _, _⟩ => .bind (p255 H) fun ⟨_, _, _, _, _, _⟩ => .bind (p256 H) fun ⟨_, _, _, _, _, _, _⟩ => .bind (p257 H) fun ⟨_, _, _, _, _, _⟩ => .bind (p258 H) fun ⟨_, _⟩ => .bind (p259 H) fun ⟨_, _⟩ => .bind H.a8.load fun _ => .bind H.a8.store fun _ => .pure _

end Cert.Kernel.Dsa

end
-- ==== Proof.DsaFrame.lean ====
/-
  The frame of the sparse attention call, from the body's run: one grid point takes its seven staged blocks and its eight
  scratch buffers at some contents and hands them back at some contents, so that the call runs over its whole grid, its
  six arguments end as launched and every counter ends at zero.
-/
module

public import proofs.«01_k».proof.Proof.DsaBody
public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

set_option maxRecDepth 65536

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation)

variable {F : FTy → Type} [BitOps F]

local notation "𝕄" => MT nD τ sig Unit (Elt F) ℕ (UR sig nD τ) ℕ

section
variable {c : Dev nD} {P Q : Res F} {s : Shape} {e : EltTy} {M : Memref sig .tc .vmem s e}

/-- The first of several assertions holds its buffer. -/
theorem Has.head : Has c (iprop((∃ d, owns (c : Thread nD τ) M fullShare d) ∗ Q) : Res F) M :=
  ⟨Q, .rfl, .rfl⟩

/-- The only assertion holds its buffer. -/
theorem Has.last : Has c (iprop(∃ d, owns (c : Thread nD τ) M fullShare d) : Res F) M :=
  ⟨iprop(⌜True⌝), by
    iintro H
    isplitl [H]
    · iexact H
    · ipureintro; trivial,
   by iintro ⟨H, -⟩; iexact H⟩

/-- What the rest holds, the whole holds. -/
theorem Has.tail (h : Has c Q M) : Has c (iprop(P ∗ Q) : Res F) M := by
  obtain ⟨R', h1, h2⟩ := h
  refine ⟨iprop(P ∗ R'), ?_, ?_⟩
  · iintro ⟨HP, HQ⟩
    ihave HQ := h1 $$ HQ
    icases HQ with ⟨HM, HR⟩
    isplitl [HM]; · iexact HM
    isplitl [HP] <;> iassumption
  · iintro ⟨HM, HP, HR⟩
    isplitl [HP]; · iexact HP
    iapply h2
    isplitl [HM] <;> iassumption

end

/-- All fifteen operands, each whole at some contents. -/
def operands (c : Dev nD) (arg2 : Memref sig .tc .vmem S1x256x128 .bf16) (arg3 : Memref sig .tc .vmem S1x256x128 .bf16) (arg4 : Memref sig .tc .vmem S1x8x128 .f32) (arg5 : Memref sig .tc .vmem S1x8192x64 .bf16) (arg6 : Memref sig .tc .vmem S1x8192x64 .bf16) (arg7 : Memref sig .tc .vmem S1x64x8192 .bf16) (arg8 : Memref sig .tc .vmem S1x256x128 .bf16) (arg9 : Memref sig .tc .vmem S16x512x128 .i32) (arg10 : Memref sig .tc .vmem S32x32x8x128 .i32) (arg11 : Memref sig .tc .vmem S32x8x128 .i32) (arg12 : Memref sig .tc .vmem S8x128 .i32) (arg13 : Memref sig .tc .vmem S72x512 .f32) (arg14 : Memref sig .tc .vmem S512x512 .bf16) (arg15 : Memref sig .tc .vmem S512x512 .f32) (arg16 : Memref sig .tc .vmem S512x512 .f32) : Res F :=
  iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d))

theorem operands_held (c : Dev nD) (arg2 : Memref sig .tc .vmem S1x256x128 .bf16) (arg3 : Memref sig .tc .vmem S1x256x128 .bf16) (arg4 : Memref sig .tc .vmem S1x8x128 .f32) (arg5 : Memref sig .tc .vmem S1x8192x64 .bf16) (arg6 : Memref sig .tc .vmem S1x8192x64 .bf16) (arg7 : Memref sig .tc .vmem S1x64x8192 .bf16) (arg8 : Memref sig .tc .vmem S1x256x128 .bf16) (arg9 : Memref sig .tc .vmem S16x512x128 .i32) (arg10 : Memref sig .tc .vmem S32x32x8x128 .i32) (arg11 : Memref sig .tc .vmem S32x8x128 .i32) (arg12 : Memref sig .tc .vmem S8x128 .i32) (arg13 : Memref sig .tc .vmem S72x512 .f32) (arg14 : Memref sig .tc .vmem S512x512 .bf16) (arg15 : Memref sig .tc .vmem S512x512 .f32) (arg16 : Memref sig .tc .vmem S512x512 .f32) :
    Held c (operands (F := F) c arg2 arg3 arg4 arg5 arg6 arg7 arg8 arg9 arg10 arg11 arg12 arg13 arg14 arg15 arg16) arg2 arg3 arg4 arg5 arg6 arg7 arg8 arg9 arg10 arg11 arg12 arg13 arg14 arg15 arg16 where
  a2 := Has.head
  a3 := Has.tail (Has.head)
  a4 := Has.tail (Has.tail (Has.head))
  a5 := Has.tail (Has.tail (Has.tail (Has.head)))
  a6 := Has.tail (Has.tail (Has.tail (Has.tail (Has.head))))
  a7 := Has.tail (Has.tail (Has.tail (Has.tail (Has.tail (Has.head)))))
  a8 := Has.tail (Has.tail (Has.tail (Has.tail (Has.tail (Has.tail (Has.head))))))
  a9 := Has.tail (Has.tail (Has.tail (Has.tail (Has.tail (Has.tail (Has.tail (Has.head)))))))
  a10 := Has.tail (Has.tail (Has.tail (Has.tail (Has.tail (Has.tail (Has.tail (Has.tail (Has.head))))))))
  a11 := Has.tail (Has.tail (Has.tail (Has.tail (Has.tail (Has.tail (Has.tail (Has.tail (Has.tail (Has.head)))))))))
  a12 := Has.tail (Has.tail (Has.tail (Has.tail (Has.tail (Has.tail (Has.tail (Has.tail (Has.tail (Has.tail (Has.head))))))))))
  a13 := Has.tail (Has.tail (Has.tail (Has.tail (Has.tail (Has.tail (Has.tail (Has.tail (Has.tail (Has.tail (Has.tail (Has.head)))))))))))
  a14 := Has.tail (Has.tail (Has.tail (Has.tail (Has.tail (Has.tail (Has.tail (Has.tail (Has.tail (Has.tail (Has.tail (Has.tail (Has.head))))))))))))
  a15 := Has.tail (Has.tail (Has.tail (Has.tail (Has.tail (Has.tail (Has.tail (Has.tail (Has.tail (Has.tail (Has.tail (Has.tail (Has.tail (Has.head)))))))))))))
  a16 := Has.tail (Has.tail (Has.tail (Has.tail (Has.tail (Has.tail (Has.tail (Has.tail (Has.tail (Has.tail (Has.tail (Has.tail (Has.tail (Has.tail (Has.last))))))))))))))

variable [∀ e, Nonempty (Elt F e)]
variable (m : (ℓ : Loc nD τ sig) → Buf (Elt F) ℓ) (ρ : Dev nD → PrngReg)

/-! ## The proof data -/

/-- The eight scratch buffers, whole. -/
abbrev scM0 : Memref sig .tc .vmem S16x512x128 .i32 := Memref.whole cc0_scratch0
abbrev scM1 : Memref sig .tc .vmem S32x32x8x128 .i32 := Memref.whole cc0_scratch1
abbrev scM2 : Memref sig .tc .vmem S32x8x128 .i32 := Memref.whole cc0_scratch2
abbrev scM3 : Memref sig .tc .vmem S8x128 .i32 := Memref.whole cc0_scratch3
abbrev scM4 : Memref sig .tc .vmem S72x512 .f32 := Memref.whole cc0_scratch4
abbrev scM5 : Memref sig .tc .vmem S512x512 .bf16 := Memref.whole cc0_scratch5
abbrev scM6 : Memref sig .tc .vmem S512x512 .f32 := Memref.whole cc0_scratch6
abbrev scM7 : Memref sig .tc .vmem S512x512 .f32 := Memref.whole cc0_scratch7

/-- Between two points: the scratch buffers at some contents and the generator register at some state. -/
theorem between_eq (c : Dev nD) :
    (Pipeline.ΦA spec0 c : sProp 𝕄) = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA; rw [scopedRest0_eq]
  simp only [scM0, scM1, scM2, scM3, scM4, scM5, scM6, scM7, owns_whole]; try rfl

/-- Every window is held at some contents, none named. -/
def unread : Fin 7 → Bool := fun _ => true

/-- The proof data on core `c`: the arrays as launched, nothing named of the staging buffers. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem dats_A (c : Dev nD) (w : Fin cfg0.W) : (dats m 0 c).A w = V m c (Pipeline.arrRef spec0 w) := by dsimp only [dats]

/-- What the body is called with at point `t`, and what it hands back. -/
def atPoint (c : Dev nD) (t : Fin cfg0.N) (u : Fin (cfg0.N + 1)) : sProp 𝕄 :=
  iprop((dats m 0 c).Φ u ∗ (dats m 0 c).owesAt () u
    ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d))

theorem point_run (c : Dev nD) (t : Fin cfg0.N) :
    atPoint m c t t.castSucc ⊢ wp frame (wpE (defs₀ (F := F)) Variants.none c none) Set.univ (bodyAt0 t)
      (fun _ => atPoint m c t t.succ) := by
  unfold atPoint bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, between_eq]
  iintro ⟨⟨⟨S0, S1, S2, S3, S4, S5, S6, S7⟩, Hg⟩, HO, W0, W1, W2, W3, W4, W5, W6⟩
  iapply (body (i := grid0.coords t) (operands_held c _ _ _ _ _ _ _ scM0 scM1 scM2 scM3 scM4 scM5 scM6 scM7) _)
  unfold operands
  isplitl [W0 W1 W2 W3 W4 W5 W6 S0 S1 S2 S3 S4 S5 S6 S7]
  ·
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro %_ ⟨W0, W1, W2, W3, W4, W5, W6, S0, S1, S2, S3, S4, S5, S6, S7⟩
  isplitl [S0 S1 S2 S3 S4 S5 S6 S7 Hg]
  · isplitl [S0 S1 S2 S3 S4 S5 S6 S7]
    ·
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  iexact W6

theorem defs_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ unread := fun t => by
  rw [bigSep_W0, bigSep_W0, defs_row]
  exact triple_restated (point_run m c t) rfl .rfl fun _ => .rfl

/-! ## The launch -/

set_option backward.isDefEq.respectTransparency.types false in
/-- The whole run, nothing said of the result's contents; every counter ends at zero. -/
theorem run_main :
    θ_run defs (onTc (τ := τ) (main (F := F))) (s₀ m ρ)
      (fun r => Pipeline.RDat.FramePost (cfgs 0) (fun c => (dats m 0 c).toRForget unread) (V m) r ∧ r.2.sem = fun _ => 0) :=
  Pipeline.θ_run_frame_forget (Q' := _) cfgs (dats m) (0 : Fin 1) launch0 defs₀ Variants.none unread m ρ main
    (hbody := fun c => (body_obligation m c).loose) (hshare := fun c => (dats m 0 c).share_full fun _ => rfl)
    (howed := fun _ _ => rfl) (V := V m) (hmain := hmain m Variants.none) (hA := dats_A m) (hΦ := fun _ _ => rfl)

/-- THE FRAME of the attention call: it terminates, its six arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r (h : _ ∧ _) => ⟨fun c =>
    ⟨(h.1.arr_in c 0 rfl).trans (dats_A m c 0), (h.1.arr_in c 1 rfl).trans (dats_A m c 1),
      (h.1.arr_in c 2 rfl).trans (dats_A m c 2), (h.1.arr_in c 3 rfl).trans (dats_A m c 3),
      (h.1.arr_in c 4 rfl).trans (dats_A m c 4), (h.1.arr_in c 5 rfl).trans (dats_A m c 5)⟩, h.2⟩) (run_main m ρ)

end Cert.Kernel.Dsa

end
-- ==== Proof.MoeRank.lean ====
/-
  Selecting the largest by rank. A stable sort, larger first, puts at position `k` exactly the entry that `k` others
  beat, where an entry beats another when it is larger, or equal and earlier. So taking the first `k` sorted entries
  is the same as taking the entries with fewer than `k` others ahead of them.
-/
module

public import Idealize.ShloMosaic.Lib.SortFacts
public import Idealize.ShloMosaic.PureOps.Ideal
public import Mathlib.Data.EReal.Basic
public import Mathlib.Algebra.BigOperators.Fin

@[expose] public section

namespace Cert.Moe.Rank

open Idealize.ShloMosaic

variable {n : ℕ} {α : Type} [LinearOrder α]

/-- `a` comes before `b`: it is larger, or equal and earlier. -/
def Beats (v : Fin n → α) (a b : Fin n) : Prop := v b < v a ∨ (v a = v b ∧ a < b)

instance (v : Fin n → α) (a b : Fin n) : Decidable (Beats v a b) := by unfold Beats; infer_instance

theorem Beats.irrefl (v : Fin n → α) (a : Fin n) : ¬ Beats v a a := by simp [Beats]

theorem Beats.asymm {v : Fin n → α} {a b : Fin n} (h : Beats v a b) : ¬ Beats v b a := by
  rcases h with h | ⟨h, h'⟩
  · rintro (g | ⟨g, _⟩)
    · exact lt_asymm h g
    · exact h.ne g
  · rintro (g | ⟨_, g⟩)
    · exact g.ne h
    · exact lt_asymm h' g

theorem Beats.trans {v : Fin n → α} {a b c : Fin n} (h : Beats v a b) (g : Beats v b c) : Beats v a c := by
  rcases h with h | ⟨h, h'⟩ <;> rcases g with g | ⟨g, g'⟩
  · exact .inl (g.trans h)
  · exact .inl (g ▸ h)
  · exact .inl (h ▸ g)
  · exact .inr ⟨h.trans g, h'.trans g'⟩

/-- How many entries come before `e`. -/
def rank (v : Fin n → α) (e : Fin n) : ℕ := (Finset.univ.filter fun a => Beats v a e).card

/-- The sort's comparison: larger first. -/
def larger (v : Fin n → α) (a b : Fin n) : Bool := decide (v b < v a)

theorem pairwise_insert (v : Fin n → α) (a : Fin n) (l : List (Fin n)) (hl : l.Pairwise (Beats v))
    (ha : ∀ b ∈ l, a < b) : (insertBefore (larger v) a l).Pairwise (Beats v) := by
  induction l with
  | nil => exact List.pairwise_singleton _ _
  | cons b l ih =>
    have hb := List.pairwise_cons.mp hl
    unfold insertBefore
    by_cases h : v a < v b
    · rw [if_pos (by simpa [larger] using h)]
      refine List.pairwise_cons.mpr ⟨fun c hc => ?_, ih hb.2 fun c hc => ha c (List.mem_cons_of_mem _ hc)⟩
      rcases List.mem_cons.mp ((perm_insertBefore (larger v) a l).mem_iff.mp hc) with rfl | hc
      · exact .inl h
      · exact hb.1 c hc
    · rw [if_neg (by simpa [larger] using h)]
      have hab : Beats v a b := by
        rcases lt_or_eq_of_le (not_lt.mp h) with h | h
        · exact .inl h
        · exact .inr ⟨h.symm, ha b List.mem_cons_self⟩
      refine List.pairwise_cons.mpr ⟨fun c hc => ?_, hl⟩
      rcases List.mem_cons.mp hc with rfl | hc
      · exact hab
      · exact hab.trans (hb.1 c hc)

theorem pairwise_sort (v : Fin n → α) (l : List (Fin n)) (hl : l.Pairwise (· < ·)) :
    (stableSort (larger v) l).Pairwise (Beats v) := by
  induction l with
  | nil => exact List.Pairwise.nil
  | cons a l ih =>
    have ha := List.pairwise_cons.mp hl
    exact pairwise_insert v a _ (ih ha.2) fun b hb => ha.1 b ((perm_stableSort (larger v) l).mem_iff.mp hb)

/-- Sorted positions come one before the other. -/
theorem beats_sorted (v : Fin n → α) {i j : Fin n} (h : i < j) :
    Beats v (sortedFrom (larger v) i) (sortedFrom (larger v) j) :=
  List.pairwise_iff_get.mp (pairwise_sort v (List.finRange n) (List.pairwise_lt_finRange n)) _ _
    (by exact h)

/-- The entry sorted to position `j` has `j` entries before it. -/
theorem rank_sorted (v : Fin n → α) (j : Fin n) : rank v (sortedFrom (larger v) j) = j.val := by
  have e : (Finset.univ.filter fun a => Beats v a (sortedFrom (larger v) j))
      = (Finset.univ.filter fun i : Fin n => i < j).map ⟨sortedFrom (larger v), sortedFrom_injective _⟩ := by
    ext a
    obtain ⟨i, rfl⟩ := sortedFrom_surjective (larger v) a
    simp only [Finset.mem_filter, Finset.mem_univ, true_and, Finset.mem_map, Function.Embedding.coeFn_mk]
    constructor
    · intro h
      refine ⟨i, ?_, rfl⟩
      rcases lt_trichotomy i j with g | rfl | g
      · exact g
      · exact absurd h (Beats.irrefl v _)
      · exact absurd (beats_sorted v g) h.asymm
    · rintro ⟨i', h, e⟩
      rw [← sortedFrom_injective _ e]; exact beats_sorted v h
  rw [rank, e, Finset.card_map]
  have g : (Finset.univ.filter fun i : Fin n => i < j) = Finset.Iio j := by ext i; simp
  rw [g, Fin.card_Iio]

theorem rank_lt (v : Fin n → α) (e : Fin n) : rank v e < n := by
  obtain ⟨j, rfl⟩ := sortedFrom_surjective (larger v) e
  rw [rank_sorted]; exact j.isLt

/-- The entry at position `e`'s rank is `e`. -/
theorem sorted_rank (v : Fin n → α) (e : Fin n) : sortedFrom (larger v) ⟨rank v e, rank_lt v e⟩ = e := by
  obtain ⟨j, rfl⟩ := sortedFrom_surjective (larger v) e
  congr 1; exact Fin.ext (rank_sorted v j)

/-- Among the first `k` sorted positions, `e` appears when fewer than `k` come before it. -/
theorem exists_sorted_iff (v : Fin n → α) {k : ℕ} (hk : k ≤ n) (e : Fin n) :
    (∃ j : Fin k, sortedFrom (larger v) (j.castLE hk) = e) ↔ rank v e < k := by
  constructor
  · rintro ⟨j, rfl⟩
    rw [rank_sorted]; exact j.isLt
  · intro h
    exact ⟨⟨rank v e, h⟩, sorted_rank v e⟩

/-- A sum over the first `k` sorted entries is the sum over the entries with fewer than `k` before them. -/
theorem sum_sorted {M : Type} [AddCommMonoid M] (v : Fin n → α) {k : ℕ} (hk : k ≤ n) (f : Fin n → M) :
    ∑ j : Fin k, f (sortedFrom (larger v) (j.castLE hk)) = ∑ e, if rank v e < k then f e else 0 := by
  rw [← Finset.sum_filter]
  have e : (Finset.univ.filter fun e => rank v e < k)
      = Finset.univ.map ⟨fun j : Fin k => sortedFrom (larger v) (j.castLE hk),
          fun a b h => Fin.castLE_injective hk (sortedFrom_injective _ h)⟩ := by
    ext e
    rw [Finset.mem_filter, Finset.mem_map, ← exists_sorted_iff v hk e]
    simp only [Finset.mem_univ, true_and]
    rfl
  rw [e, Finset.sum_map]; rfl

/-- The one-hot sum over the first `k` sorted entries, weighted: `f e` when `e` is among them, else zero. -/
theorem sum_onehot {M : Type} [AddCommMonoid M] (v : Fin n → α) {k : ℕ} (hk : k ≤ n) (f : Fin n → M) (e : Fin n) :
    (∑ j : Fin k, if sortedFrom (larger v) (j.castLE hk) = e then f (sortedFrom (larger v) (j.castLE hk)) else 0)
      = if rank v e < k then f e else 0 := by
  rw [sum_sorted v hk fun a => if a = e then f a else 0]
  rw [Finset.sum_eq_single e]
  · simp
  · intro b _ hb; simp [hb]
  · simp

/-- The rank as a sum of ones over the extended reals. -/
theorem sum_beats (v : Fin n → α) (e : Fin n) : (∑ a, if Beats v a e then (1 : EReal) else 0) = ((rank v e : ℕ) : EReal) := by
  rw [← Finset.sum_filter, rank, Finset.sum_const, nsmul_one]

/-- The two largest of four by comparing pairs. -/
theorem top_two (v : Fin 4 → EReal) :
    v (sortedFrom (larger v) 0) + v (sortedFrom (larger v) 1)
      = max (max (v 0) (v 1)) (max (v 2) (v 3))
        + max (min (max (v 0) (v 1)) (max (v 2) (v 3))) (max (min (v 0) (v 1)) (min (v 2) (v 3))) := by
  have hle : ∀ {i j : Fin 4}, i ≤ j → v (sortedFrom (larger v) j) ≤ v (sortedFrom (larger v) i) := by
    intro i j h
    rcases lt_or_eq_of_le h with h | rfl
    · rcases beats_sorted v h with h | h
      · exact h.le
      · exact h.1.ge
    · exact le_rfl
  have hne : sortedFrom (larger v) 0 ≠ sortedFrom (larger v) 1 := fun h =>
    absurd (sortedFrom_injective _ h) (by decide)
  have h0 : ∀ k, v k ≤ v (sortedFrom (larger v) 0) := fun k => by
    obtain ⟨j, rfl⟩ := sortedFrom_surjective (larger v) k
    exact hle (Fin.zero_le j)
  have h1 : ∀ k, k ≠ sortedFrom (larger v) 0 → v k ≤ v (sortedFrom (larger v) 1) := fun k hk => by
    obtain ⟨j, rfl⟩ := sortedFrom_surjective (larger v) k
    refine hle ?_
    rcases Fin.eq_zero_or_eq_succ j with rfl | ⟨j', rfl⟩
    · exact absurd rfl hk
    · exact Fin.mk_le_mk.mpr (by simp)
  generalize sortedFrom (larger v) 0 = i at *
  generalize sortedFrom (larger v) 1 = j at *
  have a0 := h0 0; have a1 := h0 1; have a2 := h0 2; have a3 := h0 3
  have b0 := h1 0; have b1 := h1 1; have b2 := h1 2; have b3 := h1 3
  clear h0 h1 hle
  congr 1
  · refine le_antisymm ?_ (max_le (max_le a0 a1) (max_le a2 a3))
    fin_cases i <;> simp
  · fin_cases i <;> fin_cases j <;> first
      | exact absurd rfl hne
      | (simp at a0 a1 a2 a3 b0 b1 b2 b3; apply le_antisymm <;> simp [*])

end Cert.Moe.Rank

end
-- ==== Proof.MoeSpec.lean ====
/-
  The mixture-of-experts block of one token as plain functions of the extended reals: the scores, the grouped choice of
  eight experts among thirty-two by rank, the gates, the experts' and the shared expert's sums, the residual and the
  layer norm. Both programs are shown to compute these.
-/
module

public import proofs.«01_k».proof.Proof.MoeRank
public import Idealize.ShloMosaic.PureOps.Ideal.Laws

@[expose] public section

noncomputable section

namespace Cert.Moe.Spec

open Idealize.ShloMosaic Cert.Moe.Rank

/-- The logistic function. -/
def sigm (x : EReal) : EReal := Ideal.div 1 (1 + Ideal.exp (-x))

/-- The modulated input. -/
def hid (x sh sc : Fin 1024 → EReal) (k : Fin 1024) : EReal := x k * (1 + sc k) + sh k

/-- An expert's score. -/
def score (h : Fin 1024 → EReal) (rw : Fin 1024 → Fin 32 → EReal) (e : Fin 32) : EReal := sigm (∑ k, h k * rw k e)

/-- Expert `m` of group `g`. -/
def member (g : Fin 8) (m : Fin 4) : Fin 32 := ⟨4 * g.val + m.val, by omega⟩

/-- The group of an expert. -/
def groupOf (e : Fin 32) : Fin 8 := ⟨e.val / 4, by omega⟩

/-- The two largest of four, added. -/
def topTwo (a b c d : EReal) : EReal :=
  max (max a b) (max c d) + max (min (max a b) (max c d)) (max (min a b) (min c d))

/-- A group's score: its two largest biased scores added. -/
def groupScore (v : Fin 32 → EReal) (g : Fin 8) : EReal :=
  topTwo (v (member g 0)) (v (member g 1)) (v (member g 2)) (v (member g 3))

/-- The biased scores kept for the four best groups. -/
def cand (v : Fin 32 → EReal) (e : Fin 32) : EReal := if rank (groupScore v) (groupOf e) < 4 then v e else ⊥

/-- Whether an expert is among the eight chosen. -/
def Chosen (v : Fin 32 → EReal) (e : Fin 32) : Prop := rank (cand v) e < 8

instance (v : Fin 32 → EReal) (e : Fin 32) : Decidable (Chosen v e) := by unfold Chosen; infer_instance

/-- The sum of the chosen experts' scores. -/
def total (s v : Fin 32 → EReal) : EReal := ∑ e, if Chosen v e then s e else 0

/-- The factor on the gates, `2.5`. -/
def c25 : EReal := Ideal.ofBits .f32 0x40200000#32
/-- The factor on the residual. -/
def alpha : EReal := Ideal.ofBits .f32 0x3FB504F3#32
/-- The width, `1024`. -/
def width : EReal := Ideal.ofBits .f32 0x44800000#32
/-- The layer norm's offset. -/
def eps : EReal := Ideal.ofBits .f32 0x3727C5AC#32

/-- An expert's gate. -/
def gate (s v : Fin 32 → EReal) (e : Fin 32) : EReal :=
  if Chosen v e then Ideal.div (s e) (total s v) * c25 else 0

/-- An expert's hidden activation. -/
def act (h : Fin 1024 → EReal) (w1 w3 : Fin 1024 → Fin 256 → EReal) (f : Fin 256) : EReal :=
  (∑ k, h k * w1 k f) * sigm (∑ k, h k * w1 k f) * (∑ k, h k * w3 k f)

/-- What the routed experts give at one output column. -/
def routed (h : Fin 1024 → EReal) (g : Fin 32 → EReal) (w1 w3 : Fin 32 → Fin 1024 → Fin 256 → EReal)
    (w2 : Fin 32 → Fin 256 → Fin 1024 → EReal) (d : Fin 1024) : EReal :=
  ∑ e, ∑ f, act h (w1 e) (w3 e) f * g e * w2 e f d

/-- What the shared expert gives at one output column. -/
def shared (h : Fin 1024 → EReal) (w1 w3 : Fin 1024 → Fin 256 → EReal) (w2 : Fin 256 → Fin 1024 → EReal)
    (d : Fin 1024) : EReal := ∑ f, act h w1 w3 f * w2 f d

/-- The layer norm's mean. -/
def mean (y : Fin 1024 → EReal) : EReal := Ideal.div (∑ d, y d) width

/-- The layer norm. -/
def norm (y g b : Fin 1024 → EReal) (d : Fin 1024) : EReal :=
  (y d - mean y) * Ideal.rsqrt (Ideal.div (∑ d, (y d - mean y) * (y d - mean y)) width + eps) * g d + b d

/-- The residual sum. -/
def resid (x gm o : Fin 1024 → EReal) (d : Fin 1024) : EReal := alpha * x d + (1 + gm d) * o d

/-- The block's output for one token. -/
def out (x sh sc gm : Fin 1024 → EReal) (rw : Fin 1024 → Fin 32 → EReal) (rb : Fin 32 → EReal)
    (w1 w3 : Fin 32 → Fin 1024 → Fin 256 → EReal) (w2 : Fin 32 → Fin 256 → Fin 1024 → EReal)
    (s1 s3 : Fin 1024 → Fin 256 → EReal) (s2 : Fin 256 → Fin 1024 → EReal) (g b : Fin 1024 → EReal) :
    Fin 1024 → EReal :=
  norm (resid x gm fun d =>
    routed (hid x sh sc) (gate (score (hid x sh sc) rw) fun e => score (hid x sh sc) rw e + rb e) w1 w3 w2 d
      + shared (hid x sh sc) s1 s3 s2 d) g b

theorem bits_one : Ideal.ofBits .f32 0x3F800000#32 = 1 := by
  simp [Ideal.ofBits, Ideal.ieee, -EReal.coe_mul]; norm_num
theorem bits_zero : Ideal.ofBits .f32 0x00000000#32 = 0 := by simp [Ideal.ofBits, Ideal.ieee]
theorem bits_bot : Ideal.ofBits .f32 0xFF800000#32 = ⊥ := by simp [Ideal.ofBits, Ideal.ieee]

end Cert.Moe.Spec

end
-- ==== Proof.MoeRead.lean ====
/-
  Readings of the kernel's array operations at an index over the extended reals: products accumulated into zero, sums
  along a row or a column, casts between a vector and a column, a column laid along every column, the pieces of a
  concatenation.
-/
module

public import proofs.«01_k».proof.Proof.MoeSpec
public import Idealize.ShloMosaic.Lib.ValueIdx
public import Idealize.ShloMosaic.Lib.ValueLayout
public import Idealize.ShloMosaic.Lib.MatmulPlain
public import Idealize.ShloMosaic.Lib.Pipeline.Value

@[expose] public section

noncomputable section

namespace Cert.Moe.Read

open Idealize.ShloMosaic Idealize.ShloMosaic.ValueIdx Cert.Moe

variable {M K N : ℕ}

/-- A product accumulated into a zero splat. -/
theorem mm_apply {φ₁ φ₂ : FTy} (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) (r : Fin M) (c : Fin N) :
    (matmul d none lhs rhs (constant ⟨2, ![M, N]⟩ .f32 0x00000000#32) (ix2 r c) : EReal)
      = ∑ k : Fin K, (lhs (ix2 r k) : EReal) * rhs (ix2 k c) := by
  subst hd
  refine (Ideal.matmul_plain_apply none lhs rhs _ r c).trans ?_
  refine (congrArg (· + _) ?_).trans (zero_add _)
  exact Spec.bits_zero

/-- A sum along the row. -/
theorem rowSum_apply (src : FVec Ideal ⟨2, ![M, N]⟩ .f32) (h : (⟨2, ![M, N]⟩ : Shape).Reduces [1] ⟨1, ![M]⟩)
    (hφ : FKind.Formats .f32) (hacc : 0x00000000#32 = FKind.add.neutral .f32 hφ) (r : Fin M) :
    (multiReduction .add [1] ⟨1, ![M]⟩ src 0x00000000#32 h hφ hacc (ix1 r) : EReal) = ∑ c : Fin N, src (ix2 r c) :=
  (Ideal.multiReduction_add_single src _ h hφ hacc (ix1 r)).trans (Finset.sum_congr rfl fun c _ => congrArg src (by
    funext a
    match a with
    | ⟨0, _⟩ => rfl
    | ⟨1, _⟩ => rfl))

/-- A sum down the column. -/
theorem colSum_apply (src : FVec Ideal ⟨2, ![M, N]⟩ .f32) (h : (⟨2, ![M, N]⟩ : Shape).Reduces [0] ⟨1, ![N]⟩)
    (hφ : FKind.Formats .f32) (hacc : 0x00000000#32 = FKind.add.neutral .f32 hφ) (c : Fin N) :
    (multiReduction .add [0] ⟨1, ![N]⟩ src 0x00000000#32 h hφ hacc (ix1 c) : EReal) = ∑ r : Fin M, src (ix2 r c) :=
  (Ideal.multiReduction_add_single src _ h hφ hacc (ix1 c)).trans (Finset.sum_congr rfl fun r _ => congrArg src (by
    funext a
    match a with
    | ⟨0, _⟩ => rfl
    | ⟨1, _⟩ => rfl))

variable {α : Type}

/-- A vector as a column. -/
theorem col_apply (x : (⟨1, ![M]⟩ : Shape).Idx → α) (h : (⟨1, ![M]⟩ : Shape).ShapeCasts ⟨2, ![M, 1]⟩) (r : Fin M) (u : Fin 1) :
    shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column laid along every column. -/
theorem alongCols_apply (hM : M ≠ 1) (x : (⟨2, ![M, 1]⟩ : Shape).Idx → α) (h : (⟨2, ![M, 1]⟩ : Shape).Broadcasts ⟨2, ![M, N]⟩)
    (r : Fin M) (c : Fin N) : broadcastTo ⟨2, ![M, N]⟩ x h (ix2 r c) = x (ix2 r (0 : Fin 1)) := by
  refine broadcastTo_apply x h (ix2 r c) (ix2 r (0 : Fin 1)) fun ax => ?_
  match ax with
  | ⟨0, _⟩ => exact (if_neg hM).symm
  | ⟨1, _⟩ => rfl

/-- Two leading unit axes dropped. -/
theorem drop2_apply (x : (⟨4, ![1, 1, M, N]⟩ : Shape).Idx → α) (h : (⟨4, ![1, 1, M, N]⟩ : Shape).ShapeCasts ⟨2, ![M, N]⟩)
    (r : Fin M) (c : Fin N) : shapeCast ⟨2, ![M, N]⟩ x h (ix2 r c) = x (ix4 (0 : Fin 1) (0 : Fin 1) r c) :=
  shapeCast_apply x h _ _ (by
    rw [Shape.rowMajor_val_four, Shape.rowMajor_val_two]
    show ((0 * 1 + 0) * M + r.val) * N + c.val = r.val * N + c.val
    simp)

/-- A piece of a concatenation along the columns. -/
theorem catCols_apply (xs : List ((s : Shape) × (s.Idx → α))) {T : ℕ}
    (h : Shape.Concatenates (xs.map (·.1)) ⟨2, ![M, T]⟩ 1) (r : Fin M) (j : Fin T) (k : ℕ) (hk : k < xs.length)
    (x : (⟨2, ![M, N]⟩ : Shape).Idx → α) (hx : xs[k] = ⟨⟨2, ![M, N]⟩, x⟩) (pre : ℕ)
    (hpre : (((xs.take k).map (·.1)).map fun s => if h : s.rank = 2 then s.size ((1 : Fin 2).cast h.symm) else 0).sum = pre)
    (c : Fin N) (hc : pre + c.val = j.val) :
    concatenate ⟨2, ![M, T]⟩ 1 xs h (ix2 r j) = x (ix2 r c) :=
  concatenate_apply_piece (t := ⟨2, ![M, T]⟩) 1 xs h (ix2 r j) k hk ⟨2, ![M, N]⟩ x hx rfl pre hpre (ix2 r c)
    (fun b hb => by
      match b with
      | ⟨0, _⟩ => rfl
      | ⟨1, _⟩ => exact absurd rfl hb) hc

/-- A piece of a concatenation along the rows. -/
theorem catRows_apply (xs : List ((s : Shape) × (s.Idx → α))) {T : ℕ}
    (h : Shape.Concatenates (xs.map (·.1)) ⟨2, ![T, N]⟩ 0) (j : Fin T) (c : Fin N) (k : ℕ) (hk : k < xs.length)
    (x : (⟨2, ![M, N]⟩ : Shape).Idx → α) (hx : xs[k] = ⟨⟨2, ![M, N]⟩, x⟩) (pre : ℕ)
    (hpre : (((xs.take k).map (·.1)).map fun s => if h : s.rank = 2 then s.size ((0 : Fin 2).cast h.symm) else 0).sum = pre)
    (r : Fin M) (hr : pre + r.val = j.val) :
    concatenate ⟨2, ![T, N]⟩ 0 xs h (ix2 j c) = x (ix2 r c) :=
  concatenate_apply_piece (t := ⟨2, ![T, N]⟩) 0 xs h (ix2 j c) k hk ⟨2, ![M, N]⟩ x hx rfl pre hpre (ix2 r c)
    (fun b hb => by
      match b with
      | ⟨0, _⟩ => exact absurd rfl hb
      | ⟨1, _⟩ => rfl) hr

/-- The logistic function as the kernel writes it. -/
theorem sigm_apply {x z c c' : EReal} (hz : z = 0) (hc : c = 1) (hc' : c' = 1) :
    Ideal.div c (c' + Ideal.exp (z - x)) = Spec.sigm x := by
  subst hz; subst hc; subst hc'
  unfold Spec.sigm
  rw [zero_sub]

end Cert.Moe.Read

end
-- ==== Proof.MoeKeep.lean ====
/-
  The kernel's count of how many candidates beat a candidate, read off its body: for every block of eight rows, the
  ones of the comparisons with the rows turned by nought to seven places, block after block.
-/
module

public import proofs.«01_k».proof.Proof.Gen.MoeIdeal.Skeleton

@[expose] public section

set_option maxRecDepth 16384

namespace Cert.MoeIdeal.Keep

open Idealize.ShloMosaic Idealize.SL.Sem Cert.MoeIdeal Cert.MoeIdeal.Gen

variable {F : FTy → Type} [FloatOps F]

/-- One where the turned rows beat the rows, a tie going to a row that came from above; zero elsewhere. -/
noncomputable def beat (w : IVec S8x1024 32) (x d : FVec F S8x1024 .f32) (k : BitVec 32) : FVec F S8x1024 .f32 :=
  select (ori (cmpf .ogt (dynamicRotate 0 k none x rotates_S8x1024_d0) d)
      (andi (cmpf .oeq (dynamicRotate 0 k none x rotates_S8x1024_d0) d) (cmpi .sge w (broadcast S8x1024 k))))
    (broadcast S8x1024 (Scalar.ofBits .f32 0x3F800000#32)) (broadcast S8x1024 (Scalar.ofBits .f32 0x00000000#32))

/-- The same in place, a tie going by the flag. -/
noncomputable def beatAt (x d : FVec F S8x1024 .f32) (b : BitVec 1) : FVec F S8x1024 .f32 :=
  select (ori (cmpf .ogt x d) (andi (cmpf .oeq x d) (broadcast S8x1024 b)))
    (broadcast S8x1024 (Scalar.ofBits .f32 0x3F800000#32)) (broadcast S8x1024 (Scalar.ofBits .f32 0x00000000#32))

/-- The seven turned comparisons. -/
noncomputable def turned (w : IVec S8x1024 32) (a x d : FVec F S8x1024 .f32) : FVec F S8x1024 .f32 :=
  addf (addf (addf (addf (addf (addf (addf a (beat w x d 1#32)) (beat w x d 2#32)) (beat w x d 3#32))
    (beat w x d 4#32)) (beat w x d 5#32)) (beat w x d 6#32)) (beat w x d 7#32)

/-- The count's start. -/
noncomputable def nought : FVec F S8x1024 .f32 := broadcast S8x1024 (Scalar.ofBits .f32 0x00000000#32)

/-- The scores kept where the count is below eight. -/
noncomputable def below8 (n s : FVec F S8x1024 .f32) : FVec F S8x1024 .f32 :=
  select (cmpf .olt n (broadcast S8x1024 (Scalar.ofBits .f32 0x41000000#32))) s
    (broadcast S8x1024 (Scalar.ofBits .f32 0x00000000#32))

/-- The candidates: the biased scores of the rows with fewer than four ahead, `-∞` elsewhere. -/
noncomputable def below4 (n v : FVec F S8x1024 .f32) : FVec F S8x1024 .f32 :=
  select (cmpf .olt n (broadcast S8x1024 (Scalar.ofBits .f32 0x40800000#32))) v
    (broadcast S8x1024 (Scalar.ofBits .f32 0xFF800000#32))

/-- The scores of block 0 where the expert is chosen, zero elsewhere. -/
noncomputable def keep0 (w : IVec S8x1024 32) (c0 c1 c2 c3 s b : FVec F S8x1024 .f32) : FVec F S8x1024 .f32 :=
  let v286 := k0_pay32 (F := F)
  let v330 := k0_pay34 w c0 v286 b
  let v340 := k0_pay35 w c0
  let v383 := k0_pay36 w c0 c1 v330 v340
  let v384 := k0_pay37 c1
  let v427 := k0_pay38 w c0 c1 v383 v384
  let v428 := k0_pay39 c1
  let v469 := k0_pay40 w c0 c1 c2 v427 v428
  let v470 := k0_pay41 c2
  let v472 := k0_pay42 w
  let v513 := k0_pay43 w c0 c2 v469 v470 v472
  let v514 := k0_pay44 c2
  let v516 := k0_pay45 w
  let v555 := k0_pay46 w c0 c2 c3 v513 v514 v516
  let v559 := k0_pay48 c0 c3
  let v561 := k0_pay49 w c0 c3
  let v599 := k0_pay50 w c0 c3 v555 v559 v561
  let v603 := k0_pay52 c0 c3
  let v605 := k0_pay53 w c0 c3
  k0_pay54 s w c0 c3 v599 v603 v605

/-- The scores of block 1 where the expert is chosen, zero elsewhere. -/
noncomputable def keep1 (w : IVec S8x1024 32) (c0 c1 c2 c3 s : FVec F S8x1024 .f32) : FVec F S8x1024 .f32 :=
  let v646 := k0_pay55 w c0 c1
  let v647 := k0_pay56 c0
  let c2_i32_251 : BitVec 32 := 2#32
  let v690 := k0_pay57 w c0 c1 v646 v647 c2_i32_251
  let v691 := k0_pay58 c0
  let c6_i32_267 : BitVec 32 := 6#32
  let v734 := k0_pay59 w c0 c1 v690 v691 c6_i32_267
  let v735 := k0_pay60 c1
  let c3_i32_283 : BitVec 32 := 3#32
  let v778 := k0_pay61 w c1 v734 v735 c3_i32_283
  let v779 := k0_pay62 c1
  let c7_i32_299 : BitVec 32 := 7#32
  let v820 := k0_pay63 w c1 c2 v778 v779 c7_i32_299
  let v821 := k0_pay64 c2
  let v823 := k0_pay65 w
  let v824 := k0_pay66 c1 c2
  let v864 := k0_pay67 w c1 c2 v820 v821 v823 v824
  let v865 := k0_pay68 c2
  let v867 := k0_pay69 w
  let v868 := k0_pay70 c1 c2
  let v906 := k0_pay71 w c1 c3 v864 v865 v867 v868
  let v913 := k0_pay72 w c1 c3
  let v950 := k0_pay73 w c1 c3 v906 v913
  let v957 := k0_pay74 w c1 c3
  k0_pay75 s v950 v957

/-- The scores of block 2 where the expert is chosen, zero elsewhere. -/
noncomputable def keep2 (w : IVec S8x1024 32) (c0 c1 c2 c3 s : FVec F S8x1024 .f32) : FVec F S8x1024 .f32 :=
  let v997 := k0_pay76 w c0 c2
  let v998 := k0_pay77 c0
  let v999 := k0_pay78
  let v1041 := k0_pay79 w c0 c2 v997 v998 v999
  let v1042 := k0_pay80 c0
  let v1043 := k0_pay81
  let v1083 := k0_pay82 w c1 c2 v1041 v1042 v1043
  let v1086 := k0_pay84 w
  let v1087 := k0_pay85 c1 c2
  let v1088 := k0_pay86 c1 c2
  let v1127 := k0_pay87 w c1 c2 v1083 v1086 v1087 v1088
  let v1130 := k0_pay89 w
  let v1131 := k0_pay90 c1 c2
  let v1132 := k0_pay91 c1 c2
  let v1171 := k0_pay92 w c2 v1127 v1130 v1131 v1132
  let v1174 := k0_pay94 w
  let v1175 := k0_pay95 c2
  let v1176 := k0_pay96 c2
  let v1215 := k0_pay97 w c2 v1171 v1174 v1175 v1176
  let v1220 := k0_pay98 c2 c3
  let cst_458 : F .f32 := Scalar.ofBits .f32 0x3F800000#32
  let v1257 := k0_pay99 w c2 c3 v1215 v1220 cst_458
  let v1264 := k0_pay100 w c2 c3
  let cst_474 : F .f32 := Scalar.ofBits .f32 0x3F800000#32
  k0_pay101 s w c2 c3 v1257 v1264 cst_474

/-- The last block's count before its final three comparisons. -/
noncomputable def count3 (w : IVec S8x1024 32) (c0 c1 c2 c3 : FVec F S8x1024 .f32) : FVec F S8x1024 .f32 :=
  let v1306 := k0_pay102 (F := F)
  let v1307 := k0_pay103 c0 c3
  let v1308 := k0_pay104 c0 c3
  let v1348 := k0_pay105 w c0 c3 v1306 v1307 v1308
  let v1349 := k0_pay106 c0
  let v1351 := k0_pay107 w
  let v1392 := k0_pay108 w c0 c3 v1348 v1349 v1351
  let v1393 := k0_pay109 c1 c3
  let v1396 := k0_pay110 c1 c3
  let v1434 := k0_pay111 w c1 c3 v1392 v1393 v1396
  let v1438 := k0_pay113 c1 c3
  let v1440 := k0_pay114 w c1 c3
  let v1478 := k0_pay115 w c1 c3 v1434 v1438 v1440
  let v1483 := k0_pay116 c2 c3
  let cst_554 : F .f32 := Scalar.ofBits .f32 0x3F800000#32
  let cst_555 : F .f32 := Scalar.ofBits .f32 0x00000000#32
  let v1520 := k0_pay117 w c2 c3 v1478 v1483 cst_554 cst_555
  let v1527 := k0_pay118 w c2 c3
  let cst_570 : F .f32 := Scalar.ofBits .f32 0x3F800000#32
  let cst_571 : F .f32 := Scalar.ofBits .f32 0x00000000#32
  let v1564 := k0_pay119 w c2 c3 v1520 v1527 cst_570 cst_571
  let v1571 := k0_pay120 w c3
  let cst_586 : F .f32 := Scalar.ofBits .f32 0x3F800000#32
  let cst_587 : F .f32 := Scalar.ofBits .f32 0x00000000#32
  k0_pay121 w c3 v1564 v1571 cst_586 cst_587

variable (w : IVec S8x1024 32) (c0 c1 c2 c3 s v g : FVec F S8x1024 .f32)

theorem keep0_eq : keep0 w c0 c1 c2 c3 s (beat w c0 c0 1#32) =
    below8 (turned w (addf (turned w (addf (turned w (addf (turned w nought c0 c0)
      (beatAt c1 c0 0#1)) c1 c0) (beatAt c2 c0 0#1)) c2 c0) (beatAt c3 c0 0#1)) c3 c0) s := rfl

theorem keep1_eq : keep1 w c0 c1 c2 c3 s =
    below8 (turned w (addf (turned w (addf (turned w (turned w (addf nought (beatAt c0 c1 1#1)) c0 c1)
      c1 c1) (beatAt c2 c1 0#1)) c2 c1) (beatAt c3 c1 0#1)) c3 c1) s := rfl

theorem keep2_eq : keep2 w c0 c1 c2 c3 s =
    below8 (turned w (addf (turned w (turned w (addf (turned w (addf nought (beatAt c0 c2 1#1)) c0 c2)
      (beatAt c1 c2 1#1)) c1 c2) c2 c2) (beatAt c3 c2 0#1)) c3 c2) s := rfl

theorem keep3_eq : k0_pay123 s w c3 (count3 w c0 c1 c2 c3) (k0_pay122 w c3) (Scalar.ofBits .f32 0x3F800000#32)
      (Scalar.ofBits .f32 0x00000000#32) =
    below8 (turned w (turned w (addf (turned w (addf (turned w (addf nought (beatAt c0 c3 1#1)) c0 c3)
      (beatAt c1 c3 1#1)) c1 c3) (beatAt c2 c3 1#1)) c2 c3) c3 c3) s := rfl

theorem first_eq : k0_pay33 v g w s 6#32 = beat w (k0_pay28 v g w s 6#32) (k0_pay28 v g w s 6#32) 1#32 := rfl

theorem groups_eq : k0_pay28 v g w (k0_pay26 g w (addf nought (beat w g g 1#32)) 2#32) 6#32
    = below4 (turned w nought g g) v := rfl

theorem groups_eq1 : k0_pay29 v g w (k0_pay26 g w (addf nought (beat w g g 1#32)) 2#32) 6#32
    = below4 (turned w nought g g) v := rfl

theorem groups_eq2 : k0_pay30 v g w (k0_pay26 g w (addf nought (beat w g g 1#32)) 2#32) 6#32
    = below4 (turned w nought g g) v := rfl

theorem groups_eq3 : k0_pay31 v g w (k0_pay26 g w (addf nought (beat w g g 1#32)) 2#32) 6#32
    = below4 (turned w nought g g) v := rfl

end Cert.MoeIdeal.Keep

end
-- ==== Proof.MoeBeat.lean ====
/-
  The kernel's counts read entry by entry over the extended reals: row `g` of block `m` is expert `4 g + m`; the
  seven turned comparisons with a block, with the comparison in place, are the block's eight ones and zeros; the four
  blocks together are the rank.
-/
module

public import proofs.«01_k».proof.Proof.MoeKeep
public import proofs.«01_k».proof.Proof.MoeSpec
public import Idealize.ShloMosaic.Lib.ValueIdx
public import Idealize.ShloMosaic.Lib.KernelVsHost
public import Idealize.ShloMosaic.Lib.Pipeline.Value

@[expose] public section

noncomputable section

namespace Cert.MoeIdeal.Beat

open Idealize.ShloMosaic Idealize.ShloMosaic.ValueIdx Cert.MoeIdeal Cert.MoeIdeal.Gen Cert.MoeIdeal.Keep Cert.Moe
open Cert.Moe.Rank

/-- The rows' numbers. -/
def rows : IVec S8x1024 32 := iota .tc S8x1024 32 [0] iota_S8x1024_d0_w32

theorem rows_apply (g : Fin 8) (t : Fin 1024) : rows (ix2 g t) = BitVec.ofNat 32 g.val :=
  iota_single_apply .tc S8x1024 32 0 iota_S8x1024_d0_w32 (ix2 g t)

/-- The choice between one and zero by a bit. -/
theorem pick (p : Prop) [Decidable p] {b : BitVec 1} (hb : b = BitVec.ofBool (decide p)) {x y : EReal}
    (hx : x = 1) (hy : y = 0) : (if b = 1#1 then x else y) = if p then (1 : EReal) else 0 := by
  subst hb; subst hx; subst hy
  by_cases h : p <;> simp [h]

theorem flag_or (p q r : Prop) [Decidable p] [Decidable q] [Decidable r] :
    IntOp.ori (BitVec.ofBool (decide p)) (IntOp.andi (BitVec.ofBool (decide q)) (BitVec.ofBool (decide r)))
      = BitVec.ofBool (decide (p ∨ (q ∧ r))) := by
  by_cases hp : p <;> by_cases hq : q <;> by_cases hr : r <;> simp [hp, hq, hr] <;> decide

/-- The row `k` places up, around the end. -/
def up (g : Fin 8) (k : Fin 8) : Fin 8 := g - k

theorem turn_apply (x : FVec Ideal S8x1024 .f32) (g k : Fin 8) (t : Fin 1024) :
    dynamicRotate 0 (BitVec.ofNat 32 k.val) none x rotates_S8x1024_d0 (ix2 g t) = x (ix2 (up g k) t) := by
  refine dynamicRotate_apply (0 : Fin 2) _ x _ _ _ fun b => ?_
  match b with
  | 0 =>
    show (g - k).val = (g.val + 8 - (BitVec.ofNat 32 k.val).toNat % 8) % 8
    revert g k; decide
  | 1 => rfl

theorem sge_rows (g k : Fin 8) (hk : k ≠ 0) :
    IntOp.cmpi .sge (BitVec.ofNat 32 g.val) (BitVec.ofNat 32 k.val) = BitVec.ofBool (decide (up g k < g)) := by
  revert g k; decide

theorem beat_apply (x d : FVec Ideal S8x1024 .f32) (g k : Fin 8) (hk : k ≠ 0) (t : Fin 1024) :
    beat rows x d (BitVec.ofNat 32 k.val) (ix2 g t)
      = if d (ix2 g t) < x (ix2 (up g k) t) ∨ (x (ix2 (up g k) t) = d (ix2 g t) ∧ up g k < g) then (1 : EReal) else 0 := by
  refine pick _ ?_ Spec.bits_one Spec.bits_zero
  refine Eq.trans ?_ (flag_or (d (ix2 g t) < x (ix2 (up g k) t)) (x (ix2 (up g k) t) = d (ix2 g t)) (up g k < g))
  have e := turn_apply x g k t
  refine congr (congrArg IntOp.ori ?_) (congr (congrArg IntOp.andi ?_) ?_)
  · exact congrArg (fun z => Ideal.cmp .ogt z (d (ix2 g t))) e
  · exact congrArg (fun z => Ideal.cmp .oeq z (d (ix2 g t))) e
  · exact (congrArg (fun z => IntOp.cmpi .sge z (BitVec.ofNat 32 k.val)) (rows_apply g t)).trans (sge_rows g k hk)

theorem beatAt_apply (x d : FVec Ideal S8x1024 .f32) (p : Prop) [Decidable p] (j : S8x1024.Idx) :
    beatAt x d (BitVec.ofBool (decide p)) j
      = if d j < x j ∨ (x j = d j ∧ p) then (1 : EReal) else 0 := by
  refine pick _ ?_ Spec.bits_one Spec.bits_zero
  exact flag_or (d j < x j) (x j = d j) p

/-- The seven turned comparisons are the sum over the other rows. -/
theorem turned_apply (a x d : FVec Ideal S8x1024 .f32) (g : Fin 8) (t : Fin 1024) :
    turned rows a x d (ix2 g t) = a (ix2 g t) + ∑ k : Fin 7,
      if d (ix2 g t) < x (ix2 (up g k.succ) t) ∨ (x (ix2 (up g k.succ) t) = d (ix2 g t) ∧ up g k.succ < g)
        then (1 : EReal) else 0 := by
  have h : ∀ k : Fin 7, beat rows x d (BitVec.ofNat 32 k.succ.val) (ix2 g t) = _ := fun k =>
    beat_apply x d g k.succ (Fin.succ_ne_zero k) t
  rw [← Finset.sum_congr rfl fun k _ => h k]
  rw [Fin.sum_univ_seven]
  show (((((((a (ix2 g t) + _) + _) + _) + _) + _) + _) + _ : EReal) = _
  simp only [← add_assoc]
  rfl

variable (v : Fin 32 → EReal) (c : Fin 4 → FVec Ideal S8x1024 .f32) (t : Fin 1024)

/-- The entry another block's row gives. -/
theorem entry (hc : ∀ g m, c m (ix2 g t) = v (Spec.member g m)) (g g' : Fin 8) (m m' : Fin 4) (p : Prop) [Decidable p]
    (hp : p ↔ Spec.member g' m' < Spec.member g m) :
    (if c m (ix2 g t) < c m' (ix2 g' t) ∨ (c m' (ix2 g' t) = c m (ix2 g t) ∧ p) then (1 : EReal) else 0)
      = if Beats v (Spec.member g' m') (Spec.member g m) then 1 else 0 := by
  refine if_congr ?_ rfl rfl
  unfold Beats
  rw [hc, hc, hp]

theorem up_zero (g : Fin 8) : up g 0 = g := by revert g; decide

theorem sum_up {M : Type} [AddCommMonoid M] (f : Fin 8 → M) (g : Fin 8) : ∑ k, f (up g k) = ∑ g', f g' :=
  Equiv.sum_comp (Equiv.subLeft g) f

theorem member_lt (g g' : Fin 8) (m m' : Fin 4) :
    Spec.member g' m' < Spec.member g m ↔ g' < g ∨ (g' = g ∧ m' < m) := by revert g g' m m'; decide

/-- What one block adds to the count. -/
def ones (g : Fin 8) (m m' : Fin 4) : EReal :=
  ∑ g' : Fin 8, if Beats v (Spec.member g' m') (Spec.member g m) then 1 else 0

/-- Another block: in place, then turned. -/
theorem other (hc : ∀ g m, c m (ix2 g t) = v (Spec.member g m)) (a : FVec Ideal S8x1024 .f32) (g : Fin 8) (m m' : Fin 4)
    (b : BitVec 1) (hb : b = BitVec.ofBool (decide (m' < m))) (hne : m' ≠ m) :
    turned rows (addf a (beatAt (c m') (c m) b)) (c m') (c m) (ix2 g t) = a (ix2 g t) + ones v g m m' := by
  subst hb
  rw [turned_apply]
  show (a (ix2 g t) + beatAt (c m') (c m) _ (ix2 g t) : EReal) + _ = _
  rw [beatAt_apply, add_assoc]
  refine congrArg (a (ix2 g t) + ·) ?_
  unfold ones
  refine Eq.trans ?_ (sum_up (fun g' => if Beats v (Spec.member g' m') (Spec.member g m) then (1 : EReal) else 0) g)
  rw [Fin.sum_univ_succ (n := 7)]
  refine congr (congrArg (fun z w : EReal => z + w) ?_) (Finset.sum_congr rfl fun k _ => ?_)
  · rw [up_zero]
    exact entry v c t hc g g m m' _ (by rw [member_lt]; simp)
  · refine entry v c t hc g (up g k.succ) m m' _ ?_
    rw [member_lt]
    have : up g k.succ ≠ g := by revert g k; decide
    simp [this]

/-- The block itself: only turned. -/
theorem own (hc : ∀ g m, c m (ix2 g t) = v (Spec.member g m)) (a : FVec Ideal S8x1024 .f32) (g : Fin 8) (m : Fin 4) :
    turned rows a (c m) (c m) (ix2 g t) = a (ix2 g t) + ones v g m m := by
  rw [turned_apply]
  refine congrArg (a (ix2 g t) + ·) ?_
  unfold ones
  refine Eq.trans ?_ (sum_up (fun g' => if Beats v (Spec.member g' m) (Spec.member g m) then (1 : EReal) else 0) g)
  rw [Fin.sum_univ_succ (n := 7), up_zero, if_neg (Beats.irrefl v _), zero_add]
  refine Finset.sum_congr rfl fun k _ => ?_
  refine entry v c t hc g (up g k.succ) m m _ ?_
  rw [member_lt]
  have : up g k.succ ≠ g := by revert g k; decide
  simp [this]

theorem sum_member {M : Type} [AddCommMonoid M] (f : Fin 32 → M) :
    ∑ e, f e = ∑ m : Fin 4, ∑ g : Fin 8, f (Spec.member g m) := by
  refine Eq.trans ?_ (Finset.sum_comm (f := fun (g : Fin 8) (m : Fin 4) => f (Spec.member g m)))
  rw [← Fintype.sum_prod_type' (f := fun (g : Fin 8) (m : Fin 4) => f (Spec.member g m))]
  refine (Fintype.sum_equiv (finProdFinEquiv (m := 8) (n := 4)) _ _ fun p => ?_).symm
  refine congrArg f (Fin.ext ?_)
  show 4 * p.1.val + p.2.val = p.2.val + 4 * p.1.val
  omega

/-- The four blocks' ones are the rank. -/
theorem ones_sum (g : Fin 8) (m : Fin 4) :
    ones v g m 0 + ones v g m 1 + ones v g m 2 + ones v g m 3 = ((rank v (Spec.member g m) : ℕ) : EReal) := by
  rw [← sum_beats, sum_member, Fin.sum_univ_four]
  rfl

/-- A comparison of a count with a literal. -/
theorem lt_bit (n k : ℕ) {x : EReal} (hx : x = ((k : ℕ) : EReal)) :
    Ideal.cmp .olt ((n : ℕ) : EReal) x = BitVec.ofBool (decide (n < k)) := by
  subst hx
  show BitVec.ofBool (decide (((n : ℕ) : EReal) < ((k : ℕ) : EReal))) = _
  rw [decide_eq_decide.mpr Nat.cast_lt]

theorem bits_8 : Ideal.ofBits .f32 0x41000000#32 = ((8 : ℕ) : EReal) := by
  simp [Ideal.ofBits, Ideal.ieee, -EReal.coe_mul]; norm_num; rfl
theorem bits_4 : Ideal.ofBits .f32 0x40800000#32 = ((4 : ℕ) : EReal) := by
  simp [Ideal.ofBits, Ideal.ieee, -EReal.coe_mul]; norm_num; rfl

theorem select_bit (p : Prop) [Decidable p] {b : BitVec 1} (hb : b = BitVec.ofBool (decide p)) (x y : EReal) :
    (if b = 1#1 then x else y) = if p then x else y := by
  subst hb
  by_cases h : p <;> simp [h]

theorem below8_apply (n s : FVec Ideal S8x1024 .f32) (j : S8x1024.Idx) (k : ℕ) (hn : n j = ((k : ℕ) : EReal)) :
    below8 n s j = if k < 8 then s j else (0 : EReal) := by
  refine (select_bit (k < 8) ?_ _ _).trans (by rw [show (broadcast S8x1024 (Scalar.ofBits (F := Ideal) .f32 0x00000000#32) j : EReal) = 0 from Spec.bits_zero])
  show Ideal.cmp .olt (n j) _ = _
  rw [hn]; exact lt_bit k 8 bits_8

theorem below4_apply (n s : FVec Ideal S8x1024 .f32) (j : S8x1024.Idx) (k : ℕ) (hn : n j = ((k : ℕ) : EReal)) :
    below4 n s j = if k < 4 then s j else (⊥ : EReal) := by
  refine (select_bit (k < 4) ?_ _ _).trans (by rw [show (broadcast S8x1024 (Scalar.ofBits (F := Ideal) .f32 0xFF800000#32) j : EReal) = ⊥ from Spec.bits_bot])
  show Ideal.cmp .olt (n j) _ = _
  rw [hn]; exact lt_bit k 4 bits_4

theorem nought_apply (j : S8x1024.Idx) : nought (F := Ideal) j = (0 : EReal) := Spec.bits_zero

/-- The groups' count is the group's rank. -/
theorem groups_apply (u : Fin 8 → EReal) (q : FVec Ideal S8x1024 .f32) (hq : ∀ g, q (ix2 g t) = u g) (g : Fin 8) :
    turned rows nought q q (ix2 g t) = ((rank u g : ℕ) : EReal) := by
  rw [turned_apply, nought_apply, zero_add, ← sum_beats]
  refine Eq.trans ?_ (sum_up (fun g' => if Beats u g' g then (1 : EReal) else 0) g)
  rw [Fin.sum_univ_succ (n := 7), up_zero, if_neg (Beats.irrefl u _), zero_add]
  refine Finset.sum_congr rfl fun k _ => if_congr ?_ rfl rfl
  unfold Beats
  rw [hq, hq]

variable (hc : ∀ g m, c m (ix2 g t) = v (Spec.member g m)) (s : FVec Ideal S8x1024 .f32) (g : Fin 8)
include hc

theorem keep0_apply : keep0 rows (c 0) (c 1) (c 2) (c 3) s (beat rows (c 0) (c 0) 1#32) (ix2 g t)
    = if rank v (Spec.member g 0) < 8 then s (ix2 g t) else (0 : EReal) := by
  rw [keep0_eq]
  refine below8_apply _ _ _ _ ?_
  rw [other v c t hc _ g 0 3 _ (by decide) (by decide), other v c t hc _ g 0 2 _ (by decide) (by decide),
    other v c t hc _ g 0 1 _ (by decide) (by decide), own v c t hc, nought_apply, zero_add, ones_sum]

theorem keep1_apply : keep1 rows (c 0) (c 1) (c 2) (c 3) s (ix2 g t)
    = if rank v (Spec.member g 1) < 8 then s (ix2 g t) else (0 : EReal) := by
  rw [keep1_eq]
  refine below8_apply _ _ _ _ ?_
  rw [other v c t hc _ g 1 3 _ (by decide) (by decide), other v c t hc _ g 1 2 _ (by decide) (by decide),
    own v c t hc, other v c t hc _ g 1 0 _ (by decide) (by decide), nought_apply, zero_add, ones_sum]

theorem keep2_apply : keep2 rows (c 0) (c 1) (c 2) (c 3) s (ix2 g t)
    = if rank v (Spec.member g 2) < 8 then s (ix2 g t) else (0 : EReal) := by
  rw [keep2_eq]
  refine below8_apply _ _ _ _ ?_
  rw [other v c t hc _ g 2 3 _ (by decide) (by decide), own v c t hc, other v c t hc _ g 2 1 _ (by decide) (by decide),
    other v c t hc _ g 2 0 _ (by decide) (by decide), nought_apply, zero_add, ones_sum]

theorem keep3_apply : k0_pay123 s rows (c 3) (count3 rows (c 0) (c 1) (c 2) (c 3)) (k0_pay122 rows (c 3))
      (Scalar.ofBits .f32 0x3F800000#32) (Scalar.ofBits .f32 0x00000000#32) (ix2 g t)
    = if rank v (Spec.member g 3) < 8 then s (ix2 g t) else (0 : EReal) := by
  rw [keep3_eq]
  refine below8_apply _ _ _ _ ?_
  rw [own v c t hc, other v c t hc _ g 3 2 _ (by decide) (by decide), other v c t hc _ g 3 1 _ (by decide) (by decide),
    other v c t hc _ g 3 0 _ (by decide) (by decide), nought_apply, zero_add, ones_sum]

end Cert.MoeIdeal.Beat

end
-- ==== Proof.MoeGates.lean ====
/-
  The kernel's gates: from the thirty-two scores of a token, laid eight to a block, to the gates laid along a row.
-/
module

public import proofs.«01_k».proof.Proof.MoeRead
public import proofs.«01_k».proof.Proof.MoeBeat

@[expose] public section

set_option maxRecDepth 65536
set_option maxHeartbeats 1000000

noncomputable section

namespace Cert.MoeIdeal.Gates

open Idealize.ShloMosaic Idealize.ShloMosaic.ValueIdx Cert.MoeIdeal Cert.MoeIdeal.Gen Cert.MoeIdeal.Keep
open Cert.Moe Cert.Moe.Read Cert.Moe.Rank

section Shape

variable {F : FTy → Type} [FloatOps F]

/-- The two largest of four blocks, added. -/
def best (b0 b1 b2 b3 : FVec F S8x1024 .f32) : FVec F S8x1024 .f32 :=
  addf (maximumf (maximumf b0 b1) (maximumf b2 b3))
    (maximumf (minimumf (maximumf b0 b1) (maximumf b2 b3)) (maximumf (minimumf b0 b1) (minimumf b2 b3)))

/-- The kept scores added up for each token. -/
def whole (k0 k1 k2 k3 : FVec F S8x1024 .f32) : FVec F S1x1024 .f32 :=
  shapeCast S1x1024 (multiReduction .add [0] S1024 (addf (addf (addf k0 k1) k2) k3) 0x00000000#32 reduces_S8x1024_S1024 (.inl rfl) rfl)
    shapeCasts_S1024_S1x1024

/-- The kept scores over their sum, times the factor. -/
def weigh (k : FVec F S8x1024 .f32) (t : FVec F S1x1024 .f32) : FVec F S8x1024 .f32 :=
  mulf (divf k (broadcastTo S8x1024 t broadcasts_S1x1024_S8x1024)) (broadcast S8x1024 (Scalar.ofBits .f32 0x40200000#32))

/-- The four blocks laid along each token's row, zero beyond. -/
def lay (a b c d : FVec F S8x1024 .f32) : FVec F S1024x128 .f32 :=
  shapeCast S1024x128 (transpose S1024x128 [1, 0] (concatenate S128x1024 0
    [⟨S32x1024, concatenate S32x1024 0 [⟨S8x1024, a⟩, ⟨S8x1024, b⟩, ⟨S8x1024, c⟩, ⟨S8x1024, d⟩]
        concatenates_S8x1024_S8x1024_S8x1024_S8x1024_S32x1024_d0⟩,
     ⟨S96x1024, broadcast S96x1024 (Scalar.ofBits .f32 0x00000000#32)⟩] concatenates_S32x1024_S96x1024_S128x1024_d0)
    transposes_S128x1024_p1_0_S1024x128) shapeCasts_S1024x128_S1024x128

/-- The row numbers. -/
def nums : IVec S8x1024 32 := iota .tc S8x1024 32 [0] iota_S8x1024_d0_w32

/-- A block's candidates. -/
def cands (b0 b1 b2 b3 b : FVec F S8x1024 .f32) : FVec F S8x1024 .f32 :=
  below4 (turned nums nought (best b0 b1 b2 b3) (best b0 b1 b2 b3)) b

/-- The last block's kept scores. -/
def keep3 (w : IVec S8x1024 32) (c0 c1 c2 c3 s : FVec F S8x1024 .f32) : FVec F S8x1024 .f32 :=
  k0_pay123 s w c3 (count3 w c0 c1 c2 c3) (k0_pay122 w c3) (Scalar.ofBits .f32 0x3F800000#32) (Scalar.ofBits .f32 0x00000000#32)

/-- The gates from the kept scores. -/
def share (k0 k1 k2 k3 : FVec F S8x1024 .f32) : FVec F S1024x128 .f32 :=
  lay (weigh k0 (whole k0 k1 k2 k3)) (weigh k1 (whole k0 k1 k2 k3)) (weigh k2 (whole k0 k1 k2 k3)) (weigh k3 (whole k0 k1 k2 k3))

/-- The gates from the candidates and the scores. -/
def pickOut (c0 c1 c2 c3 s0 s1 s2 s3 : FVec F S8x1024 .f32) : FVec F S1024x128 .f32 :=
  share (keep0 nums c0 c1 c2 c3 s0 (beat nums c0 c0 1#32)) (keep1 nums c0 c1 c2 c3 s1) (keep2 nums c0 c1 c2 c3 s2)
    (keep3 nums c0 c1 c2 c3 s3)

/-- The gates from the scores and the biased scores. -/
def gates (s0 s1 s2 s3 b0 b1 b2 b3 : FVec F S8x1024 .f32) : FVec F S1024x128 .f32 :=
  pickOut (cands b0 b1 b2 b3 b0) (cands b0 b1 b2 b3 b1) (cands b0 b1 b2 b3 b2) (cands b0 b1 b2 b3 b3) s0 s1 s2 s3

/-- The gates as the kernel chains them, from its five products and the bias. -/
def chain (v152 : FVec F S1024x384 .f32) (v154 : FVec F S1024x256 .f32) (v156 v157 v160 : FVec F S1024x128 .f32)
    (v169 : Vec F S32x1 .f32) : FVec F S1024x128 .f32 :=
  let v180 := k0_pay16 v152 v154 v156 v157 v160
  let v181 := k0_pay17 v152 v154 v156 v157 v160
  let v182 := k0_pay18 v152 v154 v156 v157 v160
  let v183 := k0_pay19 v152 v154 v156 v157 v160
  let v184 := k0_pay20 v152 v154 v156 v157 v160 v169
  let v185 := k0_pay21 v152 v154 v156 v157 v160 v169
  let v186 := k0_pay22 v152 v154 v156 v157 v160 v169
  let v187 := k0_pay23 v152 v154 v156 v157 v160 v169
  let v196 := k0_pay24 v152 v154 v156 v157 v160 v169
  let w : IVec S8x1024 32 := iota .tc S8x1024 32 [0] iota_S8x1024_d0_w32
  let v253 := k0_pay26 v196 w (k0_pay25 v152 v154 v156 v157 v160 v169) 2#32
  let c0 := k0_pay28 v184 v196 w v253 6#32
  let c1 := k0_pay29 v185 v196 w v253 6#32
  let c2 := k0_pay30 v186 v196 w v253 6#32
  let c3 := k0_pay31 v187 v196 w v253 6#32
  let v625 := keep0 w c0 c1 c2 c3 v180 (k0_pay33 v184 v196 w v253 6#32)
  let v965 := keep1 w c0 c1 c2 c3 v181
  let v1305 := keep2 w c0 c1 c2 c3 v182
  let v1608 := count3 w c0 c1 c2 c3
  let v1615 := k0_pay122 w c3
  let one := Scalar.ofBits (F := F) .f32 0x3F800000#32
  let zero := Scalar.ofBits (F := F) .f32 0x00000000#32
  k0_pay129 (k0_pay123 v183 w c3 v1608 v1615 one zero) (k0_pay124 v183 w c3 v625 v965 v1305 v1608 v1615 one zero)
    (k0_pay125 v183 w c3 v625 v965 v1305 v1608 v1615 one zero) (k0_pay126 v183 w c3 v625 v965 v1305 v1608 v1615 one zero)
    (k0_pay127 v183 w c3 v625 v965 v1305 v1608 v1615 one zero) k0_pay128

theorem share_eq (v183 : FVec F S8x1024 .f32) (w : IVec S8x1024 32) (c3 v625 v965 v1305 v1608 : FVec F S8x1024 .f32)
    (v1615 : IVec S8x1024 1) (one zero : F .f32) :
    k0_pay129 (k0_pay123 v183 w c3 v1608 v1615 one zero) (k0_pay124 v183 w c3 v625 v965 v1305 v1608 v1615 one zero)
      (k0_pay125 v183 w c3 v625 v965 v1305 v1608 v1615 one zero) (k0_pay126 v183 w c3 v625 v965 v1305 v1608 v1615 one zero)
      (k0_pay127 v183 w c3 v625 v965 v1305 v1608 v1615 one zero) k0_pay128
      = share v625 v965 v1305 (k0_pay123 v183 w c3 v1608 v1615 one zero) := rfl

variable (v152 : FVec F S1024x384 .f32) (v154 : FVec F S1024x256 .f32) (v156 v157 v160 : FVec F S1024x128 .f32)
    (v169 : Vec F S32x1 .f32)

theorem best_eq : k0_pay24 v152 v154 v156 v157 v160 v169
    = best (k0_pay20 v152 v154 v156 v157 v160 v169) (k0_pay21 v152 v154 v156 v157 v160 v169)
        (k0_pay22 v152 v154 v156 v157 v160 v169) (k0_pay23 v152 v154 v156 v157 v160 v169) := rfl

theorem start_eq : k0_pay25 v152 v154 v156 v157 v160 v169
    = addf nought (beat nums (k0_pay24 v152 v154 v156 v157 v160 v169) (k0_pay24 v152 v154 v156 v157 v160 v169) 1#32) := rfl

theorem chain_eq : chain v152 v154 v156 v157 v160 v169
    = gates (k0_pay16 v152 v154 v156 v157 v160) (k0_pay17 v152 v154 v156 v157 v160) (k0_pay18 v152 v154 v156 v157 v160)
        (k0_pay19 v152 v154 v156 v157 v160) (k0_pay20 v152 v154 v156 v157 v160 v169) (k0_pay21 v152 v154 v156 v157 v160 v169)
        (k0_pay22 v152 v154 v156 v157 v160 v169) (k0_pay23 v152 v154 v156 v157 v160 v169) := by
  unfold chain
  simp only []
  rw [share_eq, first_eq, start_eq]
  rw [show (iota .tc S8x1024 32 [0] iota_S8x1024_d0_w32 : IVec S8x1024 32) = nums from rfl]
  rw [groups_eq, groups_eq1, groups_eq2, groups_eq3, best_eq]
  rfl

end Shape

variable (t : Fin 1024)

theorem best_apply (v : Fin 32 → EReal) (b : Fin 4 → FVec Ideal S8x1024 .f32)
    (hb : ∀ g m, b m (ix2 g t) = v (Spec.member g m)) (g : Fin 8) :
    (best (b 0) (b 1) (b 2) (b 3) (ix2 g t) : EReal) = Spec.groupScore v g := by
  unfold Spec.groupScore
  rw [← hb g 0, ← hb g 1, ← hb g 2, ← hb g 3]
  rfl

theorem groupOf_member (g : Fin 8) (m : Fin 4) : Spec.groupOf (Spec.member g m) = g := by revert g m; decide

theorem cands_apply (v : Fin 32 → EReal) (b : Fin 4 → FVec Ideal S8x1024 .f32)
    (hb : ∀ g m, b m (ix2 g t) = v (Spec.member g m)) (g : Fin 8) (m : Fin 4) :
    (cands (b 0) (b 1) (b 2) (b 3) (b m) (ix2 g t) : EReal) = Spec.cand v (Spec.member g m) := by
  refine (Beat.below4_apply _ _ _ (rank (Spec.groupScore v) g) ?_).trans ?_
  · exact Beat.groups_apply t _ _ (best_apply t v b hb) g
  · unfold Spec.cand
    rw [groupOf_member, hb]

theorem whole_apply (k : Fin 4 → FVec Ideal S8x1024 .f32) (f : Fin 32 → EReal) (hk : ∀ g m, k m (ix2 g t) = f (Spec.member g m))
    (u : Fin 1) : (whole (k 0) (k 1) (k 2) (k 3) (ix2 u t) : EReal) = ∑ e, f e := by
  refine (shapeCast_a_1a_apply _ _ u t).trans ((colSum_apply _ _ _ _ t).trans ?_)
  rw [Beat.sum_member, Finset.sum_comm]
  refine Finset.sum_congr rfl fun g _ => ?_
  rw [Fin.sum_univ_four, ← hk g 0, ← hk g 1, ← hk g 2, ← hk g 3]
  rfl

theorem weigh_apply (k : FVec Ideal S8x1024 .f32) (T : FVec Ideal S1x1024 .f32) (g : Fin 8) :
    (weigh k T (ix2 g t) : EReal) = Ideal.div (k (ix2 g t)) (T (ix2 (0 : Fin 1) t)) * Spec.c25 := by
  refine congrArg (fun z : EReal => Ideal.div (k (ix2 g t)) z * Spec.c25) ?_
  exact broadcastTo_1b_ab_apply T broadcasts_S1x1024_S8x1024 g t

theorem lay_apply (a : Fin 4 → FVec Ideal S8x1024 .f32) (g : Fin 8) (m : Fin 4) (hj : 8 * m.val + g.val < 128) :
    lay (a 0) (a 1) (a 2) (a 3) (ix2 t ⟨8 * m.val + g.val, hj⟩) = a m (ix2 g t) := by
  unfold lay
  rw [shapeCast_self]
  refine (transpose_ix2_apply _ _ t ⟨8 * m.val + g.val, hj⟩).trans ?_
  refine Eq.trans (catRows_apply (M := 32) _ _ _ t 0 (by show 0 < 2; decide) _ rfl 0 rfl ⟨8 * m.val + g.val, by omega⟩ (Nat.zero_add _)) ?_
  match m with
  | 0 => exact catRows_apply _ _ _ t 0 (by show 0 < 4; decide) (a 0) rfl 0 rfl g (by show 0 + g.val = 8 * 0 + g.val; omega)
  | 1 => exact catRows_apply _ _ _ t 1 (by show 1 < 4; decide) (a 1) rfl 8 rfl g (by show 8 + g.val = 8 * 1 + g.val; omega)
  | 2 => exact catRows_apply _ _ _ t 2 (by show 2 < 4; decide) (a 2) rfl 16 rfl g (by show 16 + g.val = 8 * 2 + g.val; omega)
  | 3 => exact catRows_apply _ _ _ t 3 (by show 3 < 4; decide) (a 3) rfl 24 rfl g (by show 24 + g.val = 8 * 3 + g.val; omega)

/-- The kept scores of a block. -/
def kept (c s : Fin 4 → FVec Ideal S8x1024 .f32) : Fin 4 → FVec Ideal S8x1024 .f32
  | 0 => keep0 nums (c 0) (c 1) (c 2) (c 3) (s 0) (beat nums (c 0) (c 0) 1#32)
  | 1 => keep1 nums (c 0) (c 1) (c 2) (c 3) (s 1)
  | 2 => keep2 nums (c 0) (c 1) (c 2) (c 3) (s 2)
  | 3 => keep3 nums (c 0) (c 1) (c 2) (c 3) (s 3)

theorem kept_apply (v sv : Fin 32 → EReal) (c s : Fin 4 → FVec Ideal S8x1024 .f32)
    (hc : ∀ g m, c m (ix2 g t) = v (Spec.member g m)) (hs : ∀ g m, s m (ix2 g t) = sv (Spec.member g m)) (g : Fin 8) (m : Fin 4) :
    (kept c s m (ix2 g t) : EReal) = if rank v (Spec.member g m) < 8 then sv (Spec.member g m) else 0 := by
  rw [← hs g m]
  match m with
  | 0 => exact Beat.keep0_apply v c t hc (s 0) g
  | 1 => exact Beat.keep1_apply v c t hc (s 1) g
  | 2 => exact Beat.keep2_apply v c t hc (s 2) g
  | 3 => exact Beat.keep3_apply v c t hc (s 3) g

theorem div_zero_num {x : EReal} (hx : x ≠ 0) : Ideal.div 0 x = 0 := by
  unfold Ideal.div
  rw [if_neg hx, zero_mul]

/-- The gate of an expert at its lane. -/
theorem gates_apply (sv v : Fin 32 → EReal) (s b : Fin 4 → FVec Ideal S8x1024 .f32)
    (hs : ∀ g m, s m (ix2 g t) = sv (Spec.member g m)) (hb : ∀ g m, b m (ix2 g t) = v (Spec.member g m))
    (hT : Spec.total sv v ≠ 0) (g : Fin 8) (m : Fin 4) (hj : 8 * m.val + g.val < 128) :
    (gates (s 0) (s 1) (s 2) (s 3) (b 0) (b 1) (b 2) (b 3) (ix2 t ⟨8 * m.val + g.val, hj⟩) : EReal)
      = Spec.gate sv v (Spec.member g m) := by
  have hk := kept_apply t (Spec.cand v) sv (fun m => cands (b 0) (b 1) (b 2) (b 3) (b m)) s
    (cands_apply t v b hb) hs
  have hw := whole_apply t (kept (fun m => cands (b 0) (b 1) (b 2) (b 3) (b m)) s)
    (fun e => if rank (Spec.cand v) e < 8 then sv e else 0) hk
  refine (lay_apply t (fun m => weigh (kept (fun m => cands (b 0) (b 1) (b 2) (b 3) (b m)) s m)
    (whole (kept (fun m => cands (b 0) (b 1) (b 2) (b 3) (b m)) s 0) (kept (fun m => cands (b 0) (b 1) (b 2) (b 3) (b m)) s 1)
      (kept (fun m => cands (b 0) (b 1) (b 2) (b 3) (b m)) s 2) (kept (fun m => cands (b 0) (b 1) (b 2) (b 3) (b m)) s 3))) g m hj).trans ?_
  refine (weigh_apply t _ _ g).trans ?_
  rw [hw, hk]
  unfold Spec.gate
  by_cases h : Spec.Chosen v (Spec.member g m)
  · rw [if_pos h, if_pos (show rank (Spec.cand v) (Spec.member g m) < 8 from h)]; rfl
  · rw [if_neg h, if_neg (show ¬ rank (Spec.cand v) (Spec.member g m) < 8 from h)]
    refine (congrArg (· * Spec.c25) (div_zero_num hT)).trans (zero_mul _)

/-- Eight positive scores add up to something other than zero. -/
theorem total_ne_zero (s v : Fin 32 → EReal) (hs : ∀ e, 0 < s e) : Spec.total s v ≠ 0 := by
  have h0 : rank (Spec.cand v) (sortedFrom (larger (Spec.cand v)) 0) < 8 := by rw [rank_sorted]; decide
  refine ne_of_gt (lt_of_lt_of_le (hs (sortedFrom (larger (Spec.cand v)) 0)) ?_)
  unfold Spec.total
  refine le_trans (le_of_eq ?_) (Finset.single_le_sum (f := fun e => if Spec.Chosen v e then s e else 0) (fun e _ => ?_)
    (Finset.mem_univ (sortedFrom (larger (Spec.cand v)) 0)))
  · exact (if_pos h0).symm
  · show 0 ≤ if Spec.Chosen v e then s e else 0
    split
    · exact (hs e).le
    · exact le_rfl

end Cert.MoeIdeal.Gates

end
-- ==== Proof.MoeStep.lean ====
/-
  One step over an expert block: four experts' hidden activations, each scaled by its token's gate, side by side,
  times the stacked second weights, added to what is held; the shared expert; the stored input.
-/
module

public import proofs.«01_k».proof.Proof.MoeRead
public import proofs.«01_k».proof.Proof.Gen.MoeIdeal.Skeleton

@[expose] public section

set_option maxRecDepth 16384

noncomputable section

namespace Cert.MoeIdeal.Step

open Idealize.ShloMosaic Idealize.ShloMosaic.ValueIdx Cert.MoeIdeal Cert.MoeIdeal.Gen Cert.Moe Cert.Moe.Read

section Shape

variable {F : FTy → Type} [FloatOps F]

/-- The column of the gates the step's expert reads. -/
def gcol (G : FVec F S1024x128 .f32) (w : BitVec 32) : FVec F S1024x1 .f32 :=
  shapeCast S1024x1 (multiReduction .add [1] S1024
    (select (cmpi .eq (iota .tc S1024x128 32 [1] iota_S1024x128_d1_w32) (broadcast S1024x128 w)) G
      (broadcast S1024x128 (Scalar.ofBits .f32 0x00000000#32))) 0x00000000#32 reduces_S1024x128_S1024 (.inl rfl) rfl)
    shapeCasts_S1024_S1024x1

/-- The product with an expert's first or third weights. -/
def upw (h : FVec F S1024x1024 .bf16) (u : Vec F S1x1x1024x256 .bf16) : FVec F S1024x256 .f32 :=
  matmul dot_S1024x1024_S1024x256_S1024x256_1_0_0_1_n_n none h
    (shapeCast S1024x256 u shapeCasts_S1x1x1024x256_S1024x256 : FVec F S1024x256 .bf16) (constant S1024x256 .f32 0x00000000#32)

/-- The gated product of the two. -/
def mix (p q : FVec F S1024x256 .f32) : FVec F S1024x256 .f32 :=
  mulf (mulf p (divf (broadcast S1024x256 (Scalar.ofBits .f32 0x3F800000#32))
    (addf (broadcast S1024x256 (Scalar.ofBits .f32 0x3F800000#32))
      (exp (subf (broadcast S1024x256 (Scalar.ofBits .f32 0x00000000#32)) p))))) q

/-- An expert's activations scaled by its gate's column. -/
def gated (h : FVec F S1024x1024 .bf16) (g : FVec F S1024x1 .f32) (u1 u3 : Vec F S1x1x1024x256 .bf16) :
    FVec F S1024x256 .bf16 :=
  truncf .bf16 (mulf (mix (upw h u1) (upw h u3)) (broadcastTo S1024x256 g broadcasts_S1024x1_S1024x256)) bitsLt_bf16_f32

variable (i : grid0.Coords) (h : Vec F S1024x1024 .bf16) (G : Vec F S1024x128 .f32) (u1 u3 : Vec F S1x1x1024x256 .bf16)

theorem first_eq : k0_pay134 i h G u1 u3 = gated h (gcol G (Scalar.addi 0#32 (BitVec.ofNat 32 (i 2).val))) u1 u3 := rfl
theorem second_eq : k0_pay136 h G (iota .tc S1024x128 32 [1] iota_S1024x128_d1_w32) (k0_pay135 i) u1 u3
    = gated h (gcol G (Scalar.addi 8#32 (BitVec.ofNat 32 (i 2).val))) u1 u3 := rfl
theorem third_eq (w : BitVec 32) : k0_pay139 h (k0_pay137 w G (iota .tc S1024x128 32 [1] iota_S1024x128_d1_w32)) (k0_pay138 h u1) u3
    = gated h (gcol G (Scalar.addi 16#32 w)) u1 u3 := rfl
theorem fourth_eq (w : BitVec 32) : k0_pay140 w h G (iota .tc S1024x128 32 [1] iota_S1024x128_d1_w32) u1 u3
    = gated h (gcol G (Scalar.addi 24#32 w)) u1 u3 := rfl
theorem shared_eq (s1 s3 : Vec F S1024x256 .bf16) (s2 : Vec F S256x1024 .bf16) :
    k0_pay133 h (k0_pay130 h s1) k0_pay131 s3 s2
      = matmul dot_S1024x256_S256x1024_S1024x1024_1_0_0_1_n_n none
          (truncf .bf16 (mix (matmul dot_S1024x1024_S1024x256_S1024x256_1_0_0_1_n_n none h s1 (constant S1024x256 .f32 0x00000000#32))
            (matmul dot_S1024x1024_S1024x256_S1024x256_1_0_0_1_n_n none h s3 (constant S1024x256 .f32 0x00000000#32))) bitsLt_bf16_f32)
          s2 (constant S1024x1024 .f32 0x00000000#32) := by
  unfold k0_pay133 k0_pay130 k0_pay131
  simp only [shapeCast_self]
  rfl

end Shape

variable (h : FVec Ideal S1024x1024 .bf16) (r : Fin 1024)

theorem upw_apply (u : Vec Ideal S1x1x1024x256 .bf16) (f : Fin 256) :
    (upw h u (ix2 r f) : EReal) = ∑ k : Fin 1024, (h (ix2 r k) : EReal) * u (ix4 0 0 k f) := by
  refine (mm_apply (φ₁ := .bf16) (φ₂ := .bf16) _ rfl _ _ r f).trans (Finset.sum_congr rfl fun k _ => ?_)
  exact congrArg ((h (ix2 r k) : EReal) * ·) (drop2_apply u _ k f)

theorem mix_apply (p q : FVec Ideal S1024x256 .f32) (f : Fin 256) :
    (mix p q (ix2 r f) : EReal) = (p (ix2 r f) : EReal) * Spec.sigm (p (ix2 r f)) * q (ix2 r f) := by
  refine congrArg (fun z : EReal => (p (ix2 r f) : EReal) * z * q (ix2 r f)) ?_
  exact sigm_apply Spec.bits_zero Spec.bits_one Spec.bits_one

theorem lane_eq (j : Fin 128) (k : ℕ) (hk : k < 128) :
    IntOp.cmpi .eq (BitVec.ofNat 32 j.val) (BitVec.ofNat 32 k) = BitVec.ofBool (decide (j = ⟨k, hk⟩)) := by
  show BitVec.ofBool (BitVec.ofNat 32 j.val == BitVec.ofNat 32 k) = _
  congr 1
  rw [Bool.eq_iff_iff, beq_iff_eq, decide_eq_true_iff]
  constructor
  · intro e
    have := congrArg BitVec.toNat e
    simp only [BitVec.toNat_ofNat] at this
    have hj := j.isLt
    exact Fin.ext (by show j.val = k; omega)
  · rintro rfl; rfl

theorem gcol_apply (G : FVec Ideal S1024x128 .f32) (w : BitVec 32) (k : ℕ) (hk : k < 128) (hw : w = BitVec.ofNat 32 k) (u : Fin 1) :
    (gcol G w (ix2 r u) : EReal) = G (ix2 r ⟨k, hk⟩) := by
  subst hw
  refine (col_apply _ _ r u).trans ((rowSum_apply _ _ _ _ r).trans ?_)
  refine (Finset.sum_eq_single (⟨k, hk⟩ : Fin 128) ?_ fun hn => absurd (Finset.mem_univ _) hn).trans ?_
  · intro j _ hj
    have e : IntOp.cmpi .eq (iota .tc S1024x128 32 [1] iota_S1024x128_d1_w32 (ix2 r j)) (BitVec.ofNat 32 k) = 0#1 := by
      rw [iota_single_apply]
      exact (lane_eq j k hk).trans (by rw [decide_eq_false hj]; rfl)
    exact (if_neg (fun h1 => absurd (e.symm.trans h1) (by decide))).trans Spec.bits_zero
  · have e : IntOp.cmpi .eq (iota .tc S1024x128 32 [1] iota_S1024x128_d1_w32 (ix2 r (⟨k, hk⟩ : Fin 128))) (BitVec.ofNat 32 k) = 1#1 := by
      rw [iota_single_apply]
      exact (lane_eq ⟨k, hk⟩ k hk).trans (by rw [decide_eq_true rfl]; rfl)
    exact if_pos e

theorem gated_apply (g : FVec Ideal S1024x1 .f32) (u1 u3 : Vec Ideal S1x1x1024x256 .bf16) (f : Fin 256) :
    (gated h g u1 u3 (ix2 r f) : EReal)
      = Spec.act (fun k => h (ix2 r k)) (fun k f => u1 (ix4 0 0 k f)) (fun k f => u3 (ix4 0 0 k f)) f * g (ix2 r 0) := by
  have e : (gated h g u1 u3 (ix2 r f) : EReal) = (mix (upw h u1) (upw h u3) (ix2 r f) : EReal) * g (ix2 r 0) :=
    congrArg ((mix (upw h u1) (upw h u3) (ix2 r f) : EReal) * ·) (alongCols_apply (by decide) g _ r f)
  rw [e, mix_apply, upw_apply, upw_apply]
  rfl

/-- The shared expert. -/
theorem shared_apply (s1 s3 : Vec Ideal S1024x256 .bf16) (s2 : Vec Ideal S256x1024 .bf16) (d : Fin 1024) :
    (k0_pay133 h (k0_pay130 h s1) k0_pay131 s3 s2 (ix2 r d) : EReal)
      = Spec.shared (fun k => h (ix2 r k)) (fun k f => s1 (ix2 k f)) (fun k f => s3 (ix2 k f)) (fun f d => s2 (ix2 f d)) d := by
  rw [shared_eq]
  refine (mm_apply (φ₁ := .bf16) (φ₂ := .bf16) _ rfl _ _ r d).trans (Finset.sum_congr rfl fun f _ => ?_)
  refine congrArg (· * (s2 (ix2 f d) : EReal)) ?_
  refine (mix_apply r _ _ f).trans ?_
  unfold Spec.act
  rw [show (matmul dot_S1024x1024_S1024x256_S1024x256_1_0_0_1_n_n none h s1 (constant S1024x256 .f32 0x00000000#32) (ix2 r f) : EReal) = _ from mm_apply (φ₁ := .bf16) (φ₂ := .bf16) _ rfl h s1 r f,
    show (matmul dot_S1024x1024_S1024x256_S1024x256_1_0_0_1_n_n none h s3 (constant S1024x256 .f32 0x00000000#32) (ix2 r f) : EReal) = _ from mm_apply (φ₁ := .bf16) (φ₂ := .bf16) _ rfl h s3 r f]

theorem sum_blocks {A : Type} [AddCommMonoid A] (f : Fin 1024 → A) :
    ∑ k, f k = ∑ m : Fin 4, ∑ j : Fin 256, f ⟨256 * m.val + j.val, by omega⟩ := by
  rw [← Fintype.sum_prod_type' (f := fun (m : Fin 4) (j : Fin 256) => f ⟨256 * m.val + j.val, by omega⟩)]
  refine (Fintype.sum_equiv (finProdFinEquiv (m := 4) (n := 256)) _ _ fun p => ?_).symm
  refine congrArg f (Fin.ext ?_)
  show 256 * p.1.val + p.2.val = p.2.val + 256 * p.1.val
  omega

/-- The stacked second weights. -/
theorem stack_apply (w2 : Vec Ideal S1x4x256x1024 .bf16) (m : Fin 4) (f : Fin 256) (d : Fin 1024) (hb : 256 * m.val + f.val < 1024) :
    shapeCast S1024x1024 (shapeCast S4x256x1024 w2 shapeCasts_S1x4x256x1024_S4x256x1024) shapeCasts_S4x256x1024_S1024x1024
      (ix2 ⟨256 * m.val + f.val, hb⟩ d) = w2 (ix4 0 m f d) := by
  refine (shapeCast_apply _ _ _ (ix3 m f d) ?_).trans (shapeCast_1abc_abc_apply w2 _ m f d)
  rw [Shape.rowMajor_val_three, Shape.rowMajor_val_two]
  show (m.val * 256 + f.val) * 1024 + d.val = (256 * m.val + f.val) * 1024 + d.val
  omega

/-- The four blocks side by side. -/
theorem cat_apply (a : Fin 4 → FVec Ideal S1024x256 .bf16) (m : Fin 4) (f : Fin 256) (hb : 256 * m.val + f.val < 1024) :
    concatenate S1024x1024 1 [⟨S1024x256, a 0⟩, ⟨S1024x256, a 1⟩, ⟨S1024x256, a 2⟩, ⟨S1024x256, a 3⟩]
      concatenates_S1024x256_S1024x256_S1024x256_S1024x256_S1024x1024_d1 (ix2 r ⟨256 * m.val + f.val, hb⟩) = a m (ix2 r f) := by
  match m with
  | 0 => exact catCols_apply _ _ r _ 0 (by show 0 < 4; decide) (a 0) rfl 0 rfl f (by show 0 + f.val = 256 * 0 + f.val; omega)
  | 1 => exact catCols_apply _ _ r _ 1 (by show 1 < 4; decide) (a 1) rfl 256 rfl f (by show 256 + f.val = 256 * 1 + f.val; omega)
  | 2 => exact catCols_apply _ _ r _ 2 (by show 2 < 4; decide) (a 2) rfl 512 rfl f (by show 512 + f.val = 256 * 2 + f.val; omega)
  | 3 => exact catCols_apply _ _ r _ 3 (by show 3 < 4; decide) (a 3) rfl 768 rfl f (by show 768 + f.val = 256 * 3 + f.val; omega)

/-- What a step adds. -/
theorem add_apply (a : Fin 4 → FVec Ideal S1024x256 .bf16) (w2 : Vec Ideal S1x4x256x1024 .bf16) (acc : Vec Ideal S1024x1024 .f32)
    (d : Fin 1024) :
    (k0_pay1 (a 0) (a 1) (a 2) (a 3) w2 acc (ix2 r d) : EReal)
      = (acc (ix2 r d) : EReal) + ∑ m : Fin 4, ∑ f : Fin 256, (a m (ix2 r f) : EReal) * w2 (ix4 0 m f d) := by
  unfold k0_pay1
  rw [shapeCast_self]
  refine congrArg ((acc (ix2 r d) : EReal) + ·) ?_
  refine (mm_apply (φ₁ := .bf16) (φ₂ := .bf16) _ rfl _ _ r d).trans ((sum_blocks _).trans ?_)
  refine Finset.sum_congr rfl fun m _ => Finset.sum_congr rfl fun f _ => ?_
  exact congr (congrArg (fun z w : EReal => z * w) (cat_apply r a m f (by omega))) (stack_apply w2 m f d (by omega))

/-- The step over an expert block. -/
def step (e : Fin 8) (h : FVec Ideal S1024x1024 .bf16) (G : FVec Ideal S1024x128 .f32)
    (w1 w3 : Fin 4 → Vec Ideal S1x1x1024x256 .bf16) (w2 : Vec Ideal S1x4x256x1024 .bf16) (acc : Vec Ideal S1024x1024 .f32) :
    Vec Ideal S1024x1024 .f32 :=
  k0_pay1 (gated h (gcol G (Scalar.addi 0#32 (BitVec.ofNat 32 e.val))) (w1 0) (w3 0))
    (gated h (gcol G (Scalar.addi 8#32 (BitVec.ofNat 32 e.val))) (w1 1) (w3 1))
    (gated h (gcol G (Scalar.addi 16#32 (BitVec.ofNat 32 e.val))) (w1 2) (w3 2))
    (gated h (gcol G (Scalar.addi 24#32 (BitVec.ofNat 32 e.val))) (w1 3) (w3 3)) w2 acc

theorem step_apply (e : Fin 8) (G : FVec Ideal S1024x128 .f32)
    (w1 w3 : Fin 4 → Vec Ideal S1x1x1024x256 .bf16) (w2 : Vec Ideal S1x4x256x1024 .bf16) (acc : Vec Ideal S1024x1024 .f32) (d : Fin 1024) :
    (step e h G w1 w3 w2 acc (ix2 r d) : EReal)
      = (acc (ix2 r d) : EReal) + ∑ m : Fin 4, ∑ f : Fin 256,
          Spec.act (fun k => h (ix2 r k)) (fun k f => w1 m (ix4 0 0 k f)) (fun k f => w3 m (ix4 0 0 k f)) f
            * G (ix2 r ⟨8 * m.val + e.val, by omega⟩) * w2 (ix4 0 m f d) := by
  refine (add_apply r (fun m => gated h (gcol G (Scalar.addi (BitVec.ofNat 32 (8 * m.val)) (BitVec.ofNat 32 e.val))) (w1 m) (w3 m))
    w2 acc d).trans ?_
  refine congrArg ((acc (ix2 r d) : EReal) + ·) ?_
  refine Finset.sum_congr rfl fun m _ => Finset.sum_congr rfl fun f _ => ?_
  rw [gated_apply, gcol_apply r G _ (8 * m.val + e.val) (by omega) (by revert m e; decide)]

end Cert.MoeIdeal.Step

end
-- ==== Proof.MoeOpen.lean ====
/-
  What each grid point leaves in the kernel's three held blocks and its output, opened to the kernel's own operations
  on the point's windows: the modulated input and the gates at a block's first step, the running sum at every step, the
  normed output at the last.
-/
module

public import proofs.«01_k».proof.Proof.MoeGates
public import proofs.«01_k».proof.Proof.MoeStep
public import proofs.«01_k».proof.Proof.Gen.MoeIdeal.Value
public import Idealize.ShloMosaic.Lib.Pipeline.ValueKit.Acc
public import Idealize.ShloMosaic.Lib.Pipeline.ReadBack

@[expose] public section

set_option maxRecDepth 65536
set_option maxHeartbeats 4000000

noncomputable section

namespace Cert.MoeIdeal.Open

open Idealize.ShloMosaic Idealize.SL.Sem Cert.MoeIdeal Cert.MoeIdeal.Gen Cert.MoeIdeal.Value

variable {F : FTy → Type} [FloatOps F]
variable (m : (ℓ : Loc nD τ sig) → Buf (Elt F) ℓ) (c : Dev nD) (t : Fin cfg0.N)

/-- The shift's row. -/
def sh : Vec F S1x1x1024 .f32 := View.ld (iblk m c 1 t) (Rect.unit (s := S1x1x3072) ![0, 0, 0] S1x1x1024.size inb_S1x1x3072_S1x1x1024_0_0_0)
/-- The scale's row. -/
def sc : Vec F S1x1x1024 .f32 := View.ld (iblk m c 1 t) (Rect.unit (s := S1x1x3072) ![0, 0, 1024] S1x1x1024.size inb_S1x1x3072_S1x1x1024_0_0_1024)
/-- The output gate's row. -/
def gm : Vec F S1x1x1024 .f32 := View.ld (iblk m c 1 t) (Rect.unit (s := S1x1x3072) ![0, 0, 2048] S1x1x1024.size inb_S1x1x3072_S1x1x1024_0_0_2048)
/-- The tokens. -/
def xs : Vec F S1x1024x1024 .f32 := iblk m c 0 t
/-- The router. -/
def rt : Vec F S1024x128 .f32 := iblk m c 2 t
/-- The bias. -/
def bs : Vec F S32x1 .f32 := iblk m c 3 t

/-- The four experts' first weights. -/
def w1 : Fin 4 → Vec F S1x1x1024x256 .bf16
  | 0 => View.ld (iblk m c 4 t) (Rect.unit (s := S1x4x1024x256) ![0, 0, 0, 0] S1x1x1024x256.size inb_S1x4x1024x256_S1x1x1024x256_0_0_0_0)
  | 1 => View.ld (iblk m c 4 t) (Rect.unit (s := S1x4x1024x256) ![0, 1, 0, 0] S1x1x1024x256.size inb_S1x4x1024x256_S1x1x1024x256_0_1_0_0)
  | 2 => View.ld (iblk m c 4 t) (Rect.unit (s := S1x4x1024x256) ![0, 2, 0, 0] S1x1x1024x256.size inb_S1x4x1024x256_S1x1x1024x256_0_2_0_0)
  | 3 => View.ld (iblk m c 4 t) (Rect.unit (s := S1x4x1024x256) ![0, 3, 0, 0] S1x1x1024x256.size inb_S1x4x1024x256_S1x1x1024x256_0_3_0_0)
/-- The four experts' third weights. -/
def w3 : Fin 4 → Vec F S1x1x1024x256 .bf16
  | 0 => View.ld (iblk m c 5 t) (Rect.unit (s := S1x4x1024x256) ![0, 0, 0, 0] S1x1x1024x256.size inb_S1x4x1024x256_S1x1x1024x256_0_0_0_0)
  | 1 => View.ld (iblk m c 5 t) (Rect.unit (s := S1x4x1024x256) ![0, 1, 0, 0] S1x1x1024x256.size inb_S1x4x1024x256_S1x1x1024x256_0_1_0_0)
  | 2 => View.ld (iblk m c 5 t) (Rect.unit (s := S1x4x1024x256) ![0, 2, 0, 0] S1x1x1024x256.size inb_S1x4x1024x256_S1x1x1024x256_0_2_0_0)
  | 3 => View.ld (iblk m c 5 t) (Rect.unit (s := S1x4x1024x256) ![0, 3, 0, 0] S1x1x1024x256.size inb_S1x4x1024x256_S1x1x1024x256_0_3_0_0)

/-- A step over the point's four experts. -/
def stepAt (h : Vec F S1024x1024 .bf16) (G : Vec F S1024x128 .f32) (acc : Vec F S1024x1024 .f32) : Vec F S1024x1024 .f32 :=
  k0_pay1 (k0_pay134 (grid0.coords t) h G (w1 m c t 0) (w3 m c t 0))
    (k0_pay136 h G (iota .tc S1024x128 32 [1] iota_S1024x128_d1_w32) (k0_pay135 (grid0.coords t)) (w1 m c t 1) (w3 m c t 1))
    (k0_pay139 h (k0_pay137 (BitVec.ofNat 32 (grid0.coords t 2).val) G (iota .tc S1024x128 32 [1] iota_S1024x128_d1_w32))
      (k0_pay138 h (w1 m c t 2)) (w3 m c t 2))
    (k0_pay140 (BitVec.ofNat 32 (grid0.coords t 2).val) h G (iota .tc S1024x128 32 [1] iota_S1024x128_d1_w32) (w1 m c t 3) (w3 m c t 3))
    (iblk m c 6 t) acc

/-- The modulated input. -/
def hAt : Vec F S1024x1024 .bf16 := k0_pay5 (sh m c t) (sc m c t) (xs m c t)

/-- The gates. -/
def gAt : Vec F S1024x128 .f32 :=
  Gates.chain (k0_pay9 (sh m c t) (sc m c t) (xs m c t) (rt m c t)) (k0_pay10 (sh m c t) (sc m c t) (xs m c t) (rt m c t))
    (k0_pay11 (sh m c t) (sc m c t) (xs m c t) (rt m c t)) (k0_pay12 (sh m c t) (sc m c t) (xs m c t) (rt m c t))
    (k0_pay13 (sh m c t) (sc m c t) (xs m c t) (rt m c t)) (bs m c t)

/-- The shared expert. -/
def sharedAt : Vec F S1024x1024 .f32 :=
  k0_pay133 (k0_pay4 (sh m c t) (sc m c t) (xs m c t)) (k0_pay130 (k0_pay4 (sh m c t) (sc m c t) (xs m c t)) (iblk m c 7 t))
    k0_pay131 (iblk m c 8 t) (iblk m c 9 t)

theorem first_h (h0 : t.val % 8 = 0) (h1 : ¬ t.val % 8 = 7) : (outsAt0 m c t.val t.isLt).2.1 = hAt m c t := by
  rw [outsAt0_A m c t h0 h1]; dsimp only; frame_out
  rfl

theorem first_g (h0 : t.val % 8 = 0) (h1 : ¬ t.val % 8 = 7) : (outsAt0 m c t.val t.isLt).2.2.1 = gAt m c t := by
  rw [outsAt0_A m c t h0 h1]; dsimp only; frame_out
  rfl

theorem first_acc (h0 : t.val % 8 = 0) (h1 : ¬ t.val % 8 = 7) :
    (outsAt0 m c t.val t.isLt).2.2.2 = stepAt m c t (hAt m c t) (gAt m c t) (sharedAt m c t) := by
  rw [outsAt0_A m c t h0 h1]; dsimp only; frame_out
  rfl

theorem next_h (h0 : ¬ t.val % 8 = 0) (h1 : ¬ t.val % 8 = 7) (hp : t.val - 1 < cfg0.N) :
    (outsAt0 m c t.val t.isLt).2.1 = (outsAt0 m c (t.val - 1) hp).2.1 := by
  rw [outsAt0_B m c t h0 h1]
  rfl

theorem next_g (h0 : ¬ t.val % 8 = 0) (h1 : ¬ t.val % 8 = 7) (hp : t.val - 1 < cfg0.N) :
    (outsAt0 m c t.val t.isLt).2.2.1 = (outsAt0 m c (t.val - 1) hp).2.2.1 := by
  rw [outsAt0_B m c t h0 h1]
  rfl

theorem next_acc (h0 : ¬ t.val % 8 = 0) (h1 : ¬ t.val % 8 = 7) (hp : t.val - 1 < cfg0.N) :
    (outsAt0 m c t.val t.isLt).2.2.2 = stepAt m c t (outsAt0 m c (t.val - 1) hp).2.1 (outsAt0 m c (t.val - 1) hp).2.2.1
      (outsAt0 m c (t.val - 1) hp).2.2.2 := by
  rw [outsAt0_B m c t h0 h1]; dsimp only; frame_out
  simp only [read_unread_whole]
  rfl

theorem last_out (h0 : ¬ t.val % 8 = 0) (h1 : t.val % 8 = 7) (hp : t.val - 1 < cfg0.N) :
    (outsAt0 m c t.val t.isLt).1 = k0_pay2 (k0_pay132 (gm m c t) (xs m c t)
      (stepAt m c t (outsAt0 m c (t.val - 1) hp).2.1 (outsAt0 m c (t.val - 1) hp).2.2.1 (outsAt0 m c (t.val - 1) hp).2.2.2)
      (iblk m c 10 t) (iblk m c 11 t)) := by
  rw [outsAt0_C m c t h0 h1]; dsimp only; frame_out
  simp only [read_unread_whole]
  rfl

end Cert.MoeIdeal.Open

end
-- ==== Proof.MoeHost.lean ====
/-
  The kernel's windows read off the arguments: the host operations before the region permute the router's columns and
  the bias (row `r` of the scores is the expert `4 * (r % 8) + r / 8`), pad the router with zero columns, and otherwise
  only recast; each window's block at a point is the part of its array the index maps name.
-/
module

public import proofs.«01_k».proof.Proof.MoeOpen
public import proofs.«01_k».proof.Proof.MoeRead
public import Idealize.ShloMosaic.Lib.Claim
public import Idealize.ShloMosaic.Lib.KernelVsHost
public import Idealize.ShloMosaic.Lib.Pipeline.ValueKit

@[expose] public section

set_option maxRecDepth 65536
set_option maxHeartbeats 1000000

noncomputable section

namespace Cert.MoeIdeal.Host

open Idealize.ShloMosaic hiding ix1 ix2 ix3 ix4
open Idealize.ShloMosaic.TcCoe Idealize.ShloMosaic.ValueIdx Idealize.SL.Sem Cert.MoeIdeal Cert.MoeIdeal.Gen Cert.MoeIdeal.Open Cert.Moe

variable (m : (ℓ : Loc nD τ sig) → Buf (Elt Ideal) ℓ) (c : Dev nD)

/-- The argument arrays. -/
abbrev arg0 : S4x8192x1024.Idx → EReal := m ((c : Thread nD τ).loc main_arg0)
abbrev arg1 : S4x3072.Idx → EReal := m ((c : Thread nD τ).loc main_arg1)
abbrev arg2 : S1024x32.Idx → EReal := m ((c : Thread nD τ).loc main_arg2)
abbrev arg3 : S32.Idx → EReal := m ((c : Thread nD τ).loc main_arg3)
abbrev arg4 : S32x1024x256.Idx → EReal := m ((c : Thread nD τ).loc main_arg4)
abbrev arg5 : S32x1024x256.Idx → EReal := m ((c : Thread nD τ).loc main_arg5)
abbrev arg6 : S32x256x1024.Idx → EReal := m ((c : Thread nD τ).loc main_arg6)
abbrev arg7 : S1024x256.Idx → EReal := m ((c : Thread nD τ).loc main_arg7)
abbrev arg8 : S1024x256.Idx → EReal := m ((c : Thread nD τ).loc main_arg8)
abbrev arg9 : S256x1024.Idx → EReal := m ((c : Thread nD τ).loc main_arg9)
abbrev arg10 : S1024.Idx → EReal := m ((c : Thread nD τ).loc main_arg10)
abbrev arg11 : S1024.Idx → EReal := m ((c : Thread nD τ).loc main_arg11)

/-- The expert in row `j` of the permuted scores. -/
def expertOf (j : Fin 32) : Fin 32 := Spec.member ⟨j.val % 8, by omega⟩ ⟨j.val / 8, by omega⟩

/-- The words the host gathers with. -/
def words : IVec S32x1 32 :=
  broadcastInDim S32x1 ![0] bcast_S32_S32x1_0
    (select (constantI S32 1 0#1)
      (addi (fun i => lit0 (S32.rowMajor i)) (broadcastInDim S32 ![] bcast_S_S32 (constantI S_ 32 32#32)))
      fun i => lit0 (S32.rowMajor i))

theorem lit_ok (j : Fin 32) : min (lit0 j).toInt.toNat 31 = (expertOf j).val := by
  revert j; decide

theorem words_apply (j : Fin 32) (u : Fin 1) : words (ix2 j u) = lit0 j := by
  show lit0 (S32.rowMajor _) = lit0 j
  refine congrArg lit0 (Fin.ext ?_)
  revert j u; decide

theorem cols_apply (x : S1024x32.Idx → EReal) (k : Fin 1024) (j : Fin 32) :
    Host.gather gather_S1024x32_S32x1_S1024x32_0_1_n_n_1_1_10241 x words (ix2 k j) = x (ix2 k (expertOf j)) := by
  unfold Host.gather
  congr 1
  funext a
  refine Fin.ext ?_
  show GatherDims.start _ _ words a + GatherDims.batchCoord _ _ a + GatherDims.offCoord _ _ a = _
  have ha : a = 0 ∨ a = 1 := by
    match a with
    | ⟨0, _⟩ => exact Or.inl rfl
    | ⟨1, _⟩ => exact Or.inr rfl
  rcases ha with rfl | rfl
  · rw [GatherDims.batchCoord_eq_zero _ _ _ (by decide)]
    have hs : GatherDims.start gather_S1024x32_S32x1_S1024x32_0_1_n_n_1_1_10241 (ix2 k j) words 0 = 0 := by
      unfold GatherDims.start
      rw [dif_neg (by decide)]
    rw [hs]
    simp only [Nat.zero_add, Nat.add_zero]
    unfold GatherDims.offCoord
    rw [dif_pos (by decide)]
    rfl
  · have m1 : (1 : Fin 2) ∈ gather_S1024x32_S32x1_S1024x32_0_1_n_n_1_1_10241.startIndexMap := List.mem_singleton.mpr rfl
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos m1]
    have hsi : gather_S1024x32_S32x1_S1024x32_0_1_n_n_1_1_10241.siIdx (ix2 k j)
        ⟨List.idxOf (1 : Fin 2) gather_S1024x32_S32x1_S1024x32_0_1_n_n_1_1_10241.startIndexMap,
          List.idxOf_lt_length_iff.2 m1⟩ = ix2 j 0 := by
      funext c; refine Fin.ext ?_
      match c with
      | ⟨0, _⟩ => rfl
      | ⟨1, _⟩ => rfl
    rw [hsi, words_apply]
    exact lit_ok j

theorem rows_apply (x : S32.Idx → EReal) (j : Fin 32) :
    Host.gather gather_S32_S32x1_S32_n_0_n_n_0_1_1 x words (ix1 j) = x (ix1 (expertOf j)) := by
  unfold Host.gather
  congr 1
  funext a
  refine Fin.ext ?_
  show GatherDims.start _ _ words a + GatherDims.batchCoord _ _ a + GatherDims.offCoord _ _ a = _
  obtain rfl : a = 0 := by
    match a with
    | ⟨0, _⟩ => rfl
  have m1 : (0 : Fin 1) ∈ gather_S32_S32x1_S32_n_0_n_n_0_1_1.startIndexMap := List.mem_singleton.mpr rfl
  rw [GatherDims.batchCoord_eq_zero _ _ _ (by decide),
    GatherDims.offCoord_eq_zero _ _ _ (fun h => ((GatherDims.mem_sKept _ _).mp h).1 (List.mem_singleton.mpr rfl))]
  simp only [Nat.add_zero]
  unfold GatherDims.start
  rw [dif_pos m1]
  have hsi : gather_S32_S32x1_S32_n_0_n_n_0_1_1.siIdx (ix1 j)
      ⟨List.idxOf (0 : Fin 1) gather_S32_S32x1_S32_n_0_n_n_0_1_1.startIndexMap,
        List.idxOf_lt_length_iff.2 m1⟩ = ix2 j 0 := by
    funext c; refine Fin.ext ?_
    match c with
    | ⟨0, _⟩ => rfl
    | ⟨1, _⟩ => rfl
  rw [hsi, words_apply]
  exact lit_ok j

theorem V_w1 (u : Fin 1) (e : Fin 32) (k : Fin 1024) (f : Fin 256) :
    (V m c main_v1 : S1x32x1024x256.Idx → EReal) (ix4 u e k f) = arg4 m c (ix3 e k f) := by
  unfold V
  simp only [hostOps0, hostOps0_1, hostOps0_2, List.flatten_cons, List.flatten_nil, List.append_nil, List.cons_append, List.nil_append]
  entry_read
  show arg4 m c _ = arg4 m c _
  refine congrArg (arg4 m c) (funext fun x => ?_)
  match x with
  | ⟨0, _⟩ => rfl
  | ⟨1, _⟩ => rfl
  | ⟨2, _⟩ => rfl

theorem V_w3 (u : Fin 1) (e : Fin 32) (k : Fin 1024) (f : Fin 256) :
    (V m c main_v3 : S1x32x1024x256.Idx → EReal) (ix4 u e k f) = arg5 m c (ix3 e k f) := by
  unfold V
  simp only [hostOps0, hostOps0_1, hostOps0_2, List.flatten_cons, List.flatten_nil, List.append_nil, List.cons_append, List.nil_append]
  entry_read
  show arg5 m c _ = arg5 m c _
  refine congrArg (arg5 m c) (funext fun x => ?_)
  match x with
  | ⟨0, _⟩ => rfl
  | ⟨1, _⟩ => rfl
  | ⟨2, _⟩ => rfl

theorem V_w2 (u : Fin 1) (e : Fin 32) (f : Fin 256) (d : Fin 1024) :
    (V m c main_v5 : S1x32x256x1024.Idx → EReal) (ix4 u e f d) = arg6 m c (ix3 e f d) := by
  unfold V
  simp only [hostOps0, hostOps0_1, hostOps0_2, List.flatten_cons, List.flatten_nil, List.append_nil, List.cons_append, List.nil_append]
  entry_read
  show arg6 m c _ = arg6 m c _
  refine congrArg (arg6 m c) (funext fun x => ?_)
  match x with
  | ⟨0, _⟩ => rfl
  | ⟨1, _⟩ => rfl
  | ⟨2, _⟩ => rfl

theorem V_s1 (k : Fin 1024) (f : Fin 256) :
    (V m c main_v19 : S1024x256.Idx → EReal) (ix2 k f) = arg7 m c (ix2 k f) := by
  unfold V
  simp only [hostOps0, hostOps0_1, hostOps0_2, List.flatten_cons, List.flatten_nil, List.append_nil, List.cons_append, List.nil_append]
  entry_read
  rfl

theorem V_s3 (k : Fin 1024) (f : Fin 256) :
    (V m c main_v20 : S1024x256.Idx → EReal) (ix2 k f) = arg8 m c (ix2 k f) := by
  unfold V
  simp only [hostOps0, hostOps0_1, hostOps0_2, List.flatten_cons, List.flatten_nil, List.append_nil, List.cons_append, List.nil_append]
  entry_read
  rfl

theorem V_s2 (k : Fin 256) (f : Fin 1024) :
    (V m c main_v21 : S256x1024.Idx → EReal) (ix2 k f) = arg9 m c (ix2 k f) := by
  unfold V
  simp only [hostOps0, hostOps0_1, hostOps0_2, List.flatten_cons, List.flatten_nil, List.append_nil, List.cons_append, List.nil_append]
  entry_read
  rfl

theorem V_g (u : Fin 1) (k : Fin 1024) :
    (V m c main_v22 : S1x1024.Idx → EReal) (ix2 u k) = arg10 m c (ix1 k) := by
  unfold V
  simp only [hostOps0, hostOps0_1, hostOps0_2, List.flatten_cons, List.flatten_nil, List.append_nil, List.cons_append, List.nil_append]
  entry_read
  exact shapeCast_a_1a_apply (arg10 m c) _ u k

theorem V_b (u : Fin 1) (k : Fin 1024) :
    (V m c main_v23 : S1x1024.Idx → EReal) (ix2 u k) = arg11 m c (ix1 k) := by
  unfold V
  simp only [hostOps0, hostOps0_1, hostOps0_2, List.flatten_cons, List.flatten_nil, List.append_nil, List.cons_append, List.nil_append]
  entry_read
  exact shapeCast_a_1a_apply (arg11 m c) _ u k

theorem V_mod (b : Fin 4) (u : Fin 1) (k : Fin 3072) :
    (V m c main_v6 : S4x1x3072.Idx → EReal) (ix3 b u k) = arg1 m c (ix2 b k) := by
  unfold V
  simp only [hostOps0, hostOps0_1, hostOps0_2, List.flatten_cons, List.flatten_nil, List.append_nil, List.cons_append, List.nil_append]
  entry_read
  refine shapeCast_apply (arg1 m c) shapeCasts_S4x3072_S4x1x3072 _ (ix2 b k) ?_
  rw [rowMajor_val2 _ 3072 rfl, rowMajor_val3 _ 3072 3072 rfl rfl]
  show b.val * 3072 + k.val = b.val * 3072 + u.val * 3072 + k.val
  omega

theorem V_bs (j : Fin 32) (u : Fin 1) :
    (V m c main_v18 : S32x1.Idx → EReal) (ix2 j u) = arg3 m c (ix1 (expertOf j)) := by
  unfold V
  simp only [hostOps0, hostOps0_1, hostOps0_2, List.flatten_cons, List.flatten_nil, List.append_nil, List.cons_append, List.nil_append]
  entry_read
  refine Eq.trans ?_ (rows_apply (arg3 m c) j)
  refine shapeCast_apply (Host.gather gather_S32_S32x1_S32_n_0_n_n_0_1_1 (arg3 m c) words) shapeCasts_S32_S32x1 _ (ix1 j) ?_
  rw [rowMajor_val1, rowMajor_val2 _ 1 rfl]
  show j.val = j.val * 1 + u.val
  omega

theorem V_rt (k : Fin 1024) (j : Fin 32) :
    (V m c main_v12 : S1024x128.Idx → EReal) (ix2 k ⟨j.val, by omega⟩) = arg2 m c (ix2 k (expertOf j)) := by
  unfold V
  simp only [hostOps0, hostOps0_1, hostOps0_2, List.flatten_cons, List.flatten_nil, List.append_nil, List.cons_append, List.nil_append]
  entry_read
  refine Eq.trans ?_ (cols_apply (arg2 m c) k j)
  refine pad_apply_of_inside (t := S1024x128) ![0, 0] ![0, 96] ![0, 0] (Host.gather gather_S1024x32_S32x1_S1024x32_0_1_n_n_1_1_10241 (arg2 m c) words) (_ : S_.Idx → EReal)
    pads_S1024x32_S1024x128_000_0960 h_S_ _ (ix2 k j) fun a => ?_
  match a with
  | ⟨0, _⟩ => show k.val = 0 + k.val * 1; omega
  | ⟨1, _⟩ => show j.val = 0 + j.val * 1; omega

/-- The blocks the windows name at a point. -/
theorem idx : ∀ t : Fin cfg0.N, win0_0.index t = ![t.val / 64, t.val / 8 % 8, 0] ∧ win0_1.index t = ![t.val / 64, 0, 0]
    ∧ win0_4.index t = ![0, t.val % 8, 0, 0] ∧ win0_5.index t = ![0, t.val % 8, 0, 0] ∧ win0_6.index t = ![0, t.val % 8, 0, 0] := by
  decide +kernel

theorem idx0 : ∀ t : Fin cfg0.N, win0_2.index t = ![0, 0] ∧ win0_3.index t = ![0, 0] ∧ win0_7.index t = ![0, 0]
    ∧ win0_8.index t = ![0, 0] ∧ win0_9.index t = ![0, 0] ∧ win0_10.index t = ![0, 0] ∧ win0_11.index t = ![0, 0] := by
  decide +kernel

theorem xs_apply (t : Fin cfg0.N) (u : Fin 1) (r k : Fin 1024) (b : Fin 4) (q : Fin 8192) (hb : b.val = t.val / 64)
    (hq : q.val = t.val / 8 % 8 * 1024 + r.val) :
    xs m c t (ix3 u r k) = arg0 m c (ix3 b q k) := by
  unfold xs
  blk_ext [iblk, V, (idx t).1]
  · exact hb.symm
  · exact hq.symm

theorem mod_apply (t : Fin cfg0.N) (u v : Fin 1) (k : Fin 3072) (b : Fin 4) (hb : b.val = t.val / 64) :
    (iblk m c 1 t : S1x1x3072.Idx → EReal) (ix3 u v k) = arg1 m c (ix2 b k) := by
  refine Eq.trans ?_ (V_mod m c b 0 k)
  blk_ext [iblk, (idx t).2.1]
  exact hb.symm

theorem sh_apply (t : Fin cfg0.N) (u v : Fin 1) (k : Fin 1024) (b : Fin 4) (hb : b.val = t.val / 64) :
    sh m c t (ix3 u v k) = arg1 m c (ix2 b ⟨k.val, by omega⟩) := by
  refine Eq.trans ?_ (mod_apply m c t 0 0 ⟨k.val, by omega⟩ b hb)
  refine congrArg (iblk m c 1 t) (funext fun a => Fin.ext ?_)
  match a with
  | ⟨0, _⟩ => show 0 + 1 * u.val = 0; omega
  | ⟨1, _⟩ => show 0 + 1 * v.val = 0; omega
  | ⟨2, _⟩ => show 0 + 1 * k.val = k.val; omega

theorem sc_apply (t : Fin cfg0.N) (u v : Fin 1) (k : Fin 1024) (b : Fin 4) (hb : b.val = t.val / 64) :
    sc m c t (ix3 u v k) = arg1 m c (ix2 b ⟨1024 + k.val, by omega⟩) := by
  refine Eq.trans ?_ (mod_apply m c t 0 0 ⟨1024 + k.val, by omega⟩ b hb)
  refine congrArg (iblk m c 1 t) (funext fun a => Fin.ext ?_)
  match a with
  | ⟨0, _⟩ => show 0 + 1 * u.val = 0; omega
  | ⟨1, _⟩ => show 0 + 1 * v.val = 0; omega
  | ⟨2, _⟩ => show 1024 + 1 * k.val = 1024 + k.val; omega

theorem gm_apply (t : Fin cfg0.N) (u v : Fin 1) (k : Fin 1024) (b : Fin 4) (hb : b.val = t.val / 64) :
    gm m c t (ix3 u v k) = arg1 m c (ix2 b ⟨2048 + k.val, by omega⟩) := by
  refine Eq.trans ?_ (mod_apply m c t 0 0 ⟨2048 + k.val, by omega⟩ b hb)
  refine congrArg (iblk m c 1 t) (funext fun a => Fin.ext ?_)
  match a with
  | ⟨0, _⟩ => show 0 + 1 * u.val = 0; omega
  | ⟨1, _⟩ => show 0 + 1 * v.val = 0; omega
  | ⟨2, _⟩ => show 2048 + 1 * k.val = 2048 + k.val; omega

theorem rt_apply (t : Fin cfg0.N) (k : Fin 1024) (j : Fin 32) :
    rt m c t (ix2 k ⟨j.val, by omega⟩) = arg2 m c (ix2 k (expertOf j)) := by
  refine Eq.trans ?_ (V_rt m c k j)
  unfold rt
  blk_ext [iblk, (idx0 t).1]

theorem bs_apply (t : Fin cfg0.N) (j : Fin 32) (u : Fin 1) :
    bs m c t (ix2 j u) = arg3 m c (ix1 (expertOf j)) := by
  refine Eq.trans ?_ (V_bs m c j u)
  unfold bs
  blk_ext [iblk, (idx0 t).2.1]

theorem e1_apply (t : Fin cfg0.N) (u : Fin 1) (q : Fin 4) (k : Fin 1024) (f : Fin 256) (e : Fin 8) (he : e.val = t.val % 8) :
    (iblk m c 4 t : S1x4x1024x256.Idx → EReal) (ix4 u q k f) = arg4 m c (ix3 (Spec.member e q) k f) := by
  refine Eq.trans ?_ (V_w1 m c 0 (Spec.member e q) k f)
  blk_ext [iblk, (idx t).2.2.1]
  show t.val % 8 * 4 + q.val = 4 * e.val + q.val
  omega

theorem e3_apply (t : Fin cfg0.N) (u : Fin 1) (q : Fin 4) (k : Fin 1024) (f : Fin 256) (e : Fin 8) (he : e.val = t.val % 8) :
    (iblk m c 5 t : S1x4x1024x256.Idx → EReal) (ix4 u q k f) = arg5 m c (ix3 (Spec.member e q) k f) := by
  refine Eq.trans ?_ (V_w3 m c 0 (Spec.member e q) k f)
  blk_ext [iblk, (idx t).2.2.2.1]
  show t.val % 8 * 4 + q.val = 4 * e.val + q.val
  omega

theorem e2_apply (t : Fin cfg0.N) (u : Fin 1) (q : Fin 4) (f : Fin 256) (d : Fin 1024) (e : Fin 8) (he : e.val = t.val % 8) :
    (iblk m c 6 t : S1x4x256x1024.Idx → EReal) (ix4 u q f d) = arg6 m c (ix3 (Spec.member e q) f d) := by
  refine Eq.trans ?_ (V_w2 m c 0 (Spec.member e q) f d)
  blk_ext [iblk, (idx t).2.2.2.2]
  show t.val % 8 * 4 + q.val = 4 * e.val + q.val
  omega

theorem w1_apply (t : Fin cfg0.N) (q : Fin 4) (k : Fin 1024) (f : Fin 256) (e : Fin 8) (he : e.val = t.val % 8) :
    w1 m c t q (ix4 0 0 k f) = arg4 m c (ix3 (Spec.member e q) k f) := by
  refine Eq.trans ?_ (e1_apply m c t 0 q k f e he)
  have key : ∀ (o : Fin 4 → Nat) (inb : _), o = ![0, q.val, 0, 0] → View.ld (iblk m c 4 t) (Rect.unit (s := S1x4x1024x256) o S1x1x1024x256.size inb) (ix4 0 0 k f)
      = (iblk m c 4 t : S1x4x1024x256.Idx → EReal) (ix4 0 q k f) := by
    rintro o inb rfl
    refine congrArg (iblk m c 4 t) (funext fun a => Fin.ext ?_)
    match a with
    | ⟨0, _⟩ => rfl
    | ⟨1, _⟩ => show q.val + 1 * 0 = q.val; omega
    | ⟨2, _⟩ => show 0 + 1 * k.val = k.val; omega
    | ⟨3, _⟩ => show 0 + 1 * f.val = f.val; omega
  match q with
  | 0 => exact key _ _ rfl
  | 1 => exact key _ _ rfl
  | 2 => exact key _ _ rfl
  | 3 => exact key _ _ rfl

theorem w3_apply (t : Fin cfg0.N) (q : Fin 4) (k : Fin 1024) (f : Fin 256) (e : Fin 8) (he : e.val = t.val % 8) :
    w3 m c t q (ix4 0 0 k f) = arg5 m c (ix3 (Spec.member e q) k f) := by
  refine Eq.trans ?_ (e3_apply m c t 0 q k f e he)
  have key : ∀ (o : Fin 4 → Nat) (inb : _), o = ![0, q.val, 0, 0] → View.ld (iblk m c 5 t) (Rect.unit (s := S1x4x1024x256) o S1x1x1024x256.size inb) (ix4 0 0 k f)
      = (iblk m c 5 t : S1x4x1024x256.Idx → EReal) (ix4 0 q k f) := by
    rintro o inb rfl
    refine congrArg (iblk m c 5 t) (funext fun a => Fin.ext ?_)
    match a with
    | ⟨0, _⟩ => rfl
    | ⟨1, _⟩ => show q.val + 1 * 0 = q.val; omega
    | ⟨2, _⟩ => show 0 + 1 * k.val = k.val; omega
    | ⟨3, _⟩ => show 0 + 1 * f.val = f.val; omega
  match q with
  | 0 => exact key _ _ rfl
  | 1 => exact key _ _ rfl
  | 2 => exact key _ _ rfl
  | 3 => exact key _ _ rfl

theorem s1_apply (t : Fin cfg0.N) (k : Fin 1024) (f : Fin 256) :
    (iblk m c 7 t : S1024x256.Idx → EReal) (ix2 k f) = arg7 m c (ix2 k f) := by
  refine Eq.trans ?_ (V_s1 m c k f)
  blk_ext [iblk, (idx0 t).2.2.1]

theorem s3_apply (t : Fin cfg0.N) (k : Fin 1024) (f : Fin 256) :
    (iblk m c 8 t : S1024x256.Idx → EReal) (ix2 k f) = arg8 m c (ix2 k f) := by
  refine Eq.trans ?_ (V_s3 m c k f)
  blk_ext [iblk, (idx0 t).2.2.2.1]

theorem s2_apply (t : Fin cfg0.N) (f : Fin 256) (d : Fin 1024) :
    (iblk m c 9 t : S256x1024.Idx → EReal) (ix2 f d) = arg9 m c (ix2 f d) := by
  refine Eq.trans ?_ (V_s2 m c f d)
  blk_ext [iblk, (idx0 t).2.2.2.2.1]

theorem g_apply (t : Fin cfg0.N) (u : Fin 1) (k : Fin 1024) :
    (iblk m c 10 t : S1x1024.Idx → EReal) (ix2 u k) = arg10 m c (ix1 k) := by
  refine Eq.trans ?_ (V_g m c u k)
  blk_ext [iblk, (idx0 t).2.2.2.2.2.1]

theorem b_apply (t : Fin cfg0.N) (u : Fin 1) (k : Fin 1024) :
    (iblk m c 11 t : S1x1024.Idx → EReal) (ix2 u k) = arg11 m c (ix1 k) := by
  refine Eq.trans ?_ (V_b m c u k)
  blk_ext [iblk, (idx0 t).2.2.2.2.2.2]

end Cert.MoeIdeal.Host

end
-- ==== Proof.MoeLogit.lean ====
/-
  The kernel's scores: the product of the modulated input with the router taken in three parts of each operand, where
  over the extended reals the first part is the whole and, the values being finite, the others are zero.
-/
module

public import proofs.«01_k».proof.Proof.MoeRead
public import proofs.«01_k».proof.Proof.Gen.MoeIdeal.Skeleton

@[expose] public section

set_option maxRecDepth 16384

noncomputable section

namespace Cert.MoeIdeal.Logit

open Idealize.ShloMosaic Idealize.ShloMosaic.ValueIdx Cert.MoeIdeal Cert.MoeIdeal.Gen Cert.Moe Cert.Moe.Read

/-- A value that is a real. -/
def IsReal (x : EReal) : Prop := ∃ r : ℝ, x = (r : EReal)

theorem IsReal.sub_self {x : EReal} (h : IsReal x) : x - x = 0 := by
  obtain ⟨r, rfl⟩ := h
  rw [← EReal.coe_sub, _root_.sub_self, EReal.coe_zero]

theorem IsReal.add {x y : EReal} (h : IsReal x) (g : IsReal y) : IsReal (x + y) := by
  obtain ⟨r, rfl⟩ := h; obtain ⟨q, rfl⟩ := g
  exact ⟨r + q, (EReal.coe_add r q).symm⟩

theorem IsReal.mul {x y : EReal} (h : IsReal x) (g : IsReal y) : IsReal (x * y) := by
  obtain ⟨r, rfl⟩ := h; obtain ⟨q, rfl⟩ := g
  exact ⟨r * q, (EReal.coe_mul r q).symm⟩

theorem IsReal.sum {n : ℕ} {f : Fin n → EReal} (h : ∀ k, IsReal (f k)) : IsReal (∑ k, f k) :=
  Finset.sum_induction f IsReal (fun _ _ => IsReal.add) ⟨0, EReal.coe_zero.symm⟩ fun k _ => h k

/-- The logistic function of a real is positive. -/
theorem sigm_pos {x : EReal} (h : IsReal x) : 0 < Spec.sigm x := by
  obtain ⟨r, rfl⟩ := h
  have hp : (0 : ℝ) < 1 + Real.exp (-r) := by positivity
  have e : (1 : EReal) + Ideal.exp (-(r : EReal)) = ((1 + Real.exp (-r) : ℝ) : EReal) := by
    rw [EReal.coe_add, EReal.coe_one]; rfl
  unfold Spec.sigm
  rw [e]
  unfold Ideal.div
  rw [if_neg (by exact_mod_cast hp.ne'), one_mul, ← EReal.coe_inv]
  exact_mod_cast inv_pos.mpr hp

variable (sh sc : Vec Ideal S1x1x1024 .f32) (x : Vec Ideal S1x1024x1024 .f32) (q : Vec Ideal S1024x128 .f32) (t : Fin 1024)

theorem row_apply (v : Vec Ideal S1x1x1024 .f32) (h : S1x1x1024.ShapeCasts S1x1024) (k : Fin 1024) (u : Fin 1) :
    shapeCast S1x1024 v h (ix2 u k) = v (ix3 0 0 k) := by
  have hu : u = 0 := Subsingleton.elim _ _
  subst hu
  exact shapeCast_1ab_ab_apply v h 0 k

theorem hid_apply (k : Fin 1024) : (k0_pay3 sh sc x (ix2 t k) : EReal)
    = Spec.hid (fun k => x (ix3 0 t k)) (fun k => sh (ix3 0 0 k)) (fun k => sc (ix3 0 0 k)) k := by
  have e1 : shapeCast S1024x1024 x shapeCasts_S1x1024x1024_S1024x1024 (ix2 t k) = x (ix3 0 t k) := shapeCast_1ab_ab_apply x _ t k
  have e2 : broadcastTo S1024x1024 (shapeCast S1x1024 sh shapeCasts_S1x1x1024_S1x1024) broadcasts_S1x1024_S1024x1024 (ix2 t k)
      = sh (ix3 0 0 k) := (broadcastTo_1b_ab_apply _ _ t k).trans (row_apply sh _ k 0)
  have e3 : (broadcastTo S1024x1024 (addf (broadcast S1x1024 (Scalar.ofBits (F := Ideal) .f32 0x3F800000#32))
      (shapeCast S1x1024 sc shapeCasts_S1x1x1024_S1x1024)) broadcasts_S1x1024_S1024x1024 (ix2 t k) : EReal)
      = 1 + sc (ix3 0 0 k) := (broadcastTo_1b_ab_apply _ _ t k).trans
        (congr (congrArg (fun z w : EReal => z + w) Spec.bits_one) (row_apply sc _ k 0))
  show _ = (x (ix3 0 t k) : EReal) * (1 + sc (ix3 0 0 k)) + sh (ix3 0 0 k)
  rw [← e1, ← e2]
  exact congrArg (fun z : EReal => (shapeCast S1024x1024 x shapeCasts_S1x1024x1024_S1024x1024 (ix2 t k) : EReal) * z
    + broadcastTo S1024x1024 (shapeCast S1x1024 sh shapeCasts_S1x1x1024_S1x1024) broadcasts_S1x1024_S1024x1024 (ix2 t k)) e3

/-- The modulated input as the kernel keeps it. -/
theorem kept_apply (k : Fin 1024) : (k0_pay5 sh sc x (ix2 t k) : EReal)
    = Spec.hid (fun k => x (ix3 0 t k)) (fun k => sh (ix3 0 0 k)) (fun k => sc (ix3 0 0 k)) k := by
  unfold k0_pay5
  rw [shapeCast_self]
  exact hid_apply sh sc x t k

theorem first_apply (k : Fin 1024) (j : Fin 128) : (k0_pay8 q (ix2 k ⟨j.val, by omega⟩) : EReal) = q (ix2 k j) := by
  unfold k0_pay8
  rw [shapeCast_self]
  exact catCols_apply _ _ k _ 0 (by show 0 < 3; decide) _ rfl 0 rfl j (Nat.zero_add _)

theorem second_apply (k : Fin 1024) (j : Fin 128) (h : IsReal (q (ix2 k j))) :
    (k0_pay8 q (ix2 k ⟨128 + j.val, by omega⟩) : EReal) = 0 := by
  unfold k0_pay8
  rw [shapeCast_self]
  refine Eq.trans (catCols_apply _ _ k _ 1 (by show 1 < 3; decide) _ rfl 128 rfl j rfl) ?_
  exact h.sub_self

theorem third_apply (k : Fin 1024) (j : Fin 128) (h : IsReal (q (ix2 k j))) :
    (k0_pay8 q (ix2 k ⟨256 + j.val, by omega⟩) : EReal) = 0 := by
  unfold k0_pay8
  rw [shapeCast_self]
  refine Eq.trans (catCols_apply _ _ k _ 2 (by show 2 < 3; decide) _ rfl 256 rfl j rfl) ?_
  show ((q (ix2 k j) : EReal) - q (ix2 k j)) - ((q (ix2 k j) : EReal) - q (ix2 k j)) = 0
  rw [h.sub_self, sub_zero]

theorem pay9_apply (j : Fin 384) : (k0_pay9 sh sc x q (ix2 t j) : EReal)
    = ∑ k : Fin 1024, (k0_pay3 sh sc x (ix2 t k) : EReal) * k0_pay8 q (ix2 k j) :=
  mm_apply (φ₁ := .bf16) (φ₂ := .bf16) _ rfl _ _ t j

variable (hh : ∀ k, IsReal (k0_pay3 sh sc x (ix2 t k)))

include hh

theorem mid_zero (k : Fin 1024) : (k0_pay7 sh sc x (ix2 t k) : EReal) = 0 := (hh k).sub_self

theorem pay10_apply (j : Fin 256) : (k0_pay10 sh sc x q (ix2 t j) : EReal) = 0 := by
  refine (mm_apply (φ₁ := .bf16) (φ₂ := .bf16) _ rfl _ _ t j).trans (Finset.sum_eq_zero fun k _ => ?_)
  rw [show (k0_pay7 sh sc x (ix2 t k) : EReal) = 0 from mid_zero sh sc x t hh k, zero_mul]

theorem pay11_apply (j : Fin 128) : (k0_pay11 sh sc x q (ix2 t j) : EReal) = 0 := by
  refine (mm_apply (φ₁ := .bf16) (φ₂ := .bf16) _ rfl _ _ t j).trans (Finset.sum_eq_zero fun k _ => ?_)
  refine (congrArg (fun z : EReal => z * _) ?_).trans (zero_mul _)
  show (k0_pay7 sh sc x (ix2 t k) : EReal) - (k0_pay7 sh sc x (ix2 t k) : EReal) = 0
  rw [mid_zero sh sc x t hh k, sub_zero]

/-- A row's score of an expert, laid at row `j` of the scores. -/
theorem scores_apply (j : Fin 32) (hr : ∀ k, IsReal (q (ix2 k (⟨j.val, by omega⟩ : Fin 128)))) :
    (k0_pay14 (k0_pay9 sh sc x q) (k0_pay10 sh sc x q) (k0_pay11 sh sc x q) (k0_pay12 sh sc x q) (k0_pay13 sh sc x q)
      (ix2 j t) : EReal)
      = Spec.sigm (∑ k : Fin 1024, (k0_pay3 sh sc x (ix2 t k) : EReal) * q (ix2 k (⟨j.val, by omega⟩ : Fin 128))) := by
  unfold k0_pay14
  refine (sigm_apply Spec.bits_zero Spec.bits_one Spec.bits_one).trans (congrArg Spec.sigm ?_)
  refine Eq.trans (slice2_axis0_apply 0 _ _ j t (⟨j.val, by omega⟩ : Fin 128) (Nat.zero_add _).symm) ?_
  refine Eq.trans (transpose_ix2_apply _ _ _ _) ?_
  have n1 : (k0_pay9 sh sc x q (ix2 t (⟨128 + j.val, by omega⟩ : Fin 384)) : EReal) = 0 := by
    rw [pay9_apply]
    refine Finset.sum_eq_zero fun k _ => ?_
    rw [show (k0_pay8 q (ix2 k (⟨128 + j.val, by omega⟩ : Fin 384)) : EReal) = 0 from second_apply q k ⟨j.val, by omega⟩ (hr k), mul_zero]
  have n2 : (k0_pay9 sh sc x q (ix2 t (⟨256 + j.val, by omega⟩ : Fin 384)) : EReal) = 0 := by
    rw [pay9_apply]
    refine Finset.sum_eq_zero fun k _ => ?_
    rw [show (k0_pay8 q (ix2 k (⟨256 + j.val, by omega⟩ : Fin 384)) : EReal) = 0 from third_apply q k ⟨j.val, by omega⟩ (hr k), mul_zero]
  have e0 : (k0_pay12 sh sc x q (ix2 t (⟨j.val, by omega⟩ : Fin 128)) : EReal)
      = ∑ k : Fin 1024, (k0_pay3 sh sc x (ix2 t k) : EReal) * q (ix2 k (⟨j.val, by omega⟩ : Fin 128)) := by
    refine Eq.trans (slice2_axis1_apply 0 (k0_pay9 sh sc x q) slices_S1024x384_o0_0_S1024x128 t (⟨j.val, by omega⟩ : Fin 128)
      (⟨j.val, by omega⟩ : Fin 384) (Nat.zero_add _).symm) ?_
    rw [pay9_apply]
    refine Finset.sum_congr rfl fun k _ => congrArg ((k0_pay3 sh sc x (ix2 t k) : EReal) * ·) ?_
    exact first_apply q k ⟨j.val, by omega⟩
  have e1 : (k0_pay13 sh sc x q (ix2 t (⟨j.val, by omega⟩ : Fin 128)) : EReal) = 0 + 0 := by
    refine congr (congrArg (fun z w : EReal => z + w) ?_) ?_
    · exact Eq.trans (slice2_axis1_apply 128 _ _ t _ (⟨128 + j.val, by omega⟩ : Fin 384) rfl) n1
    · exact Eq.trans (slice2_axis1_apply 0 _ _ t _ (⟨j.val, by omega⟩ : Fin 256) (Nat.zero_add _).symm) (pay10_apply sh sc x q t hh _)
  have e2 : (extractStridedSlice S1024x128 ![0, 256] (k0_pay9 sh sc x q) slices_S1024x384_o0_256_S1024x128
      (ix2 t (⟨j.val, by omega⟩ : Fin 128)) : EReal) = 0 :=
    Eq.trans (slice2_axis1_apply 256 _ _ t _ (⟨256 + j.val, by omega⟩ : Fin 384) rfl) n2
  have e3 : (extractStridedSlice S1024x128 ![0, 128] (k0_pay10 sh sc x q) slices_S1024x256_o0_128_S1024x128
      (ix2 t (⟨j.val, by omega⟩ : Fin 128)) : EReal) = 0 :=
    Eq.trans (slice2_axis1_apply 128 _ _ t _ (⟨128 + j.val, by omega⟩ : Fin 256) rfl) (pay10_apply sh sc x q t hh _)
  have e4 := pay11_apply sh sc x q t hh (⟨j.val, by omega⟩ : Fin 128)
  have key := (congr (congrArg (fun z w : EReal => z + w) (congr (congrArg (fun z w : EReal => z + w) e0) e1))
    (congr (congrArg (fun z w : EReal => z + w) (congr (congrArg (fun z w : EReal => z + w) e2) e4)) e3))
  refine Eq.trans (b := ((∑ k : Fin 1024, (k0_pay3 sh sc x (ix2 t k) : EReal) * q (ix2 k (⟨j.val, by omega⟩ : Fin 128))) + (0 + 0)) + ((0 + 0) + 0))
    key ?_
  simp only [add_zero]

omit hh in
/-- The biased scores: the bias of the row added. -/
theorem biased_apply (v152 : FVec Ideal S1024x384 .f32) (v154 : FVec Ideal S1024x256 .f32)
    (v156 v157 v160 : FVec Ideal S1024x128 .f32) (b : Vec Ideal S32x1 .f32) (j : Fin 32) (t : Fin 1024) :
    (k0_pay15 v152 v154 v156 v157 v160 b (ix2 j t) : EReal)
      = (k0_pay14 v152 v154 v156 v157 v160 (ix2 j t) : EReal) + b (ix2 j (0 : Fin 1)) := by
  unfold k0_pay15
  rw [shapeCast_self]
  exact congrArg ((k0_pay14 v152 v154 v156 v157 v160 (ix2 j t) : EReal) + ·) (alongCols_apply (by decide) b _ j t)

end Cert.MoeIdeal.Logit

end
-- ==== Proof.MoeNorm.lean ====
/-
  The kernel's output: the residual sum and its layer norm, read at a row and a column.
-/
module

public import proofs.«01_k».proof.Proof.MoeRead
public import proofs.«01_k».proof.Proof.Gen.MoeIdeal.Skeleton

@[expose] public section

set_option maxRecDepth 16384

noncomputable section

namespace Cert.MoeIdeal.Norm

open Idealize.ShloMosaic Idealize.ShloMosaic.ValueIdx Cert.MoeIdeal Cert.MoeIdeal.Gen Cert.Moe Cert.Moe.Read

section Shape

variable {F : FTy → Type} [FloatOps F]

/-- The residual sum. -/
def resid (gm : Vec F S1x1x1024 .f32) (x : Vec F S1x1024x1024 .f32) (acc : Vec F S1024x1024 .f32) : FVec F S1024x1024 .f32 :=
  addf (mulf (broadcast S1024x1024 (Scalar.ofBits .f32 0x3FB504F3#32)) (shapeCast S1024x1024 x shapeCasts_S1x1024x1024_S1024x1024))
    (mulf (broadcastTo S1024x1024 (addf (broadcast S1x1024 (Scalar.ofBits .f32 0x3F800000#32))
      (shapeCast S1x1024 gm shapeCasts_S1x1x1024_S1x1024)) broadcasts_S1x1024_S1024x1024) acc)

/-- A row's sum over the width, as a column. -/
def avg (y : FVec F S1024x1024 .f32) : FVec F S1024x1 .f32 :=
  divf (shapeCast S1024x1 (multiReduction .add [1] S1024 y 0x00000000#32 reduces_S1024x1024_S1024 (.inl rfl) rfl)
    shapeCasts_S1024_S1024x1) (broadcast S1024x1 (Scalar.ofBits .f32 0x44800000#32))

/-- The rows less their means. -/
def centred (y : FVec F S1024x1024 .f32) : FVec F S1024x1024 .f32 :=
  subf y (broadcastTo S1024x1024 (avg y) broadcasts_S1024x1_S1024x1024)

/-- The layer norm of rows already centred. -/
def scaled (z : FVec F S1024x1024 .f32) (g b : Vec F S1x1024 .f32) : FVec F S1024x1024 .f32 :=
  addf (mulf (mulf z (broadcastTo S1024x1024
      (rsqrt (addf (avg (mulf z z)) (broadcast S1024x1 (Scalar.ofBits .f32 0x3727C5AC#32)))) broadcasts_S1024x1_S1024x1024))
      (broadcastTo S1024x1024 (shapeCast S1x1024 g shapeCasts_S1x1024_S1x1024) broadcasts_S1x1024_S1024x1024))
    (broadcastTo S1024x1024 (shapeCast S1x1024 b shapeCasts_S1x1024_S1x1024) broadcasts_S1x1024_S1024x1024)

theorem norm_eq (gm : Vec F S1x1x1024 .f32) (x : Vec F S1x1024x1024 .f32) (acc : Vec F S1024x1024 .f32) (g b : Vec F S1x1024 .f32) :
    k0_pay132 gm x acc g b = scaled (centred (resid gm x acc)) g b := rfl

end Shape

variable (r d : Fin 1024)

theorem resid_apply (gm : Vec Ideal S1x1x1024 .f32) (x : Vec Ideal S1x1024x1024 .f32) (acc : Vec Ideal S1024x1024 .f32) :
    (resid gm x acc (ix2 r d) : EReal)
      = Spec.resid (fun k => x (ix3 0 r k)) (fun k => gm (ix3 0 0 k)) (fun k => acc (ix2 r k)) d := by
  have e1 : shapeCast S1024x1024 x shapeCasts_S1x1024x1024_S1024x1024 (ix2 r d) = x (ix3 0 r d) := shapeCast_1ab_ab_apply x _ r d
  have e3 : (broadcastTo S1024x1024 (addf (broadcast S1x1024 (Scalar.ofBits (F := Ideal) .f32 0x3F800000#32))
      (shapeCast S1x1024 gm shapeCasts_S1x1x1024_S1x1024)) broadcasts_S1x1024_S1024x1024 (ix2 r d) : EReal)
      = 1 + gm (ix3 0 0 d) := (broadcastTo_1b_ab_apply _ _ r d).trans
        (congr (congrArg (fun z w : EReal => z + w) Spec.bits_one) (shapeCast_1ab_ab_apply gm _ 0 d))
  exact congr (congrArg (fun z w : EReal => Spec.alpha * z + w * (acc (ix2 r d) : EReal)) e1) e3

theorem avg_apply (y : FVec Ideal S1024x1024 .f32) (u : Fin 1) :
    (avg y (ix2 r u) : EReal) = Ideal.div (∑ d : Fin 1024, y (ix2 r d)) Spec.width := by
  refine congrArg (fun z : EReal => Ideal.div z Spec.width) ?_
  exact (col_apply _ _ r u).trans (rowSum_apply _ _ _ _ r)

theorem centred_apply (y : FVec Ideal S1024x1024 .f32) :
    (centred y (ix2 r d) : EReal) = y (ix2 r d) - Spec.mean (fun k => y (ix2 r k)) := by
  refine congrArg (fun z : EReal => (y (ix2 r d) : EReal) - z) ?_
  exact (alongCols_apply (by decide) _ _ r d).trans (avg_apply r y 0)

theorem scaled_apply (z : FVec Ideal S1024x1024 .f32) (g b : Vec Ideal S1x1024 .f32) :
    (scaled z g b (ix2 r d) : EReal)
      = (z (ix2 r d) : EReal) * Ideal.rsqrt (Ideal.div (∑ k : Fin 1024, (z (ix2 r k) : EReal) * z (ix2 r k)) Spec.width + Spec.eps)
          * g (ix2 0 d) + b (ix2 0 d) := by
  unfold scaled
  rw [shapeCast_self, shapeCast_self]
  have e1 : (broadcastTo S1024x1024 (rsqrt (addf (avg (mulf z z)) (broadcast S1024x1 (Scalar.ofBits (F := Ideal) .f32 0x3727C5AC#32))))
      broadcasts_S1024x1_S1024x1024 (ix2 r d) : EReal)
      = Ideal.rsqrt (Ideal.div (∑ k : Fin 1024, (z (ix2 r k) : EReal) * z (ix2 r k)) Spec.width + Spec.eps) :=
    (alongCols_apply (by decide) _ _ r d).trans (congrArg (fun q : EReal => Ideal.rsqrt (q + Spec.eps)) (avg_apply r _ 0))
  have e2 : broadcastTo S1024x1024 g broadcasts_S1x1024_S1024x1024 (ix2 r d) = g (ix2 0 d) := broadcastTo_1b_ab_apply _ _ r d
  have e3 : broadcastTo S1024x1024 b broadcasts_S1x1024_S1024x1024 (ix2 r d) = b (ix2 0 d) := broadcastTo_1b_ab_apply _ _ r d
  rw [← e1, ← e2, ← e3]
  rfl

/-- The stored block. -/
theorem stored_apply (gm : Vec Ideal S1x1x1024 .f32) (x : Vec Ideal S1x1024x1024 .f32) (acc : Vec Ideal S1024x1024 .f32)
    (g b : Vec Ideal S1x1024 .f32) (u : Fin 1) :
    (k0_pay2 (k0_pay132 gm x acc g b) (ix3 u r d) : EReal)
      = Spec.norm (Spec.resid (fun k => x (ix3 0 r k)) (fun k => gm (ix3 0 0 k)) (fun k => acc (ix2 r k)))
          (fun k => g (ix2 0 k)) (fun k => b (ix2 0 k)) d := by
  have hu : u = 0 := Subsingleton.elim _ _
  subst hu
  rw [norm_eq]
  unfold k0_pay2
  refine Eq.trans (shapeCast_ab_1ab_apply _ _ _ r d) ?_
  rw [scaled_apply]
  have hc : ∀ k, (centred (resid gm x acc) (ix2 r k) : EReal)
      = Spec.resid (fun k => x (ix3 0 r k)) (fun k => gm (ix3 0 0 k)) (fun k => acc (ix2 r k)) k
        - Spec.mean (Spec.resid (fun k => x (ix3 0 r k)) (fun k => gm (ix3 0 0 k)) (fun k => acc (ix2 r k))) := fun k => by
    rw [centred_apply, resid_apply]
    exact congrArg (fun f => _ - Spec.mean f) (funext fun k => resid_apply r k gm x acc)
  simp only [hc]
  rfl

end Cert.MoeIdeal.Norm

end
-- ==== Proof.MoeFold.lean ====
/-
  The eight steps of a block: the modulated rows and the gates are set at the first step and kept, each step adds its
  four experts to the sum the shared expert started, and the last step stores the normalised residual. Read off the
  arguments, an output element is the layer's.
-/
module

public import proofs.«01_k».proof.Proof.MoeHost
public import proofs.«01_k».proof.Proof.MoeLogit
public import proofs.«01_k».proof.Proof.MoeNorm

@[expose] public section

set_option maxRecDepth 65536
set_option maxHeartbeats 1000000

noncomputable section

namespace Cert.MoeIdeal.Fold

open Idealize.ShloMosaic hiding ix1 ix2 ix3 ix4
open Idealize.ShloMosaic.ValueIdx Idealize.SL.Sem Cert.MoeIdeal Cert.MoeIdeal.Gen Cert.MoeIdeal.Value Cert.MoeIdeal.Open Cert.MoeIdeal.Host
  Cert.MoeIdeal.Logit Cert.Moe

variable (m : (ℓ : Loc nD τ sig) → Buf (Elt Ideal) ℓ) (c : Dev nD) (b : Fin 4) (q : Fin 8192)

/-- The rows of the arguments an output row reads. -/
def xr (k : Fin 1024) : EReal := arg0 m c (ix3 b q k)
def shr (k : Fin 1024) : EReal := arg1 m c (ix2 b ⟨k.val, by omega⟩)
def scr (k : Fin 1024) : EReal := arg1 m c (ix2 b ⟨1024 + k.val, by omega⟩)
def gmr (k : Fin 1024) : EReal := arg1 m c (ix2 b ⟨2048 + k.val, by omega⟩)
def rwr (k : Fin 1024) (e : Fin 32) : EReal := arg2 m c (ix2 k e)
def rbr (e : Fin 32) : EReal := arg3 m c (ix1 e)
def W1 (e : Fin 32) (k : Fin 1024) (f : Fin 256) : EReal := arg4 m c (ix3 e k f)
def W3 (e : Fin 32) (k : Fin 1024) (f : Fin 256) : EReal := arg5 m c (ix3 e k f)
def W2 (e : Fin 32) (f : Fin 256) (d : Fin 1024) : EReal := arg6 m c (ix3 e f d)
def S1 (k : Fin 1024) (f : Fin 256) : EReal := arg7 m c (ix2 k f)
def S3 (k : Fin 1024) (f : Fin 256) : EReal := arg8 m c (ix2 k f)
def S2 (f : Fin 256) (d : Fin 1024) : EReal := arg9 m c (ix2 f d)
def gv (d : Fin 1024) : EReal := arg10 m c (ix1 d)
def bv (d : Fin 1024) : EReal := arg11 m c (ix1 d)

/-- The modulated row, the scores, the biased scores and the gates. -/
def hr : Fin 1024 → EReal := Spec.hid (xr m c b q) (shr m c b) (scr m c b)
def sr : Fin 32 → EReal := Spec.score (hr m c b q) (rwr m c)
def br (e : Fin 32) : EReal := sr m c b q e + rbr m c e
def gt : Fin 32 → EReal := Spec.gate (sr m c b q) (br m c b q)

/-- What an expert adds at an output column. -/
def expert (d : Fin 1024) (e : Fin 32) : EReal :=
  ∑ f, Spec.act (hr m c b q) (W1 m c e) (W3 m c e) f * gt m c b q e * W2 m c e f d

/-- What the step over group `e` adds. -/
def part (d : Fin 1024) (e : Fin 8) : EReal := ∑ k : Fin 4, expert m c b q d (Spec.member e k)

/-- The shared expert's part. -/
def own : Fin 1024 → EReal := Spec.shared (hr m c b q) (S1 m c) (S3 m c) (S2 m c)

section Rows

variable (v152 : FVec Ideal S1024x384 .f32) (v154 : FVec Ideal S1024x256 .f32) (v156 v157 v160 : FVec Ideal S1024x128 .f32)
  (v169 : Vec Ideal S32x1 .f32)

/-- The four rows' blocks of the scores and of the biased scores. -/
def four : Fin 4 → FVec Ideal S8x1024 .f32
  | 0 => k0_pay16 v152 v154 v156 v157 v160
  | 1 => k0_pay17 v152 v154 v156 v157 v160
  | 2 => k0_pay18 v152 v154 v156 v157 v160
  | 3 => k0_pay19 v152 v154 v156 v157 v160
def fourB : Fin 4 → FVec Ideal S8x1024 .f32
  | 0 => k0_pay20 v152 v154 v156 v157 v160 v169
  | 1 => k0_pay21 v152 v154 v156 v157 v160 v169
  | 2 => k0_pay22 v152 v154 v156 v157 v160 v169
  | 3 => k0_pay23 v152 v154 v156 v157 v160 v169

theorem four_apply (g : Fin 8) (r : Fin 1024) (k : Fin 4) (h : 8 * k.val + g.val < 32) :
    four v152 v154 v156 v157 v160 k (ix2 g r) = k0_pay14 v152 v154 v156 v157 v160 (ix2 ⟨8 * k.val + g.val, h⟩ r) := by
  match k with
  | 0 => exact slice2_axis0_apply 0 (k0_pay14 v152 v154 v156 v157 v160) slices_S32x1024_o0_0_S8x1024 g r ⟨8 * 0 + g.val, h⟩ (by show 8 * 0 + g.val = 0 + g.val; omega)
  | 1 => exact slice2_axis0_apply 8 (k0_pay14 v152 v154 v156 v157 v160) slices_S32x1024_o8_0_S8x1024 g r ⟨8 * 1 + g.val, h⟩ (by show 8 * 1 + g.val = 8 + g.val; omega)
  | 2 => exact slice2_axis0_apply 16 (k0_pay14 v152 v154 v156 v157 v160) slices_S32x1024_o16_0_S8x1024 g r ⟨8 * 2 + g.val, h⟩ (by show 8 * 2 + g.val = 16 + g.val; omega)
  | 3 => exact slice2_axis0_apply 24 (k0_pay14 v152 v154 v156 v157 v160) slices_S32x1024_o24_0_S8x1024 g r ⟨8 * 3 + g.val, h⟩ (by show 8 * 3 + g.val = 24 + g.val; omega)

theorem fourB_apply (g : Fin 8) (r : Fin 1024) (k : Fin 4) (h : 8 * k.val + g.val < 32) :
    fourB v152 v154 v156 v157 v160 v169 k (ix2 g r) = k0_pay15 v152 v154 v156 v157 v160 v169 (ix2 ⟨8 * k.val + g.val, h⟩ r) := by
  match k with
  | 0 => exact slice2_axis0_apply 0 (k0_pay15 v152 v154 v156 v157 v160 v169) slices_S32x1024_o0_0_S8x1024 g r ⟨8 * 0 + g.val, h⟩ (by show 8 * 0 + g.val = 0 + g.val; omega)
  | 1 => exact slice2_axis0_apply 8 (k0_pay15 v152 v154 v156 v157 v160 v169) slices_S32x1024_o8_0_S8x1024 g r ⟨8 * 1 + g.val, h⟩ (by show 8 * 1 + g.val = 8 + g.val; omega)
  | 2 => exact slice2_axis0_apply 16 (k0_pay15 v152 v154 v156 v157 v160 v169) slices_S32x1024_o16_0_S8x1024 g r ⟨8 * 2 + g.val, h⟩ (by show 8 * 2 + g.val = 16 + g.val; omega)
  | 3 => exact slice2_axis0_apply 24 (k0_pay15 v152 v154 v156 v157 v160 v169) slices_S32x1024_o24_0_S8x1024 g r ⟨8 * 3 + g.val, h⟩ (by show 8 * 3 + g.val = 24 + g.val; omega)

end Rows

theorem hr_real (hx : ∀ i, IsReal (arg0 m c i)) (hm : ∀ (b : Fin 4) (k : Fin 2048), IsReal (arg1 m c (ix2 b ⟨k.val, by omega⟩))) (k : Fin 1024) :
    IsReal (hr m c b q k) := by
  have e1 : IsReal (1 : EReal) := ⟨1, EReal.coe_one.symm⟩
  exact ((hx _).mul (e1.add (hm b ⟨1024 + k.val, by omega⟩))).add (hm b ⟨k.val, by omega⟩)

theorem sr_pos (hx : ∀ i, IsReal (arg0 m c i)) (hm : ∀ (b : Fin 4) (k : Fin 2048), IsReal (arg1 m c (ix2 b ⟨k.val, by omega⟩)))
    (hw : ∀ i, IsReal (arg2 m c i)) (e : Fin 32) : 0 < sr m c b q e :=
  sigm_pos (IsReal.sum fun k => (hr_real m c b q hx hm k).mul (hw _))

section Point

variable (t : Fin cfg0.N) (r : Fin 1024) (hb : b.val = t.val / 64) (hq : q.val = t.val / 8 % 8 * 1024 + r.val)

include hb hq

theorem hid_eq : Spec.hid (fun k => xs m c t (ix3 0 r k)) (fun k => sh m c t (ix3 0 0 k)) (fun k => sc m c t (ix3 0 0 k))
    = hr m c b q := by
  have e1 : (fun k => xs m c t (ix3 0 r k)) = xr m c b q := funext fun k => xs_apply m c t 0 r k b q hb hq
  have e2 : (fun k => sh m c t (ix3 0 0 k)) = shr m c b := funext fun k => sh_apply m c t 0 0 k b hb
  have e3 : (fun k => sc m c t (ix3 0 0 k)) = scr m c b := funext fun k => sc_apply m c t 0 0 k b hb
  rw [e1, e2, e3]; rfl

theorem hAt_apply (k : Fin 1024) : hAt m c t (ix2 r k) = hr m c b q k := by
  refine (kept_apply _ _ _ r k).trans ?_
  rw [hid_eq m c b q t r hb hq]

theorem hid_at (k : Fin 1024) : k0_pay3 (sh m c t) (sc m c t) (xs m c t) (ix2 r k) = hr m c b q k := by
  refine (hid_apply _ _ _ r k).trans ?_
  rw [hid_eq m c b q t r hb hq]

theorem sharedAt_apply (d : Fin 1024) : sharedAt m c t (ix2 r d) = own m c b q d := by
  refine (Step.shared_apply (k0_pay4 (sh m c t) (sc m c t) (xs m c t)) r _ _ _ d).trans ?_
  have e0 : (fun k => k0_pay4 (sh m c t) (sc m c t) (xs m c t) (ix2 r k) : Fin 1024 → EReal) = hr m c b q :=
    funext fun k => hid_at m c b q t r hb hq k
  have e1 : (fun k f => (iblk m c 7 t : S1024x256.Idx → EReal) (ix2 k f)) = S1 m c := funext fun k => funext fun f => s1_apply m c t k f
  have e3 : (fun k f => (iblk m c 8 t : S1024x256.Idx → EReal) (ix2 k f)) = S3 m c := funext fun k => funext fun f => s3_apply m c t k f
  have e2 : (fun f d => (iblk m c 9 t : S256x1024.Idx → EReal) (ix2 f d)) = S2 m c := funext fun f => funext fun d => s2_apply m c t f d
  unfold own
  rw [← e0, ← e1, ← e3, ← e2]

variable (hx : ∀ i, IsReal (arg0 m c i)) (hm : ∀ (b : Fin 4) (k : Fin 2048), IsReal (arg1 m c (ix2 b ⟨k.val, by omega⟩)))
  (hw : ∀ i, IsReal (arg2 m c i))

include hx hm hw

theorem score_at (j : Fin 32) :
    k0_pay14 (k0_pay9 (sh m c t) (sc m c t) (xs m c t) (rt m c t)) (k0_pay10 (sh m c t) (sc m c t) (xs m c t) (rt m c t))
      (k0_pay11 (sh m c t) (sc m c t) (xs m c t) (rt m c t)) (k0_pay12 (sh m c t) (sc m c t) (xs m c t) (rt m c t))
      (k0_pay13 (sh m c t) (sc m c t) (xs m c t) (rt m c t)) (ix2 j r) = sr m c b q (expertOf j) := by
  refine (scores_apply _ _ _ _ r (fun k => ?_) j fun k => ?_).trans ?_
  · rw [hid_at m c b q t r hb hq k]; exact hr_real m c b q hx hm k
  · rw [rt_apply m c t k j]; exact hw _
  · refine congrArg Spec.sigm (Finset.sum_congr rfl fun k _ => ?_)
    rw [hid_at m c b q t r hb hq k, rt_apply m c t k j]; rfl

theorem biased_at (j : Fin 32) :
    k0_pay15 (k0_pay9 (sh m c t) (sc m c t) (xs m c t) (rt m c t)) (k0_pay10 (sh m c t) (sc m c t) (xs m c t) (rt m c t))
      (k0_pay11 (sh m c t) (sc m c t) (xs m c t) (rt m c t)) (k0_pay12 (sh m c t) (sc m c t) (xs m c t) (rt m c t))
      (k0_pay13 (sh m c t) (sc m c t) (xs m c t) (rt m c t)) (bs m c t) (ix2 j r) = br m c b q (expertOf j) := by
  refine (biased_apply _ _ _ _ _ _ j r).trans ?_
  rw [score_at m c b q t r hb hq hx hm hw j, bs_apply m c t j 0]; rfl

omit hb hq hx hm hw in
theorem expertOf_row (g : Fin 8) (k : Fin 4) (h : 8 * k.val + g.val < 32) : expertOf ⟨8 * k.val + g.val, h⟩ = Spec.member g k := by
  revert g k; decide

theorem gAt_apply (g : Fin 8) (k : Fin 4) (hj : 8 * k.val + g.val < 128) :
    gAt m c t (ix2 r ⟨8 * k.val + g.val, hj⟩) = gt m c b q (Spec.member g k) := by
  unfold gAt
  rw [Gates.chain_eq]
  refine Gates.gates_apply r (sr m c b q) (br m c b q) (four _ _ _ _ _) (fourB _ _ _ _ _ _)
    (fun g k => ?_) (fun g k => ?_) (Gates.total_ne_zero _ _ fun e => sr_pos m c b q hx hm hw e) g k hj
  · refine (four_apply _ _ _ _ _ g r k (by omega)).trans ?_
    exact (score_at m c b q t r hb hq hx hm hw ⟨8 * k.val + g.val, by omega⟩).trans (congrArg (sr m c b q) (expertOf_row g k _))
  · refine (fourB_apply _ _ _ _ _ _ g r k (by omega)).trans ?_
    exact (biased_at m c b q t r hb hq hx hm hw ⟨8 * k.val + g.val, by omega⟩).trans (congrArg (br m c b q) (expertOf_row g k _))

end Point

theorem coord : ∀ t : Fin cfg0.N, (grid0.coords t 2).val = t.val % 8 := by decide +kernel

theorem stepAt_eq (t : Fin cfg0.N) (e : Fin 8) (he : e.val = t.val % 8) (h : Vec Ideal S1024x1024 .bf16) (G : Vec Ideal S1024x128 .f32)
    (acc : Vec Ideal S1024x1024 .f32) :
    stepAt m c t h G acc = Step.step e h G (w1 m c t) (w3 m c t) (iblk m c 6 t) acc := by
  unfold stepAt Step.step
  rw [Step.first_eq, Step.second_eq, Step.third_eq, Step.fourth_eq, coord t, ← he]

/-- A step from a row's modulated entries and gates adds the step's part. -/
theorem stepAt_apply (t : Fin cfg0.N) (r : Fin 1024) (e : Fin 8) (he : e.val = t.val % 8) (h : Vec Ideal S1024x1024 .bf16)
    (G : Vec Ideal S1024x128 .f32) (acc : Vec Ideal S1024x1024 .f32) (d : Fin 1024)
    (hh : ∀ k, h (ix2 r k) = hr m c b q k)
    (hG : ∀ (g : Fin 8) (k : Fin 4) (hj : 8 * k.val + g.val < 128), G (ix2 r ⟨8 * k.val + g.val, hj⟩) = gt m c b q (Spec.member g k)) :
    (stepAt m c t h G acc (ix2 r d) : EReal) = (acc (ix2 r d) : EReal) + part m c b q d e := by
  rw [stepAt_eq m c t e he]
  refine (Step.step_apply h r e G _ _ _ acc d).trans (congrArg ((acc (ix2 r d) : EReal) + ·) ?_)
  refine Finset.sum_congr rfl fun k _ => Finset.sum_congr rfl fun f _ => ?_
  have e0 : (fun k => h (ix2 r k) : Fin 1024 → EReal) = hr m c b q := funext hh
  have e1 : (fun k' f => w1 m c t k (ix4 0 0 k' f) : Fin 1024 → Fin 256 → EReal) = W1 m c (Spec.member e k) :=
    funext fun k' => funext fun f => w1_apply m c t k k' f e he
  have e3 : (fun k' f => w3 m c t k (ix4 0 0 k' f) : Fin 1024 → Fin 256 → EReal) = W3 m c (Spec.member e k) :=
    funext fun k' => funext fun f => w3_apply m c t k k' f e he
  have key : Spec.act (fun k => h (ix2 r k)) (fun k' f => w1 m c t k (ix4 0 0 k' f)) (fun k' f => w3 m c t k (ix4 0 0 k' f)) f
      = Spec.act (hr m c b q) (W1 m c (Spec.member e k)) (W3 m c (Spec.member e k)) f := by rw [e0, e1, e3]
  exact congr (congrArg (fun z w : EReal => z * w) (congr (congrArg (fun z w : EReal => z * w) key) (hG e k _)))
    (e2_apply m c t 0 k f d e he)

/-- The part of a step, numbered. -/
def partAt (d : Fin 1024) (n : ℕ) : EReal := part m c b q d ⟨n % 8, Nat.mod_lt _ (by decide)⟩

section Block

variable (hx : ∀ i, IsReal (arg0 m c i)) (hm : ∀ (b : Fin 4) (k : Fin 2048), IsReal (arg1 m c (ix2 b ⟨k.val, by omega⟩)))
  (hw : ∀ i, IsReal (arg2 m c i)) (i : Fin 8) (r : Fin 1024) (hq : q.val = i.val * 1024 + r.val)

include hx hm hw hq

/-- What the kept blocks hold after the step `n`. -/
theorem kept (n : ℕ) (hn : n < 7) (hN : 64 * b.val + 8 * i.val + n < cfg0.N) :
    (∀ k, (outsAt0 m c (64 * b.val + 8 * i.val + n) hN).2.1 (ix2 r k) = hr m c b q k)
    ∧ (∀ (g : Fin 8) (k : Fin 4) (hj : 8 * k.val + g.val < 128),
        (outsAt0 m c (64 * b.val + 8 * i.val + n) hN).2.2.1 (ix2 r ⟨8 * k.val + g.val, hj⟩) = gt m c b q (Spec.member g k))
    ∧ ∀ d, (outsAt0 m c (64 * b.val + 8 * i.val + n) hN).2.2.2 (ix2 r d)
        = own m c b q d + ∑ e ∈ Finset.range (n + 1), partAt m c b q d e := by
  induction n with
  | zero =>
    have h0 : (64 * b.val + 8 * i.val + 0) % 8 = 0 := by omega
    have hb' : b.val = (64 * b.val + 8 * i.val + 0) / 64 := by omega
    have hq' : q.val = (64 * b.val + 8 * i.val + 0) / 8 % 8 * 1024 + r.val := by omega
    have hH := fun k => hAt_apply m c b q ⟨_, hN⟩ r hb' hq' k
    have hG := fun g k hj => gAt_apply m c b q ⟨_, hN⟩ r hb' hq' hx hm hw g k hj
    refine ⟨fun k => ?_, fun g k hj => ?_, fun d => ?_⟩
    · exact (congrFun (first_h m c ⟨_, hN⟩ h0 (by dsimp only; omega)) _).trans (hH k)
    · exact (congrFun (first_g m c ⟨_, hN⟩ h0 (by dsimp only; omega)) _).trans (hG g k hj)
    · refine (congrFun (first_acc m c ⟨_, hN⟩ h0 (by dsimp only; omega)) _).trans ?_
      refine (stepAt_apply m c b q ⟨_, hN⟩ r 0 h0.symm _ _ _ d hH hG).trans ?_
      rw [sharedAt_apply m c b q ⟨_, hN⟩ r hb' hq' d, Finset.sum_range_one]
      rfl
  | succ n ih =>
    have h0 : ¬ (64 * b.val + 8 * i.val + (n + 1)) % 8 = 0 := by omega
    have h1 : ¬ (64 * b.val + 8 * i.val + (n + 1)) % 8 = 7 := by omega
    have hP : 64 * b.val + 8 * i.val + n < cfg0.N := by omega
    obtain ⟨iH, iG, iA⟩ := ih (by omega) hP
    refine ⟨fun k => ?_, fun g k hj => ?_, fun d => ?_⟩
    · exact (congrFun (next_h m c ⟨_, hN⟩ h0 h1 hP) _).trans (iH k)
    · exact (congrFun (next_g m c ⟨_, hN⟩ h0 h1 hP) _).trans (iG g k hj)
    · refine (congrFun (next_acc m c ⟨_, hN⟩ h0 h1 hP) _).trans ?_
      refine (stepAt_apply m c b q ⟨_, hN⟩ r ⟨(n + 1) % 8, by omega⟩ (by dsimp only; omega) _ _ _ d iH iG).trans ?_
      refine Eq.trans (congrArg (fun z : EReal => z + partAt m c b q d (n + 1)) (iA d)) ?_
      rw [Finset.sum_range_succ _ (n + 1), ← add_assoc]

theorem out_apply (hN : 64 * b.val + 8 * i.val + 7 < cfg0.N) (d : Fin 1024) :
    (outsAt0 m c (64 * b.val + 8 * i.val + 7) hN).1 (ix3 0 r d)
      = Spec.out (xr m c b q) (shr m c b) (scr m c b) (gmr m c b) (rwr m c) (rbr m c) (W1 m c) (W3 m c) (W2 m c) (S1 m c) (S3 m c)
          (S2 m c) (gv m c) (bv m c) d := by
  have h0 : ¬ (64 * b.val + 8 * i.val + 7) % 8 = 0 := by omega
  have h1 : (64 * b.val + 8 * i.val + 7) % 8 = 7 := by omega
  have hP : 64 * b.val + 8 * i.val + 6 < cfg0.N := by omega
  obtain ⟨iH, iG, iA⟩ := kept m c b q hx hm hw i r hq 6 (by omega) hP
  have hb' : b.val = (64 * b.val + 8 * i.val + 7) / 64 := by omega
  have hq' : q.val = (64 * b.val + 8 * i.val + 7) / 8 % 8 * 1024 + r.val := by omega
  refine (congrFun (last_out m c ⟨_, hN⟩ h0 h1 hP) _).trans ?_
  refine (Norm.stored_apply r d _ _ _ _ _ 0).trans ?_
  have e1 : (fun k => xs m c ⟨_, hN⟩ (ix3 0 r k) : Fin 1024 → EReal) = xr m c b q := funext fun k => xs_apply m c ⟨_, hN⟩ 0 r k b q hb' hq'
  have e2 : (fun k => gm m c ⟨_, hN⟩ (ix3 0 0 k) : Fin 1024 → EReal) = gmr m c b := funext fun k => gm_apply m c ⟨_, hN⟩ 0 0 k b hb'
  have e3 : (fun k => (iblk m c 10 ⟨_, hN⟩ : S1x1024.Idx → EReal) (ix2 0 k)) = gv m c := funext fun k => g_apply m c ⟨_, hN⟩ 0 k
  have e4 : (fun k => (iblk m c 11 ⟨_, hN⟩ : S1x1024.Idx → EReal) (ix2 0 k)) = bv m c := funext fun k => b_apply m c ⟨_, hN⟩ 0 k
  have e5 : (fun k => stepAt m c ⟨_, hN⟩ (outsAt0 m c _ hP).2.1 (outsAt0 m c _ hP).2.2.1 (outsAt0 m c _ hP).2.2.2 (ix2 r k) : Fin 1024 → EReal)
      = fun d => Spec.routed (hr m c b q) (gt m c b q) (W1 m c) (W3 m c) (W2 m c) d + own m c b q d := funext fun d => by
    refine (stepAt_apply m c b q ⟨_, hN⟩ r 7 h1.symm _ _ _ d iH iG).trans ?_
    have key : own m c b q d + (∑ e ∈ Finset.range 7, partAt m c b q d e) + partAt m c b q d 7
        = Spec.routed (hr m c b q) (gt m c b q) (W1 m c) (W3 m c) (W2 m c) d + own m c b q d := by
      rw [add_assoc, ← Finset.sum_range_succ, add_comm, Finset.sum_range]
      refine congrArg (· + own m c b q d) ?_
      refine Eq.trans ?_ ((Beat.sum_member (expert m c b q d)).trans Finset.sum_comm).symm
      refine Finset.sum_congr rfl fun e _ => congrArg (part m c b q d) (Fin.ext ?_)
      exact Nat.mod_eq_of_lt e.isLt
    refine Eq.trans ?_ key
    exact congrArg (fun z : EReal => z + partAt m c b q d 7) (iA d)
  rw [e1, e2, e3, e4]
  refine congrArg (fun o => Spec.norm (Spec.resid (xr m c b q) (gmr m c b) o) (gv m c) (bv m c) d) ?_
  exact e5

theorem G12_apply (d : Fin 1024) :
    G12 m c (ix3 b q d)
      = Spec.out (xr m c b q) (shr m c b) (scr m c b) (gmr m c b) (rwr m c) (rbr m c) (W1 m c) (W3 m c) (W2 m c) (S1 m c) (S3 m c)
          (S2 m c) (gv m c) (bv m c) d := by
  have hN : 64 * b.val + 8 * i.val + 7 < cfg0.N := by
    have : cfg0.N = 256 := by decide
    omega
  have hp : pt12Of (ix3 b q d) = 64 * b.val + 8 * i.val + 7 := by
    show 8 * (8 * (b.val / 1 - 0) + 1 * (q.val / 1024 - 0) + 1 * (d.val / 1024 - 0)) + 7 = _
    omega
  have hl : loc12Of (ix3 b q d) = ix3 0 r d := by
    funext a
    refine Fin.ext ?_
    match a with
    | ⟨0, _⟩ => show b.val % 1 = 0; omega
    | ⟨1, _⟩ => show q.val % 1024 = r.val; omega
    | ⟨2, _⟩ => show d.val % 1024 = d.val; omega
  refine Eq.trans ?_ (out_apply m c b q hx hm hw i r hq hN d)
  have key : ∀ (p : ℕ) (_ : p = 64 * b.val + 8 * i.val + 7) (h : p < cfg0.N) (h' : 0 + p < cfg0.N),
      (Pipeline.accAt (fun n h => stAt0 m c n h junk0) (stAt0 m c) 0 p h').1 = (outsAt0 m c (64 * b.val + 8 * i.val + 7) hN).1 := by
    rintro p rfl h h'
    exact (congrArg Prod.fst (outsAt0_sweep m c _ hN)).symm
  unfold G12
  rw [dif_pos (hp ▸ hN : pt12Of (ix3 b q d) < cfg0.N), hl]
  exact congrFun (key _ hp (hp ▸ hN) _) _

end Block

end Cert.MoeIdeal.Fold

end
-- ==== Proof.MoePre.lean ====
/-
  The precondition read: the tokens, the shift and the scale, and the router's columns are real numbers.
-/
module

public import proofs.«01_k».proof.Proof.MoeLogit
public import proofs.«01_k».proof.Pre_router_inputs_finite
public import Idealize.ShloMosaic.Lib.ReduceAll

@[expose] public section

set_option maxRecDepth 65536

noncomputable section

namespace Cert.Moe.Pre

open Idealize.ShloMosaic Idealize.ShloMosaic.ValueIdx Cert.Pre_router_inputs_finite Cert.MoeIdeal.Logit

/-- The side conditions of the predicate's operations. -/
instance facts : Cert.Pre_router_inputs_finite.Facts where
  bcast_S_S4x8192x1024 := by decide
  reducesTo_S4x8192x1024_S_d0_1_2 := by decide
  h_S_ := by decide
  slices_S4x3072_S4x2048_0_0 := by decide
  bcast_S_S4x2048 := by decide
  reducesTo_S4x2048_S_d0_1 := by decide
  bcast_S_S1024x32 := by decide
  reducesTo_S1024x32_S_d0_1 := by decide

theorem bits_top : Ideal.ofBits .f32 0x7F800000#32 = ⊤ := by simp [Ideal.ofBits, Ideal.ieee]

theorem real_of_lt {x : EReal} (h : BitVec.ofBool (decide (max x (-x) < Ideal.ofBits .f32 0x7F800000#32)) = 1#1) : IsReal x := by
  rw [bits_top] at h
  have h' : max x (-x) < ⊤ := by
    by_contra hn
    rw [decide_eq_false hn] at h
    exact absurd h (by decide)
  induction x using EReal.rec with
  | bot => exact absurd h' (by simp)
  | top => exact absurd h' (by simp)
  | coe r => exact ⟨r, rfl⟩

theorem and_one {x y : BitVec 1} (h : IntOp.andi x y = 1#1) : x = 1#1 ∧ y = 1#1 := by
  revert x y; decide

instance : Subsingleton S_.Idx := ⟨fun a b => funext fun i => i.elim0⟩

variable (x0 : FVec Ideal S4x8192x1024 .f32) (x1 : FVec Ideal S4x3072 .f32) (x2 : FVec Ideal S1024x32 .f32) (x3 : FVec Ideal S32 .f32)
  (x4 x5 : FVec Ideal S32x1024x256 .f32) (x6 : FVec Ideal S32x256x1024 .f32) (x7 x8 : FVec Ideal S1024x256 .f32)
  (x9 : FVec Ideal S256x1024 .f32) (x10 x11 : FVec Ideal S1024 .f32)

theorem reals (h : fn x0 x1 x2 x3 x4 x5 x6 x7 x8 x9 x10 x11 = fun _ => 1#1) :
    (∀ i, IsReal (x0 i)) ∧ (∀ (b : Fin 4) (k : Fin 2048), IsReal (x1 (ix2 b ⟨k.val, by omega⟩))) ∧ ∀ i, IsReal (x2 i) := by
  have h0 := congrFun h (fun a => a.elim0)
  obtain ⟨h1, h2⟩ := and_one h0
  obtain ⟨h3, h4⟩ := and_one h1
  refine ⟨fun i => ?_, fun b k => ?_, fun i => ?_⟩
  · exact real_of_lt (Host.reduce_andi_all _ _ _ _ _ h3 i)
  · have e := real_of_lt (Host.reduce_andi_all _ _ _ _ _ h4 (ix2 b k))
    have i : extractStridedSlice S4x2048 ![0, 0] x1 facts.slices_S4x3072_S4x2048_0_0 (ix2 b k) = x1 (ix2 b ⟨k.val, by omega⟩) :=
      slice2_axis1_apply 0 x1 _ b k _ (by show k.val = 0 + k.val; omega)
    rw [← i]
    exact e
  · exact real_of_lt (Host.reduce_andi_all _ _ _ _ _ h2 i)

end Cert.Moe.Pre

end
-- ==== Proof.MoeTopK.lean ====
/-
  The host's top-k along the last axis, read at an index: position `k` holds the entry at place `k` of the stable sort,
  larger first, and its position.
-/
module

public import proofs.«01_k».proof.Proof.MoeRank
public import Idealize.ShloMosaic.Lib.ValueIdxCore
public import Idealize.ShloMosaic.PureOps.Ideal.Laws

@[expose] public section

namespace Cert.Moe.TopK

open Idealize.ShloMosaic Idealize.ShloMosaic.ValueIdx Cert.Moe.Rank

theorem gt_bit (a b : EReal) : (FloatOps.cmpfTotal (F := Ideal) (φ := .f32) .gt a b == 1#1) = decide (b < a) := by
  rw [Ideal.cmpfTotal_def]
  show (BitVec.ofBool (decide (b < a)) == 1#1) = _
  cases decide (b < a) <;> rfl

theorem along3 {n0 n1 n : ℕ} (a : Fin n0) (b : Fin n1) (e e' : Fin n) :
    Shape.Idx.along (s := ⟨3, ![n0, n1, n]⟩) (ix3 a b e) 2 e' = ix3 a b e' := by
  funext d
  unfold Shape.Idx.along
  match d with
  | ⟨0, _⟩ => rfl
  | ⟨1, _⟩ => rfl
  | ⟨2, _⟩ => rfl

theorem along4 {n0 n1 n2 n : ℕ} (a : Fin n0) (b : Fin n1) (c : Fin n2) (e e' : Fin n) :
    Shape.Idx.along (s := ⟨4, ![n0, n1, n2, n]⟩) (ix4 a b c e) 3 e' = ix4 a b c e' := by
  funext d
  unfold Shape.Idx.along
  match d with
  | ⟨0, _⟩ => rfl
  | ⟨1, _⟩ => rfl
  | ⟨2, _⟩ => rfl
  | ⟨3, _⟩ => rfl

section
variable {n0 n1 n2 n m : ℕ}

theorem sort3 (x : (⟨3, ![n0, n1, n]⟩ : Shape).Idx → EReal) (y : (⟨3, ![n0, n1, n]⟩ : Shape).Idx → BitVec 32)
    (a : Fin n0) (b : Fin n1) (e : Fin n) :
    (Host.sort2 ⟨3, ![n0, n1, n]⟩ 2 (fun l r => FloatOps.cmpfTotal (F := Ideal) (φ := .f32) .gt l.1 r.1) x y).1 (ix3 a b e)
        = x (ix3 a b (sortedFrom (larger fun e => x (ix3 a b e)) e))
      ∧ (Host.sort2 ⟨3, ![n0, n1, n]⟩ 2 (fun l r => FloatOps.cmpfTotal (F := Ideal) (φ := .f32) .gt l.1 r.1) x y).2 (ix3 a b e)
        = y (ix3 a b (sortedFrom (larger fun e => x (ix3 a b e)) e)) := by
  have h : (fun k k' : Fin n => FloatOps.cmpfTotal (F := Ideal) (φ := .f32) .gt
      (x (Shape.Idx.along (s := ⟨3, ![n0, n1, n]⟩) (ix3 a b e) 2 k)) (x (Shape.Idx.along (s := ⟨3, ![n0, n1, n]⟩) (ix3 a b e) 2 k')) == 1#1)
      = larger fun e => x (ix3 a b e) := by
    funext k k'
    rw [along3, along3, gt_bit]; rfl
  have g : ∀ {β : Type} (z : (⟨3, ![n0, n1, n]⟩ : Shape).Idx → β),
      z (Shape.Idx.along (s := ⟨3, ![n0, n1, n]⟩) (ix3 a b e) 2 (sortedFrom (fun k k' : Fin n => FloatOps.cmpfTotal (F := Ideal) (φ := .f32) .gt
      (x (Shape.Idx.along (s := ⟨3, ![n0, n1, n]⟩) (ix3 a b e) 2 k)) (x (Shape.Idx.along (s := ⟨3, ![n0, n1, n]⟩) (ix3 a b e) 2 k')) == 1#1) e))
      = z (ix3 a b (sortedFrom (larger fun e => x (ix3 a b e)) e)) := by
    intro β z
    exact (congrArg (fun f : Fin n → Fin n → Bool =>
      z (Shape.Idx.along (s := ⟨3, ![n0, n1, n]⟩) (ix3 a b e) 2 (sortedFrom f e))) h).trans (congrArg z (along3 a b e _))
  exact ⟨g x, g y⟩

theorem sort4 (x : (⟨4, ![n0, n1, n2, n]⟩ : Shape).Idx → EReal) (y : (⟨4, ![n0, n1, n2, n]⟩ : Shape).Idx → BitVec 32)
    (a : Fin n0) (b : Fin n1) (c : Fin n2) (e : Fin n) :
    (Host.sort2 ⟨4, ![n0, n1, n2, n]⟩ 3 (fun l r => FloatOps.cmpfTotal (F := Ideal) (φ := .f32) .gt l.1 r.1) x y).1 (ix4 a b c e)
        = x (ix4 a b c (sortedFrom (larger fun e => x (ix4 a b c e)) e)) := by
  have h : (fun k k' : Fin n => FloatOps.cmpfTotal (F := Ideal) (φ := .f32) .gt
      (x (Shape.Idx.along (s := ⟨4, ![n0, n1, n2, n]⟩) (ix4 a b c e) 3 k)) (x (Shape.Idx.along (s := ⟨4, ![n0, n1, n2, n]⟩) (ix4 a b c e) 3 k')) == 1#1)
      = larger fun e => x (ix4 a b c e) := by
    funext k k'
    rw [along4, along4, gt_bit]; rfl
  have g : x (Shape.Idx.along (s := ⟨4, ![n0, n1, n2, n]⟩) (ix4 a b c e) 3 (sortedFrom (fun k k' : Fin n => FloatOps.cmpfTotal (F := Ideal) (φ := .f32) .gt
      (x (Shape.Idx.along (s := ⟨4, ![n0, n1, n2, n]⟩) (ix4 a b c e) 3 k)) (x (Shape.Idx.along (s := ⟨4, ![n0, n1, n2, n]⟩) (ix4 a b c e) 3 k')) == 1#1) e))
      = x (ix4 a b c (sortedFrom (larger fun e => x (ix4 a b c e)) e)) := by
    exact (congrArg (fun f : Fin n → Fin n → Bool =>
      x (Shape.Idx.along (s := ⟨4, ![n0, n1, n2, n]⟩) (ix4 a b c e) 3 (sortedFrom f e))) h).trans
      (congrArg x (along4 a b c e _))
  exact g

theorem topK3 (hm : m ≤ n) (x : (⟨3, ![n0, n1, n]⟩ : Shape).Idx → EReal) (h : (⟨3, ![n0, n1, n]⟩ : Shape).Slices (fun _ => 0) ⟨3, ![n0, n1, m]⟩)
    (a : Fin n0) (b : Fin n1) (k : Fin m) :
    (Host.topK ⟨3, ![n0, n1, m]⟩ 2 (FloatOps.cmpfTotal (F := Ideal) (φ := .f32) .gt) x h).2 (ix3 a b k)
        = BitVec.ofNat 32 (sortedFrom (larger fun e => x (ix3 a b e)) (k.castLE hm)).val := by
  have e : (fun d : Fin 3 => (⟨0 + (ix3 a b k (d.cast h.1.symm)).val,
      Nat.lt_of_lt_of_le (Nat.add_lt_add_left (ix3 a b k _).isLt _) (h.2 d)⟩ : Fin ((⟨3, ![n0, n1, n]⟩ : Shape).size d)))
      = ix3 a b (k.castLE hm) := by
    funext d
    match d with
    | ⟨0, _⟩ => exact Fin.ext (Nat.zero_add _)
    | ⟨1, _⟩ => exact Fin.ext (Nat.zero_add _)
    | ⟨2, _⟩ => exact Fin.ext (Nat.zero_add _)
  unfold Host.topK extractStridedSlice
  dsimp only
  refine (congrArg _ e).trans ?_
  rw [(sort3 x _ a b (k.castLE hm)).2]
  rfl

theorem topK4 (hm : m ≤ n) (x : (⟨4, ![n0, n1, n2, n]⟩ : Shape).Idx → EReal) (h : (⟨4, ![n0, n1, n2, n]⟩ : Shape).Slices (fun _ => 0) ⟨4, ![n0, n1, n2, m]⟩)
    (a : Fin n0) (b : Fin n1) (c : Fin n2) (k : Fin m) :
    (Host.topK ⟨4, ![n0, n1, n2, m]⟩ 3 (FloatOps.cmpfTotal (F := Ideal) (φ := .f32) .gt) x h).1 (ix4 a b c k)
        = x (ix4 a b c (sortedFrom (larger fun e => x (ix4 a b c e)) (k.castLE hm))) := by
  have e : (fun d : Fin 4 => (⟨0 + (ix4 a b c k (d.cast h.1.symm)).val,
      Nat.lt_of_lt_of_le (Nat.add_lt_add_left (ix4 a b c k _).isLt _) (h.2 d)⟩ : Fin ((⟨4, ![n0, n1, n2, n]⟩ : Shape).size d)))
      = ix4 a b c (k.castLE hm) := by
    funext d
    match d with
    | ⟨0, _⟩ => exact Fin.ext (Nat.zero_add _)
    | ⟨1, _⟩ => exact Fin.ext (Nat.zero_add _)
    | ⟨2, _⟩ => exact Fin.ext (Nat.zero_add _)
    | ⟨3, _⟩ => exact Fin.ext (Nat.zero_add _)
  unfold Host.topK extractStridedSlice
  dsimp only
  refine (congrArg _ e).trans ?_
  rw [sort4 x _ a b c (k.castLE hm)]

end

end Cert.Moe.TopK
-- ==== Proof.MoeRefRoute.lean ====
/-
  The reference's routing read at a token: its scores, its groups' scores, the eight experts it takes and its gates are
  the plain functions of MoeSpec.
-/
module

public import proofs.«01_k».proof.Proof.MoeSpec
public import proofs.«01_k».proof.Proof.MoeTopK
public import proofs.«01_k».proof.Proof.Gen.MoeReferenceIdeal.Read
public import Idealize.ShloMosaic.Lib.ReduceAll

@[expose] public section

noncomputable section

namespace Cert.Moe.RefRoute

open Idealize.ShloMosaic Idealize.ShloMosaic.ValueIdx Cert.Moe.Rank Cert.MoeReferenceIdeal Cert.MoeReferenceIdeal.Read

variable (x0 : (⟨S4x8192x1024, .f32⟩ : BufTy).Contents (Elt Ideal)) (x1 : (⟨S4x3072, .f32⟩ : BufTy).Contents (Elt Ideal))
  (x2 : (⟨S1024x32, .f32⟩ : BufTy).Contents (Elt Ideal)) (x3 : (⟨S32, .f32⟩ : BufTy).Contents (Elt Ideal))
  (b : Fin 4) (t : Fin 8192)

/-- A token's row. -/
def xrow (k : Fin 1024) : EReal := x0 (ix3 b t k)
/-- The shift, the scale and the output's factor of a batch. -/
def shift (k : Fin 1024) : EReal := x1 (ix2 b ⟨k.val, by omega⟩)
def scale (k : Fin 1024) : EReal := x1 (ix2 b ⟨1024 + k.val, by omega⟩)
def gmod (k : Fin 1024) : EReal := x1 (ix2 b ⟨2048 + k.val, by omega⟩)
/-- The modulated row. -/
def hrow : Fin 1024 → EReal := Spec.hid (xrow x0 b t) (shift x1 b) (scale x1 b)
/-- The router's weights and bias. -/
def rw_ (k : Fin 1024) (e : Fin 32) : EReal := x2 (ix2 k e)
def rb_ (e : Fin 32) : EReal := x3 (ix1 e)
/-- The scores of a token, and the biased ones. -/
def srow : Fin 32 → EReal := Spec.score (hrow x0 x1 b t) (rw_ x2)
def brow (e : Fin 32) : EReal := srow x0 x1 x2 b t e + rb_ x3 e

theorem hrow_apply (k : Fin 1024) : val_main_v11 (F := Ideal) x0 x1 (ix3 b t k) = hrow x0 x1 b t k := by
  simp only [val_main_v11_apply, val_main_v9_apply, val_main_v10_apply, val_main_v8_apply, val_main_v7_apply,
    val_main_v6_apply, val_main_cst_apply, val_main_v4_apply, val_main_v3_apply, val_main_v1_apply, val_main_v0_apply,
    Ideal.scalar_addf_def, Ideal.scalar_mulf_def]
  show x0 _ * (Ideal.ofBits .f32 0x3F800000#32 + x1 _) + x1 _ = x0 _ * (1 + x1 _) + x1 _
  rw [Spec.bits_one]
  congr 2
  · congr 2; exact eq_ix2 _
  · exact eq_ix2 _

theorem sigm_apply {x : EReal} {c c' : EReal} (hc : c = 1) (hc' : c' = 1) :
    Ideal.div c (c' + Ideal.exp (-x)) = Spec.sigm x := by subst hc; subst hc'; rfl

theorem srow_apply (e : Fin 32) : val_main_v18 (F := Ideal) x0 x1 x2 (ix3 b t e) = srow x0 x1 x2 b t e := by
  rw [val_main_v18_apply, val_main_v16_apply, val_main_v14_apply, val_main_v13_apply, val_main_v12_apply]
  have hs : (∑ k : Fin 1024, (val_main_v11 (F := Ideal) x0 x1) (lidx_main_v12 (ix3 b t e) k) * x2 (ridx_main_v12 (ix3 b t e) k))
      = ∑ k, hrow x0 x1 b t k * rw_ x2 k e := by
    refine Finset.sum_congr rfl fun k _ => ?_
    rw [show lidx_main_v12 (ix3 b t e) k = ix3 b t k from eq_ix3 _, hrow_apply,
      show ridx_main_v12 (ix3 b t e) k = ix2 k e from eq_ix2 _]
    rfl
  rw [hs]
  exact sigm_apply (by rw [val_main_v17_apply, val_main_cst_1_apply]; exact Spec.bits_one)
    (by rw [val_main_v15_apply, val_main_cst_0_apply]; exact Spec.bits_one)

theorem brow_apply (e : Fin 32) : val_main_v21 (F := Ideal) x0 x1 x2 x3 (ix3 b t e) = brow x0 x1 x2 x3 b t e := by
  rw [val_main_v21_apply, srow_apply, val_main_v20_apply, val_main_v19_apply]
  show _ + x3 _ = _ + x3 _
  congr 2
  exact eq_ix1 _

theorem member_apply (g : Fin 8) (m : Fin 4) :
    val_main_v22 (F := Ideal) x0 x1 x2 x3 (ix4 b t g m) = brow x0 x1 x2 x3 b t (Spec.member g m) := by
  rw [val_main_v22_apply, ← brow_apply]
  congr 1
  refine (eq_ix3 _).trans ?_
  refine congr (congr (congrArg ix3 ?_) ?_) ?_ <;> apply Fin.ext
  · show (((b.val * 8192 + t.val) * 8 + g.val) * 4 + m.val) / 262144 = b.val
    omega
  · show (((b.val * 8192 + t.val) * 8 + g.val) * 4 + m.val) / 32 % 8192 = t.val
    omega
  · show (((b.val * 8192 + t.val) * 8 + g.val) * 4 + m.val) % 32 = 4 * g.val + m.val
    omega

theorem group_apply (g : Fin 8) :
    val_main_v23 (F := Ideal) x0 x1 x2 x3 (ix3 b t g) = Spec.groupScore (brow x0 x1 x2 x3 b t) g := by
  rw [val_main_v23_apply, Fin.sum_univ_two, show idx_main_v23 (ix3 b t g) 0 = ix4 b t g 0 from eq_ix4 _,
    show idx_main_v23 (ix3 b t g) 1 = ix4 b t g 1 from eq_ix4 _]
  have h : ∀ k, val_main_values (F := Ideal) x0 x1 x2 x3 (ix4 b t g k)
      = brow x0 x1 x2 x3 b t (Spec.member g (sortedFrom (larger fun m => brow x0 x1 x2 x3 b t (Spec.member g m)) (k.castLE (by decide)))) := by
    intro k
    refine (TopK.topK4 (by decide) (val_main_v22 (F := Ideal) x0 x1 x2 x3) _ b t g k).trans ?_
    rw [member_apply]
    simp only [member_apply]
  rw [h, h, val_main_cst_2_apply]
  refine (congrArg (· + _) Spec.bits_zero).trans ((zero_add _).trans ?_)
  exact top_two fun m => brow x0 x1 x2 x3 b t (Spec.member g m)

theorem oneBit (p : Prop) [Decidable p] (w : BitVec 1) (h : w = BitVec.ofBool (decide p)) :
    FloatOps.uitofp (F := Ideal) .f32 w = if p then (1 : EReal) else 0 := by
  subst h
  show (((BitVec.ofBool (decide p)).toNat : ℝ) : EReal) = _
  by_cases h : p <;> simp [h]

theorem word_inj {n : ℕ} (hn : n ≤ 64) (a c : Fin n) :
    IntOp.cmpi .eq (BitVec.ofNat 32 a.val) (BitVec.ofNat 32 c.val) = BitVec.ofBool (decide (a = c)) := by
  show BitVec.ofBool (BitVec.ofNat 32 a.val == BitVec.ofNat 32 c.val) = _
  congr 1
  rw [Bool.eq_iff_iff, beq_iff_eq, decide_eq_true_iff]
  constructor
  · intro h
    have := congrArg BitVec.toNat h
    simp only [BitVec.toNat_ofNat] at this
    have ha := a.isLt; have hc := c.isLt
    exact Fin.ext (by omega)
  · rintro rfl; rfl

theorem cmp_flag (p : Prop) [Decidable p] {c c' : EReal} (hc : c = 0) (hc' : c' = 0) :
    Ideal.cmp .ogt (c + if p then (1 : EReal) else 0) c' = BitVec.ofBool (decide p) := by
  subst hc; subst hc'
  show BitVec.ofBool (decide ((0 : EReal) < 0 + if p then (1 : EReal) else 0)) = _
  by_cases h : p <;> simp [h]

/-- The groups kept. -/
theorem keep_apply (g : Fin 8) :
    val_main_v27 (F := Ideal) x0 x1 x2 x3 (ix3 b t g)
      = BitVec.ofBool (decide (rank (Spec.groupScore (brow x0 x1 x2 x3 b t)) g < 4)) := by
  rw [val_main_v27_apply, val_main_v25_apply, val_main_v26_apply]
  have h : ∀ k : Fin 4, val_main_v24 (F := Ideal) x0 x1 x2 x3 (idx_main_v25 (ix3 b t g) k)
      = if sortedFrom (larger (Spec.groupScore (brow x0 x1 x2 x3 b t))) (k.castLE (by decide)) = g then (1 : EReal) else 0 := by
    intro k
    rw [val_main_v24_apply]
    refine oneBit _ _ ?_
    rw [val_main_call0_v4_apply, val_main_call0_v2_apply, val_main_call0_v0_apply, val_main_call0_v3_apply,
      val_main_call0_v1_apply]
    have e : val_main_indices_4 (F := Ideal) x0 x1 x2 x3 (ix3 b t k)
        = BitVec.ofNat 32 (sortedFrom (larger (Spec.groupScore (brow x0 x1 x2 x3 b t))) (k.castLE (by decide))).val := by
      refine (TopK.topK3 (by decide) (val_main_v23 (F := Ideal) x0 x1 x2 x3) _ b t k).trans ?_
      simp only [group_apply]
    rw [show idx_main_call0_v0 (idx_main_call0_v2 (idx_main_v25 (ix3 b t g) k)) = ix3 b t k from eq_ix3 _, e]
    exact word_inj (by decide) _ g
  simp only [h]
  rw [sum_onehot (Spec.groupScore (brow x0 x1 x2 x3 b t)) (k := 4) (by decide) (fun _ => (1 : EReal)) g,
    val_main_cst_5_apply, val_main_cst_6_apply, Ideal.cmpf_def]
  exact cmp_flag _ Spec.bits_zero Spec.bits_zero

theorem cand_apply (e : Fin 32) :
    val_main_v30 (F := Ideal) x0 x1 x2 x3 (ix3 b t e) = Spec.cand (brow x0 x1 x2 x3 b t) e := by
  rw [val_main_v30_apply, brow_apply, val_main_v29_apply, val_main_v28_apply]
  have i : idx_main_v28 (idx_main_v29 (ix3 b t e)) = ix3 b t (Spec.groupOf e) := by
    refine (eq_ix3 _).trans ?_
    refine congr (congr (congrArg ix3 ?_) ?_) ?_ <;> apply Fin.ext
    · show ((b.val * 8192 + t.val) * 32 + e.val) / 262144 = b.val
      omega
    · show ((b.val * 8192 + t.val) * 32 + e.val) / 32 % 8192 = t.val
      omega
    · show ((b.val * 8192 + t.val) * 32 + e.val) / 4 % 8 = e.val / 4
      omega
  rw [i, keep_apply, val_main_call1_v1_apply, val_main_call1_v0_apply, val_main_cst_7_apply]
  unfold Spec.cand
  split <;> rename_i h
  · rw [decide_eq_true h]; rfl
  · rw [decide_eq_false h]; exact Spec.bits_bot

/-- The eight experts taken, in order. -/
def pick (k : Fin 8) : Fin 32 := sortedFrom (larger (Spec.cand (brow x0 x1 x2 x3 b t))) (k.castLE (by decide))

theorem pick_apply (k : Fin 8) :
    val_main_indices_9 (F := Ideal) x0 x1 x2 x3 (ix3 b t k) = BitVec.ofNat 32 (pick x0 x1 x2 x3 b t k).val := by
  refine (TopK.topK3 (by decide) (val_main_v30 (F := Ideal) x0 x1 x2 x3) _ b t k).trans ?_
  simp only [cand_apply]; rfl

theorem word_ok (e : Fin 32) :
    Scalar.select (IntOp.cmpi .slt (BitVec.ofNat 32 e.val) 0#32) (IntOp.addi (BitVec.ofNat 32 e.val) 32#32) (BitVec.ofNat 32 e.val)
        = BitVec.ofNat 32 e.val
      ∧ IntOp.andi (IntOp.cmpi .sge (BitVec.ofNat 32 e.val) 0#32) (IntOp.cmpi .sle (BitVec.ofNat 32 e.val) 31#32) = 1#1
      ∧ min (BitVec.ofNat 32 e.val).toInt.toNat 31 = e.val := by
  revert e; decide

theorem fixed_apply (k : Fin 8) :
    val_main_call2_v4 (F := Ideal) x0 x1 x2 x3 (ix3 b t k) = BitVec.ofNat 32 (pick x0 x1 x2 x3 b t k).val := by
  rw [val_main_call2_v4_apply, val_main_call2_v1_apply, val_main_call2_v3_apply, val_main_call2_v0_apply,
    val_main_call2_v2_apply, val_main_call2_c_apply, val_main_call2_c_0_apply]
  rw [pick_apply]
  exact (word_ok _).1

theorem inRange (i : S4x8192x8.Idx) : val_main_call2_v12 (F := Ideal) x0 x1 x2 x3 i = 1#1 := by
  refine Host.reduce_andi_one _ _ _ _ _ rfl fun j => ?_
  rw [val_main_call2_v11_apply, val_main_call2_v7_apply, val_main_call2_v10_apply, val_main_call2_v5_apply]
  obtain ⟨a, c, k, h⟩ : ∃ (a : Fin 4) (c : Fin 8192) (k : Fin 8), idx_main_call2_v5 j = ix3 a c k := ⟨_, _, _, eq_ix3 _⟩
  rw [h, fixed_apply, val_main_call2_v6_apply, val_main_call2_c_2_apply, val_main_call2_v9_apply, val_main_call2_v8_apply,
    val_main_call2_c_1_apply]
  exact (word_ok _).2.1

theorem gather_apply (x : S4x8192x32.Idx → EReal) (idx : IVec S4x8192x8x1 32) (k : Fin 8) :
    Host.gather gather_S4x8192x32_S4x8192x8x1_S4x8192x8_n_2_01_01_2_3_111 x idx (ix3 b t k)
      = x (ix3 b t ⟨min (idx (ix4 b t k 0)).toInt.toNat 31, by omega⟩) := by
  unfold Host.gather
  congr 1
  funext a
  refine Fin.ext ?_
  show GatherDims.start _ _ idx a + GatherDims.batchCoord _ _ a + GatherDims.offCoord _ _ a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  have m0 : (0 : Fin 3) ∈ gather_S4x8192x32_S4x8192x8x1_S4x8192x8_n_2_01_01_2_3_111.operandBatchingDims :=
    List.mem_cons_self
  have m1 : (1 : Fin 3) ∈ gather_S4x8192x32_S4x8192x8x1_S4x8192x8_n_2_01_01_2_3_111.operandBatchingDims :=
    List.mem_cons_of_mem _ (List.mem_singleton.mpr rfl)
  rcases ha with rfl | rfl | rfl
  · rw [GatherDims.start_batching _ _ _ _ m0, GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.start_batching _ _ _ _ m1, GatherDims.offCoord_eq_zero _ _ _ (fun h => ((GatherDims.mem_sKept _ _).mp h).2 m1)]
    simp only [Nat.zero_add, Nat.add_zero]
    unfold GatherDims.batchCoord
    rw [dif_pos m1]
    rfl
  · have m2 : (2 : Fin 3) ∈ gather_S4x8192x32_S4x8192x8x1_S4x8192x8_n_2_01_01_2_3_111.startIndexMap := List.mem_singleton.mpr rfl
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos m2]
    have hsi : gather_S4x8192x32_S4x8192x8x1_S4x8192x8_n_2_01_01_2_3_111.siIdx (ix3 b t k)
        ⟨List.idxOf (2 : Fin 3) gather_S4x8192x32_S4x8192x8x1_S4x8192x8_n_2_01_01_2_3_111.startIndexMap,
          List.idxOf_lt_length_iff.2 m2⟩ = ix4 b t k 0 := by
      funext c; refine Fin.ext ?_
      match c with
      | ⟨0, _⟩ => rfl
      | ⟨1, _⟩ => rfl
      | ⟨2, _⟩ => rfl
      | ⟨3, _⟩ => rfl
    rw [hsi]
    rfl

theorem fixedIdx (k : Fin 8) : idx_main_call2_v5 (ix4 b t k 0) = ix3 b t k := by
  refine (eq_ix3 _).trans ?_
  refine congr (congr (congrArg ix3 ?_) ?_) ?_ <;> apply Fin.ext
  · show (((b.val * 8192 + t.val) * 8 + k.val) * 1 + 0) / 65536 = b.val
    omega
  · show (((b.val * 8192 + t.val) * 8 + k.val) * 1 + 0) / 8 % 8192 = t.val
    omega
  · show (((b.val * 8192 + t.val) * 8 + k.val) * 1 + 0) % 8 = k.val
    omega

theorem word_apply (k : Fin 8) : val_main_call2_v5 (F := Ideal) x0 x1 x2 x3 (ix4 b t k 0)
    = BitVec.ofNat 32 (pick x0 x1 x2 x3 b t k).val := by
  rw [val_main_call2_v5_apply, fixedIdx, fixed_apply]

theorem gathered_apply (k : Fin 8) :
    val_main_call2_v13 (F := Ideal) x0 x1 x2 x3 (ix3 b t k) = srow x0 x1 x2 b t (pick x0 x1 x2 x3 b t k) := by
  unfold val_main_call2_v13
  rw [gather_apply, srow_apply]
  refine congrArg (srow x0 x1 x2 b t) (Fin.ext ?_)
  dsimp only
  rw [word_apply]
  exact (word_ok _).2.2

theorem taken_apply (k : Fin 8) :
    val_main_v31 (F := Ideal) x0 x1 x2 x3 (ix3 b t k) = srow x0 x1 x2 b t (pick x0 x1 x2 x3 b t k) := by
  rw [val_main_v31_apply, inRange, gathered_apply]
  rfl

theorem total_apply :
    val_main_v32 (F := Ideal) x0 x1 x2 x3 (ix2 b t) = Spec.total (srow x0 x1 x2 b t) (brow x0 x1 x2 x3 b t) := by
  rw [val_main_v32_apply]
  have h : ∀ k : Fin 8, val_main_v31 (F := Ideal) x0 x1 x2 x3 (idx_main_v32 (ix2 b t) k)
      = srow x0 x1 x2 b t (pick x0 x1 x2 x3 b t k) := fun k => by
    rw [show idx_main_v32 (ix2 b t) k = ix3 b t k from eq_ix3 _, taken_apply]
  simp only [h]
  refine (congrArg (· + _) Spec.bits_zero).trans ((zero_add _).trans ?_)
  exact sum_sorted (Spec.cand (brow x0 x1 x2 x3 b t)) (k := 8) (by decide) (srow x0 x1 x2 b t)

theorem share_apply (k : Fin 8) : val_main_v37 (F := Ideal) x0 x1 x2 x3 (ix3 b t k)
    = Ideal.div (srow x0 x1 x2 b t (pick x0 x1 x2 x3 b t k)) (Spec.total (srow x0 x1 x2 b t) (brow x0 x1 x2 x3 b t)) * Spec.c25 := by
  rw [val_main_v37_apply, val_main_v35_apply, val_main_v34_apply, val_main_v33_apply, val_main_v36_apply,
    val_main_cst_11_apply, taken_apply, show idx_main_v33 (idx_main_v34 (ix3 b t k)) = ix2 b t from eq_ix2 _, total_apply]
  rfl

theorem hot_apply (k : Fin 8) (e : Fin 32) : val_main_v38 (F := Ideal) x0 x1 x2 x3 (ix4 b t k e)
    = if pick x0 x1 x2 x3 b t k = e then (1 : EReal) else 0 := by
  rw [val_main_v38_apply]
  refine oneBit _ _ ?_
  rw [val_main_call3_v4_apply, val_main_call3_v2_apply, val_main_call3_v0_apply, val_main_call3_v3_apply,
    val_main_call3_v1_apply,
    show idx_main_call3_v0 (idx_main_call3_v2 (ix4 b t k e)) = ix3 b t k from eq_ix3 _, pick_apply]
  exact word_inj (by decide) _ e

theorem hot_mul (p : Prop) [Decidable p] (a : EReal) : (if p then (1 : EReal) else 0) * a = if p then a else 0 := by
  split
  · rw [one_mul]
  · rw [zero_mul]

theorem term_apply (k : Fin 8) (e : Fin 32) : val_main_v41 (F := Ideal) x0 x1 x2 x3 (ix4 b t k e)
    = if pick x0 x1 x2 x3 b t k = e then
        Ideal.div (srow x0 x1 x2 b t (pick x0 x1 x2 x3 b t k)) (Spec.total (srow x0 x1 x2 b t) (brow x0 x1 x2 x3 b t)) * Spec.c25
      else 0 := by
  rw [val_main_v41_apply, hot_apply, val_main_v40_apply, val_main_v39_apply,
    show idx_main_v39 (idx_main_v40 (ix4 b t k e)) = ix3 b t k from eq_ix3 _, share_apply]
  exact hot_mul _ _

theorem gate_apply (e : Fin 32) :
    val_main_v42 (F := Ideal) x0 x1 x2 x3 (ix3 b t e) = Spec.gate (srow x0 x1 x2 b t) (brow x0 x1 x2 x3 b t) e := by
  rw [val_main_v42_apply]
  have h : ∀ k : Fin 8, val_main_v41 (F := Ideal) x0 x1 x2 x3 (idx_main_v42 (ix3 b t e) k)
      = if pick x0 x1 x2 x3 b t k = e then
          Ideal.div (srow x0 x1 x2 b t (pick x0 x1 x2 x3 b t k)) (Spec.total (srow x0 x1 x2 b t) (brow x0 x1 x2 x3 b t)) * Spec.c25
        else 0 := fun k => by
    rw [show idx_main_v42 (ix3 b t e) k = ix4 b t k e from eq_ix4 _, term_apply]
  simp only [h]
  refine (congrArg (· + _) Spec.bits_zero).trans ((zero_add _).trans ?_)
  exact sum_onehot (Spec.cand (brow x0 x1 x2 x3 b t)) (k := 8) (by decide)
    (fun e => Ideal.div (srow x0 x1 x2 b t e) (Spec.total (srow x0 x1 x2 b t) (brow x0 x1 x2 x3 b t)) * Spec.c25) e

end Cert.Moe.RefRoute

end
-- ==== Proof.MoeRef.lean ====
/-
  The reference's result read at a token: the experts' activations, the two sums over the experts and the shared expert,
  the residual and the layer norm are the plain functions of MoeSpec.
-/
module

public import proofs.«01_k».proof.Proof.MoeRefRoute

@[expose] public section

noncomputable section

namespace Cert.Moe.Ref

open Idealize.ShloMosaic Idealize.ShloMosaic.ValueIdx Cert.MoeReferenceIdeal Cert.MoeReferenceIdeal.Read Cert.Moe.RefRoute

variable (x0 : (⟨S4x8192x1024, .f32⟩ : BufTy).Contents (Elt Ideal)) (x1 : (⟨S4x3072, .f32⟩ : BufTy).Contents (Elt Ideal))
  (x2 : (⟨S1024x32, .f32⟩ : BufTy).Contents (Elt Ideal)) (x3 : (⟨S32, .f32⟩ : BufTy).Contents (Elt Ideal))
  (x4 x5 : (⟨S32x1024x256, .f32⟩ : BufTy).Contents (Elt Ideal)) (x6 : (⟨S32x256x1024, .f32⟩ : BufTy).Contents (Elt Ideal))
  (x7 x8 : (⟨S1024x256, .f32⟩ : BufTy).Contents (Elt Ideal)) (x9 : (⟨S256x1024, .f32⟩ : BufTy).Contents (Elt Ideal))
  (x10 x11 : (⟨S1024, .f32⟩ : BufTy).Contents (Elt Ideal))
  (b : Fin 4) (t : Fin 8192)

/-- An expert's input weights, and its output weights. -/
def wIn (w : S32x1024x256.Idx → EReal) (e : Fin 32) (k : Fin 1024) (f : Fin 256) : EReal := w (ix3 e k f)
def wOut (w : S32x256x1024.Idx → EReal) (e : Fin 32) (f : Fin 256) (d : Fin 1024) : EReal := w (ix3 e f d)
/-- The shared expert's weights. -/
def sIn (w : S1024x256.Idx → EReal) (k : Fin 1024) (f : Fin 256) : EReal := w (ix2 k f)
def sOut (w : S256x1024.Idx → EReal) (f : Fin 256) (d : Fin 1024) : EReal := w (ix2 f d)
/-- The layer norm's weights. -/
def vec (w : S1024.Idx → EReal) (d : Fin 1024) : EReal := w (ix1 d)

theorem up1_apply (e : Fin 32) (f : Fin 256) :
    val_main_v43 (F := Ideal) x0 x1 x4 (ix4 b t e f) = ∑ k, hrow x0 x1 b t k * wIn x4 e k f := by
  rw [val_main_v43_apply]
  refine Finset.sum_congr rfl fun k _ => ?_
  rw [show lidx_main_v43 (ix4 b t e f) k = ix3 b t k from eq_ix3 _, hrow_apply,
    show ridx_main_v43 (ix4 b t e f) k = ix3 e k f from eq_ix3 _]
  rfl

theorem up3_apply (e : Fin 32) (f : Fin 256) :
    val_main_v44 (F := Ideal) x0 x1 x5 (ix4 b t e f) = ∑ k, hrow x0 x1 b t k * wIn x5 e k f := by
  rw [val_main_v44_apply]
  refine Finset.sum_congr rfl fun k _ => ?_
  rw [show lidx_main_v44 (ix4 b t e f) k = ix3 b t k from eq_ix3 _, hrow_apply,
    show ridx_main_v44 (ix4 b t e f) k = ix3 e k f from eq_ix3 _]
  rfl

theorem act_apply (e : Fin 32) (f : Fin 256) :
    val_main_v49 (F := Ideal) x0 x1 x2 x3 x4 x5 (ix4 b t e f)
      = Spec.act (hrow x0 x1 b t) (wIn x4 e) (wIn x5 e) f * Spec.gate (srow x0 x1 x2 b t) (brow x0 x1 x2 x3 b t) e := by
  have hs : val_main_call4_v5 (F := Ideal) x0 x1 x4 (ix4 b t e f) = Spec.sigm (∑ k, hrow x0 x1 b t k * wIn x4 e k f) := by
    rw [val_main_call4_v5_apply, val_main_call4_v3_apply, val_main_call4_v1_apply, val_main_call4_v0_apply, up1_apply]
    exact sigm_apply (by rw [val_main_call4_v4_apply, val_main_call4_cst_0_apply]; exact Spec.bits_one)
      (by rw [val_main_call4_v2_apply, val_main_call4_cst_apply]; exact Spec.bits_one)
  rw [val_main_v49_apply, val_main_v46_apply, val_main_v45_apply, up1_apply, up3_apply, hs, val_main_v48_apply,
    val_main_v47_apply, show idx_main_v47 (idx_main_v48 (ix4 b t e f)) = ix3 b t e from eq_ix3 _, gate_apply]
  rfl

/-- A contraction index over the experts and their columns is the pair of its coordinates. -/
def pairIdx : dot_S4x8192x32x256_S32x256x1024_S4x8192x1024_23_01_01_2_n_n.contr.Idx ≃ Fin 32 × Fin 256 where
  toFun q := (q ⟨0, by decide⟩, q ⟨1, by decide⟩)
  invFun p := fun a => match a with | ⟨0, _⟩ => p.1 | ⟨1, _⟩ => p.2
  left_inv q := by funext a; match a with | ⟨0, _⟩ => rfl | ⟨1, _⟩ => rfl
  right_inv p := rfl

theorem down_apply (y : S4x8192x32x256.Idx → EReal) (d : Fin 1024) :
    Host.dotGeneral (F := Ideal) (φ₁ := .f32) (φ₂ := .f32) dot_S4x8192x32x256_S32x256x1024_S4x8192x1024_23_01_01_2_n_n none y x6 (ix3 b t d)
      = ∑ e, ∑ f, y (ix4 b t e f) * wOut x6 e f d := by
  simp only [Host.dotGeneral]
  rw [Ideal.dotGeneral_apply, ← Equiv.sum_comp pairIdx.symm, Fintype.sum_prod_type]
  refine Finset.sum_congr rfl fun e _ => Finset.sum_congr rfl fun f _ => ?_
  have el : dot_S4x8192x32x256_S32x256x1024_S4x8192x1024_23_01_01_2_n_n.lhsIdx (ix3 b t d) (pairIdx.symm (e, f)) = ix4 b t e f :=
    funext fun a => Fin.ext (by
      match a with
      | ⟨0, _⟩ => rfl
      | ⟨1, _⟩ => rfl
      | ⟨2, _⟩ => rfl
      | ⟨3, _⟩ => rfl)
  have er : dot_S4x8192x32x256_S32x256x1024_S4x8192x1024_23_01_01_2_n_n.rhsIdx (ix3 b t d) (pairIdx.symm (e, f)) = ix3 e f d :=
    funext fun a => Fin.ext (by
      match a with
      | ⟨0, _⟩ => rfl
      | ⟨1, _⟩ => rfl
      | ⟨2, _⟩ => rfl)
  rw [el, er]
  rfl

theorem routed_apply (d : Fin 1024) :
    val_main_v50 (F := Ideal) x0 x1 x2 x3 x4 x5 x6 (ix3 b t d)
      = Spec.routed (hrow x0 x1 b t) (Spec.gate (srow x0 x1 x2 b t) (brow x0 x1 x2 x3 b t)) (wIn x4) (wIn x5) (wOut x6) d := by
  unfold val_main_v50
  rw [down_apply]
  simp only [act_apply]
  rfl

theorem sup1_apply (f : Fin 256) :
    val_main_v51 (F := Ideal) x0 x1 x7 (ix3 b t f) = ∑ k, hrow x0 x1 b t k * sIn x7 k f := by
  rw [val_main_v51_apply]
  refine Finset.sum_congr rfl fun k _ => ?_
  rw [show lidx_main_v51 (ix3 b t f) k = ix3 b t k from eq_ix3 _, hrow_apply,
    show ridx_main_v51 (ix3 b t f) k = ix2 k f from eq_ix2 _]
  rfl

theorem sup3_apply (f : Fin 256) :
    val_main_v53 (F := Ideal) x0 x1 x8 (ix3 b t f) = ∑ k, hrow x0 x1 b t k * sIn x8 k f := by
  rw [val_main_v53_apply]
  refine Finset.sum_congr rfl fun k _ => ?_
  rw [show lidx_main_v53 (ix3 b t f) k = ix3 b t k from eq_ix3 _, hrow_apply,
    show ridx_main_v53 (ix3 b t f) k = ix2 k f from eq_ix2 _]
  rfl

theorem sact_apply (f : Fin 256) :
    val_main_v54 (F := Ideal) x0 x1 x7 x8 (ix3 b t f) = Spec.act (hrow x0 x1 b t) (sIn x7) (sIn x8) f := by
  have hs : val_main_call5_v5 (F := Ideal) x0 x1 x7 (ix3 b t f) = Spec.sigm (∑ k, hrow x0 x1 b t k * sIn x7 k f) := by
    rw [val_main_call5_v5_apply, val_main_call5_v3_apply, val_main_call5_v1_apply, val_main_call5_v0_apply, sup1_apply]
    exact sigm_apply (by rw [val_main_call5_v4_apply, val_main_call5_cst_0_apply]; exact Spec.bits_one)
      (by rw [val_main_call5_v2_apply, val_main_call5_cst_apply]; exact Spec.bits_one)
  rw [val_main_v54_apply, val_main_v52_apply, sup1_apply, sup3_apply, hs]
  rfl

theorem shared_apply (d : Fin 1024) :
    val_main_v55 (F := Ideal) x0 x1 x7 x8 x9 (ix3 b t d) = Spec.shared (hrow x0 x1 b t) (sIn x7) (sIn x8) (sOut x9) d := by
  rw [val_main_v55_apply]
  refine Finset.sum_congr rfl fun f _ => ?_
  rw [show lidx_main_v55 (ix3 b t d) f = ix3 b t f from eq_ix3 _, sact_apply,
    show ridx_main_v55 (ix3 b t d) f = ix2 f d from eq_ix2 _]
  rfl

/-- The residual sum of a token. -/
def yrow : Fin 1024 → EReal := Spec.resid (xrow x0 b t) (gmod x1 b) fun d =>
  Spec.routed (hrow x0 x1 b t) (Spec.gate (srow x0 x1 x2 b t) (brow x0 x1 x2 x3 b t)) (wIn x4) (wIn x5) (wOut x6) d
    + Spec.shared (hrow x0 x1 b t) (sIn x7) (sIn x8) (sOut x9) d

theorem yrow_apply (d : Fin 1024) :
    val_main_v63 (F := Ideal) x0 x1 x2 x3 x4 x5 x6 x7 x8 x9 (ix3 b t d) = yrow x0 x1 x2 x3 x4 x5 x6 x7 x8 x9 b t d := by
  rw [val_main_v63_apply, val_main_v58_apply, val_main_v62_apply, val_main_v56_apply, routed_apply, shared_apply,
    val_main_v57_apply, val_main_cst_13_apply, val_main_v61_apply, val_main_v60_apply, val_main_v59_apply,
    val_main_cst_14_apply, val_main_v5_apply, val_main_v2_apply,
    show idx_main_v2 (idx_main_v5 (idx_main_v61 (ix3 b t d))) = ix2 b ⟨2048 + d.val, by omega⟩ from eq_ix2 _]
  unfold yrow Spec.resid
  rw [← Spec.bits_one]
  rfl

theorem mean_apply :
    val_main_v67 (F := Ideal) x0 x1 x2 x3 x4 x5 x6 x7 x8 x9 (ix3 b t 0) = Spec.mean (yrow x0 x1 x2 x3 x4 x5 x6 x7 x8 x9 b t) := by
  rw [val_main_v67_apply, val_main_v65_apply, val_main_v64_apply, val_main_v66_apply, val_main_cst_16_apply,
    show idx_main_v65 (ix3 b t 0) = ix2 b t from eq_ix2 _]
  have h : ∀ k : Fin 1024, val_main_v63 (F := Ideal) x0 x1 x2 x3 x4 x5 x6 x7 x8 x9 (idx_main_v64 (ix2 b t) k)
      = yrow x0 x1 x2 x3 x4 x5 x6 x7 x8 x9 b t k := fun k => by
    rw [show idx_main_v64 (ix2 b t) k = ix3 b t k from eq_ix3 _, yrow_apply]
  simp only [h]
  exact congrArg (fun z => Ideal.div z Spec.width) ((congrArg (· + _) Spec.bits_zero).trans (zero_add _))

theorem var_apply :
    val_main_v74 (F := Ideal) x0 x1 x2 x3 x4 x5 x6 x7 x8 x9 (ix3 b t 0)
      = Ideal.div (∑ d, (yrow x0 x1 x2 x3 x4 x5 x6 x7 x8 x9 b t d - Spec.mean (yrow x0 x1 x2 x3 x4 x5 x6 x7 x8 x9 b t))
          * (yrow x0 x1 x2 x3 x4 x5 x6 x7 x8 x9 b t d - Spec.mean (yrow x0 x1 x2 x3 x4 x5 x6 x7 x8 x9 b t))) Spec.width := by
  rw [val_main_v74_apply, val_main_v72_apply, val_main_v71_apply, val_main_v73_apply, val_main_cst_18_apply,
    show idx_main_v72 (ix3 b t 0) = ix2 b t from eq_ix2 _]
  have h : ∀ k : Fin 1024, val_main_v70 (F := Ideal) x0 x1 x2 x3 x4 x5 x6 x7 x8 x9 (idx_main_v71 (ix2 b t) k)
      = (yrow x0 x1 x2 x3 x4 x5 x6 x7 x8 x9 b t k - Spec.mean (yrow x0 x1 x2 x3 x4 x5 x6 x7 x8 x9 b t))
          * (yrow x0 x1 x2 x3 x4 x5 x6 x7 x8 x9 b t k - Spec.mean (yrow x0 x1 x2 x3 x4 x5 x6 x7 x8 x9 b t)) := fun k => by
    rw [show idx_main_v71 (ix2 b t) k = ix3 b t k from eq_ix3 _, val_main_v70_apply, val_main_v69_apply, yrow_apply,
      val_main_v68_apply, show idx_main_v68 (ix3 b t k) = ix3 b t 0 from eq_ix3 _, mean_apply]
    rfl
  simp only [h]
  exact congrArg (fun z => Ideal.div z Spec.width) ((congrArg (· + _) Spec.bits_zero).trans (zero_add _))

/-- THE REFERENCE READ AT AN INDEX. -/
theorem result_apply (d : Fin 1024) :
    val_main_v87 (F := Ideal) x0 x1 x2 x3 x4 x5 x6 x7 x8 x9 x10 x11 (ix3 b t d)
      = Spec.out (xrow x0 b t) (shift x1 b) (scale x1 b) (gmod x1 b) (rw_ x2) (rb_ x3) (wIn x4) (wIn x5) (wOut x6)
          (sIn x7) (sIn x8) (sOut x9) (vec x10) (vec x11) d := by
  rw [val_main_v87_apply, val_main_v84_apply, val_main_v81_apply, val_main_v76_apply, yrow_apply, val_main_v75_apply,
    show idx_main_v75 (ix3 b t d) = ix3 b t 0 from eq_ix3 _, mean_apply, val_main_v80_apply,
    show idx_main_v80 (ix3 b t d) = ix3 b t 0 from eq_ix3 _, val_main_v79_apply, val_main_v78_apply, var_apply,
    val_main_v77_apply, val_main_cst_19_apply, val_main_v83_apply, val_main_v82_apply, val_main_v86_apply, val_main_v85_apply,
    show idx_main_v82 (idx_main_v83 (ix3 b t d)) = ix1 d from eq_ix1 _,
    show idx_main_v85 (idx_main_v86 (ix3 b t d)) = ix1 d from eq_ix1 _]
  rfl

end Cert.Moe.Ref

end
-- ==== Proof.MoeEqual.lean ====
/-
  The two mixture-of-experts programs leave the same result: element by element both are the layer's output of the
  arguments' rows.
-/
module

public import proofs.«01_k».proof.Defs
public import proofs.«01_k».proof.Proof.MoeFold
public import proofs.«01_k».proof.Proof.MoePre
public import proofs.«01_k».proof.Proof.MoeRef
public import proofs.«01_k».proof.Proof.Gen.MoeReferenceIdeal.Run

@[expose] public section

set_option maxRecDepth 65536
set_option maxHeartbeats 1000000

noncomputable section

namespace Cert.Moe.Equal

open Idealize.ShloMosaic hiding ix1 ix2 ix3 ix4 eq_ix3
open Idealize.ShloMosaic.ValueIdx Idealize.SL.Sem

/-- The kernel's result is the reference's value of the arguments. -/
theorem result_eq (m : (ℓ : Loc Cert.MoeIdeal.nD Cert.MoeIdeal.τ Cert.MoeIdeal.sig) → Buf (Elt Ideal) ℓ) (c : Dev Cert.MoeIdeal.nD)
    (h : Cert.Pre_MoeIdeal_router_inputs_finite m) :
    (Cert.MoeReferenceIdeal.Read.val_main_v87 (F := Ideal) (MoeIdeal.Host.arg0 m c) (MoeIdeal.Host.arg1 m c) (MoeIdeal.Host.arg2 m c)
      (MoeIdeal.Host.arg3 m c) (MoeIdeal.Host.arg4 m c) (MoeIdeal.Host.arg5 m c) (MoeIdeal.Host.arg6 m c) (MoeIdeal.Host.arg7 m c)
      (MoeIdeal.Host.arg8 m c) (MoeIdeal.Host.arg9 m c) (MoeIdeal.Host.arg10 m c) (MoeIdeal.Host.arg11 m c)
        : Cert.MoeReferenceIdeal.S4x8192x1024.Idx → EReal)
      = MoeIdeal.Value.G12 m c := by
  obtain ⟨hx, hm, hw⟩ := Pre.reals _ _ _ _ _ _ _ _ _ _ _ _ (h c)
  funext i
  obtain ⟨b, q, d, rfl⟩ : ∃ (b : Fin 4) (q : Fin 8192) (d : Fin 1024), i = ix3 b q d := ⟨_, _, _, ValueIdx.eq_ix3 i⟩
  refine (Ref.result_apply _ _ _ _ _ _ _ _ _ _ _ _ b q d).trans ?_
  exact (MoeIdeal.Fold.G12_apply m c b q hx hm hw ⟨q.val / 1024, by omega⟩ ⟨q.val % 1024, by omega⟩
    (by show q.val = q.val / 1024 * 1024 + q.val % 1024; omega) d).symm

theorem equal : Cert.algebraic_MoeIdeal_MoeReferenceIdeal_pre_router_inputs_finite := fun m g m' g' hpre hargs => by
  refine ⟨fun c => MoeIdeal.Value.G12 m c, MoeIdeal.Value.run m g, ?_⟩
  refine (θ_run Cert.MoeReferenceIdeal.defs _ _).mono (fun r h c => ⟨?_, (h c).2⟩) (Cert.MoeReferenceIdeal.Value.run (F := Ideal) m' g')
  refine (h c).1.trans ((Cert.MoeReferenceIdeal.Read.val_main_v87_eq (F := Ideal) (StableHlo.launchContents m' c)).trans ?_)
  refine Eq.trans ?_ (result_eq m c hpre)
  obtain ⟨e0, e1, e2, e3, e4, e5, e6, e7, e8, e9, e10, e11⟩ := hargs c
  have key : Cert.MoeReferenceIdeal.Read.val_main_v87 (F := Ideal) (m' ((c.tc : Thread Cert.MoeReferenceIdeal.nD Cert.MoeReferenceIdeal.τ).loc Cert.MoeReferenceIdeal.main_arg0))
      (m' ((c.tc : Thread Cert.MoeReferenceIdeal.nD Cert.MoeReferenceIdeal.τ).loc Cert.MoeReferenceIdeal.main_arg1))
      (m' ((c.tc : Thread Cert.MoeReferenceIdeal.nD Cert.MoeReferenceIdeal.τ).loc Cert.MoeReferenceIdeal.main_arg2))
      (m' ((c.tc : Thread Cert.MoeReferenceIdeal.nD Cert.MoeReferenceIdeal.τ).loc Cert.MoeReferenceIdeal.main_arg3))
      (m' ((c.tc : Thread Cert.MoeReferenceIdeal.nD Cert.MoeReferenceIdeal.τ).loc Cert.MoeReferenceIdeal.main_arg4))
      (m' ((c.tc : Thread Cert.MoeReferenceIdeal.nD Cert.MoeReferenceIdeal.τ).loc Cert.MoeReferenceIdeal.main_arg5))
      (m' ((c.tc : Thread Cert.MoeReferenceIdeal.nD Cert.MoeReferenceIdeal.τ).loc Cert.MoeReferenceIdeal.main_arg6))
      (m' ((c.tc : Thread Cert.MoeReferenceIdeal.nD Cert.MoeReferenceIdeal.τ).loc Cert.MoeReferenceIdeal.main_arg7))
      (m' ((c.tc : Thread Cert.MoeReferenceIdeal.nD Cert.MoeReferenceIdeal.τ).loc Cert.MoeReferenceIdeal.main_arg8))
      (m' ((c.tc : Thread Cert.MoeReferenceIdeal.nD Cert.MoeReferenceIdeal.τ).loc Cert.MoeReferenceIdeal.main_arg9))
      (m' ((c.tc : Thread Cert.MoeReferenceIdeal.nD Cert.MoeReferenceIdeal.τ).loc Cert.MoeReferenceIdeal.main_arg10))
      (m' ((c.tc : Thread Cert.MoeReferenceIdeal.nD Cert.MoeReferenceIdeal.τ).loc Cert.MoeReferenceIdeal.main_arg11))
      = Cert.MoeReferenceIdeal.Read.val_main_v87 (F := Ideal) (MoeIdeal.Host.arg0 m c) (MoeIdeal.Host.arg1 m c) (MoeIdeal.Host.arg2 m c)
      (MoeIdeal.Host.arg3 m c) (MoeIdeal.Host.arg4 m c) (MoeIdeal.Host.arg5 m c) (MoeIdeal.Host.arg6 m c) (MoeIdeal.Host.arg7 m c)
      (MoeIdeal.Host.arg8 m c) (MoeIdeal.Host.arg9 m c) (MoeIdeal.Host.arg10 m c) (MoeIdeal.Host.arg11 m c) := by
    rw [e0, e1, e2, e3, e4, e5, e6, e7, e8, e9, e10, e11]
  exact key

end Cert.Moe.Equal

end
-- ==== Proof.MergeHost.lean ====
/-
  The merge's windows read off the arguments: the host operations before the region only recast, and each window's block
  at a point is the part of its array the index maps name.
-/
module

public import proofs.«01_k».proof.Proof.MoeRead
public import proofs.«01_k».proof.Proof.Gen.MergeIdeal.Frame
public import Idealize.ShloMosaic.Lib.Claim
public import Idealize.ShloMosaic.Lib.KernelVsHost
public import Idealize.ShloMosaic.Lib.Pipeline.ValueKit

@[expose] public section

set_option maxRecDepth 65536
set_option maxHeartbeats 1000000

noncomputable section

namespace Cert.MergeIdeal.Host

open Idealize.ShloMosaic hiding ix1 ix2 ix3 ix4
open Idealize.ShloMosaic.TcCoe Idealize.ShloMosaic.ValueIdx Idealize.SL.Sem Cert.MergeIdeal Cert.MergeIdeal.Gen

variable (m : (ℓ : Loc nD τ sig) → Buf (Elt Ideal) ℓ) (c : Dev nD)

/-- The argument arrays. -/
abbrev arg0 : S4x8192x1024.Idx → EReal := m ((c : Thread nD τ).loc main_arg0)
abbrev arg1 : S4x3072.Idx → EReal := m ((c : Thread nD τ).loc main_arg1)
abbrev arg2 : S4x8192x256.Idx → EReal := m ((c : Thread nD τ).loc main_arg2)
abbrev arg3 : S4x256x8192.Idx → EReal := m ((c : Thread nD τ).loc main_arg3)
abbrev arg4 : S256x256x128.Idx → EReal := m ((c : Thread nD τ).loc main_arg4)
abbrev arg5 : S4x8192x256.Idx → EReal := m ((c : Thread nD τ).loc main_arg5)
abbrev arg6 : S4x8192x256.Idx → EReal := m ((c : Thread nD τ).loc main_arg6)
abbrev arg7 : S256.Idx → EReal := m ((c : Thread nD τ).loc main_arg7)
abbrev arg8 : S256x256.Idx → EReal := m ((c : Thread nD τ).loc main_arg8)
abbrev arg9 : S256.Idx → EReal := m ((c : Thread nD τ).loc main_arg9)
abbrev arg10 : S4x1024x1024.Idx → EReal := m ((c : Thread nD τ).loc main_arg10)
abbrev arg11 : S4x256x1024.Idx → EReal := m ((c : Thread nD τ).loc main_arg11)
abbrev arg12 : S1024x1024.Idx → EReal := m ((c : Thread nD τ).loc main_arg12)
abbrev arg13 : S1024.Idx → EReal := m ((c : Thread nD τ).loc main_arg13)
abbrev arg14 : S1024.Idx → EReal := m ((c : Thread nD τ).loc main_arg14)

theorem V_mod (b : Fin 4) (u : Fin 1) (k : Fin 3072) :
    (V m c main_v0 : S4x1x3072.Idx → EReal) (ix3 b u k) = arg1 m c (ix2 b k) := by
  unfold V
  simp only [hostOps0, List.flatten_cons, List.flatten_nil, List.append_nil, List.cons_append, List.nil_append]
  entry_read
  refine shapeCast_apply (arg1 m c) shapeCasts_S4x3072_S4x1x3072 _ (ix2 b k) ?_
  rw [rowMajor_val2 _ 3072 rfl, rowMajor_val3 _ 3072 3072 rfl rfl]
  show b.val * 3072 + k.val = b.val * 3072 + u.val * 3072 + k.val
  omega

theorem V_7 (u : Fin 1) (k : Fin 256) :
    (V m c main_v1 : S1x256.Idx → EReal) (ix2 u k) = arg7 m c (ix1 k) := by
  unfold V
  simp only [hostOps0, List.flatten_cons, List.flatten_nil, List.append_nil, List.cons_append, List.nil_append]
  entry_read
  exact shapeCast_a_1a_apply (arg7 m c) _ u k

theorem V_9 (u : Fin 1) (k : Fin 256) :
    (V m c main_v3 : S1x256.Idx → EReal) (ix2 u k) = arg9 m c (ix1 k) := by
  unfold V
  simp only [hostOps0, List.flatten_cons, List.flatten_nil, List.append_nil, List.cons_append, List.nil_append]
  entry_read
  exact shapeCast_a_1a_apply (arg9 m c) _ u k

theorem V_13 (u : Fin 1) (k : Fin 1024) :
    (V m c main_v7 : S1x1024.Idx → EReal) (ix2 u k) = arg13 m c (ix1 k) := by
  unfold V
  simp only [hostOps0, List.flatten_cons, List.flatten_nil, List.append_nil, List.cons_append, List.nil_append]
  entry_read
  exact shapeCast_a_1a_apply (arg13 m c) _ u k

theorem V_14 (u : Fin 1) (k : Fin 1024) :
    (V m c main_v8 : S1x1024.Idx → EReal) (ix2 u k) = arg14 m c (ix1 k) := by
  unfold V
  simp only [hostOps0, List.flatten_cons, List.flatten_nil, List.append_nil, List.cons_append, List.nil_append]
  entry_read
  exact shapeCast_a_1a_apply (arg14 m c) _ u k

theorem V_8 (i : S256x256.Idx) : (V m c main_v2 : S256x256.Idx → EReal) i = arg8 m c i := by
  unfold V
  simp only [hostOps0, List.flatten_cons, List.flatten_nil, List.append_nil, List.cons_append, List.nil_append]
  entry_read
  rfl

theorem V_10 (i : S4x1024x1024.Idx) : (V m c main_v4 : S4x1024x1024.Idx → EReal) i = arg10 m c i := by
  unfold V
  simp only [hostOps0, List.flatten_cons, List.flatten_nil, List.append_nil, List.cons_append, List.nil_append]
  entry_read
  rfl

theorem V_11 (i : S4x256x1024.Idx) : (V m c main_v5 : S4x256x1024.Idx → EReal) i = arg11 m c i := by
  unfold V
  simp only [hostOps0, List.flatten_cons, List.flatten_nil, List.append_nil, List.cons_append, List.nil_append]
  entry_read
  rfl

theorem V_12 (i : S1024x1024.Idx) : (V m c main_v6 : S1024x1024.Idx → EReal) i = arg12 m c i := by
  unfold V
  simp only [hostOps0, List.flatten_cons, List.flatten_nil, List.append_nil, List.cons_append, List.nil_append]
  entry_read
  rfl

/-- The blocks the windows name at a point. -/
theorem idx : ∀ t : Fin cfg0.N, win0_0.index t = ![t.val / 16, t.val % 16, 0] ∧ win0_1.index t = ![t.val / 16, 0, 0]
    ∧ win0_2.index t = ![t.val / 16, t.val % 16, 0] ∧ win0_3.index t = ![t.val / 16, 0, t.val % 16]
    ∧ win0_4.index t = ![0, t.val / 16 * 8 + t.val % 16 / 2, 0] ∧ win0_5.index t = ![t.val / 16, t.val % 16, 0]
    ∧ win0_6.index t = ![t.val / 16, t.val % 16, 0] ∧ win0_15.index t = ![t.val / 16, t.val % 16, 0] := by
  decide +kernel

theorem idx0 : ∀ t : Fin cfg0.N, win0_7.index t = ![0, 0] ∧ win0_8.index t = ![0, 0] ∧ win0_9.index t = ![0, 0]
    ∧ win0_10.index t = ![0, 0, 0] ∧ win0_11.index t = ![0, 0, 0] ∧ win0_12.index t = ![0, 0] ∧ win0_13.index t = ![0, 0]
    ∧ win0_14.index t = ![0, 0] := by
  decide +kernel

theorem w0_apply (t : Fin cfg0.N) (u : Fin 1) (r : Fin 512) (k : Fin 1024) (b : Fin 4) (q : Fin 8192) (hb : b.val = t.val / 16)
    (hq : q.val = t.val % 16 * 512 + r.val) :
    (iblk m c 0 t : S1x512x1024.Idx → EReal) (ix3 u r k) = arg0 m c (ix3 b q k) := by
  blk_ext [iblk, V, (idx t).1]
  · exact hb.symm
  · exact hq.symm

theorem w2_apply (t : Fin cfg0.N) (u : Fin 1) (r : Fin 512) (k : Fin 256) (b : Fin 4) (q : Fin 8192) (hb : b.val = t.val / 16)
    (hq : q.val = t.val % 16 * 512 + r.val) :
    (iblk m c 2 t : S1x512x256.Idx → EReal) (ix3 u r k) = arg2 m c (ix3 b q k) := by
  blk_ext [iblk, V, (idx t).2.2.1]
  · exact hb.symm
  · exact hq.symm

theorem w5_apply (t : Fin cfg0.N) (u : Fin 1) (r : Fin 512) (k : Fin 256) (b : Fin 4) (q : Fin 8192) (hb : b.val = t.val / 16)
    (hq : q.val = t.val % 16 * 512 + r.val) :
    (iblk m c 5 t : S1x512x256.Idx → EReal) (ix3 u r k) = arg5 m c (ix3 b q k) := by
  blk_ext [iblk, V, (idx t).2.2.2.2.2.1]
  · exact hb.symm
  · exact hq.symm

theorem w6_apply (t : Fin cfg0.N) (u : Fin 1) (r : Fin 512) (k : Fin 256) (b : Fin 4) (q : Fin 8192) (hb : b.val = t.val / 16)
    (hq : q.val = t.val % 16 * 512 + r.val) :
    (iblk m c 6 t : S1x512x256.Idx → EReal) (ix3 u r k) = arg6 m c (ix3 b q k) := by
  blk_ext [iblk, V, (idx t).2.2.2.2.2.2.1]
  · exact hb.symm
  · exact hq.symm

theorem w1_apply (t : Fin cfg0.N) (u v : Fin 1) (k : Fin 3072) (b : Fin 4) (hb : b.val = t.val / 16) :
    (iblk m c 1 t : S1x1x3072.Idx → EReal) (ix3 u v k) = arg1 m c (ix2 b k) := by
  refine Eq.trans ?_ (V_mod m c b 0 k)
  blk_ext [iblk, (idx t).2.1]
  exact hb.symm

theorem w3_apply (t : Fin cfg0.N) (u : Fin 1) (w : Fin 256) (r : Fin 512) (b : Fin 4) (q : Fin 8192) (hb : b.val = t.val / 16)
    (hq : q.val = t.val % 16 * 512 + r.val) :
    (iblk m c 3 t : S1x256x512.Idx → EReal) (ix3 u w r) = arg3 m c (ix3 b w q) := by
  blk_ext [iblk, V, (idx t).2.2.2.1]
  · exact hb.symm
  · exact hq.symm

theorem w4_apply (t : Fin cfg0.N) (w : Fin 256) (j : Fin 8) (a : Fin 128) (n : Fin 256)
    (hn : n.val = (t.val / 16 * 8 + t.val % 16 / 2) * 8 + j.val) :
    (iblk m c 4 t : S256x8x128.Idx → EReal) (ix3 w j a) = arg4 m c (ix3 w n a) := by
  blk_ext [iblk, V, (idx t).2.2.2.2.1]
  exact hn.symm

theorem w7_apply (t : Fin cfg0.N) (u : Fin 1) (k : Fin 256) :
    (iblk m c 7 t : S1x256.Idx → EReal) (ix2 u k) = arg7 m c (ix1 k) := by
  refine Eq.trans ?_ (V_7 m c u k)
  blk_ext [iblk, (idx0 t).1]

theorem w9_apply (t : Fin cfg0.N) (u : Fin 1) (k : Fin 256) :
    (iblk m c 9 t : S1x256.Idx → EReal) (ix2 u k) = arg9 m c (ix1 k) := by
  refine Eq.trans ?_ (V_9 m c u k)
  blk_ext [iblk, (idx0 t).2.2.1]

theorem w13_apply (t : Fin cfg0.N) (u : Fin 1) (k : Fin 1024) :
    (iblk m c 13 t : S1x1024.Idx → EReal) (ix2 u k) = arg13 m c (ix1 k) := by
  refine Eq.trans ?_ (V_13 m c u k)
  blk_ext [iblk, (idx0 t).2.2.2.2.2.2.1]

theorem w14_apply (t : Fin cfg0.N) (u : Fin 1) (k : Fin 1024) :
    (iblk m c 14 t : S1x1024.Idx → EReal) (ix2 u k) = arg14 m c (ix1 k) := by
  refine Eq.trans ?_ (V_14 m c u k)
  blk_ext [iblk, (idx0 t).2.2.2.2.2.2.2]

theorem w8_apply (t : Fin cfg0.N) (k : Fin 256) (f : Fin 256) :
    (iblk m c 8 t : S256x256.Idx → EReal) (ix2 k f) = arg8 m c (ix2 k f) := by
  refine Eq.trans ?_ (V_8 m c (ix2 k f))
  blk_ext [iblk, (idx0 t).2.1]

theorem w12_apply (t : Fin cfg0.N) (k : Fin 1024) (f : Fin 1024) :
    (iblk m c 12 t : S1024x1024.Idx → EReal) (ix2 k f) = arg12 m c (ix2 k f) := by
  refine Eq.trans ?_ (V_12 m c (ix2 k f))
  blk_ext [iblk, (idx0 t).2.2.2.2.2.1]

theorem w10_apply (t : Fin cfg0.N) (j : Fin 4) (k : Fin 1024) (f : Fin 1024) :
    (iblk m c 10 t : S4x1024x1024.Idx → EReal) (ix3 j k f) = arg10 m c (ix3 j k f) := by
  refine Eq.trans ?_ (V_10 m c (ix3 j k f))
  blk_ext [iblk, (idx0 t).2.2.2.1]

theorem w11_apply (t : Fin cfg0.N) (j : Fin 4) (k : Fin 256) (f : Fin 1024) :
    (iblk m c 11 t : S4x256x1024.Idx → EReal) (ix3 j k f) = arg11 m c (ix3 j k f) := by
  refine Eq.trans ?_ (V_11 m c (ix3 j k f))
  blk_ext [iblk, (idx0 t).2.2.2.2.1]

end Cert.MergeIdeal.Host

end
-- ==== Proof.MergeSpec.lean ====
/-
  The merge of one token as plain functions of the extended reals: the state-space branch's skip, activation and gated
  product, the four gated branch products, the output product, the residual and the layer norm. Both programs are shown to
  compute these.
-/
module

public import proofs.«01_k».proof.Proof.MoeSpec

@[expose] public section

noncomputable section

namespace Cert.Merge.Spec

open Idealize.ShloMosaic Cert.Moe.Spec

/-- The activation's constants: a half, the cubic term's factor and the square root of `2 / π`, as the programs hold them. -/
def half : EReal := Ideal.ofBits .f32 0x3F000000#32
def cubic : EReal := Ideal.ofBits .f32 0x3D372713#32
def root : EReal := Ideal.ofBits .f32 0x3F4C422A#32

/-- The activation. -/
def gelu (y : EReal) : EReal := y * (half * (1 + Ideal.tanh (root * (y + cubic * (y * y * y)))))

/-- The state-space branch with its skip. -/
def skip (y u d : Fin 256 → EReal) (w : Fin 256) : EReal := y w + d w * u w

/-- The state-space branch's output. -/
def scan (y u d : Fin 256 → EReal) (gw : Fin 256 → Fin 256 → EReal) (gb : Fin 256 → EReal) (w : Fin 256) : EReal :=
  gelu (skip y u d w) * sigm ((∑ k, gelu (skip y u d k) * gw k w) + gb w)

/-- A branch's gated product. -/
def gated (h : Fin 1024 → EReal) (wg : Fin 1024 → Fin 1024 → EReal) (y : Fin 256 → EReal) (wb : Fin 256 → Fin 1024 → EReal)
    (d : Fin 1024) : EReal := sigm (∑ k, h k * wg k d) * ∑ w, y w * wb w d

/-- The four branches added. -/
def merged (h : Fin 1024 → EReal) (wg : Fin 4 → Fin 1024 → Fin 1024 → EReal) (wb : Fin 4 → Fin 256 → Fin 1024 → EReal)
    (ya yb yc yd : Fin 256 → EReal) (d : Fin 1024) : EReal :=
  gated h (wg 0) ya (wb 0) d + gated h (wg 1) yb (wb 1) d + gated h (wg 2) yc (wb 2) d + gated h (wg 3) yd (wb 3) d

/-- The merge's output for one token. -/
def out (x sh sc gm : Fin 1024 → EReal) (ya yb ys u yd : Fin 256 → EReal) (sd : Fin 256 → EReal)
    (gw : Fin 256 → Fin 256 → EReal) (gb : Fin 256 → EReal) (wg : Fin 4 → Fin 1024 → Fin 1024 → EReal)
    (wb : Fin 4 → Fin 256 → Fin 1024 → EReal) (wo : Fin 1024 → Fin 1024 → EReal) (g b : Fin 1024 → EReal) :
    Fin 1024 → EReal :=
  norm (resid x gm fun d => ∑ k, merged (hid x sh sc) wg wb ya yb (scan ys u sd gw gb) yd k * wo k d) g b

end Cert.Merge.Spec

end
-- ==== Proof.MergeBody.lean ====
/-
  The merge's body read at a row and a column: the state-space branch's rows out of its pieces, its skip, activation and
  gate, the four branches' gated products, the residual sum and the layer norm.
-/
module

public import proofs.«01_k».proof.Proof.MergeSpec
public import proofs.«01_k».proof.Proof.MoeRead
public import proofs.«01_k».proof.Proof.Gen.MergeIdeal.Skeleton

@[expose] public section

set_option maxRecDepth 16384

noncomputable section

namespace Cert.MergeIdeal.Body

open Idealize.ShloMosaic Idealize.ShloMosaic.ValueIdx Cert.MergeIdeal Cert.MergeIdeal.Gen Cert.Moe Cert.Moe.Read

section Shape

variable {F : FTy → Type} [FloatOps F]

/-- The modulated rows. -/
def hidB (x : Vec F S1x512x1024 .f32) (sh sc : Vec F S1x1x1024 .f32) : FVec F S512x1024 .bf16 :=
  truncf .bf16 (addf (mulf (shapeCast S512x1024 x shapeCasts_S1x512x1024_S512x1024)
    (broadcastTo S512x1024 (addf (broadcast S1x1024 (Scalar.ofBits .f32 0x3F800000#32))
      (shapeCast S1x1024 sc shapeCasts_S1x1x1024_S1x1024)) broadcasts_S1x1024_S512x1024))
    (broadcastTo S512x1024 (shapeCast S1x1024 sh shapeCasts_S1x1x1024_S1x1024) broadcasts_S1x1024_S512x1024)) bitsLt_bf16_f32

/-- A piece of 128 tokens, laid out with a token a row. -/
def chunk (v : Vec F S256x1x128 .f32) : FVec F S128x256 .f32 :=
  transpose S128x256 [1, 0] (shapeCast S256x128 v shapeCasts_S256x1x128_S256x128) transposes_S256x128_p1_0_S128x256

/-- The state-space branch with its skip. -/
def skipB (a b c d : Vec F S256x1x128 .f32) (sd : Vec F S1x256 .f32) (u : Vec F S1x512x256 .f32) : FVec F S512x256 .f32 :=
  addf (concatenate S512x256 0 [⟨S128x256, chunk a⟩, ⟨S128x256, chunk b⟩, ⟨S128x256, chunk c⟩, ⟨S128x256, chunk d⟩]
      concatenates_S128x256_S128x256_S128x256_S128x256_S512x256_d0)
    (mulf (broadcastTo S512x256 (shapeCast S1x256 sd shapeCasts_S1x256_S1x256) broadcasts_S1x256_S512x256)
      (shapeCast S512x256 u shapeCasts_S1x512x256_S512x256))

/-- The activation. -/
def geluB (y : FVec F S512x256 .f32) : FVec F S512x256 .f32 :=
  mulf (mulf (broadcast S512x256 (Scalar.ofBits .f32 0x3F000000#32)) y)
    (addf (broadcast S512x256 (Scalar.ofBits .f32 0x3F800000#32))
      (tanh (mulf (broadcast S512x256 (Scalar.ofBits .f32 0x3F4C422A#32))
        (addf y (mulf (broadcast S512x256 (Scalar.ofBits .f32 0x3D372713#32)) (mulf (mulf y y) y))))))

/-- The state-space branch's gate. -/
def sigB (g : FVec F S512x256 .f32) (gw : Vec F S256x256 .bf16) (gb : Vec F S1x256 .f32) : FVec F S512x256 .f32 :=
  divf (broadcast S512x256 (Scalar.ofBits .f32 0x3F800000#32))
    (addf (broadcast S512x256 (Scalar.ofBits .f32 0x3F800000#32))
      (exp (subf (broadcast S512x256 (Scalar.ofBits .f32 0x00000000#32))
        (addf (matmul dot_S512x256_S256x256_S512x256_1_0_0_1_n_n none (truncf .bf16 g bitsLt_bf16_f32)
          (shapeCast S256x256 gw shapeCasts_S256x256_S256x256) (constant S512x256 .f32 0x00000000#32))
          (broadcastTo S512x256 (shapeCast S1x256 gb shapeCasts_S1x256_S1x256) broadcasts_S1x256_S512x256)))))

/-- The state-space branch's output of its rows with the skip. -/
def scanB (y : FVec F S512x256 .f32) (gw : Vec F S256x256 .bf16) (gb : Vec F S1x256 .f32) : FVec F S512x256 .bf16 :=
  truncf .bf16 (mulf (geluB y) (sigB (geluB y) gw gb)) bitsLt_bf16_f32

/-- A branch's gate and its product. -/
def gateB (h : FVec F S512x1024 .bf16) (wg : Vec F S1x1024x1024 .bf16) : FVec F S512x1024 .f32 :=
  divf (broadcast S512x1024 (Scalar.ofBits .f32 0x3F800000#32))
    (addf (broadcast S512x1024 (Scalar.ofBits .f32 0x3F800000#32))
      (exp (subf (broadcast S512x1024 (Scalar.ofBits .f32 0x00000000#32))
        (matmul dot_S512x1024_S1024x1024_S512x1024_1_0_0_1_n_n none h
          (shapeCast S1024x1024 wg shapeCasts_S1x1024x1024_S1024x1024) (constant S512x1024 .f32 0x00000000#32)))))
def prodB (y : FVec F S512x256 .bf16) (wb : Vec F S1x256x1024 .bf16) : FVec F S512x1024 .f32 :=
  matmul dot_S512x256_S256x1024_S512x1024_1_0_0_1_n_n none y
    (shapeCast S256x1024 wb shapeCasts_S1x256x1024_S256x1024) (constant S512x1024 .f32 0x00000000#32)

/-- The four branches added. -/
def mixB (h : FVec F S512x1024 .bf16) (ya yb yc yd : FVec F S512x256 .bf16) (g0 g1 g2 g3 : Vec F S1x1024x1024 .bf16)
    (b0 b1 b2 b3 : Vec F S1x256x1024 .bf16) : FVec F S512x1024 .f32 :=
  addf (addf (addf (mulf (gateB h g0) (prodB ya b0)) (mulf (gateB h g1) (prodB yb b1))) (mulf (gateB h g2) (prodB yc b2)))
    (mulf (gateB h g3) (prodB yd b3))

/-- The output product. -/
def outB (mix : FVec F S512x1024 .f32) (wo : Vec F S1024x1024 .bf16) : FVec F S512x1024 .f32 :=
  matmul dot_S512x1024_S1024x1024_S512x1024_1_0_0_1_n_n none (truncf .bf16 mix bitsLt_bf16_f32)
    (shapeCast S1024x1024 wo shapeCasts_S1024x1024_S1024x1024) (constant S512x1024 .f32 0x00000000#32)

/-- The residual sum. -/
def resid (gm : Vec F S1x1x1024 .f32) (x : Vec F S1x512x1024 .f32) (o : FVec F S512x1024 .f32) : FVec F S512x1024 .f32 :=
  addf (mulf (broadcast S512x1024 (Scalar.ofBits .f32 0x3FB504F3#32)) (shapeCast S512x1024 x shapeCasts_S1x512x1024_S512x1024))
    (mulf (broadcastTo S512x1024 (addf (broadcast S1x1024 (Scalar.ofBits .f32 0x3F800000#32))
      (shapeCast S1x1024 gm shapeCasts_S1x1x1024_S1x1024)) broadcasts_S1x1024_S512x1024) o)

/-- A row's mean, as a column. -/
def avg (y : FVec F S512x1024 .f32) : FVec F S512x1 .f32 :=
  divf (shapeCast S512x1 (multiReduction .add [1] S512 y 0x00000000#32 reduces_S512x1024_S512 (.inl rfl) rfl)
    shapeCasts_S512_S512x1) (broadcast S512x1 (Scalar.ofBits .f32 0x44800000#32))

/-- The rows less their means. -/
def centred (y : FVec F S512x1024 .f32) : FVec F S512x1024 .f32 :=
  subf y (broadcastTo S512x1024 (avg y) broadcasts_S512x1_S512x1024)

/-- The layer norm of rows already centred. -/
def scaled (z : FVec F S512x1024 .f32) (g b : Vec F S1x1024 .f32) : FVec F S512x1024 .f32 :=
  addf (mulf (mulf z (broadcastTo S512x1024
      (rsqrt (addf (avg (mulf z z)) (broadcast S512x1 (Scalar.ofBits .f32 0x3727C5AC#32)))) broadcasts_S512x1_S512x1024))
      (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

theorem hid_eq (x : Vec F S1x512x1024 .f32) (sh sc : Vec F S1x1x1024 .f32) : k0_pay4 x sh sc = hidB x sh sc := rfl

theorem even_eq (a0 a1 a2 a3 a4 a5 a6 a7 : Vec F S256x1x128 .f32) (sd : Vec F S1x256 .f32) (u : Vec F S1x512x256 .f32) :
    k0_pay7 0#32 (k0_pay5 a0) (k0_pay6 a1) a2 a3 a4 a5 a6 a7 sd u = skipB a0 a1 a2 a3 sd u := rfl

theorem odd_eq (a0 a1 a2 a3 a4 a5 a6 a7 : Vec F S256x1x128 .f32) (sd : Vec F S1x256 .f32) (u : Vec F S1x512x256 .f32) :
    k0_pay7 1#32 (k0_pay5 a0) (k0_pay6 a1) a2 a3 a4 a5 a6 a7 sd u = skipB a4 a5 a6 a7 sd u := rfl

theorem scan_eq (y : FVec F S512x256 .f32) (gw : Vec F S256x256 .bf16) (gb : Vec F S1x256 .f32) :
    k0_pay10 y (Scalar.ofBits .f32 0x3F000000#32) gw gb = scanB y gw gb := rfl

theorem resid_eq (x : Vec F S1x512x1024 .f32) (gm : Vec F S1x1x1024 .f32) (h : FVec F S512x1024 .bf16)
    (ya yb yc yd : FVec F S512x256 .bf16) (g0 g1 g2 g3 : Vec F S1x1024x1024 .bf16) (b0 b1 b2 b3 : Vec F S1x256x1024 .bf16)
    (wo : Vec F S1024x1024 .bf16) :
    k0_pay14 (k0_pay2 x) (k0_pay3 gm) h yc yd (k0_pay12 h yb ya g0 b0 g1 b1) (k0_pay13 h g2) b2 g3 b3 wo
      = resid gm x (outB (mixB h ya yb yc yd g0 g1 g2 g3 b0 b1 b2 b3) wo) := rfl

theorem norm_eq (y : FVec F S512x1024 .f32) (g b : Vec F S1x1024 .f32) :
    k0_pay1 y g b = shapeCast S1x512x1024 (scaled (centred y) g b) shapeCasts_S512x1024_S1x512x1024 := rfl

end Shape

variable (r : Fin 512)

theorem hid_apply (x : Vec Ideal S1x512x1024 .f32) (sh sc : Vec Ideal S1x1x1024 .f32) (d : Fin 1024) :
    (hidB x sh sc (ix2 r d) : EReal)
      = Spec.hid (fun k => x (ix3 0 r k)) (fun k => sh (ix3 0 0 k)) (fun k => sc (ix3 0 0 k)) d := by
  have e1 : shapeCast S512x1024 x shapeCasts_S1x512x1024_S512x1024 (ix2 r d) = x (ix3 0 r d) := shapeCast_1ab_ab_apply x _ r d
  have e2 : (broadcastTo S512x1024 (addf (broadcast S1x1024 (Scalar.ofBits (F := Ideal) .f32 0x3F800000#32))
      (shapeCast S1x1024 sc shapeCasts_S1x1x1024_S1x1024)) broadcasts_S1x1024_S512x1024 (ix2 r d) : EReal)
      = 1 + sc (ix3 0 0 d) := (broadcastTo_1b_ab_apply _ _ r d).trans
        (congr (congrArg (fun z w : EReal => z + w) Spec.bits_one) (shapeCast_1ab_ab_apply sc _ 0 d))
  have e3 : broadcastTo S512x1024 (shapeCast S1x1024 sh shapeCasts_S1x1x1024_S1x1024) broadcasts_S1x1024_S512x1024 (ix2 r d)
      = sh (ix3 0 0 d) := (broadcastTo_1b_ab_apply _ _ r d).trans (shapeCast_1ab_ab_apply sh _ 0 d)
  exact congr (congrArg (fun p q : EReal => p + q) (congr (congrArg (fun p q : EReal => p * q) e1) e2)) e3

theorem chunk_apply (v : Vec Ideal S256x1x128 .f32) (q : Fin 128) (w : Fin 256) :
    (chunk v (ix2 q w) : EReal) = v (ix3 w 0 q) := by
  refine (transpose_ix2_apply _ _ q w).trans ?_
  refine shapeCast_apply v _ _ (ix3 w 0 q) ?_
  rw [Shape.rowMajor_val_three, Shape.rowMajor_val_two]
  show (w.val * 1 + 0) * 128 + q.val = w.val * 128 + q.val
  omega

theorem skip_apply (X : Fin 4 → Vec Ideal S256x1x128 .f32) (sd : Vec Ideal S1x256 .f32) (u : Vec Ideal S1x512x256 .f32)
    (w : Fin 256) :
    (skipB (X 0) (X 1) (X 2) (X 3) sd u (ix2 r w) : EReal)
      = Merge.Spec.skip (fun w => X ⟨r.val / 128, by omega⟩ (ix3 w 0 ⟨r.val % 128, by omega⟩)) (fun w => u (ix3 0 r w))
          (fun w => sd (ix2 0 w)) w := by
  unfold skipB
  rw [shapeCast_self]
  have e1 : broadcastTo S512x256 sd broadcasts_S1x256_S512x256 (ix2 r w) = sd (ix2 0 w) := broadcastTo_1b_ab_apply _ _ r w
  have e2 : shapeCast S512x256 u shapeCasts_S1x512x256_S512x256 (ix2 r w) = u (ix3 0 r w) := shapeCast_1ab_ab_apply u _ r w
  have e0 : (concatenate S512x256 0 [⟨S128x256, chunk (X 0)⟩, ⟨S128x256, chunk (X 1)⟩, ⟨S128x256, chunk (X 2)⟩, ⟨S128x256, chunk (X 3)⟩]
      concatenates_S128x256_S128x256_S128x256_S128x256_S512x256_d0 (ix2 r w) : EReal)
      = X ⟨r.val / 128, by omega⟩ (ix3 w 0 ⟨r.val % 128, by omega⟩) := by
    rcases (show r.val / 128 = 0 ∨ r.val / 128 = 1 ∨ r.val / 128 = 2 ∨ r.val / 128 = 3 by omega) with h | h | h | h
    · refine (catRows_apply _ _ r w 0 (by show 0 < 4; decide) (chunk (X 0)) rfl 0 rfl ⟨r.val % 128, by omega⟩ (by show 0 + r.val % 128 = r.val; omega)).trans ?_
      refine (chunk_apply _ _ _).trans (congrArg (fun j => X j (ix3 w 0 ⟨r.val % 128, by omega⟩)) (Fin.ext h.symm))
    · refine (catRows_apply _ _ r w 1 (by show 1 < 4; decide) (chunk (X 1)) rfl 128 rfl ⟨r.val % 128, by omega⟩ (by show 128 + r.val % 128 = r.val; omega)).trans ?_
      refine (chunk_apply _ _ _).trans (congrArg (fun j => X j (ix3 w 0 ⟨r.val % 128, by omega⟩)) (Fin.ext h.symm))
    · refine (catRows_apply _ _ r w 2 (by show 2 < 4; decide) (chunk (X 2)) rfl 256 rfl ⟨r.val % 128, by omega⟩ (by show 256 + r.val % 128 = r.val; omega)).trans ?_
      refine (chunk_apply _ _ _).trans (congrArg (fun j => X j (ix3 w 0 ⟨r.val % 128, by omega⟩)) (Fin.ext h.symm))
    · refine (catRows_apply _ _ r w 3 (by show 3 < 4; decide) (chunk (X 3)) rfl 384 rfl ⟨r.val % 128, by omega⟩ (by show 384 + r.val % 128 = r.val; omega)).trans ?_
      refine (chunk_apply _ _ _).trans (congrArg (fun j => X j (ix3 w 0 ⟨r.val % 128, by omega⟩)) (Fin.ext h.symm))
  exact congr (congrArg (fun p q : EReal => p + q) e0) (congr (congrArg (fun p q : EReal => p * q) e1) e2)

theorem gelu_apply (y : FVec Ideal S512x256 .f32) (w : Fin 256) :
    (geluB y (ix2 r w) : EReal) = Merge.Spec.gelu (y (ix2 r w)) := by
  have key : ∀ (h o t y : EReal), o = 1 → (h * y) * (o + t) = y * (h * (1 + t)) := fun h o t y ho => by
    rw [ho, mul_comm h y, mul_assoc]
  exact key Merge.Spec.half _ _ _ Spec.bits_one

theorem sig_apply (g : FVec Ideal S512x256 .f32) (gw : Vec Ideal S256x256 .bf16) (gb : Vec Ideal S1x256 .f32) (w : Fin 256) :
    (sigB g gw gb (ix2 r w) : EReal)
      = Spec.sigm ((∑ k : Fin 256, (g (ix2 r k) : EReal) * gw (ix2 k w)) + gb (ix2 0 w)) := by
  unfold sigB
  rw [shapeCast_self, shapeCast_self]
  have e1 : (matmul (φ₂ := .bf16) dot_S512x256_S256x256_S512x256_1_0_0_1_n_n none (truncf .bf16 g bitsLt_bf16_f32) gw
      (constant S512x256 .f32 0x00000000#32) (ix2 r w) : EReal) = ∑ k : Fin 256, (g (ix2 r k) : EReal) * gw (ix2 k w) :=
    mm_apply (φ₂ := .bf16) _ rfl _ _ r w
  have e2 : (broadcastTo S512x256 gb broadcasts_S1x256_S512x256 (ix2 r w) : EReal) = gb (ix2 0 w) := broadcastTo_1b_ab_apply _ _ r w
  rw [← e1, ← e2]
  exact sigm_apply Spec.bits_zero Spec.bits_one Spec.bits_one

theorem scan_apply (y : FVec Ideal S512x256 .f32) (gw : Vec Ideal S256x256 .bf16) (gb : Vec Ideal S1x256 .f32)
    (ys u sd : Fin 256 → EReal) (hy : ∀ w, (y (ix2 r w) : EReal) = Merge.Spec.skip ys u sd w) (w : Fin 256) :
    (scanB y gw gb (ix2 r w) : EReal)
      = Merge.Spec.scan ys u sd (fun k w => gw (ix2 k w)) (fun w => gb (ix2 0 w)) w := by
  have e : ∀ k, (geluB y (ix2 r k) : EReal) = Merge.Spec.gelu (Merge.Spec.skip ys u sd k) := fun k => by
    rw [gelu_apply, hy]
  refine congr (congrArg (fun p q : EReal => p * q) (e w)) ((sig_apply r _ gw gb w).trans ?_)
  simp only [e]

theorem gated_apply (h : FVec Ideal S512x1024 .bf16) (y : FVec Ideal S512x256 .bf16) (wg : Vec Ideal S1x1024x1024 .bf16)
    (wb : Vec Ideal S1x256x1024 .bf16) (d : Fin 1024) :
    ((mulf (gateB h wg) (prodB y wb)) (ix2 r d) : EReal)
      = Merge.Spec.gated (fun k => h (ix2 r k)) (fun k d => wg (ix3 0 k d)) (fun w => y (ix2 r w)) (fun w d => wb (ix3 0 w d)) d := by
  have eg : (gateB h wg (ix2 r d) : EReal) = Spec.sigm (∑ k : Fin 1024, (h (ix2 r k) : EReal) * wg (ix3 0 k d)) := by
    refine (sigm_apply Spec.bits_zero Spec.bits_one Spec.bits_one).trans (congrArg Spec.sigm ?_)
    refine (mm_apply _ rfl _ _ r d).trans (Finset.sum_congr rfl fun k _ => congrArg (fun z : EReal => _ * z) ?_)
    exact shapeCast_1ab_ab_apply wg _ k d
  have ep : (prodB y wb (ix2 r d) : EReal) = ∑ w : Fin 256, (y (ix2 r w) : EReal) * wb (ix3 0 w d) := by
    refine (mm_apply _ rfl _ _ r d).trans (Finset.sum_congr rfl fun k _ => congrArg (fun z : EReal => _ * z) ?_)
    exact shapeCast_1ab_ab_apply wb _ k d
  exact congr (congrArg (fun p q : EReal => p * q) eg) ep

theorem mix_apply (h : FVec Ideal S512x1024 .bf16) (ya yb yc yd : FVec Ideal S512x256 .bf16)
    (g : Fin 4 → Vec Ideal S1x1024x1024 .bf16) (b : Fin 4 → Vec Ideal S1x256x1024 .bf16) (d : Fin 1024) :
    (mixB h ya yb yc yd (g 0) (g 1) (g 2) (g 3) (b 0) (b 1) (b 2) (b 3) (ix2 r d) : EReal)
      = Merge.Spec.merged (fun k => h (ix2 r k)) (fun j k d => g j (ix3 0 k d)) (fun j w d => b j (ix3 0 w d))
          (fun w => ya (ix2 r w)) (fun w => yb (ix2 r w)) (fun w => yc (ix2 r w)) (fun w => yd (ix2 r w)) d :=
  congr (congrArg (fun p q : EReal => p + q) (congr (congrArg (fun p q : EReal => p + q)
    (congr (congrArg (fun p q : EReal => p + q) (gated_apply r h ya (g 0) (b 0) d)) (gated_apply r h yb (g 1) (b 1) d)))
    (gated_apply r h yc (g 2) (b 2) d))) (gated_apply r h yd (g 3) (b 3) d)

theorem out_apply (mix : FVec Ideal S512x1024 .f32) (wo : Vec Ideal S1024x1024 .bf16) (d : Fin 1024) :
    (outB mix wo (ix2 r d) : EReal) = ∑ k : Fin 1024, (mix (ix2 r k) : EReal) * wo (ix2 k d) := by
  unfold outB
  rw [shapeCast_self]
  exact mm_apply _ rfl _ _ r d

theorem resid_apply (gm : Vec Ideal S1x1x1024 .f32) (x : Vec Ideal S1x512x1024 .f32) (o : FVec Ideal S512x1024 .f32) (d : Fin 1024) :
    (resid gm x o (ix2 r d) : EReal)
      = Spec.resid (fun k => x (ix3 0 r k)) (fun k => gm (ix3 0 0 k)) (fun k => o (ix2 r k)) d := by
  have e1 : shapeCast S512x1024 x shapeCasts_S1x512x1024_S512x1024 (ix2 r d) = x (ix3 0 r d) := shapeCast_1ab_ab_apply x _ r d
  have e3 : (broadcastTo S512x1024 (addf (broadcast S1x1024 (Scalar.ofBits (F := Ideal) .f32 0x3F800000#32))
      (shapeCast S1x1024 gm shapeCasts_S1x1x1024_S1x1024)) broadcasts_S1x1024_S512x1024 (ix2 r d) : EReal)
      = 1 + gm (ix3 0 0 d) := (broadcastTo_1b_ab_apply _ _ r d).trans
        (congr (congrArg (fun z w : EReal => z + w) Spec.bits_one) (shapeCast_1ab_ab_apply gm _ 0 d))
  exact congr (congrArg (fun z w : EReal => Spec.alpha * z + w * (o (ix2 r d) : EReal)) e1) e3

theorem avg_apply (y : FVec Ideal S512x1024 .f32) (u : Fin 1) :
    (avg y (ix2 r u) : EReal) = Ideal.div (∑ d : Fin 1024, y (ix2 r d)) Spec.width := by
  refine congrArg (fun z : EReal => Ideal.div z Spec.width) ?_
  exact (col_apply _ _ r u).trans (rowSum_apply _ _ _ _ r)

theorem centred_apply (y : FVec Ideal S512x1024 .f32) (d : Fin 1024) :
    (centred y (ix2 r d) : EReal) = y (ix2 r d) - Spec.mean (fun k => y (ix2 r k)) := by
  refine congrArg (fun z : EReal => (y (ix2 r d) : EReal) - z) ?_
  exact (alongCols_apply (by decide) _ _ r d).trans (avg_apply r y 0)

theorem scaled_apply (z : FVec Ideal S512x1024 .f32) (g b : Vec Ideal S1x1024 .f32) (d : Fin 1024) :
    (scaled z g b (ix2 r d) : EReal)
      = (z (ix2 r d) : EReal) * Ideal.rsqrt (Ideal.div (∑ k : Fin 1024, (z (ix2 r k) : EReal) * z (ix2 r k)) Spec.width + Spec.eps)
          * g (ix2 0 d) + b (ix2 0 d) := by
  unfold scaled
  rw [shapeCast_self, shapeCast_self]
  have e1 : (broadcastTo S512x1024 (rsqrt (addf (avg (mulf z z)) (broadcast S512x1 (Scalar.ofBits (F := Ideal) .f32 0x3727C5AC#32))))
      broadcasts_S512x1_S512x1024 (ix2 r d) : EReal)
      = Ideal.rsqrt (Ideal.div (∑ k : Fin 1024, (z (ix2 r k) : EReal) * z (ix2 r k)) Spec.width + Spec.eps) :=
    (alongCols_apply (by decide) _ _ r d).trans (congrArg (fun q : EReal => Ideal.rsqrt (q + Spec.eps)) (avg_apply r _ 0))
  have e2 : broadcastTo S512x1024 g broadcasts_S1x1024_S512x1024 (ix2 r d) = g (ix2 0 d) := broadcastTo_1b_ab_apply _ _ r d
  have e3 : broadcastTo S512x1024 b broadcasts_S1x1024_S512x1024 (ix2 r d) = b (ix2 0 d) := broadcastTo_1b_ab_apply _ _ r d
  rw [← e1, ← e2, ← e3]
  rfl

/-- The stored block of a residual sum. -/
theorem stored_apply (y : FVec Ideal S512x1024 .f32) (g b : Vec Ideal S1x1024 .f32) (z : Fin 1024 → EReal)
    (hz : ∀ k, (y (ix2 r k) : EReal) = z k) (u : Fin 1) (d : Fin 1024) :
    (k0_pay1 y g b (ix3 u r d) : EReal) = Spec.norm z (fun k => g (ix2 0 k)) (fun k => b (ix2 0 k)) d := by
  have hu : u = 0 := Subsingleton.elim _ _
  subst hu
  rw [norm_eq]
  refine Eq.trans (shapeCast_ab_1ab_apply _ _ _ r d) ?_
  rw [scaled_apply]
  have hc : ∀ k, (centred y (ix2 r k) : EReal) = z k - Spec.mean z := fun k => by
    rw [centred_apply]
    simp only [hz]
  simp only [hc]
  rfl

/-- The body's block at a row and a column, of the pieces it loads. -/
theorem body_apply (x : Vec Ideal S1x512x1024 .f32) (sh sc gm : Vec Ideal S1x1x1024 .f32) (ya : Vec Ideal S1x512x256 .bf16)
    (yb : Vec Ideal S1x256x512 .bf16) (X : Fin 4 → Vec Ideal S256x1x128 .f32) (v : Vec Ideal S1x512x256 .f32)
    (yd : Vec Ideal S1x512x256 .bf16) (sd : Vec Ideal S1x256 .f32) (gw : Vec Ideal S256x256 .bf16) (gb : Vec Ideal S1x256 .f32)
    (wg : Fin 4 → Vec Ideal S1x1024x1024 .bf16) (wb : Fin 4 → Vec Ideal S1x256x1024 .bf16) (wo : Vec Ideal S1024x1024 .bf16)
    (g b : Vec Ideal S1x1024 .f32) (u : Fin 1) (d : Fin 1024) :
    (k0_pay1 (k0_pay14 (k0_pay2 x) (k0_pay3 gm) (k0_pay4 x sh sc)
        (k0_pay10 (skipB (X 0) (X 1) (X 2) (X 3) sd v) (Scalar.ofBits .f32 0x3F000000#32) gw gb) (k0_pay11 yd)
        (k0_pay12 (k0_pay4 x sh sc) (k0_pay8 yb) (k0_pay9 ya) (wg 0) (wb 0) (wg 1) (wb 1)) (k0_pay13 (k0_pay4 x sh sc) (wg 2))
        (wb 2) (wg 3) (wb 3) wo) g b (ix3 u r d) : EReal)
      = Merge.Spec.out (fun k => x (ix3 0 r k)) (fun k => sh (ix3 0 0 k)) (fun k => sc (ix3 0 0 k)) (fun k => gm (ix3 0 0 k))
          (fun w => ya (ix3 0 r w)) (fun w => yb (ix3 0 w r))
          (fun w => X ⟨r.val / 128, by omega⟩ (ix3 w 0 ⟨r.val % 128, by omega⟩)) (fun w => v (ix3 0 r w))
          (fun w => yd (ix3 0 r w)) (fun w => sd (ix2 0 w)) (fun k w => gw (ix2 k w)) (fun w => gb (ix2 0 w))
          (fun j k d => wg j (ix3 0 k d)) (fun j w d => wb j (ix3 0 w d)) (fun k d => wo (ix2 k d))
          (fun k => g (ix2 0 k)) (fun k => b (ix2 0 k)) d := by
  refine stored_apply r _ g b _ (fun k => ?_) u d
  rw [resid_eq, scan_eq, hid_eq, resid_apply]
  have eh : ∀ k, (hidB x sh sc (ix2 r k) : EReal)
      = Spec.hid (fun k => x (ix3 0 r k)) (fun k => sh (ix3 0 0 k)) (fun k => sc (ix3 0 0 k)) k := hid_apply r x sh sc
  have ea : ∀ w, (k0_pay9 ya (ix2 r w) : EReal) = ya (ix3 0 r w) := fun w => shapeCast_1ab_ab_apply ya _ r w
  have ed : ∀ w, (k0_pay11 yd (ix2 r w) : EReal) = yd (ix3 0 r w) := fun w => shapeCast_1ab_ab_apply yd _ r w
  have eb : ∀ w, (k0_pay8 yb (ix2 r w) : EReal) = yb (ix3 0 w r) := fun w =>
    (transpose_ix2_apply _ _ r w).trans (shapeCast_1ab_ab_apply yb _ w r)
  have ec : ∀ w, (scanB (skipB (X 0) (X 1) (X 2) (X 3) sd v) gw gb (ix2 r w) : EReal) = _ :=
    scan_apply r _ gw gb _ _ _ (skip_apply r X sd v)
  simp only [out_apply, mix_apply, eh, ea, ed, eb, ec]

end Cert.MergeIdeal.Body

end
-- ==== Proof.MergeOut.lean ====
/-
  The block a point leaves, read off its windows' blocks: the state-space branch's four pieces are the first or the last
  four of its window's eight, by the parity of the point.
-/
module

public import proofs.«01_k».proof.Proof.MergeBody
public import proofs.«01_k».proof.Proof.Gen.MergeIdeal.Frame
public import Idealize.ShloMosaic.Lib.Pipeline.Value

@[expose] public section

set_option maxRecDepth 65536
set_option maxHeartbeats 1000000

noncomputable section

namespace Cert.MergeIdeal.Out

open Idealize.ShloMosaic Idealize.ShloMosaic.ValueIdx Cert.MergeIdeal Cert.MergeIdeal.Gen Cert.MergeIdeal.Body Cert.Moe

/-- The second coordinate's remainder by two, as the body writes it. -/
def word (n : ℕ) : BitVec 32 :=
  Scalar.select (Scalar.andi (Scalar.xori (Scalar.cmpi .slt (Scalar.remsi (BitVec.ofNat 32 n) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 n) (Scalar.select (Scalar.cmpi .eq 2#32 0#32) 1#32 2#32)) 0#32)) (Scalar.addi (Scalar.remsi (BitVec.ofNat 32 n) (Scalar.select (Scalar.cmpi .eq 2#32 0#32) 1#32 2#32)) (Scalar.select (Scalar.cmpi .eq 2#32 0#32) 1#32 2#32)) (Scalar.remsi (BitVec.ofNat 32 n) (Scalar.select (Scalar.cmpi .eq 2#32 0#32) 1#32 2#32))

theorem word_eq : ∀ t : Fin cfg0.N, word (grid0.coords t 1).val = BitVec.ofNat 32 (t.val % 2) := by decide +kernel

variable (x0 : Vec Ideal S1x512x1024 .f32) (x1 : Vec Ideal S1x1x3072 .f32) (x2 : Vec Ideal S1x512x256 .bf16)
  (x3 : Vec Ideal S1x256x512 .bf16) (x4 : Vec Ideal S256x8x128 .f32) (x5 : Vec Ideal S1x512x256 .f32)
  (x6 : Vec Ideal S1x512x256 .bf16) (x7 : Vec Ideal S1x256 .f32) (x8 : Vec Ideal S256x256 .bf16) (x9 : Vec Ideal S1x256 .f32)
  (x10 : Vec Ideal S4x1024x1024 .bf16) (x11 : Vec Ideal S4x256x1024 .bf16) (x12 : Vec Ideal S1024x1024 .bf16)
  (x13 x14 : Vec Ideal S1x1024 .f32)

/-- A piece of the state-space branch's window, and a slab of the gates' and of the products' weights. -/
def piece (j : Fin 8) : Vec Ideal S256x1x128 .f32 :=
  View.ld x4 (Rect.unit (s := S256x8x128) ![0, j.val, 0] S256x1x128.size (by
    intro a
    match a with
    | ⟨0, _⟩ => show 0 + 256 ≤ 256; omega
    | ⟨1, _⟩ => show j.val + 1 ≤ 8; omega
    | ⟨2, _⟩ => show 0 + 128 ≤ 128; omega))
def slabG (j : Fin 4) : Vec Ideal S1x1024x1024 .bf16 :=
  View.ld x10 (Rect.unit (s := S4x1024x1024) ![j.val, 0, 0] S1x1024x1024.size (by
    intro a
    match a with
    | ⟨0, _⟩ => show j.val + 1 ≤ 4; omega
    | ⟨1, _⟩ => show 0 + 1024 ≤ 1024; omega
    | ⟨2, _⟩ => show 0 + 1024 ≤ 1024; omega))
def slabB (j : Fin 4) : Vec Ideal S1x256x1024 .bf16 :=
  View.ld x11 (Rect.unit (s := S4x256x1024) ![j.val, 0, 0] S1x256x1024.size (by
    intro a
    match a with
    | ⟨0, _⟩ => show j.val + 1 ≤ 4; omega
    | ⟨1, _⟩ => show 0 + 256 ≤ 256; omega
    | ⟨2, _⟩ => show 0 + 1024 ≤ 1024; omega))

theorem piece_apply (j : Fin 8) (w : Fin 256) (q : Fin 128) : piece x4 j (ix3 w 0 q) = x4 (ix3 w j q) := by
  refine congrArg x4 (funext fun a => Fin.ext ?_)
  match a with
  | ⟨0, _⟩ => show 0 + 1 * w.val = w.val; omega
  | ⟨1, _⟩ => show j.val + 1 * 0 = j.val; omega
  | ⟨2, _⟩ => show 0 + 1 * q.val = q.val; omega
theorem slabG_apply (j : Fin 4) (k d : Fin 1024) : slabG x10 j (ix3 0 k d) = x10 (ix3 j k d) := by
  refine congrArg x10 (funext fun a => Fin.ext ?_)
  match a with
  | ⟨0, _⟩ => show j.val + 1 * 0 = j.val; omega
  | ⟨1, _⟩ => show 0 + 1 * k.val = k.val; omega
  | ⟨2, _⟩ => show 0 + 1 * d.val = d.val; omega
theorem slabB_apply (j : Fin 4) (w : Fin 256) (d : Fin 1024) : slabB x11 j (ix3 0 w d) = x11 (ix3 j w d) := by
  refine congrArg x11 (funext fun a => Fin.ext ?_)
  match a with
  | ⟨0, _⟩ => show j.val + 1 * 0 = j.val; omega
  | ⟨1, _⟩ => show 0 + 1 * w.val = w.val; omega
  | ⟨2, _⟩ => show 0 + 1 * d.val = d.val; omega

/-- The shift, the scale and the output's factor, columns of one window. -/
theorem mod_apply (o : ℕ) (inb : ∀ a, (![0, 0, o] : Fin 3 → ℕ) a + S1x1x1024.size a ≤ S1x1x3072.size a) (k : Fin 1024)
    (h : o + k.val < 3072) :
    View.ld x1 (Rect.unit (s := S1x1x3072) ![0, 0, o] S1x1x1024.size inb) (ix3 (0 : Fin 1) (0 : Fin 1) k)
      = x1 (ix3 0 0 ⟨o + k.val, h⟩) := by
  refine congrArg x1 (funext fun a => Fin.ext ?_)
  match a with
  | ⟨0, _⟩ => rfl
  | ⟨1, _⟩ => rfl
  | ⟨2, _⟩ => show o + 1 * k.val = o + k.val; omega

theorem zero3 : (![0, 0, 0] : Fin 3 → ℕ) = fun _ => 0 := by
  funext a
  match a with
  | ⟨0, _⟩ => rfl
  | ⟨1, _⟩ => rfl
  | ⟨2, _⟩ => rfl
theorem zero2 : (![0, 0] : Fin 2 → ℕ) = fun _ => 0 := by
  funext a
  match a with
  | ⟨0, _⟩ => rfl
  | ⟨1, _⟩ => rfl

/-- The stored value, with the parity's word apart. -/
def stored (n : BitVec 32) : FVec Ideal S1x512x1024 .f32 :=
  k0_pay1 (k0_pay14 (k0_pay2 x0) (k0_pay3 (View.ld x1 r0_3)) (k0_pay4 x0 (View.ld x1 r0_1) (View.ld x1 r0_2))
    (k0_pay10 (k0_pay7 n (k0_pay5 (piece x4 0)) (k0_pay6 (piece x4 1)) (piece x4 2) (piece x4 3) (piece x4 4) (piece x4 5)
      (piece x4 6) (piece x4 7) x7 x5) (Scalar.ofBits .f32 0x3F000000#32) x8 x9) (k0_pay11 x6)
    (k0_pay12 (k0_pay4 x0 (View.ld x1 r0_1) (View.ld x1 r0_2)) (k0_pay8 x3) (k0_pay9 x2) (slabG x10 0) (slabB x11 0)
      (slabG x10 1) (slabB x11 1)) (k0_pay13 (k0_pay4 x0 (View.ld x1 r0_1) (View.ld x1 r0_2)) (slabG x10 2))
    (slabB x11 2) (slabG x10 3) (slabB x11 3) x12) x13 x14

theorem out_eq (i : grid0.Coords) :
    out0_15 i x0 x1 x2 x3 x4 x5 x6 x7 x8 x9 x10 x11 x12 x13 x14
      = stored x0 x1 x2 x3 x4 x5 x6 x7 x8 x9 x10 x11 x12 x13 x14 (word (i 1).val) := by
  unfold_out out0_15
  rw [View.canon_unit_zero zero3, View.ld_unit_zero zero3 _ x0, View.ld_unit_zero zero3 _ x2, View.ld_unit_zero zero3 _ x3,
    View.ld_unit_zero zero3 _ x5, View.ld_unit_zero zero3 _ x6, View.ld_unit_zero zero2 _ x7, View.ld_unit_zero zero2 _ x8,
    View.ld_unit_zero zero2 _ x9, View.ld_unit_zero zero2 _ x12, View.ld_unit_zero zero2 _ x13, View.ld_unit_zero zero2 _ x14]
  rfl

/-- The stored value, with the state-space branch's rows apart. -/
def storedOf (y : FVec Ideal S512x256 .f32) : FVec Ideal S1x512x1024 .f32 :=
  k0_pay1 (k0_pay14 (k0_pay2 x0) (k0_pay3 (View.ld x1 r0_3)) (k0_pay4 x0 (View.ld x1 r0_1) (View.ld x1 r0_2))
    (k0_pay10 y (Scalar.ofBits .f32 0x3F000000#32) x8 x9) (k0_pay11 x6)
    (k0_pay12 (k0_pay4 x0 (View.ld x1 r0_1) (View.ld x1 r0_2)) (k0_pay8 x3) (k0_pay9 x2) (slabG x10 0) (slabB x11 0)
      (slabG x10 1) (slabB x11 1)) (k0_pay13 (k0_pay4 x0 (View.ld x1 r0_1) (View.ld x1 r0_2)) (slabG x10 2))
    (slabB x11 2) (slabG x10 3) (slabB x11 3) x12) x13 x14

/-- The state-space branch's rows are of the first four pieces or of the last four. -/
theorem rows_eq : ∀ p : Fin 2, k0_pay7 (BitVec.ofNat 32 p.val) (k0_pay5 (piece x4 0)) (k0_pay6 (piece x4 1)) (piece x4 2) (piece x4 3)
      (piece x4 4) (piece x4 5) (piece x4 6) (piece x4 7) x7 x5
    = skipB (piece x4 ⟨4 * p.val + 0, by omega⟩) (piece x4 ⟨4 * p.val + 1, by omega⟩) (piece x4 ⟨4 * p.val + 2, by omega⟩)
        (piece x4 ⟨4 * p.val + 3, by omega⟩) x7 x5
  | 0 => even_eq (piece x4 0) (piece x4 1) (piece x4 2) (piece x4 3) (piece x4 4) (piece x4 5) (piece x4 6) (piece x4 7) x7 x5
  | 1 => odd_eq (piece x4 0) (piece x4 1) (piece x4 2) (piece x4 3) (piece x4 4) (piece x4 5) (piece x4 6) (piece x4 7) x7 x5

theorem stored_eq (p : Fin 2) :
    stored x0 x1 x2 x3 x4 x5 x6 x7 x8 x9 x10 x11 x12 x13 x14 (BitVec.ofNat 32 p.val)
      = storedOf x0 x1 x2 x3 x6 x8 x9 x10 x11 x12 x13 x14 (skipB (piece x4 ⟨4 * p.val + 0, by omega⟩)
          (piece x4 ⟨4 * p.val + 1, by omega⟩) (piece x4 ⟨4 * p.val + 2, by omega⟩) (piece x4 ⟨4 * p.val + 3, by omega⟩) x7 x5) := by
  unfold stored storedOf
  rw [rows_eq x4 x5 x7 p]

/-- The stored value at a row and a column. -/
theorem stored_apply (p : Fin 2) (u : Fin 1) (r : Fin 512) (d : Fin 1024) :
    (stored x0 x1 x2 x3 x4 x5 x6 x7 x8 x9 x10 x11 x12 x13 x14 (BitVec.ofNat 32 p.val) (ix3 u r d) : EReal)
      = Merge.Spec.out (fun k => x0 (ix3 0 r k)) (fun k => x1 (ix3 0 0 ⟨k.val, by omega⟩))
          (fun k => x1 (ix3 0 0 ⟨1024 + k.val, by omega⟩)) (fun k => x1 (ix3 0 0 ⟨2048 + k.val, by omega⟩))
          (fun w => x2 (ix3 0 r w)) (fun w => x3 (ix3 0 w r))
          (fun w => x4 (ix3 w ⟨4 * p.val + r.val / 128, by omega⟩ ⟨r.val % 128, by omega⟩)) (fun w => x5 (ix3 0 r w))
          (fun w => x6 (ix3 0 r w)) (fun w => x7 (ix2 0 w)) (fun k w => x8 (ix2 k w)) (fun w => x9 (ix2 0 w))
          (fun j k d => x10 (ix3 j k d)) (fun j w d => x11 (ix3 j w d)) (fun k d => x12 (ix2 k d))
          (fun k => x13 (ix2 0 k)) (fun k => x14 (ix2 0 k)) d := by
  have hb := body_apply r x0 (View.ld x1 r0_1) (View.ld x1 r0_2) (View.ld x1 r0_3) x2 x3
    (fun j => piece x4 ⟨4 * p.val + j.val, by omega⟩) x5 x6 x7 x8 x9 (slabG x10) (slabB x11) x12 x13 x14 u d
  have e1 : ∀ k : Fin 1024, View.ld x1 r0_1 (ix3 (0 : Fin 1) (0 : Fin 1) k) = x1 (ix3 0 0 ⟨k.val, by omega⟩) := fun k =>
    (mod_apply x1 0 _ k (by omega)).trans (congrArg (fun j => x1 (ix3 0 0 j)) (Fin.ext (Nat.zero_add k.val)))
  have e2 : ∀ k : Fin 1024, View.ld x1 r0_2 (ix3 (0 : Fin 1) (0 : Fin 1) k) = x1 (ix3 0 0 ⟨1024 + k.val, by omega⟩) := fun k =>
    mod_apply x1 1024 _ k (by omega)
  have e3 : ∀ k : Fin 1024, View.ld x1 r0_3 (ix3 (0 : Fin 1) (0 : Fin 1) k) = x1 (ix3 0 0 ⟨2048 + k.val, by omega⟩) := fun k =>
    mod_apply x1 2048 _ k (by omega)
  simp only [e1, e2, e3, piece_apply, slabG_apply, slabB_apply] at hb
  exact (congrFun (stored_eq x0 x1 x2 x3 x4 x5 x6 x7 x8 x9 x10 x11 x12 x13 x14 p) _).trans hb

end Cert.MergeIdeal.Out

end
-- ==== Proof.MergeRef.lean ====
/-
  The merge's reference read at a token: the plain functions of MergeSpec.
-/
module

public import proofs.«01_k».proof.Proof.MergeSpec
public import proofs.«01_k».proof.Proof.Gen.MergeReferenceIdeal.Read
public import Idealize.ShloMosaic.Lib.ValueIdx
public import Idealize.ShloMosaic.PureOps.Ideal.Laws

@[expose] public section

set_option maxRecDepth 16384

noncomputable section

namespace Cert.Merge.Ref

open Idealize.ShloMosaic Idealize.ShloMosaic.ValueIdx Cert.MergeReferenceIdeal Cert.MergeReferenceIdeal.Read Cert.Moe

variable (x0 : (⟨S4x8192x1024, .f32⟩ : BufTy).Contents (Elt Ideal)) (x1 : (⟨S4x3072, .f32⟩ : BufTy).Contents (Elt Ideal))
  (x2 : (⟨S4x8192x256, .bf16⟩ : BufTy).Contents (Elt Ideal)) (x3 : (⟨S4x256x8192, .bf16⟩ : BufTy).Contents (Elt Ideal))
  (x4 : (⟨S256x256x128, .f32⟩ : BufTy).Contents (Elt Ideal)) (x5 : (⟨S4x8192x256, .f32⟩ : BufTy).Contents (Elt Ideal))
  (x6 : (⟨S4x8192x256, .bf16⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (x10 : (⟨S4x1024x1024, .f32⟩ : BufTy).Contents (Elt Ideal)) (x11 : (⟨S4x256x1024, .f32⟩ : BufTy).Contents (Elt Ideal))
  (x12 : (⟨S1024x1024, .f32⟩ : BufTy).Contents (Elt Ideal)) (x13 x14 : (⟨S1024, .f32⟩ : BufTy).Contents (Elt Ideal))
  (b : Fin 4) (t : Fin 8192)

/-- A token's row, and the shift, the scale and the output's factor of a batch. -/
def xrow (k : Fin 1024) : EReal := x0 (ix3 b t k)
def shift (k : Fin 1024) : EReal := x1 (ix2 b ⟨k.val, by omega⟩)
def scale (k : Fin 1024) : EReal := x1 (ix2 b ⟨1024 + k.val, by omega⟩)
def gmod (k : Fin 1024) : EReal := x1 (ix2 b ⟨2048 + k.val, by omega⟩)
/-- The modulated row. -/
def hrow : Fin 1024 → EReal := Spec.hid (xrow x0 b t) (shift x1 b) (scale x1 b)
/-- A branch's row, given row by row; the attention branch's, given column by column; the state-space branch's, given in
    pieces of 128 tokens. -/
def rows (y : S4x8192x256.Idx → EReal) (w : Fin 256) : EReal := y (ix3 b t w)
def cols (y : S4x256x8192.Idx → EReal) (w : Fin 256) : EReal := y (ix3 b w t)
def pieces (y : S256x256x128.Idx → EReal) (w : Fin 256) : EReal :=
  y (ix3 w ⟨b.val * 64 + t.val / 128, by omega⟩ ⟨t.val % 128, by omega⟩)
/-- The weights. -/
def v256 (x : S256.Idx → EReal) (w : Fin 256) : EReal := x (ix1 w)
def v1024 (x : S1024.Idx → EReal) (d : Fin 1024) : EReal := x (ix1 d)
def m256 (x : S256x256.Idx → EReal) (k w : Fin 256) : EReal := x (ix2 k w)
def m1024 (x : S1024x1024.Idx → EReal) (k d : Fin 1024) : EReal := x (ix2 k d)
def mGate (x : S4x1024x1024.Idx → EReal) (j : Fin 4) (k d : Fin 1024) : EReal := x (ix3 j k d)
def mBranch (x : S4x256x1024.Idx → EReal) (j : Fin 4) (w : Fin 256) (d : Fin 1024) : EReal := x (ix3 j w d)

theorem hrow_apply (k : Fin 1024) : val_main_v11 (F := Ideal) x0 x1 (ix3 b t k) = hrow x0 x1 b t k := by
  simp only [val_main_v11_apply, val_main_v9_apply, val_main_v10_apply, val_main_v8_apply, val_main_v7_apply,
    val_main_v6_apply, val_main_cst_apply, val_main_v4_apply, val_main_v3_apply, val_main_v1_apply, val_main_v0_apply,
    Ideal.scalar_addf_def, Ideal.scalar_mulf_def]
  show x0 _ * (Ideal.ofBits .f32 0x3F800000#32 + x1 _) + x1 _ = x0 _ * (1 + x1 _) + x1 _
  rw [Spec.bits_one]
  congr 2
  · congr 2; exact eq_ix2 _
  · exact eq_ix2 _

theorem sigm_apply {x : EReal} {c c' : EReal} (hc : c = 1) (hc' : c' = 1) :
    Ideal.div c (c' + Ideal.exp (-x)) = Spec.sigm x := by subst hc; subst hc'; rfl

theorem skip_apply (w : Fin 256) :
    val_main_v18 (F := Ideal) x4 x5 x7 (ix3 b t w)
      = Merge.Spec.skip (pieces b t x4) (rows b t x5) (v256 x7) w := by
  rw [val_main_v18_apply, val_main_v14_apply, val_main_v13_apply, val_main_v17_apply, val_main_v16_apply, val_main_v15_apply,
    show idx_main_v15 (idx_main_v16 (ix3 b t w)) = ix1 w from eq_ix1 _]
  have e : idx_main_v13 (idx_main_v14 (ix3 b t w)) = ix3 w ⟨b.val * 64 + t.val / 128, by omega⟩ ⟨t.val % 128, by omega⟩ := by
    funext a
    refine Fin.ext ?_
    match a with
    | ⟨0, _⟩ => show ((w.val * 4 + b.val) * 8192 + t.val) / 32768 = w.val; omega
    | ⟨1, _⟩ => show ((w.val * 4 + b.val) * 8192 + t.val) / 128 % 256 = b.val * 64 + t.val / 128; omega
    | ⟨2, _⟩ => show ((w.val * 4 + b.val) * 8192 + t.val) % 128 = t.val % 128; omega
  rw [e]
  rfl

theorem gelu_apply (w : Fin 256) :
    val_main_v31 (F := Ideal) x4 x5 x7 (ix3 b t w)
      = Merge.Spec.gelu (Merge.Spec.skip (pieces b t x4) (rows b t x5) (v256 x7) w) := by
  rw [val_main_v31_apply, val_main_v30_apply, val_main_v29_apply, val_main_v28_apply, val_main_v27_apply, val_main_v26_apply,
    val_main_v25_apply, val_main_v24_apply, val_main_v23_apply, val_main_v22_apply, val_main_v21_apply, val_main_v20_apply,
    val_main_v19_apply, skip_apply, val_main_cst_0_apply, val_main_cst_1_apply, val_main_cst_2_apply, val_main_cst_3_apply]
  unfold Merge.Spec.gelu
  rw [← Spec.bits_one]
  rfl

theorem scan_apply (w : Fin 256) :
    val_main_v42 (F := Ideal) x4 x5 x7 x8 x9 (ix3 b t w)
      = Merge.Spec.scan (pieces b t x4) (rows b t x5) (v256 x7) (m256 x8) (v256 x9) w := by
  have hd : val_main_v35 (F := Ideal) x4 x5 x7 x8 x9 (ix3 b t w)
      = (∑ k, Merge.Spec.gelu (Merge.Spec.skip (pieces b t x4) (rows b t x5) (v256 x7) k) * m256 x8 k w) + v256 x9 w := by
    rw [val_main_v35_apply, val_main_v34_apply, val_main_v33_apply, val_main_v32_apply,
      show idx_main_v33 (idx_main_v34 (ix3 b t w)) = ix1 w from eq_ix1 _]
    refine congrArg (fun z : EReal => z + v256 x9 w) (Finset.sum_congr rfl fun k _ => ?_)
    rw [show lidx_main_v32 (ix3 b t w) k = ix3 b t k from eq_ix3 _, gelu_apply,
      show ridx_main_v32 (ix3 b t w) k = ix2 k w from eq_ix2 _]
    rfl
  have hs : val_main_v41 (F := Ideal) x4 x5 x7 x8 x9 (ix3 b t w) = Spec.sigm (val_main_v35 (F := Ideal) x4 x5 x7 x8 x9 (ix3 b t w)) := by
    rw [val_main_v41_apply, val_main_v39_apply, val_main_v37_apply, val_main_v36_apply]
    exact sigm_apply (by rw [val_main_v40_apply, val_main_cst_5_apply]; exact Spec.bits_one)
      (by rw [val_main_v38_apply, val_main_cst_4_apply]; exact Spec.bits_one)
  rw [val_main_v42_apply, gelu_apply, hs, hd]
  rfl

/-! ## The branches' weights -/

theorem gate0_apply (k : Fin 1024) (d : Fin 1024) :
    val_main_v44 (F := Ideal) x10 (ix2 k d) = mGate x10 0 k d := by
  rw [val_main_v44_apply, val_main_v43_apply]
  refine congrArg x10 (funext fun a => Fin.ext ?_)
  match a with
  | ⟨0, _⟩ => rfl
  | ⟨1, _⟩ => show (k.val * 1024 + d.val) / 1024 % 1024 = k.val; omega
  | ⟨2, _⟩ => show (k.val * 1024 + d.val) % 1024 = d.val; omega

theorem weight0_apply (w : Fin 256) (d : Fin 1024) :
    val_main_v54 (F := Ideal) x11 (ix2 w d) = mBranch x11 0 w d := by
  rw [val_main_v54_apply, val_main_v53_apply]
  refine congrArg x11 (funext fun a => Fin.ext ?_)
  match a with
  | ⟨0, _⟩ => rfl
  | ⟨1, _⟩ => show (w.val * 1024 + d.val) / 1024 % 256 = w.val; omega
  | ⟨2, _⟩ => show (w.val * 1024 + d.val) % 1024 = d.val; omega

theorem gate1_apply (k : Fin 1024) (d : Fin 1024) :
    val_main_v58 (F := Ideal) x10 (ix2 k d) = mGate x10 1 k d := by
  rw [val_main_v58_apply, val_main_v57_apply]
  refine congrArg x10 (funext fun a => Fin.ext ?_)
  match a with
  | ⟨0, _⟩ => rfl
  | ⟨1, _⟩ => show (k.val * 1024 + d.val) / 1024 % 1024 = k.val; omega
  | ⟨2, _⟩ => show (k.val * 1024 + d.val) % 1024 = d.val; omega

theorem weight1_apply (w : Fin 256) (d : Fin 1024) :
    val_main_v68 (F := Ideal) x11 (ix2 w d) = mBranch x11 1 w d := by
  rw [val_main_v68_apply, val_main_v67_apply]
  refine congrArg x11 (funext fun a => Fin.ext ?_)
  match a with
  | ⟨0, _⟩ => rfl
  | ⟨1, _⟩ => show (w.val * 1024 + d.val) / 1024 % 256 = w.val; omega
  | ⟨2, _⟩ => show (w.val * 1024 + d.val) % 1024 = d.val; omega

theorem gate2_apply (k : Fin 1024) (d : Fin 1024) :
    val_main_v73 (F := Ideal) x10 (ix2 k d) = mGate x10 2 k d := by
  rw [val_main_v73_apply, val_main_v72_apply]
  refine congrArg x10 (funext fun a => Fin.ext ?_)
  match a with
  | ⟨0, _⟩ => rfl
  | ⟨1, _⟩ => show (k.val * 1024 + d.val) / 1024 % 1024 = k.val; omega
  | ⟨2, _⟩ => show (k.val * 1024 + d.val) % 1024 = d.val; omega

theorem weight2_apply (w : Fin 256) (d : Fin 1024) :
    val_main_v82 (F := Ideal) x11 (ix2 w d) = mBranch x11 2 w d := by
  rw [val_main_v82_apply, val_main_v81_apply]
  refine congrArg x11 (funext fun a => Fin.ext ?_)
  match a with
  | ⟨0, _⟩ => rfl
  | ⟨1, _⟩ => show (w.val * 1024 + d.val) / 1024 % 256 = w.val; omega
  | ⟨2, _⟩ => show (w.val * 1024 + d.val) % 1024 = d.val; omega

theorem gate3_apply (k : Fin 1024) (d : Fin 1024) :
    val_main_v87 (F := Ideal) x10 (ix2 k d) = mGate x10 3 k d := by
  rw [val_main_v87_apply, val_main_v86_apply]
  refine congrArg x10 (funext fun a => Fin.ext ?_)
  match a with
  | ⟨0, _⟩ => rfl
  | ⟨1, _⟩ => show (k.val * 1024 + d.val) / 1024 % 1024 = k.val; omega
  | ⟨2, _⟩ => show (k.val * 1024 + d.val) % 1024 = d.val; omega

theorem weight3_apply (w : Fin 256) (d : Fin 1024) :
    val_main_v97 (F := Ideal) x11 (ix2 w d) = mBranch x11 3 w d := by
  rw [val_main_v97_apply, val_main_v96_apply]
  refine congrArg x11 (funext fun a => Fin.ext ?_)
  match a with
  | ⟨0, _⟩ => rfl
  | ⟨1, _⟩ => show (w.val * 1024 + d.val) / 1024 % 256 = w.val; omega
  | ⟨2, _⟩ => show (w.val * 1024 + d.val) % 1024 = d.val; omega

/-! ## The branches' gated products -/

theorem branch0_apply (w : Fin 256) :
    val_main_v52 (F := Ideal) x2 (ix3 b t w) = (rows b t x2) w := by
  rw [val_main_v52_apply]; rfl

theorem gated0_apply (d : Fin 1024) :
    val_main_v56 (F := Ideal) x0 x1 x2 x10 x11 (ix3 b t d)
      = Merge.Spec.gated (hrow x0 x1 b t) (mGate x10 0) (rows b t x2) (mBranch x11 0) d := by
  have hs : val_main_v51 (F := Ideal) x0 x1 x10 (ix3 b t d) = Spec.sigm (∑ k, hrow x0 x1 b t k * mGate x10 0 k d) := by
    rw [val_main_v51_apply, val_main_v49_apply, val_main_v47_apply, val_main_v46_apply, val_main_v45_apply]
    refine (sigm_apply (by rw [val_main_v50_apply, val_main_cst_7_apply]; exact Spec.bits_one)
      (by rw [val_main_v48_apply, val_main_cst_6_apply]; exact Spec.bits_one)).trans
      (congrArg Spec.sigm (Finset.sum_congr rfl fun k _ => ?_))
    rw [show lidx_main_v45 (ix3 b t d) k = ix3 b t k from eq_ix3 _, hrow_apply,
      show ridx_main_v45 (ix3 b t d) k = ix2 k d from eq_ix2 _, gate0_apply]
  have hp : val_main_v55 (F := Ideal) x2 x11 (ix3 b t d) = ∑ w, (rows b t x2) w * mBranch x11 0 w d := by
    rw [val_main_v55_apply]
    refine Finset.sum_congr rfl fun w _ => ?_
    rw [show lidx_main_v55 (ix3 b t d) w = ix3 b t w from eq_ix3 _, branch0_apply,
      show ridx_main_v55 (ix3 b t d) w = ix2 w d from eq_ix2 _, weight0_apply]
  rw [val_main_v56_apply, hs, hp]
  rfl

theorem branch1_apply (w : Fin 256) :
    val_main_v66 (F := Ideal) x3 (ix3 b t w) = (cols b t x3) w := by
  rw [val_main_v66_apply, val_main_v12_apply, show idx_main_v12 (ix3 b t w) = ix3 b w t from eq_ix3 _]; rfl

theorem gated1_apply (d : Fin 1024) :
    val_main_v70 (F := Ideal) x0 x1 x3 x10 x11 (ix3 b t d)
      = Merge.Spec.gated (hrow x0 x1 b t) (mGate x10 1) (cols b t x3) (mBranch x11 1) d := by
  have hs : val_main_v65 (F := Ideal) x0 x1 x10 (ix3 b t d) = Spec.sigm (∑ k, hrow x0 x1 b t k * mGate x10 1 k d) := by
    rw [val_main_v65_apply, val_main_v63_apply, val_main_v61_apply, val_main_v60_apply, val_main_v59_apply]
    refine (sigm_apply (by rw [val_main_v64_apply, val_main_cst_9_apply]; exact Spec.bits_one)
      (by rw [val_main_v62_apply, val_main_cst_8_apply]; exact Spec.bits_one)).trans
      (congrArg Spec.sigm (Finset.sum_congr rfl fun k _ => ?_))
    rw [show lidx_main_v59 (ix3 b t d) k = ix3 b t k from eq_ix3 _, hrow_apply,
      show ridx_main_v59 (ix3 b t d) k = ix2 k d from eq_ix2 _, gate1_apply]
  have hp : val_main_v69 (F := Ideal) x3 x11 (ix3 b t d) = ∑ w, (cols b t x3) w * mBranch x11 1 w d := by
    rw [val_main_v69_apply]
    refine Finset.sum_congr rfl fun w _ => ?_
    rw [show lidx_main_v69 (ix3 b t d) w = ix3 b t w from eq_ix3 _, branch1_apply,
      show ridx_main_v69 (ix3 b t d) w = ix2 w d from eq_ix2 _, weight1_apply]
  rw [val_main_v70_apply, hs, hp]
  rfl

theorem branch2_apply (w : Fin 256) :
    val_main_v42 (F := Ideal) x4 x5 x7 x8 x9 (ix3 b t w) = (Merge.Spec.scan (pieces b t x4) (rows b t x5) (v256 x7) (m256 x8) (v256 x9)) w := by
  exact scan_apply x4 x5 x7 x8 x9 b t w

theorem gated2_apply (d : Fin 1024) :
    val_main_v84 (F := Ideal) x0 x1 x4 x5 x7 x8 x9 x10 x11 (ix3 b t d)
      = Merge.Spec.gated (hrow x0 x1 b t) (mGate x10 2) (Merge.Spec.scan (pieces b t x4) (rows b t x5) (v256 x7) (m256 x8) (v256 x9)) (mBranch x11 2) d := by
  have hs : val_main_v80 (F := Ideal) x0 x1 x10 (ix3 b t d) = Spec.sigm (∑ k, hrow x0 x1 b t k * mGate x10 2 k d) := by
    rw [val_main_v80_apply, val_main_v78_apply, val_main_v76_apply, val_main_v75_apply, val_main_v74_apply]
    refine (sigm_apply (by rw [val_main_v79_apply, val_main_cst_11_apply]; exact Spec.bits_one)
      (by rw [val_main_v77_apply, val_main_cst_10_apply]; exact Spec.bits_one)).trans
      (congrArg Spec.sigm (Finset.sum_congr rfl fun k _ => ?_))
    rw [show lidx_main_v74 (ix3 b t d) k = ix3 b t k from eq_ix3 _, hrow_apply,
      show ridx_main_v74 (ix3 b t d) k = ix2 k d from eq_ix2 _, gate2_apply]
  have hp : val_main_v83 (F := Ideal) x4 x5 x7 x8 x9 x11 (ix3 b t d) = ∑ w, (Merge.Spec.scan (pieces b t x4) (rows b t x5) (v256 x7) (m256 x8) (v256 x9)) w * mBranch x11 2 w d := by
    rw [val_main_v83_apply]
    refine Finset.sum_congr rfl fun w _ => ?_
    rw [show lidx_main_v83 (ix3 b t d) w = ix3 b t w from eq_ix3 _, branch2_apply,
      show ridx_main_v83 (ix3 b t d) w = ix2 w d from eq_ix2 _, weight2_apply]
  rw [val_main_v84_apply, hs, hp]
  rfl

theorem branch3_apply (w : Fin 256) :
    val_main_v95 (F := Ideal) x6 (ix3 b t w) = (rows b t x6) w := by
  rw [val_main_v95_apply]; rfl

theorem gated3_apply (d : Fin 1024) :
    val_main_v99 (F := Ideal) x0 x1 x6 x10 x11 (ix3 b t d)
      = Merge.Spec.gated (hrow x0 x1 b t) (mGate x10 3) (rows b t x6) (mBranch x11 3) d := by
  have hs : val_main_v94 (F := Ideal) x0 x1 x10 (ix3 b t d) = Spec.sigm (∑ k, hrow x0 x1 b t k * mGate x10 3 k d) := by
    rw [val_main_v94_apply, val_main_v92_apply, val_main_v90_apply, val_main_v89_apply, val_main_v88_apply]
    refine (sigm_apply (by rw [val_main_v93_apply, val_main_cst_13_apply]; exact Spec.bits_one)
      (by rw [val_main_v91_apply, val_main_cst_12_apply]; exact Spec.bits_one)).trans
      (congrArg Spec.sigm (Finset.sum_congr rfl fun k _ => ?_))
    rw [show lidx_main_v88 (ix3 b t d) k = ix3 b t k from eq_ix3 _, hrow_apply,
      show ridx_main_v88 (ix3 b t d) k = ix2 k d from eq_ix2 _, gate3_apply]
  have hp : val_main_v98 (F := Ideal) x6 x11 (ix3 b t d) = ∑ w, (rows b t x6) w * mBranch x11 3 w d := by
    rw [val_main_v98_apply]
    refine Finset.sum_congr rfl fun w _ => ?_
    rw [show lidx_main_v98 (ix3 b t d) w = ix3 b t w from eq_ix3 _, branch3_apply,
      show ridx_main_v98 (ix3 b t d) w = ix2 w d from eq_ix2 _, weight3_apply]
  rw [val_main_v99_apply, hs, hp]
  rfl

/-! ## The residual and the layer norm -/

/-- The four branches added. -/
def mrow : Fin 1024 → EReal :=
  Merge.Spec.merged (hrow x0 x1 b t) (mGate x10) (mBranch x11) (rows b t x2) (cols b t x3)
    (Merge.Spec.scan (pieces b t x4) (rows b t x5) (v256 x7) (m256 x8) (v256 x9)) (rows b t x6)

theorem mrow_apply (d : Fin 1024) : val_main_v100 (F := Ideal) x0 x1 x2 x3 x4 x5 x6 x7 x8 x9 x10 x11 (ix3 b t d) = mrow x0 x1 x2 x3 x4 x5 x6 x7 x8 x9 x10 x11 b t d := by
  rw [val_main_v100_apply, val_main_v85_apply, val_main_v71_apply, gated0_apply, gated1_apply, gated2_apply, gated3_apply]
  rfl

/-- The residual sum. -/
def yrow : Fin 1024 → EReal :=
  Spec.resid (xrow x0 b t) (gmod x1 b) fun d => ∑ k, mrow x0 x1 x2 x3 x4 x5 x6 x7 x8 x9 x10 x11 b t k * m1024 x12 k d

theorem yrow_apply (d : Fin 1024) : val_main_v108 (F := Ideal) x0 x1 x2 x3 x4 x5 x6 x7 x8 x9 x10 x11 x12 (ix3 b t d) = yrow x0 x1 x2 x3 x4 x5 x6 x7 x8 x9 x10 x11 x12 b t d := by
  have e : val_main_v101 (F := Ideal) x0 x1 x2 x3 x4 x5 x6 x7 x8 x9 x10 x11 x12 (ix3 b t d) = ∑ k, mrow x0 x1 x2 x3 x4 x5 x6 x7 x8 x9 x10 x11 b t k * m1024 x12 k d := by
    rw [val_main_v101_apply]
    refine Finset.sum_congr rfl fun k _ => ?_
    rw [show lidx_main_v101 (ix3 b t d) k = ix3 b t k from eq_ix3 _, mrow_apply,
      show ridx_main_v101 (ix3 b t d) k = ix2 k d from eq_ix2 _]
    rfl
  rw [val_main_v108_apply, val_main_v103_apply, val_main_v107_apply, e, val_main_v106_apply, val_main_v105_apply,
    val_main_v102_apply, val_main_v104_apply, val_main_cst_14_apply, val_main_cst_15_apply, val_main_v5_apply, val_main_v2_apply]
  refine Eq.trans ?_ (congrArg (fun p : EReal => Spec.alpha * x0 (ix3 b t d) + (p + gmod x1 b d) * ∑ k, mrow x0 x1 x2 x3 x4 x5 x6 x7 x8 x9 x10 x11 b t k * m1024 x12 k d) Spec.bits_one)
  rw [show idx_main_v2 (idx_main_v5 (idx_main_v106 (ix3 b t d))) = ix2 b ⟨2048 + d.val, by omega⟩ from eq_ix2 _]
  rfl

theorem mean_apply :
    val_main_v112 (F := Ideal) x0 x1 x2 x3 x4 x5 x6 x7 x8 x9 x10 x11 x12 (ix3 b t 0) = Spec.mean (yrow x0 x1 x2 x3 x4 x5 x6 x7 x8 x9 x10 x11 x12 b t) := by
  rw [val_main_v112_apply, val_main_v110_apply, val_main_v109_apply, val_main_v111_apply, val_main_cst_17_apply,
    show idx_main_v110 (ix3 b t 0) = ix2 b t from eq_ix2 _]
  have h : ∀ k : Fin 1024, val_main_v108 (F := Ideal) x0 x1 x2 x3 x4 x5 x6 x7 x8 x9 x10 x11 x12 (idx_main_v109 (ix2 b t) k) = yrow x0 x1 x2 x3 x4 x5 x6 x7 x8 x9 x10 x11 x12 b t k := fun k => by
    rw [show idx_main_v109 (ix2 b t) k = ix3 b t k from eq_ix3 _, yrow_apply]
  simp only [h]
  exact congrArg (fun z => Ideal.div z Spec.width) ((congrArg (· + _) Spec.bits_zero).trans (zero_add _))

theorem var_apply :
    val_main_v119 (F := Ideal) x0 x1 x2 x3 x4 x5 x6 x7 x8 x9 x10 x11 x12 (ix3 b t 0)
      = Ideal.div (∑ d, (yrow x0 x1 x2 x3 x4 x5 x6 x7 x8 x9 x10 x11 x12 b t d - Spec.mean (yrow x0 x1 x2 x3 x4 x5 x6 x7 x8 x9 x10 x11 x12 b t))
          * (yrow x0 x1 x2 x3 x4 x5 x6 x7 x8 x9 x10 x11 x12 b t d - Spec.mean (yrow x0 x1 x2 x3 x4 x5 x6 x7 x8 x9 x10 x11 x12 b t))) Spec.width := by
  rw [val_main_v119_apply, val_main_v117_apply, val_main_v116_apply, val_main_v118_apply, val_main_cst_19_apply,
    show idx_main_v117 (ix3 b t 0) = ix2 b t from eq_ix2 _]
  have h : ∀ k : Fin 1024, val_main_v115 (F := Ideal) x0 x1 x2 x3 x4 x5 x6 x7 x8 x9 x10 x11 x12 (idx_main_v116 (ix2 b t) k)
      = (yrow x0 x1 x2 x3 x4 x5 x6 x7 x8 x9 x10 x11 x12 b t k - Spec.mean (yrow x0 x1 x2 x3 x4 x5 x6 x7 x8 x9 x10 x11 x12 b t)) * (yrow x0 x1 x2 x3 x4 x5 x6 x7 x8 x9 x10 x11 x12 b t k - Spec.mean (yrow x0 x1 x2 x3 x4 x5 x6 x7 x8 x9 x10 x11 x12 b t)) := fun k => by
    rw [show idx_main_v116 (ix2 b t) k = ix3 b t k from eq_ix3 _, val_main_v115_apply, val_main_v114_apply, yrow_apply,
      val_main_v113_apply, show idx_main_v113 (ix3 b t k) = ix3 b t 0 from eq_ix3 _, mean_apply]
    rfl
  simp only [h]
  exact congrArg (fun z => Ideal.div z Spec.width) ((congrArg (· + _) Spec.bits_zero).trans (zero_add _))

/-- THE REFERENCE READ AT AN INDEX. -/
theorem result_apply (d : Fin 1024) :
    val_main_v132 (F := Ideal) x0 x1 x2 x3 x4 x5 x6 x7 x8 x9 x10 x11 x12 x13 x14 (ix3 b t d)
      = Merge.Spec.out (xrow x0 b t) (shift x1 b) (scale x1 b) (gmod x1 b) (rows b t x2) (cols b t x3) (pieces b t x4)
          (rows b t x5) (rows b t x6) (v256 x7) (m256 x8) (v256 x9) (mGate x10) (mBranch x11) (m1024 x12) (v1024 x13)
          (v1024 x14) d := by
  rw [val_main_v132_apply, val_main_v129_apply, val_main_v126_apply, val_main_v121_apply, yrow_apply, val_main_v120_apply,
    show idx_main_v120 (ix3 b t d) = ix3 b t 0 from eq_ix3 _, mean_apply, val_main_v125_apply,
    show idx_main_v125 (ix3 b t d) = ix3 b t 0 from eq_ix3 _, val_main_v124_apply, val_main_v123_apply, var_apply,
    val_main_v122_apply, val_main_cst_20_apply, val_main_v128_apply, val_main_v127_apply, val_main_v131_apply, val_main_v130_apply,
    show idx_main_v127 (idx_main_v128 (ix3 b t d)) = ix1 d from eq_ix1 _,
    show idx_main_v130 (idx_main_v131 (ix3 b t d)) = ix1 d from eq_ix1 _]
  rfl

end Cert.Merge.Ref

end
-- ==== Proof.MergeEqual.lean ====
/-
  The two merge programs leave the same result: element by element both are the merge's output of the arguments' rows.
-/
module

public import proofs.«01_k».proof.Defs
public import proofs.«01_k».proof.Proof.MergeHost
public import proofs.«01_k».proof.Proof.MergeOut
public import proofs.«01_k».proof.Proof.MergeRef
public import proofs.«01_k».proof.Proof.Gen.MergeIdeal.Value
public import proofs.«01_k».proof.Proof.Gen.MergeReferenceIdeal.Run

@[expose] public section

set_option maxRecDepth 65536
set_option maxHeartbeats 1000000

noncomputable section

namespace Cert.MergeIdeal.Equal

open Idealize.ShloMosaic hiding ix1 ix2 ix3 ix4 eq_ix3
open Idealize.ShloMosaic.ValueIdx Idealize.SL.Sem

section Kernel

open Cert.MergeIdeal Cert.MergeIdeal.Gen Cert.MergeIdeal.Host

variable (m : (ℓ : Loc nD τ sig) → Buf (Elt Ideal) ℓ) (c : Dev nD)

/-- The array the kernel leaves. -/
abbrev left : S4x8192x1024.Idx → EReal := (dats m 0 c).arrAt 15 cfg0.N

theorem flushes : ∀ t : Fin cfg0.N, (cfg0.win 15).flush t = true := by decide +kernel

/-- An element of it is the body's at its point. -/
theorem left_at (t : Fin cfg0.N) (b : Fin 4) (q : Fin 8192) (r : Fin 512) (d : Fin 1024) (hb : b.val = t.val / 16)
    (hq : q.val = t.val % 16 * 512 + r.val) :
    left m c (ix3 b q d) = (out0_15 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 r d) : EReal) := by
  have h := (MergeIdeal.Value.blocks15 m c t (flushes t)).trans (MergeIdeal.Value.flushed15 m c t)
  have h' := congrFun h (ix3 (0 : Fin 1) r d : S1x512x1024.Idx)
  refine Eq.trans ?_ h'
  have e : ∀ A : S4x8192x1024.Idx → EReal, (((cfg0.win 15).blk t).view.read (Elt Ideal) A : S1x512x1024.Idx → EReal) (ix3 0 r d) = A (ix3 b q d) := by
    intro A
    blk_ext [(idx t).2.2.2.2.2.2.2]
    · exact hb.symm
    · exact hq.symm
  exact (e _).symm

theorem left_apply (b : Fin 4) (q : Fin 8192) (d : Fin 1024) :
    left m c (ix3 b q d)
      = Merge.Spec.out (Merge.Ref.xrow (arg0 m c) b q) (Merge.Ref.shift (arg1 m c) b) (Merge.Ref.scale (arg1 m c) b) (Merge.Ref.gmod (arg1 m c) b)
          (Merge.Ref.rows b q (arg2 m c)) (Merge.Ref.cols b q (arg3 m c)) (Merge.Ref.pieces b q (arg4 m c)) (Merge.Ref.rows b q (arg5 m c))
          (Merge.Ref.rows b q (arg6 m c)) (Merge.Ref.v256 (arg7 m c)) (Merge.Ref.m256 (arg8 m c)) (Merge.Ref.v256 (arg9 m c)) (Merge.Ref.mGate (arg10 m c))
          (Merge.Ref.mBranch (arg11 m c)) (Merge.Ref.m1024 (arg12 m c)) (Merge.Ref.v1024 (arg13 m c)) (Merge.Ref.v1024 (arg14 m c)) d := by
  have hN : cfg0.N = 64 := by decide
  obtain ⟨t, ht⟩ : ∃ t : Fin cfg0.N, t.val = b.val * 16 + q.val / 512 := ⟨⟨b.val * 16 + q.val / 512, by omega⟩, rfl⟩
  obtain ⟨r, hr⟩ : ∃ r : Fin 512, r.val = q.val % 512 := ⟨⟨q.val % 512, by omega⟩, rfl⟩
  have hb : b.val = t.val / 16 := by omega
  have hq : q.val = t.val % 16 * 512 + r.val := by omega
  refine (left_at m c t b q r d hb hq).trans ?_
  rw [MergeIdeal.Out.out_eq, MergeIdeal.Out.word_eq]
  refine (MergeIdeal.Out.stored_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ⟨t.val % 2, by omega⟩ 0 r d).trans ?_
  have e4 : ∀ w : Fin 256, (iblk m c 4 t : S256x8x128.Idx → EReal) (ix3 w ⟨4 * (t.val % 2) + r.val / 128, by omega⟩ ⟨r.val % 128, by omega⟩)
      = Merge.Ref.pieces b q (arg4 m c) w := fun w => by
    refine (w4_apply m c t w _ _ ⟨b.val * 64 + q.val / 128, by omega⟩ ?_).trans ?_
    · show b.val * 64 + q.val / 128 = (t.val / 16 * 8 + t.val % 16 / 2) * 8 + (4 * (t.val % 2) + r.val / 128)
      omega
    · exact congrArg (fun z => arg4 m c (ix3 w ⟨b.val * 64 + q.val / 128, by omega⟩ z)) (Fin.ext (by show r.val % 128 = q.val % 128; omega))
  have h0 : (fun k => (iblk m c 0 t : S1x512x1024.Idx → EReal) (ix3 0 r k)) = Merge.Ref.xrow (arg0 m c) b q :=
    funext fun k => w0_apply m c t 0 r k b q hb hq
  have h1 : (fun k : Fin 1024 => (iblk m c 1 t : S1x1x3072.Idx → EReal) (ix3 0 0 ⟨k.val, by omega⟩)) = Merge.Ref.shift (arg1 m c) b :=
    funext fun k => w1_apply m c t 0 0 _ b hb
  have h1' : (fun k : Fin 1024 => (iblk m c 1 t : S1x1x3072.Idx → EReal) (ix3 0 0 ⟨1024 + k.val, by omega⟩)) = Merge.Ref.scale (arg1 m c) b :=
    funext fun k => w1_apply m c t 0 0 _ b hb
  have h1'' : (fun k : Fin 1024 => (iblk m c 1 t : S1x1x3072.Idx → EReal) (ix3 0 0 ⟨2048 + k.val, by omega⟩)) = Merge.Ref.gmod (arg1 m c) b :=
    funext fun k => w1_apply m c t 0 0 _ b hb
  have h2 : (fun w => (iblk m c 2 t : S1x512x256.Idx → EReal) (ix3 0 r w)) = Merge.Ref.rows b q (arg2 m c) :=
    funext fun k => w2_apply m c t 0 r k b q hb hq
  have h3 : (fun w => (iblk m c 3 t : S1x256x512.Idx → EReal) (ix3 0 w r)) = Merge.Ref.cols b q (arg3 m c) :=
    funext fun k => w3_apply m c t 0 k r b q hb hq
  have h5 : (fun w => (iblk m c 5 t : S1x512x256.Idx → EReal) (ix3 0 r w)) = Merge.Ref.rows b q (arg5 m c) :=
    funext fun k => w5_apply m c t 0 r k b q hb hq
  have h6 : (fun w => (iblk m c 6 t : S1x512x256.Idx → EReal) (ix3 0 r w)) = Merge.Ref.rows b q (arg6 m c) :=
    funext fun k => w6_apply m c t 0 r k b q hb hq
  have h7 : (fun w => (iblk m c 7 t : S1x256.Idx → EReal) (ix2 0 w)) = Merge.Ref.v256 (arg7 m c) := funext fun k => w7_apply m c t 0 k
  have h8 : (fun k w => (iblk m c 8 t : S256x256.Idx → EReal) (ix2 k w)) = Merge.Ref.m256 (arg8 m c) :=
    funext fun k => funext fun w => w8_apply m c t k w
  have h9 : (fun w => (iblk m c 9 t : S1x256.Idx → EReal) (ix2 0 w)) = Merge.Ref.v256 (arg9 m c) := funext fun k => w9_apply m c t 0 k
  have h10 : (fun j k d => (iblk m c 10 t : S4x1024x1024.Idx → EReal) (ix3 j k d)) = Merge.Ref.mGate (arg10 m c) :=
    funext fun j => funext fun k => funext fun w => w10_apply m c t j k w
  have h11 : (fun j k d => (iblk m c 11 t : S4x256x1024.Idx → EReal) (ix3 j k d)) = Merge.Ref.mBranch (arg11 m c) :=
    funext fun j => funext fun k => funext fun w => w11_apply m c t j k w
  have h12 : (fun k w => (iblk m c 12 t : S1024x1024.Idx → EReal) (ix2 k w)) = Merge.Ref.m1024 (arg12 m c) :=
    funext fun k => funext fun w => w12_apply m c t k w
  have h13 : (fun w => (iblk m c 13 t : S1x1024.Idx → EReal) (ix2 0 w)) = Merge.Ref.v1024 (arg13 m c) := funext fun k => w13_apply m c t 0 k
  have h14 : (fun w => (iblk m c 14 t : S1x1024.Idx → EReal) (ix2 0 w)) = Merge.Ref.v1024 (arg14 m c) := funext fun k => w14_apply m c t 0 k
  rw [← h0, ← h1, ← h1', ← h1'', ← h2, ← h3, ← h5, ← h6, ← h7, ← h8, ← h9, ← h10, ← h11, ← h12, ← h13, ← h14,
    ← (funext e4 : (fun w => _) = Merge.Ref.pieces b q (arg4 m c))]

end Kernel

/-- The kernel's result is the reference's value of the arguments. -/
theorem result_eq (m : (ℓ : Loc Cert.MergeIdeal.nD Cert.MergeIdeal.τ Cert.MergeIdeal.sig) → Buf (Elt Ideal) ℓ)
    (c : Dev Cert.MergeIdeal.nD) :
    (Cert.MergeReferenceIdeal.Read.val_main_v132 (F := Ideal) (MergeIdeal.Host.arg0 m c) (MergeIdeal.Host.arg1 m c) (MergeIdeal.Host.arg2 m c) (MergeIdeal.Host.arg3 m c) (MergeIdeal.Host.arg4 m c) (MergeIdeal.Host.arg5 m c) (MergeIdeal.Host.arg6 m c) (MergeIdeal.Host.arg7 m c) (MergeIdeal.Host.arg8 m c) (MergeIdeal.Host.arg9 m c) (MergeIdeal.Host.arg10 m c) (MergeIdeal.Host.arg11 m c) (MergeIdeal.Host.arg12 m c) (MergeIdeal.Host.arg13 m c) (MergeIdeal.Host.arg14 m c) : Cert.MergeReferenceIdeal.S4x8192x1024.Idx → EReal)
      = left m c := by
  funext i
  obtain ⟨b, q, d, rfl⟩ : ∃ (b : Fin 4) (q : Fin 8192) (d : Fin 1024), i = ix3 b q d := ⟨_, _, _, ValueIdx.eq_ix3 i⟩
  exact (Merge.Ref.result_apply _ _ _ _ _ _ _ _ _ _ _ _ _ _ _ b q d).trans (left_apply m c b q d).symm

theorem equal : Cert.algebraic_MergeIdeal_MergeReferenceIdeal := fun m g m' g' _ hargs => by
  refine ⟨fun c => left m c, MergeIdeal.Value.run_blocks m g, ?_⟩
  refine (θ_run Cert.MergeReferenceIdeal.defs _ _).mono (fun r h c => ⟨?_, (h c).2⟩) (Cert.MergeReferenceIdeal.Value.run (F := Ideal) m' g')
  refine (h c).1.trans ((Cert.MergeReferenceIdeal.Read.val_main_v132_eq (F := Ideal) m' c).trans ?_)
  refine Eq.trans ?_ (result_eq m c)
  obtain ⟨e0, e1, e2, e3, e4, e5, e6, e7, e8, e9, e10, e11, e12, e13, e14⟩ := hargs c
  have key : Cert.MergeReferenceIdeal.Read.val_main_v132 (F := Ideal)
      (m' ((c.tc : Thread Cert.MergeReferenceIdeal.nD Cert.MergeReferenceIdeal.τ).loc Cert.MergeReferenceIdeal.main_arg0))
      (m' ((c.tc : Thread Cert.MergeReferenceIdeal.nD Cert.MergeReferenceIdeal.τ).loc Cert.MergeReferenceIdeal.main_arg1))
      (m' ((c.tc : Thread Cert.MergeReferenceIdeal.nD Cert.MergeReferenceIdeal.τ).loc Cert.MergeReferenceIdeal.main_arg2))
      (m' ((c.tc : Thread Cert.MergeReferenceIdeal.nD Cert.MergeReferenceIdeal.τ).loc Cert.MergeReferenceIdeal.main_arg3))
      (m' ((c.tc : Thread Cert.MergeReferenceIdeal.nD Cert.MergeReferenceIdeal.τ).loc Cert.MergeReferenceIdeal.main_arg4))
      (m' ((c.tc : Thread Cert.MergeReferenceIdeal.nD Cert.MergeReferenceIdeal.τ).loc Cert.MergeReferenceIdeal.main_arg5))
      (m' ((c.tc : Thread Cert.MergeReferenceIdeal.nD Cert.MergeReferenceIdeal.τ).loc Cert.MergeReferenceIdeal.main_arg6))
      (m' ((c.tc : Thread Cert.MergeReferenceIdeal.nD Cert.MergeReferenceIdeal.τ).loc Cert.MergeReferenceIdeal.main_arg7))
      (m' ((c.tc : Thread Cert.MergeReferenceIdeal.nD Cert.MergeReferenceIdeal.τ).loc Cert.MergeReferenceIdeal.main_arg8))
      (m' ((c.tc : Thread Cert.MergeReferenceIdeal.nD Cert.MergeReferenceIdeal.τ).loc Cert.MergeReferenceIdeal.main_arg9))
      (m' ((c.tc : Thread Cert.MergeReferenceIdeal.nD Cert.MergeReferenceIdeal.τ).loc Cert.MergeReferenceIdeal.main_arg10))
      (m' ((c.tc : Thread Cert.MergeReferenceIdeal.nD Cert.MergeReferenceIdeal.τ).loc Cert.MergeReferenceIdeal.main_arg11))
      (m' ((c.tc : Thread Cert.MergeReferenceIdeal.nD Cert.MergeReferenceIdeal.τ).loc Cert.MergeReferenceIdeal.main_arg12))
      (m' ((c.tc : Thread Cert.MergeReferenceIdeal.nD Cert.MergeReferenceIdeal.τ).loc Cert.MergeReferenceIdeal.main_arg13))
      (m' ((c.tc : Thread Cert.MergeReferenceIdeal.nD Cert.MergeReferenceIdeal.τ).loc Cert.MergeReferenceIdeal.main_arg14))
      = Cert.MergeReferenceIdeal.Read.val_main_v132 (F := Ideal) (MergeIdeal.Host.arg0 m c) (MergeIdeal.Host.arg1 m c) (MergeIdeal.Host.arg2 m c) (MergeIdeal.Host.arg3 m c) (MergeIdeal.Host.arg4 m c) (MergeIdeal.Host.arg5 m c) (MergeIdeal.Host.arg6 m c) (MergeIdeal.Host.arg7 m c) (MergeIdeal.Host.arg8 m c) (MergeIdeal.Host.arg9 m c) (MergeIdeal.Host.arg10 m c) (MergeIdeal.Host.arg11 m c) (MergeIdeal.Host.arg12 m c) (MergeIdeal.Host.arg13 m c) (MergeIdeal.Host.arg14 m c) := by
    rw [e0, e1, e2, e3, e4, e5, e6, e7, e8, e9, e10, e11, e12, e13, e14]
  exact key

end Cert.MergeIdeal.Equal

end
-- ==== Proof.ProjSpec.lean ====
/-
  The projection of one token as plain functions of the extended reals: a column's product with the modulated row, the
  rotary turn of the first sixteen entries of a head, and the turn as the kernel writes it over 128 lanes with tables.
  Columns and lanes are counted by natural numbers, so that the layouts compare by arithmetic.
-/
module

public import proofs.«01_k».proof.Proof.MoeSpec

@[expose] public section

noncomputable section

namespace Cert.ProjSpec

open Idealize.ShloMosaic

/-- A column of the weights; past the last one, zero. -/
def wcol (W : Fin 1024 → Fin 2248 → EReal) (k : Fin 1024) (n : ℕ) : EReal := if h : n < 2248 then W k ⟨n, h⟩ else 0

/-- The modulated row's product with a column. -/
def col (h : Fin 1024 → EReal) (w : Fin 1024 → ℕ → EReal) (n : ℕ) : EReal := ∑ k, h k * w k n

theorem col_past (h : Fin 1024 → EReal) (W : Fin 1024 → Fin 2248 → EReal) (n : ℕ) (hn : ¬ n < 2248) :
    col h (wcol W) n = 0 := by
  unfold col
  refine Finset.sum_eq_zero fun k _ => ?_
  unfold wcol
  rw [dif_neg hn, mul_zero]

/-- The rotary turn of a head. -/
def rot (f C S : ℕ → EReal) (j : ℕ) : EReal :=
  if j < 8 then f j * C j - f (j + 8) * S j
  else if j < 16 then f j * C (j - 8) + f (j - 8) * S (j - 8)
  else f j

/-- The turn over 128 lanes with tables. -/
def turn (f c s : ℕ → EReal) (l : ℕ) : EReal :=
  f l * c l + (if l % 64 < 8 then f ((l + 8) % 128) else f ((l + 120) % 128)) * s l

/-- The tables hold the cosine and the signed sine over a head's first sixteen lanes, one and zero over the rest. -/
structure Tab (c s C S : ℕ → EReal) : Prop where
  lo : ∀ l, l < 128 → l % 64 < 8 → c l = C (l % 64) ∧ s l = - S (l % 64)
  mid : ∀ l, l < 128 → 8 ≤ l % 64 → l % 64 < 16 → c l = C (l % 64 - 8) ∧ s l = S (l % 64 - 8)
  hi : ∀ l, l < 128 → 16 ≤ l % 64 → c l = 1 ∧ s l = 0

theorem turn_eq {c s C S : ℕ → EReal} (T : Tab c s C S) (f : ℕ → EReal) (l : ℕ) (hl : l < 128) :
    turn f c s l = rot (fun i => f (64 * (l / 64) + i)) C S (l % 64) := by
  have e0 : 64 * (l / 64) + l % 64 = l := by omega
  unfold turn rot
  by_cases h : l % 64 < 8
  · obtain ⟨h1, h2⟩ := T.lo l hl h
    rw [if_pos h, if_pos h, h1, h2, mul_neg, ← sub_eq_add_neg]
    show _ = f (64 * (l / 64) + l % 64) * _ - f (64 * (l / 64) + (l % 64 + 8)) * _
    rw [e0, show (l + 8) % 128 = 64 * (l / 64) + (l % 64 + 8) by omega]
  · rw [if_neg h, if_neg h]
    by_cases h' : l % 64 < 16
    · obtain ⟨h1, h2⟩ := T.mid l hl (by omega) h'
      rw [if_pos h', h1, h2]
      show _ = f (64 * (l / 64) + l % 64) * _ + f (64 * (l / 64) + (l % 64 - 8)) * _
      rw [e0, show (l + 120) % 128 = 64 * (l / 64) + (l % 64 - 8) by omega]
    · obtain ⟨h1, h2⟩ := T.hi l hl (by omega)
      rw [if_neg h', h1, h2, mul_one, mul_zero, add_zero]
      show _ = f (64 * (l / 64) + l % 64)
      rw [e0]

/-- The queries' factor, as the programs hold it. -/
def qscale : EReal := Ideal.ofBits .f32 0x3E38AA3B#32

/-- Where a permuted column comes from; the padding comes from past the last column. -/
def src (p : ℕ) : ℕ :=
  if p < 768 then p else if p < 1024 then p + 128 else if p < 1088 then p - 256 else if p < 1152 then p + 64
  else if p < 1216 then p - 320 else if p < 1220 then p else if p < 1224 then p + 1024 else if p < 1280 then 2248
  else p - 60

/-- The last of the small pieces laid side by side: values, indexer weights, step sizes, zeros. -/
def misc (h : Fin 1024 → EReal) (w : Fin 1024 → ℕ → EReal) (j : ℕ) : EReal :=
  if j < 64 then col h w (832 + j) else if j < 68 then col h w (1216 + (j - 64)) else if j < 72 then col h w (2244 + (j - 68)) else 0

end Cert.ProjSpec

end
-- ==== Proof.ProjHost.lean ====
/-
  The projection's windows read off the arguments: the host operations before the region append a zero column to the
  weights and permute the columns; the others only recast, and each window's block at a point is the part of its array
  the index maps name.
-/
module

public import proofs.«01_k».proof.Proof.MoeRead
public import proofs.«01_k».proof.Proof.ProjSpec
public import proofs.«01_k».proof.Proof.Gen.ProjIdeal.Frame
public import Idealize.ShloMosaic.Lib.Claim
public import Idealize.ShloMosaic.Lib.KernelVsHost
public import Idealize.ShloMosaic.Lib.Pipeline.ValueKit

@[expose] public section

set_option maxRecDepth 65536
set_option maxHeartbeats 1000000

noncomputable section

namespace Cert.ProjIdeal.Host

open Idealize.ShloMosaic hiding ix1 ix2 ix3 ix4
open Idealize.ShloMosaic.TcCoe Idealize.ShloMosaic.ValueIdx Idealize.SL.Sem Cert.ProjIdeal Cert.ProjIdeal.Gen

variable (m : (ℓ : Loc nD τ sig) → Buf (Elt Ideal) ℓ) (c : Dev nD)

/-- The argument arrays. -/
abbrev arg0 : S4x8192x1024.Idx → EReal := m ((c : Thread nD τ).loc main_arg0)
abbrev arg1 : S4x3072.Idx → EReal := m ((c : Thread nD τ).loc main_arg1)
abbrev arg2 : S4x8192x128.Idx → EReal := m ((c : Thread nD τ).loc main_arg2)
abbrev arg3 : S4x8192x128.Idx → EReal := m ((c : Thread nD τ).loc main_arg3)
abbrev arg4 : S1024x2248.Idx → EReal := m ((c : Thread nD τ).loc main_arg4)

/-- The weights by row and column. -/
def weights (x : S1024x2248.Idx → EReal) (k : Fin 1024) (n : Fin 2248) : EReal := x (ix2 k n)

theorem src_lt (p : ℕ) (hp : p < 2304) : ProjSpec.src p < 2249 := by
  unfold ProjSpec.src
  split_ifs <;> omega

/-- The words the host gathers with. -/
def words : IVec S2304x1 32 :=
  broadcastInDim S2304x1 ![0] bcast_S2304_S2304x1_0
    (select (constantI S2304 1 0#1)
      (addi (fun i => lit0 (S2304.rowMajor i)) (broadcastInDim S2304 ![] bcast_S_S2304 (constantI S_ 32 2249#32)))
      fun i => lit0 (S2304.rowMajor i))

theorem lit_parts : ∀ (b : Fin 18) (l : Fin 128),
    min (lit0 ⟨b.val * 128 + l.val, by omega⟩).toInt.toNat 2248 = ProjSpec.src (b.val * 128 + l.val) := by
  decide +kernel

theorem lit_ok (j : Fin 2304) : min (lit0 j).toInt.toNat 2248 = ProjSpec.src j.val := by
  have h := lit_parts ⟨j.val / 128, by omega⟩ ⟨j.val % 128, by omega⟩
  have e : j.val / 128 * 128 + j.val % 128 = j.val := by omega
  have e' : (⟨j.val / 128 * 128 + j.val % 128, by omega⟩ : Fin 2304) = j := Fin.ext e
  rw [← e]
  exact (congrArg (fun z => min (lit0 z).toInt.toNat 2248) e').symm.trans h

theorem words_apply (j : Fin 2304) (u : Fin 1) : words (ix2 j u) = lit0 j := by
  show lit0 (S2304.rowMajor _) = lit0 j
  exact congrArg lit0 (Fin.ext (rowMajor_val1 _))

theorem cols_apply (x : S1024x2249.Idx → EReal) (k : Fin 1024) (j : Fin 2304) :
    Host.gather gather_S1024x2249_S2304x1_S1024x2304_0_1_n_n_1_1_10241 x words (ix2 k j)
      = x (ix2 k ⟨ProjSpec.src j.val, src_lt _ j.isLt⟩) := by
  unfold Host.gather
  congr 1
  funext a
  refine Fin.ext ?_
  show GatherDims.start _ _ words a + GatherDims.batchCoord _ _ a + GatherDims.offCoord _ _ a = _
  have ha : a = 0 ∨ a = 1 := by
    match a with
    | ⟨0, _⟩ => exact Or.inl rfl
    | ⟨1, _⟩ => exact Or.inr rfl
  rcases ha with rfl | rfl
  · rw [GatherDims.batchCoord_eq_zero _ _ _ (by decide)]
    have hs : GatherDims.start gather_S1024x2249_S2304x1_S1024x2304_0_1_n_n_1_1_10241 (ix2 k j) words 0 = 0 := by
      unfold GatherDims.start
      rw [dif_neg (by decide)]
    rw [hs]
    simp only [Nat.zero_add, Nat.add_zero]
    unfold GatherDims.offCoord
    rw [dif_pos (by decide)]
    rfl
  · have m1 : (1 : Fin 2) ∈ gather_S1024x2249_S2304x1_S1024x2304_0_1_n_n_1_1_10241.startIndexMap := List.mem_singleton.mpr rfl
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos m1]
    have hsi : gather_S1024x2249_S2304x1_S1024x2304_0_1_n_n_1_1_10241.siIdx (ix2 k j)
        ⟨List.idxOf (1 : Fin 2) gather_S1024x2249_S2304x1_S1024x2304_0_1_n_n_1_1_10241.startIndexMap,
          List.idxOf_lt_length_iff.2 m1⟩ = ix2 j 0 := by
      funext c; refine Fin.ext ?_
      match c with
      | ⟨0, _⟩ => rfl
      | ⟨1, _⟩ => rfl
    rw [hsi, words_apply]
    exact lit_ok j

/-- The weights with the zero column. -/
def padded (x : S1024x2248.Idx → EReal) : S1024x2249.Idx → EReal :=
  concatenate S1024x2249 1 [⟨S1024x2248, x⟩, ⟨S1024x1, broadcastInDim S1024x1 ![] bcast_S_S1024x1 (constant (F := Ideal) S_ .f32 0x00000000#32)⟩]
    concatenates_S1024x2248_S1024x1_S1024x2249_d1

theorem padded_apply (x : S1024x2248.Idx → EReal) (k : Fin 1024) (n : Fin 2249) :
    padded x (ix2 k n) = ProjSpec.wcol (weights x) k n.val := by
  unfold padded ProjSpec.wcol
  by_cases h : n.val < 2248
  · rw [dif_pos h]
    exact Moe.Read.catCols_apply _ _ k n 0 (by show 0 < 2; decide) x rfl 0 rfl ⟨n.val, h⟩ (by show 0 + n.val = n.val; omega)
  · rw [dif_neg h]
    refine (Moe.Read.catCols_apply _ _ k n 1 (by show 1 < 2; decide) _ rfl 2248 rfl (0 : Fin 1) (by show 2248 + 0 = n.val; omega)).trans ?_
    exact Moe.Spec.bits_zero

theorem V_w (k : Fin 1024) (j : Fin 2304) :
    (V m c main_v7 : S1024x2304.Idx → EReal) (ix2 k j) = ProjSpec.wcol (weights (arg4 m c)) k (ProjSpec.src j.val) := by
  unfold V
  simp only [hostOps0, List.flatten_cons, List.flatten_nil, List.append_nil, List.cons_append, List.nil_append]
  entry_read
  exact (cols_apply (padded (arg4 m c)) k j).trans (padded_apply (arg4 m c) k _)

theorem V_mod (b : Fin 4) (u : Fin 1) (k : Fin 3072) :
    (V m c main_v8 : S4x1x3072.Idx → EReal) (ix3 b u k) = arg1 m c (ix2 b k) := by
  unfold V
  simp only [hostOps0, List.flatten_cons, List.flatten_nil, List.append_nil, List.cons_append, List.nil_append]
  entry_read
  refine shapeCast_apply (arg1 m c) shapeCasts_S4x3072_S4x1x3072 _ (ix2 b k) ?_
  rw [rowMajor_val2 _ 3072 rfl, rowMajor_val3 _ 3072 3072 rfl rfl]
  show b.val * 3072 + k.val = b.val * 3072 + u.val * 3072 + k.val
  omega

/-- The blocks the windows name at a point. -/
theorem idx : ∀ t : Fin cfg0.N, win0_0.index t = ![t.val / 16, t.val % 16, 0] ∧ win0_1.index t = ![t.val / 16, 0, 0]
    ∧ win0_2.index t = ![t.val / 16, t.val % 16, 0] ∧ win0_3.index t = ![t.val / 16, t.val % 16, 0]
    ∧ win0_4.index t = ![0, 0] := by
  decide +kernel

theorem idxR : ∀ t : Fin cfg0.N, win0_5.index t = ![t.val / 16, t.val % 16, 0] ∧ win0_8.index t = ![t.val / 16, t.val % 16, 0]
    ∧ win0_9.index t = ![t.val / 16, t.val % 16, 0] ∧ win0_12.index t = ![t.val / 16, t.val % 16, 0]
    ∧ win0_13.index t = ![t.val / 16, t.val % 16, 0] ∧ win0_14.index t = ![t.val / 16, t.val % 16, 0]
    ∧ win0_15.index t = ![t.val / 16, t.val % 16, 0] := by
  decide +kernel

theorem idxC : ∀ t : Fin cfg0.N, win0_6.index t = ![t.val / 16, 0, t.val % 16] ∧ win0_7.index t = ![t.val / 16, 0, t.val % 16]
    ∧ win0_10.index t = ![t.val / 16, 0, t.val % 16] ∧ win0_11.index t = ![t.val / 16, 0, t.val % 16] := by
  decide +kernel

theorem w0_apply (t : Fin cfg0.N) (u : Fin 1) (r : Fin 512) (k : Fin 1024) (b : Fin 4) (q : Fin 8192) (hb : b.val = t.val / 16)
    (hq : q.val = t.val % 16 * 512 + r.val) :
    (iblk m c 0 t : S1x512x1024.Idx → EReal) (ix3 u r k) = arg0 m c (ix3 b q k) := by
  blk_ext [iblk, V, (idx t).1]
  · exact hb.symm
  · exact hq.symm

theorem w2_apply (t : Fin cfg0.N) (u : Fin 1) (r : Fin 512) (k : Fin 128) (b : Fin 4) (q : Fin 8192) (hb : b.val = t.val / 16)
    (hq : q.val = t.val % 16 * 512 + r.val) :
    (iblk m c 2 t : S1x512x128.Idx → EReal) (ix3 u r k) = arg2 m c (ix3 b q k) := by
  blk_ext [iblk, V, (idx t).2.2.1]
  · exact hb.symm
  · exact hq.symm

theorem w3_apply (t : Fin cfg0.N) (u : Fin 1) (r : Fin 512) (k : Fin 128) (b : Fin 4) (q : Fin 8192) (hb : b.val = t.val / 16)
    (hq : q.val = t.val % 16 * 512 + r.val) :
    (iblk m c 3 t : S1x512x128.Idx → EReal) (ix3 u r k) = arg3 m c (ix3 b q k) := by
  blk_ext [iblk, V, (idx t).2.2.2.1]
  · exact hb.symm
  · exact hq.symm

theorem w1_apply (t : Fin cfg0.N) (u v : Fin 1) (k : Fin 3072) (b : Fin 4) (hb : b.val = t.val / 16) :
    (iblk m c 1 t : S1x1x3072.Idx → EReal) (ix3 u v k) = arg1 m c (ix2 b k) := by
  refine Eq.trans ?_ (V_mod m c b 0 k)
  blk_ext [iblk, (idx t).2.1]
  exact hb.symm

theorem w4_apply (t : Fin cfg0.N) (k : Fin 1024) (j : Fin 2304) :
    (iblk m c 4 t : S1024x2304.Idx → EReal) (ix2 k j) = ProjSpec.wcol (weights (arg4 m c)) k (ProjSpec.src j.val) := by
  refine Eq.trans ?_ (V_w m c k j)
  blk_ext [iblk, (idx t).2.2.2.2]

end Cert.ProjIdeal.Host

end
-- ==== Proof.ProjBody.lean ====
/-
  The projection's body read at a row and a column: the modulated rows' products with a slab of columns, and the turn of
  128 lanes.
-/
module

public import proofs.«01_k».proof.Proof.ProjSpec
public import proofs.«01_k».proof.Proof.MoeRead
public import Idealize.ShloMosaic.Lib.KernelVsHost
public import proofs.«01_k».proof.Proof.Gen.ProjIdeal.Skeleton

@[expose] public section

set_option maxRecDepth 16384

noncomputable section

namespace Cert.ProjIdeal.Body

open Idealize.ShloMosaic Idealize.ShloMosaic.ValueIdx Cert.ProjIdeal Cert.ProjIdeal.Gen Cert.Moe Cert.Moe.Read

section Shape

variable {F : FTy → Type} [FloatOps F]

/-- The turn of 128 lanes, as the body writes it every time. -/
def turnB (c s t : FVec F S512x128 .f32) : FVec F S512x128 .f32 :=
  addf (mulf t c) (mulf (select (cmpi .slt k0_pay20 (broadcast S512x128 8#32))
    (dynamicRotate 1 120#32 none t rotates_S512x128_d1) (dynamicRotate 1 8#32 none t rotates_S512x128_d1)) s)

/-- Turned lanes times a factor, a lane a row. -/
def layB (t : FVec F S512x128 .f32) (z : F .f32) : FVec F S1x128x512 .bf16 :=
  shapeCast S1x128x512 (truncf .bf16 (transpose S128x512 [1, 0] (mulf t (broadcast S512x128 z))
    transposes_S512x128_p1_0_S128x512) bitsLt_bf16_f32) shapeCasts_S128x512_S1x128x512

variable (h : FVec F S512x1024 .bf16) (c s t : FVec F S512x128 .f32) (w : Vec F S1024x128 .bf16)

theorem q0_eq : k0_pay8 c s t (iota .tc S512x128 32 [1] iota_S512x128_d1_w32) (Scalar.select (Scalar.cmpi .eq 64#32 0#32) 1#32 64#32)
    = layB (turnB c s t) (Scalar.ofBits .f32 0x3E38AA3B#32) := rfl

theorem q1_eq : k0_pay13 c s t (Scalar.select (Scalar.cmpi .eq 64#32 0#32) 1#32 64#32) k0_pay10 k0_pay11 k0_pay12
    = layB (turnB c s t) (Scalar.ofBits .f32 0x3E38AA3B#32) := rfl

theorem i0_eq : k0_pay18 c s t k0_pay15 k0_pay16 k0_pay17 = layB (turnB c s t) (Scalar.ofBits .f32 0x3F800000#32) := rfl

theorem i1_eq : k0_pay25 s k0_pay20 (k0_pay21 h w) (k0_pay22 h w) (k0_pay23 h c w) k0_pay24
    = layB (turnB c s (k0_pay19 h w)) (Scalar.ofBits .f32 0x3F800000#32) := rfl

theorem k_eq : k0_pay26 h c s w = turnB c s (k0_pay19 h w) := rfl

end Shape

variable (r : Fin 512)

theorem hid_apply (x : Vec Ideal S1x512x1024 .f32) (sh sc : Vec Ideal S1x1x1024 .f32) (d : Fin 1024) :
    (k0_pay3 sh sc x (ix2 r d) : EReal)
      = Spec.hid (fun k => x (ix3 0 r k)) (fun k => sh (ix3 0 0 k)) (fun k => sc (ix3 0 0 k)) d := by
  have e1 : shapeCast S512x1024 x shapeCasts_S1x512x1024_S512x1024 (ix2 r d) = x (ix3 0 r d) := shapeCast_1ab_ab_apply x _ r d
  have e2 : (broadcastTo S512x1024 (addf (broadcast S1x1024 (Scalar.ofBits (F := Ideal) .f32 0x3F800000#32))
      (shapeCast S1x1024 sc shapeCasts_S1x1x1024_S1x1024)) broadcasts_S1x1024_S512x1024 (ix2 r d) : EReal)
      = 1 + sc (ix3 0 0 d) := (broadcastTo_1b_ab_apply _ _ r d).trans
        (congr (congrArg (fun z w : EReal => z + w) Spec.bits_one) (shapeCast_1ab_ab_apply sc _ 0 d))
  have e3 : broadcastTo S512x1024 (shapeCast S1x1024 sh shapeCasts_S1x1x1024_S1x1024) broadcasts_S1x1024_S512x1024 (ix2 r d)
      = sh (ix3 0 0 d) := (broadcastTo_1b_ab_apply _ _ r d).trans (shapeCast_1ab_ab_apply sh _ 0 d)
  exact congr (congrArg (fun p q : EReal => p + q) (congr (congrArg (fun p q : EReal => p * q) e1) e2)) e3

/-- Products with a slab of 128 columns. -/
theorem mm128_apply (h : FVec Ideal S512x1024 .bf16) (w : Vec Ideal S1024x128 .bf16) (j : Fin 128) :
    (k0_pay9 h w (ix2 r j) : EReal) = ∑ k : Fin 1024, (h (ix2 r k) : EReal) * w (ix2 k j) := by
  unfold k0_pay9
  rw [shapeCast_self]
  exact mm_apply (φ₂ := .bf16) _ rfl _ _ r j

theorem mm256_apply (h : FVec Ideal S512x1024 .bf16) (w : Vec Ideal S1024x256 .bf16) (j : Fin 256) :
    (k0_pay35 h w (ix3 0 r j) : EReal) = ∑ k : Fin 1024, (h (ix2 r k) : EReal) * w (ix2 k j) := by
  unfold k0_pay35
  rw [shapeCast_self]
  exact (shapeCast_ab_1ab_apply _ _ 0 r j).trans (mm_apply (φ₂ := .bf16) _ rfl _ _ r j)

theorem mm512_apply (h : FVec Ideal S512x1024 .bf16) (w : Vec Ideal S1024x512 .bf16) (j : Fin 512) :
    (k0_pay2 h w (ix3 0 r j) : EReal) = ∑ k : Fin 1024, (h (ix2 r k) : EReal) * w (ix2 k j) := by
  unfold k0_pay2
  rw [shapeCast_self]
  exact (shapeCast_ab_1ab_apply _ _ 0 r j).trans (mm_apply (φ₂ := .bf16) _ rfl _ _ r j)

/-- A lane's place in its head, as the body writes it. -/
def laneW (n : BitVec 32) : BitVec 32 :=
  let d : BitVec 32 := Scalar.select (Scalar.cmpi .eq 64#32 0#32) 1#32 64#32
  let q : BitVec 32 := IntOp.remsi .vector n d
  if IntOp.andi (IntOp.xori (IntOp.cmpi .slt q 0#32) (Scalar.cmpi .slt d 0#32)) (IntOp.cmpi .ne q 0#32) = 1#1 then IntOp.addi q d else q

theorem lane_word : ∀ l : Fin 128, (IntOp.cmpi .slt (laneW (BitVec.ofNat 32 l.val)) 8#32 = 1#1) ↔ l.val % 64 < 8 := by
  decide +kernel

theorem lane_apply (l : Fin 128) : k0_pay20 (ix2 r l) = laneW (BitVec.ofNat 32 l.val) := by
  have e : iota .tc S512x128 32 [1] iota_S512x128_d1_w32 (ix2 r l) = BitVec.ofNat 32 l.val :=
    iota_single_apply .tc S512x128 32 1 iota_S512x128_d1_w32 (ix2 r l)
  rw [← e]
  rfl

theorem up_apply (t : FVec Ideal S512x128 .f32) (l : Fin 128) :
    dynamicRotate 1 120#32 none t rotates_S512x128_d1 (ix2 r l) = t (ix2 r ⟨(l.val + 8) % 128, by omega⟩) := by
  refine dynamicRotate_apply (1 : Fin 2) _ t _ _ _ fun b => ?_
  match b with
  | 0 => rfl
  | 1 =>
    show (l.val + 8) % 128 = (l.val + 128 - (120#32).toNat % 128) % 128
    show (l.val + 8) % 128 = (l.val + 128 - 120 % 128) % 128
    omega

theorem down_apply (t : FVec Ideal S512x128 .f32) (l : Fin 128) :
    dynamicRotate 1 8#32 none t rotates_S512x128_d1 (ix2 r l) = t (ix2 r ⟨(l.val + 120) % 128, by omega⟩) := by
  refine dynamicRotate_apply (1 : Fin 2) _ t _ _ _ fun b => ?_
  match b with
  | 0 => rfl
  | 1 =>
    show (l.val + 120) % 128 = (l.val + 128 - 8 % 128) % 128
    omega

theorem turn_apply (c s t : FVec Ideal S512x128 .f32) (f C S : ℕ → EReal) (hf : ∀ l : Fin 128, (t (ix2 r l) : EReal) = f l.val)
    (hc : ∀ l : Fin 128, (c (ix2 r l) : EReal) = C l.val) (hs : ∀ l : Fin 128, (s (ix2 r l) : EReal) = S l.val) (l : Fin 128) :
    (turnB c s t (ix2 r l) : EReal) = ProjSpec.turn f C S l.val := by
  have e : (turnB c s t (ix2 r l) : EReal) = (t (ix2 r l) : EReal) * c (ix2 r l)
      + (if IntOp.cmpi .slt (k0_pay20 (ix2 r l)) 8#32 = 1#1 then dynamicRotate 1 120#32 none t rotates_S512x128_d1 (ix2 r l)
          else dynamicRotate 1 8#32 none t rotates_S512x128_d1 (ix2 r l)) * s (ix2 r l) := rfl
  rw [e, lane_apply, up_apply, down_apply, hf, hf, hf, hc, hs]
  unfold ProjSpec.turn
  congr 2
  by_cases h : l.val % 64 < 8
  · rw [if_pos h, if_pos ((lane_word l).2 h)]
  · rw [if_neg h, if_neg fun h' => h ((lane_word l).1 h')]

theorem lay_apply (t : FVec Ideal S512x128 .f32) (z : EReal) (l : Fin 128) :
    (layB (F := Ideal) t z (ix3 0 l r) : EReal) = (t (ix2 r l) : EReal) * z :=
  (shapeCast_ab_1ab_apply _ _ 0 l r).trans (transpose_ix2_apply (mulf t (broadcast S512x128 z)) transposes_S512x128_p1_0_S128x512 l r)

theorem left_apply (t : FVec Ideal S512x128 .f32) (j : Fin 64) : (k0_pay29 (F := Ideal) t (ix3 0 r j) : EReal) = t (ix2 r ⟨j.val, by omega⟩) :=
  (shapeCast_ab_1ab_apply _ _ 0 r j).trans (slice2_axis1_apply 0 t slices_S512x128_o0_0_S512x64 r j _ (by show j.val = 0 + j.val; omega))

theorem right_apply (t : FVec Ideal S512x128 .f32) (j : Fin 64) : (k0_pay30 (F := Ideal) t (ix3 0 r j) : EReal) = t (ix2 r ⟨64 + j.val, by omega⟩) :=
  (shapeCast_ab_1ab_apply _ _ 0 r j).trans (slice2_axis1_apply 64 t slices_S512x128_o0_64_S512x64 r j _ rfl)

theorem misc_apply (h : FVec Ideal S512x1024 .bf16) (w : Vec Ideal S1024x128 .bf16) (j : Fin 128) :
    (k0_pay34 (F := Ideal) h (k0_pay27 w) (ix3 0 r j) : EReal) = k0_pay9 h w (ix2 r j) :=
  (shapeCast_ab_1ab_apply (k0_pay28 h (k0_pay27 w)) shapeCasts_S512x128_S1x512x128 0 r j).trans rfl

theorem val_apply_part (x : FVec Ideal S128x512 .f32) (j : Fin 64) :
    (shapeCast S1x64x512 (truncf .bf16 (extractStridedSlice S64x512 ![0, 0] x slices_S128x512_o0_0_S64x512) bitsLt_bf16_f32) shapeCasts_S64x512_S1x64x512 (ix3 0 j r) : EReal) = x (ix2 ⟨j.val, by omega⟩ r) := by
  refine (shapeCast_ab_1ab_apply (truncf .bf16 (extractStridedSlice S64x512 ![0, 0] x slices_S128x512_o0_0_S64x512) bitsLt_bf16_f32) shapeCasts_S64x512_S1x64x512 0 j r).trans ?_
  show extractStridedSlice S64x512 ![0, 0] x slices_S128x512_o0_0_S64x512 (ix2 j r) = _
  exact extractStridedSlice_apply ![0, 0] x slices_S128x512_o0_0_S64x512 (ix2 j r) (ix2 ⟨j.val, by omega⟩ r) fun a => by
    match a with
    | ⟨0, _⟩ => show j.val = 0 + j.val; omega
    | ⟨1, _⟩ => show r.val = 0 + r.val; omega

theorem val_apply (h : FVec Ideal S512x1024 .bf16) (w : Vec Ideal S1024x128 .bf16) (j : Fin 64) :
    (k0_pay32 (F := Ideal) h (k0_pay27 w) (ix3 0 j r) : EReal) = k0_pay9 h w (ix2 r ⟨j.val, by omega⟩) :=
  (val_apply_part r (k0_pay31 h (k0_pay27 w)) j).trans
    (transpose_ix2_apply (k0_pay28 h (k0_pay27 w)) transposes_S512x128_p1_0_S128x512 _ r)

theorem wide_apply_part (x : FVec Ideal S128x512 .f32) (j : Fin 8) :
    (shapeCast S1x8x512 (extractStridedSlice S8x512 ![64, 0] x slices_S128x512_o64_0_S8x512) shapeCasts_S8x512_S1x8x512 (ix3 0 j r) : EReal) = x (ix2 ⟨64 + j.val, by omega⟩ r) :=
  (shapeCast_ab_1ab_apply (extractStridedSlice S8x512 ![64, 0] x slices_S128x512_o64_0_S8x512) shapeCasts_S8x512_S1x8x512 0 j r).trans
    (extractStridedSlice_apply ![64, 0] x slices_S128x512_o64_0_S8x512 (ix2 j r) (ix2 ⟨64 + j.val, by omega⟩ r) fun a => by
      match a with
      | ⟨0, _⟩ => rfl
      | ⟨1, _⟩ => show r.val = 0 + r.val; omega)

theorem wide_apply (h : FVec Ideal S512x1024 .bf16) (w : Vec Ideal S1024x128 .bf16) (j : Fin 8) :
    (k0_pay33 (F := Ideal) h (k0_pay27 w) (ix3 0 j r) : EReal) = k0_pay9 h w (ix2 r ⟨64 + j.val, by omega⟩) :=
  (wide_apply_part r (k0_pay31 h (k0_pay27 w)) j).trans
    (transpose_ix2_apply (k0_pay28 h (k0_pay27 w)) transposes_S512x128_p1_0_S128x512 _ r)

end Cert.ProjIdeal.Body

end
-- ==== Proof.ProjOut.lean ====
/-
  The blocks a point leaves, read off its windows' blocks: products with the permuted columns, and turned lanes.
-/
module

public import proofs.«01_k».proof.Proof.ProjBody
public import proofs.«01_k».proof.Proof.Gen.ProjIdeal.Frame
public import Idealize.ShloMosaic.Lib.Pipeline.Value

@[expose] public section

set_option maxRecDepth 65536
set_option maxHeartbeats 1000000

noncomputable section

namespace Cert.ProjIdeal.Out

open Idealize.ShloMosaic Idealize.ShloMosaic.ValueIdx Cert.ProjIdeal Cert.ProjIdeal.Gen Cert.ProjIdeal.Body Cert.Moe

variable (x0 : Vec Ideal S1x512x1024 .f32) (x1 : Vec Ideal S1x1x3072 .f32) (x2 x3 : Vec Ideal S1x512x128 .f32)
  (x4 : Vec Ideal S1024x2304 .bf16)

/-- What the windows' blocks hold: each row's modulated token, the permuted columns, each row's tables. -/
structure Holds (h : Fin 512 → Fin 1024 → EReal) (w : Fin 1024 → ℕ → EReal) (C S : Fin 512 → ℕ → EReal) : Prop where
  hid : ∀ r k, Spec.hid (fun k => x0 (ix3 0 r k)) (fun k : Fin 1024 => x1 (ix3 0 0 ⟨k.val, by omega⟩))
    (fun k : Fin 1024 => x1 (ix3 0 0 ⟨1024 + k.val, by omega⟩)) k = h r k
  wts : ∀ (k : Fin 1024) (j : Fin 2304), x4 (ix2 k j) = w k j.val
  cos : ∀ (r : Fin 512) (l : Fin 128), x2 (ix3 0 r l) = C r l.val
  sin : ∀ (r : Fin 512) (l : Fin 128), x3 (ix3 0 r l) = S r l.val

theorem zero3 : (![0, 0, 0] : Fin 3 → ℕ) = fun _ => 0 := by
  funext a
  match a with
  | ⟨0, _⟩ => rfl
  | ⟨1, _⟩ => rfl
  | ⟨2, _⟩ => rfl

/-- The shift and the scale, columns of one window. -/
theorem mod_apply (o : ℕ) (inb : ∀ a, (![0, 0, o] : Fin 3 → ℕ) a + S1x1x1024.size a ≤ S1x1x3072.size a) (k : Fin 1024)
    (h : o + k.val < 3072) :
    View.ld x1 (Rect.unit (s := S1x1x3072) ![0, 0, o] S1x1x1024.size inb) (ix3 (0 : Fin 1) (0 : Fin 1) k)
      = x1 (ix3 0 0 ⟨o + k.val, h⟩) := by
  refine congrArg x1 (funext fun a => Fin.ext ?_)
  match a with
  | ⟨0, _⟩ => rfl
  | ⟨1, _⟩ => rfl
  | ⟨2, _⟩ => show o + 1 * k.val = o + k.val; omega

/-- A slab of columns. -/
theorem slab_apply (o n : ℕ) (inb : ∀ a, (![0, o] : Fin 2 → ℕ) a + (![1024, n] : Fin 2 → ℕ) a ≤ S1024x2304.size a) (k : Fin 1024) (j : Fin n)
    (h : o + j.val < 2304) :
    View.ld x4 (Rect.unit (s := S1024x2304) ![0, o] ![1024, n] inb) (ix2 k j) = x4 (ix2 k ⟨o + j.val, h⟩) := by
  refine congrArg x4 (funext fun a => Fin.ext ?_)
  match a with
  | ⟨0, _⟩ => show 0 + 1 * k.val = k.val; omega
  | ⟨1, _⟩ => show o + 1 * j.val = o + j.val; omega

variable {x0 x1 x2 x3 x4}
variable {h : Fin 512 → Fin 1024 → EReal} {w : Fin 1024 → ℕ → EReal} {C S : Fin 512 → ℕ → EReal} (H : Holds x0 x1 x2 x3 x4 h w C S)

include H

theorem rows_apply (r : Fin 512) (k : Fin 1024) : (k0_pay36 x0 x1 x2 x3 x4 (ix2 r k) : EReal) = h r k := by
  unfold k0_pay36
  refine (hid_apply r (View.ld x0 r0_2) (View.ld x1 r0_0) (View.ld x1 r0_1) k).trans ?_
  have e0 : View.ld x0 r0_2 = x0 := View.ld_unit_zero zero3 _ x0
  have e1 : (fun k : Fin 1024 => View.ld x1 r0_0 (ix3 (0 : Fin 1) (0 : Fin 1) k)) = fun k : Fin 1024 => x1 (ix3 0 0 ⟨k.val, by omega⟩) := funext fun k =>
    (mod_apply x1 0 _ k (by omega)).trans (congrArg (fun z => x1 (ix3 0 0 z)) (Fin.ext (by show 0 + k.val = k.val; omega)))
  have e2 : (fun k : Fin 1024 => View.ld x1 r0_1 (ix3 (0 : Fin 1) (0 : Fin 1) k)) = fun k : Fin 1024 => x1 (ix3 0 0 ⟨1024 + k.val, by omega⟩) := funext fun k =>
    mod_apply x1 1024 _ k (by omega)
  rw [e0, e1, e2]
  exact H.hid r k

theorem cos_apply (r : Fin 512) (l : Fin 128) : (k0_pay37 x0 x1 x2 x3 x4 (ix2 r l) : EReal) = C r l.val := by
  unfold k0_pay37
  rw [show View.ld x2 r0_3 = x2 from View.ld_unit_zero zero3 _ x2]
  exact (shapeCast_1ab_ab_apply x2 _ r l).trans (H.cos r l)

theorem sin_apply (r : Fin 512) (l : Fin 128) : (k0_pay38 x0 x1 x2 x3 x4 (ix2 r l) : EReal) = S r l.val := by
  unfold k0_pay38
  rw [show View.ld x3 r0_3 = x3 from View.ld_unit_zero zero3 _ x3]
  exact (shapeCast_1ab_ab_apply x3 _ r l).trans (H.sin r l)

theorem sum_apply (o n : ℕ) (inb : ∀ a, (![0, o] : Fin 2 → ℕ) a + (![1024, n] : Fin 2 → ℕ) a ≤ S1024x2304.size a) (r : Fin 512) (j : Fin n)
    (hn : o + n ≤ 2304) :
    (∑ k : Fin 1024, (k0_pay36 x0 x1 x2 x3 x4 (ix2 r k) : EReal) * View.ld x4 (Rect.unit (s := S1024x2304) ![0, o] ![1024, n] inb) (ix2 k j))
      = ProjSpec.col (h r) w (o + j.val) := by
  unfold ProjSpec.col
  refine Finset.sum_congr rfl fun k _ => ?_
  rw [rows_apply H]
  exact congrArg (fun z : EReal => h r k * z) ((slab_apply x4 o n inb k j (by omega)).trans (H.wts k _))

/-- Products with a slab of 128 columns. -/
theorem part_apply (o : ℕ) (inb : ∀ a, (![0, o] : Fin 2 → ℕ) a + (![1024, 128] : Fin 2 → ℕ) a ≤ S1024x2304.size a) (r : Fin 512) (j : Fin 128)
    (hn : o + 128 ≤ 2304) :
    (k0_pay9 (k0_pay36 x0 x1 x2 x3 x4) (View.ld x4 (Rect.unit (s := S1024x2304) ![0, o] ![1024, 128] inb)) (ix2 r j) : EReal)
      = ProjSpec.col (h r) w (o + j.val) :=
  (mm128_apply r _ _ j).trans (sum_apply H o 128 inb r j hn)

/-- Turned lanes. -/
theorem lanes_apply (o : ℕ) (inb : ∀ a, (![0, o] : Fin 2 → ℕ) a + (![1024, 128] : Fin 2 → ℕ) a ≤ S1024x2304.size a) (r : Fin 512) (l : Fin 128)
    (hn : o + 128 ≤ 2304) :
    (turnB (k0_pay37 x0 x1 x2 x3 x4) (k0_pay38 x0 x1 x2 x3 x4)
      (k0_pay9 (k0_pay36 x0 x1 x2 x3 x4) (View.ld x4 (Rect.unit (s := S1024x2304) ![0, o] ![1024, 128] inb))) (ix2 r l) : EReal)
      = ProjSpec.turn (fun l => ProjSpec.col (h r) w (o + l)) (C r) (S r) l.val :=
  turn_apply r _ _ _ (fun l => ProjSpec.col (h r) w (o + l)) (C r) (S r) (fun l => part_apply H o inb r l hn) (cos_apply H r) (sin_apply H r) l

theorem out5_apply (r : Fin 512) (j : Fin 512) : (out0_5 x0 x1 x2 x3 x4 (ix3 0 r j) : EReal) = ProjSpec.col (h r) w (0 + j.val) := by
  unfold out0_5
  rw [View.canon_unit_zero zero3]
  exact (mm512_apply r _ _ j).trans (sum_apply H 0 512 _ r j (by omega))

theorem out13_apply (r : Fin 512) (j : Fin 256) : (out0_13 x0 x1 x2 x3 x4 (ix3 0 r j) : EReal) = ProjSpec.col (h r) w (1280 + j.val) := by
  unfold out0_13
  rw [View.canon_unit_zero zero3]
  exact (mm256_apply r _ _ j).trans (sum_apply H 1280 256 _ r j (by omega))

theorem out14_apply (r : Fin 512) (j : Fin 256) : (out0_14 x0 x1 x2 x3 x4 (ix3 0 r j) : EReal) = ProjSpec.col (h r) w (1536 + j.val) := by
  unfold out0_14
  rw [View.canon_unit_zero zero3]
  exact (mm256_apply r _ _ j).trans (sum_apply H 1536 256 _ r j (by omega))

theorem out15_apply (r : Fin 512) (j : Fin 512) : (out0_15 x0 x1 x2 x3 x4 (ix3 0 r j) : EReal) = ProjSpec.col (h r) w (1792 + j.val) := by
  unfold out0_15
  rw [View.canon_unit_zero zero3]
  exact (mm512_apply r _ _ j).trans (sum_apply H 1792 512 _ r j (by omega))

theorem out12_apply (r : Fin 512) (j : Fin 128) : (out0_12 x0 x1 x2 x3 x4 (ix3 0 r j) : EReal) = ProjSpec.col (h r) w (1152 + j.val) := by
  unfold out0_12 k0_pay40
  rw [View.canon_unit_zero zero3]
  exact (misc_apply r _ _ j).trans (part_apply H 1152 _ r j (by omega))

theorem out10_apply (r : Fin 512) (j : Fin 64) : (out0_10 x0 x1 x2 x3 x4 (ix3 0 j r) : EReal) = ProjSpec.col (h r) w (1152 + j.val) := by
  unfold out0_10 k0_pay40
  rw [View.canon_unit_zero zero3]
  exact (val_apply r _ _ j).trans (part_apply H 1152 _ r ⟨j.val, by omega⟩ (by omega))

theorem out11_apply (r : Fin 512) (j : Fin 8) : (out0_11 x0 x1 x2 x3 x4 (ix3 0 j r) : EReal) = ProjSpec.col (h r) w (1152 + (64 + j.val)) := by
  unfold out0_11 k0_pay40
  rw [View.canon_unit_zero zero3]
  exact (wide_apply r _ _ j).trans (part_apply H 1152 _ r ⟨64 + j.val, by omega⟩ (by omega))

theorem out8_apply (r : Fin 512) (j : Fin 64) :
    (out0_8 x0 x1 x2 x3 x4 (ix3 0 r j) : EReal) = ProjSpec.turn (fun l => ProjSpec.col (h r) w (1024 + l)) (C r) (S r) j.val := by
  unfold out0_8 k0_pay39
  rw [View.canon_unit_zero zero3, k_eq]
  exact (left_apply r _ j).trans (lanes_apply H 1024 _ r ⟨j.val, by omega⟩ (by omega))

theorem out9_apply (r : Fin 512) (j : Fin 64) :
    (out0_9 x0 x1 x2 x3 x4 (ix3 0 r j) : EReal) = ProjSpec.turn (fun l => ProjSpec.col (h r) w (1024 + l)) (C r) (S r) (64 + j.val) := by
  unfold out0_9 k0_pay39
  rw [View.canon_unit_zero zero3, k_eq]
  exact (right_apply r _ j).trans (lanes_apply H 1024 _ r ⟨64 + j.val, by omega⟩ (by omega))

omit H in
/-- Two stacks of 128 rows. -/
theorem stacked (G : ℕ → Fin 512 → EReal) (p q : Vec Ideal S1x128x512 .bf16) (hp : ∀ (l : Fin 128) (r : Fin 512), (p (ix3 0 l r) : EReal) = G (128 + l.val) r)
    (hq : ∀ (l : Fin 128) (r : Fin 512), (q (ix3 0 l r) : EReal) = G l.val r) (j : Fin 256) (r : Fin 512) :
    (View.canon (Val := Elt Ideal) (e := .bf16) [⟨r0_9, p⟩, ⟨r0_7, q⟩] (ix3 0 j r : S1x256x512.Idx) : EReal) = G j.val r := by
  refine View.canon_apply_of_pieces (Val := Elt Ideal) (e := .bf16) (fun y : S1x256x512.Idx => G (y 1).val (y 2)) _ ?_ (ix3 0 j r) (cover0_6 p q _)
  intro pc hpc
  simp only [List.mem_cons, List.not_mem_nil, or_false] at hpc
  rcases hpc with rfl | rfl
  · intro x
    obtain ⟨u, l, r, rfl⟩ : ∃ (u : Fin 1) (l : Fin 128) (r : Fin 512), x = ix3 u l r := ⟨_, _, _, eq_ix3 x⟩
    obtain rfl : u = 0 := Subsingleton.elim _ _
    refine (hp l r).trans ?_
    have e : r0_9.emb (ix3 (0 : Fin 1) l r) = (ix3 0 ⟨128 + l.val, by omega⟩ r : S1x256x512.Idx) := funext fun a => Fin.ext (by
      match a with
      | ⟨0, _⟩ => rfl
      | ⟨1, _⟩ => show 128 + 1 * l.val = 128 + l.val; omega
      | ⟨2, _⟩ => show 0 + 1 * r.val = r.val; omega)
    exact (congrArg (fun y : S1x256x512.Idx => G (y 1).val (y 2)) e).symm
  · intro x
    obtain ⟨u, l, r, rfl⟩ : ∃ (u : Fin 1) (l : Fin 128) (r : Fin 512), x = ix3 u l r := ⟨_, _, _, eq_ix3 x⟩
    obtain rfl : u = 0 := Subsingleton.elim _ _
    refine (hq l r).trans ?_
    have e : r0_7.emb (ix3 (0 : Fin 1) l r) = (ix3 0 ⟨l.val, by omega⟩ r : S1x256x512.Idx) := funext fun a => Fin.ext (by
      match a with
      | ⟨0, _⟩ => rfl
      | ⟨1, _⟩ => show 0 + 1 * l.val = l.val; omega
      | ⟨2, _⟩ => show 0 + 1 * r.val = r.val; omega)
    exact (congrArg (fun y : S1x256x512.Idx => G (y 1).val (y 2)) e).symm

/-- A stack's lanes, counted from its column. -/
def stack (h : Fin 512 → Fin 1024 → EReal) (w : Fin 1024 → ℕ → EReal) (C S : Fin 512 → ℕ → EReal) (o n : ℕ) (r : Fin 512) : EReal :=
  ProjSpec.turn (fun l => ProjSpec.col (h r) w (o + 128 * (n / 128) + l)) (C r) (S r) (n % 128)

omit H in
theorem stack_hi (o : ℕ) (l : Fin 128) (r : Fin 512) :
    ProjSpec.turn (fun l => ProjSpec.col (h r) w (o + 128 + l)) (C r) (S r) l.val = stack h w C S o (128 + l.val) r := by
  unfold stack
  rw [show (128 + l.val) / 128 = 1 by omega, show (128 + l.val) % 128 = l.val by omega]

omit H in
theorem stack_lo (o : ℕ) (l : Fin 128) (r : Fin 512) :
    ProjSpec.turn (fun l => ProjSpec.col (h r) w (o + l)) (C r) (S r) l.val = stack h w C S o l.val r := by
  unfold stack
  rw [show l.val / 128 = 0 by omega, show l.val % 128 = l.val by omega]
  rfl

theorem out6_apply (r : Fin 512) (j : Fin 256) :
    (out0_6 x0 x1 x2 x3 x4 (ix3 0 j r) : EReal) = stack h w C S 512 j.val r * ProjSpec.qscale := by
  unfold out0_6
  refine stacked (fun n r => stack h w C S 512 n r * ProjSpec.qscale) _ _ (fun l r => ?_) (fun l r => ?_) j r
  · rw [q1_eq]
    refine (lay_apply r _ _ l).trans (congrArg (fun z : EReal => z * ProjSpec.qscale) ?_)
    exact (lanes_apply H 640 _ r l (by omega)).trans (stack_hi 512 l r)
  · rw [q0_eq]
    refine (lay_apply r _ _ l).trans (congrArg (fun z : EReal => z * ProjSpec.qscale) ?_)
    exact (lanes_apply H 512 _ r l (by omega)).trans (stack_lo 512 l r)

theorem out7_apply (r : Fin 512) (j : Fin 256) :
    (out0_7 x0 x1 x2 x3 x4 (ix3 0 j r) : EReal) = stack h w C S 768 j.val r := by
  unfold out0_7
  have one : ∀ z : EReal, z * Ideal.ofBits .f32 0x3F800000#32 = z := fun z => by rw [Spec.bits_one, mul_one]
  refine stacked (fun n r => stack h w C S 768 n r) _ _ (fun l r => ?_) (fun l r => ?_) j r
  · rw [i1_eq]
    refine (lay_apply r _ _ l).trans ((one _).trans ?_)
    exact (lanes_apply H 896 _ r l (by omega)).trans (stack_hi 768 l r)
  · rw [i0_eq]
    refine (lay_apply r _ _ l).trans ((one _).trans ?_)
    exact (lanes_apply H 768 _ r l (by omega)).trans (stack_lo 768 l r)

end Cert.ProjIdeal.Out

end
-- ==== Proof.ProjPre.lean ====
/-
  The projection's precondition read: the tables hold a head's cosine and signed sine, and one and zero past the head's
  sixteenth lane, twice over.
-/
module

public import proofs.«01_k».proof.Proof.ProjSpec
public import proofs.«01_k».proof.Proof.MoeSpec
public import proofs.«01_k».proof.Pre_rotary_tables
public import Idealize.ShloMosaic.Lib.ReduceAll
public import Idealize.ShloMosaic.Lib.ValueIdx
public import Idealize.ShloMosaic.Lib.Pipeline.Value

@[expose] public section

set_option maxRecDepth 65536

noncomputable section

namespace Cert.ProjPre

open Idealize.ShloMosaic Idealize.ShloMosaic.ValueIdx Cert.Pre_rotary_tables

/-- The side conditions of the predicate's operations. -/
instance facts : Cert.Pre_rotary_tables.Facts where
  slices_S4x8192x128_S4x8192x8_0_0_8 := by decide
  slices_S4x8192x128_S4x8192x8_0_0_0 := by decide
  reducesTo_S4x8192x8_S_d0_1_2 := by decide
  h_S_ := by decide
  slices_S4x8192x128_S4x8192x48_0_0_16 := by decide
  bcast_S_S4x8192x48 := by decide
  reducesTo_S4x8192x48_S_d0_1_2 := by decide
  slices_S4x8192x128_S4x8192x64_0_0_64 := by decide
  slices_S4x8192x128_S4x8192x64_0_0_0 := by decide
  reducesTo_S4x8192x64_S_d0_1_2 := by decide

theorem eq_of_bit {x y : EReal} (h : Ideal.cmp .oeq x y = 1#1) : x = y := by
  by_contra hn
  have h' : BitVec.ofBool (decide (x = y)) = 1#1 := h
  rw [decide_eq_false hn] at h'
  exact absurd h' (by decide)

theorem and_one {x y : BitVec 1} (h : IntOp.andi x y = 1#1) : x = 1#1 ∧ y = 1#1 := by
  revert x y; decide

instance : Subsingleton S_.Idx := ⟨fun a b => funext fun i => i.elim0⟩

variable (x0 : FVec Ideal S4x8192x1024 .f32) (x1 : FVec Ideal S4x3072 .f32) (x2 x3 : FVec Ideal S4x8192x128 .f32)
  (x4 : FVec Ideal S1024x2248 .f32) (b : Fin 4) (t : Fin 8192)

theorem at_slice {n o : ℕ} (x : FVec Ideal S4x8192x128 .f32) (h : S4x8192x128.Slices ![0, 0, o] ⟨3, ![4, 8192, n]⟩) (j : Fin n) (l : Fin 128)
    (hl : l.val = o + j.val) : extractStridedSlice ⟨3, ![4, 8192, n]⟩ ![0, 0, o] x h (ix3 b t j) = x (ix3 b t l) :=
  extractStridedSlice_apply ![0, 0, o] x h (ix3 b t j) (ix3 b t l) fun a => by
    match a with
    | ⟨0, _⟩ => show b.val = 0 + b.val; omega
    | ⟨1, _⟩ => show t.val = 0 + t.val; omega
    | ⟨2, _⟩ => exact hl

/-- A table's row, a lane a number. -/
def lane (x : S4x8192x128.Idx → EReal) (l : ℕ) : EReal := if h : l < 128 then x (ix3 b t ⟨l, h⟩) else 0

theorem lane_apply (x : S4x8192x128.Idx → EReal) (l : Fin 128) : x (ix3 b t l) = lane b t x l.val := by
  unfold lane
  rw [dif_pos l.isLt]

theorem tables (h : fn x0 x1 x2 x3 x4 = fun _ => 1#1) :
    ProjSpec.Tab (lane b t x2) (lane b t x3) (lane b t x2) (fun j => lane b t x3 (8 + j)) := by
  have h0 := congrFun h (fun a => a.elim0)
  obtain ⟨h1, g6⟩ := and_one h0
  obtain ⟨h2, g5⟩ := and_one h1
  obtain ⟨h3, g4⟩ := and_one h2
  obtain ⟨h4, g3⟩ := and_one h3
  obtain ⟨g1, g2⟩ := and_one h4
  have a1 : ∀ j, j < 8 → lane b t x2 (8 + j) = lane b t x2 j := fun j hj => by
    have e := eq_of_bit (Host.reduce_andi_all _ _ _ _ _ g1 (ix3 b t ⟨j, hj⟩))
    have e1 := at_slice b t x2 facts.slices_S4x8192x128_S4x8192x8_0_0_8 ⟨j, hj⟩ ⟨8 + j, by omega⟩ rfl
    have e2 := at_slice b t x2 facts.slices_S4x8192x128_S4x8192x8_0_0_0 ⟨j, hj⟩ ⟨j, by omega⟩ (by show j = 0 + j; omega)
    exact (lane_apply b t x2 ⟨8 + j, by omega⟩).symm.trans (e1.symm.trans (e.trans (e2.trans (lane_apply b t x2 ⟨j, by omega⟩))))
  have a2 : ∀ j, j < 48 → lane b t x2 (16 + j) = 1 := fun j hj => by
    have e := eq_of_bit (Host.reduce_andi_all _ _ _ _ _ g2 (ix3 b t ⟨j, hj⟩))
    have e1 := at_slice b t x2 facts.slices_S4x8192x128_S4x8192x48_0_0_16 ⟨j, hj⟩ ⟨16 + j, by omega⟩ rfl
    exact (lane_apply b t x2 ⟨16 + j, by omega⟩).symm.trans (e1.symm.trans (e.trans Moe.Spec.bits_one))
  have a3 : ∀ j, j < 8 → lane b t x3 j = - lane b t x3 (8 + j) := fun j hj => by
    have e := eq_of_bit (Host.reduce_andi_all _ _ _ _ _ g3 (ix3 b t ⟨j, hj⟩))
    have e1 := at_slice b t x3 facts.slices_S4x8192x128_S4x8192x8_0_0_0 ⟨j, hj⟩ ⟨j, by omega⟩ (by show j = 0 + j; omega)
    have e2 := at_slice b t x3 facts.slices_S4x8192x128_S4x8192x8_0_0_8 ⟨j, hj⟩ ⟨8 + j, by omega⟩ rfl
    exact (lane_apply b t x3 ⟨j, by omega⟩).symm.trans (e1.symm.trans (e.trans (congrArg (fun z : EReal => -z) (e2.trans (lane_apply b t x3 ⟨8 + j, by omega⟩)))))
  have a4 : ∀ j, j < 48 → lane b t x3 (16 + j) = 0 := fun j hj => by
    have e := eq_of_bit (Host.reduce_andi_all _ _ _ _ _ g4 (ix3 b t ⟨j, hj⟩))
    have e1 := at_slice b t x3 facts.slices_S4x8192x128_S4x8192x48_0_0_16 ⟨j, hj⟩ ⟨16 + j, by omega⟩ rfl
    exact (lane_apply b t x3 ⟨16 + j, by omega⟩).symm.trans (e1.symm.trans (e.trans Moe.Spec.bits_zero))
  have a5 : ∀ j, j < 64 → lane b t x2 (64 + j) = lane b t x2 j := fun j hj => by
    have e := eq_of_bit (Host.reduce_andi_all _ _ _ _ _ g5 (ix3 b t ⟨j, hj⟩))
    have e1 := at_slice b t x2 facts.slices_S4x8192x128_S4x8192x64_0_0_64 ⟨j, hj⟩ ⟨64 + j, by omega⟩ rfl
    have e2 := at_slice b t x2 facts.slices_S4x8192x128_S4x8192x64_0_0_0 ⟨j, hj⟩ ⟨j, by omega⟩ (by show j = 0 + j; omega)
    exact (lane_apply b t x2 ⟨64 + j, by omega⟩).symm.trans (e1.symm.trans (e.trans (e2.trans (lane_apply b t x2 ⟨j, by omega⟩))))
  have a6 : ∀ j, j < 64 → lane b t x3 (64 + j) = lane b t x3 j := fun j hj => by
    have e := eq_of_bit (Host.reduce_andi_all _ _ _ _ _ g6 (ix3 b t ⟨j, hj⟩))
    have e1 := at_slice b t x3 facts.slices_S4x8192x128_S4x8192x64_0_0_64 ⟨j, hj⟩ ⟨64 + j, by omega⟩ rfl
    have e2 := at_slice b t x3 facts.slices_S4x8192x128_S4x8192x64_0_0_0 ⟨j, hj⟩ ⟨j, by omega⟩ (by show j = 0 + j; omega)
    exact (lane_apply b t x3 ⟨64 + j, by omega⟩).symm.trans (e1.symm.trans (e.trans (e2.trans (lane_apply b t x3 ⟨j, by omega⟩))))
  -- Either half of the lanes is the first.
  have f2 : ∀ l, l < 128 → lane b t x2 l = lane b t x2 (l % 64) := fun l hl => by
    by_cases hh : l < 64
    · rw [Nat.mod_eq_of_lt hh]
    · have e := a5 (l % 64) (by omega)
      rwa [show 64 + l % 64 = l by omega] at e
  have f3 : ∀ l, l < 128 → lane b t x3 l = lane b t x3 (l % 64) := fun l hl => by
    by_cases hh : l < 64
    · rw [Nat.mod_eq_of_lt hh]
    · have e := a6 (l % 64) (by omega)
      rwa [show 64 + l % 64 = l by omega] at e
  refine ⟨fun l hl h8 => ⟨f2 l hl, (f3 l hl).trans (a3 _ h8)⟩, fun l hl h8 h16 => ⟨(f2 l hl).trans ?_, (f3 l hl).trans ?_⟩,
    fun l hl h16 => ⟨(f2 l hl).trans ?_, (f3 l hl).trans ?_⟩⟩
  · have e := a1 (l % 64 - 8) (by omega)
    rwa [show 8 + (l % 64 - 8) = l % 64 by omega] at e
  · show _ = lane b t x3 (8 + (l % 64 - 8))
    rw [show 8 + (l % 64 - 8) = l % 64 by omega]
  · have e := a2 (l % 64 - 16) (by omega)
    rwa [show 16 + (l % 64 - 16) = l % 64 by omega] at e
  · have e := a4 (l % 64 - 16) (by omega)
    rwa [show 16 + (l % 64 - 16) = l % 64 by omega] at e

end Cert.ProjPre

end
-- ==== Proof.ProjRef.lean ====
/-
  The projection's reference read at a token: the plain functions of ProjSpec.
-/
module

public import proofs.«01_k».proof.Proof.ProjSpec
public import proofs.«01_k».proof.Proof.ProjPre
public import proofs.«01_k».proof.Proof.Gen.ProjReferenceIdeal.Read
public import Idealize.ShloMosaic.Lib.ValueIdx
public import Idealize.ShloMosaic.PureOps.Ideal.Laws

@[expose] public section

set_option maxRecDepth 16384

noncomputable section

namespace Cert.ProjRef

open Idealize.ShloMosaic Idealize.ShloMosaic.ValueIdx Cert.ProjReferenceIdeal Cert.ProjReferenceIdeal.Read

/-- A concatenation's piece along the last of three axes. -/
theorem cat3 {n T : ℕ} (xs : List ((s : Shape) × (s.Idx → EReal)))
    (h : Shape.Concatenates (xs.map (·.1)) ⟨3, ![4, 8192, T]⟩ 2) (b : Fin 4) (t : Fin 8192) (j : Fin T) (k : ℕ) (hk : k < xs.length)
    (x : (⟨3, ![4, 8192, n]⟩ : Shape).Idx → EReal) (hx : xs[k] = ⟨⟨3, ![4, 8192, n]⟩, x⟩) (pre : ℕ)
    (hpre : (((xs.take k).map (·.1)).map fun s => if h : s.rank = 3 then s.size ((2 : Fin 3).cast h.symm) else 0).sum = pre)
    (l : Fin n) (hl : pre + l.val = j.val) :
    concatenate ⟨3, ![4, 8192, T]⟩ 2 xs h (ix3 b t j) = x (ix3 b t l) :=
  concatenate_apply_piece (t := ⟨3, ![4, 8192, T]⟩) 2 xs h (ix3 b t j) k hk ⟨3, ![4, 8192, n]⟩ x hx rfl pre hpre (ix3 b t l)
    (fun a ha => by
      match a with
      | ⟨0, _⟩ => rfl
      | ⟨1, _⟩ => rfl
      | ⟨2, _⟩ => exact absurd rfl ha) hl

/-- And of four. -/
theorem cat4 {n T : ℕ} (xs : List ((s : Shape) × (s.Idx → EReal)))
    (h : Shape.Concatenates (xs.map (·.1)) ⟨4, ![4, 8192, 4, T]⟩ 3) (b : Fin 4) (t : Fin 8192) (g : Fin 4) (j : Fin T) (k : ℕ) (hk : k < xs.length)
    (x : (⟨4, ![4, 8192, 4, n]⟩ : Shape).Idx → EReal) (hx : xs[k] = ⟨⟨4, ![4, 8192, 4, n]⟩, x⟩) (pre : ℕ)
    (hpre : (((xs.take k).map (·.1)).map fun s => if h : s.rank = 4 then s.size ((3 : Fin 4).cast h.symm) else 0).sum = pre)
    (l : Fin n) (hl : pre + l.val = j.val) :
    concatenate ⟨4, ![4, 8192, 4, T]⟩ 3 xs h (ix4 b t g j) = x (ix4 b t g l) :=
  concatenate_apply_piece (t := ⟨4, ![4, 8192, 4, T]⟩) 3 xs h (ix4 b t g j) k hk ⟨4, ![4, 8192, 4, n]⟩ x hx rfl pre hpre (ix4 b t g l)
    (fun a ha => by
      match a with
      | ⟨0, _⟩ => rfl
      | ⟨1, _⟩ => rfl
      | ⟨2, _⟩ => rfl
      | ⟨3, _⟩ => exact absurd rfl ha) hl

/-- A head's three pieces are its turn. -/
theorem rot_lo (f C S : ℕ → EReal) (j : ℕ) (h : j < 8) : f j * C j - f (8 + j) * S j = ProjSpec.rot f C S j := by
  unfold ProjSpec.rot
  rw [if_pos h, Nat.add_comm 8 j]
theorem rot_mid (f C S : ℕ → EReal) (j : ℕ) (h : j < 8) : f (8 + j) * C j + f j * S j = ProjSpec.rot f C S (8 + j) := by
  unfold ProjSpec.rot
  rw [if_neg (by omega), if_pos (by omega), show 8 + j - 8 = j by omega]
theorem rot_hi (f C S : ℕ → EReal) (j : ℕ) : f (16 + j) = ProjSpec.rot f C S (16 + j) := by
  unfold ProjSpec.rot
  rw [if_neg (by omega), if_neg (by omega)]

theorem turned3 (f C S : ℕ → EReal) (a c : (⟨3, ![4, 8192, 8]⟩ : Shape).Idx → EReal) (r : (⟨3, ![4, 8192, 48]⟩ : Shape).Idx → EReal)
    (h : Shape.Concatenates [⟨3, ![4, 8192, 8]⟩, ⟨3, ![4, 8192, 8]⟩, ⟨3, ![4, 8192, 48]⟩] ⟨3, ![4, 8192, 64]⟩ 2) (b : Fin 4) (t : Fin 8192)
    (ha : ∀ j : Fin 8, a (ix3 b t j) = f j.val * C j.val - f (8 + j.val) * S j.val)
    (hc : ∀ j : Fin 8, c (ix3 b t j) = f (8 + j.val) * C j.val + f j.val * S j.val)
    (hr : ∀ j : Fin 48, r (ix3 b t j) = f (16 + j.val)) (e : Fin 64) :
    concatenate ⟨3, ![4, 8192, 64]⟩ 2 [⟨⟨3, ![4, 8192, 8]⟩, a⟩, ⟨⟨3, ![4, 8192, 8]⟩, c⟩, ⟨⟨3, ![4, 8192, 48]⟩, r⟩] h (ix3 b t e)
      = ProjSpec.rot f C S e.val := by
  by_cases h8 : e.val < 8
  · exact (cat3 [⟨⟨3, ![4, 8192, 8]⟩, a⟩, ⟨⟨3, ![4, 8192, 8]⟩, c⟩, ⟨⟨3, ![4, 8192, 48]⟩, r⟩] h b t e 0 (by show 0 < 3; decide) a rfl 0 rfl ⟨e.val, h8⟩ (by show 0 + e.val = e.val; omega)).trans
      ((ha _).trans (rot_lo f C S e.val h8))
  · by_cases h16 : e.val < 16
    · refine (cat3 [⟨⟨3, ![4, 8192, 8]⟩, a⟩, ⟨⟨3, ![4, 8192, 8]⟩, c⟩, ⟨⟨3, ![4, 8192, 48]⟩, r⟩] h b t e 1 (by show 1 < 3; decide) c rfl 8 rfl ⟨e.val - 8, by omega⟩ (by show 8 + (e.val - 8) = e.val; omega)).trans
        ((hc _).trans ((rot_mid f C S (e.val - 8) (by omega)).trans ?_))
      rw [show 8 + (e.val - 8) = e.val by omega]
    · refine (cat3 [⟨⟨3, ![4, 8192, 8]⟩, a⟩, ⟨⟨3, ![4, 8192, 8]⟩, c⟩, ⟨⟨3, ![4, 8192, 48]⟩, r⟩] h b t e 2 (by show 2 < 3; decide) r rfl 16 rfl ⟨e.val - 16, by omega⟩ (by show 16 + (e.val - 16) = e.val; omega)).trans
        ((hr _).trans ((rot_hi f C S (e.val - 16)).trans ?_))
      rw [show 16 + (e.val - 16) = e.val by omega]

theorem turned4 (f C S : ℕ → EReal) (a c : (⟨4, ![4, 8192, 4, 8]⟩ : Shape).Idx → EReal) (r : (⟨4, ![4, 8192, 4, 48]⟩ : Shape).Idx → EReal)
    (h : Shape.Concatenates [⟨4, ![4, 8192, 4, 8]⟩, ⟨4, ![4, 8192, 4, 8]⟩, ⟨4, ![4, 8192, 4, 48]⟩] ⟨4, ![4, 8192, 4, 64]⟩ 3) (b : Fin 4) (t : Fin 8192) (g : Fin 4)
    (ha : ∀ j : Fin 8, a (ix4 b t g j) = f j.val * C j.val - f (8 + j.val) * S j.val)
    (hc : ∀ j : Fin 8, c (ix4 b t g j) = f (8 + j.val) * C j.val + f j.val * S j.val)
    (hr : ∀ j : Fin 48, r (ix4 b t g j) = f (16 + j.val)) (e : Fin 64) :
    concatenate ⟨4, ![4, 8192, 4, 64]⟩ 3 [⟨⟨4, ![4, 8192, 4, 8]⟩, a⟩, ⟨⟨4, ![4, 8192, 4, 8]⟩, c⟩, ⟨⟨4, ![4, 8192, 4, 48]⟩, r⟩] h (ix4 b t g e)
      = ProjSpec.rot f C S e.val := by
  by_cases h8 : e.val < 8
  · exact (cat4 [⟨⟨4, ![4, 8192, 4, 8]⟩, a⟩, ⟨⟨4, ![4, 8192, 4, 8]⟩, c⟩, ⟨⟨4, ![4, 8192, 4, 48]⟩, r⟩] h b t g e 0 (by show 0 < 3; decide) a rfl 0 rfl ⟨e.val, h8⟩ (by show 0 + e.val = e.val; omega)).trans
      ((ha _).trans (rot_lo f C S e.val h8))
  · by_cases h16 : e.val < 16
    · refine (cat4 [⟨⟨4, ![4, 8192, 4, 8]⟩, a⟩, ⟨⟨4, ![4, 8192, 4, 8]⟩, c⟩, ⟨⟨4, ![4, 8192, 4, 48]⟩, r⟩] h b t g e 1 (by show 1 < 3; decide) c rfl 8 rfl ⟨e.val - 8, by omega⟩ (by show 8 + (e.val - 8) = e.val; omega)).trans
        ((hc _).trans ((rot_mid f C S (e.val - 8) (by omega)).trans ?_))
      rw [show 8 + (e.val - 8) = e.val by omega]
    · refine (cat4 [⟨⟨4, ![4, 8192, 4, 8]⟩, a⟩, ⟨⟨4, ![4, 8192, 4, 8]⟩, c⟩, ⟨⟨4, ![4, 8192, 4, 48]⟩, r⟩] h b t g e 2 (by show 2 < 3; decide) r rfl 16 rfl ⟨e.val - 16, by omega⟩ (by show 16 + (e.val - 16) = e.val; omega)).trans
        ((hr _).trans ((rot_hi f C S (e.val - 16)).trans ?_))
      rw [show 16 + (e.val - 16) = e.val by omega]

variable (x0 : (⟨S4x8192x1024, .f32⟩ : BufTy).Contents (Elt Ideal)) (x1 : (⟨S4x3072, .f32⟩ : BufTy).Contents (Elt Ideal))
  (x2 x3 : (⟨S4x8192x128, .f32⟩ : BufTy).Contents (Elt Ideal)) (x4 : (⟨S1024x2248, .f32⟩ : BufTy).Contents (Elt Ideal))
  (b : Fin 4) (t : Fin 8192)

/-- The modulated row of a token. -/
def hrow : Fin 1024 → EReal :=
  Moe.Spec.hid (fun k => x0 (ix3 b t k)) (fun k => x1 (ix2 b ⟨k.val, by omega⟩)) (fun k => x1 (ix2 b ⟨1024 + k.val, by omega⟩))
/-- The weights' columns. -/
def cols : Fin 1024 → ℕ → EReal := ProjSpec.wcol fun k n => x4 (ix2 k n)
/-- The cosines and the sines of a head's pairs. -/
def cosOf (j : ℕ) : EReal := ProjPre.lane b t x2 j
def sinOf (j : ℕ) : EReal := ProjPre.lane b t x3 (8 + j)
/-- A column's product. -/
def prod (n : ℕ) : EReal := ProjSpec.col (hrow x0 x1 b t) (cols x4) n

theorem hrow_apply (k : Fin 1024) : val_main_v10 (F := Ideal) x0 x1 (ix3 b t k) = hrow x0 x1 b t k := by
  simp only [val_main_v10_apply, val_main_v8_apply, val_main_v9_apply, val_main_v7_apply, val_main_v6_apply, val_main_v5_apply,
    val_main_v4_apply, val_main_v3_apply, val_main_cst_apply, val_main_v1_apply, val_main_v0_apply,
    Ideal.scalar_addf_def, Ideal.scalar_mulf_def]
  show x0 _ * (Ideal.ofBits .f32 0x3F800000#32 + x1 _) + x1 _ = x0 _ * (1 + x1 _) + x1 _
  rw [Moe.Spec.bits_one]
  congr 2
  · congr 2; exact eq_ix2 _
  · exact eq_ix2 _

theorem prod_apply (n : Fin 2248) : val_main_v13 (F := Ideal) x0 x1 x4 (ix3 b t n) = prod x0 x1 x4 b t n.val := by
  rw [val_main_v13_apply]
  unfold prod ProjSpec.col
  refine Finset.sum_congr rfl fun k _ => ?_
  rw [show lidx_main_v13 (ix3 b t n) k = ix3 b t k from eq_ix3 _, hrow_apply,
    show ridx_main_v13 (ix3 b t n) k = ix2 k n from eq_ix2 _]
  refine congrArg (fun z : EReal => hrow x0 x1 b t k * z) ?_
  unfold cols ProjSpec.wcol
  rw [dif_pos n.isLt]

theorem cos_apply (j : Fin 8) : val_main_v11 (F := Ideal) x2 (ix3 b t j) = cosOf x2 b t j.val := by
  rw [val_main_v11_apply, show idx_main_v11 (ix3 b t j) = ix3 b t ⟨j.val, by omega⟩ from eq_ix3 _]
  exact ProjPre.lane_apply b t x2 ⟨j.val, by omega⟩

theorem sin_apply (j : Fin 8) : val_main_v12 (F := Ideal) x3 (ix3 b t j) = sinOf x3 b t j.val := by
  rw [val_main_v12_apply, show idx_main_v12 (ix3 b t j) = ix3 b t ⟨8 + j.val, by omega⟩ from eq_ix3 _]
  exact ProjPre.lane_apply b t x3 ⟨8 + j.val, by omega⟩

theorem s14_apply (j : Fin 256) : val_main_v14 (F := Ideal) x0 x1 x4 (ix3 b t j) = prod x0 x1 x4 b t (0 + j.val) := by
  rw [val_main_v14_apply, show idx_main_v14 (ix3 b t j) = ix3 b t ⟨j.val, by omega⟩ from eq_ix3 _, prod_apply]
  rw [Nat.zero_add]

theorem s15_apply (j : Fin 256) : val_main_v15 (F := Ideal) x0 x1 x4 (ix3 b t j) = prod x0 x1 x4 b t (256 + j.val) := by
  rw [val_main_v15_apply, show idx_main_v15 (ix3 b t j) = ix3 b t ⟨256 + j.val, by omega⟩ from eq_ix3 _, prod_apply]

theorem s16_apply (j : Fin 256) : val_main_v16 (F := Ideal) x0 x1 x4 (ix3 b t j) = prod x0 x1 x4 b t (512 + j.val) := by
  rw [val_main_v16_apply, show idx_main_v16 (ix3 b t j) = ix3 b t ⟨512 + j.val, by omega⟩ from eq_ix3 _, prod_apply]

theorem s17_apply (j : Fin 64) : val_main_v17 (F := Ideal) x0 x1 x4 (ix3 b t j) = prod x0 x1 x4 b t (768 + j.val) := by
  rw [val_main_v17_apply, show idx_main_v17 (ix3 b t j) = ix3 b t ⟨768 + j.val, by omega⟩ from eq_ix3 _, prod_apply]

theorem s18_apply (j : Fin 64) : val_main_v18 (F := Ideal) x0 x1 x4 (ix3 b t j) = prod x0 x1 x4 b t (832 + j.val) := by
  rw [val_main_v18_apply, show idx_main_v18 (ix3 b t j) = ix3 b t ⟨832 + j.val, by omega⟩ from eq_ix3 _, prod_apply]

theorem s19_apply (j : Fin 256) : val_main_v19 (F := Ideal) x0 x1 x4 (ix3 b t j) = prod x0 x1 x4 b t (896 + j.val) := by
  rw [val_main_v19_apply, show idx_main_v19 (ix3 b t j) = ix3 b t ⟨896 + j.val, by omega⟩ from eq_ix3 _, prod_apply]

theorem s20_apply (j : Fin 64) : val_main_v20 (F := Ideal) x0 x1 x4 (ix3 b t j) = prod x0 x1 x4 b t (1152 + j.val) := by
  rw [val_main_v20_apply, show idx_main_v20 (ix3 b t j) = ix3 b t ⟨1152 + j.val, by omega⟩ from eq_ix3 _, prod_apply]

theorem s21_apply (j : Fin 4) : val_main_v21 (F := Ideal) x0 x1 x4 (ix3 b t j) = prod x0 x1 x4 b t (1216 + j.val) := by
  rw [val_main_v21_apply, show idx_main_v21 (ix3 b t j) = ix3 b t ⟨1216 + j.val, by omega⟩ from eq_ix3 _, prod_apply]

theorem s22_apply (j : Fin 256) : val_main_v22 (F := Ideal) x0 x1 x4 (ix3 b t j) = prod x0 x1 x4 b t (1220 + j.val) := by
  rw [val_main_v22_apply, show idx_main_v22 (ix3 b t j) = ix3 b t ⟨1220 + j.val, by omega⟩ from eq_ix3 _, prod_apply]

theorem s23_apply (j : Fin 256) : val_main_v23 (F := Ideal) x0 x1 x4 (ix3 b t j) = prod x0 x1 x4 b t (1476 + j.val) := by
  rw [val_main_v23_apply, show idx_main_v23 (ix3 b t j) = ix3 b t ⟨1476 + j.val, by omega⟩ from eq_ix3 _, prod_apply]

theorem s24_apply (j : Fin 512) : val_main_v24 (F := Ideal) x0 x1 x4 (ix3 b t j) = prod x0 x1 x4 b t (1732 + j.val) := by
  rw [val_main_v24_apply, show idx_main_v24 (ix3 b t j) = ix3 b t ⟨1732 + j.val, by omega⟩ from eq_ix3 _, prod_apply]

theorem s25_apply (j : Fin 4) : val_main_v25 (F := Ideal) x0 x1 x4 (ix3 b t j) = prod x0 x1 x4 b t (2244 + j.val) := by
  rw [val_main_v25_apply, show idx_main_v25 (ix3 b t j) = ix3 b t ⟨2244 + j.val, by omega⟩ from eq_ix3 _, prod_apply]

theorem q_split (g : Fin 4) (e : Fin 64) :
    val_main_v26 (F := Ideal) x0 x1 x4 (ix4 b t g e) = prod x0 x1 x4 b t (512 + (64 * g.val + e.val)) := by
  rw [val_main_v26_apply]
  have e1 : idx_main_v26 (ix4 b t g e) = ix3 b t ⟨64 * g.val + e.val, by omega⟩ := by
    funext a
    refine Fin.ext ?_
    match a with
    | ⟨0, _⟩ => show (((b.val * 8192 + t.val) * 4 + g.val) * 64 + e.val) / 2097152 = b.val; omega
    | ⟨1, _⟩ => show (((b.val * 8192 + t.val) * 4 + g.val) * 64 + e.val) / 256 % 8192 = t.val; omega
    | ⟨2, _⟩ => show (((b.val * 8192 + t.val) * 4 + g.val) * 64 + e.val) % 256 = 64 * g.val + e.val; omega
  rw [e1, s16_apply]

theorem q_cos (u : Fin 1) (j : Fin 8) : val_main_v27 (F := Ideal) x2 (ix4 b t u j) = cosOf x2 b t j.val := by
  rw [val_main_v27_apply]
  have e1 : idx_main_v27 (ix4 b t u j) = ix3 b t j := by
    funext a
    refine Fin.ext ?_
    match a with
    | ⟨0, _⟩ => show (((b.val * 8192 + t.val) * 1 + u.val) * 8 + j.val) / 65536 = b.val; omega
    | ⟨1, _⟩ => show (((b.val * 8192 + t.val) * 1 + u.val) * 8 + j.val) / 8 % 8192 = t.val; omega
    | ⟨2, _⟩ => show (((b.val * 8192 + t.val) * 1 + u.val) * 8 + j.val) % 8 = j.val; omega
  rw [e1, cos_apply]

theorem q_sin (u : Fin 1) (j : Fin 8) : val_main_v28 (F := Ideal) x3 (ix4 b t u j) = sinOf x3 b t j.val := by
  rw [val_main_v28_apply]
  have e1 : idx_main_v28 (ix4 b t u j) = ix3 b t j := by
    funext a
    refine Fin.ext ?_
    match a with
    | ⟨0, _⟩ => show (((b.val * 8192 + t.val) * 1 + u.val) * 8 + j.val) / 65536 = b.val; omega
    | ⟨1, _⟩ => show (((b.val * 8192 + t.val) * 1 + u.val) * 8 + j.val) / 8 % 8192 = t.val; omega
    | ⟨2, _⟩ => show (((b.val * 8192 + t.val) * 1 + u.val) * 8 + j.val) % 8 = j.val; omega
  rw [e1, sin_apply]

theorem q_head (g : Fin 4) (e : Fin 64) :
    val_main_v42 (F := Ideal) x0 x1 x2 x3 x4 (ix4 b t g e)
      = ProjSpec.rot (fun i => prod x0 x1 x4 b t (512 + (64 * g.val + i))) (cosOf x2 b t) (sinOf x3 b t) e.val := by
  have hl : ∀ j : Fin 8, val_main_v29 (F := Ideal) x0 x1 x4 (ix4 b t g j) = prod x0 x1 x4 b t (512 + (64 * g.val + j.val)) := fun j => by
    rw [val_main_v29_apply, show idx_main_v29 (ix4 b t g j) = ix4 b t g ⟨j.val, by omega⟩ from eq_ix4 _, q_split]
  have hm : ∀ j : Fin 8, val_main_v30 (F := Ideal) x0 x1 x4 (ix4 b t g j) = prod x0 x1 x4 b t (512 + (64 * g.val + (8 + j.val))) := fun j => by
    rw [val_main_v30_apply, show idx_main_v30 (ix4 b t g j) = ix4 b t g ⟨8 + j.val, by omega⟩ from eq_ix4 _, q_split]
  have c1 : ∀ j : Fin 8, val_main_v31 (F := Ideal) x2 (ix4 b t g j) = cosOf x2 b t j.val := fun j => by
    rw [val_main_v31_apply, show idx_main_v31 (ix4 b t g j) = ix4 b t 0 j from eq_ix4 _, q_cos]
  have c2 : ∀ j : Fin 8, val_main_v33 (F := Ideal) x3 (ix4 b t g j) = sinOf x3 b t j.val := fun j => by
    rw [val_main_v33_apply, show idx_main_v33 (ix4 b t g j) = ix4 b t 0 j from eq_ix4 _, q_sin]
  have c3 : ∀ j : Fin 8, val_main_v36 (F := Ideal) x2 (ix4 b t g j) = cosOf x2 b t j.val := fun j => by
    rw [val_main_v36_apply, show idx_main_v36 (ix4 b t g j) = ix4 b t 0 j from eq_ix4 _, q_cos]
  have c4 : ∀ j : Fin 8, val_main_v38 (F := Ideal) x3 (ix4 b t g j) = sinOf x3 b t j.val := fun j => by
    rw [val_main_v38_apply, show idx_main_v38 (ix4 b t g j) = ix4 b t 0 j from eq_ix4 _, q_sin]
  unfold val_main_v42
  refine turned4 (fun i => prod x0 x1 x4 b t (512 + (64 * g.val + i))) _ _ _ _ _ _ b t g (fun j => ?_) (fun j => ?_) (fun j => ?_) e
  · rw [val_main_v35_apply, val_main_v32_apply, val_main_v34_apply, hl, hm, c1, c2]
    rfl
  · rw [val_main_v40_apply, val_main_v37_apply, val_main_v39_apply, hl, hm, c3, c4]
    rfl
  · rw [val_main_v41_apply, show idx_main_v41 (ix4 b t g j) = ix4 b t g ⟨16 + j.val, by omega⟩ from eq_ix4 _, q_split]

theorem k_head (e : Fin 64) :
    val_main_v52 (F := Ideal) x0 x1 x2 x3 x4 (ix3 b t e)
      = ProjSpec.rot (fun i => prod x0 x1 x4 b t (768 + i)) (cosOf x2 b t) (sinOf x3 b t) e.val := by
  have hl : ∀ j : Fin 8, val_main_v43 (F := Ideal) x0 x1 x4 (ix3 b t j) = prod x0 x1 x4 b t (768 + j.val) := fun j => by
    rw [val_main_v43_apply, show idx_main_v43 (ix3 b t j) = ix3 b t ⟨j.val, by omega⟩ from eq_ix3 _, s17_apply]
  have hm : ∀ j : Fin 8, val_main_v44 (F := Ideal) x0 x1 x4 (ix3 b t j) = prod x0 x1 x4 b t (768 + (8 + j.val)) := fun j => by
    rw [val_main_v44_apply, show idx_main_v44 (ix3 b t j) = ix3 b t ⟨8 + j.val, by omega⟩ from eq_ix3 _, s17_apply]
  unfold val_main_v52
  refine turned3 (fun i => prod x0 x1 x4 b t (768 + i)) _ _ _ _ _ _ b t (fun j => ?_) (fun j => ?_) (fun j => ?_) e
  · rw [val_main_v47_apply, val_main_v45_apply, val_main_v46_apply, hl, hm, cos_apply, sin_apply]
    rfl
  · rw [val_main_v50_apply, val_main_v48_apply, val_main_v49_apply, hl, hm, cos_apply, sin_apply]
    rfl
  · rw [val_main_v51_apply, show idx_main_v51 (ix3 b t j) = ix3 b t ⟨16 + j.val, by omega⟩ from eq_ix3 _, s17_apply]

theorem qi_split (g : Fin 4) (e : Fin 64) :
    val_main_v53 (F := Ideal) x0 x1 x4 (ix4 b t g e) = prod x0 x1 x4 b t (896 + (64 * g.val + e.val)) := by
  rw [val_main_v53_apply]
  have e1 : idx_main_v53 (ix4 b t g e) = ix3 b t ⟨64 * g.val + e.val, by omega⟩ := by
    funext a
    refine Fin.ext ?_
    match a with
    | ⟨0, _⟩ => show (((b.val * 8192 + t.val) * 4 + g.val) * 64 + e.val) / 2097152 = b.val; omega
    | ⟨1, _⟩ => show (((b.val * 8192 + t.val) * 4 + g.val) * 64 + e.val) / 256 % 8192 = t.val; omega
    | ⟨2, _⟩ => show (((b.val * 8192 + t.val) * 4 + g.val) * 64 + e.val) % 256 = 64 * g.val + e.val; omega
  rw [e1, s19_apply]

theorem qi_cos (u : Fin 1) (j : Fin 8) : val_main_v54 (F := Ideal) x2 (ix4 b t u j) = cosOf x2 b t j.val := by
  rw [val_main_v54_apply]
  have e1 : idx_main_v54 (ix4 b t u j) = ix3 b t j := by
    funext a
    refine Fin.ext ?_
    match a with
    | ⟨0, _⟩ => show (((b.val * 8192 + t.val) * 1 + u.val) * 8 + j.val) / 65536 = b.val; omega
    | ⟨1, _⟩ => show (((b.val * 8192 + t.val) * 1 + u.val) * 8 + j.val) / 8 % 8192 = t.val; omega
    | ⟨2, _⟩ => show (((b.val * 8192 + t.val) * 1 + u.val) * 8 + j.val) % 8 = j.val; omega
  rw [e1, cos_apply]

theorem qi_sin (u : Fin 1) (j : Fin 8) : val_main_v55 (F := Ideal) x3 (ix4 b t u j) = sinOf x3 b t j.val := by
  rw [val_main_v55_apply]
  have e1 : idx_main_v55 (ix4 b t u j) = ix3 b t j := by
    funext a
    refine Fin.ext ?_
    match a with
    | ⟨0, _⟩ => show (((b.val * 8192 + t.val) * 1 + u.val) * 8 + j.val) / 65536 = b.val; omega
    | ⟨1, _⟩ => show (((b.val * 8192 + t.val) * 1 + u.val) * 8 + j.val) / 8 % 8192 = t.val; omega
    | ⟨2, _⟩ => show (((b.val * 8192 + t.val) * 1 + u.val) * 8 + j.val) % 8 = j.val; omega
  rw [e1, sin_apply]

theorem qi_head (g : Fin 4) (e : Fin 64) :
    val_main_v69 (F := Ideal) x0 x1 x2 x3 x4 (ix4 b t g e)
      = ProjSpec.rot (fun i => prod x0 x1 x4 b t (896 + (64 * g.val + i))) (cosOf x2 b t) (sinOf x3 b t) e.val := by
  have hl : ∀ j : Fin 8, val_main_v56 (F := Ideal) x0 x1 x4 (ix4 b t g j) = prod x0 x1 x4 b t (896 + (64 * g.val + j.val)) := fun j => by
    rw [val_main_v56_apply, show idx_main_v56 (ix4 b t g j) = ix4 b t g ⟨j.val, by omega⟩ from eq_ix4 _, qi_split]
  have hm : ∀ j : Fin 8, val_main_v57 (F := Ideal) x0 x1 x4 (ix4 b t g j) = prod x0 x1 x4 b t (896 + (64 * g.val + (8 + j.val))) := fun j => by
    rw [val_main_v57_apply, show idx_main_v57 (ix4 b t g j) = ix4 b t g ⟨8 + j.val, by omega⟩ from eq_ix4 _, qi_split]
  have c1 : ∀ j : Fin 8, val_main_v58 (F := Ideal) x2 (ix4 b t g j) = cosOf x2 b t j.val := fun j => by
    rw [val_main_v58_apply, show idx_main_v58 (ix4 b t g j) = ix4 b t 0 j from eq_ix4 _, qi_cos]
  have c2 : ∀ j : Fin 8, val_main_v60 (F := Ideal) x3 (ix4 b t g j) = sinOf x3 b t j.val := fun j => by
    rw [val_main_v60_apply, show idx_main_v60 (ix4 b t g j) = ix4 b t 0 j from eq_ix4 _, qi_sin]
  have c3 : ∀ j : Fin 8, val_main_v63 (F := Ideal) x2 (ix4 b t g j) = cosOf x2 b t j.val := fun j => by
    rw [val_main_v63_apply, show idx_main_v63 (ix4 b t g j) = ix4 b t 0 j from eq_ix4 _, qi_cos]
  have c4 : ∀ j : Fin 8, val_main_v65 (F := Ideal) x3 (ix4 b t g j) = sinOf x3 b t j.val := fun j => by
    rw [val_main_v65_apply, show idx_main_v65 (ix4 b t g j) = ix4 b t 0 j from eq_ix4 _, qi_sin]
  unfold val_main_v69
  refine turned4 (fun i => prod x0 x1 x4 b t (896 + (64 * g.val + i))) _ _ _ _ _ _ b t g (fun j => ?_) (fun j => ?_) (fun j => ?_) e
  · rw [val_main_v62_apply, val_main_v59_apply, val_main_v61_apply, hl, hm, c1, c2]
    rfl
  · rw [val_main_v67_apply, val_main_v64_apply, val_main_v66_apply, hl, hm, c3, c4]
    rfl
  · rw [val_main_v68_apply, show idx_main_v68 (ix4 b t g j) = ix4 b t g ⟨16 + j.val, by omega⟩ from eq_ix4 _, qi_split]

theorem ki_head (e : Fin 64) :
    val_main_v79 (F := Ideal) x0 x1 x2 x3 x4 (ix3 b t e)
      = ProjSpec.rot (fun i => prod x0 x1 x4 b t (1152 + i)) (cosOf x2 b t) (sinOf x3 b t) e.val := by
  have hl : ∀ j : Fin 8, val_main_v70 (F := Ideal) x0 x1 x4 (ix3 b t j) = prod x0 x1 x4 b t (1152 + j.val) := fun j => by
    rw [val_main_v70_apply, show idx_main_v70 (ix3 b t j) = ix3 b t ⟨j.val, by omega⟩ from eq_ix3 _, s20_apply]
  have hm : ∀ j : Fin 8, val_main_v71 (F := Ideal) x0 x1 x4 (ix3 b t j) = prod x0 x1 x4 b t (1152 + (8 + j.val)) := fun j => by
    rw [val_main_v71_apply, show idx_main_v71 (ix3 b t j) = ix3 b t ⟨8 + j.val, by omega⟩ from eq_ix3 _, s20_apply]
  unfold val_main_v79
  refine turned3 (fun i => prod x0 x1 x4 b t (1152 + i)) _ _ _ _ _ _ b t (fun j => ?_) (fun j => ?_) (fun j => ?_) e
  · rw [val_main_v74_apply, val_main_v72_apply, val_main_v73_apply, hl, hm, cos_apply, sin_apply]
    rfl
  · rw [val_main_v77_apply, val_main_v75_apply, val_main_v76_apply, hl, hm, cos_apply, sin_apply]
    rfl
  · rw [val_main_v78_apply, show idx_main_v78 (ix3 b t j) = ix3 b t ⟨16 + j.val, by omega⟩ from eq_ix3 _, s20_apply]

/-- The results, each at a token. -/
theorem r0_apply (j : Fin 512) : val_main_v82 (F := Ideal) x0 x1 x4 (ix3 b t j) = prod x0 x1 x4 b t j.val := by
  unfold val_main_v82
  by_cases h : j.val < 256
  · refine (cat3 _ _ b t j 0 (by show 0 < 2; decide) (val_main_v14 (F := Ideal) x0 x1 x4) rfl 0 rfl ⟨j.val, h⟩ (by show 0 + j.val = j.val; omega)).trans
      ((s14_apply x0 x1 x4 b t _).trans ?_)
    exact congrArg (prod x0 x1 x4 b t) (Nat.zero_add _)
  · refine (cat3 _ _ b t j 1 (by show 1 < 2; decide) (val_main_v15 (F := Ideal) x0 x1 x4) rfl 256 rfl ⟨j.val - 256, by omega⟩ (by show 256 + (j.val - 256) = j.val; omega)).trans
      ((s15_apply x0 x1 x4 b t _).trans ?_)
    exact congrArg (prod x0 x1 x4 b t) (by show 256 + (j.val - 256) = j.val; omega)

theorem r1_apply (j : Fin 256) : val_main_v87 (F := Ideal) x0 x1 x2 x3 x4 (ix3 b j t)
    = ProjSpec.rot (fun i => prod x0 x1 x4 b t (512 + (64 * (j.val / 64) + i))) (cosOf x2 b t) (sinOf x3 b t) (j.val % 64) * ProjSpec.qscale := by
  rw [val_main_v87_apply, val_main_v86_apply, show idx_main_v86 (ix3 b j t) = ix3 b t j from eq_ix3 _, val_main_v85_apply]
  have e1 : idx_main_v85 (ix3 b t j) = ix4 b t ⟨j.val / 64, by omega⟩ ⟨j.val % 64, by omega⟩ := by
    funext a
    refine Fin.ext ?_
    match a with
    | ⟨0, _⟩ => show ((b.val * 8192 + t.val) * 256 + j.val) / 2097152 = b.val; omega
    | ⟨1, _⟩ => show ((b.val * 8192 + t.val) * 256 + j.val) / 256 % 8192 = t.val; omega
    | ⟨2, _⟩ => show ((b.val * 8192 + t.val) * 256 + j.val) / 64 % 4 = j.val / 64; omega
    | ⟨3, _⟩ => show ((b.val * 8192 + t.val) * 256 + j.val) % 64 = j.val % 64; omega
  rw [e1, val_main_v81_apply, q_head, val_main_v80_apply, val_main_cst_0_apply]
  rfl

theorem r2_apply (j : Fin 256) : val_main_v90 (F := Ideal) x0 x1 x2 x3 x4 (ix3 b j t)
    = ProjSpec.rot (fun i => prod x0 x1 x4 b t (896 + (64 * (j.val / 64) + i))) (cosOf x2 b t) (sinOf x3 b t) (j.val % 64) := by
  rw [val_main_v90_apply, val_main_v89_apply, show idx_main_v89 (ix3 b j t) = ix3 b t j from eq_ix3 _, val_main_v88_apply]
  have e1 : idx_main_v88 (ix3 b t j) = ix4 b t ⟨j.val / 64, by omega⟩ ⟨j.val % 64, by omega⟩ := by
    funext a
    refine Fin.ext ?_
    match a with
    | ⟨0, _⟩ => show ((b.val * 8192 + t.val) * 256 + j.val) / 2097152 = b.val; omega
    | ⟨1, _⟩ => show ((b.val * 8192 + t.val) * 256 + j.val) / 256 % 8192 = t.val; omega
    | ⟨2, _⟩ => show ((b.val * 8192 + t.val) * 256 + j.val) / 64 % 4 = j.val / 64; omega
    | ⟨3, _⟩ => show ((b.val * 8192 + t.val) * 256 + j.val) % 64 = j.val % 64; omega
  rw [e1, qi_head]
  rfl

theorem r3_apply (j : Fin 64) : val_main_v91 (F := Ideal) x0 x1 x2 x3 x4 (ix3 b t j)
    = ProjSpec.rot (fun i => prod x0 x1 x4 b t (768 + i)) (cosOf x2 b t) (sinOf x3 b t) j.val := by
  rw [val_main_v91_apply, k_head]
  rfl

theorem r4_apply (j : Fin 64) : val_main_v92 (F := Ideal) x0 x1 x2 x3 x4 (ix3 b t j)
    = ProjSpec.rot (fun i => prod x0 x1 x4 b t (1152 + i)) (cosOf x2 b t) (sinOf x3 b t) j.val := by
  rw [val_main_v92_apply, ki_head]
  rfl

theorem r5_apply (j : Fin 64) : val_main_v94 (F := Ideal) x0 x1 x4 (ix3 b j t) = prod x0 x1 x4 b t (832 + j.val) := by
  rw [val_main_v94_apply, val_main_v93_apply, show idx_main_v93 (ix3 b j t) = ix3 b t j from eq_ix3 _, s18_apply]
  rfl

theorem r6_apply (j : Fin 8) : val_main_v96 (F := Ideal) x0 x1 x4 (ix3 b j t)
    = prod x0 x1 x4 b t (if j.val < 4 then 1216 + j.val else 2244 + (j.val - 4)) := by
  rw [val_main_v96_apply, show idx_main_v96 (ix3 b j t) = ix3 b t j from eq_ix3 _]
  unfold val_main_v95
  by_cases h : j.val < 4
  · rw [if_pos h]
    exact (cat3 _ _ b t j 0 (by show 0 < 2; decide) (val_main_v21 (F := Ideal) x0 x1 x4) rfl 0 rfl ⟨j.val, h⟩ (by show 0 + j.val = j.val; omega)).trans
      (s21_apply x0 x1 x4 b t _)
  · rw [if_neg h]
    exact (cat3 _ _ b t j 1 (by show 1 < 2; decide) (val_main_v25 (F := Ideal) x0 x1 x4) rfl 4 rfl ⟨j.val - 4, by omega⟩ (by show 4 + (j.val - 4) = j.val; omega)).trans
      (s25_apply x0 x1 x4 b t _)

theorem r7_apply (j : Fin 128) : val_main_v84 (F := Ideal) x0 x1 x4 (ix3 b t j) = ProjSpec.misc (hrow x0 x1 b t) (cols x4) j.val := by
  unfold val_main_v84 ProjSpec.misc
  by_cases h : j.val < 64
  · rw [if_pos h]
    exact (cat3 _ _ b t j 0 (by show 0 < 4; decide) (val_main_v18 (F := Ideal) x0 x1 x4) rfl 0 rfl ⟨j.val, h⟩ (by show 0 + j.val = j.val; omega)).trans
      (s18_apply x0 x1 x4 b t _)
  · rw [if_neg h]
    by_cases h' : j.val < 68
    · rw [if_pos h']
      exact (cat3 _ _ b t j 1 (by show 1 < 4; decide) (val_main_v21 (F := Ideal) x0 x1 x4) rfl 64 rfl ⟨j.val - 64, by omega⟩ (by show 64 + (j.val - 64) = j.val; omega)).trans
        (s21_apply x0 x1 x4 b t _)
    · rw [if_neg h']
      by_cases h'' : j.val < 72
      · rw [if_pos h'']
        exact (cat3 _ _ b t j 2 (by show 2 < 4; decide) (val_main_v25 (F := Ideal) x0 x1 x4) rfl 68 rfl ⟨j.val - 68, by omega⟩ (by show 68 + (j.val - 68) = j.val; omega)).trans
          (s25_apply x0 x1 x4 b t _)
      · rw [if_neg h'']
        refine (cat3 _ _ b t j 3 (by show 3 < 4; decide) (val_main_v83 (F := Ideal)) rfl 72 rfl ⟨j.val - 72, by omega⟩ (by show 72 + (j.val - 72) = j.val; omega)).trans ?_
        rw [val_main_v83_apply, val_main_cst_1_apply]
        exact Moe.Spec.bits_zero

end Cert.ProjRef

end
-- ==== Proof.ProjEqual.lean ====
/-
  The two projection programs leave the same arrays: element by element both are a column's product with the token's
  modulated row, or a head of such products turned.
-/
module

public import proofs.«01_k».proof.Defs
public import proofs.«01_k».proof.Proof.ProjHost
public import proofs.«01_k».proof.Proof.ProjOut
public import proofs.«01_k».proof.Proof.ProjRef
public import proofs.«01_k».proof.Proof.Gen.ProjIdeal.Value
public import proofs.«01_k».proof.Proof.Gen.ProjReferenceIdeal.Run

@[expose] public section

set_option maxRecDepth 65536
set_option maxHeartbeats 1000000

noncomputable section

namespace Cert.ProjIdeal.Equal

open Idealize.ShloMosaic hiding ix1 ix2 ix3 ix4 eq_ix3
open Idealize.ShloMosaic.ValueIdx Idealize.SL.Sem Cert.ProjIdeal Cert.ProjIdeal.Gen Cert.ProjIdeal.Host

/-- A head's turn reads the head alone. -/
theorem rot_congr {f g : ℕ → EReal} (C S : ℕ → EReal) (h : ∀ i, i < 64 → f i = g i) (j : ℕ) (hj : j < 64) :
    ProjSpec.rot f C S j = ProjSpec.rot g C S j := by
  unfold ProjSpec.rot
  by_cases h8 : j < 8
  · rw [if_pos h8, if_pos h8, h j hj, h (j + 8) (by omega)]
  · rw [if_neg h8, if_neg h8]
    by_cases h16 : j < 16
    · rw [if_pos h16, if_pos h16, h j hj, h (j - 8) (by omega)]
    · rw [if_neg h16, if_neg h16, h j hj]

variable (m : (ℓ : Loc nD τ sig) → Buf (Elt Ideal) ℓ) (c : Dev nD)

/-- The token a row of a point is. -/
def tok (t : Fin cfg0.N) (r : Fin 512) : Fin 8192 := ⟨t.val % 16 * 512 + r.val, by omega⟩

/-- The permuted columns. -/
def perm (k : Fin 1024) (n : ℕ) : EReal := ProjRef.cols (arg4 m c) k (ProjSpec.src n)

/-- What the windows hold at a point. -/
theorem holds (t : Fin cfg0.N) (b : Fin 4) (hb : b.val = t.val / 16) :
    Out.Holds (iblk m c 0 t) (iblk m c 1 t) (iblk m c 2 t) (iblk m c 3 t) (iblk m c 4 t)
      (fun r => ProjRef.hrow (arg0 m c) (arg1 m c) b (tok t r)) (perm m c) (fun r => ProjPre.lane b (tok t r) (arg2 m c))
      (fun r => ProjPre.lane b (tok t r) (arg3 m c)) where
  hid r k := by
    have h0 : (fun k => (iblk m c 0 t : S1x512x1024.Idx → EReal) (ix3 0 r k)) = fun k => arg0 m c (ix3 b (tok t r) k) :=
      funext fun k => w0_apply m c t 0 r k b (tok t r) hb rfl
    have h1 : (fun k : Fin 1024 => (iblk m c 1 t : S1x1x3072.Idx → EReal) (ix3 0 0 ⟨k.val, by omega⟩)) = fun k : Fin 1024 => arg1 m c (ix2 b ⟨k.val, by omega⟩) :=
      funext fun k => w1_apply m c t 0 0 _ b hb
    have h2 : (fun k : Fin 1024 => (iblk m c 1 t : S1x1x3072.Idx → EReal) (ix3 0 0 ⟨1024 + k.val, by omega⟩)) = fun k : Fin 1024 => arg1 m c (ix2 b ⟨1024 + k.val, by omega⟩) :=
      funext fun k => w1_apply m c t 0 0 _ b hb
    show Moe.Spec.hid (fun k => (iblk m c 0 t : S1x512x1024.Idx → EReal) (ix3 0 r k)) (fun k : Fin 1024 => (iblk m c 1 t : S1x1x3072.Idx → EReal) (ix3 0 0 ⟨k.val, by omega⟩))
      (fun k : Fin 1024 => (iblk m c 1 t : S1x1x3072.Idx → EReal) (ix3 0 0 ⟨1024 + k.val, by omega⟩)) k = _
    rw [h0, h1, h2]
    rfl
  wts k j := w4_apply m c t k j
  cos r l := (w2_apply m c t 0 r l b (tok t r) hb rfl).trans (ProjPre.lane_apply b (tok t r) (arg2 m c) l)
  sin r l := (w3_apply m c t 0 r l b (tok t r) hb rfl).trans (ProjPre.lane_apply b (tok t r) (arg3 m c) l)

/-- Every token is a row of a point. -/
theorem point (b : Fin 4) (q : Fin 8192) : ∃ (t : Fin cfg0.N) (r : Fin 512), b.val = t.val / 16 ∧ tok t r = q := by
  have hN : cfg0.N = 64 := by decide
  refine ⟨⟨b.val * 16 + q.val / 512, by omega⟩, ⟨q.val % 512, by omega⟩, ?_, Fin.ext ?_⟩
  · show b.val = (b.val * 16 + q.val / 512) / 16
    omega
  · show (b.val * 16 + q.val / 512) % 16 * 512 + q.val % 512 = q.val
    omega

/-- A product by its permuted column. -/
abbrev prod (b : Fin 4) (q : Fin 8192) (n : ℕ) : EReal := ProjRef.prod (arg0 m c) (arg1 m c) (arg4 m c) b q n

theorem prod_src (b : Fin 4) (q : Fin 8192) (n k : ℕ) (h : ProjSpec.src n = k) :
    ProjSpec.col (ProjRef.hrow (arg0 m c) (arg1 m c) b q) (perm m c) n = prod m c b q k := by
  subst h; rfl

/-- The turn over the lanes from a column, at a lane of a head. -/
theorem turned (b : Fin 4) (q : Fin 8192) (T : ProjSpec.Tab (ProjPre.lane b q (arg2 m c)) (ProjPre.lane b q (arg3 m c))
      (ProjPre.lane b q (arg2 m c)) fun j => ProjPre.lane b q (arg3 m c) (8 + j)) (p o l : ℕ) (hl : l < 128)
    (h : ∀ i, i < 64 → ProjSpec.src (p + (64 * (l / 64) + i)) = o + i) :
    ProjSpec.turn (fun i => ProjSpec.col (ProjRef.hrow (arg0 m c) (arg1 m c) b q) (perm m c) (p + i)) (ProjPre.lane b q (arg2 m c)) (ProjPre.lane b q (arg3 m c)) l
      = ProjSpec.rot (fun i => prod m c b q (o + i)) (ProjRef.cosOf (arg2 m c) b q) (ProjRef.sinOf (arg3 m c) b q) (l % 64) := by
  refine (ProjSpec.turn_eq T _ l hl).trans ?_
  exact rot_congr _ _ (fun i hi => prod_src m c b q _ _ (h i hi)) _ (by omega)

/-- Window 5's array. -/
abbrev left5 : S4x8192x512.Idx → EReal := (dats m 0 c).arrAt 5 cfg0.N

theorem flushes5 : ∀ t : Fin cfg0.N, (cfg0.win 5).flush t = true := by decide +kernel

theorem at5 (t : Fin cfg0.N) (b : Fin 4) (r : Fin 512) (j : Fin 512) (hb : b.val = t.val / 16) :
    left5 m c (ix3 b (tok t r) j) = (out0_5 (F := Ideal) (iblk m c 0 t) (iblk m c 1 t) (iblk m c 2 t) (iblk m c 3 t) (iblk m c 4 t) (ix3 0 r j) : EReal) := by
  have h := (ProjIdeal.Value.blocks5 m c t (flushes5 t)).trans (ProjIdeal.Value.flushed5 m c t)
  have h' := congrFun h (ix3 (0 : Fin 1) r j : S1x512x512.Idx)
  refine Eq.trans ?_ h'
  have e : ∀ A : S4x8192x512.Idx → EReal, (((cfg0.win 5).blk t).view.read (Elt Ideal) A : S1x512x512.Idx → EReal) (ix3 0 r j) = A (ix3 b (tok t r) j) := by
    intro A
    blk_ext [(idxR t).1]
    all_goals first | exact hb.symm | rfl
  exact (e _).symm

/-- Window 6's array. -/
abbrev left6 : S4x256x8192.Idx → EReal := (dats m 0 c).arrAt 6 cfg0.N

theorem flushes6 : ∀ t : Fin cfg0.N, (cfg0.win 6).flush t = true := by decide +kernel

theorem at6 (t : Fin cfg0.N) (b : Fin 4) (r : Fin 512) (j : Fin 256) (hb : b.val = t.val / 16) :
    left6 m c (ix3 b j (tok t r)) = (out0_6 (F := Ideal) (iblk m c 0 t) (iblk m c 1 t) (iblk m c 2 t) (iblk m c 3 t) (iblk m c 4 t) (ix3 0 j r) : EReal) := by
  have h := (ProjIdeal.Value.blocks6 m c t (flushes6 t)).trans (ProjIdeal.Value.flushed6 m c t)
  have h' := congrFun h (ix3 (0 : Fin 1) j r : S1x256x512.Idx)
  refine Eq.trans ?_ h'
  have e : ∀ A : S4x256x8192.Idx → EReal, (((cfg0.win 6).blk t).view.read (Elt Ideal) A : S1x256x512.Idx → EReal) (ix3 0 j r) = A (ix3 b j (tok t r)) := by
    intro A
    blk_ext [(idxC t).1]
    all_goals first | exact hb.symm | rfl
  exact (e _).symm

/-- Window 7's array. -/
abbrev left7 : S4x256x8192.Idx → EReal := (dats m 0 c).arrAt 7 cfg0.N

theorem flushes7 : ∀ t : Fin cfg0.N, (cfg0.win 7).flush t = true := by decide +kernel

theorem at7 (t : Fin cfg0.N) (b : Fin 4) (r : Fin 512) (j : Fin 256) (hb : b.val = t.val / 16) :
    left7 m c (ix3 b j (tok t r)) = (out0_7 (F := Ideal) (iblk m c 0 t) (iblk m c 1 t) (iblk m c 2 t) (iblk m c 3 t) (iblk m c 4 t) (ix3 0 j r) : EReal) := by
  have h := (ProjIdeal.Value.blocks7 m c t (flushes7 t)).trans (ProjIdeal.Value.flushed7 m c t)
  have h' := congrFun h (ix3 (0 : Fin 1) j r : S1x256x512.Idx)
  refine Eq.trans ?_ h'
  have e : ∀ A : S4x256x8192.Idx → EReal, (((cfg0.win 7).blk t).view.read (Elt Ideal) A : S1x256x512.Idx → EReal) (ix3 0 j r) = A (ix3 b j (tok t r)) := by
    intro A
    blk_ext [(idxC t).2.1]
    all_goals first | exact hb.symm | rfl
  exact (e _).symm

/-- Window 8's array. -/
abbrev left8 : S4x8192x64.Idx → EReal := (dats m 0 c).arrAt 8 cfg0.N

theorem flushes8 : ∀ t : Fin cfg0.N, (cfg0.win 8).flush t = true := by decide +kernel

theorem at8 (t : Fin cfg0.N) (b : Fin 4) (r : Fin 512) (j : Fin 64) (hb : b.val = t.val / 16) :
    left8 m c (ix3 b (tok t r) j) = (out0_8 (F := Ideal) (iblk m c 0 t) (iblk m c 1 t) (iblk m c 2 t) (iblk m c 3 t) (iblk m c 4 t) (ix3 0 r j) : EReal) := by
  have h := (ProjIdeal.Value.blocks8 m c t (flushes8 t)).trans (ProjIdeal.Value.flushed8 m c t)
  have h' := congrFun h (ix3 (0 : Fin 1) r j : S1x512x64.Idx)
  refine Eq.trans ?_ h'
  have e : ∀ A : S4x8192x64.Idx → EReal, (((cfg0.win 8).blk t).view.read (Elt Ideal) A : S1x512x64.Idx → EReal) (ix3 0 r j) = A (ix3 b (tok t r) j) := by
    intro A
    blk_ext [(idxR t).2.1]
    all_goals first | exact hb.symm | rfl
  exact (e _).symm

/-- Window 9's array. -/
abbrev left9 : S4x8192x64.Idx → EReal := (dats m 0 c).arrAt 9 cfg0.N

theorem flushes9 : ∀ t : Fin cfg0.N, (cfg0.win 9).flush t = true := by decide +kernel

theorem at9 (t : Fin cfg0.N) (b : Fin 4) (r : Fin 512) (j : Fin 64) (hb : b.val = t.val / 16) :
    left9 m c (ix3 b (tok t r) j) = (out0_9 (F := Ideal) (iblk m c 0 t) (iblk m c 1 t) (iblk m c 2 t) (iblk m c 3 t) (iblk m c 4 t) (ix3 0 r j) : EReal) := by
  have h := (ProjIdeal.Value.blocks9 m c t (flushes9 t)).trans (ProjIdeal.Value.flushed9 m c t)
  have h' := congrFun h (ix3 (0 : Fin 1) r j : S1x512x64.Idx)
  refine Eq.trans ?_ h'
  have e : ∀ A : S4x8192x64.Idx → EReal, (((cfg0.win 9).blk t).view.read (Elt Ideal) A : S1x512x64.Idx → EReal) (ix3 0 r j) = A (ix3 b (tok t r) j) := by
    intro A
    blk_ext [(idxR t).2.2.1]
    all_goals first | exact hb.symm | rfl
  exact (e _).symm

/-- Window 10's array. -/
abbrev left10 : S4x64x8192.Idx → EReal := (dats m 0 c).arrAt 10 cfg0.N

theorem flushes10 : ∀ t : Fin cfg0.N, (cfg0.win 10).flush t = true := by decide +kernel

theorem at10 (t : Fin cfg0.N) (b : Fin 4) (r : Fin 512) (j : Fin 64) (hb : b.val = t.val / 16) :
    left10 m c (ix3 b j (tok t r)) = (out0_10 (F := Ideal) (iblk m c 0 t) (iblk m c 1 t) (iblk m c 2 t) (iblk m c 3 t) (iblk m c 4 t) (ix3 0 j r) : EReal) := by
  have h := (ProjIdeal.Value.blocks10 m c t (flushes10 t)).trans (ProjIdeal.Value.flushed10 m c t)
  have h' := congrFun h (ix3 (0 : Fin 1) j r : S1x64x512.Idx)
  refine Eq.trans ?_ h'
  have e : ∀ A : S4x64x8192.Idx → EReal, (((cfg0.win 10).blk t).view.read (Elt Ideal) A : S1x64x512.Idx → EReal) (ix3 0 j r) = A (ix3 b j (tok t r)) := by
    intro A
    blk_ext [(idxC t).2.2.1]
    all_goals first | exact hb.symm | rfl
  exact (e _).symm

/-- Window 11's array. -/
abbrev left11 : S4x8x8192.Idx → EReal := (dats m 0 c).arrAt 11 cfg0.N

theorem flushes11 : ∀ t : Fin cfg0.N, (cfg0.win 11).flush t = true := by decide +kernel

theorem at11 (t : Fin cfg0.N) (b : Fin 4) (r : Fin 512) (j : Fin 8) (hb : b.val = t.val / 16) :
    left11 m c (ix3 b j (tok t r)) = (out0_11 (F := Ideal) (iblk m c 0 t) (iblk m c 1 t) (iblk m c 2 t) (iblk m c 3 t) (iblk m c 4 t) (ix3 0 j r) : EReal) := by
  have h := (ProjIdeal.Value.blocks11 m c t (flushes11 t)).trans (ProjIdeal.Value.flushed11 m c t)
  have h' := congrFun h (ix3 (0 : Fin 1) j r : S1x8x512.Idx)
  refine Eq.trans ?_ h'
  have e : ∀ A : S4x8x8192.Idx → EReal, (((cfg0.win 11).blk t).view.read (Elt Ideal) A : S1x8x512.Idx → EReal) (ix3 0 j r) = A (ix3 b j (tok t r)) := by
    intro A
    blk_ext [(idxC t).2.2.2]
    all_goals first | exact hb.symm | rfl
  exact (e _).symm

/-- Window 12's array. -/
abbrev left12 : S4x8192x128.Idx → EReal := (dats m 0 c).arrAt 12 cfg0.N

theorem flushes12 : ∀ t : Fin cfg0.N, (cfg0.win 12).flush t = true := by decide +kernel

theorem at12 (t : Fin cfg0.N) (b : Fin 4) (r : Fin 512) (j : Fin 128) (hb : b.val = t.val / 16) :
    left12 m c (ix3 b (tok t r) j) = (out0_12 (F := Ideal) (iblk m c 0 t) (iblk m c 1 t) (iblk m c 2 t) (iblk m c 3 t) (iblk m c 4 t) (ix3 0 r j) : EReal) := by
  have h := (ProjIdeal.Value.blocks12 m c t (flushes12 t)).trans (ProjIdeal.Value.flushed12 m c t)
  have h' := congrFun h (ix3 (0 : Fin 1) r j : S1x512x128.Idx)
  refine Eq.trans ?_ h'
  have e : ∀ A : S4x8192x128.Idx → EReal, (((cfg0.win 12).blk t).view.read (Elt Ideal) A : S1x512x128.Idx → EReal) (ix3 0 r j) = A (ix3 b (tok t r) j) := by
    intro A
    blk_ext [(idxR t).2.2.2.1]
    all_goals first | exact hb.symm | rfl
  exact (e _).symm

/-- Window 13's array. -/
abbrev left13 : S4x8192x256.Idx → EReal := (dats m 0 c).arrAt 13 cfg0.N

theorem flushes13 : ∀ t : Fin cfg0.N, (cfg0.win 13).flush t = true := by decide +kernel

theorem at13 (t : Fin cfg0.N) (b : Fin 4) (r : Fin 512) (j : Fin 256) (hb : b.val = t.val / 16) :
    left13 m c (ix3 b (tok t r) j) = (out0_13 (F := Ideal) (iblk m c 0 t) (iblk m c 1 t) (iblk m c 2 t) (iblk m c 3 t) (iblk m c 4 t) (ix3 0 r j) : EReal) := by
  have h := (ProjIdeal.Value.blocks13 m c t (flushes13 t)).trans (ProjIdeal.Value.flushed13 m c t)
  have h' := congrFun h (ix3 (0 : Fin 1) r j : S1x512x256.Idx)
  refine Eq.trans ?_ h'
  have e : ∀ A : S4x8192x256.Idx → EReal, (((cfg0.win 13).blk t).view.read (Elt Ideal) A : S1x512x256.Idx → EReal) (ix3 0 r j) = A (ix3 b (tok t r) j) := by
    intro A
    blk_ext [(idxR t).2.2.2.2.1]
    all_goals first | exact hb.symm | rfl
  exact (e _).symm

/-- Window 14's array. -/
abbrev left14 : S4x8192x256.Idx → EReal := (dats m 0 c).arrAt 14 cfg0.N

theorem flushes14 : ∀ t : Fin cfg0.N, (cfg0.win 14).flush t = true := by decide +kernel

theorem at14 (t : Fin cfg0.N) (b : Fin 4) (r : Fin 512) (j : Fin 256) (hb : b.val = t.val / 16) :
    left14 m c (ix3 b (tok t r) j) = (out0_14 (F := Ideal) (iblk m c 0 t) (iblk m c 1 t) (iblk m c 2 t) (iblk m c 3 t) (iblk m c 4 t) (ix3 0 r j) : EReal) := by
  have h := (ProjIdeal.Value.blocks14 m c t (flushes14 t)).trans (ProjIdeal.Value.flushed14 m c t)
  have h' := congrFun h (ix3 (0 : Fin 1) r j : S1x512x256.Idx)
  refine Eq.trans ?_ h'
  have e : ∀ A : S4x8192x256.Idx → EReal, (((cfg0.win 14).blk t).view.read (Elt Ideal) A : S1x512x256.Idx → EReal) (ix3 0 r j) = A (ix3 b (tok t r) j) := by
    intro A
    blk_ext [(idxR t).2.2.2.2.2.1]
    all_goals first | exact hb.symm | rfl
  exact (e _).symm

/-- Window 15's array. -/
abbrev left15 : S4x8192x512.Idx → EReal := (dats m 0 c).arrAt 15 cfg0.N

theorem flushes15 : ∀ t : Fin cfg0.N, (cfg0.win 15).flush t = true := by decide +kernel

theorem at15 (t : Fin cfg0.N) (b : Fin 4) (r : Fin 512) (j : Fin 512) (hb : b.val = t.val / 16) :
    left15 m c (ix3 b (tok t r) j) = (out0_15 (F := Ideal) (iblk m c 0 t) (iblk m c 1 t) (iblk m c 2 t) (iblk m c 3 t) (iblk m c 4 t) (ix3 0 r j) : EReal) := by
  have h := (ProjIdeal.Value.blocks15 m c t (flushes15 t)).trans (ProjIdeal.Value.flushed15 m c t)
  have h' := congrFun h (ix3 (0 : Fin 1) r j : S1x512x512.Idx)
  refine Eq.trans ?_ h'
  have e : ∀ A : S4x8192x512.Idx → EReal, (((cfg0.win 15).blk t).view.read (Elt Ideal) A : S1x512x512.Idx → EReal) (ix3 0 r j) = A (ix3 b (tok t r) j) := by
    intro A
    blk_ext [(idxR t).2.2.2.2.2.2]
    all_goals first | exact hb.symm | rfl
  exact (e _).symm

theorem result5 (x0 : Cert.ProjReferenceIdeal.S4x8192x1024.Idx → EReal) (x1 : Cert.ProjReferenceIdeal.S4x3072.Idx → EReal) (x4 : Cert.ProjReferenceIdeal.S1024x2248.Idx → EReal)
    (e0 : x0 = arg0 m c) (e1 : x1 = arg1 m c) (e4 : x4 = arg4 m c) :
    (Cert.ProjReferenceIdeal.Read.val_main_v82 (F := Ideal) x0 x1 x4 : Cert.ProjReferenceIdeal.S4x8192x512.Idx → EReal) = left5 m c := by
  subst e0 e1 e4
  funext i
  obtain ⟨b, q, j, rfl⟩ : ∃ (b : Fin 4) (q : Fin 8192) (j : Fin 512), i = ix3 b q j := ⟨_, _, _, ValueIdx.eq_ix3 i⟩
  obtain ⟨t, r, hb, rfl⟩ := point b q
  refine (ProjRef.r0_apply (arg0 m c) (arg1 m c) (arg4 m c) b (tok t r) j).trans (Eq.trans ?_ ((at5 m c t b r j hb).trans (Out.out5_apply (holds m c t b hb) r j)).symm)
  symm
  exact prod_src m c b (tok t r) _ _ (by unfold ProjSpec.src; split_ifs <;> omega)

theorem result6 (hpre : Cert.Pre_ProjIdeal_rotary_tables m) (x0 : Cert.ProjReferenceIdeal.S4x8192x1024.Idx → EReal) (x1 : Cert.ProjReferenceIdeal.S4x3072.Idx → EReal) (x2 x3 : Cert.ProjReferenceIdeal.S4x8192x128.Idx → EReal) (x4 : Cert.ProjReferenceIdeal.S1024x2248.Idx → EReal)
    (e0 : x0 = arg0 m c) (e1 : x1 = arg1 m c) (e2 : x2 = arg2 m c) (e3 : x3 = arg3 m c) (e4 : x4 = arg4 m c) :
    (Cert.ProjReferenceIdeal.Read.val_main_v87 (F := Ideal) x0 x1 x2 x3 x4 : Cert.ProjReferenceIdeal.S4x256x8192.Idx → EReal) = left6 m c := by
  subst e0 e1 e2 e3 e4
  funext i
  obtain ⟨b, j, q, rfl⟩ : ∃ (b : Fin 4) (j : Fin 256) (q : Fin 8192), i = ix3 b j q := ⟨_, _, _, ValueIdx.eq_ix3 i⟩
  obtain ⟨t, r, hb, rfl⟩ := point b q
  refine (ProjRef.r1_apply (arg0 m c) (arg1 m c) (arg2 m c) (arg3 m c) (arg4 m c) b (tok t r) j).trans (Eq.trans ?_ ((at6 m c t b r j hb).trans (Out.out6_apply (holds m c t b hb) r j)).symm)
  symm
  refine congrArg (fun z : EReal => z * ProjSpec.qscale) ?_
  unfold Out.stack
  refine (turned m c b (tok t r) (ProjPre.tables _ _ _ _ _ b (tok t r) (hpre c)) (512 + 128 * (j.val / 128)) (512 + 64 * (j.val / 64)) (j.val % 128) (by omega)
    (fun i hi => by unfold ProjSpec.src; split_ifs <;> omega)).trans ?_
  rw [show j.val % 128 % 64 = j.val % 64 by omega]
  exact congrArg (fun f => ProjSpec.rot f _ _ _) (funext fun i => congrArg (prod m c b (tok t r)) (by omega))

theorem result7 (hpre : Cert.Pre_ProjIdeal_rotary_tables m) (x0 : Cert.ProjReferenceIdeal.S4x8192x1024.Idx → EReal) (x1 : Cert.ProjReferenceIdeal.S4x3072.Idx → EReal) (x2 x3 : Cert.ProjReferenceIdeal.S4x8192x128.Idx → EReal) (x4 : Cert.ProjReferenceIdeal.S1024x2248.Idx → EReal)
    (e0 : x0 = arg0 m c) (e1 : x1 = arg1 m c) (e2 : x2 = arg2 m c) (e3 : x3 = arg3 m c) (e4 : x4 = arg4 m c) :
    (Cert.ProjReferenceIdeal.Read.val_main_v90 (F := Ideal) x0 x1 x2 x3 x4 : Cert.ProjReferenceIdeal.S4x256x8192.Idx → EReal) = left7 m c := by
  subst e0 e1 e2 e3 e4
  funext i
  obtain ⟨b, j, q, rfl⟩ : ∃ (b : Fin 4) (j : Fin 256) (q : Fin 8192), i = ix3 b j q := ⟨_, _, _, ValueIdx.eq_ix3 i⟩
  obtain ⟨t, r, hb, rfl⟩ := point b q
  refine (ProjRef.r2_apply (arg0 m c) (arg1 m c) (arg2 m c) (arg3 m c) (arg4 m c) b (tok t r) j).trans (Eq.trans ?_ ((at7 m c t b r j hb).trans (Out.out7_apply (holds m c t b hb) r j)).symm)
  symm
  unfold Out.stack
  refine (turned m c b (tok t r) (ProjPre.tables _ _ _ _ _ b (tok t r) (hpre c)) (768 + 128 * (j.val / 128)) (896 + 64 * (j.val / 64)) (j.val % 128) (by omega)
    (fun i hi => by unfold ProjSpec.src; split_ifs <;> omega)).trans ?_
  rw [show j.val % 128 % 64 = j.val % 64 by omega]
  exact congrArg (fun f => ProjSpec.rot f _ _ _) (funext fun i => congrArg (prod m c b (tok t r)) (by omega))

theorem result8 (hpre : Cert.Pre_ProjIdeal_rotary_tables m) (x0 : Cert.ProjReferenceIdeal.S4x8192x1024.Idx → EReal) (x1 : Cert.ProjReferenceIdeal.S4x3072.Idx → EReal) (x2 x3 : Cert.ProjReferenceIdeal.S4x8192x128.Idx → EReal) (x4 : Cert.ProjReferenceIdeal.S1024x2248.Idx → EReal)
    (e0 : x0 = arg0 m c) (e1 : x1 = arg1 m c) (e2 : x2 = arg2 m c) (e3 : x3 = arg3 m c) (e4 : x4 = arg4 m c) :
    (Cert.ProjReferenceIdeal.Read.val_main_v91 (F := Ideal) x0 x1 x2 x3 x4 : Cert.ProjReferenceIdeal.S4x8192x64.Idx → EReal) = left8 m c := by
  subst e0 e1 e2 e3 e4
  funext i
  obtain ⟨b, q, j, rfl⟩ : ∃ (b : Fin 4) (q : Fin 8192) (j : Fin 64), i = ix3 b q j := ⟨_, _, _, ValueIdx.eq_ix3 i⟩
  obtain ⟨t, r, hb, rfl⟩ := point b q
  refine (ProjRef.r3_apply (arg0 m c) (arg1 m c) (arg2 m c) (arg3 m c) (arg4 m c) b (tok t r) j).trans (Eq.trans ?_ ((at8 m c t b r j hb).trans (Out.out8_apply (holds m c t b hb) r j)).symm)
  symm
  refine (turned m c b (tok t r) (ProjPre.tables _ _ _ _ _ b (tok t r) (hpre c)) 1024 768 j.val (by omega) (fun i hi => by unfold ProjSpec.src; split_ifs <;> omega)).trans ?_
  rw [Nat.mod_eq_of_lt j.isLt]

theorem result9 (hpre : Cert.Pre_ProjIdeal_rotary_tables m) (x0 : Cert.ProjReferenceIdeal.S4x8192x1024.Idx → EReal) (x1 : Cert.ProjReferenceIdeal.S4x3072.Idx → EReal) (x2 x3 : Cert.ProjReferenceIdeal.S4x8192x128.Idx → EReal) (x4 : Cert.ProjReferenceIdeal.S1024x2248.Idx → EReal)
    (e0 : x0 = arg0 m c) (e1 : x1 = arg1 m c) (e2 : x2 = arg2 m c) (e3 : x3 = arg3 m c) (e4 : x4 = arg4 m c) :
    (Cert.ProjReferenceIdeal.Read.val_main_v92 (F := Ideal) x0 x1 x2 x3 x4 : Cert.ProjReferenceIdeal.S4x8192x64.Idx → EReal) = left9 m c := by
  subst e0 e1 e2 e3 e4
  funext i
  obtain ⟨b, q, j, rfl⟩ : ∃ (b : Fin 4) (q : Fin 8192) (j : Fin 64), i = ix3 b q j := ⟨_, _, _, ValueIdx.eq_ix3 i⟩
  obtain ⟨t, r, hb, rfl⟩ := point b q
  refine (ProjRef.r4_apply (arg0 m c) (arg1 m c) (arg2 m c) (arg3 m c) (arg4 m c) b (tok t r) j).trans (Eq.trans ?_ ((at9 m c t b r j hb).trans (Out.out9_apply (holds m c t b hb) r j)).symm)
  symm
  refine (turned m c b (tok t r) (ProjPre.tables _ _ _ _ _ b (tok t r) (hpre c)) 1024 1152 (64 + j.val) (by omega) (fun i hi => by unfold ProjSpec.src; split_ifs <;> omega)).trans ?_
  rw [show (64 + j.val) % 64 = j.val by omega]

theorem result10 (x0 : Cert.ProjReferenceIdeal.S4x8192x1024.Idx → EReal) (x1 : Cert.ProjReferenceIdeal.S4x3072.Idx → EReal) (x4 : Cert.ProjReferenceIdeal.S1024x2248.Idx → EReal)
    (e0 : x0 = arg0 m c) (e1 : x1 = arg1 m c) (e4 : x4 = arg4 m c) :
    (Cert.ProjReferenceIdeal.Read.val_main_v94 (F := Ideal) x0 x1 x4 : Cert.ProjReferenceIdeal.S4x64x8192.Idx → EReal) = left10 m c := by
  subst e0 e1 e4
  funext i
  obtain ⟨b, j, q, rfl⟩ : ∃ (b : Fin 4) (j : Fin 64) (q : Fin 8192), i = ix3 b j q := ⟨_, _, _, ValueIdx.eq_ix3 i⟩
  obtain ⟨t, r, hb, rfl⟩ := point b q
  refine (ProjRef.r5_apply (arg0 m c) (arg1 m c) (arg4 m c) b (tok t r) j).trans (Eq.trans ?_ ((at10 m c t b r j hb).trans (Out.out10_apply (holds m c t b hb) r j)).symm)
  symm
  exact prod_src m c b (tok t r) _ _ (by unfold ProjSpec.src; split_ifs <;> omega)

theorem result11 (x0 : Cert.ProjReferenceIdeal.S4x8192x1024.Idx → EReal) (x1 : Cert.ProjReferenceIdeal.S4x3072.Idx → EReal) (x4 : Cert.ProjReferenceIdeal.S1024x2248.Idx → EReal)
    (e0 : x0 = arg0 m c) (e1 : x1 = arg1 m c) (e4 : x4 = arg4 m c) :
    (Cert.ProjReferenceIdeal.Read.val_main_v96 (F := Ideal) x0 x1 x4 : Cert.ProjReferenceIdeal.S4x8x8192.Idx → EReal) = left11 m c := by
  subst e0 e1 e4
  funext i
  obtain ⟨b, j, q, rfl⟩ : ∃ (b : Fin 4) (j : Fin 8) (q : Fin 8192), i = ix3 b j q := ⟨_, _, _, ValueIdx.eq_ix3 i⟩
  obtain ⟨t, r, hb, rfl⟩ := point b q
  refine (ProjRef.r6_apply (arg0 m c) (arg1 m c) (arg4 m c) b (tok t r) j).trans (Eq.trans ?_ ((at11 m c t b r j hb).trans (Out.out11_apply (holds m c t b hb) r j)).symm)
  symm
  by_cases h : j.val < 4
  · rw [if_pos h]
    exact prod_src m c b (tok t r) _ _ (by unfold ProjSpec.src; split_ifs <;> omega)
  · rw [if_neg h]
    exact prod_src m c b (tok t r) _ _ (by unfold ProjSpec.src; split_ifs <;> omega)

theorem result12 (x0 : Cert.ProjReferenceIdeal.S4x8192x1024.Idx → EReal) (x1 : Cert.ProjReferenceIdeal.S4x3072.Idx → EReal) (x4 : Cert.ProjReferenceIdeal.S1024x2248.Idx → EReal)
    (e0 : x0 = arg0 m c) (e1 : x1 = arg1 m c) (e4 : x4 = arg4 m c) :
    (Cert.ProjReferenceIdeal.Read.val_main_v84 (F := Ideal) x0 x1 x4 : Cert.ProjReferenceIdeal.S4x8192x128.Idx → EReal) = left12 m c := by
  subst e0 e1 e4
  funext i
  obtain ⟨b, q, j, rfl⟩ : ∃ (b : Fin 4) (q : Fin 8192) (j : Fin 128), i = ix3 b q j := ⟨_, _, _, ValueIdx.eq_ix3 i⟩
  obtain ⟨t, r, hb, rfl⟩ := point b q
  refine (ProjRef.r7_apply (arg0 m c) (arg1 m c) (arg4 m c) b (tok t r) j).trans (Eq.trans ?_ ((at12 m c t b r j hb).trans (Out.out12_apply (holds m c t b hb) r j)).symm)
  symm
  unfold ProjSpec.misc
  by_cases h : j.val < 64
  · rw [if_pos h]
    exact prod_src m c b (tok t r) _ _ (by unfold ProjSpec.src; split_ifs <;> omega)
  · rw [if_neg h]
    by_cases h' : j.val < 68
    · rw [if_pos h']
      exact prod_src m c b (tok t r) _ _ (by unfold ProjSpec.src; split_ifs <;> omega)
    · rw [if_neg h']
      by_cases h'' : j.val < 72
      · rw [if_pos h'']
        exact prod_src m c b (tok t r) _ _ (by unfold ProjSpec.src; split_ifs <;> omega)
      · rw [if_neg h'']
        refine (prod_src m c b (tok t r) _ 2248 (by unfold ProjSpec.src; split_ifs <;> omega)).trans ?_
        exact ProjSpec.col_past _ _ 2248 (by decide)

theorem result13 (x0 : Cert.ProjReferenceIdeal.S4x8192x1024.Idx → EReal) (x1 : Cert.ProjReferenceIdeal.S4x3072.Idx → EReal) (x4 : Cert.ProjReferenceIdeal.S1024x2248.Idx → EReal)
    (e0 : x0 = arg0 m c) (e1 : x1 = arg1 m c) (e4 : x4 = arg4 m c) :
    (Cert.ProjReferenceIdeal.Read.val_main_v22 (F := Ideal) x0 x1 x4 : Cert.ProjReferenceIdeal.S4x8192x256.Idx → EReal) = left13 m c := by
  subst e0 e1 e4
  funext i
  obtain ⟨b, q, j, rfl⟩ : ∃ (b : Fin 4) (q : Fin 8192) (j : Fin 256), i = ix3 b q j := ⟨_, _, _, ValueIdx.eq_ix3 i⟩
  obtain ⟨t, r, hb, rfl⟩ := point b q
  refine (ProjRef.s22_apply (arg0 m c) (arg1 m c) (arg4 m c) b (tok t r) j).trans (Eq.trans ?_ ((at13 m c t b r j hb).trans (Out.out13_apply (holds m c t b hb) r j)).symm)
  symm
  exact prod_src m c b (tok t r) _ _ (by unfold ProjSpec.src; split_ifs <;> omega)

theorem result14 (x0 : Cert.ProjReferenceIdeal.S4x8192x1024.Idx → EReal) (x1 : Cert.ProjReferenceIdeal.S4x3072.Idx → EReal) (x4 : Cert.ProjReferenceIdeal.S1024x2248.Idx → EReal)
    (e0 : x0 = arg0 m c) (e1 : x1 = arg1 m c) (e4 : x4 = arg4 m c) :
    (Cert.ProjReferenceIdeal.Read.val_main_v23 (F := Ideal) x0 x1 x4 : Cert.ProjReferenceIdeal.S4x8192x256.Idx → EReal) = left14 m c := by
  subst e0 e1 e4
  funext i
  obtain ⟨b, q, j, rfl⟩ : ∃ (b : Fin 4) (q : Fin 8192) (j : Fin 256), i = ix3 b q j := ⟨_, _, _, ValueIdx.eq_ix3 i⟩
  obtain ⟨t, r, hb, rfl⟩ := point b q
  refine (ProjRef.s23_apply (arg0 m c) (arg1 m c) (arg4 m c) b (tok t r) j).trans (Eq.trans ?_ ((at14 m c t b r j hb).trans (Out.out14_apply (holds m c t b hb) r j)).symm)
  symm
  exact prod_src m c b (tok t r) _ _ (by unfold ProjSpec.src; split_ifs <;> omega)

theorem result15 (x0 : Cert.ProjReferenceIdeal.S4x8192x1024.Idx → EReal) (x1 : Cert.ProjReferenceIdeal.S4x3072.Idx → EReal) (x4 : Cert.ProjReferenceIdeal.S1024x2248.Idx → EReal)
    (e0 : x0 = arg0 m c) (e1 : x1 = arg1 m c) (e4 : x4 = arg4 m c) :
    (Cert.ProjReferenceIdeal.Read.val_main_v24 (F := Ideal) x0 x1 x4 : Cert.ProjReferenceIdeal.S4x8192x512.Idx → EReal) = left15 m c := by
  subst e0 e1 e4
  funext i
  obtain ⟨b, q, j, rfl⟩ : ∃ (b : Fin 4) (q : Fin 8192) (j : Fin 512), i = ix3 b q j := ⟨_, _, _, ValueIdx.eq_ix3 i⟩
  obtain ⟨t, r, hb, rfl⟩ := point b q
  refine (ProjRef.s24_apply (arg0 m c) (arg1 m c) (arg4 m c) b (tok t r) j).trans (Eq.trans ?_ ((at15 m c t b r j hb).trans (Out.out15_apply (holds m c t b hb) r j)).symm)
  symm
  exact prod_src m c b (tok t r) _ _ (by unfold ProjSpec.src; split_ifs <;> omega)

theorem equal : Cert.algebraic_ProjIdeal_ProjReferenceIdeal_pre_rotary_tables := fun m g m' g' hpre hargs => by
  refine ⟨fun c => left5 m c, fun c => left6 m c, fun c => left7 m c, fun c => left8 m c, fun c => left9 m c, fun c => left10 m c, fun c => left11 m c, fun c => left12 m c, fun c => left13 m c, fun c => left14 m c, fun c => left15 m c, ProjIdeal.Value.run_blocks m g, ?_⟩
  refine (θ_run Cert.ProjReferenceIdeal.defs _ _).mono (fun r h c => ?_) (Cert.ProjReferenceIdeal.Value.run (F := Ideal) m' g')
  obtain ⟨e0, e1, e2, e3, e4⟩ := hargs c
  have h1 := h c
  refine ⟨?_, ?_, ?_, ?_, ?_, ?_, ?_, ?_, ?_, ?_, ?_, h1.2.2.2.2.2.2.2.2.2.2.2⟩
  · exact h1.1.trans ((Cert.ProjReferenceIdeal.Read.val_main_v82_eq (F := Ideal) (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg4))).trans (result5 m c _ _ _ e0 e1 e4))
  · exact h1.2.1.trans ((Cert.ProjReferenceIdeal.Read.val_main_v87_eq (F := Ideal) m' c).trans (result6 m c hpre _ _ _ _ _ e0 e1 e2 e3 e4))
  · exact h1.2.2.1.trans ((Cert.ProjReferenceIdeal.Read.val_main_v90_eq (F := Ideal) m' c).trans (result7 m c hpre _ _ _ _ _ e0 e1 e2 e3 e4))
  · exact h1.2.2.2.1.trans ((Cert.ProjReferenceIdeal.Read.val_main_v91_eq (F := Ideal) m' c).trans (result8 m c hpre _ _ _ _ _ e0 e1 e2 e3 e4))
  · exact h1.2.2.2.2.1.trans ((Cert.ProjReferenceIdeal.Read.val_main_v92_eq (F := Ideal) m' c).trans (result9 m c hpre _ _ _ _ _ e0 e1 e2 e3 e4))
  · exact h1.2.2.2.2.2.1.trans ((Cert.ProjReferenceIdeal.Read.val_main_v94_eq (F := Ideal) (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg4))).trans (result10 m c _ _ _ e0 e1 e4))
  · exact h1.2.2.2.2.2.2.1.trans ((Cert.ProjReferenceIdeal.Read.val_main_v96_eq (F := Ideal) (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg4))).trans (result11 m c _ _ _ e0 e1 e4))
  · exact h1.2.2.2.2.2.2.2.1.trans ((Cert.ProjReferenceIdeal.Read.val_main_v84_eq (F := Ideal) (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg4))).trans (result12 m c _ _ _ e0 e1 e4))
  · exact h1.2.2.2.2.2.2.2.2.1.trans ((Cert.ProjReferenceIdeal.Read.val_main_v22_eq (F := Ideal) (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg4))).trans (result13 m c _ _ _ e0 e1 e4))
  · exact h1.2.2.2.2.2.2.2.2.2.1.trans ((Cert.ProjReferenceIdeal.Read.val_main_v23_eq (F := Ideal) (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg4))).trans (result14 m c _ _ _ e0 e1 e4))
  · exact h1.2.2.2.2.2.2.2.2.2.2.1.trans ((Cert.ProjReferenceIdeal.Read.val_main_v24_eq (F := Ideal) (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg4))).trans (result15 m c _ _ _ e0 e1 e4))

end Cert.ProjIdeal.Equal

end
-- ==== Proof.AdalnPre.lean ====
/-
  The modulation call's precondition read: the conditioning vectors and the weights are real numbers.
-/
module

public import proofs.«01_k».proof.Proof.MoePre
public import proofs.«01_k».proof.Pre_factors_finite

@[expose] public section

set_option maxRecDepth 65536

noncomputable section

namespace Cert.AdalnPre

open Idealize.ShloMosaic Idealize.ShloMosaic.ValueIdx Cert.Pre_factors_finite Cert.MoeIdeal.Logit

/-- The side conditions of the predicate's operations. -/
instance facts : Cert.Pre_factors_finite.Facts where
  bcast_S_S4x1024 := by decide
  reducesTo_S4x1024_S_d0_1 := by decide
  h_S_ := by decide
  bcast_S_S2x1024x3072 := by decide
  reducesTo_S2x1024x3072_S_d0_1_2 := by decide

instance : Subsingleton S_.Idx := ⟨fun a b => funext fun i => i.elim0⟩

variable (x0 : FVec Ideal S4x1024 .f32) (x1 : FVec Ideal S2x1024x3072 .f32) (x2 : FVec Ideal S2x3072 .f32)

theorem reals (h : fn x0 x1 x2 = fun _ => 1#1) : (∀ i, IsReal (x0 i)) ∧ ∀ i, IsReal (x1 i) := by
  have h0 := congrFun h (fun a => a.elim0)
  obtain ⟨h1, h2⟩ := Cert.Moe.Pre.and_one h0
  exact ⟨fun i => Cert.Moe.Pre.real_of_lt (Host.reduce_andi_all _ _ _ _ _ h1 i),
    fun i => Cert.Moe.Pre.real_of_lt (Host.reduce_andi_all _ _ _ _ _ h2 i)⟩

end Cert.AdalnPre

end
-- ==== Proof.AdalnBody.lean ====
/-
  The modulation call's body: each factor is split into three parts, the parts after the first are differences of a real
  number with itself, so of the six products only the first is left.
-/
module

public import proofs.«01_k».proof.Proof.MoeRead
public import proofs.«01_k».proof.Proof.MoeLogit
public import proofs.«01_k».proof.Proof.Gen.AdalnIdeal.Frame
public import Idealize.ShloMosaic.Lib.KernelVsHost
public import Idealize.ShloMosaic.Lib.Pipeline.ValueKit

@[expose] public section

set_option maxRecDepth 65536
set_option maxHeartbeats 1000000

noncomputable section

namespace Cert.AdalnIdeal.Body

open Idealize.ShloMosaic hiding ix1 ix2 ix3 ix4
open Idealize.ShloMosaic.ValueIdx Idealize.SL.Sem Cert.AdalnIdeal Cert.AdalnIdeal.Gen Cert.MoeIdeal.Logit

variable (x0 : Vec Ideal S4x1024 .f32) (x1 : Vec Ideal S1x1024x1024 .f32) (x2 : Vec Ideal S1x1x1024 .f32)

/-- A product with a zero factor at every term. -/
theorem prod_zero {lhs : FVec Ideal S4x1024 .bf16} {rhs : FVec Ideal S1024x1024 .bf16} (b : Fin 4) (j : Fin 1024)
    (h : ∀ k : Fin 1024, (lhs (ix2 b k) : EReal) = 0 ∨ (rhs (ix2 k j) : EReal) = 0) :
    (matmul dot_S4x1024_S1024x1024_S4x1024_1_0_0_1_n_n none lhs rhs (constant S4x1024 .f32 0x00000000#32) (ix2 b j) : EReal) = 0 := by
  refine (Moe.Read.mm_apply (φ₁ := .bf16) (φ₂ := .bf16) _ rfl lhs rhs b j).trans (Finset.sum_eq_zero fun k _ => ?_)
  rcases h k with e | e
  · rw [e, zero_mul]
  · rw [e, mul_zero]

theorem pay_apply (h0 : ∀ b k, IsReal (x0 (ix2 b k))) (h1 : ∀ k j, IsReal (x1 (ix3 0 k j))) (u : Fin 1) (b : Fin 4) (j : Fin 1024) :
    (k0_pay1 x0 x1 x2 (ix3 u b j) : EReal)
      = (∑ k : Fin 1024, (x0 (ix2 b k) : EReal) * x1 (ix3 0 k j)) + x2 (ix3 0 0 j) := by
  have hw : ∀ k j, (shapeCast S1024x1024 x1 shapeCasts_S1x1024x1024_S1024x1024 (ix2 k j) : EReal) = x1 (ix3 0 k j) :=
    fun k j => shapeCast_1ab_ab_apply x1 _ k j
  have hwr : ∀ k j, IsReal (shapeCast S1024x1024 x1 shapeCasts_S1x1024x1024_S1024x1024 (ix2 k j)) := fun k j => by
    rw [hw]
    exact h1 k j
  obtain rfl : u = 0 := Subsingleton.elim _ _
  unfold k0_pay1
  refine (shapeCast_ab_1ab_apply _ _ 0 b j).trans ?_
  refine congrArg₂ (· + ·) ?_ ?_
  · refine Eq.trans (congrArg₂ (· + ·) (congrArg₂ (· + ·) (Moe.Read.mm_apply (φ₁ := .bf16) (φ₂ := .bf16) _ rfl _ _ b j)
      (congrArg₂ (· + ·) (prod_zero b j fun k => Or.inr (hwr k j).sub_self) (prod_zero b j fun k => Or.inl (h0 b k).sub_self)))
      (congrArg₂ (· + ·) (congrArg₂ (· + ·) (prod_zero b j fun k => Or.inr ?_) (prod_zero b j fun k => Or.inl ?_))
        (prod_zero b j fun k => Or.inl (h0 b k).sub_self))) ?_
    · exact (congrArg₂ (fun y z : EReal => y - z) (hwr k j).sub_self (hwr k j).sub_self).trans (sub_zero 0)
    · exact (congrArg₂ (fun y z : EReal => y - z) (h0 b k).sub_self (h0 b k).sub_self).trans (sub_zero 0)
    · rw [add_zero, add_zero, add_zero, add_zero]
      exact Finset.sum_congr rfl fun k _ => congrArg (fun z : EReal => (x0 (ix2 b k) : EReal) * z) (hw k j)
  · refine (broadcastTo_1b_ab_apply _ _ b j).trans ?_
    exact shapeCast_1ab_ab_apply x2 _ 0 j

theorem zero3 : (![0, 0, 0] : Fin 3 → ℕ) = fun _ => 0 := by
  funext a
  match a with
  | ⟨0, _⟩ => rfl
  | ⟨1, _⟩ => rfl
  | ⟨2, _⟩ => rfl

theorem zero2 : (![0, 0] : Fin 2 → ℕ) = fun _ => 0 := by
  funext a
  match a with
  | ⟨0, _⟩ => rfl
  | ⟨1, _⟩ => rfl

theorem out_eq : out0_3 x0 x1 x2 = k0_pay1 x0 x1 x2 := by
  unfold out0_3
  rw [View.canon_unit_zero zero3, View.ld_unit_zero zero2 _ x0, View.ld_unit_zero zero3 _ x1, View.ld_unit_zero zero3 _ x2]

end Cert.AdalnIdeal.Body

end
-- ==== Proof.AdalnRef.lean ====
/-
  The modulation call's reference read: layer by layer the product of the conditioning vectors with the layer's weights,
  plus the layer's bias.
-/
module

public import proofs.«01_k».proof.Proof.Gen.AdalnReferenceIdeal.Read
public import Idealize.ShloMosaic.Lib.KernelVsHost
public import Idealize.ShloMosaic.Lib.ValueLayout
public import Idealize.ShloMosaic.Lib.Pipeline.ValueKit

@[expose] public section

set_option maxRecDepth 65536
set_option maxHeartbeats 1000000

noncomputable section

namespace Cert.AdalnRef

open Idealize.ShloMosaic hiding ix1 ix2 ix3 ix4
open Idealize.ShloMosaic.ValueIdx Cert.AdalnReferenceIdeal Cert.AdalnReferenceIdeal.Read

variable (x0 : S4x1024.Idx → EReal) (x1 : S2x1024x3072.Idx → EReal) (x2 : S2x3072.Idx → EReal)

/-- The modulation vectors. -/
def out (l : Fin 2) (b : Fin 4) (n : Fin 3072) : EReal :=
  (∑ k : Fin 1024, x0 (ix2 b k) * x1 (ix3 l k n)) + x2 (ix2 l n)

theorem w0_apply (k : Fin 1024) (n : Fin 3072) : (val_main_v1 (F := Ideal) x1 (ix2 k n) : EReal) = x1 (ix3 0 k n) := by
  unfold val_main_v1
  refine (shapeCast_1ab_ab_apply _ _ k n).trans ((val_main_v0_apply (F := Ideal) x1 _).trans (congrArg x1 (funext fun a => Fin.ext ?_)))
  match a with
  | ⟨0, _⟩ => rfl
  | ⟨1, _⟩ => rfl
  | ⟨2, _⟩ => rfl

theorem w1_apply (k : Fin 1024) (n : Fin 3072) : (val_main_v9 (F := Ideal) x1 (ix2 k n) : EReal) = x1 (ix3 1 k n) := by
  unfold val_main_v9
  refine (shapeCast_1ab_ab_apply _ _ k n).trans ((val_main_v8_apply (F := Ideal) x1 _).trans (congrArg x1 (funext fun a => Fin.ext ?_)))
  match a with
  | ⟨0, _⟩ => rfl
  | ⟨1, _⟩ => rfl
  | ⟨2, _⟩ => rfl

theorem b0_apply (b : Fin 4) (n : Fin 3072) : (val_main_v6 (F := Ideal) x2 (ix2 b n) : EReal) = x2 (ix2 0 n) := by
  refine (val_main_v6_apply (F := Ideal) x2 _).trans ((val_main_v5_apply (F := Ideal) x2 _).trans ((val_main_v4_apply (F := Ideal) x2 _).trans
    ((val_main_v3_apply (F := Ideal) x2 _).trans (congrArg x2 (funext fun a => Fin.ext ?_)))))
  match a with
  | ⟨0, _⟩ => rfl
  | ⟨1, _⟩ => exact Nat.mod_eq_of_lt n.isLt

theorem b1_apply (b : Fin 4) (n : Fin 3072) : (val_main_v14 (F := Ideal) x2 (ix2 b n) : EReal) = x2 (ix2 1 n) := by
  refine (val_main_v14_apply (F := Ideal) x2 _).trans ((val_main_v13_apply (F := Ideal) x2 _).trans ((val_main_v12_apply (F := Ideal) x2 _).trans
    ((val_main_v11_apply (F := Ideal) x2 _).trans (congrArg x2 (funext fun a => Fin.ext ?_)))))
  match a with
  | ⟨0, _⟩ => rfl
  | ⟨1, _⟩ => exact Nat.mod_eq_of_lt n.isLt

theorem two (i : S4x3072.Idx) (b : Fin 4) (n : Fin 3072) (h0 : (i 0).val = b.val) (h1 : (i 1).val = n.val) : i = ix2 b n :=
  funext fun a => Fin.ext (by
    match a with
    | ⟨0, _⟩ => exact h0
    | ⟨1, _⟩ => exact h1)

theorem l0_apply (b : Fin 4) (n : Fin 3072) : (val_main_v7 (F := Ideal) x0 x1 x2 (ix2 b n) : EReal) = out x0 x1 x2 0 b n := by
  refine (val_main_v7_apply (F := Ideal) x0 x1 x2 _).trans (congrArg₂ (· + ·) ?_ (b0_apply x2 b n))
  refine (val_main_v2_apply x0 x1 _).trans (Finset.sum_congr rfl fun k _ => congrArg₂ (· * ·) (congrArg x0 ?_) (Eq.trans (congrArg _ ?_) (w0_apply x1 k n)))
  all_goals
    funext a
    refine Fin.ext ?_
    match a with
    | ⟨0, _⟩ => rfl
    | ⟨1, _⟩ => rfl

theorem l1_apply (b : Fin 4) (n : Fin 3072) : (val_main_v15 (F := Ideal) x0 x1 x2 (ix2 b n) : EReal) = out x0 x1 x2 1 b n := by
  refine (val_main_v15_apply (F := Ideal) x0 x1 x2 _).trans (congrArg₂ (· + ·) ?_ (b1_apply x2 b n))
  refine (val_main_v10_apply x0 x1 _).trans (Finset.sum_congr rfl fun k _ => congrArg₂ (· * ·) (congrArg x0 ?_) (Eq.trans (congrArg _ ?_) (w1_apply x1 k n)))
  all_goals
    funext a
    refine Fin.ext ?_
    match a with
    | ⟨0, _⟩ => rfl
    | ⟨1, _⟩ => rfl

theorem piece0_apply (b : Fin 4) (n : Fin 3072) : (val_main_v16 (F := Ideal) x0 x1 x2 (ix3 0 b n) : EReal) = out x0 x1 x2 0 b n :=
  (val_main_v16_apply (F := Ideal) x0 x1 x2 _).trans ((congrArg _ (two _ b n rfl rfl)).trans (l0_apply x0 x1 x2 b n))

theorem piece1_apply (b : Fin 4) (n : Fin 3072) : (val_main_v17 (F := Ideal) x0 x1 x2 (ix3 0 b n) : EReal) = out x0 x1 x2 1 b n :=
  (val_main_v17_apply (F := Ideal) x0 x1 x2 _).trans ((congrArg _ (two _ b n rfl rfl)).trans (l1_apply x0 x1 x2 b n))

theorem result_apply (l : Fin 2) (b : Fin 4) (n : Fin 3072) :
    (val_main_v18 (F := Ideal) x0 x1 x2 (ix3 l b n) : EReal) = out x0 x1 x2 l b n := by
  unfold val_main_v18
  have hl : l = 0 ∨ l = 1 := by omega
  rcases hl with rfl | rfl
  · refine (concatenate_apply_piece (0 : Fin S2x4x3072.rank) [⟨S1x4x3072, val_main_v16 (F := Ideal) x0 x1 x2⟩, ⟨S1x4x3072, val_main_v17 (F := Ideal) x0 x1 x2⟩] _
      (ix3 0 b n) 0 (by show 0 < 2; decide) S1x4x3072 (val_main_v16 (F := Ideal) x0 x1 x2) rfl rfl 0 rfl (ix3 0 b n) ?_ ?_).trans (piece0_apply x0 x1 x2 b n)
    · intro a ha
      match a with
      | ⟨0, _⟩ => exact absurd rfl ha
      | ⟨1, _⟩ => rfl
      | ⟨2, _⟩ => rfl
    · rfl
  · refine (concatenate_apply_piece (0 : Fin S2x4x3072.rank) [⟨S1x4x3072, val_main_v16 (F := Ideal) x0 x1 x2⟩, ⟨S1x4x3072, val_main_v17 (F := Ideal) x0 x1 x2⟩] _
      (ix3 1 b n) 1 (by show 1 < 2; decide) S1x4x3072 (val_main_v17 (F := Ideal) x0 x1 x2) rfl rfl 1 rfl (ix3 0 b n) ?_ ?_).trans (piece1_apply x0 x1 x2 b n)
    · intro a ha
      match a with
      | ⟨0, _⟩ => exact absurd rfl ha
      | ⟨1, _⟩ => rfl
      | ⟨2, _⟩ => rfl
    · rfl

end Cert.AdalnRef

end
-- ==== Proof.AdalnEqual.lean ====
/-
  The two modulation programs leave the same result: the windows read off the arguments, the body's value at each point,
  and the reference's element by element.
-/
module

public import proofs.«01_k».proof.Defs
public import proofs.«01_k».proof.Proof.AdalnPre
public import proofs.«01_k».proof.Proof.AdalnBody
public import proofs.«01_k».proof.Proof.AdalnRef
public import proofs.«01_k».proof.Proof.Gen.AdalnIdeal.Value
public import proofs.«01_k».proof.Proof.Gen.AdalnReferenceIdeal.Run
public import Idealize.ShloMosaic.Lib.Claim

@[expose] public section

set_option maxRecDepth 65536
set_option maxHeartbeats 1000000

noncomputable section

namespace Cert.AdalnIdeal.Equal

open Idealize.ShloMosaic hiding ix1 ix2 ix3 ix4 eq_ix3
open Idealize.ShloMosaic.TcCoe Idealize.ShloMosaic.ValueIdx Idealize.SL.Sem Cert.MoeIdeal.Logit

section Kernel

open Cert.AdalnIdeal Cert.AdalnIdeal.Gen

variable (m : (ℓ : Loc nD τ sig) → Buf (Elt Ideal) ℓ) (c : Dev nD)

/-- The argument arrays. -/
abbrev arg0 : S4x1024.Idx → EReal := m ((c : Thread nD τ).loc main_arg0)
abbrev arg1 : S2x1024x3072.Idx → EReal := m ((c : Thread nD τ).loc main_arg1)
abbrev arg2 : S2x3072.Idx → EReal := m ((c : Thread nD τ).loc main_arg2)

theorem V_bias (l : Fin 2) (u : Fin 1) (n : Fin 3072) :
    (V m c main_v0 : S2x1x3072.Idx → EReal) (ix3 l u n) = arg2 m c (ix2 l n) := by
  unfold V
  simp only [hostOps0, List.flatten_cons, List.flatten_nil, List.append_nil, List.cons_append, List.nil_append]
  entry_read
  refine shapeCast_apply (arg2 m c) shapeCasts_S2x3072_S2x1x3072 _ (ix2 l n) ?_
  rw [rowMajor_val2 _ 3072 rfl, rowMajor_val3 _ 3072 3072 rfl rfl]
  show l.val * 3072 + n.val = l.val * 3072 + u.val * 3072 + n.val
  omega

/-- The blocks the windows name at a point. -/
theorem idx : ∀ t : Fin cfg0.N, win0_0.index t = ![0, 0] ∧ win0_1.index t = ![t.val / 3, 0, t.val % 3]
    ∧ win0_2.index t = ![t.val / 3, 0, t.val % 3] ∧ win0_3.index t = ![t.val / 3, 0, t.val % 3] := by
  decide +kernel

theorem flushes : ∀ t : Fin cfg0.N, (cfg0.win 3).flush t = true := by decide +kernel

theorem w0_apply (t : Fin cfg0.N) (b : Fin 4) (k : Fin 1024) :
    (iblk m c 0 t : S4x1024.Idx → EReal) (ix2 b k) = arg0 m c (ix2 b k) := by
  blk_ext [iblk, V, (idx t).1]

theorem w1_apply (t : Fin cfg0.N) (u : Fin 1) (k j : Fin 1024) (l : Fin 2) (n : Fin 3072) (hl : l.val = t.val / 3)
    (hn : n.val = t.val % 3 * 1024 + j.val) :
    (iblk m c 1 t : S1x1024x1024.Idx → EReal) (ix3 u k j) = arg1 m c (ix3 l k n) := by
  blk_ext [iblk, V, (idx t).2.1]
  all_goals first | exact hl.symm | exact hn.symm | rfl

theorem w2_apply (t : Fin cfg0.N) (u v : Fin 1) (j : Fin 1024) (l : Fin 2) (n : Fin 3072) (hl : l.val = t.val / 3)
    (hn : n.val = t.val % 3 * 1024 + j.val) :
    (iblk m c 2 t : S1x1x1024.Idx → EReal) (ix3 u v j) = arg2 m c (ix2 l n) := by
  refine Eq.trans ?_ (V_bias m c l 0 n)
  blk_ext [iblk, (idx t).2.2.1]
  all_goals first | exact hl.symm | exact hn.symm | rfl

/-- The array the kernel leaves. -/
abbrev left : S2x4x3072.Idx → EReal := (dats m 0 c).arrAt 3 cfg0.N

/-- An element of it is the body's at its point. -/
theorem left_at (t : Fin cfg0.N) (l : Fin 2) (b : Fin 4) (j : Fin 1024) (n : Fin 3072) (hl : l.val = t.val / 3)
    (hn : n.val = t.val % 3 * 1024 + j.val) :
    left m c (ix3 l b n) = (out0_3 (F := Ideal) (iblk m c 0 t) (iblk m c 1 t) (iblk m c 2 t) (ix3 0 b j) : EReal) := by
  have h := (AdalnIdeal.Value.blocks3 m c t (flushes t)).trans (AdalnIdeal.Value.flushed3 m c t)
  have h' := congrFun h (ix3 (0 : Fin 1) b j : S1x4x1024.Idx)
  refine Eq.trans ?_ h'
  have e : ∀ A : S2x4x3072.Idx → EReal, (((cfg0.win 3).blk t).view.read (Elt Ideal) A : S1x4x1024.Idx → EReal) (ix3 0 b j) = A (ix3 l b n) := by
    intro A
    blk_ext [(idx t).2.2.2]
    all_goals first | exact hl.symm | exact hn.symm | rfl
  exact (e _).symm

theorem left_apply (h0 : ∀ i, IsReal (arg0 m c i)) (h1 : ∀ i, IsReal (arg1 m c i)) (l : Fin 2) (b : Fin 4) (n : Fin 3072) :
    left m c (ix3 l b n) = AdalnRef.out (arg0 m c) (arg1 m c) (arg2 m c) l b n := by
  have hN : cfg0.N = 6 := by decide
  obtain ⟨t, ht⟩ : ∃ t : Fin cfg0.N, t.val = l.val * 3 + n.val / 1024 := ⟨⟨l.val * 3 + n.val / 1024, by omega⟩, rfl⟩
  obtain ⟨j, hj⟩ : ∃ j : Fin 1024, j.val = n.val % 1024 := ⟨⟨n.val % 1024, by omega⟩, rfl⟩
  have hl : l.val = t.val / 3 := by omega
  have hn : n.val = t.val % 3 * 1024 + j.val := by omega
  have hw : ∀ k j : Fin 1024, IsReal ((iblk m c 1 t : S1x1024x1024.Idx → EReal) (ix3 0 k j)) := fun k j => by
    rw [w1_apply m c t 0 k j l ⟨t.val % 3 * 1024 + j.val, by omega⟩ hl rfl]
    exact h1 _
  refine (left_at m c t l b j n hl hn).trans ?_
  rw [AdalnIdeal.Body.out_eq]
  refine (AdalnIdeal.Body.pay_apply (iblk m c 0 t) (iblk m c 1 t) (iblk m c 2 t)
    (fun b k => by rw [show (iblk m c 0 t : S4x1024.Idx → EReal) (ix2 b k) = _ from w0_apply m c t b k]; exact h0 _) hw 0 b j).trans ?_
  exact congrArg₂ (· + ·) (Finset.sum_congr rfl fun k _ => congrArg₂ (· * ·) (w0_apply m c t b k) (w1_apply m c t 0 k j l n hl hn))
    (w2_apply m c t 0 0 j l n hl hn)

end Kernel

theorem result_eq (m : (ℓ : Loc Cert.AdalnIdeal.nD Cert.AdalnIdeal.τ Cert.AdalnIdeal.sig) → Buf (Elt Ideal) ℓ)
    (c : Dev Cert.AdalnIdeal.nD) (hpre : Cert.Pre_AdalnIdeal_factors_finite m) :
    (Cert.AdalnReferenceIdeal.Read.val_main_v18 (F := Ideal) (arg0 m c) (arg1 m c) (arg2 m c) : Cert.AdalnReferenceIdeal.S2x4x3072.Idx → EReal)
      = left m c := by
  obtain ⟨h0, h1⟩ := Cert.AdalnPre.reals _ _ _ (hpre c)
  funext i
  obtain ⟨l, b, n, rfl⟩ : ∃ (l : Fin 2) (b : Fin 4) (n : Fin 3072), i = ix3 l b n := ⟨_, _, _, ValueIdx.eq_ix3 i⟩
  exact (AdalnRef.result_apply _ _ _ l b n).trans (left_apply m c h0 h1 l b n).symm

theorem equal : Cert.algebraic_AdalnIdeal_AdalnReferenceIdeal_pre_factors_finite := fun m g m' g' hpre hargs => by
  refine ⟨fun c => left m c, AdalnIdeal.Value.run_blocks m g, ?_⟩
  refine (θ_run Cert.AdalnReferenceIdeal.defs _ _).mono (fun r h c => ⟨?_, (h c).2⟩) (Cert.AdalnReferenceIdeal.Value.run (F := Ideal) m' g')
  refine (h c).1.trans ((Cert.AdalnReferenceIdeal.Read.val_main_v18_eq (F := Ideal) _ _ _).trans ?_)
  refine Eq.trans ?_ (result_eq m c hpre)
  obtain ⟨e0, e1, e2⟩ := hargs c
  have key : Cert.AdalnReferenceIdeal.Read.val_main_v18 (F := Ideal)
      (m' ((c.tc : Thread Cert.AdalnReferenceIdeal.nD Cert.AdalnReferenceIdeal.τ).loc Cert.AdalnReferenceIdeal.main_arg0))
      (m' ((c.tc : Thread Cert.AdalnReferenceIdeal.nD Cert.AdalnReferenceIdeal.τ).loc Cert.AdalnReferenceIdeal.main_arg1))
      (m' ((c.tc : Thread Cert.AdalnReferenceIdeal.nD Cert.AdalnReferenceIdeal.τ).loc Cert.AdalnReferenceIdeal.main_arg2))
      = Cert.AdalnReferenceIdeal.Read.val_main_v18 (F := Ideal) (arg0 m c) (arg1 m c) (arg2 m c) := by
    rw [e0, e1, e2]
  exact key

end Cert.AdalnIdeal.Equal

end
-- ==== Proof.RopeSpec.lean ====
/-
  The rotary tables over the extended reals: of a position and a lane.
-/
module

public import proofs.«01_k».proof.Proof.MoeSpec

@[expose] public section

set_option maxRecDepth 65536

noncomputable section

namespace Cert.RopeSpec

open Idealize.ShloMosaic

/-- The rate of the `j`-th pair: 500000 to the power `-j/8`. -/
def rate (j : ℕ) : EReal := ((Real.exp ((j : ℝ) * (-(Real.log 500000) * (1 / 8))) : ℝ) : EReal)

/-- The angle of a position, a word read as a signed integer. -/
def ang (w : BitVec 32) (j : ℕ) : EReal := ((w.toInt : ℝ) : EReal) * rate j

/-- The cosine table: two copies of the eight cosines, then ones, on each 64 lanes. -/
def cosT (w : BitVec 32) (e : ℕ) : EReal := if e % 64 < 16 then Ideal.cos (ang w (e % 64 % 8)) else 1

/-- The sine table: the eight sines negated, the eight sines, then zeros, on each 64 lanes. -/
def sinT (w : BitVec 32) (e : ℕ) : EReal :=
  if e % 64 < 8 then -Ideal.sin (ang w (e % 64 % 8)) else if e % 64 < 16 then Ideal.sin (ang w (e % 64 % 8)) else 0

theorem bits_base : Ideal.ofBits .f32 0x48F42400#32 = ((500000 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_rot : Ideal.ofBits .f32 0x41800000#32 = ((16 : ℝ) : EReal) := by
  simp [Ideal.ofBits, Ideal.ieee, -EReal.coe_mul]; norm_num

/-- The rate as a power. -/
theorem pow_rate (j : ℕ) :
    Ideal.pow ((500000 : ℝ) : EReal) (Ideal.div (-(0 + ((2 : ℝ) : EReal) * (((j : ℝ)) : EReal))) ((16 : ℝ) : EReal)) = rate j := by
  have e : Ideal.div (-(0 + ((2 : ℝ) : EReal) * (((j : ℝ)) : EReal))) ((16 : ℝ) : EReal) = ((-(2 * (j : ℝ)) * (1 / 16) : ℝ) : EReal) := by
    rw [Ideal.div_coe (by norm_num), zero_add, ← EReal.coe_mul, ← EReal.coe_neg, ← EReal.coe_mul]
  rw [e, Ideal.pow_coe_coe]
  unfold rate
  refine congrArg (fun z : ℝ => (z : EReal)) ?_
  show (500000 : ℝ) ^ (-(2 * (j : ℝ)) * (1 / 16)) = _
  rw [Real.rpow_def_of_pos (by norm_num)]
  congr 1
  ring

end Cert.RopeSpec

end
-- ==== Proof.RopeBody.lean ====
/-
  The rotary tables' body: a lane's place in its head and its pair are remainders of the lane's number; the rates are
  exponentials of the named constant's multiples.
-/
module

public import proofs.«01_k».proof.Proof.MoeRead
public import proofs.«01_k».proof.Proof.RopeSpec
public import proofs.«01_k».proof.Proof.Gen.RopeIdeal.Frame
public import Idealize.ShloMosaic.Lib.KernelVsHost
public import Idealize.ShloMosaic.Lib.Pipeline.ValueKit

@[expose] public section

set_option maxRecDepth 65536
set_option maxHeartbeats 1000000

noncomputable section

namespace Cert.RopeIdeal.Body

open Idealize.ShloMosaic hiding ix1 ix2 ix3 ix4
open Idealize.ShloMosaic.ValueIdx Idealize.SL.Sem Cert.RopeIdeal Cert.RopeIdeal.Gen

/-- A remainder, as the body writes it. -/
def modW (n k : BitVec 32) : BitVec 32 :=
  let d : BitVec 32 := Scalar.select (Scalar.cmpi .eq k 0#32) 1#32 k
  let q : BitVec 32 := IntOp.remsi .vector n d
  if IntOp.andi (IntOp.xori (IntOp.cmpi .slt q 0#32) (Scalar.cmpi .slt d 0#32)) (IntOp.cmpi .ne q 0#32) = 1#1 then IntOp.addi q d else q

theorem place_word : ∀ l : Fin 128, ((IntOp.cmpi .slt (modW (BitVec.ofNat 32 l.val) 64#32) 8#32 = 1#1) ↔ l.val % 64 < 8)
    ∧ ((IntOp.cmpi .slt (modW (BitVec.ofNat 32 l.val) 64#32) 16#32 = 1#1) ↔ l.val % 64 < 16)
    ∧ (modW (modW (BitVec.ofNat 32 l.val) 64#32) 8#32).toInt = ((l.val % 64 % 8 : ℕ) : ℤ) := by
  decide +kernel

theorem place_apply (l : Fin 128) : k0_pay3 (ix2 0 l) = modW (BitVec.ofNat 32 l.val) 64#32 := by
  have e : iota .tc S1x128 32 [1] iota_S1x128_d1_w32 (ix2 0 l) = BitVec.ofNat 32 l.val :=
    iota_single_apply .tc S1x128 32 1 iota_S1x128_d1_w32 (ix2 0 l)
  rw [← e]
  rfl

variable (x0 : Vec Ideal S1x512x1 .f32)

theorem rate_name : Named.named (F := Ideal) κ "rate" (φ := .f32) 0xBFD1F533#32 = ((-(Real.log 500000) * (1 / 8) : ℝ) : EReal) :=
  IdealRules.named_const.ideal_named_scalar κ "rate" _ _ rfl

theorem rate_apply (l : Fin 128) (w : BitVec 32) (j : ℕ) (hw : w.toInt = (j : ℤ)) :
    Ideal.exp (((w.toInt : ℝ) : EReal) * Named.named (F := Ideal) κ "rate" (φ := .f32) 0xBFD1F533#32) = RopeSpec.rate j := by
  rw [rate_name, ← EReal.coe_mul, hw, Ideal.exp_coe]
  unfold RopeSpec.rate
  rw [Int.cast_natCast]

theorem ang_apply (r : Fin 512) (l : Fin 128) :
    (k0_pay4 x0 (ix2 r l) : EReal) = (x0 (ix3 0 r 0) : EReal) * RopeSpec.rate (l.val % 64 % 8) := by
  unfold k0_pay4
  refine congrArg₂ (fun y z : EReal => y * z) ?_ ?_
  · exact (Moe.Read.alongCols_apply (by decide) _ _ r l).trans (shapeCast_1ab_ab_apply x0 _ r 0)
  · refine (broadcastTo_1b_ab_apply _ _ r l).trans ?_
    refine Eq.trans ?_ (rate_apply l (modW (k0_pay3 (ix2 0 l)) 8#32) (l.val % 64 % 8) ?_)
    · rfl
    · rw [place_apply]
      exact (place_word l).2.2

theorem cos_apply (u : Fin 1) (r : Fin 512) (l : Fin 128) :
    (k0_pay1 k0_pay3 (k0_pay4 x0) (ix3 u r l) : EReal)
      = if l.val % 64 < 16 then Ideal.cos ((x0 (ix3 0 r 0) : EReal) * RopeSpec.rate (l.val % 64 % 8)) else 1 := by
  obtain rfl : u = 0 := Subsingleton.elim _ _
  unfold k0_pay1
  refine (shapeCast_ab_1ab_apply _ _ 0 r l).trans ?_
  rw [shapeCast_self]
  have e : (broadcastTo S512x128 (cmpi .slt k0_pay3 (broadcast S1x128 16#32)) broadcasts_S1x128_S512x128 (ix2 r l))
      = IntOp.cmpi .slt (modW (BitVec.ofNat 32 l.val) 64#32) 16#32 :=
    (broadcastTo_1b_ab_apply _ _ r l).trans (congrArg (fun z => IntOp.cmpi .slt z 16#32) (place_apply l))
  show (if broadcastTo S512x128 (cmpi .slt k0_pay3 (broadcast S1x128 16#32)) broadcasts_S1x128_S512x128 (ix2 r l) = 1#1
    then Ideal.cos (k0_pay4 x0 (ix2 r l)) else Ideal.ofBits .f32 0x3F800000#32) = _
  rw [e, ang_apply, Moe.Spec.bits_one]
  by_cases h : l.val % 64 < 16
  · rw [if_pos h, if_pos ((place_word l).2.1.2 h)]
  · rw [if_neg h, if_neg fun h' => h ((place_word l).2.1.1 h')]

theorem sin_apply (u : Fin 1) (r : Fin 512) (l : Fin 128) :
    (k0_pay2 k0_pay3 (k0_pay4 x0) (ix3 u r l) : EReal)
      = if l.val % 64 < 8 then -Ideal.sin ((x0 (ix3 0 r 0) : EReal) * RopeSpec.rate (l.val % 64 % 8))
        else if l.val % 64 < 16 then Ideal.sin ((x0 (ix3 0 r 0) : EReal) * RopeSpec.rate (l.val % 64 % 8)) else 0 := by
  obtain rfl : u = 0 := Subsingleton.elim _ _
  unfold k0_pay2
  refine (shapeCast_ab_1ab_apply _ _ 0 r l).trans ?_
  rw [shapeCast_self, shapeCast_self]
  have e : (broadcastTo S512x128 (cmpi .slt k0_pay3 (broadcast S1x128 16#32)) broadcasts_S1x128_S512x128 (ix2 r l))
      = IntOp.cmpi .slt (modW (BitVec.ofNat 32 l.val) 64#32) 16#32 :=
    (broadcastTo_1b_ab_apply _ _ r l).trans (congrArg (fun z => IntOp.cmpi .slt z 16#32) (place_apply l))
  have e' : (broadcastTo S512x128 (cmpi .slt k0_pay3 (broadcast S1x128 8#32)) broadcasts_S1x128_S512x128 (ix2 r l))
      = IntOp.cmpi .slt (modW (BitVec.ofNat 32 l.val) 64#32) 8#32 :=
    (broadcastTo_1b_ab_apply _ _ r l).trans (congrArg (fun z => IntOp.cmpi .slt z 8#32) (place_apply l))
  show (if broadcastTo S512x128 (cmpi .slt k0_pay3 (broadcast S1x128 8#32)) broadcasts_S1x128_S512x128 (ix2 r l) = 1#1
    then Ideal.ofBits .f32 0x00000000#32 - Ideal.sin (k0_pay4 x0 (ix2 r l))
    else if broadcastTo S512x128 (cmpi .slt k0_pay3 (broadcast S1x128 16#32)) broadcasts_S1x128_S512x128 (ix2 r l) = 1#1
    then Ideal.sin (k0_pay4 x0 (ix2 r l)) else Ideal.ofBits .f32 0x00000000#32) = _
  rw [e, e', ang_apply, Moe.Spec.bits_zero, zero_sub]
  by_cases h : l.val % 64 < 8
  · rw [if_pos h, if_pos ((place_word l).1.2 h)]
  · rw [if_neg h, if_neg fun h' => h ((place_word l).1.1 h')]
    by_cases h : l.val % 64 < 16
    · rw [if_pos h, if_pos ((place_word l).2.1.2 h)]
    · rw [if_neg h, if_neg fun h' => h ((place_word l).2.1.1 h')]

theorem zero3 : (![0, 0, 0] : Fin 3 → ℕ) = fun _ => 0 := by
  funext a
  match a with
  | ⟨0, _⟩ => rfl
  | ⟨1, _⟩ => rfl
  | ⟨2, _⟩ => rfl

theorem out1_eq : out0_1 x0 = k0_pay1 k0_pay3 (k0_pay4 x0) := by
  unfold out0_1 k0_pay5 k0_pay6
  rw [View.canon_unit_zero zero3, View.ld_unit_zero zero3 _ x0]

theorem out2_eq : out0_2 x0 = k0_pay2 k0_pay3 (k0_pay4 x0) := by
  unfold out0_2 k0_pay5 k0_pay6
  rw [View.canon_unit_zero zero3, View.ld_unit_zero zero3 _ x0]

end Cert.RopeIdeal.Body

end
-- ==== Proof.RopeRef.lean ====
/-
  The rotary reference read: the angles, their cosines and sines, and the pieces side by side.
-/
module

public import proofs.«01_k».proof.Proof.RopeSpec
public import proofs.«01_k».proof.Proof.Gen.RopeReferenceIdeal.Read
public import Idealize.ShloMosaic.Lib.KernelVsHost
public import Idealize.ShloMosaic.Lib.ValueLayout
public import Idealize.ShloMosaic.Lib.Pipeline.ValueKit

@[expose] public section

set_option maxRecDepth 65536
set_option maxHeartbeats 1000000

noncomputable section

namespace Cert.RopeRef

open Idealize.ShloMosaic hiding ix1 ix2 ix3 ix4
open Idealize.ShloMosaic.ValueIdx Cert.RopeReferenceIdeal Cert.RopeReferenceIdeal.Read

/-- A concatenation's piece along the last of three axes. -/
theorem cat3 {n T : ℕ} (xs : List ((s : Shape) × (s.Idx → EReal)))
    (h : Shape.Concatenates (xs.map (·.1)) ⟨3, ![4, 8192, T]⟩ 2) (b : Fin 4) (t : Fin 8192) (j : Fin T) (k : ℕ) (hk : k < xs.length)
    (x : (⟨3, ![4, 8192, n]⟩ : Shape).Idx → EReal) (hx : xs[k] = ⟨⟨3, ![4, 8192, n]⟩, x⟩) (pre : ℕ)
    (hpre : (((xs.take k).map (·.1)).map fun s => if h : s.rank = 3 then s.size ((2 : Fin 3).cast h.symm) else 0).sum = pre)
    (l : Fin n) (hl : pre + l.val = j.val) :
    concatenate ⟨3, ![4, 8192, T]⟩ 2 xs h (ix3 b t j) = x (ix3 b t l) :=
  concatenate_apply_piece (t := ⟨3, ![4, 8192, T]⟩) 2 xs h (ix3 b t j) k hk ⟨3, ![4, 8192, n]⟩ x hx rfl pre hpre (ix3 b t l)
    (fun a ha => by
      match a with
      | ⟨0, _⟩ => rfl
      | ⟨1, _⟩ => rfl
      | ⟨2, _⟩ => exact absurd rfl ha) hl

/-- Three pieces on 64 lanes. -/
theorem pieces (p q : (⟨3, ![4, 8192, 8]⟩ : Shape).Idx → EReal) (o : (⟨3, ![4, 8192, 48]⟩ : Shape).Idx → EReal)
    (h : Shape.Concatenates [⟨3, ![4, 8192, 8]⟩, ⟨3, ![4, 8192, 8]⟩, ⟨3, ![4, 8192, 48]⟩] ⟨3, ![4, 8192, 64]⟩ 2) (b : Fin 4) (t : Fin 8192)
    (P Q : ℕ → EReal) (O : EReal) (hp : ∀ j : Fin 8, p (ix3 b t j) = P j.val) (hq : ∀ j : Fin 8, q (ix3 b t j) = Q j.val)
    (ho : ∀ j : Fin 48, o (ix3 b t j) = O) (e : Fin 64) :
    concatenate ⟨3, ![4, 8192, 64]⟩ 2 [⟨⟨3, ![4, 8192, 8]⟩, p⟩, ⟨⟨3, ![4, 8192, 8]⟩, q⟩, ⟨⟨3, ![4, 8192, 48]⟩, o⟩] h (ix3 b t e)
      = if e.val < 8 then P (e.val % 8) else if e.val < 16 then Q (e.val % 8) else O := by
  by_cases h8 : e.val < 8
  · rw [if_pos h8, Nat.mod_eq_of_lt h8]
    exact (cat3 [⟨⟨3, ![4, 8192, 8]⟩, p⟩, ⟨⟨3, ![4, 8192, 8]⟩, q⟩, ⟨⟨3, ![4, 8192, 48]⟩, o⟩] h b t e 0 (by show 0 < 3; decide) p rfl 0 rfl ⟨e.val, h8⟩ (by show 0 + e.val = e.val; omega)).trans (hp _)
  · rw [if_neg h8]
    by_cases h16 : e.val < 16
    · rw [if_pos h16, show e.val % 8 = e.val - 8 by omega]
      exact (cat3 [⟨⟨3, ![4, 8192, 8]⟩, p⟩, ⟨⟨3, ![4, 8192, 8]⟩, q⟩, ⟨⟨3, ![4, 8192, 48]⟩, o⟩] h b t e 1 (by show 1 < 3; decide) q rfl 8 rfl ⟨e.val - 8, by omega⟩ (by show 8 + (e.val - 8) = e.val; omega)).trans (hq _)
    · rw [if_neg h16]
      exact (cat3 [⟨⟨3, ![4, 8192, 8]⟩, p⟩, ⟨⟨3, ![4, 8192, 8]⟩, q⟩, ⟨⟨3, ![4, 8192, 48]⟩, o⟩] h b t e 2 (by show 2 < 3; decide) o rfl 16 rfl ⟨e.val - 16, by omega⟩ (by show 16 + (e.val - 16) = e.val; omega)).trans (ho _)

/-- A head's lanes twice. -/
theorem twice (p : (⟨3, ![4, 8192, 64]⟩ : Shape).Idx → EReal)
    (h : Shape.Concatenates [⟨3, ![4, 8192, 64]⟩, ⟨3, ![4, 8192, 64]⟩] ⟨3, ![4, 8192, 128]⟩ 2) (b : Fin 4) (t : Fin 8192)
    (P : ℕ → EReal) (hp : ∀ e : Fin 64, p (ix3 b t e) = P e.val) (l : Fin 128) :
    concatenate ⟨3, ![4, 8192, 128]⟩ 2 [⟨⟨3, ![4, 8192, 64]⟩, p⟩, ⟨⟨3, ![4, 8192, 64]⟩, p⟩] h (ix3 b t l) = P (l.val % 64) := by
  by_cases h64 : l.val < 64
  · rw [Nat.mod_eq_of_lt h64]
    exact (cat3 [⟨⟨3, ![4, 8192, 64]⟩, p⟩, ⟨⟨3, ![4, 8192, 64]⟩, p⟩] h b t l 0 (by show 0 < 2; decide) p rfl 0 rfl ⟨l.val, h64⟩ (by show 0 + l.val = l.val; omega)).trans (hp _)
  · rw [show l.val % 64 = l.val - 64 by omega]
    exact (cat3 [⟨⟨3, ![4, 8192, 64]⟩, p⟩, ⟨⟨3, ![4, 8192, 64]⟩, p⟩] h b t l 1 (by show 1 < 2; decide) p rfl 64 rfl ⟨l.val - 64, by omega⟩ (by show 64 + (l.val - 64) = l.val; omega)).trans (hp _)

theorem word_int : ∀ j : Fin 8, (BitVec.ofNat 32 j.val).toInt = (j.val : ℤ) := by decide

theorem rate_apply (i : S8.Idx) (j : Fin 8) (hj : (i 0).val = j.val) : (val_main_v9 (F := Ideal) i : EReal) = RopeSpec.rate j.val := by
  have e0 : (val_main_v0 (F := Ideal) i : EReal) = (((j.val : ℝ)) : EReal) := by
    show ((((BitVec.ofNat 32 (i 0).val).toInt : ℤ) : ℝ) : EReal) = _
    rw [hj, word_int j, Int.cast_natCast]
  show Ideal.pow (val_main_v8 (F := Ideal) i)
    (Ideal.div (-((val_main_v3 (F := Ideal) i : EReal) + (val_main_v1 (F := Ideal) i : EReal) * (val_main_v0 (F := Ideal) i : EReal))) (val_main_v6 (F := Ideal) i)) = _
  have e1 : (val_main_v1 (F := Ideal) i : EReal) = ((2 : ℝ) : EReal) := (val_main_v1_apply (F := Ideal) i).trans RopeSpec.bits_two
  have e3 : (val_main_v3 (F := Ideal) i : EReal) = 0 := (val_main_v3_apply (F := Ideal) i).trans Moe.Spec.bits_zero
  have e6 : (val_main_v6 (F := Ideal) i : EReal) = ((16 : ℝ) : EReal) := (val_main_v6_apply (F := Ideal) i).trans RopeSpec.bits_rot
  have e8 : (val_main_v8 (F := Ideal) i : EReal) = ((500000 : ℝ) : EReal) := (val_main_v8_apply (F := Ideal) i).trans RopeSpec.bits_base
  rw [e0, e1, e3, e6, e8]
  exact RopeSpec.pow_rate j.val

variable (x0 : S4x8192.Idx → BitVec 32)

theorem ang_apply (b : Fin 4) (t : Fin 8192) (j : Fin 8) :
    (val_main_v15 (F := Ideal) x0 (ix3 b t j) : EReal) = RopeSpec.ang (x0 (ix2 b t)) j.val := by
  refine (val_main_v15_apply (F := Ideal) x0 _).trans (congrArg₂ (fun y z : EReal => y * z) ?_ ?_)
  · refine (val_main_v13_apply (F := Ideal) x0 _).trans ((val_main_v11_apply (F := Ideal) x0 _).trans ((val_main_v10_apply (F := Ideal) x0 _).trans ?_))
    refine congrArg (fun w : BitVec 32 => ((w.toInt : ℝ) : EReal)) (congrArg x0 (funext fun a => Fin.ext ?_))
    match a with
    | ⟨0, _⟩ => rfl
    | ⟨1, _⟩ => rfl
  · exact (val_main_v14_apply (F := Ideal) _).trans ((val_main_v12_apply (F := Ideal) _).trans (rate_apply _ j rfl))

theorem cos_apply (b : Fin 4) (t : Fin 8192) (l : Fin 128) :
    (val_main_v23 (F := Ideal) x0 (ix3 b t l) : EReal) = RopeSpec.cosT (x0 (ix2 b t)) l.val := by
  unfold val_main_v23
  refine (twice (val_main_v19 (F := Ideal) x0) _ b t
    (fun e => if e < 8 then Ideal.cos (RopeSpec.ang (x0 (ix2 b t)) (e % 8)) else if e < 16 then Ideal.cos (RopeSpec.ang (x0 (ix2 b t)) (e % 8)) else 1) (fun e => ?_) l).trans ?_
  · unfold val_main_v19
    exact pieces (val_main_v16 (F := Ideal) x0) (val_main_v16 (F := Ideal) x0) (val_main_v18 (F := Ideal)) _ b t
      (fun j => Ideal.cos (RopeSpec.ang (x0 (ix2 b t)) j)) (fun j => Ideal.cos (RopeSpec.ang (x0 (ix2 b t)) j)) 1
      (fun j => (val_main_v16_apply (F := Ideal) x0 _).trans (congrArg Ideal.cos (ang_apply x0 b t j)))
      (fun j => (val_main_v16_apply (F := Ideal) x0 _).trans (congrArg Ideal.cos (ang_apply x0 b t j)))
      (fun j => (val_main_v18_apply (F := Ideal) _).trans Moe.Spec.bits_one) e
  · unfold RopeSpec.cosT
    show (if l.val % 64 < 8 then _ else _) = _
    by_cases h8 : l.val % 64 < 8
    · rw [if_pos h8, if_pos (show l.val % 64 < 16 by omega)]
    · rw [if_neg h8]

theorem sin_apply (b : Fin 4) (t : Fin 8192) (l : Fin 128) :
    (val_main_v24 (F := Ideal) x0 (ix3 b t l) : EReal) = RopeSpec.sinT (x0 (ix2 b t)) l.val := by
  unfold val_main_v24
  refine (twice (val_main_v22 (F := Ideal) x0) _ b t
    (fun e => if e < 8 then -Ideal.sin (RopeSpec.ang (x0 (ix2 b t)) (e % 8)) else if e < 16 then Ideal.sin (RopeSpec.ang (x0 (ix2 b t)) (e % 8)) else 0) (fun e => ?_) l).trans rfl
  unfold val_main_v22
  exact pieces (val_main_v20 (F := Ideal) x0) (val_main_v17 (F := Ideal) x0) (val_main_v21 (F := Ideal)) _ b t
    (fun j => -Ideal.sin (RopeSpec.ang (x0 (ix2 b t)) j)) (fun j => Ideal.sin (RopeSpec.ang (x0 (ix2 b t)) j)) 0
    (fun j => (val_main_v20_apply (F := Ideal) x0 _).trans (congrArg (fun z : EReal => -z)
      ((val_main_v17_apply (F := Ideal) x0 _).trans (congrArg Ideal.sin (ang_apply x0 b t j)))))
    (fun j => (val_main_v17_apply (F := Ideal) x0 _).trans (congrArg Ideal.sin (ang_apply x0 b t j)))
    (fun j => (val_main_v21_apply (F := Ideal) _).trans Moe.Spec.bits_zero) e

end Cert.RopeRef

end
-- ==== Proof.RopeEqual.lean ====
/-
  The two rotary programs leave the same two tables: the window of positions read off the argument, the body's tables at
  each point, and the reference's element by element.
-/
module

public import proofs.«01_k».proof.Defs
public import proofs.«01_k».proof.Proof.RopeBody
public import proofs.«01_k».proof.Proof.RopeRef
public import proofs.«01_k».proof.Proof.Gen.RopeIdeal.Value
public import proofs.«01_k».proof.Proof.Gen.RopeReferenceIdeal.Run
public import Idealize.ShloMosaic.Lib.Claim

@[expose] public section

set_option maxRecDepth 65536
set_option maxHeartbeats 1000000

noncomputable section

namespace Cert.RopeIdeal.Equal

open Idealize.ShloMosaic hiding ix1 ix2 ix3 ix4 eq_ix3
open Idealize.ShloMosaic.TcCoe Idealize.ShloMosaic.ValueIdx Idealize.SL.Sem

section Kernel

open Cert.RopeIdeal Cert.RopeIdeal.Gen

variable (m : (ℓ : Loc nD τ sig) → Buf (Elt Ideal) ℓ) (c : Dev nD)

/-- The positions. -/
abbrev arg0 : S4x8192.Idx → BitVec 32 := m ((c : Thread nD τ).loc main_arg0)

theorem V_pos (b : Fin 4) (t : Fin 8192) (u : Fin 1) :
    (V m c main_v1 : S4x8192x1.Idx → EReal) (ix3 b t u) = (((arg0 m c (ix2 b t)).toInt : ℝ) : EReal) := by
  unfold V
  simp only [hostOps0, List.flatten_cons, List.flatten_nil, List.append_nil, List.cons_append, List.nil_append]
  entry_read
  refine (shapeCast_apply _ shapeCasts_S4x8192_S4x8192x1 _ (ix2 b t) ?_).trans rfl
  rw [rowMajor_val2 _ 8192 rfl, rowMajor_val3 _ 8192 1 rfl rfl]
  show b.val * 8192 + t.val = b.val * 8192 + t.val * 1 + u.val
  omega

/-- The blocks the windows name at a point. -/
theorem idx : ∀ t : Fin cfg0.N, win0_0.index t = ![t.val / 16, t.val % 16, 0] ∧ win0_1.index t = ![t.val / 16, t.val % 16, 0]
    ∧ win0_2.index t = ![t.val / 16, t.val % 16, 0] := by
  decide +kernel

theorem flushes : ∀ t : Fin cfg0.N, (cfg0.win 1).flush t = true ∧ (cfg0.win 2).flush t = true := by decide +kernel

theorem w0_apply (p : Fin cfg0.N) (u v : Fin 1) (r : Fin 512) (b : Fin 4) (t : Fin 8192) (hb : b.val = p.val / 16)
    (ht : t.val = p.val % 16 * 512 + r.val) :
    (iblk m c 0 p : S1x512x1.Idx → EReal) (ix3 u r v) = (((arg0 m c (ix2 b t)).toInt : ℝ) : EReal) := by
  refine Eq.trans ?_ (V_pos m c b t 0)
  blk_ext [iblk, (idx p).1]
  all_goals first | exact hb.symm | exact ht.symm | rfl

/-- The tables the kernel leaves. -/
abbrev left1 : S4x8192x128.Idx → EReal := (dats m 0 c).arrAt 1 cfg0.N
abbrev left2 : S4x8192x128.Idx → EReal := (dats m 0 c).arrAt 2 cfg0.N

theorem left1_at (p : Fin cfg0.N) (b : Fin 4) (t : Fin 8192) (r : Fin 512) (l : Fin 128) (hb : b.val = p.val / 16)
    (ht : t.val = p.val % 16 * 512 + r.val) :
    left1 m c (ix3 b t l) = (out0_1 (F := Ideal) (iblk m c 0 p) (ix3 0 r l) : EReal) := by
  have h := (RopeIdeal.Value.blocks1 m c p (flushes p).1).trans (RopeIdeal.Value.flushed1 m c p)
  have h' := congrFun h (ix3 (0 : Fin 1) r l : S1x512x128.Idx)
  refine Eq.trans ?_ h'
  have e : ∀ A : S4x8192x128.Idx → EReal, (((cfg0.win 1).blk p).view.read (Elt Ideal) A : S1x512x128.Idx → EReal) (ix3 0 r l) = A (ix3 b t l) := by
    intro A
    blk_ext [(idx p).2.1]
    all_goals first | exact hb.symm | exact ht.symm | rfl
  exact (e _).symm

theorem left2_at (p : Fin cfg0.N) (b : Fin 4) (t : Fin 8192) (r : Fin 512) (l : Fin 128) (hb : b.val = p.val / 16)
    (ht : t.val = p.val % 16 * 512 + r.val) :
    left2 m c (ix3 b t l) = (out0_2 (F := Ideal) (iblk m c 0 p) (ix3 0 r l) : EReal) := by
  have h := (RopeIdeal.Value.blocks2 m c p (flushes p).2).trans (RopeIdeal.Value.flushed2 m c p)
  have h' := congrFun h (ix3 (0 : Fin 1) r l : S1x512x128.Idx)
  refine Eq.trans ?_ h'
  have e : ∀ A : S4x8192x128.Idx → EReal, (((cfg0.win 2).blk p).view.read (Elt Ideal) A : S1x512x128.Idx → EReal) (ix3 0 r l) = A (ix3 b t l) := by
    intro A
    blk_ext [(idx p).2.2]
    all_goals first | exact hb.symm | exact ht.symm | rfl
  exact (e _).symm

/-- The point a token is in, and its row there. -/
theorem point (b : Fin 4) (t : Fin 8192) : ∃ (p : Fin cfg0.N) (r : Fin 512), b.val = p.val / 16 ∧ t.val = p.val % 16 * 512 + r.val := by
  have hN : cfg0.N = 64 := by decide
  refine ⟨⟨b.val * 16 + t.val / 512, by omega⟩, ⟨t.val % 512, by omega⟩, ?_, ?_⟩
  · show b.val = (b.val * 16 + t.val / 512) / 16
    omega
  · show t.val = (b.val * 16 + t.val / 512) % 16 * 512 + t.val % 512
    omega

theorem left1_apply (b : Fin 4) (t : Fin 8192) (l : Fin 128) : left1 m c (ix3 b t l) = RopeSpec.cosT (arg0 m c (ix2 b t)) l.val := by
  obtain ⟨p, r, hb, ht⟩ := point b t
  refine (left1_at m c p b t r l hb ht).trans ?_
  rw [RopeIdeal.Body.out1_eq]
  refine (RopeIdeal.Body.cos_apply (iblk m c 0 p) 0 r l).trans ?_
  rw [show (iblk m c 0 p : S1x512x1.Idx → EReal) (ix3 0 r 0) = _ from w0_apply m c p 0 0 r b t hb ht]
  rfl

theorem left2_apply (b : Fin 4) (t : Fin 8192) (l : Fin 128) : left2 m c (ix3 b t l) = RopeSpec.sinT (arg0 m c (ix2 b t)) l.val := by
  obtain ⟨p, r, hb, ht⟩ := point b t
  refine (left2_at m c p b t r l hb ht).trans ?_
  rw [RopeIdeal.Body.out2_eq]
  refine (RopeIdeal.Body.sin_apply (iblk m c 0 p) 0 r l).trans ?_
  rw [show (iblk m c 0 p : S1x512x1.Idx → EReal) (ix3 0 r 0) = _ from w0_apply m c p 0 0 r b t hb ht]
  rfl

end Kernel

section Results

variable (m : (ℓ : Loc Cert.RopeIdeal.nD Cert.RopeIdeal.τ Cert.RopeIdeal.sig) → Buf (Elt Ideal) ℓ) (c : Dev Cert.RopeIdeal.nD)

theorem result1_eq : (Cert.RopeReferenceIdeal.Read.val_main_v23 (F := Ideal) (arg0 m c) : Cert.RopeReferenceIdeal.S4x8192x128.Idx → EReal)
    = left1 m c := by
  funext i
  obtain ⟨b, t, l, rfl⟩ : ∃ (b : Fin 4) (t : Fin 8192) (l : Fin 128), i = ix3 b t l := ⟨_, _, _, ValueIdx.eq_ix3 i⟩
  exact (RopeRef.cos_apply _ b t l).trans (left1_apply m c b t l).symm

theorem result2_eq : (Cert.RopeReferenceIdeal.Read.val_main_v24 (F := Ideal) (arg0 m c) : Cert.RopeReferenceIdeal.S4x8192x128.Idx → EReal)
    = left2 m c := by
  funext i
  obtain ⟨b, t, l, rfl⟩ : ∃ (b : Fin 4) (t : Fin 8192) (l : Fin 128), i = ix3 b t l := ⟨_, _, _, ValueIdx.eq_ix3 i⟩
  exact (RopeRef.sin_apply _ b t l).trans (left2_apply m c b t l).symm

end Results

theorem equal : Cert.algebraic_RopeIdeal_RopeReferenceIdeal := fun m g m' g' _ hargs => by
  refine ⟨fun c => left1 m c, fun c => left2 m c, RopeIdeal.Value.run_blocks m g, ?_⟩
  refine (θ_run Cert.RopeReferenceIdeal.defs _ _).mono (fun r h c => ⟨?_, ?_, (h c).2.2⟩) (Cert.RopeReferenceIdeal.Value.run (F := Ideal) m' g')
  · refine (h c).1.trans ((Cert.RopeReferenceIdeal.Read.val_main_v23_eq (F := Ideal) _).trans ?_)
    exact (congrArg (Cert.RopeReferenceIdeal.Read.val_main_v23 (F := Ideal)) (hargs c)).trans (result1_eq m c)
  · refine (h c).2.1.trans ((Cert.RopeReferenceIdeal.Read.val_main_v24_eq (F := Ideal) _).trans ?_)
    exact (congrArg (Cert.RopeReferenceIdeal.Read.val_main_v24 (F := Ideal)) (hargs c)).trans (result2_eq m c)

end Cert.RopeIdeal.Equal

end
-- ==== Proof.lean ====
/- The assembly of the claims: the attention call's frame by the run of its body, the mixture-of-experts call's, the merge
   call's, the projection call's, the modulation call's, the rotary tables' and their references' frames from the generated
   runs, the named constant's reading, and the equality of each call's result with its reference's element by element. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeReferenceIdeal
public import proofs.«01_k».proof.Proof.Gen.MoeIdeal.Value
public import proofs.«01_k».proof.Proof.Gen.MoeReferenceIdeal.Run
public import proofs.«01_k».proof.Proof.Gen.MoeReferenceIdeal.Read
public import proofs.«01_k».proof.Proof.DsaFrame
public import proofs.«01_k».proof.Proof.MoeEqual
public import proofs.«01_k».proof.Proof.MergeEqual
public import proofs.«01_k».proof.Proof.ProjEqual
public import proofs.«01_k».proof.Proof.AdalnEqual
public import proofs.«01_k».proof.Proof.RopeEqual
public import Idealize.ShloMosaic.Adequacy
public import Idealize.ShloMosaic.Init
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Adaln
public import proofs.«01_k».proof.Proof.Gen.Adaln.Skeleton
public import proofs.«01_k».proof.Proof.Gen.Adaln.Launch
public import proofs.«01_k».proof.Proof.Gen.Adaln.Points
public import proofs.«01_k».proof.Proof.Gen.Adaln.Frame
public import proofs.«01_k».proof.Proof.Gen.AdalnIdeal
public import proofs.«01_k».proof.Proof.Gen.AdalnIdeal.Skeleton
public import proofs.«01_k».proof.Proof.Gen.AdalnIdeal.Launch
public import proofs.«01_k».proof.Proof.Gen.AdalnIdeal.Points
public import proofs.«01_k».proof.Proof.Gen.AdalnIdeal.Frame
public import proofs.«01_k».proof.Proof.Gen.AdalnIdeal.Value
public import proofs.«01_k».proof.Proof.Gen.AdalnReferenceIdeal
public import proofs.«01_k».proof.Proof.Gen.AdalnReferenceIdeal.Run
public import proofs.«01_k».proof.Proof.Gen.AdalnReferenceIdeal.Read
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeIdeal.Value
public import proofs.«01_k».proof.Proof.Gen.RopeReferenceIdeal
public import proofs.«01_k».proof.Proof.Gen.RopeReferenceIdeal.Run
public import proofs.«01_k».proof.Proof.Gen.RopeReferenceIdeal.Read

@[expose] public section

noncomputable section

namespace Cert.Proof

open Idealize.ShloMosaic Idealize.SL.Sem Cert.Kernel

/-- The frame of the mixture-of-experts reference: its run leaves every argument as launched, and it has no semaphore. -/
theorem moe_reference_frame [Cert.MoeReferenceIdeal.Facts] : Cert.quiescent_MoeReferenceIdeal := fun m ρ _ =>
  (θ_run Cert.MoeReferenceIdeal.defs _ _).mono
    (fun r h => ⟨fun c => (h c).2, sem_eq_zero_of_no_sems (by decide) r.2⟩)
    (Cert.MoeReferenceIdeal.Value.run (F := Ideal) m ρ)

/-- The frame of the merge's reference. -/
theorem merge_reference_frame [Cert.MergeReferenceIdeal.Facts] : Cert.quiescent_MergeReferenceIdeal := fun m ρ _ =>
  (θ_run Cert.MergeReferenceIdeal.defs _ _).mono
    (fun r h => ⟨fun c => (h c).2, sem_eq_zero_of_no_sems (by decide) r.2⟩)
    (Cert.MergeReferenceIdeal.Value.run (F := Ideal) m ρ)

/-- The frame of the projection's reference. -/
theorem proj_reference_frame [Cert.ProjReferenceIdeal.Facts] : Cert.quiescent_ProjReferenceIdeal := fun m ρ _ =>
  (θ_run Cert.ProjReferenceIdeal.defs _ _).mono
    (fun r h => ⟨fun c => (h c).2.2.2.2.2.2.2.2.2.2.2, sem_eq_zero_of_no_sems (by decide) r.2⟩)
    (Cert.ProjReferenceIdeal.Value.run (F := Ideal) m ρ)

/-- The frame of the modulation's reference. -/
theorem adaln_reference_frame [Cert.AdalnReferenceIdeal.Facts] : Cert.quiescent_AdalnReferenceIdeal := fun m ρ _ =>
  (θ_run Cert.AdalnReferenceIdeal.defs _ _).mono
    (fun r h => ⟨fun c => (h c).2, sem_eq_zero_of_no_sems (by decide) r.2⟩)
    (Cert.AdalnReferenceIdeal.Value.run (F := Ideal) m ρ)

/-- The frame of the rotary tables' reference. -/
theorem rope_reference_frame [Cert.RopeReferenceIdeal.Facts] : Cert.quiescent_RopeReferenceIdeal := fun m ρ _ =>
  (θ_run Cert.RopeReferenceIdeal.defs _ _).mono
    (fun r h => ⟨fun c => (h c).2.2, sem_eq_zero_of_no_sems (by decide) r.2⟩)
    (Cert.RopeReferenceIdeal.Value.run (F := Ideal) m ρ)

/-- The rate's name reads, over the extended reals, as the constant it names. -/
theorem rope_preserves : Cert.preserves_Rope_RopeIdeal :=
  IdealRules.named_const.statement Cert.RopeIdeal.κ "rate" .f32 0xBFD1F533#32 (((-(Real.log 500000)) * (1 / 8) : ℝ) : EReal) rfl

theorem claim : Cert.Claim := ⟨Cert.Kernel.Gen.facts, Cert.Moe.Gen.facts, Cert.MoeIdeal.Gen.facts, Cert.MoeReferenceIdeal.Gen.facts,
  Cert.Merge.Gen.facts, Cert.MergeIdeal.Gen.facts, Cert.MergeReferenceIdeal.Gen.facts, Cert.Proj.Gen.facts, Cert.ProjIdeal.Gen.facts,
  Cert.ProjReferenceIdeal.Gen.facts, Cert.Adaln.Gen.facts, Cert.AdalnIdeal.Gen.facts, Cert.AdalnReferenceIdeal.Gen.facts,
  Cert.Rope.Gen.facts, Cert.RopeIdeal.Gen.facts, Cert.RopeReferenceIdeal.Gen.facts,
  Cert.Moe.Pre.facts, Cert.ProjPre.facts, Cert.AdalnPre.facts,
  fun m ρ _ => Cert.Kernel.Dsa.frame m ρ, fun m ρ _ => Cert.Moe.Gen.frame m ρ, fun m ρ _ => Cert.MoeIdeal.Gen.frame m ρ,
  fun m ρ _ => Cert.MoeIdeal.Gen.frame m ρ, moe_reference_frame, fun m ρ _ => moe_reference_frame m ρ trivial,
  fun m ρ _ => Cert.Merge.Gen.frame m ρ, fun m ρ _ => Cert.MergeIdeal.Gen.frame m ρ, merge_reference_frame,
  fun m ρ _ => Cert.Proj.Gen.frame m ρ, fun m ρ _ => Cert.ProjIdeal.Gen.frame m ρ, fun m ρ _ => Cert.ProjIdeal.Gen.frame m ρ,
  proj_reference_frame, fun m ρ _ => proj_reference_frame m ρ trivial,
  fun m ρ _ => Cert.Adaln.Gen.frame m ρ, fun m ρ _ => Cert.AdalnIdeal.Gen.frame m ρ, fun m ρ _ => Cert.AdalnIdeal.Gen.frame m ρ,
  adaln_reference_frame, fun m ρ _ => adaln_reference_frame m ρ trivial,
  fun m ρ _ => Cert.Rope.Gen.frame m ρ, fun m ρ _ => Cert.RopeIdeal.Gen.frame m ρ, rope_reference_frame,
  trivial, Cert.Moe.Equal.equal, trivial, Cert.MergeIdeal.Equal.equal, trivial, Cert.ProjIdeal.Equal.equal, trivial,
  Cert.AdalnIdeal.Equal.equal, rope_preserves, Cert.RopeIdeal.Equal.equal⟩

end Cert.Proof

end
